-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3)
      ∧ r.2.mem ((c.tc : Thread Cert.Kernel37.nD Cert.Kernel37.τ).loc Cert.Kernel37.main_arg4) = m ((c.tc : Thread Cert.Kernel37.nD Cert.Kernel37.τ).loc Cert.Kernel37.main_arg4)
      ∧ r.2.mem ((c.tc : Thread Cert.Kernel37.nD Cert.Kernel37.τ).loc Cert.Kernel37.main_arg5) = m ((c.tc : Thread Cert.Kernel37.nD Cert.Kernel37.τ).loc Cert.Kernel37.main_arg5)
      ∧ r.2.mem ((c.tc : Thread Cert.Kernel37.nD Cert.Kernel37.τ).loc Cert.Kernel37.main_arg6) = m ((c.tc : Thread Cert.Kernel37.nD Cert.Kernel37.τ).loc Cert.Kernel37.main_arg6))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
      ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4)
      ∧ r.2.mem ((c.tc : Thread Cert.Kernel37Ideal.nD Cert.Kernel37Ideal.τ).loc Cert.Kernel37Ideal.main_arg5) = m ((c.tc : Thread Cert.Kernel37Ideal.nD Cert.Kernel37Ideal.τ).loc Cert.Kernel37Ideal.main_arg5)
      ∧ r.2.mem ((c.tc : Thread Cert.Kernel37Ideal.nD Cert.Kernel37Ideal.τ).loc Cert.Kernel37Ideal.main_arg6) = m ((c.tc : Thread Cert.Kernel37Ideal.nD Cert.Kernel37Ideal.τ).loc Cert.Kernel37Ideal.main_arg6))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3)
      ∧ r.2.mem ((c.tc : Thread Cert.Reference37Ideal.nD Cert.Reference37Ideal.τ).loc Cert.Reference37Ideal.main_arg4) = m ((c.tc : Thread Cert.Reference37Ideal.nD Cert.Reference37Ideal.τ).loc Cert.Reference37Ideal.main_arg4)
      ∧ r.2.mem ((c.tc : Thread Cert.Reference37Ideal.nD Cert.Reference37Ideal.τ).loc Cert.Reference37Ideal.main_arg5) = m ((c.tc : Thread Cert.Reference37Ideal.nD Cert.Reference37Ideal.τ).loc Cert.Reference37Ideal.main_arg5)
      ∧ r.2.mem ((c.tc : Thread Cert.Reference37Ideal.nD Cert.Reference37Ideal.τ).loc Cert.Reference37Ideal.main_arg6) = m ((c.tc : Thread Cert.Reference37Ideal.nD Cert.Reference37Ideal.τ).loc Cert.Reference37Ideal.main_arg6))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4)
      ∧ r.2.mem ((c.tc : Thread Cert.Kernel38.nD Cert.Kernel38.τ).loc Cert.Kernel38.main_arg5) = m ((c.tc : Thread Cert.Kernel38.nD Cert.Kernel38.τ).loc Cert.Kernel38.main_arg5)
      ∧ r.2.mem ((c.tc : Thread Cert.Kernel38.nD Cert.Kernel38.τ).loc Cert.Kernel38.main_arg6) = m ((c.tc : Thread Cert.Kernel38.nD Cert.Kernel38.τ).loc Cert.Kernel38.main_arg6))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
      ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5)
      ∧ r.2.mem ((c.tc : Thread Cert.Kernel38Ideal.nD Cert.Kernel38Ideal.τ).loc Cert.Kernel38Ideal.main_arg6) = m ((c.tc : Thread Cert.Kernel38Ideal.nD Cert.Kernel38Ideal.τ).loc Cert.Kernel38Ideal.main_arg6))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4)
      ∧ r.2.mem ((c.tc : Thread Cert.Reference38Ideal.nD Cert.Reference38Ideal.τ).loc Cert.Reference38Ideal.main_arg5) = m ((c.tc : Thread Cert.Reference38Ideal.nD Cert.Reference38Ideal.τ).loc Cert.Reference38Ideal.main_arg5)
      ∧ r.2.mem ((c.tc : Thread Cert.Reference38Ideal.nD Cert.Reference38Ideal.τ).loc Cert.Reference38Ideal.main_arg6) = m ((c.tc : Thread Cert.Reference38Ideal.nD Cert.Reference38Ideal.τ).loc Cert.Reference38Ideal.main_arg6))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)) (v3 : (c : Dev Cert.KernelIdeal.nD) → Buf (Elt Ideal) ((c.tc : Thread Cert.KernelIdeal.nD Cert.KernelIdeal.τ).loc Cert.KernelIdeal.main_v37_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_v37_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v7) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v9) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_v28) = v1 c
          ∧ r.2.mem ((c.tc : Thread Cert.Reference26Ideal.nD Cert.Reference26Ideal.τ).loc Cert.Reference26Ideal.main_v9) = v2 c
          ∧ r.2.mem ((c.tc : Thread Cert.Reference26Ideal.nD Cert.Reference26Ideal.τ).loc Cert.Reference26Ideal.main_v15) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_v28) = v1 c
          ∧ r.2.mem ((c.tc : Thread Cert.Reference27Ideal.nD Cert.Reference27Ideal.τ).loc Cert.Reference27Ideal.main_v9) = v2 c
          ∧ r.2.mem ((c.tc : Thread Cert.Reference27Ideal.nD Cert.Reference27Ideal.τ).loc Cert.Reference27Ideal.main_v15) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v4) = v0 c
          ∧ r.2.mem ((c.tc : Thread Cert.Reference28Ideal.nD Cert.Reference28Ideal.τ).loc Cert.Reference28Ideal.main_v28) = v1 c
          ∧ r.2.mem ((c.tc : Thread Cert.Reference28Ideal.nD Cert.Reference28Ideal.τ).loc Cert.Reference28Ideal.main_v9) = v2 c
          ∧ r.2.mem ((c.tc : Thread Cert.Reference28Ideal.nD Cert.Reference28Ideal.τ).loc Cert.Reference28Ideal.main_v15) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v16) = v0 c
          ∧ r.2.mem ((c.tc : Thread Cert.Reference29Ideal.nD Cert.Reference29Ideal.τ).loc Cert.Reference29Ideal.main_v17) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v7) = v0 c
          ∧ r.2.mem ((c.tc : Thread Cert.Reference30Ideal.nD Cert.Reference30Ideal.τ).loc Cert.Reference30Ideal.main_v5) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0_0) = v0 c
          ∧ r.2.mem ((c.tc : Thread Cert.Reference31Ideal.nD Cert.Reference31Ideal.τ).loc Cert.Reference31Ideal.main_v0_1) = v1 c
          ∧ r.2.mem ((c.tc : Thread Cert.Reference31Ideal.nD Cert.Reference31Ideal.τ).loc Cert.Reference31Ideal.main_v0_2) = v2 c
          ∧ r.2.mem ((c.tc : Thread Cert.Reference31Ideal.nD Cert.Reference31Ideal.τ).loc Cert.Reference31Ideal.main_v0_3) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v2) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v10) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v47) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v39) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)
      ∧ m' ((c.tc : Thread Cert.Reference37Ideal.nD Cert.Reference37Ideal.τ).loc Cert.Reference37Ideal.main_arg4) = m ((c.tc : Thread Cert.Kernel37Ideal.nD Cert.Kernel37Ideal.τ).loc Cert.Kernel37Ideal.main_arg4)
      ∧ m' ((c.tc : Thread Cert.Reference37Ideal.nD Cert.Reference37Ideal.τ).loc Cert.Reference37Ideal.main_arg5) = m ((c.tc : Thread Cert.Kernel37Ideal.nD Cert.Kernel37Ideal.τ).loc Cert.Kernel37Ideal.main_arg5)
      ∧ m' ((c.tc : Thread Cert.Reference37Ideal.nD Cert.Reference37Ideal.τ).loc Cert.Reference37Ideal.main_arg6) = m ((c.tc : Thread Cert.Kernel37Ideal.nD Cert.Kernel37Ideal.τ).loc Cert.Kernel37Ideal.main_arg6)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
          ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4)
          ∧ r.2.mem ((c.tc : Thread Cert.Kernel37Ideal.nD Cert.Kernel37Ideal.τ).loc Cert.Kernel37Ideal.main_arg5) = m ((c.tc : Thread Cert.Kernel37Ideal.nD Cert.Kernel37Ideal.τ).loc Cert.Kernel37Ideal.main_arg5)
          ∧ r.2.mem ((c.tc : Thread Cert.Kernel37Ideal.nD Cert.Kernel37Ideal.τ).loc Cert.Kernel37Ideal.main_arg6) = m ((c.tc : Thread Cert.Kernel37Ideal.nD Cert.Kernel37Ideal.τ).loc Cert.Kernel37Ideal.main_arg6))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v83) = v0 c
          ∧ r.2.mem ((c.tc : Thread Cert.Reference37Ideal.nD Cert.Reference37Ideal.τ).loc Cert.Reference37Ideal.main_v85) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3)
          ∧ r.2.mem ((c.tc : Thread Cert.Reference37Ideal.nD Cert.Reference37Ideal.τ).loc Cert.Reference37Ideal.main_arg4) = m' ((c.tc : Thread Cert.Reference37Ideal.nD Cert.Reference37Ideal.τ).loc Cert.Reference37Ideal.main_arg4)
          ∧ r.2.mem ((c.tc : Thread Cert.Reference37Ideal.nD Cert.Reference37Ideal.τ).loc Cert.Reference37Ideal.main_arg5) = m' ((c.tc : Thread Cert.Reference37Ideal.nD Cert.Reference37Ideal.τ).loc Cert.Reference37Ideal.main_arg5)
          ∧ r.2.mem ((c.tc : Thread Cert.Reference37Ideal.nD Cert.Reference37Ideal.τ).loc Cert.Reference37Ideal.main_arg6) = m' ((c.tc : Thread Cert.Reference37Ideal.nD Cert.Reference37Ideal.τ).loc Cert.Reference37Ideal.main_arg6))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)
      ∧ m' ((c.tc : Thread Cert.Reference38Ideal.nD Cert.Reference38Ideal.τ).loc Cert.Reference38Ideal.main_arg5) = m ((c.tc : Thread Cert.Kernel38Ideal.nD Cert.Kernel38Ideal.τ).loc Cert.Kernel38Ideal.main_arg5)
      ∧ m' ((c.tc : Thread Cert.Reference38Ideal.nD Cert.Reference38Ideal.τ).loc Cert.Reference38Ideal.main_arg6) = m ((c.tc : Thread Cert.Kernel38Ideal.nD Cert.Kernel38Ideal.τ).loc Cert.Kernel38Ideal.main_arg6)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
          ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5)
          ∧ r.2.mem ((c.tc : Thread Cert.Kernel38Ideal.nD Cert.Kernel38Ideal.τ).loc Cert.Kernel38Ideal.main_arg6) = m ((c.tc : Thread Cert.Kernel38Ideal.nD Cert.Kernel38Ideal.τ).loc Cert.Kernel38Ideal.main_arg6))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v36) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4)
          ∧ r.2.mem ((c.tc : Thread Cert.Reference38Ideal.nD Cert.Reference38Ideal.τ).loc Cert.Reference38Ideal.main_arg5) = m' ((c.tc : Thread Cert.Reference38Ideal.nD Cert.Reference38Ideal.τ).loc Cert.Reference38Ideal.main_arg5)
          ∧ r.2.mem ((c.tc : Thread Cert.Reference38Ideal.nD Cert.Reference38Ideal.τ).loc Cert.Reference38Ideal.main_arg6) = m' ((c.tc : Thread Cert.Reference38Ideal.nD Cert.Reference38Ideal.τ).loc Cert.Reference38Ideal.main_arg6))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v21) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v5) = v0 c
          ∧ r.2.mem ((c.tc : Thread Cert.Reference40Ideal.nD Cert.Reference40Ideal.τ).loc Cert.Reference40Ideal.main_v6) = v1 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
-- ==== Pre_finite.lean ====
abbrev S4352x8192 : Shape := ⟨2, ![4352, 8192]⟩
abbrev S4352x1024 : Shape := ⟨2, ![4352, 1024]⟩
abbrev S4352x2048 : Shape := ⟨2, ![4352, 2048]⟩
abbrev S_ : Shape := ⟨0, ![]⟩
abbrev S4352x512 : Shape := ⟨2, ![4352, 512]⟩

class Facts : Prop where
  slices_S4352x8192_S4352x2048_0_4096 : S4352x8192.Slices ![0, 4096] S4352x2048
  bitsLt_bf16_f32 : FTy.bits .bf16 < FTy.bits .f32
  bcast_S_S4352x2048 : S_.BroadcastsInDim S4352x2048 (![] : Fin 0 → Fin S4352x2048.rank)
  reducesTo_S4352x2048_S_d0_1 : S4352x2048.ReducesTo [0, 1] S_
  h_S_ : 0 < S_.numel
  slices_S4352x1024_S4352x512_0_0 : S4352x1024.Slices ![0, 0] S4352x512
  bcast_S_S4352x512 : S_.BroadcastsInDim S4352x512 (![] : Fin 0 → Fin S4352x512.rank)
  reducesTo_S4352x512_S_d0_1 : S4352x512.ReducesTo [0, 1] S_
  bcast_S_S4352x1024 : S_.BroadcastsInDim S4352x1024 (![] : Fin 0 → Fin S4352x1024.rank)
  reducesTo_S4352x1024_S_d0_1 : S4352x1024.ReducesTo [0, 1] S_

variable [Facts]

def fn {F : FTy → Type} [FloatOps F] (main_arg0 : FVec F S4352x8192 .bf16) (main_arg1 : FVec F S4352x1024 .f32) (main_arg2 : FVec F S4352x1024 .bf16) : IVec S_ 1 :=
  let main_v0 : FVec F S4352x2048 .bf16 := (extractStridedSlice S4352x2048 ![0, 4096] · slices_S4352x8192_S4352x2048_0_4096) main_arg0
  let main_v1 : FVec F S4352x2048 .f32 := (extf .f32 · bitsLt_bf16_f32) main_v0
  let main_v2 : FVec F S4352x2048 .f32 := Host.absf main_v1
  let main_cst : FVec F S_ .f32 := constant S_ .f32 0x7F800000#32
  let main_v3 : FVec F S4352x2048 .f32 := broadcastInDim S4352x2048 ![] bcast_S_S4352x2048 main_cst
  let main_v4 : IVec S4352x2048 1 := cmpf .olt main_v2 main_v3
  let main_c : IVec S_ 1 := constantI S_ 1 1#1
  let main_v5 : IVec S_ 1 := (fun x v => Host.reduce IntOp.andi x v reducesTo_S4352x2048_S_d0_1 h_S_) main_v4 main_c
  let main_v6 : FVec F S4352x512 .f32 := (extractStridedSlice S4352x512 ![0, 0] · slices_S4352x1024_S4352x512_0_0) main_arg1
  let main_v7 : FVec F S4352x512 .f32 := Host.absf main_v6
  let main_cst_0 : FVec F S_ .f32 := constant S_ .f32 0x7F800000#32
  let main_v8 : FVec F S4352x512 .f32 := broadcastInDim S4352x512 ![] bcast_S_S4352x512 main_cst_0
  let main_v9 : IVec S4352x512 1 := cmpf .olt main_v7 main_v8
  let main_c_1 : IVec S_ 1 := constantI S_ 1 1#1
  let main_v10 : IVec S_ 1 := (fun x v => Host.reduce IntOp.andi x v reducesTo_S4352x512_S_d0_1 h_S_) main_v9 main_c_1
  let main_v11 : IVec S_ 1 := andi main_v5 main_v10
  let main_v12 : FVec F S4352x1024 .f32 := (extf .f32 · bitsLt_bf16_f32) main_arg2
  let main_v13 : FVec F S4352x1024 .f32 := Host.absf main_v12
  let main_cst_2 : FVec F S_ .f32 := constant S_ .f32 0x7F800000#32
  let main_v14 : FVec F S4352x1024 .f32 := broadcastInDim S4352x1024 ![] bcast_S_S4352x1024 main_cst_2
  let main_v15 : IVec S4352x1024 1 := cmpf .olt main_v13 main_v14
  let main_c_3 : IVec S_ 1 := constantI S_ 1 1#1
  let main_v16 : IVec S_ 1 := (fun x v => Host.reduce IntOp.andi x v reducesTo_S4352x1024_S_d0_1 h_S_) main_v15 main_c_3
  let main_v17 : IVec S_ 1 := andi main_v11 main_v16
  main_v17
-- ==== Kernel.lean ====
abbrev S4352x8192 : Shape := ⟨2, ![4352, 8192]⟩
abbrev S4352x1024 : Shape := ⟨2, ![4352, 1024]⟩
abbrev S4352x512 : Shape := ⟨2, ![4352, 512]⟩
abbrev S68x64x4x128 : Shape := ⟨4, ![68, 64, 4, 128]⟩
abbrev S_ : Shape := ⟨0, ![]⟩
abbrev S68x64x4x256 : Shape := ⟨4, ![68, 64, 4, 256]⟩
abbrev S68x1x4x128 : Shape := ⟨4, ![68, 1, 4, 128]⟩
abbrev S68x4x128 : Shape := ⟨3, ![68, 4, 128]⟩
abbrev S68x4x128x256 : Shape := ⟨4, ![68, 4, 128, 256]⟩
abbrev S68x68 : Shape := ⟨2, ![68, 68]⟩
abbrev S68x68x1x1 : Shape := ⟨4, ![68, 68, 1, 1]⟩
abbrev S1x68x4x128 : Shape := ⟨4, ![1, 68, 4, 128]⟩
abbrev S68x68x4x128 : Shape := ⟨4, ![68, 68, 4, 128]⟩
abbrev S4x128x256x68 : Shape := ⟨4, ![4, 128, 256, 68]⟩
abbrev S68x4x256x128 : Shape := ⟨4, ![68, 4, 256, 128]⟩
abbrev S256x512 : Shape := ⟨2, ![256, 512]⟩
abbrev S256x1024 : Shape := ⟨2, ![256, 1024]⟩
abbrev S4x4x256x128 : Shape := ⟨4, ![4, 4, 256, 128]⟩
abbrev S4x256x128 : Shape := ⟨3, ![4, 256, 128]⟩
abbrev S64x64 : Shape := ⟨2, ![64, 64]⟩
abbrev S64x128 : Shape := ⟨2, ![64, 128]⟩
abbrev S64x256 : Shape := ⟨2, ![64, 256]⟩
abbrev S128 : Shape := ⟨1, ![128]⟩
abbrev S1x128 : Shape := ⟨2, ![1, 128]⟩
abbrev S1x1x256x128 : Shape := ⟨4, ![1, 1, 256, 128]⟩
abbrev S256x128 : Shape := ⟨2, ![256, 128]⟩
abbrev S1x256x128 : Shape := ⟨3, ![1, 256, 128]⟩

abbrev nBuf : Space → Nat
  | .hbm => 62
  | .vmem => 21
  | .smem => 0
  | _ => 0

abbrev bufTy : (tb : Table) → Fin (tcTables nBuf tb) → BufTy
  | .hbm, ⟨0, _⟩ => ⟨S4352x8192, .bf16⟩
  | .hbm, ⟨1, _⟩ => ⟨S4352x1024, .f32⟩
  | .hbm, ⟨2, _⟩ => ⟨S4352x1024, .bf16⟩
  | .hbm, ⟨3, _⟩ => ⟨S4352x512, .bf16⟩
  | .hbm, ⟨4, _⟩ => ⟨S4352x512, .f32⟩
  | .hbm, ⟨5, _⟩ => ⟨S4352x512, .bf16⟩
  | .hbm, ⟨6, _⟩ => ⟨S4352x512, .f32⟩
  | .hbm, ⟨7, _⟩ => ⟨S4352x1024, .bf16⟩
  | .hbm, ⟨8, _⟩ => ⟨S4352x1024, .f32⟩
  | .hbm, ⟨9, _⟩ => ⟨S4352x512, .f32⟩
  | .hbm, ⟨10, _⟩ => ⟨S68x64x4x128, .f32⟩
  | .hbm, ⟨11, _⟩ => ⟨S_, .f32⟩
  | .hbm, ⟨12, _⟩ => ⟨S68x64x4x128, .f32⟩
  | .hbm, ⟨13, _⟩ => ⟨S68x64x4x128, .f32⟩
  | .hbm, ⟨14, _⟩ => ⟨S68x64x4x128, .f32⟩
  | .hbm, ⟨15, _⟩ => ⟨S68x64x4x256, .f32⟩
  | .hbm, ⟨16, _⟩ => ⟨S68x64x4x128, .f32⟩
  | .hbm, ⟨17, _⟩ => ⟨S_, .f32⟩
  | .hbm, ⟨18, _⟩ => ⟨S_, .f32⟩
  | .hbm, ⟨19, _⟩ => ⟨S68x64x4x128, .f32⟩
  | .hbm, ⟨20, _⟩ => ⟨S68x1x4x128, .f32⟩
  | .hbm, ⟨21, _⟩ => ⟨S68x4x128, .f32⟩
  | .hbm, ⟨22, _⟩ => ⟨S68x1x4x128, .f32⟩
  | .hbm, ⟨23, _⟩ => ⟨S68x64x4x128, .f32⟩
  | .hbm, ⟨24, _⟩ => ⟨S68x64x4x128, .f32⟩
  | .hbm, ⟨25, _⟩ => ⟨S68x64x4x128, .f32⟩
  | .hbm, ⟨26, _⟩ => ⟨S68x64x4x128, .f32⟩
  | .hbm, ⟨27, _⟩ => ⟨S68x4x128x256, .f32⟩
  | .hbm, ⟨28, _⟩ => ⟨S_, .f32⟩
  | .hbm, ⟨29, _⟩ => ⟨S_, .f32⟩
  | .hbm, ⟨30, _⟩ => ⟨S68x4x128, .f32⟩
  | .hbm, ⟨31, _⟩ => ⟨S68x4x128, .f32⟩
  | .hbm, ⟨32, _⟩ => ⟨S_, .i1⟩
  | .hbm, ⟨33, _⟩ => ⟨S68x68, .i1⟩
  | .hbm, ⟨34, _⟩ => ⟨S68x68, .i32⟩
  | .hbm, ⟨35, _⟩ => ⟨S_, .i32⟩
  | .hbm, ⟨36, _⟩ => ⟨S68x68, .i32⟩
  | .hbm, ⟨37, _⟩ => ⟨S68x68, .i32⟩
  | .hbm, ⟨38, _⟩ => ⟨S68x68, .i32⟩
  | .hbm, ⟨39, _⟩ => ⟨S68x68, .i1⟩
  | .hbm, ⟨40, _⟩ => ⟨S_, .i1⟩
  | .hbm, ⟨41, _⟩ => ⟨S68x68, .i1⟩
  | .hbm, ⟨42, _⟩ => ⟨S68x68, .i1⟩
  | .hbm, ⟨43, _⟩ => ⟨S68x68x1x1, .i1⟩
  | .hbm, ⟨44, _⟩ => ⟨S68x1x4x128, .f32⟩
  | .hbm, ⟨45, _⟩ => ⟨S1x68x4x128, .f32⟩
  | .hbm, ⟨46, _⟩ => ⟨S68x68x4x128, .f32⟩
  | .hbm, ⟨47, _⟩ => ⟨S68x68x4x128, .f32⟩
  | .hbm, ⟨48, _⟩ => ⟨S68x68x4x128, .f32⟩
  | .hbm, ⟨49, _⟩ => ⟨S_, .f32⟩
  | .hbm, ⟨50, _⟩ => ⟨S_, .f32⟩
  | .hbm, ⟨51, _⟩ => ⟨S68x68x4x128, .i1⟩
  | .hbm, ⟨52, _⟩ => ⟨S68x68x4x128, .f32⟩
  | .hbm, ⟨53, _⟩ => ⟨S68x68x4x128, .f32⟩
  | .hbm, ⟨54, _⟩ => ⟨S68x68x4x128, .f32⟩
  | .hbm, ⟨55, _⟩ => ⟨S4x128x256x68, .f32⟩
  | .hbm, ⟨56, _⟩ => ⟨S68x4x128x256, .f32⟩
  | .hbm, ⟨57, _⟩ => ⟨S68x4x256x128, .f32⟩
  | .hbm, ⟨58, _⟩ => ⟨S4352x512, .f32⟩
  | .hbm, ⟨59, _⟩ => ⟨S4352x512, .f32⟩
  | .hbm, ⟨60, _⟩ => ⟨S4352x1024, .f32⟩
  | .hbm, ⟨61, _⟩ => ⟨S4352x512, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x512, .f32⟩
  | .local _ .vmem, ⟨7, _⟩ => ⟨S256x512, .f32⟩
  | .local _ .vmem, ⟨8, _⟩ => ⟨S256x1024, .bf16⟩
  | .local _ .vmem, ⟨9, _⟩ => ⟨S256x1024, .bf16⟩
  | .local _ .vmem, ⟨10, _⟩ => ⟨S4x4x256x128, .f32⟩
  | .local _ .vmem, ⟨11, _⟩ => ⟨S4x4x256x128, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x1024, .f32⟩
  | .local _ .vmem, ⟨17, _⟩ => ⟨S256x1024, .f32⟩
  | .local _ .vmem, ⟨18, _⟩ => ⟨S256x512, .f32⟩
  | .local _ .vmem, ⟨19, _⟩ => ⟨S256x512, .f32⟩
  | .local _ .vmem, ⟨20, _⟩ => ⟨S4x256x128, .f32⟩
  | _, _ => ⟨S4352x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_call0_cst : Ref sig .tc := ⟨.hbm, 17, rfl⟩
abbrev main_call0_call0_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call1_call0_cst : Ref sig .tc := ⟨.hbm, 28, rfl⟩
abbrev main_call1_call0_v0 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_call2_v0 : Ref sig .tc := ⟨.hbm, 34, rfl⟩
abbrev main_call2_c : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_c_0 : Ref sig .tc := ⟨.hbm, 40, rfl⟩
abbrev main_call2_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_0 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev main_v37_3 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c16_i32 : BitVec 32 := 16#32
  let v0 : BitVec 32 := Scalar.subi c16_i32 arg0
  let c10_i32 : BitVec 32 := 10#32
  let c0_i32 : BitVec 32 := 0#32
  ![v0.toNat, c10_i32.toNat]

def cc0_transform_1 (i : grid0.Coords) : Fin 2 → Nat :=
  let arg0 : BitVec 32 := BitVec.ofNat 32 (i 0).val
  let c16_i32 : BitVec 32 := 16#32
  let v0 : BitVec 32 := Scalar.subi c16_i32 arg0
  let c11_i32 : BitVec 32 := 11#32
  let c0_i32 : BitVec 32 := 0#32
  ![v0.toNat, c11_i32.toNat]

def cc0_transform_2 (i : grid0.Coords) : Fin 2 → Nat :=
  let arg0 : BitVec 32 := BitVec.ofNat 32 (i 0).val
  let c16_i32 : BitVec 32 := 16#32
  let v0 : BitVec 32 := Scalar.subi c16_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4352x8192 : Shape := ⟨2, ![4352, 8192]⟩
abbrev S4352x1024 : Shape := ⟨2, ![4352, 1024]⟩
abbrev S4352x512 : Shape := ⟨2, ![4352, 512]⟩
abbrev S68x64x4x128 : Shape := ⟨4, ![68, 64, 4, 128]⟩
abbrev S_ : Shape := ⟨0, ![]⟩
abbrev S68x64x4x256 : Shape := ⟨4, ![68, 64, 4, 256]⟩
abbrev S64x64 : Shape := ⟨2, ![64, 64]⟩
abbrev S68x4x64x64 : Shape := ⟨4, ![68, 4, 64, 64]⟩
abbrev S68x4x256x64 : Shape := ⟨4, ![68, 4, 256, 64]⟩
abbrev S68x1x4x128 : Shape := ⟨4, ![68, 1, 4, 128]⟩
abbrev S68x4x128 : Shape := ⟨3, ![68, 4, 128]⟩
abbrev S68x4x128x256 : Shape := ⟨4, ![68, 4, 128, 256]⟩
abbrev S68x68 : Shape := ⟨2, ![68, 68]⟩
abbrev S68x68x1x1 : Shape := ⟨4, ![68, 68, 1, 1]⟩
abbrev S1x68x4x128 : Shape := ⟨4, ![1, 68, 4, 128]⟩
abbrev S68x68x4x128 : Shape := ⟨4, ![68, 68, 4, 128]⟩
abbrev S4x128x256x68 : Shape := ⟨4, ![4, 128, 256, 68]⟩
abbrev S68x4x64x128 : Shape := ⟨4, ![68, 4, 64, 128]⟩
abbrev S68x4x256x128 : Shape := ⟨4, ![68, 4, 256, 128]⟩
abbrev S4x128x68x68 : Shape := ⟨4, ![4, 128, 68, 68]⟩
abbrev S68x4x128x64 : Shape := ⟨4, ![68, 4, 128, 64]⟩

abbrev nBuf : Space → Nat
  | .hbm => 173
  | .vmem => 0
  | .smem => 0
  | _ => 0

abbrev hbmTy0_0 (i : Nat) : BufTy := match i % 128 with
  | 0 => ⟨S4352x8192, .bf16⟩
  | 1 => ⟨S4352x1024, .f32⟩
  | 2 => ⟨S4352x1024, .bf16⟩
  | 3 => ⟨S4352x512, .bf16⟩
  | 4 => ⟨S4352x512, .f32⟩
  | 5 => ⟨S4352x512, .bf16⟩
  | 6 => ⟨S4352x512, .f32⟩
  | 7 => ⟨S4352x1024, .bf16⟩
  | 8 => ⟨S4352x1024, .f32⟩
  | 9 => ⟨S4352x512, .f32⟩
  | 10 => ⟨S68x64x4x128, .f32⟩
  | 11 => ⟨S_, .f32⟩
  | 12 => ⟨S68x64x4x128, .f32⟩
  | 13 => ⟨S68x64x4x128, .f32⟩
  | 14 => ⟨S68x64x4x128, .f32⟩
  | 15 => ⟨S68x64x4x256, .f32⟩
  | 16 => ⟨S68x64x4x128, .f32⟩
  | 17 => ⟨S_, .f32⟩
  | 18 => ⟨S_, .f32⟩
  | 19 => ⟨S68x64x4x128, .f32⟩
  | 20 => ⟨S68x64x4x128, .f32⟩
  | 21 => ⟨S68x64x4x128, .f32⟩
  | 22 => ⟨S68x64x4x128, .f32⟩
  | 23 => ⟨S68x64x4x128, .f32⟩
  | 24 => ⟨S68x64x4x128, .f32⟩
  | 25 => ⟨S_, .i1⟩
  | 26 => ⟨S64x64, .i1⟩
  | 27 => ⟨S64x64, .i32⟩
  | 28 => ⟨S_, .i32⟩
  | 29 => ⟨S64x64, .i32⟩
  | 30 => ⟨S64x64, .i32⟩
  | 31 => ⟨S64x64, .i32⟩
  | 32 => ⟨S64x64, .i1⟩
  | 33 => ⟨S_, .i1⟩
  | 34 => ⟨S64x64, .i1⟩
  | 35 => ⟨S64x64, .i1⟩
  | 36 => ⟨S68x4x64x64, .f32⟩
  | 37 => ⟨S_, .f32⟩
  | 38 => ⟨S_, .f32⟩
  | 39 => ⟨S68x4x64x64, .i1⟩
  | 40 => ⟨S68x4x64x64, .f32⟩
  | 41 => ⟨S68x4x64x64, .f32⟩
  | 42 => ⟨S_, .f32⟩
  | 43 => ⟨S68x4x64x64, .f32⟩
  | 44 => ⟨S68x4x256x64, .f32⟩
  | 45 => ⟨S68x64x4x256, .f32⟩
  | 46 => ⟨S68x1x4x128, .f32⟩
  | 47 => ⟨S68x4x128, .f32⟩
  | 48 => ⟨S68x1x4x128, .f32⟩
  | 49 => ⟨S68x64x4x128, .f32⟩
  | 50 => ⟨S68x64x4x128, .f32⟩
  | 51 => ⟨S68x64x4x128, .f32⟩
  | 52 => ⟨S68x64x4x128, .f32⟩
  | 53 => ⟨S68x4x128x256, .f32⟩
  | 54 => ⟨S_, .f32⟩
  | 55 => ⟨S_, .f32⟩
  | 56 => ⟨S68x4x128, .f32⟩
  | 57 => ⟨S68x4x128, .f32⟩
  | 58 => ⟨S_, .i1⟩
  | 59 => ⟨S68x68, .i1⟩
  | 60 => ⟨S68x68, .i32⟩
  | 61 => ⟨S_, .i32⟩
  | 62 => ⟨S68x68, .i32⟩
  | 63 => ⟨S68x68, .i32⟩
  | 64 => ⟨S68x68, .i32⟩
  | 65 => ⟨S68x68, .i1⟩
  | 66 => ⟨S_, .i1⟩
  | 67 => ⟨S68x68, .i1⟩
  | 68 => ⟨S68x68, .i1⟩
  | 69 => ⟨S68x68x1x1, .i1⟩
  | 70 => ⟨S68x1x4x128, .f32⟩
  | 71 => ⟨S1x68x4x128, .f32⟩
  | 72 => ⟨S68x68x4x128, .f32⟩
  | 73 => ⟨S68x68x4x128, .f32⟩
  | 74 => ⟨S68x68x4x128, .f32⟩
  | 75 => ⟨S_, .f32⟩
  | 76 => ⟨S_, .f32⟩
  | 77 => ⟨S68x68x4x128, .i1⟩
  | 78 => ⟨S68x68x4x128, .f32⟩
  | 79 => ⟨S68x68x4x128, .f32⟩
  | 80 => ⟨S_, .f32⟩
  | 81 => ⟨S68x68x4x128, .f32⟩
  | 82 => ⟨S68x68x4x128, .f32⟩
  | 83 => ⟨S4x128x256x68, .f32⟩
  | 84 => ⟨S68x4x128x256, .f32⟩
  | 85 => ⟨S68x4x256x64, .f32⟩
  | 86 => ⟨S68x64x4x256, .f32⟩
  | 87 => ⟨S68x64x4x256, .f32⟩
  | 88 => ⟨S4352x1024, .f32⟩
  | 89 => ⟨S4352x1024, .f32⟩
  | 90 => ⟨S68x64x4x256, .f32⟩
  | 91 => ⟨S68x4x256x64, .f32⟩
  | 92 => ⟨S68x4x64x128, .f32⟩
  | 93 => ⟨S68x64x4x128, .f32⟩
  | 94 => ⟨S68x4x256x128, .f32⟩
  | 95 => ⟨S68x4x128x256, .f32⟩
  | 96 => ⟨S4x128x256x68, .f32⟩
  | 97 => ⟨S4x128x68x68, .f32⟩
  | 98 => ⟨S68x68x4x128, .f32⟩
  | 99 => ⟨S4x128x256x68, .f32⟩
  | 100 => ⟨S68x4x128x256, .f32⟩
  | 101 => ⟨S68x68x4x128, .f32⟩
  | 102 => ⟨S_, .f32⟩
  | 103 => ⟨S68x68x4x128, .f32⟩
  | 104 => ⟨S68x68x4x128, .f32⟩
  | 105 => ⟨S_, .f32⟩
  | 106 => ⟨S68x4x128, .f32⟩
  | 107 => ⟨S68x1x4x128, .f32⟩
  | 108 => ⟨S68x68x4x128, .f32⟩
  | 109 => ⟨S_, .f32⟩
  | 110 => ⟨S68x4x128, .f32⟩
  | 111 => ⟨S1x68x4x128, .f32⟩
  | 112 => ⟨S_, .f32⟩
  | 113 => ⟨S68x4x128, .f32⟩
  | 114 => ⟨S_, .f32⟩
  | 115 => ⟨S68x4x128, .f32⟩
  | 116 => ⟨S68x4x128, .f32⟩
  | 117 => ⟨S68x4x128, .f32⟩
  | 118 => ⟨S_, .f32⟩
  | 119 => ⟨S_, .f32⟩
  | 120 => ⟨S68x4x128, .f32⟩
  | 121 => ⟨S68x4x128, .f32⟩
  | 122 => ⟨S68x4x256x64, .f32⟩
  | 123 => ⟨S68x64x4x256, .f32⟩
  | 124 => ⟨S68x4x128x64, .f32⟩
  | 125 => ⟨S68x64x4x128, .f32⟩
  | 126 => ⟨S68x64x4x128, .f32⟩
  | 127 => ⟨S68x64x4x128, .f32⟩
  | _ => ⟨S4352x8192, .bf16⟩

abbrev hbmTy0_1 (i : Nat) : BufTy := match i % 128 with
  | 0 => ⟨S68x64x4x128, .f32⟩
  | 1 => ⟨S_, .f32⟩
  | 2 => ⟨S68x4x128, .f32⟩
  | 3 => ⟨S68x1x4x128, .f32⟩
  | 4 => ⟨S68x64x4x128, .f32⟩
  | 5 => ⟨S_, .f32⟩
  | 6 => ⟨S68x4x128, .f32⟩
  | 7 => ⟨S68x4x128, .f32⟩
  | 8 => ⟨S68x1x4x128, .f32⟩
  | 9 => ⟨S_, .f32⟩
  | 10 => ⟨S68x64x4x128, .f32⟩
  | 11 => ⟨S68x64x4x128, .f32⟩
  | 12 => ⟨S68x4x256x64, .f32⟩
  | 13 => ⟨S68x4x64x64, .f32⟩
  | 14 => ⟨S68x4x256x64, .f32⟩
  | 15 => ⟨S68x64x4x256, .f32⟩
  | 16 => ⟨S68x64x4x256, .f32⟩
  | 17 => ⟨S_, .f32⟩
  | 18 => ⟨S68x4x64x64, .f32⟩
  | 19 => ⟨S68x4x64x64, .f32⟩
  | 20 => ⟨S68x4x64x128, .f32⟩
  | 21 => ⟨S68x64x4x128, .f32⟩
  | 22 => ⟨S68x4x64x128, .f32⟩
  | 23 => ⟨S68x64x4x128, .f32⟩
  | 24 => ⟨S68x64x4x128, .f32⟩
  | 25 => ⟨S68x64x4x128, .f32⟩
  | 26 => ⟨S68x64x4x128, .f32⟩
  | 27 => ⟨S68x64x4x128, .f32⟩
  | 28 => ⟨S68x64x4x128, .f32⟩
  | 29 => ⟨S68x64x4x128, .f32⟩
  | 30 => ⟨S68x64x4x128, .f32⟩
  | 31 => ⟨S68x64x4x128, .f32⟩
  | 32 => ⟨S68x64x4x128, .f32⟩
  | 33 => ⟨S68x64x4x128, .f32⟩
  | 34 => ⟨S68x64x4x128, .f32⟩
  | 35 => ⟨S_, .f32⟩
  | 36 => ⟨S_, .f32⟩
  | 37 => ⟨S68x64x4x128, .f32⟩
  | 38 => ⟨S4352x512, .f32⟩
  | 39 => ⟨S4352x1024, .f32⟩
  | 40 => ⟨S4352x512, .f32⟩
  | 41 => ⟨S_, .f32⟩
  | 42 => ⟨S68x64x4x128, .f32⟩
  | 43 => ⟨S68x64x4x128, .f32⟩
  | 44 => ⟨S4352x512, .f32⟩
  | _ => ⟨S4352x8192, .bf16⟩

abbrev hbmTy (i : Nat) : BufTy := match i / 128 with
  | 0 => hbmTy0_0 i
  | 1 => hbmTy0_1 i
  | _ => ⟨S4352x8192, .bf16⟩

abbrev bufTy : (tb : Table) → Fin (tcTables nBuf tb) → BufTy
  | .hbm, ⟨i, _⟩ => hbmTy i
  | _, _ => ⟨S4352x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_call0_cst : Ref sig .tc := ⟨.hbm, 17, rfl⟩
abbrev main_call0_call0_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_0 : Ref sig .tc := ⟨.hbm, 33, rfl⟩
abbrev main_call1_v5 : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_call2_v0 : Ref sig .tc := ⟨.hbm, 38, rfl⟩
abbrev main_v22_1 : Ref sig .tc := ⟨.hbm, 39, rfl⟩
abbrev main_call2_v2 : Ref sig .tc := ⟨.hbm, 40, rfl⟩
abbrev main_v22_0 : Ref sig .tc := ⟨.hbm, 41, rfl⟩
abbrev main_call2_cst : Ref sig .tc := ⟨.hbm, 42, rfl⟩
abbrev main_v22_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call3_call0_cst : Ref sig .tc := ⟨.hbm, 54, rfl⟩
abbrev main_call3_call0_v0 : Ref sig .tc := ⟨.hbm, 55, rfl⟩
abbrev main_v33 : Ref sig .tc := ⟨.hbm, 56, rfl⟩
abbrev main_v34 : Ref sig .tc := ⟨.hbm, 57, rfl⟩
abbrev main_c_1 : Ref sig .tc := ⟨.hbm, 58, rfl⟩
abbrev main_v35 : Ref sig .tc := ⟨.hbm, 59, rfl⟩
abbrev main_call4_v0 : Ref sig .tc := ⟨.hbm, 60, rfl⟩
abbrev main_call4_c : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_c_0 : Ref sig .tc := ⟨.hbm, 66, rfl⟩
abbrev main_call4_v5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_2 : Ref sig .tc := ⟨.hbm, 75, rfl⟩
abbrev main_call5_v0 : Ref sig .tc := ⟨.hbm, 76, rfl⟩
abbrev main_v43_1 : Ref sig .tc := ⟨.hbm, 77, rfl⟩
abbrev main_call5_v2 : Ref sig .tc := ⟨.hbm, 78, rfl⟩
abbrev main_v43_0 : Ref sig .tc := ⟨.hbm, 79, rfl⟩
abbrev main_call5_cst : Ref sig .tc := ⟨.hbm, 80, rfl⟩
abbrev main_v43_2 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_call6_cst : Ref sig .tc := ⟨.hbm, 102, rfl⟩
abbrev main_call6_v0 : Ref sig .tc := ⟨.hbm, 103, rfl⟩
abbrev main_v64 : Ref sig .tc := ⟨.hbm, 104, rfl⟩
abbrev main_cst_3 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_4 : Ref sig .tc := ⟨.hbm, 109, rfl⟩
abbrev main_v68 : Ref sig .tc := ⟨.hbm, 110, rfl⟩
abbrev main_v69 : Ref sig .tc := ⟨.hbm, 111, rfl⟩
abbrev main_cst_5 : Ref sig .tc := ⟨.hbm, 112, rfl⟩
abbrev main_v70 : Ref sig .tc := ⟨.hbm, 113, rfl⟩
abbrev main_cst_6 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_call7_call0_cst : Ref sig .tc := ⟨.hbm, 118, rfl⟩
abbrev main_call7_call0_v0 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_7 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_8 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_9 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_call8_cst : Ref sig .tc := ⟨.hbm, 145, rfl⟩
abbrev main_call8_v0 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_call9_call0_cst : Ref sig .tc := ⟨.hbm, 163, rfl⟩
abbrev main_call9_call0_v0 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_10 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩

abbrev nD : Nat := 1
abbrev τ : Topo := Topo.v7x

variable {F : FTy → Type} [FloatOps F]
-- ==== Kernel2.lean ====
abbrev S4352x1024 : Shape := ⟨2, ![4352, 1024]⟩
abbrev S1024x4096 : Shape := ⟨2, ![1024, 4096]⟩
abbrev S4096x1024 : Shape := ⟨2, ![4096, 1024]⟩
abbrev S4352x4096 : Shape := ⟨2, ![4352, 4096]⟩
abbrev S_ : Shape := ⟨0, ![]⟩
abbrev S1088x1024 : Shape := ⟨2, ![1088, 1024]⟩
abbrev S1024x1024 : Shape := ⟨2, ![1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S1024x4096, .bf16⟩
  | .hbm, ⟨2, _⟩ => ⟨S4096x1024, .bf16⟩
  | .hbm, ⟨3, _⟩ => ⟨S4352x1024, .bf16⟩
  | .hbm, ⟨4, _⟩ => ⟨S4352x1024, .f32⟩
  | .hbm, ⟨5, _⟩ => ⟨S1024x4096, .f32⟩
  | .hbm, ⟨6, _⟩ => ⟨S4352x4096, .f32⟩
  | .hbm, ⟨7, _⟩ => ⟨S_, .f32⟩
  | .hbm, ⟨8, _⟩ => ⟨S4352x4096, .f32⟩
  | .hbm, ⟨9, _⟩ => ⟨S4352x4096, .f32⟩
  | .hbm, ⟨10, _⟩ => ⟨S4352x4096, .f32⟩
  | .hbm, ⟨11, _⟩ => ⟨S4352x4096, .bf16⟩
  | .hbm, ⟨12, _⟩ => ⟨S4352x4096, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .bf16⟩
  | .local _ .vmem, ⟨7, _⟩ => ⟨S1088x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4352x1024 : Shape := ⟨2, ![4352, 1024]⟩
abbrev S1024x4096 : Shape := ⟨2, ![1024, 4096]⟩
abbrev S4096x1024 : Shape := ⟨2, ![4096, 1024]⟩
abbrev S4352x4096 : Shape := ⟨2, ![4352, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x4096, .bf16⟩
  | .hbm, ⟨2, _⟩ => ⟨S4096x1024, .bf16⟩
  | .hbm, ⟨3, _⟩ => ⟨S4352x1024, .bf16⟩
  | .hbm, ⟨4, _⟩ => ⟨S4352x1024, .f32⟩
  | .hbm, ⟨5, _⟩ => ⟨S1024x4096, .f32⟩
  | .hbm, ⟨6, _⟩ => ⟨S4096x1024, .f32⟩
  | .hbm, ⟨7, _⟩ => ⟨S4352x1024, .f32⟩
  | .hbm, ⟨8, _⟩ => ⟨S4352x4096, .f32⟩
  | .hbm, ⟨9, _⟩ => ⟨S_, .f32⟩
  | .hbm, ⟨10, _⟩ => ⟨S4352x4096, .f32⟩
  | .hbm, ⟨11, _⟩ => ⟨S4352x4096, .f32⟩
  | .hbm, ⟨12, _⟩ => ⟨S_, .f32⟩
  | .hbm, ⟨13, _⟩ => ⟨S4352x4096, .f32⟩
  | .hbm, ⟨14, _⟩ => ⟨S4352x4096, .i1⟩
  | .hbm, ⟨15, _⟩ => ⟨S_, .f32⟩
  | .hbm, ⟨16, _⟩ => ⟨S4352x4096, .f32⟩
  | .hbm, ⟨17, _⟩ => ⟨S4352x4096, .f32⟩
  | .hbm, ⟨18, _⟩ => ⟨S_, .f32⟩
  | .hbm, ⟨19, _⟩ => ⟨S4352x4096, .f32⟩
  | .hbm, ⟨20, _⟩ => ⟨S4352x4096, .f32⟩
  | .hbm, ⟨21, _⟩ => ⟨S4352x1024, .f32⟩
  | .hbm, ⟨22, _⟩ => ⟨S4352x4096, .f32⟩
  | .hbm, ⟨23, _⟩ => ⟨S4352x4096, .f32⟩
  | .hbm, ⟨24, _⟩ => ⟨S_, .f32⟩
  | .hbm, ⟨25, _⟩ => ⟨S4352x4096, .f32⟩
  | .hbm, ⟨26, _⟩ => ⟨S4352x4096, .f32⟩
  | .hbm, ⟨27, _⟩ => ⟨S4352x4096, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel3.lean ====
abbrev S4352x4096 : Shape := ⟨2, ![4352, 4096]⟩
abbrev S4352x1024 : Shape := ⟨2, ![4352, 1024]⟩
abbrev S4096x1024 : Shape := ⟨2, ![4096, 1024]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x4096, .bf16⟩
  | .hbm, ⟨1, _⟩ => ⟨S4352x1024, .bf16⟩
  | .hbm, ⟨2, _⟩ => ⟨S4096x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4352x4096 : Shape := ⟨2, ![4352, 4096]⟩
abbrev S4352x1024 : Shape := ⟨2, ![4352, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x1024, .bf16⟩
  | .hbm, ⟨2, _⟩ => ⟨S4352x4096, .f32⟩
  | .hbm, ⟨3, _⟩ => ⟨S4352x1024, .f32⟩
  | .hbm, ⟨4, _⟩ => ⟨S_, .f32⟩
  | .hbm, ⟨5, _⟩ => ⟨S4096x1024, .f32⟩
  | .hbm, ⟨6, _⟩ => ⟨S4352x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S1024x4096 : Shape := ⟨2, ![1024, 4096]⟩
abbrev S4352x4096 : Shape := ⟨2, ![4352, 4096]⟩
abbrev S4352x1024 : Shape := ⟨2, ![4352, 1024]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4352x4096, .bf16⟩
  | .hbm, ⟨2, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x4096 : Shape := ⟨2, ![1024, 4096]⟩
abbrev S4352x4096 : Shape := ⟨2, ![4352, 4096]⟩
abbrev S_ : Shape := ⟨0, ![]⟩
abbrev S4352x1024 : Shape := ⟨2, ![4352, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4352x4096, .bf16⟩
  | .hbm, ⟨2, _⟩ => ⟨S1024x4096, .f32⟩
  | .hbm, ⟨3, _⟩ => ⟨S4352x4096, .f32⟩
  | .hbm, ⟨4, _⟩ => ⟨S_, .f32⟩
  | .hbm, ⟨5, _⟩ => ⟨S4352x1024, .f32⟩
  | .hbm, ⟨6, _⟩ => ⟨S4352x4096, .f32⟩
  | .hbm, ⟨7, _⟩ => ⟨S4352x1024, .f32⟩
  | .hbm, ⟨8, _⟩ => ⟨S4352x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4352x1024 : Shape := ⟨2, ![4352, 1024]⟩
abbrev S4352x4096 : Shape := ⟨2, ![4352, 4096]⟩
abbrev S1024x4096 : Shape := ⟨2, ![1024, 4096]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x4096, .bf16⟩
  | .hbm, ⟨2, _⟩ => ⟨S1024x4096, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x1024 : Shape := ⟨2, ![4352, 1024]⟩
abbrev S4352x4096 : Shape := ⟨2, ![4352, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x4096, .bf16⟩
  | .hbm, ⟨2, _⟩ => ⟨S4352x1024, .f32⟩
  | .hbm, ⟨3, _⟩ => ⟨S4352x4096, .f32⟩
  | .hbm, ⟨4, _⟩ => ⟨S_, .f32⟩
  | .hbm, ⟨5, _⟩ => ⟨S1024x4096, .f32⟩
  | .hbm, ⟨6, _⟩ => ⟨S4352x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S4352x8192 : Shape := ⟨2, ![4352, 8192]⟩
abbrev S4352x1024 : Shape := ⟨2, ![4352, 1024]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4352x8192, .bf16⟩
  | .hbm, ⟨2, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S4352x8192 : Shape := ⟨2, ![4352, 8192]⟩
abbrev S_ : Shape := ⟨0, ![]⟩
abbrev S4352x1024 : Shape := ⟨2, ![4352, 1024]⟩
abbrev S1024x8192 : Shape := ⟨2, ![1024, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4352x8192, .bf16⟩
  | .hbm, ⟨2, _⟩ => ⟨S8192x1024, .f32⟩
  | .hbm, ⟨3, _⟩ => ⟨S4352x8192, .f32⟩
  | .hbm, ⟨4, _⟩ => ⟨S_, .f32⟩
  | .hbm, ⟨5, _⟩ => ⟨S4352x1024, .f32⟩
  | .hbm, ⟨6, _⟩ => ⟨S1024x8192, .f32⟩
  | .hbm, ⟨7, _⟩ => ⟨S4352x8192, .f32⟩
  | .hbm, ⟨8, _⟩ => ⟨S4352x1024, .f32⟩
  | .hbm, ⟨9, _⟩ => ⟨S4352x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4352x1024 : Shape := ⟨2, ![4352, 1024]⟩
abbrev S4352x8192 : Shape := ⟨2, ![4352, 8192]⟩
abbrev S8192x1024 : Shape := ⟨2, ![8192, 1024]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x8192, .bf16⟩
  | .hbm, ⟨2, _⟩ => ⟨S8192x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4352x1024 : Shape := ⟨2, ![4352, 1024]⟩
abbrev S4352x8192 : Shape := ⟨2, ![4352, 8192]⟩
abbrev S_ : Shape := ⟨0, ![]⟩
abbrev S8192x1024 : Shape := ⟨2, ![8192, 1024]⟩
abbrev S1024x8192 : Shape := ⟨2, ![1024, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x8192, .bf16⟩
  | .hbm, ⟨2, _⟩ => ⟨S4352x1024, .f32⟩
  | .hbm, ⟨3, _⟩ => ⟨S4352x8192, .f32⟩
  | .hbm, ⟨4, _⟩ => ⟨S_, .f32⟩
  | .hbm, ⟨5, _⟩ => ⟨S8192x1024, .f32⟩
  | .hbm, ⟨6, _⟩ => ⟨S1024x8192, .f32⟩
  | .hbm, ⟨7, _⟩ => ⟨S4352x8192, .f32⟩
  | .hbm, ⟨8, _⟩ => ⟨S8192x1024, .f32⟩
  | .hbm, ⟨9, _⟩ => ⟨S1024x8192, .f32⟩
  | .hbm, ⟨10, _⟩ => ⟨S8192x1024, .f32⟩
  | .hbm, ⟨11, _⟩ => ⟨S8192x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4352x1024 : Shape := ⟨2, ![4352, 1024]⟩
abbrev S8192x1024 : Shape := ⟨2, ![8192, 1024]⟩
abbrev S4352x8192 : Shape := ⟨2, ![4352, 8192]⟩
abbrev S1088x1024 : Shape := ⟨2, ![1088, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S8192x1024, .bf16⟩
  | .hbm, ⟨2, _⟩ => ⟨S4352x8192, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x1024 : Shape := ⟨2, ![4352, 1024]⟩
abbrev S8192x1024 : Shape := ⟨2, ![8192, 1024]⟩
abbrev S1024x8192 : Shape := ⟨2, ![1024, 8192]⟩
abbrev S4352x8192 : Shape := ⟨2, ![4352, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S8192x1024, .bf16⟩
  | .hbm, ⟨2, _⟩ => ⟨S4352x1024, .f32⟩
  | .hbm, ⟨3, _⟩ => ⟨S8192x1024, .f32⟩
  | .hbm, ⟨4, _⟩ => ⟨S1024x8192, .f32⟩
  | .hbm, ⟨5, _⟩ => ⟨S4352x8192, .f32⟩
  | .hbm, ⟨6, _⟩ => ⟨S4352x8192, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4352x1024 : Shape := ⟨2, ![4352, 1024]⟩
abbrev S1024x4096 : Shape := ⟨2, ![1024, 4096]⟩
abbrev S4352x4096 : Shape := ⟨2, ![4352, 4096]⟩
abbrev S1088x1024 : Shape := ⟨2, ![1088, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x4096, .bf16⟩
  | .hbm, ⟨2, _⟩ => ⟨S4352x4096, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4352x1024 : Shape := ⟨2, ![4352, 1024]⟩
abbrev S1024x4096 : Shape := ⟨2, ![1024, 4096]⟩
abbrev S4352x4096 : Shape := ⟨2, ![4352, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x4096, .bf16⟩
  | .hbm, ⟨2, _⟩ => ⟨S4352x1024, .f32⟩
  | .hbm, ⟨3, _⟩ => ⟨S1024x4096, .f32⟩
  | .hbm, ⟨4, _⟩ => ⟨S4352x4096, .f32⟩
  | .hbm, ⟨5, _⟩ => ⟨S_, .f32⟩
  | .hbm, ⟨6, _⟩ => ⟨S4352x4096, .f32⟩
  | .hbm, ⟨7, _⟩ => ⟨S4352x4096, .f32⟩
  | .hbm, ⟨8, _⟩ => ⟨S4352x4096, .f32⟩
  | .hbm, ⟨9, _⟩ => ⟨S4352x4096, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel10.lean ====
abbrev S4352x4096 : Shape := ⟨2, ![4352, 4096]⟩
abbrev S4096x1024 : Shape := ⟨2, ![4096, 1024]⟩
abbrev S4352x1024 : Shape := ⟨2, ![4352, 1024]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x4096, .bf16⟩
  | .hbm, ⟨1, _⟩ => ⟨S4096x1024, .bf16⟩
  | .hbm, ⟨2, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x4096 : Shape := ⟨2, ![4352, 4096]⟩
abbrev S4096x1024 : Shape := ⟨2, ![4096, 1024]⟩
abbrev S4352x1024 : Shape := ⟨2, ![4352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x1024, .bf16⟩
  | .hbm, ⟨2, _⟩ => ⟨S4352x4096, .f32⟩
  | .hbm, ⟨3, _⟩ => ⟨S4096x1024, .f32⟩
  | .hbm, ⟨4, _⟩ => ⟨S4352x1024, .f32⟩
  | .hbm, ⟨5, _⟩ => ⟨S4352x1024, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S1024x1024 : Shape := ⟨2, ![1024, 1024]⟩
abbrev S4352x1024 : Shape := ⟨2, ![4352, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S4352x1024, .bf16⟩
  | .hbm, ⟨2, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S1024x1024 : Shape := ⟨2, ![1024, 1024]⟩
abbrev S4352x1024 : Shape := ⟨2, ![4352, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S4352x1024, .bf16⟩
  | .hbm, ⟨2, _⟩ => ⟨S1024x1024, .f32⟩
  | .hbm, ⟨3, _⟩ => ⟨S4352x1024, .f32⟩
  | .hbm, ⟨4, _⟩ => ⟨S_, .f32⟩
  | .hbm, ⟨5, _⟩ => ⟨S4352x1024, .f32⟩
  | .hbm, ⟨6, _⟩ => ⟨S4352x1024, .f32⟩
  | .hbm, ⟨7, _⟩ => ⟨S4352x1024, .f32⟩
  | .hbm, ⟨8, _⟩ => ⟨S4352x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .bf16⟩
  | .local _ .vmem, ⟨5, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .f32⟩
  | .hbm, ⟨3, _⟩ => ⟨S4352x1024, .f32⟩
  | .hbm, ⟨4, _⟩ => ⟨S_, .f32⟩
  | .hbm, ⟨5, _⟩ => ⟨S1024x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4352x1024 : Shape := ⟨2, ![4352, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1024x1024, .f32⟩
  | .hbm, ⟨4, _⟩ => ⟨S4352x1024, .f32⟩
  | .hbm, ⟨5, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S512x1024 : Shape := ⟨2, ![512, 1024]⟩
abbrev S4352x1024 : Shape := ⟨2, ![4352, 1024]⟩
abbrev S4352x512 : Shape := ⟨2, ![4352, 512]⟩
abbrev S1088x1024 : Shape := ⟨2, ![1088, 1024]⟩
abbrev S1088x512 : Shape := ⟨2, ![1088, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S4352x1024, .bf16⟩
  | .hbm, ⟨2, _⟩ => ⟨S4352x512, .bf16⟩
  | .local _ .vmem, ⟨0, _⟩ => ⟨S1088x1024, .bf16⟩
  | .local _ .vmem, ⟨1, _⟩ => ⟨S1088x1024, .bf16⟩
  | .local _ .vmem, ⟨2, _⟩ => ⟨S512x1024, .bf16⟩
  | .local _ .vmem, ⟨3, _⟩ => ⟨S1088x512, .bf16⟩
  | .local _ .vmem, ⟨4, _⟩ => ⟨S1088x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S512x1024 : Shape := ⟨2, ![512, 1024]⟩
abbrev S4352x1024 : Shape := ⟨2, ![4352, 1024]⟩
abbrev S_ : Shape := ⟨0, ![]⟩
abbrev S4352x512 : Shape := ⟨2, ![4352, 512]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S4352x1024, .bf16⟩
  | .hbm, ⟨2, _⟩ => ⟨S512x1024, .f32⟩
  | .hbm, ⟨3, _⟩ => ⟨S4352x1024, .f32⟩
  | .hbm, ⟨4, _⟩ => ⟨S_, .f32⟩
  | .hbm, ⟨5, _⟩ => ⟨S4352x512, .f32⟩
  | .hbm, ⟨6, _⟩ => ⟨S4352x1024, .f32⟩
  | .hbm, ⟨7, _⟩ => ⟨S4352x512, .f32⟩
  | .hbm, ⟨8, _⟩ => ⟨S4352x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4352x512 : Shape := ⟨2, ![4352, 512]⟩
abbrev S4352x1024 : Shape := ⟨2, ![4352, 1024]⟩
abbrev S512x1024 : Shape := ⟨2, ![512, 1024]⟩
abbrev S1088x512 : Shape := ⟨2, ![1088, 512]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x512, .bf16⟩
  | .hbm, ⟨1, _⟩ => ⟨S4352x1024, .bf16⟩
  | .hbm, ⟨2, _⟩ => ⟨S512x1024, .bf16⟩
  | .local _ .vmem, ⟨0, _⟩ => ⟨S1088x512, .bf16⟩
  | .local _ .vmem, ⟨1, _⟩ => ⟨S1088x512, .bf16⟩
  | .local _ .vmem, ⟨2, _⟩ => ⟨S1088x1024, .bf16⟩
  | .local _ .vmem, ⟨3, _⟩ => ⟨S1088x1024, .bf16⟩
  | .local _ .vmem, ⟨4, _⟩ => ⟨S512x1024, .bf16⟩
  | .local _ .vmem, ⟨5, _⟩ => ⟨S512x1024, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4352x512 : Shape := ⟨2, ![4352, 512]⟩
abbrev S4352x1024 : Shape := ⟨2, ![4352, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x1024, .bf16⟩
  | .hbm, ⟨2, _⟩ => ⟨S4352x512, .f32⟩
  | .hbm, ⟨3, _⟩ => ⟨S4352x1024, .f32⟩
  | .hbm, ⟨4, _⟩ => ⟨S_, .f32⟩
  | .hbm, ⟨5, _⟩ => ⟨S512x1024, .f32⟩
  | .hbm, ⟨6, _⟩ => ⟨S4352x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4352x512 : Shape := ⟨2, ![4352, 512]⟩
abbrev S512x1024 : Shape := ⟨2, ![512, 1024]⟩
abbrev S4352x1024 : Shape := ⟨2, ![4352, 1024]⟩
abbrev S1088x512 : Shape := ⟨2, ![1088, 512]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x512, .bf16⟩
  | .hbm, ⟨1, _⟩ => ⟨S512x1024, .bf16⟩
  | .hbm, ⟨2, _⟩ => ⟨S4352x1024, .bf16⟩
  | .local _ .vmem, ⟨0, _⟩ => ⟨S1088x512, .bf16⟩
  | .local _ .vmem, ⟨1, _⟩ => ⟨S1088x512, .bf16⟩
  | .local _ .vmem, ⟨2, _⟩ => ⟨S512x1024, .bf16⟩
  | .local _ .vmem, ⟨3, _⟩ => ⟨S1088x1024, .bf16⟩
  | .local _ .vmem, ⟨4, _⟩ => ⟨S1088x1024, .bf16⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4352x512 : Shape := ⟨2, ![4352, 512]⟩
abbrev S512x1024 : Shape := ⟨2, ![512, 1024]⟩
abbrev S4352x1024 : Shape := ⟨2, ![4352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S512x1024, .bf16⟩
  | .hbm, ⟨2, _⟩ => ⟨S4352x512, .f32⟩
  | .hbm, ⟨3, _⟩ => ⟨S512x1024, .f32⟩
  | .hbm, ⟨4, _⟩ => ⟨S4352x1024, .f32⟩
  | .hbm, ⟨5, _⟩ => ⟨S4352x1024, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S8x1024 : Shape := ⟨2, ![8, 1024]⟩
abbrev S1024x6144 : Shape := ⟨2, ![1024, 6144]⟩
abbrev S8x6144 : Shape := ⟨2, ![8, 6144]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .bf16⟩
  | .hbm, ⟨1, _⟩ => ⟨S1024x6144, .bf16⟩
  | .hbm, ⟨2, _⟩ => ⟨S8x6144, .f32⟩
  | .local _ .vmem, ⟨0, _⟩ => ⟨S8x1024, .bf16⟩
  | .local _ .vmem, ⟨1, _⟩ => ⟨S1024x1024, .bf16⟩
  | .local _ .vmem, ⟨2, _⟩ => ⟨S1024x1024, .bf16⟩
  | .local _ .vmem, ⟨3, _⟩ => ⟨S8x1024, .f32⟩
  | .local _ .vmem, ⟨4, _⟩ => ⟨S8x1024, .f32⟩
  | _, _ => ⟨S8x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8x1024 : Shape := ⟨2, ![8, 1024]⟩
abbrev S1024x6144 : Shape := ⟨2, ![1024, 6144]⟩
abbrev S8x6144 : Shape := ⟨2, ![8, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8x1024, .bf16⟩
  | .hbm, ⟨1, _⟩ => ⟨S1024x6144, .bf16⟩
  | .hbm, ⟨2, _⟩ => ⟨S8x1024, .f32⟩
  | .hbm, ⟨3, _⟩ => ⟨S1024x6144, .f32⟩
  | .hbm, ⟨4, _⟩ => ⟨S8x6144, .f32⟩
  | _, _ => ⟨S8x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S8x1024 : Shape := ⟨2, ![8, 1024]⟩
abbrev S8x6144 : Shape := ⟨2, ![8, 6144]⟩
abbrev S1024x6144 : Shape := ⟨2, ![1024, 6144]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .bf16⟩
  | .hbm, ⟨1, _⟩ => ⟨S8x6144, .f32⟩
  | .hbm, ⟨2, _⟩ => ⟨S1024x6144, .bf16⟩
  | .local _ .vmem, ⟨0, _⟩ => ⟨S8x1024, .bf16⟩
  | .local _ .vmem, ⟨1, _⟩ => ⟨S8x1024, .f32⟩
  | .local _ .vmem, ⟨2, _⟩ => ⟨S8x1024, .f32⟩
  | .local _ .vmem, ⟨3, _⟩ => ⟨S1024x1024, .bf16⟩
  | .local _ .vmem, ⟨4, _⟩ => ⟨S1024x1024, .bf16⟩
  | _, _ => ⟨S8x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8x1024 : Shape := ⟨2, ![8, 1024]⟩
abbrev S8x6144 : Shape := ⟨2, ![8, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x1024, .bf16⟩
  | .hbm, ⟨1, _⟩ => ⟨S8x6144, .f32⟩
  | .hbm, ⟨2, _⟩ => ⟨S8x1024, .f32⟩
  | .hbm, ⟨3, _⟩ => ⟨S_, .f32⟩
  | .hbm, ⟨4, _⟩ => ⟨S1024x6144, .f32⟩
  | .hbm, ⟨5, _⟩ => ⟨S8x6144, .f32⟩
  | .hbm, ⟨6, _⟩ => ⟨S6144x1024, .f32⟩
  | .hbm, ⟨7, _⟩ => ⟨S1024x6144, .f32⟩
  | .hbm, ⟨8, _⟩ => ⟨S1024x6144, .bf16⟩
  | _, _ => ⟨S8x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S1024x6144 : Shape := ⟨2, ![1024, 6144]⟩
abbrev S8x6144 : Shape := ⟨2, ![8, 6144]⟩
abbrev S8x1024 : Shape := ⟨2, ![8, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x6144, .bf16⟩
  | .hbm, ⟨1, _⟩ => ⟨S8x6144, .f32⟩
  | .hbm, ⟨2, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S1024x1024, .bf16⟩
  | .local _ .vmem, ⟨3, _⟩ => ⟨S1024x1024, .bf16⟩
  | .local _ .vmem, ⟨4, _⟩ => ⟨S8x1024, .f32⟩
  | .local _ .vmem, ⟨5, _⟩ => ⟨S8x1024, .f32⟩
  | _, _ => ⟨S1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S1024x6144 : Shape := ⟨2, ![1024, 6144]⟩
abbrev S8x6144 : Shape := ⟨2, ![8, 6144]⟩
abbrev S_ : Shape := ⟨0, ![]⟩
abbrev S8x1024 : Shape := ⟨2, ![8, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x6144, .bf16⟩
  | .hbm, ⟨1, _⟩ => ⟨S8x6144, .f32⟩
  | .hbm, ⟨2, _⟩ => ⟨S1024x6144, .f32⟩
  | .hbm, ⟨3, _⟩ => ⟨S_, .f32⟩
  | .hbm, ⟨4, _⟩ => ⟨S8x1024, .f32⟩
  | .hbm, ⟨5, _⟩ => ⟨S8x6144, .f32⟩
  | .hbm, ⟨6, _⟩ => ⟨S8x1024, .f32⟩
  | _, _ => ⟨S1024x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S4352x8192 : Shape := ⟨2, ![4352, 8192]⟩
abbrev S128x1024 : Shape := ⟨2, ![128, 1024]⟩
abbrev S4352x1024 : Shape := ⟨2, ![4352, 1024]⟩
abbrev S1088x128 : Shape := ⟨2, ![1088, 128]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x8192, .bf16⟩
  | .hbm, ⟨1, _⟩ => ⟨S128x1024, .bf16⟩
  | .hbm, ⟨2, _⟩ => ⟨S4352x1024, .f32⟩
  | .local _ .vmem, ⟨0, _⟩ => ⟨S1088x128, .bf16⟩
  | .local _ .vmem, ⟨1, _⟩ => ⟨S1088x128, .bf16⟩
  | .local _ .vmem, ⟨2, _⟩ => ⟨S128x1024, .bf16⟩
  | .local _ .vmem, ⟨3, _⟩ => ⟨S1088x1024, .f32⟩
  | .local _ .vmem, ⟨4, _⟩ => ⟨S1088x1024, .f32⟩
  | _, _ => ⟨S4352x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c60_i32 : BitVec 32 := 60#32
  let v0 : BitVec 32 := Scalar.addi arg2 c60_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4352x8192 : Shape := ⟨2, ![4352, 8192]⟩
abbrev S128x1024 : Shape := ⟨2, ![128, 1024]⟩
abbrev S4352x128 : Shape := ⟨2, ![4352, 128]⟩
abbrev S4352x1024 : Shape := ⟨2, ![4352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x8192, .bf16⟩
  | .hbm, ⟨1, _⟩ => ⟨S128x1024, .bf16⟩
  | .hbm, ⟨2, _⟩ => ⟨S4352x128, .bf16⟩
  | .hbm, ⟨3, _⟩ => ⟨S4352x128, .f32⟩
  | .hbm, ⟨4, _⟩ => ⟨S128x1024, .f32⟩
  | .hbm, ⟨5, _⟩ => ⟨S4352x1024, .f32⟩
  | _, _ => ⟨S4352x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S4352x8192 : Shape := ⟨2, ![4352, 8192]⟩
abbrev S4352x1024 : Shape := ⟨2, ![4352, 1024]⟩
abbrev S128x1024 : Shape := ⟨2, ![128, 1024]⟩
abbrev S1088x128 : Shape := ⟨2, ![1088, 128]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x8192, .bf16⟩
  | .hbm, ⟨1, _⟩ => ⟨S4352x1024, .bf16⟩
  | .hbm, ⟨2, _⟩ => ⟨S128x1024, .f32⟩
  | .local _ .vmem, ⟨0, _⟩ => ⟨S1088x128, .bf16⟩
  | .local _ .vmem, ⟨1, _⟩ => ⟨S1088x128, .bf16⟩
  | .local _ .vmem, ⟨2, _⟩ => ⟨S1088x1024, .bf16⟩
  | .local _ .vmem, ⟨3, _⟩ => ⟨S1088x1024, .bf16⟩
  | .local _ .vmem, ⟨4, _⟩ => ⟨S128x1024, .f32⟩
  | .local _ .vmem, ⟨5, _⟩ => ⟨S128x1024, .f32⟩
  | _, _ => ⟨S4352x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c60_i32 : BitVec 32 := 60#32
  let v0 : BitVec 32 := Scalar.addi arg0 c60_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S4352x8192 : Shape := ⟨2, ![4352, 8192]⟩
abbrev S4352x1024 : Shape := ⟨2, ![4352, 1024]⟩
abbrev S4352x128 : Shape := ⟨2, ![4352, 128]⟩
abbrev S_ : Shape := ⟨0, ![]⟩
abbrev S128x1024 : Shape := ⟨2, ![128, 1024]⟩
abbrev S1024x128 : Shape := ⟨2, ![1024, 128]⟩

abbrev nBuf : Space → Nat
  | .hbm => 10
  | .vmem => 0
  | .smem => 0
  | _ => 0

abbrev bufTy : (tb : Table) → Fin (tcTables nBuf tb) → BufTy
  | .hbm, ⟨0, _⟩ => ⟨S4352x8192, .bf16⟩
  | .hbm, ⟨1, _⟩ => ⟨S4352x1024, .bf16⟩
  | .hbm, ⟨2, _⟩ => ⟨S4352x128, .bf16⟩
  | .hbm, ⟨3, _⟩ => ⟨S4352x128, .f32⟩
  | .hbm, ⟨4, _⟩ => ⟨S_, .f32⟩
  | .hbm, ⟨5, _⟩ => ⟨S128x1024, .f32⟩
  | .hbm, ⟨6, _⟩ => ⟨S4352x1024, .f32⟩
  | .hbm, ⟨7, _⟩ => ⟨S4352x1024, .f32⟩
  | .hbm, ⟨8, _⟩ => ⟨S1024x128, .f32⟩
  | .hbm, ⟨9, _⟩ => ⟨S128x1024, .f32⟩
  | _, _ => ⟨S4352x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel22.lean ====
abbrev S4352x512 : Shape := ⟨2, ![4352, 512]⟩
abbrev S4x128x128 : Shape := ⟨3, ![4, 128, 128]⟩
abbrev S4352x128 : Shape := ⟨2, ![4352, 128]⟩
abbrev S1x128x128 : Shape := ⟨3, ![1, 128, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S4352x512, .f32⟩
  | .hbm, ⟨1, _⟩ => ⟨S4x128x128, .f32⟩
  | .hbm, ⟨2, _⟩ => ⟨S4352x512, .f32⟩
  | .local _ .vmem, ⟨0, _⟩ => ⟨S4352x128, .f32⟩
  | .local _ .vmem, ⟨1, _⟩ => ⟨S4352x128, .f32⟩
  | .local _ .vmem, ⟨2, _⟩ => ⟨S1x128x128, .f32⟩
  | .local _ .vmem, ⟨3, _⟩ => ⟨S1x128x128, .f32⟩
  | .local _ .vmem, ⟨4, _⟩ => ⟨S4352x128, .f32⟩
  | .local _ .vmem, ⟨5, _⟩ => ⟨S4352x128, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4352x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S4352x512 : Shape := ⟨2, ![4352, 512]⟩
abbrev S4x128x128 : Shape := ⟨3, ![4, 128, 128]⟩
abbrev S4352x4x128 : Shape := ⟨3, ![4352, 4, 128]⟩
abbrev S4x128x4352 : Shape := ⟨3, ![4, 128, 4352]⟩

abbrev nBuf : Space → Nat
  | .hbm => 6
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4x128x128, .f32⟩
  | .hbm, ⟨2, _⟩ => ⟨S4352x4x128, .f32⟩
  | .hbm, ⟨3, _⟩ => ⟨S4x128x4352, .f32⟩
  | .hbm, ⟨4, _⟩ => ⟨S4352x4x128, .f32⟩
  | .hbm, ⟨5, _⟩ => ⟨S4352x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel23.lean ====
abbrev S4352x512 : Shape := ⟨2, ![4352, 512]⟩
abbrev S4x128x128 : Shape := ⟨3, ![4, 128, 128]⟩
abbrev S4352x128 : Shape := ⟨2, ![4352, 128]⟩
abbrev S1x128x128 : Shape := ⟨3, ![1, 128, 128]⟩
abbrev S128x128 : Shape := ⟨2, ![128, 128]⟩

abbrev nBuf : Space → Nat
  | .hbm => 4
  | .vmem => 6
  | .smem => 0
  | _ => 0

abbrev bufTy : (tb : Table) → Fin (tcTables nBuf tb) → BufTy
  | .hbm, ⟨0, _⟩ => ⟨S4352x512, .f32⟩
  | .hbm, ⟨1, _⟩ => ⟨S4x128x128, .f32⟩
  | .hbm, ⟨2, _⟩ => ⟨S4352x512, .f32⟩
  | .hbm, ⟨3, _⟩ => ⟨S4x128x128, .f32⟩
  | .local _ .vmem, ⟨0, _⟩ => ⟨S4352x128, .f32⟩
  | .local _ .vmem, ⟨1, _⟩ => ⟨S4352x128, .f32⟩
  | .local _ .vmem, ⟨2, _⟩ => ⟨S4352x128, .f32⟩
  | .local _ .vmem, ⟨3, _⟩ => ⟨S4352x128, .f32⟩
  | .local _ .vmem, ⟨4, _⟩ => ⟨S1x128x128, .f32⟩
  | .local _ .vmem, ⟨5, _⟩ => ⟨S1x128x128, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4352x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4352x512 : Shape := ⟨2, ![4352, 512]⟩
abbrev S4x128x128 : Shape := ⟨3, ![4, 128, 128]⟩
abbrev S4352x4x128 : Shape := ⟨3, ![4352, 4, 128]⟩
abbrev S4x128x4352 : Shape := ⟨3, ![4, 128, 4352]⟩

abbrev nBuf : Space → Nat
  | .hbm => 11
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4x128x128, .f32⟩
  | .hbm, ⟨2, _⟩ => ⟨S4352x512, .f32⟩
  | .hbm, ⟨3, _⟩ => ⟨S4352x4x128, .f32⟩
  | .hbm, ⟨4, _⟩ => ⟨S4x128x4352, .f32⟩
  | .hbm, ⟨5, _⟩ => ⟨S4352x4x128, .f32⟩
  | .hbm, ⟨6, _⟩ => ⟨S4352x512, .f32⟩
  | .hbm, ⟨7, _⟩ => ⟨S4352x4x128, .f32⟩
  | .hbm, ⟨8, _⟩ => ⟨S4x128x4352, .f32⟩
  | .hbm, ⟨9, _⟩ => ⟨S4x128x128, .f32⟩
  | .hbm, ⟨10, _⟩ => ⟨S4x128x128, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel24.lean ====
abbrev S4x128x128 : Shape := ⟨3, ![4, 128, 128]⟩
abbrev S4352x512 : Shape := ⟨2, ![4352, 512]⟩
abbrev S4352x128 : Shape := ⟨2, ![4352, 128]⟩
abbrev S1x128x128 : Shape := ⟨3, ![1, 128, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S4x128x128, .f32⟩
  | .hbm, ⟨1, _⟩ => ⟨S4352x512, .f32⟩
  | .hbm, ⟨2, _⟩ => ⟨S4352x512, .f32⟩
  | .local _ .vmem, ⟨0, _⟩ => ⟨S4352x128, .f32⟩
  | .local _ .vmem, ⟨1, _⟩ => ⟨S4352x128, .f32⟩
  | .local _ .vmem, ⟨2, _⟩ => ⟨S1x128x128, .f32⟩
  | .local _ .vmem, ⟨3, _⟩ => ⟨S1x128x128, .f32⟩
  | .local _ .vmem, ⟨4, _⟩ => ⟨S4352x128, .f32⟩
  | .local _ .vmem, ⟨5, _⟩ => ⟨S4352x128, .f32⟩
  | _, _ => ⟨S4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4352x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S4x128x128 : Shape := ⟨3, ![4, 128, 128]⟩
abbrev S4352x512 : Shape := ⟨2, ![4352, 512]⟩
abbrev S_ : Shape := ⟨0, ![]⟩
abbrev S4352x4x128 : Shape := ⟨3, ![4352, 4, 128]⟩
abbrev S4x128x4352 : Shape := ⟨3, ![4, 128, 4352]⟩
abbrev S4x4352x128 : Shape := ⟨3, ![4, 4352, 128]⟩

abbrev nBuf : Space → Nat
  | .hbm => 13
  | .vmem => 0
  | .smem => 0
  | _ => 0

abbrev bufTy : (tb : Table) → Fin (tcTables nBuf tb) → BufTy
  | .hbm, ⟨0, _⟩ => ⟨S4x128x128, .f32⟩
  | .hbm, ⟨1, _⟩ => ⟨S4352x512, .f32⟩
  | .hbm, ⟨2, _⟩ => ⟨S_, .f32⟩
  | .hbm, ⟨3, _⟩ => ⟨S4352x512, .f32⟩
  | .hbm, ⟨4, _⟩ => ⟨S4352x4x128, .f32⟩
  | .hbm, ⟨5, _⟩ => ⟨S4x128x4352, .f32⟩
  | .hbm, ⟨6, _⟩ => ⟨S4352x4x128, .f32⟩
  | .hbm, ⟨7, _⟩ => ⟨S4352x512, .f32⟩
  | .hbm, ⟨8, _⟩ => ⟨S4352x4x128, .f32⟩
  | .hbm, ⟨9, _⟩ => ⟨S4x128x4352, .f32⟩
  | .hbm, ⟨10, _⟩ => ⟨S4x4352x128, .f32⟩
  | .hbm, ⟨11, _⟩ => ⟨S4352x4x128, .f32⟩
  | .hbm, ⟨12, _⟩ => ⟨S4352x512, .f32⟩
  | _, _ => ⟨S4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel25.lean ====
abbrev S1536x128 : Shape := ⟨2, ![1536, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S1536x128, .f32⟩
  | .hbm, ⟨1, _⟩ => ⟨S1536x128, .f32⟩
  | .hbm, ⟨2, _⟩ => ⟨S1536x128, .f32⟩
  | .hbm, ⟨3, _⟩ => ⟨S1536x128, .f32⟩
  | .hbm, ⟨4, _⟩ => ⟨S1536x128, .f32⟩
  | .hbm, ⟨5, _⟩ => ⟨S1536x128, .f32⟩
  | .hbm, ⟨6, _⟩ => ⟨S1536x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S1536x128 : Shape := ⟨2, ![1536, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x128, .f32⟩
  | .hbm, ⟨1, _⟩ => ⟨S1536x128, .f32⟩
  | .hbm, ⟨2, _⟩ => ⟨S1536x128, .f32⟩
  | .hbm, ⟨3, _⟩ => ⟨S1536x128, .f32⟩
  | .hbm, ⟨4, _⟩ => ⟨S_, .f32⟩
  | .hbm, ⟨5, _⟩ => ⟨S1536x128, .f32⟩
  | .hbm, ⟨6, _⟩ => ⟨S1536x128, .f32⟩
  | .hbm, ⟨7, _⟩ => ⟨S_, .f32⟩
  | .hbm, ⟨8, _⟩ => ⟨S1536x128, .f32⟩
  | .hbm, ⟨9, _⟩ => ⟨S1536x128, .f32⟩
  | .hbm, ⟨10, _⟩ => ⟨S1536x128, .f32⟩
  | .hbm, ⟨11, _⟩ => ⟨S_, .f32⟩
  | .hbm, ⟨12, _⟩ => ⟨S1536x128, .f32⟩
  | .hbm, ⟨13, _⟩ => ⟨S1536x128, .f32⟩
  | .hbm, ⟨14, _⟩ => ⟨S1536x128, .f32⟩
  | .hbm, ⟨15, _⟩ => ⟨S_, .f32⟩
  | .hbm, ⟨16, _⟩ => ⟨S1536x128, .f32⟩
  | .hbm, ⟨17, _⟩ => ⟨S1536x128, .f32⟩
  | .hbm, ⟨18, _⟩ => ⟨S1536x128, .f32⟩
  | .hbm, ⟨19, _⟩ => ⟨S_, .f32⟩
  | .hbm, ⟨20, _⟩ => ⟨S1536x128, .f32⟩
  | .hbm, ⟨21, _⟩ => ⟨S1536x128, .f32⟩
  | .hbm, ⟨22, _⟩ => ⟨S_, .f32⟩
  | .hbm, ⟨23, _⟩ => ⟨S1536x128, .f32⟩
  | .hbm, ⟨24, _⟩ => ⟨S1536x128, .f32⟩
  | .hbm, ⟨25, _⟩ => ⟨S1536x128, .f32⟩
  | .hbm, ⟨26, _⟩ => ⟨S_, .f32⟩
  | .hbm, ⟨27, _⟩ => ⟨S1536x128, .f32⟩
  | .hbm, ⟨28, _⟩ => ⟨S1536x128, .f32⟩
  | .hbm, ⟨29, _⟩ => ⟨S1536x128, .f32⟩
  | .hbm, ⟨30, _⟩ => ⟨S_, .f32⟩
  | .hbm, ⟨31, _⟩ => ⟨S1536x128, .f32⟩
  | .hbm, ⟨32, _⟩ => ⟨S1536x128, .f32⟩
  | .hbm, ⟨33, _⟩ => ⟨S1536x128, .f32⟩
  | .hbm, ⟨34, _⟩ => ⟨S_, .f32⟩
  | .hbm, ⟨35, _⟩ => ⟨S1536x128, .f32⟩
  | .hbm, ⟨36, _⟩ => ⟨S1536x128, .f32⟩
  | _, _ => ⟨S1536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S2x1024x1024 : Shape := ⟨3, ![2, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x1024x1024, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference26Ideal.lean ====
abbrev S2x1024x1024 : Shape := ⟨3, ![2, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .f32⟩
  | .hbm, ⟨11, _⟩ => ⟨S2x1024x1024, .f32⟩
  | .hbm, ⟨12, _⟩ => ⟨S_, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S2x1024x1024, .f32⟩
  | .hbm, ⟨23, _⟩ => ⟨S_, .f32⟩
  | .hbm, ⟨24, _⟩ => ⟨S2x1024x1024, .f32⟩
  | .hbm, ⟨25, _⟩ => ⟨S2x1024x1024, .f32⟩
  | .hbm, ⟨26, _⟩ => ⟨S2x1024x1024, .f32⟩
  | .hbm, ⟨27, _⟩ => ⟨S_, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | .hbm, ⟨37, _⟩ => ⟨S2x1024x1024, .f32⟩
  | .hbm, ⟨38, _⟩ => ⟨S_, .f32⟩
  | .hbm, ⟨39, _⟩ => ⟨S2x1024x1024, .f32⟩
  | .hbm, ⟨40, _⟩ => ⟨S2x1024x1024, .f32⟩
  | .hbm, ⟨41, _⟩ => ⟨S2x1024x1024, .f32⟩
  | .hbm, ⟨42, _⟩ => ⟨S_, .f32⟩
  | .hbm, ⟨43, _⟩ => ⟨S2x1024x1024, .f32⟩
  | .hbm, ⟨44, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel27.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference27Ideal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S1x256x1024, .f32⟩
  | .hbm, ⟨10, _⟩ => ⟨S1x256x1024, .f32⟩
  | .hbm, ⟨11, _⟩ => ⟨S2x256x1024, .f32⟩
  | .hbm, ⟨12, _⟩ => ⟨S_, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S2x256x1024, .f32⟩
  | .hbm, ⟨27, _⟩ => ⟨S_, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | .hbm, ⟨41, _⟩ => ⟨S2x256x1024, .f32⟩
  | .hbm, ⟨42, _⟩ => ⟨S_, .f32⟩
  | .hbm, ⟨43, _⟩ => ⟨S2x256x1024, .f32⟩
  | .hbm, ⟨44, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel28.lean ====
abbrev S2x512x256 : Shape := ⟨3, ![2, 512, 256]⟩
abbrev S512x256 : Shape := ⟨2, ![512, 256]⟩
abbrev S1x512x256 : Shape := ⟨3, ![1, 512, 256]⟩

abbrev nBuf : Space → Nat
  | .hbm => 11
  | .vmem => 22
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S2x512x256, .f32⟩
  | .hbm, ⟨8, _⟩ => ⟨S2x512x256, .f32⟩
  | .hbm, ⟨9, _⟩ => ⟨S2x512x256, .f32⟩
  | .hbm, ⟨10, _⟩ => ⟨S2x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference28Ideal.lean ====
abbrev S2x512x256 : Shape := ⟨3, ![2, 512, 256]⟩
abbrev S512x256 : Shape := ⟨2, ![512, 256]⟩
abbrev S1x512x256 : Shape := ⟨3, ![1, 512, 256]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S1x512x256, .f32⟩
  | .hbm, ⟨10, _⟩ => ⟨S1x512x256, .f32⟩
  | .hbm, ⟨11, _⟩ => ⟨S2x512x256, .f32⟩
  | .hbm, ⟨12, _⟩ => ⟨S_, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S2x512x256, .f32⟩
  | .hbm, ⟨23, _⟩ => ⟨S_, .f32⟩
  | .hbm, ⟨24, _⟩ => ⟨S2x512x256, .f32⟩
  | .hbm, ⟨25, _⟩ => ⟨S2x512x256, .f32⟩
  | .hbm, ⟨26, _⟩ => ⟨S2x512x256, .f32⟩
  | .hbm, ⟨27, _⟩ => ⟨S_, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | .hbm, ⟨37, _⟩ => ⟨S2x512x256, .f32⟩
  | .hbm, ⟨38, _⟩ => ⟨S_, .f32⟩
  | .hbm, ⟨39, _⟩ => ⟨S2x512x256, .f32⟩
  | .hbm, ⟨40, _⟩ => ⟨S2x512x256, .f32⟩
  | .hbm, ⟨41, _⟩ => ⟨S2x512x256, .f32⟩
  | .hbm, ⟨42, _⟩ => ⟨S_, .f32⟩
  | .hbm, ⟨43, _⟩ => ⟨S2x512x256, .f32⟩
  | .hbm, ⟨44, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel29.lean ====
abbrev S4352x1024 : Shape := ⟨2, ![4352, 1024]⟩
abbrev S4096x1024 : Shape := ⟨2, ![4096, 1024]⟩
abbrev S8x128 : Shape := ⟨2, ![8, 128]⟩
abbrev S256x1024 : Shape := ⟨2, ![256, 1024]⟩
abbrev S256 : Shape := ⟨1, ![256]⟩
abbrev S1x256 : Shape := ⟨2, ![1, 256]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S4352x1024, .f32⟩
  | .hbm, ⟨3, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x128, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c1_i32 : BitVec 32 := 1#32
  let v3 : BitVec 1 := Scalar.cmpi .slt arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c1_i32_2 : BitVec 32 := 1#32
  let v6 : BitVec 1 := Scalar.cmpi .sge arg0 c1_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference29Ideal.lean ====
abbrev S4352x1024 : Shape := ⟨2, ![4352, 1024]⟩
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 29
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4352x1024, .f32⟩
  | .hbm, ⟨28, _⟩ => ⟨S8x128, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Kernel30.lean ====
abbrev S4352x512 : Shape := ⟨2, ![4352, 512]⟩
abbrev S1x512 : Shape := ⟨2, ![1, 512]⟩
abbrev S256x512 : Shape := ⟨2, ![256, 512]⟩
abbrev S512 : Shape := ⟨1, ![512]⟩

abbrev nBuf : Space → Nat
  | .hbm => 5
  | .vmem => 8
  | .smem => 0
  | _ => 0

abbrev bufTy : (tb : Table) → Fin (tcTables nBuf tb) → BufTy
  | .hbm, ⟨0, _⟩ => ⟨S4352x512, .f32⟩
  | .hbm, ⟨1, _⟩ => ⟨S1x512, .f32⟩
  | .hbm, ⟨2, _⟩ => ⟨S4352x512, .bf16⟩
  | .hbm, ⟨3, _⟩ => ⟨S4352x512, .f32⟩
  | .hbm, ⟨4, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S256x512, .bf16⟩
  | .local _ .vmem, ⟨4, _⟩ => ⟨S256x512, .bf16⟩
  | .local _ .vmem, ⟨5, _⟩ => ⟨S256x512, .f32⟩
  | .local _ .vmem, ⟨6, _⟩ => ⟨S256x512, .f32⟩
  | .local _ .vmem, ⟨7, _⟩ => ⟨S1x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

def k0_cond2 (i : grid0.Coords) : BitVec 1 :=
  let arg0 : BitVec 32 := BitVec.ofNat 32 (i 0).val
  let c0_i32_8 : BitVec 32 := 0#32
  let v13 : BitVec 1 := Scalar.cmpi .sgt arg0 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference30Ideal.lean ====
abbrev S4352x512 : Shape := ⟨2, ![4352, 512]⟩
abbrev S1x512 : Shape := ⟨2, ![1, 512]⟩
abbrev S_ : Shape := ⟨0, ![]⟩
abbrev S512 : Shape := ⟨1, ![512]⟩

abbrev nBuf : Space → Nat
  | .hbm => 12
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S1x512, .f32⟩
  | .hbm, ⟨2, _⟩ => ⟨S4352x512, .bf16⟩
  | .hbm, ⟨3, _⟩ => ⟨S4352x512, .f32⟩
  | .hbm, ⟨4, _⟩ => ⟨S4352x512, .f32⟩
  | .hbm, ⟨5, _⟩ => ⟨S4352x512, .f32⟩
  | .hbm, ⟨6, _⟩ => ⟨S4352x512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S4352x512, .f32⟩
  | .hbm, ⟨11, _⟩ => ⟨S4352x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel31.lean ====
abbrev S4352x512 : Shape := ⟨2, ![4352, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 9
  | .vmem => 12
  | .smem => 0
  | _ => 0

abbrev bufTy : (tb : Table) → Fin (tcTables nBuf tb) → BufTy
  | .hbm, ⟨0, _⟩ => ⟨S4352x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S4352x512, .bf16⟩
  | .hbm, ⟨5, _⟩ => ⟨S4352x512, .f32⟩
  | .hbm, ⟨6, _⟩ => ⟨S1x512, .f32⟩
  | .hbm, ⟨7, _⟩ => ⟨S1x512, .f32⟩
  | .hbm, ⟨8, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S256x512, .bf16⟩
  | .local _ .vmem, ⟨6, _⟩ => ⟨S256x512, .bf16⟩
  | .local _ .vmem, ⟨7, _⟩ => ⟨S256x512, .f32⟩
  | .local _ .vmem, ⟨8, _⟩ => ⟨S256x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v74 : BitVec 1 := Scalar.cmpi .eq arg0 c0_i32
  let v75 : BitVec 32 := Scalar.extui v74
  let c0_i32_27 : BitVec 32 := 0#32
  let v76 : BitVec 1 := Scalar.cmpi .ne v75 c0_i32_27
  v76

def k0_cond2 (i : grid0.Coords) : BitVec 1 :=
  let arg0 : BitVec 32 := BitVec.ofNat 32 (i 0).val
  let c0_i32_28 : BitVec 32 := 0#32
  let v77 : BitVec 1 := Scalar.cmpi .sgt arg0 c0_i32_28
  let v78 : BitVec 32 := Scalar.extui v77
  let c0_i32_29 : BitVec 32 := 0#32
  let v79 : BitVec 1 := Scalar.cmpi .ne v78 c0_i32_29
  v79

def k0_cond3 (i : grid0.Coords) : BitVec 1 :=
  let arg0 : BitVec 32 := BitVec.ofNat 32 (i 0).val
  let c0_i32_30 : BitVec 32 := 0#32
  let v80 : BitVec 1 := Scalar.cmpi .eq arg0 c0_i32_30
  let v81 : BitVec 32 := Scalar.extui v80
  let c0_i32_31 : BitVec 32 := 0#32
  let v82 : BitVec 1 := Scalar.cmpi .ne v81 c0_i32_31
  v82

def k0_cond4 (i : grid0.Coords) : BitVec 1 :=
  let arg0 : BitVec 32 := BitVec.ofNat 32 (i 0).val
  let c0_i32_32 : BitVec 32 := 0#32
  let v83 : BitVec 1 := Scalar.cmpi .sgt arg0 c0_i32_32
  let v84 : BitVec 32 := Scalar.extui v83
  let c0_i32_33 : BitVec 32 := 0#32
  let v85 : BitVec 1 := Scalar.cmpi .ne v84 c0_i32_33
  v85

def k0_cond5 (i : grid0.Coords) : BitVec 1 :=
  let arg0 : BitVec 32 := BitVec.ofNat 32 (i 0).val
  let c0_i32_34 : BitVec 32 := 0#32
  let v86 : BitVec 1 := Scalar.cmpi .eq arg0 c0_i32_34
  let v87 : BitVec 32 := Scalar.extui v86
  let c0_i32_35 : BitVec 32 := 0#32
  let v88 : BitVec 1 := Scalar.cmpi .ne v87 c0_i32_35
  v88

def k0_cond6 (i : grid0.Coords) : BitVec 1 :=
  let arg0 : BitVec 32 := BitVec.ofNat 32 (i 0).val
  let c0_i32_36 : BitVec 32 := 0#32
  let v89 : BitVec 1 := Scalar.cmpi .sgt arg0 c0_i32_36
  let v90 : BitVec 32 := Scalar.extui v89
  let c0_i32_37 : BitVec 32 := 0#32
  let v91 : BitVec 1 := Scalar.cmpi .ne v90 c0_i32_37
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference31Ideal.lean ====
abbrev S4352x512 : Shape := ⟨2, ![4352, 512]⟩
abbrev S1x512 : Shape := ⟨2, ![1, 512]⟩
abbrev S4352 : Shape := ⟨1, ![4352]⟩
abbrev S4352x1 : Shape := ⟨2, ![4352, 1]⟩
abbrev S512 : Shape := ⟨1, ![512]⟩

abbrev nBuf : Space → Nat
  | .hbm => 9
  | .vmem => 9
  | .smem => 0
  | _ => 0

abbrev bufTy : (tb : Table) → Fin (tcTables nBuf tb) → BufTy
  | .hbm, ⟨0, _⟩ => ⟨S4352x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S4352x512, .bf16⟩
  | .hbm, ⟨5, _⟩ => ⟨S4352x512, .f32⟩
  | .hbm, ⟨6, _⟩ => ⟨S1x512, .f32⟩
  | .hbm, ⟨7, _⟩ => ⟨S1x512, .f32⟩
  | .hbm, ⟨8, _⟩ => ⟨S1x512, .f32⟩
  | .local _ .vmem, ⟨0, _⟩ => ⟨S4352x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S4352x512, .bf16⟩
  | .local _ .vmem, ⟨5, _⟩ => ⟨S4352x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4352x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4352x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4352x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Kernel32.lean ====
abbrev S4352x512 : Shape := ⟨2, ![4352, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4352x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S4352x512, .bf16⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S256x512, .bf16⟩
  | .local _ .vmem, ⟨6, _⟩ => ⟨S256x512, .bf16⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference32Ideal.lean ====
abbrev S4352x512 : Shape := ⟨2, ![4352, 512]⟩
abbrev S1x512 : Shape := ⟨2, ![1, 512]⟩
abbrev S_ : Shape := ⟨0, ![]⟩
abbrev S4352 : Shape := ⟨1, ![4352]⟩
abbrev S4352x1 : Shape := ⟨2, ![4352, 1]⟩

abbrev nBuf : Space → Nat
  | .hbm => 41
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S4352x512, .f32⟩
  | .hbm, ⟨5, _⟩ => ⟨S4352x512, .f32⟩
  | .hbm, ⟨6, _⟩ => ⟨S_, .f32⟩
  | .hbm, ⟨7, _⟩ => ⟨S4352, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S4352x512, .f32⟩
  | .hbm, ⟨13, _⟩ => ⟨S4352x512, .f32⟩
  | .hbm, ⟨14, _⟩ => ⟨S4352x512, .f32⟩
  | .hbm, ⟨15, _⟩ => ⟨S_, .f32⟩
  | .hbm, ⟨16, _⟩ => ⟨S4352, .f32⟩
  | .hbm, ⟨17, _⟩ => ⟨S4352x1, .f32⟩
  | .hbm, ⟨18, _⟩ => ⟨S_, .f32⟩
  | .hbm, ⟨19, _⟩ => ⟨S4352x1, .f32⟩
  | .hbm, ⟨20, _⟩ => ⟨S4352x1, .f32⟩
  | .hbm, ⟨21, _⟩ => ⟨S_, .f32⟩
  | .hbm, ⟨22, _⟩ => ⟨S4352x1, .f32⟩
  | .hbm, ⟨23, _⟩ => ⟨S4352x1, .f32⟩
  | .hbm, ⟨24, _⟩ => ⟨S4352x1, .f32⟩
  | .hbm, ⟨25, _⟩ => ⟨S4352x512, .f32⟩
  | .hbm, ⟨26, _⟩ => ⟨S4352x512, .f32⟩
  | .hbm, ⟨27, _⟩ => ⟨S4352x512, .f32⟩
  | .hbm, ⟨28, _⟩ => ⟨S4352x512, .f32⟩
  | .hbm, ⟨29, _⟩ => ⟨S4352x512, .f32⟩
  | .hbm, ⟨30, _⟩ => ⟨S4352x512, .f32⟩
  | .hbm, ⟨31, _⟩ => ⟨S4352x512, .f32⟩
  | .hbm, ⟨32, _⟩ => ⟨S4352x512, .f32⟩
  | .hbm, ⟨33, _⟩ => ⟨S_, .f32⟩
  | .hbm, ⟨34, _⟩ => ⟨S4352x512, .f32⟩
  | .hbm, ⟨35, _⟩ => ⟨S4352x512, .f32⟩
  | .hbm, ⟨36, _⟩ => ⟨S_, .f32⟩
  | .hbm, ⟨37, _⟩ => ⟨S4352x512, .f32⟩
  | .hbm, ⟨38, _⟩ => ⟨S4352x512, .f32⟩
  | .hbm, ⟨39, _⟩ => ⟨S4352x512, .f32⟩
  | .hbm, ⟨40, _⟩ => ⟨S4352x512, .bf16⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Kernel33.lean ====
abbrev S4352x512 : Shape := ⟨2, ![4352, 512]⟩
abbrev S1x512 : Shape := ⟨2, ![1, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x512, .f32⟩
  | .hbm, ⟨1, _⟩ => ⟨S1x512, .f32⟩
  | .hbm, ⟨2, _⟩ => ⟨S4352x512, .bf16⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S256x512, .bf16⟩
  | .local _ .vmem, ⟨4, _⟩ => ⟨S256x512, .bf16⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference33Ideal.lean ====
abbrev S4352x512 : Shape := ⟨2, ![4352, 512]⟩
abbrev S1x512 : Shape := ⟨2, ![1, 512]⟩

abbrev nBuf : Space → Nat
  | .hbm => 5
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S1x512, .f32⟩
  | .hbm, ⟨2, _⟩ => ⟨S4352x512, .f32⟩
  | .hbm, ⟨3, _⟩ => ⟨S4352x512, .f32⟩
  | .hbm, ⟨4, _⟩ => ⟨S4352x512, .bf16⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel34.lean ====
abbrev S4352x8192 : Shape := ⟨2, ![4352, 8192]⟩
abbrev S4352x512 : Shape := ⟨2, ![4352, 512]⟩
abbrev S256x1024 : Shape := ⟨2, ![256, 1024]⟩
abbrev S256x512 : Shape := ⟨2, ![256, 512]⟩

abbrev nBuf : Space → Nat
  | .hbm => 2
  | .vmem => 4
  | .smem => 0
  | _ => 0

abbrev bufTy : (tb : Table) → Fin (tcTables nBuf tb) → BufTy
  | .hbm, ⟨0, _⟩ => ⟨S4352x8192, .bf16⟩
  | .hbm, ⟨1, _⟩ => ⟨S4352x512, .f32⟩
  | .local _ .vmem, ⟨0, _⟩ => ⟨S256x1024, .bf16⟩
  | .local _ .vmem, ⟨1, _⟩ => ⟨S256x1024, .bf16⟩
  | .local _ .vmem, ⟨2, _⟩ => ⟨S256x512, .f32⟩
  | .local _ .vmem, ⟨3, _⟩ => ⟨S256x512, .f32⟩
  | _, _ => ⟨S4352x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference34Ideal.lean ====
abbrev S4352x8192 : Shape := ⟨2, ![4352, 8192]⟩
abbrev S4352x512 : Shape := ⟨2, ![4352, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4352x8192, .bf16⟩
  | .hbm, ⟨1, _⟩ => ⟨S4352x512, .bf16⟩
  | .hbm, ⟨2, _⟩ => ⟨S4352x512, .f32⟩
  | .hbm, ⟨3, _⟩ => ⟨S4352x512, .bf16⟩
  | .hbm, ⟨4, _⟩ => ⟨S4352x512, .f32⟩
  | .hbm, ⟨5, _⟩ => ⟨S4352x512, .f32⟩
  | .hbm, ⟨6, _⟩ => ⟨S4352x512, .f32⟩
  | .hbm, ⟨7, _⟩ => ⟨S_, .f32⟩
  | .hbm, ⟨8, _⟩ => ⟨S4352x512, .f32⟩
  | .hbm, ⟨9, _⟩ => ⟨S4352x512, .f32⟩
  | .hbm, ⟨10, _⟩ => ⟨S_, .f32⟩
  | .hbm, ⟨11, _⟩ => ⟨S4352x512, .f32⟩
  | .hbm, ⟨12, _⟩ => ⟨S4352x512, .f32⟩
  | .hbm, ⟨13, _⟩ => ⟨S4352x512, .f32⟩
  | _, _ => ⟨S4352x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel35.lean ====
abbrev S4352x1024 : Shape := ⟨2, ![4352, 1024]⟩
abbrev S2x1x1024 : Shape := ⟨3, ![2, 1, 1024]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference35Ideal.lean ====
abbrev S4352x1024 : Shape := ⟨2, ![4352, 1024]⟩
abbrev S2x1x1024 : Shape := ⟨3, ![2, 1, 1024]⟩
abbrev S1x1024 : Shape := ⟨2, ![1, 1024]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S1x1x1024 : Shape := ⟨3, ![1, 1, 1024]⟩
abbrev S4096x1024 : Shape := ⟨2, ![4096, 1024]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S1x1x1024, .f32⟩
  | .hbm, ⟨21, _⟩ => ⟨S1x1024, .f32⟩
  | .hbm, ⟨22, _⟩ => ⟨S1x1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S1x1x1024, .f32⟩
  | .hbm, ⟨48, _⟩ => ⟨S1x1024, .f32⟩
  | .hbm, ⟨49, _⟩ => ⟨S1x1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4352x1024, .f32⟩
  | .hbm, ⟨59, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Kernel36.lean ====
abbrev S4352x1024 : Shape := ⟨2, ![4352, 1024]⟩
abbrev S2x1x1024 : Shape := ⟨3, ![2, 1, 1024]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S4352x1024, .bf16⟩
  | .hbm, ⟨2, _⟩ => ⟨S2x1x1024, .f32⟩
  | .hbm, ⟨3, _⟩ => ⟨S1x1024, .f32⟩
  | .hbm, ⟨4, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference36Ideal.lean ====
abbrev S4352x1024 : Shape := ⟨2, ![4352, 1024]⟩
abbrev S2x1x1024 : Shape := ⟨3, ![2, 1, 1024]⟩
abbrev S1x1024 : Shape := ⟨2, ![1, 1024]⟩
abbrev S256x1024 : Shape := ⟨2, ![256, 1024]⟩
abbrev S1x1x1024 : Shape := ⟨3, ![1, 1, 1024]⟩
abbrev S_ : Shape := ⟨0, ![]⟩
abbrev S256 : Shape := ⟨1, ![256]⟩
abbrev S256x1 : Shape := ⟨2, ![256, 1]⟩
abbrev S4096x1024 : Shape := ⟨2, ![4096, 1024]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .bf16⟩
  | .hbm, ⟨2, _⟩ => ⟨S2x1x1024, .f32⟩
  | .hbm, ⟨3, _⟩ => ⟨S1x1024, .f32⟩
  | .hbm, ⟨4, _⟩ => ⟨S4352x1024, .f32⟩
  | .hbm, ⟨5, _⟩ => ⟨S256x1024, .f32⟩
  | .hbm, ⟨6, _⟩ => ⟨S1x1x1024, .f32⟩
  | .hbm, ⟨7, _⟩ => ⟨S1x1024, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S4096x1024, .f32⟩
  | .hbm, ⟨28, _⟩ => ⟨S1x1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel37.lean ====
abbrev S4352x1024 : Shape := ⟨2, ![4352, 1024]⟩
abbrev S2x1x1024 : Shape := ⟨3, ![2, 1, 1024]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S4352x1024, .f32⟩
  | .hbm, ⟨1, _⟩ => ⟨S4352x1024, .bf16⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1x1024, .f32⟩
  | .hbm, ⟨6, _⟩ => ⟨S1x1024, .f32⟩
  | .hbm, ⟨7, _⟩ => ⟨S4352x1024, .f32⟩
  | .hbm, ⟨8, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_4 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference37Ideal.lean ====
abbrev S4352x1024 : Shape := ⟨2, ![4352, 1024]⟩
abbrev S2x1x1024 : Shape := ⟨3, ![2, 1, 1024]⟩
abbrev S1x1024 : Shape := ⟨2, ![1, 1024]⟩
abbrev S256x1024 : Shape := ⟨2, ![256, 1024]⟩
abbrev S1x1x1024 : Shape := ⟨3, ![1, 1, 1024]⟩
abbrev S_ : Shape := ⟨0, ![]⟩
abbrev S256 : Shape := ⟨1, ![256]⟩
abbrev S256x1 : Shape := ⟨2, ![256, 1]⟩
abbrev S4096x1024 : Shape := ⟨2, ![4096, 1024]⟩
abbrev S4096 : Shape := ⟨1, ![4096]⟩
abbrev S4096x1 : Shape := ⟨2, ![4096, 1]⟩

abbrev nBuf : Space → Nat
  | .hbm => 107
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .bf16⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1x1024, .f32⟩
  | .hbm, ⟨6, _⟩ => ⟨S1x1024, .f32⟩
  | .hbm, ⟨7, _⟩ => ⟨S4352x1024, .f32⟩
  | .hbm, ⟨8, _⟩ => ⟨S256x1024, .f32⟩
  | .hbm, ⟨9, _⟩ => ⟨S1x1x1024, .f32⟩
  | .hbm, ⟨10, _⟩ => ⟨S1x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S256x1, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S4096x1024, .f32⟩
  | .hbm, ⟨31, _⟩ => ⟨S1x1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S256x1024, .f32⟩
  | .hbm, ⟨53, _⟩ => ⟨S_, .f32⟩
  | .hbm, ⟨54, _⟩ => ⟨S256, .f32⟩
  | .hbm, ⟨55, _⟩ => ⟨S256x1, .f32⟩
  | .hbm, ⟨56, _⟩ => ⟨S_, .f32⟩
  | .hbm, ⟨57, _⟩ => ⟨S256x1, .f32⟩
  | .hbm, ⟨58, _⟩ => ⟨S256x1, .f32⟩
  | .hbm, ⟨59, _⟩ => ⟨S_, .f32⟩
  | .hbm, ⟨60, _⟩ => ⟨S256x1, .f32⟩
  | .hbm, ⟨61, _⟩ => ⟨S256x1, .f32⟩
  | .hbm, ⟨62, _⟩ => ⟨S256x1, .f32⟩
  | .hbm, ⟨63, _⟩ => ⟨S256x1024, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S1x1x1024, .f32⟩
  | .hbm, ⟨68, _⟩ => ⟨S1x1024, .f32⟩
  | .hbm, ⟨69, _⟩ => ⟨S1x1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S256x1024, .f32⟩
  | .hbm, ⟨75, _⟩ => ⟨S256x1024, .f32⟩
  | .hbm, ⟨76, _⟩ => ⟨S256x1024, .f32⟩
  | .hbm, ⟨77, _⟩ => ⟨S256x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S1x1x1024, .f32⟩
  | .hbm, ⟨94, _⟩ => ⟨S1x1024, .f32⟩
  | .hbm, ⟨95, _⟩ => ⟨S1x1x1024, .f32⟩
  | .hbm, ⟨96, _⟩ => ⟨S1x1024, .f32⟩
  | .hbm, ⟨97, _⟩ => ⟨S_, .f32⟩
  | .hbm, ⟨98, _⟩ => ⟨S1x1024, .f32⟩
  | .hbm, ⟨99, _⟩ => ⟨S1x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4352x1024, .f32⟩
  | .hbm, ⟨105, _⟩ => ⟨S4352x1024, .f32⟩
  | .hbm, ⟨106, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_cst_10 : Ref sig .tc := ⟨.hbm, 82, rfl⟩
abbrev main_v64 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_12 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩

abbrev nD : Nat := 1
abbrev τ : Topo := Topo.v7x

variable {F : FTy → Type} [FloatOps F]
-- ==== Kernel38.lean ====
abbrev S4352x1024 : Shape := ⟨2, ![4352, 1024]⟩
abbrev S4352x8192 : Shape := ⟨2, ![4352, 8192]⟩
abbrev S1x1024 : Shape := ⟨2, ![1, 1024]⟩
abbrev S128x1024 : Shape := ⟨2, ![128, 1024]⟩
abbrev S128x3072 : Shape := ⟨2, ![128, 3072]⟩

abbrev nBuf : Space → Nat
  | .hbm => 8
  | .vmem => 13
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x8192, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4352x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x3072, .bf16⟩
  | .local _ .vmem, ⟨7, _⟩ => ⟨S128x3072, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S128x1024, .bf16⟩
  | .local _ .vmem, ⟨12, _⟩ => ⟨S128x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference38Ideal.lean ====
abbrev S4352x1024 : Shape := ⟨2, ![4352, 1024]⟩
abbrev S4352x8192 : Shape := ⟨2, ![4352, 8192]⟩
abbrev S1x1024 : Shape := ⟨2, ![1, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x8192, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4352x8192, .f32⟩
  | .hbm, ⟨8, _⟩ => ⟨S4352x1024, .f32⟩
  | .hbm, ⟨9, _⟩ => ⟨S4352x1024, .f32⟩
  | .hbm, ⟨10, _⟩ => ⟨S4352x1024, .f32⟩
  | .hbm, ⟨11, _⟩ => ⟨S4352x1024, .f32⟩
  | .hbm, ⟨12, _⟩ => ⟨S4352x1024, .f32⟩
  | .hbm, ⟨13, _⟩ => ⟨S_, .f32⟩
  | .hbm, ⟨14, _⟩ => ⟨S4352x1024, .f32⟩
  | .hbm, ⟨15, _⟩ => ⟨S4352x1024, .f32⟩
  | .hbm, ⟨16, _⟩ => ⟨S_, .f32⟩
  | .hbm, ⟨17, _⟩ => ⟨S4352x1024, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S4352x1024, .f32⟩
  | .hbm, ⟨22, _⟩ => ⟨S4352x1024, .f32⟩
  | .hbm, ⟨23, _⟩ => ⟨S4352x1024, .f32⟩
  | .hbm, ⟨24, _⟩ => ⟨S_, .f32⟩
  | .hbm, ⟨25, _⟩ => ⟨S4352x1024, .f32⟩
  | .hbm, ⟨26, _⟩ => ⟨S4352x1024, .f32⟩
  | .hbm, ⟨27, _⟩ => ⟨S_, .f32⟩
  | .hbm, ⟨28, _⟩ => ⟨S4352x1024, .f32⟩
  | .hbm, ⟨29, _⟩ => ⟨S4352x1024, .f32⟩
  | .hbm, ⟨30, _⟩ => ⟨S4352x1024, .f32⟩
  | .hbm, ⟨31, _⟩ => ⟨S4352x1024, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S_, .f32⟩
  | .hbm, ⟨36, _⟩ => ⟨S4352x1024, .f32⟩
  | .hbm, ⟨37, _⟩ => ⟨S4352x1024, .f32⟩
  | .hbm, ⟨38, _⟩ => ⟨S_, .f32⟩
  | .hbm, ⟨39, _⟩ => ⟨S4352x1024, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S4352x1024, .f32⟩
  | .hbm, ⟨49, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel39.lean ====
abbrev S4352x1024 : Shape := ⟨2, ![4352, 1024]⟩
abbrev S4352x8192 : Shape := ⟨2, ![4352, 8192]⟩
abbrev S1x1024 : Shape := ⟨2, ![1, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x8192, .bf16⟩
  | .hbm, ⟨3, _⟩ => ⟨S1x1024, .f32⟩
  | .hbm, ⟨4, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference39Ideal.lean ====
abbrev S4352x1024 : Shape := ⟨2, ![4352, 1024]⟩
abbrev S4352x8192 : Shape := ⟨2, ![4352, 8192]⟩
abbrev S1x1024 : Shape := ⟨2, ![1, 1024]⟩
abbrev S4352x4x256 : Shape := ⟨3, ![4352, 4, 256]⟩
abbrev S4x256 : Shape := ⟨2, ![4, 256]⟩
abbrev S_ : Shape := ⟨0, ![]⟩
abbrev S4352x4 : Shape := ⟨2, ![4352, 4]⟩
abbrev S4352x4x1 : Shape := ⟨3, ![4352, 4, 1]⟩
abbrev S1x4x256 : Shape := ⟨3, ![1, 4, 256]⟩

abbrev nBuf : Space → Nat
  | .hbm => 37
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x8192, .bf16⟩
  | .hbm, ⟨3, _⟩ => ⟨S1x1024, .f32⟩
  | .hbm, ⟨4, _⟩ => ⟨S4352x1024, .f32⟩
  | .hbm, ⟨5, _⟩ => ⟨S4352x4x256, .f32⟩
  | .hbm, ⟨6, _⟩ => ⟨S4x256, .f32⟩
  | .hbm, ⟨7, _⟩ => ⟨S4352x4x256, .f32⟩
  | .hbm, ⟨8, _⟩ => ⟨S_, .f32⟩
  | .hbm, ⟨9, _⟩ => ⟨S4352x4, .f32⟩
  | .hbm, ⟨10, _⟩ => ⟨S4352x4x1, .f32⟩
  | .hbm, ⟨11, _⟩ => ⟨S_, .f32⟩
  | .hbm, ⟨12, _⟩ => ⟨S4352x4x1, .f32⟩
  | .hbm, ⟨13, _⟩ => ⟨S4352x4x1, .f32⟩
  | .hbm, ⟨14, _⟩ => ⟨S_, .f32⟩
  | .hbm, ⟨15, _⟩ => ⟨S4352x4x1, .f32⟩
  | .hbm, ⟨16, _⟩ => ⟨S4352x4x1, .f32⟩
  | .hbm, ⟨17, _⟩ => ⟨S4352x4x1, .f32⟩
  | .hbm, ⟨18, _⟩ => ⟨S4352x4x256, .f32⟩
  | .hbm, ⟨19, _⟩ => ⟨S4352x4x256, .f32⟩
  | .hbm, ⟨20, _⟩ => ⟨S1x4x256, .f32⟩
  | .hbm, ⟨21, _⟩ => ⟨S4352x4x256, .f32⟩
  | .hbm, ⟨22, _⟩ => ⟨S4352x4x256, .f32⟩
  | .hbm, ⟨23, _⟩ => ⟨S4352x1024, .f32⟩
  | .hbm, ⟨24, _⟩ => ⟨S4352x1024, .bf16⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S_, .f32⟩
  | .hbm, ⟨29, _⟩ => ⟨S4352x1024, .f32⟩
  | .hbm, ⟨30, _⟩ => ⟨S4352x1024, .f32⟩
  | .hbm, ⟨31, _⟩ => ⟨S_, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel40.lean ====
abbrev S4352x1024 : Shape := ⟨2, ![4352, 1024]⟩
abbrev S1x1024 : Shape := ⟨2, ![1, 1024]⟩
abbrev S4352x512 : Shape := ⟨2, ![4352, 512]⟩
abbrev S256x1024 : Shape := ⟨2, ![256, 1024]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S4352x512, .f32⟩
  | .hbm, ⟨3, _⟩ => ⟨S4352x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference40Ideal.lean ====
abbrev S4352x1024 : Shape := ⟨2, ![4352, 1024]⟩
abbrev S1x1024 : Shape := ⟨2, ![1, 1024]⟩
abbrev S_ : Shape := ⟨0, ![]⟩
abbrev S4352x512 : Shape := ⟨2, ![4352, 512]⟩

abbrev nBuf : Space → Nat
  | .hbm => 25
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S4352x1024, .f32⟩
  | .hbm, ⟨3, _⟩ => ⟨S4352x1024, .f32⟩
  | .hbm, ⟨4, _⟩ => ⟨S4352x1024, .f32⟩
  | .hbm, ⟨5, _⟩ => ⟨S_, .f32⟩
  | .hbm, ⟨6, _⟩ => ⟨S4352x1024, .f32⟩
  | .hbm, ⟨7, _⟩ => ⟨S4352x1024, .f32⟩
  | .hbm, ⟨8, _⟩ => ⟨S4352x1024, .f32⟩
  | .hbm, ⟨9, _⟩ => ⟨S4352x1024, .f32⟩
  | .hbm, ⟨10, _⟩ => ⟨S4352x1024, .i1⟩
  | .hbm, ⟨11, _⟩ => ⟨S4352x1024, .f32⟩
  | .hbm, ⟨12, _⟩ => ⟨S4352x1024, .f32⟩
  | .hbm, ⟨13, _⟩ => ⟨S4352x1024, .f32⟩
  | .hbm, ⟨14, _⟩ => ⟨S4352x1024, .f32⟩
  | .hbm, ⟨15, _⟩ => ⟨S4352x1024, .f32⟩
  | .hbm, ⟨16, _⟩ => ⟨S4352x1024, .f32⟩
  | .hbm, ⟨17, _⟩ => ⟨S4352x1024, .f32⟩
  | .hbm, ⟨18, _⟩ => ⟨S4352x1024, .f32⟩
  | .hbm, ⟨19, _⟩ => ⟨S4352x1024, .f32⟩
  | .hbm, ⟨20, _⟩ => ⟨S_, .f32⟩
  | .hbm, ⟨21, _⟩ => ⟨S4352x1024, .f32⟩
  | .hbm, ⟨22, _⟩ => ⟨S4352x1024, .f32⟩
  | .hbm, ⟨23, _⟩ => ⟨S4352x512, .f32⟩
  | .hbm, ⟨24, _⟩ => ⟨S4352x512, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== Proof.Gla.Window.lean ====
/- Running sums as the host states them, sums over sliding windows of the padded array: at the ideal instance
   the sum of the entries up to, or from, a row. -/
module

public import proofs.«01_k».proof.Proof.Gen.ReferenceIdeal.Read
public import Idealize.ShloMosaic.Lib.Pointwise

@[expose] public section

noncomputable section

namespace Cert.GlaSpec

open Idealize.ShloMosaic

theorem foldl_add {ι : Type} (f : ι → EReal) (L : List ι) (a : EReal) :
    L.foldl (fun r n => r + f n) a = a + (L.map f).sum := by
  induction L generalizing a with
  | nil => simp
  | cons x L ih => rw [List.foldl_cons, ih, List.map_cons, List.sum_cons, add_assoc]

/-- A window of extent `N` that ends at row `t`, over rows numbered from `1 - N`. -/
theorem sum_upto {N : ℕ} (t : Fin N) (f : Fin N → EReal) :
    (∑ w : Fin N, if h : N - 1 ≤ t.val + w.val ∧ t.val + w.val - (N - 1) < N then f ⟨t.val + w.val - (N - 1), h.2⟩ else 0) =
      ∑ s, if s ≤ t then f s else 0 := by
  have e : ∀ w : Fin N, (if h : N - 1 ≤ t.val + w.val ∧ t.val + w.val - (N - 1) < N then
      f ⟨t.val + w.val - (N - 1), h.2⟩ else 0) =
      if N - 1 ≤ t.val + w.val then f ⟨t.val + w.val - (N - 1), by omega⟩ else 0 := fun w => by
    by_cases h : N - 1 ≤ t.val + w.val
    · rw [dif_pos ⟨h, by omega⟩, if_pos h]
    · rw [dif_neg (fun k => h k.1), if_neg h]
  simp only [e]
  rw [← Finset.sum_filter, ← Finset.sum_filter]
  refine Finset.sum_bij (fun w _ => ⟨t.val + w.val - (N - 1), by omega⟩) ?_ ?_ ?_ ?_
  · intro w hw
    simp only [Finset.mem_filter, Finset.mem_univ, true_and] at hw ⊢
    rw [Fin.le_def]; simp only; omega
  · intro w hw w' hw' h
    simp only [Finset.mem_filter, Finset.mem_univ, true_and, Fin.mk.injEq] at hw hw' h
    exact Fin.ext (by omega)
  · intro s hs
    simp only [Finset.mem_filter, Finset.mem_univ, true_and, Fin.le_def] at hs
    refine ⟨⟨s.val + (N - 1) - t.val, by omega⟩, ?_, ?_⟩
    · simp only [Finset.mem_filter, Finset.mem_univ, true_and]; omega
    · exact Fin.ext (by simp only; omega)
  · intro w hw
    rfl

/-- A window of extent `N` that begins at row `t`. -/
theorem sum_from {N : ℕ} (t : Fin N) (f : Fin N → EReal) :
    (∑ w : Fin N, if h : t.val + w.val < N then f ⟨t.val + w.val, h⟩ else 0) = ∑ s, if t ≤ s then f s else 0 := by
  have hN : 0 < N := Nat.lt_of_le_of_lt (Nat.zero_le _) t.isLt
  have e : ∀ w : Fin N, (if h : t.val + w.val < N then f ⟨t.val + w.val, h⟩ else 0) =
      if t.val + w.val < N then f ⟨(t.val + w.val) % N, Nat.mod_lt _ hN⟩ else 0 := fun w => by
    by_cases h : t.val + w.val < N
    · rw [dif_pos h, if_pos h]; exact congrArg f (Fin.ext (Nat.mod_eq_of_lt h).symm)
    · rw [dif_neg h, if_neg h]
  simp only [e]
  rw [← Finset.sum_filter, ← Finset.sum_filter]
  refine Finset.sum_bij (fun w _ => ⟨(t.val + w.val) % N, Nat.mod_lt _ hN⟩) ?_ ?_ ?_ ?_
  · intro w hw
    simp only [Finset.mem_filter, Finset.mem_univ, true_and] at hw ⊢
    rw [Fin.le_def]; simp only [Nat.mod_eq_of_lt hw]; omega
  · intro w hw w' hw' h
    simp only [Finset.mem_filter, Finset.mem_univ, true_and] at hw hw'
    simp only [Fin.mk.injEq, Nat.mod_eq_of_lt hw, Nat.mod_eq_of_lt hw'] at h
    exact Fin.ext (by omega)
  · intro s hs
    simp only [Finset.mem_filter, Finset.mem_univ, true_and, Fin.le_def] at hs
    refine ⟨⟨s.val - t.val, by omega⟩, ?_, ?_⟩
    · simp only [Finset.mem_filter, Finset.mem_univ, true_and]; omega
    · refine Fin.ext ?_
      have : t.val + (s.val - t.val) = s.val := by omega
      simp only [this, Nat.mod_eq_of_lt s.isLt]
  · intro w hw
    rfl

/-- The windowed sum as a sum over the window's positions. -/
theorem window_sum {s t u : Shape} (window strides lo hi : Fin s.rank → Nat) (x : FVec Ideal s .f32)
    (v : FVec Ideal u .f32) (h : s.ReduceWindows window strides lo hi t) (hu : 0 < u.numel)
    (hv : (v (Shape.Idx.first hu) : EReal) = 0) (j : t.Idx) :
    (Host.reduceWindowAdd (F := Ideal) window strides lo hi x v h hu j : EReal) =
      ∑ w : (⟨s.rank, window⟩ : Shape).Idx,
        if hin : ∀ a, lo a ≤ (j (a.cast h.1.symm)).val * strides a + (w a).val ∧
            (j (a.cast h.1.symm)).val * strides a + (w a).val - lo a < s.size a then
          x (fun a => ⟨(j (a.cast h.1.symm)).val * strides a + (w a).val - lo a, (hin a).2⟩)
        else 0 := by
  simp only [Host.reduceWindowAdd, Ideal.hostReduceWindowAdd_def, Ideal.hostReduceWindowAdd, Host.reduceWindow]
  rw [hv]
  rw [foldl_add, zero_add, ← Fin.sum_univ_def]
  exact Equiv.sum_comp (⟨s.rank, window⟩ : Shape).rowMajor.symm (fun w => if hin : ∀ a, lo a ≤ (j (a.cast h.1.symm)).val * strides a + (w a).val ∧
            (j (a.cast h.1.symm)).val * strides a + (w a).val - lo a < s.size a then
          x (fun a => ⟨(j (a.cast h.1.symm)).val * strides a + (w a).val - lo a, (hin a).2⟩)
        else 0)

/-- A window's positions along the second axis of four, the other extents one. -/
def win4 (N : ℕ) : (⟨4, ![1, N, 1, 1]⟩ : Shape).Idx ≃ Fin N where
  toFun w := w 1
  invFun k := ix4 0 k 0 0
  left_inv w := by
    funext a
    have h0 : (w 0).val < 1 := (w 0).isLt
    have h2 : (w 2).val < 1 := (w 2).isLt
    have h3 : (w 3).val < 1 := (w 3).isLt
    fin_cases a
    · exact Fin.ext (by show 0 = (w 0).val; omega)
    · rfl
    · exact Fin.ext (by show 0 = (w 2).val; omega)
    · exact Fin.ext (by show 0 = (w 3).val; omega)
  right_inv k := rfl

/-- … and along the first axis of three. -/
def win3 (N : ℕ) : (⟨3, ![N, 1, 1]⟩ : Shape).Idx ≃ Fin N where
  toFun w := w 0
  invFun k := ix3 k 0 0
  left_inv w := by
    funext a
    have h1 : (w 1).val < 1 := (w 1).isLt
    have h2 : (w 2).val < 1 := (w 2).isLt
    fin_cases a
    · rfl
    · exact Fin.ext (by show 0 = (w 1).val; omega)
    · exact Fin.ext (by show 0 = (w 2).val; omega)
  right_inv k := rfl

end Cert.GlaSpec

namespace Cert.ReferenceIdeal.Gla

open Cert.ReferenceIdeal Cert.ReferenceIdeal.Gen Cert.ReferenceIdeal.Read Idealize.ShloMosaic Cert.GlaSpec

theorem cumsum4 (x : FVec Ideal S68x64x4x128 .f32) (v : FVec Ideal S_ .f32) {h hu}
    (hv : (v (Shape.Idx.first hu) : EReal) = 0) (n : Fin 68) (t : Fin 64) (hh : Fin 4) (d : Fin 128) :
    (Host.reduceWindowAdd (t := S68x64x4x128) ![1, 64, 1, 1] ![1, 1, 1, 1] ![0, 63, 0, 0] ![0, 0, 0, 0] x v h hu (ix4 n t hh d) : EReal) =
      ∑ s, if s ≤ t then (x (ix4 n s hh d) : EReal) else 0 := by
  rw [window_sum _ _ _ _ _ _ _ _ hv, ← sum_upto t (fun s => (x (ix4 n s hh d) : EReal))]
  refine Fintype.sum_equiv (win4 64) _ _ fun w => ?_
  have h0 : (w 0).val < 1 := (w 0).isLt
  have h2 : (w 2).val < 1 := (w 2).isLt
  have h3 : (w 3).val < 1 := (w 3).isLt
  have e1 : (win4 64 w).val = (w 1).val := rfl
  split_ifs with c1 c2 c2
  · refine congrArg x (funext fun a => Fin.ext ?_)
    fin_cases a
    · show n.val * 1 + (w 0).val - 0 = n.val; omega
    · show t.val * 1 + (w 1).val - 63 = t.val + (win4 64 w).val - 63; omega
    · show hh.val * 1 + (w 2).val - 0 = hh.val; omega
    · show d.val * 1 + (w 3).val - 0 = d.val; omega
  · exfalso
    have := c1 1
    change 63 ≤ t.val * 1 + (w 1).val ∧ t.val * 1 + (w 1).val - 63 < 64 at this
    omega
  · exfalso
    refine c1 fun a => ?_
    fin_cases a
    · show 0 ≤ n.val * 1 + (w 0).val ∧ n.val * 1 + (w 0).val - 0 < 68; omega
    · show 63 ≤ t.val * 1 + (w 1).val ∧ t.val * 1 + (w 1).val - 63 < 64; omega
    · show 0 ≤ hh.val * 1 + (w 2).val ∧ hh.val * 1 + (w 2).val - 0 < 4; omega
    · show 0 ≤ d.val * 1 + (w 3).val ∧ d.val * 1 + (w 3).val - 0 < 128; omega
  · rfl

theorem revsum4 (x : FVec Ideal S68x64x4x128 .f32) (v : FVec Ideal S_ .f32) {h hu}
    (hv : (v (Shape.Idx.first hu) : EReal) = 0) (n : Fin 68) (t : Fin 64) (hh : Fin 4) (d : Fin 128) :
    (Host.reduceWindowAdd (t := S68x64x4x128) ![1, 64, 1, 1] ![1, 1, 1, 1] ![0, 0, 0, 0] ![0, 63, 0, 0] x v h hu (ix4 n t hh d) : EReal) =
      ∑ s, if t ≤ s then (x (ix4 n s hh d) : EReal) else 0 := by
  rw [window_sum _ _ _ _ _ _ _ _ hv, ← sum_from t (fun s => (x (ix4 n s hh d) : EReal))]
  refine Fintype.sum_equiv (win4 64) _ _ fun w => ?_
  have h0 : (w 0).val < 1 := (w 0).isLt
  have h2 : (w 2).val < 1 := (w 2).isLt
  have h3 : (w 3).val < 1 := (w 3).isLt
  have e1 : (win4 64 w).val = (w 1).val := rfl
  split_ifs with c1 c2 c2
  · refine congrArg x (funext fun a => Fin.ext ?_)
    fin_cases a
    · show n.val * 1 + (w 0).val - 0 = n.val; omega
    · show t.val * 1 + (w 1).val - 0 = t.val + (win4 64 w).val; omega
    · show hh.val * 1 + (w 2).val - 0 = hh.val; omega
    · show d.val * 1 + (w 3).val - 0 = d.val; omega
  · exfalso
    have := c1 1
    change 0 ≤ t.val * 1 + (w 1).val ∧ t.val * 1 + (w 1).val - 0 < 64 at this
    omega
  · exfalso
    refine c1 fun a => ?_
    fin_cases a
    · show 0 ≤ n.val * 1 + (w 0).val ∧ n.val * 1 + (w 0).val - 0 < 68; omega
    · show 0 ≤ t.val * 1 + (w 1).val ∧ t.val * 1 + (w 1).val - 0 < 64; omega
    · show 0 ≤ hh.val * 1 + (w 2).val ∧ hh.val * 1 + (w 2).val - 0 < 4; omega
    · show 0 ≤ d.val * 1 + (w 3).val ∧ d.val * 1 + (w 3).val - 0 < 128; omega
  · rfl

theorem cumsum3 (x : FVec Ideal S68x4x128 .f32) (v : FVec Ideal S_ .f32) {h hu}
    (hv : (v (Shape.Idx.first hu) : EReal) = 0) (n : Fin 68) (hh : Fin 4) (d : Fin 128) :
    (Host.reduceWindowAdd (t := S68x4x128) ![68, 1, 1] ![1, 1, 1] ![67, 0, 0] ![0, 0, 0] x v h hu (ix3 n hh d) : EReal) =
      ∑ s, if s ≤ n then (x (ix3 s hh d) : EReal) else 0 := by
  rw [window_sum _ _ _ _ _ _ _ _ hv, ← sum_upto n (fun s => (x (ix3 s hh d) : EReal))]
  refine Fintype.sum_equiv (win3 68) _ _ fun w => ?_
  have h0 : (w 1).val < 1 := (w 1).isLt
  have h2 : (w 2).val < 1 := (w 2).isLt
  have e1 : (win3 68 w).val = (w 0).val := rfl
  split_ifs with c1 c2 c2
  · refine congrArg x (funext fun a => Fin.ext ?_)
    fin_cases a
    · show n.val * 1 + (w 0).val - 67 = n.val + (win3 68 w).val - 67; omega
    · show hh.val * 1 + (w 1).val - 0 = hh.val; omega
    · show d.val * 1 + (w 2).val - 0 = d.val; omega
  · exfalso
    have := c1 0
    change 67 ≤ n.val * 1 + (w 0).val ∧ n.val * 1 + (w 0).val - 67 < 68 at this
    omega
  · exfalso
    refine c1 fun a => ?_
    fin_cases a
    · show 67 ≤ n.val * 1 + (w 0).val ∧ n.val * 1 + (w 0).val - 67 < 68; omega
    · show 0 ≤ hh.val * 1 + (w 1).val ∧ hh.val * 1 + (w 1).val - 0 < 4; omega
    · show 0 ≤ d.val * 1 + (w 2).val ∧ d.val * 1 + (w 2).val - 0 < 128; omega
  · rfl

theorem revsum3 (x : FVec Ideal S68x4x128 .f32) (v : FVec Ideal S_ .f32) {h hu}
    (hv : (v (Shape.Idx.first hu) : EReal) = 0) (n : Fin 68) (hh : Fin 4) (d : Fin 128) :
    (Host.reduceWindowAdd (t := S68x4x128) ![68, 1, 1] ![1, 1, 1] ![0, 0, 0] ![67, 0, 0] x v h hu (ix3 n hh d) : EReal) =
      ∑ s, if n ≤ s then (x (ix3 s hh d) : EReal) else 0 := by
  rw [window_sum _ _ _ _ _ _ _ _ hv, ← sum_from n (fun s => (x (ix3 s hh d) : EReal))]
  refine Fintype.sum_equiv (win3 68) _ _ fun w => ?_
  have h0 : (w 1).val < 1 := (w 1).isLt
  have h2 : (w 2).val < 1 := (w 2).isLt
  have e1 : (win3 68 w).val = (w 0).val := rfl
  split_ifs with c1 c2 c2
  · refine congrArg x (funext fun a => Fin.ext ?_)
    fin_cases a
    · show n.val * 1 + (w 0).val - 0 = n.val + (win3 68 w).val; omega
    · show hh.val * 1 + (w 1).val - 0 = hh.val; omega
    · show d.val * 1 + (w 2).val - 0 = d.val; omega
  · exfalso
    have := c1 0
    change 0 ≤ n.val * 1 + (w 0).val ∧ n.val * 1 + (w 0).val - 0 < 68 at this
    omega
  · exfalso
    refine c1 fun a => ?_
    fin_cases a
    · show 0 ≤ n.val * 1 + (w 0).val ∧ n.val * 1 + (w 0).val - 0 < 68; omega
    · show 0 ≤ hh.val * 1 + (w 1).val ∧ hh.val * 1 + (w 1).val - 0 < 4; omega
    · show 0 ≤ d.val * 1 + (w 2).val ∧ d.val * 1 + (w 2).val - 0 < 128; omega
  · rfl

end Cert.ReferenceIdeal.Gla

end
-- ==== Proof.Gla.Spec.lean ====
/- One chunk of one head of the backward pass over the reals. -/
module

public import Mathlib.Analysis.SpecialFunctions.Exp
public import Mathlib.Data.EReal.Operations

@[expose] public section

noncomputable section

namespace Cert.GlaSpec

/-- A matrix of reals. -/
abbrev Mat (m n : ℕ) := Fin m → Fin n → ℝ

section
variable (σ : ℝ) (q k : Mat 64 128) (v g : Mat 64 256) (l : Mat 64 128) (s ds : Mat 256 128)

/-- The running sum of the log decays, this row included. -/
def b (a : Fin 64) (d : Fin 128) : ℝ := ∑ c, if c ≤ a then l c d else 0

/-- The chunk's whole log decay. -/
def bEnd (d : Fin 128) : ℝ := ∑ c, l c d

def qi (a : Fin 64) (d : Fin 128) : ℝ := q a d * σ * Real.exp (b l a d)

def ki (a : Fin 64) (d : Fin 128) : ℝ := k a d * Real.exp (-b l a d)

def ke (a : Fin 64) (d : Fin 128) : ℝ := k a d * Real.exp (bEnd l d - b l a d)

def att (a c : Fin 64) : ℝ := if c ≤ a then ∑ d, qi σ q l a d * ki k l c d else 0

def datt (a c : Fin 64) : ℝ := if c ≤ a then ∑ e, g a e * v c e else 0

def dqi (a : Fin 64) (d : Fin 128) : ℝ := ∑ c, datt v g a c * ki k l c d + ∑ e, g a e * s e d

def dki (a : Fin 64) (d : Fin 128) : ℝ := ∑ c, datt v g c a * qi σ q l c d

def dke (a : Fin 64) (d : Fin 128) : ℝ := ∑ e, v a e * ds e d

/-- The value's gradient. -/
def dv (a : Fin 64) (e : Fin 256) : ℝ := ∑ c, att σ q k l c a * g c e + ∑ d, ke k l a d * ds e d

/-- The gradient of the state the chunk begins with, from the one it ends with. -/
def dsPrev (e : Fin 256) (d : Fin 128) : ℝ := Real.exp (bEnd l d) * ds e d + ∑ a, g a e * qi σ q l a d

/-- The query's gradient. -/
def dq (a : Fin 64) (d : Fin 128) : ℝ := dqi k v g l s a d * (σ * Real.exp (b l a d))

/-- The key's gradient. -/
def dk (a : Fin 64) (d : Fin 128) : ℝ :=
  dki σ q v g l a d * Real.exp (-b l a d) + dke v ds a d * Real.exp (bEnd l d - b l a d)

/-- The gradient of the running sums. -/
def db (a : Fin 64) (d : Fin 128) : ℝ :=
  dqi k v g l s a d * qi σ q l a d - dki σ q v g l a d * ki k l a d - dke v ds a d * ke k l a d

/-- The gradient of the chunk's whole log decay. -/
def dbEnd (d : Fin 128) : ℝ := ∑ c, dke v ds c d * ke k l c d + (∑ e, ds e d * s e d) * Real.exp (bEnd l d)

/-- The log decays' gradient. -/
def dl (a : Fin 64) (d : Fin 128) : ℝ :=
  ∑ c, (if a ≤ c then db σ q k v g l s ds c d else 0) + dbEnd k v l s ds d

end

/-- A sum of reals is the sum of them as extended reals. -/
theorem coe_sum {ι : Type*} (t : Finset ι) (f : ι → ℝ) : ((∑ i ∈ t, f i : ℝ) : EReal) = ∑ i ∈ t, (f i : EReal) := by
  classical
  induction t using Finset.induction_on with
  | empty => simp
  | insert i t h ih => rw [Finset.sum_insert h, Finset.sum_insert h, EReal.coe_add, ih]

theorem coe_ite (p : Prop) [Decidable p] (x : ℝ) : ((if p then x else 0 : ℝ) : EReal) = if p then (x : EReal) else 0 := by
  split_ifs <;> simp

end Cert.GlaSpec

end
-- ==== Proof.Gla.Chunks.lean ====
/- The whole sequence over the reals: the arrays cut in chunks and heads, and the state's gradient handed from
   the last chunk to the first. -/
module

public import proofs.«01_k».proof.Proof.Gla.Spec

@[expose] public section

noncomputable section

namespace Cert.GlaSpec

variable (σ : ℝ) (p l g : ℕ → ℕ → ℝ)

/-- Chunk `n` of head `h` of the queries. -/
def Q (n : ℕ) (h : Fin 4) : Mat 64 128 := fun a d => p (64 * n + a) (5120 + (128 * h + d))

/-- … of the keys. -/
def K (n : ℕ) (h : Fin 4) : Mat 64 128 := fun a d => p (64 * n + a) (5632 + (128 * h + d))

/-- … of the values. -/
def V (n : ℕ) (h : Fin 4) : Mat 64 256 := fun a e => p (64 * n + a) (4096 + (256 * h + e))

/-- … of the log decays. -/
def L (n : ℕ) (h : Fin 4) : Mat 64 128 := fun a d => l (64 * n + a) (128 * h + d)

/-- … of the output's gradient. -/
def G (n : ℕ) (h : Fin 4) : Mat 64 256 := fun a e => g (64 * n + a) (256 * h + e)

/-- The gradient of the state after `j` chunks, the last chunk first. -/
def R (h : Fin 4) : ℕ → Mat 256 128
  | 0 => fun _ _ => 0
  | j + 1 => dsPrev σ (Q p (67 - j) h) (G g (67 - j) h) (L l (67 - j) h) (R h j)

end Cert.GlaSpec

end
-- ==== Proof.Gla.Algebra.lean ====
/- The reference's formulas over the reals, the states as one sum over the chunks before, and their agreement
   with the recursion that hands the state's gradient from the last chunk to the first. -/
module

public import proofs.«01_k».proof.Proof.Gla.Chunks
public import Mathlib.Tactic.Ring
public import Mathlib.Tactic.Linarith

@[expose] public section

noncomputable section

namespace Cert.GlaSpec

variable (σ : ℝ) (p l g : ℕ → ℕ → ℝ) (h : Fin 4)

/-- The log decay from the beginning to the end of a chunk. -/
def ub (n : Fin 68) (d : Fin 128) : ℝ := ∑ s : Fin 68, if s ≤ n then bEnd (L l s h) d else 0

/-- The decay from the end of chunk `m` to the beginning of chunk `n`. -/
def dec (n m : Fin 68) (d : Fin 128) : ℝ :=
  if m < n then Real.exp (ub l h n d - bEnd (L l n h) d - ub l h m d) else 0

/-- What a chunk adds to the state. -/
def dst (m : Fin 68) (e : Fin 256) (d : Fin 128) : ℝ := ∑ a, ke (K p m h) (L l m h) a d * V p m h a e

/-- The state a chunk begins with. -/
def st (n : Fin 68) (e : Fin 256) (d : Fin 128) : ℝ := ∑ m, dst p l h m e d * dec l h n m d

/-- The gradient of the state a chunk begins with, by that chunk's output alone. -/
def gs (n : Fin 68) (e : Fin 256) (d : Fin 128) : ℝ := ∑ a, G g n h a e * qi σ (Q p n h) (L l n h) a d

/-- The gradient of the state a chunk ends with. -/
def rr (m : Fin 68) (e : Fin 256) (d : Fin 128) : ℝ := ∑ n, gs σ p l g h n e d * dec l h n m d

/-- The gradient of one decay's exponent. -/
def ww (n m : Fin 68) (d : Fin 128) : ℝ :=
  if m < n then (∑ e, gs σ p l g h n e d * dst p l h m e d) * dec l h n m d else 0

/-- The gradient of a chunk's whole log decay by way of the decays. -/
def du (n : Fin 68) (d : Fin 128) : ℝ :=
  -(∑ m, ww σ p l g h n m d) +
    ∑ s, if n ≤ s then ∑ i, -ww σ p l g h i s d + ∑ m, ww σ p l g h s m d else 0

/-- The log decays' gradient as the reference has it. -/
def dlRef (n : Fin 68) (t : Fin 64) (d : Fin 128) : ℝ :=
  ∑ c, if t ≤ c then
    -(K p n h c d * dke (V p n h) (rr σ p l g h n) c d * Real.exp (bEnd (L l n h) d - b (L l n h) c d)) +
      (if c = 63 then du σ p l g h n d + ∑ a, dke (V p n h) (rr σ p l g h n) a d * ke (K p n h) (L l n h) a d else 0) +
      -(K p n h c d * dki σ (Q p n h) (V p n h) (G g n h) (L l n h) c d * Real.exp (-b (L l n h) c d)) +
      Q p n h c d * σ * dqi (K p n h) (V p n h) (G g n h) (L l n h) (st p l h n) c d * Real.exp (b (L l n h) c d)
    else 0

theorem ub_succ (m n : Fin 68) (hm : n.val = m.val + 1) (d : Fin 128) :
    ub l h n d = ub l h m d + bEnd (L l n h) d := by
  unfold ub
  have e : ∀ s : Fin 68, (if s ≤ n then bEnd (L l s h) d else 0) =
      (if s ≤ m then bEnd (L l s h) d else 0) + (if s = n then bEnd (L l n h) d else 0) := fun s => by
    simp only [Fin.le_def, Fin.ext_iff]
    by_cases h1 : s.val = n.val
    · have : s = n := Fin.ext h1
      subst this
      rw [if_pos (le_refl _), if_neg (by omega), if_pos rfl, zero_add]
    · rw [if_neg h1, add_zero]
      exact if_congr (by omega) rfl rfl
  rw [Finset.sum_congr rfl fun s _ => e s, Finset.sum_add_distrib, Finset.sum_ite_eq' Finset.univ n]
  simp

theorem dec_pred (m n : Fin 68) (hm : n.val = m.val + 1) (i : Fin 68) (d : Fin 128) :
    dec l h i m d = (if i = n then 1 else 0) + Real.exp (bEnd (L l n h) d) * dec l h i n d := by
  unfold dec
  simp only [Fin.lt_def, Fin.ext_iff]
  rcases Nat.lt_trichotomy i.val n.val with c | c | c
  · rw [if_neg (by omega), if_neg (by omega), if_neg (by omega)]; ring
  · have : i = n := Fin.ext c
    subst this
    rw [if_pos (by omega), if_pos rfl, if_neg (by omega), ub_succ l h m i hm]
    rw [show ub l h m d + bEnd (L l i h) d - bEnd (L l i h) d - ub l h m d = 0 by ring, Real.exp_zero]
    ring
  · rw [if_pos (by omega), if_neg (by omega), if_pos (by omega), ← Real.exp_add, ub_succ l h m n hm, zero_add]
    congr 1
    ring

theorem rr_pred (m n : Fin 68) (hm : n.val = m.val + 1) (e : Fin 256) (d : Fin 128) :
    rr σ p l g h m e d = Real.exp (bEnd (L l n h) d) * rr σ p l g h n e d + gs σ p l g h n e d := by
  unfold rr
  simp only [dec_pred l h m n hm, mul_add, Finset.sum_add_distrib, mul_ite, mul_one, mul_zero,
    Finset.sum_ite_eq', Finset.mem_univ, if_true, Finset.mul_sum]
  rw [add_comm]
  congr 1
  exact Finset.sum_congr rfl fun i _ => by ring

/-- The recursion's state gradient is the reference's sum. -/
theorem R_eq (j : ℕ) (hj : j < 68) : R σ p l g h j = rr σ p l g h ⟨67 - j, by omega⟩ := by
  induction j with
  | zero =>
    funext e d
    show (0 : ℝ) = _
    unfold rr
    refine (Finset.sum_eq_zero fun n _ => ?_).symm
    unfold dec
    rw [if_neg (by rw [Fin.lt_def]; show ¬ 67 - 0 < n.val; omega), mul_zero]
  | succ j ih =>
    funext e d
    have ih' := ih (by omega)
    rw [rr_pred σ p l g h ⟨67 - (j + 1), by omega⟩ ⟨67 - j, by omega⟩ (by simp only; omega), ← ih']
    rfl

theorem R_chunk (n : Fin 68) : R σ p l g h (67 - n.val) = rr σ p l g h n := by
  rw [R_eq σ p l g h _ (by omega)]
  congr 1
  exact Fin.ext (by simp only; omega)

/-- Sums over pairs with the second index before the first, taken apart at `n`. -/
theorem sum_split (W : Fin 68 → Fin 68 → ℝ) (hW : ∀ i m, ¬ m < i → W i m = 0) (n : Fin 68) :
    -(∑ m, W n m) + ∑ s, (if n ≤ s then ∑ i, -W i s + ∑ m, W s m else 0) =
      ∑ i, ∑ m, if m < n ∧ n < i then W i m else 0 := by
  have e1 : -(∑ m, W n m) = ∑ i, ∑ m, if i = n then -W i m else 0 := by
    rw [Finset.sum_comm, ← Finset.sum_neg_distrib]
    refine Finset.sum_congr rfl fun m _ => ?_
    rw [Finset.sum_ite_eq']; simp
  have e2 : (∑ s, (if n ≤ s then ∑ i, -W i s + ∑ m, W s m else 0)) =
      (∑ i, ∑ m, if n ≤ m then -W i m else 0) + ∑ i, ∑ m, if n ≤ i then W i m else 0 := by
    rw [Finset.sum_comm (f := fun i m => if n ≤ m then -W i m else 0), ← Finset.sum_add_distrib]
    refine Finset.sum_congr rfl fun s _ => ?_
    split_ifs
    · rfl
    · simp
  rw [e1, e2, ← Finset.sum_add_distrib, ← Finset.sum_add_distrib]
  refine Finset.sum_congr rfl fun i _ => ?_
  rw [← Finset.sum_add_distrib, ← Finset.sum_add_distrib]
  refine Finset.sum_congr rfl fun m _ => ?_
  by_cases c : m < i
  · simp only [Fin.lt_def, Fin.le_def, Fin.ext_iff] at c ⊢
    rcases Nat.lt_trichotomy i.val n.val with a | a | a
    · rw [if_neg (by omega), if_neg (by omega), if_neg (by omega), if_neg (by omega)]; ring
    · rw [if_pos (by omega), if_neg (by omega), if_pos (by omega), if_neg (by omega)]; ring
    · by_cases k : m.val < n.val
      · rw [if_neg (by omega), if_neg (by omega), if_pos (by omega), if_pos (by omega)]; ring
      · rw [if_neg (by omega), if_pos (by omega), if_pos (by omega), if_neg (by omega)]; ring
  · rw [hW i m c]; simp

theorem dec_dec (i n m : Fin 68) (d : Fin 128) :
    dec l h i n d * dec l h n m d * Real.exp (bEnd (L l n h) d) = if m < n ∧ n < i then dec l h i m d else 0 := by
  unfold dec
  by_cases a : n < i
  · by_cases c : m < n
    · rw [if_pos a, if_pos c, if_pos ⟨c, a⟩, if_pos (lt_trans c a), ← Real.exp_add, ← Real.exp_add]
      congr 1
      ring
    · have k : ¬(m < n ∧ n < i) := fun k => c (And.left k)
      rw [if_neg k, if_neg c]; ring
  · have k : ¬(m < n ∧ n < i) := fun k => a (And.right k)
    rw [if_neg k, if_neg a]; ring

theorem du_eq (n : Fin 68) (d : Fin 128) :
    du σ p l g h n d = (∑ e, rr σ p l g h n e d * st p l h n e d) * Real.exp (bEnd (L l n h) d) := by
  unfold du
  rw [sum_split (fun i m => ww σ p l g h i m d) (fun i m c => by simp only [ww]; rw [if_neg c]) n]
  have e : ∀ e, rr σ p l g h n e d * st p l h n e d =
      ∑ i, ∑ m, gs σ p l g h i e d * dst p l h m e d * (dec l h i n d * dec l h n m d) := fun e => by
    unfold rr st
    rw [Finset.sum_mul_sum]
    exact Finset.sum_congr rfl fun i _ => Finset.sum_congr rfl fun m _ => by ring
  have e' : (∑ e, rr σ p l g h n e d * st p l h n e d) =
      ∑ i, ∑ m, ∑ e, gs σ p l g h i e d * dst p l h m e d * (dec l h i n d * dec l h n m d) := by
    rw [Finset.sum_congr rfl fun x _ => e x, Finset.sum_comm]
    exact Finset.sum_congr rfl fun i _ => Finset.sum_comm
  rw [e', Finset.sum_mul]
  refine Finset.sum_congr rfl fun i _ => ?_
  rw [Finset.sum_mul]
  refine Finset.sum_congr rfl fun m _ => ?_
  rw [← Finset.sum_mul, mul_assoc, dec_dec]
  by_cases c : m < n ∧ n < i
  · rw [if_pos c, if_pos c, ww, if_pos (lt_trans c.1 c.2)]
  · rw [if_neg c, if_neg c, mul_zero]

/-- The reference's gradient of the log decays is the recursion's. -/
theorem dlRef_eq (n : Fin 68) (t : Fin 64) (d : Fin 128) :
    dlRef σ p l g h n t d =
      dl σ (Q p n h) (K p n h) (V p n h) (G g n h) (L l n h) (st p l h n) (rr σ p l g h n) t d := by
  unfold dlRef dl
  have e : ∀ c : Fin 64, (if t ≤ c then
    -(K p n h c d * dke (V p n h) (rr σ p l g h n) c d * Real.exp (bEnd (L l n h) d - b (L l n h) c d)) +
      (if c = 63 then du σ p l g h n d + ∑ a, dke (V p n h) (rr σ p l g h n) a d * ke (K p n h) (L l n h) a d else 0) +
      -(K p n h c d * dki σ (Q p n h) (V p n h) (G g n h) (L l n h) c d * Real.exp (-b (L l n h) c d)) +
      Q p n h c d * σ * dqi (K p n h) (V p n h) (G g n h) (L l n h) (st p l h n) c d * Real.exp (b (L l n h) c d)
    else 0) =
      (if t ≤ c then db σ (Q p n h) (K p n h) (V p n h) (G g n h) (L l n h) (st p l h n) (rr σ p l g h n) c d else 0) +
      (if c = 63 then dbEnd (K p n h) (V p n h) (L l n h) (st p l h n) (rr σ p l g h n) d else 0) := fun c => by
    have hd : du σ p l g h n d + ∑ a, dke (V p n h) (rr σ p l g h n) a d * ke (K p n h) (L l n h) a d =
        dbEnd (K p n h) (V p n h) (L l n h) (st p l h n) (rr σ p l g h n) d := by
      rw [du_eq, dbEnd, add_comm]
    rw [hd]
    by_cases c1 : t ≤ c
    · rw [if_pos c1, if_pos c1]
      unfold db
      simp only [ke, ki, qi]
      ring
    · rw [if_neg c1, if_neg c1, if_neg (fun k => c1 (by rw [k, Fin.le_def]; show t.val ≤ 63; omega)), zero_add]
  rw [Finset.sum_congr rfl fun c _ => e c, Finset.sum_add_distrib, Finset.sum_ite_eq']
  simp

end Cert.GlaSpec

end
-- ==== Proof.Gla.Block.lean ====
/- One chunk of one head of the backward pass, as the body of the call computes it: the operations of
   the body in their own order, over the slices it loads. Every one of the sixteen (chunk, head) pairs
   of a grid point is this function at its own slices. -/
module

public import proofs.«01_k».proof.Proof.Gen.KernelIdeal.Skeleton

@[expose] public section

noncomputable section

namespace Cert.KernelIdeal.Gla

open Cert.KernelIdeal Cert.KernelIdeal.Gen Idealize.ShloMosaic

variable {F : FTy → Type} [FloatOps F]

/-- The causal mask of a chunk: column at most row. -/
def tri : IVec S64x64 1 :=
  cmpi .sle (iota .tc S64x64 32 [1] iota_S64x64_d1_w32) (iota .tc S64x64 32 [0] iota_S64x64_d0_w32)

/-- The mask as a matrix of zeros and ones. -/
def triF : FVec F S64x64 .bf16 := truncf .bf16 (sitofp .f32 (extui 32 tri natLt_1_32)) bitsLt_bf16_f32

/-- A 64-row product with the mask on the left, its right operand split in two parts. -/
def splitNN (x : FVec F S64x128 .f32) : FVec F S64x128 .f32 :=
  addf
    (matmul dot_S64x64_S64x128_S64x128_1_0_0_1_n_n none triF (truncf .bf16 x bitsLt_bf16_f32)
      (constant S64x128 .f32 0x00000000#32))
    (matmul dot_S64x64_S64x128_S64x128_1_0_0_1_n_n none triF
      (truncf .bf16 (subf x (extf .f32 (truncf .bf16 x bitsLt_bf16_f32) bitsLt_bf16_f32)) bitsLt_bf16_f32)
      (constant S64x128 .f32 0x00000000#32))

/-- The same with the mask transposed. -/
def splitTN (x : FVec F S64x128 .f32) : FVec F S64x128 .f32 :=
  addf
    (matmul dot_S64x64_S64x128_S64x128_0_0_1_1_n_n none triF (truncf .bf16 x bitsLt_bf16_f32)
      (constant S64x128 .f32 0x00000000#32))
    (matmul dot_S64x64_S64x128_S64x128_0_0_1_1_n_n none triF
      (truncf .bf16 (subf x (extf .f32 (truncf .bf16 x bitsLt_bf16_f32) bitsLt_bf16_f32)) bitsLt_bf16_f32)
      (constant S64x128 .f32 0x00000000#32))

/-- The sum of the rows, kept as a row. -/
def rowSum (x : FVec F S64x128 .f32) : FVec F S1x128 .f32 :=
  shapeCast S1x128 (multiReduction .add [0] S128 x 0x00000000#32 reduces_S64x128_S128 (.inl rfl) rfl)
    shapeCasts_S128_S1x128

def eb (la : Vec F S64x128 .f32) : FVec F S64x128 .f32 := exp (splitNN la)

def enb (la : Vec F S64x128 .f32) : FVec F S64x128 .f32 :=
  exp (subf (broadcast S64x128 (Scalar.ofBits .f32 0x00000000#32)) (splitNN la))

def ee (la : Vec F S64x128 .f32) : FVec F S64x128 .f32 :=
  exp (subf (broadcastTo S64x128 (rowSum la) broadcasts_S1x128_S64x128) (splitNN la))

/-- The chunk's whole decay, a row. -/
def gam (la : Vec F S64x128 .f32) : FVec F S1x128 .f32 := exp (rowSum la)

variable (q k : Vec F S64x128 .bf16) (v : Vec F S64x256 .bf16) (la : Vec F S64x128 .f32) (g : Vec F S64x256 .bf16)
  (s : Vec F S1x1x256x128 .f32) (ds : Vec F S1x256x128 .f32)

def qi : FVec F S64x128 .f32 :=
  mulf (mulf (extf .f32 q bitsLt_bf16_f32) (broadcast S64x128 (Scalar.ofBits .f32 0x3DB504F3#32))) (eb la)

def ki : FVec F S64x128 .f32 := mulf (extf .f32 k bitsLt_bf16_f32) (enb la)

def kend : FVec F S64x128 .f32 := mulf (extf .f32 k bitsLt_bf16_f32) (ee la)

def att : FVec F S64x64 .f32 :=
  select tri
    (matmul dot_S64x128_S64x128_S64x64_1_1_0_0_n_n none (truncf .bf16 (qi q la) bitsLt_bf16_f32)
      (truncf .bf16 (ki k la) bitsLt_bf16_f32) (constant S64x64 .f32 0x00000000#32))
    (broadcast S64x64 (Scalar.ofBits .f32 0x00000000#32))

/-- The state that entered the chunk. -/
def sIn : FVec F S256x128 .f32 := shapeCast S256x128 s shapeCasts_S1x1x256x128_S256x128

/-- The gradient of the state that leaves the chunk. -/
def dsOut : FVec F S256x128 .f32 := shapeCast S256x128 ds shapeCasts_S1x256x128_S256x128

def datt : FVec F S64x64 .f32 :=
  select tri (matmul dot_S64x256_S64x256_S64x64_1_1_0_0_n_n none g v (constant S64x64 .f32 0x00000000#32))
    (broadcast S64x64 (Scalar.ofBits .f32 0x00000000#32))

def dqi : FVec F S64x128 .f32 :=
  addf
    (matmul dot_S64x64_S64x128_S64x128_1_0_0_1_n_n none (truncf .bf16 (datt v g) bitsLt_bf16_f32)
      (truncf .bf16 (ki k la) bitsLt_bf16_f32) (constant S64x128 .f32 0x00000000#32))
    (matmul dot_S64x256_S256x128_S64x128_1_0_0_1_n_n none g (truncf .bf16 (sIn s) bitsLt_bf16_f32)
      (constant S64x128 .f32 0x00000000#32))

def dki : FVec F S64x128 .f32 :=
  matmul dot_S64x64_S64x128_S64x128_0_0_1_1_n_n none (truncf .bf16 (datt v g) bitsLt_bf16_f32)
    (truncf .bf16 (qi q la) bitsLt_bf16_f32) (constant S64x128 .f32 0x00000000#32)

def dkend : FVec F S64x128 .f32 :=
  matmul dot_S64x256_S256x128_S64x128_1_0_0_1_n_n none v (truncf .bf16 (dsOut ds) bitsLt_bf16_f32)
    (constant S64x128 .f32 0x00000000#32)

/-- The gradient of the chunk's decay, a row. -/
def dgam : FVec F S1x128 .f32 :=
  shapeCast S1x128
    (multiReduction .add [0] S128 (mulf (dsOut ds) (sIn s)) 0x00000000#32 reduces_S256x128_S128 (.inl rfl) rfl)
    shapeCasts_S128_S1x128

/-- What the chunk stores of the value's gradient. -/
def dvB : FVec F S64x256 .f32 :=
  addf
    (matmul dot_S64x64_S64x256_S64x256_0_0_1_1_n_n none (truncf .bf16 (att q k la) bitsLt_bf16_f32) g
      (constant S64x256 .f32 0x00000000#32))
    (matmul dot_S64x128_S256x128_S64x256_1_1_0_0_n_n none (truncf .bf16 (kend k la) bitsLt_bf16_f32)
      (truncf .bf16 (dsOut ds) bitsLt_bf16_f32) (constant S64x256 .f32 0x00000000#32))

/-- What the chunk leaves of the state's gradient, for the chunk before it. -/
def dsB : FVec F S1x256x128 .f32 :=
  shapeCast S1x256x128
    (addf (mulf (broadcastTo S256x128 (gam la) broadcasts_S1x128_S256x128) (dsOut ds))
      (matmul dot_S64x256_S64x128_S256x128_0_0_1_1_n_n none g (truncf .bf16 (qi q la) bitsLt_bf16_f32)
        (constant S256x128 .f32 0x00000000#32)))
    shapeCasts_S256x128_S1x256x128

/-- What the chunk stores of the query's gradient. -/
def dqB : FVec F S64x128 .f32 :=
  mulf (dqi k v la g s) (mulf (broadcast S64x128 (Scalar.ofBits .f32 0x3DB504F3#32)) (eb la))

/-- What the chunk stores of the key's gradient. -/
def dkB : FVec F S64x128 .f32 := addf (mulf (dki q v la g) (enb la)) (mulf (dkend v ds) (ee la))

/-- The gradient of the running sums of log decays. -/
def dbB : FVec F S64x128 .f32 :=
  subf (subf (mulf (dqi k v la g s) (qi q la)) (mulf (dki q v la g) (ki k la))) (mulf (dkend v ds) (kend k la))

/-- What the chunk stores of the log decays' gradient. -/
def dlB : FVec F S64x128 .f32 :=
  addf (splitTN (dbB q k v la g s ds))
    (broadcastTo S64x128 (addf (rowSum (mulf (dkend v ds) (kend k la))) (mulf (dgam s ds) (gam la)))
      broadcasts_S1x128_S64x128)

end Cert.KernelIdeal.Gla

end
-- ==== Proof.Gla.TileReal.lean ====
/- A chunk's function (`Block`), read at real slices: the formulas of `Spec`. The product whose right operand
   is split in two adds only products with `x - x`, which is zero at a real. -/
module

public import proofs.«01_k».proof.Proof.Gla.Block
public import proofs.«01_k».proof.Proof.Gla.Spec
public import Idealize.ShloMosaic.PureOps.Ideal
public import Idealize.ShloMosaic.Lib.Pointwise

@[expose] public section

noncomputable section

namespace Cert.KernelIdeal.Gla

open Cert.KernelIdeal Cert.KernelIdeal.Gen Idealize.ShloMosaic
open Cert.GlaSpec (Mat coe_sum coe_ite)

/-- The scale of the queries, the real the constant's word denotes. -/
def σ : ℝ := (Ideal.ofBits .f32 0x3DB504F3#32).toReal

theorem σ_coe : Ideal.ofBits .f32 0x3DB504F3#32 = (σ : EReal) := by
  have h : ∃ r : ℝ, Ideal.ofBits .f32 0x3DB504F3#32 = (r : EReal) :=
    ⟨11863283 * (2 ^ 27)⁻¹, by simp [Ideal.ofBits, Ideal.ieee]⟩
  obtain ⟨r, hr⟩ := h
  rw [σ, hr, EReal.toReal_coe]

theorem tri_apply (a b : Fin 64) : tri (ix2 a b) = if b ≤ a then 1#1 else 0#1 := by
  pointwise [tri]
  have : ∀ a b : Fin 64, IntOp.cmpi CmpIPredicate.sle (BitVec.ofNat 32 ↑b) (BitVec.ofNat 32 ↑a) = if b ≤ a then 1#1 else 0#1 := by
    decide +kernel
  exact this a b

theorem triF_apply (a b : Fin 64) : (triF (F := Ideal) (ix2 a b) : EReal) = ((if b ≤ a then 1 else 0 : ℝ) : EReal) := by
  pointwise [triF]
  rw [tri_apply]
  split_ifs
  · show ((((BitVec.setWidth 32 1#1).toInt : ℝ)) : EReal) = _
    norm_num
  · show ((((BitVec.setWidth 32 0#1).toInt : ℝ)) : EReal) = _
    norm_num

section
variable {x : FVec Ideal S64x128 .f32} {xr : Mat 64 128} (hx : ∀ a d, (x (ix2 a d) : EReal) = (xr a d : EReal))
include hx

theorem splitNN_apply (a : Fin 64) (d : Fin 128) :
    (splitNN x (ix2 a d) : EReal) = ((∑ c, if c ≤ a then xr c d else 0 : ℝ) : EReal) := by
  pointwise [splitNN]
  simp only [hx, triF_apply, ← EReal.coe_sub, ← EReal.coe_mul, ← coe_sum, ← EReal.coe_add]
  simp

theorem splitTN_apply (a : Fin 64) (d : Fin 128) :
    (splitTN x (ix2 a d) : EReal) = ((∑ c, if a ≤ c then xr c d else 0 : ℝ) : EReal) := by
  pointwise [splitTN]
  simp only [hx, triF_apply, ← EReal.coe_sub, ← EReal.coe_mul, ← coe_sum, ← EReal.coe_add]
  simp

theorem rowSum_apply (z : Fin 1) (d : Fin 128) : (rowSum x (ix2 z d) : EReal) = ((∑ c, xr c d : ℝ) : EReal) := by
  pointwise [rowSum]
  simp only [hx, ← coe_sum]

end

section
variable {q k : Vec Ideal S64x128 .bf16} {v g : Vec Ideal S64x256 .bf16} {la : Vec Ideal S64x128 .f32}
  {s : Vec Ideal S1x1x256x128 .f32} {ds : Vec Ideal S1x256x128 .f32}
  {qr kr lr : Mat 64 128} {vr gr : Mat 64 256} {sr dr : Mat 256 128}
  (hq : ∀ a d, (q (ix2 a d) : EReal) = (qr a d : EReal)) (hk : ∀ a d, (k (ix2 a d) : EReal) = (kr a d : EReal))
  (hv : ∀ a e, (v (ix2 a e) : EReal) = (vr a e : EReal)) (hg : ∀ a e, (g (ix2 a e) : EReal) = (gr a e : EReal))
  (hl : ∀ a d, (la (ix2 a d) : EReal) = (lr a d : EReal))
  (hs : ∀ e d, (s (ix4 0 0 e d) : EReal) = (sr e d : EReal)) (hd : ∀ e d, (ds (ix3 0 e d) : EReal) = (dr e d : EReal))

include hl in
theorem eb_apply (a : Fin 64) (d : Fin 128) : (eb la (ix2 a d) : EReal) = (Real.exp (GlaSpec.b lr a d) : ℝ) := by
  pointwise [eb]
  rw [splitNN_apply hl]
  rfl

include hl in
theorem enb_apply (a : Fin 64) (d : Fin 128) : (enb la (ix2 a d) : EReal) = (Real.exp (-GlaSpec.b lr a d) : ℝ) := by
  pointwise [enb]
  rw [splitNN_apply hl]
  simp only [zero_sub, ← EReal.coe_neg, Ideal.exp_coe]
  rfl

include hl in
theorem ee_apply (a : Fin 64) (d : Fin 128) :
    (ee la (ix2 a d) : EReal) = (Real.exp (GlaSpec.bEnd lr d - GlaSpec.b lr a d) : ℝ) := by
  pointwise [ee]
  rw [splitNN_apply hl, rowSum_apply hl]
  simp only [← EReal.coe_sub, Ideal.exp_coe]
  rfl

include hl in
theorem gam_apply (z : Fin 1) (d : Fin 128) : (gam la (ix2 z d) : EReal) = (Real.exp (GlaSpec.bEnd lr d) : ℝ) := by
  pointwise [gam]
  rw [rowSum_apply hl]
  rfl

include hq hl in
theorem qi_apply (a : Fin 64) (d : Fin 128) : (qi q la (ix2 a d) : EReal) = (GlaSpec.qi σ qr lr a d : ℝ) := by
  pointwise [qi]
  rw [hq, eb_apply hl, σ_coe]
  simp only [← EReal.coe_mul]
  rfl

include hk hl in
theorem ki_apply (a : Fin 64) (d : Fin 128) : (ki k la (ix2 a d) : EReal) = (GlaSpec.ki kr lr a d : ℝ) := by
  pointwise [ki]
  rw [hk, enb_apply hl]
  simp only [← EReal.coe_mul]
  rfl

include hk hl in
theorem kend_apply (a : Fin 64) (d : Fin 128) : (kend k la (ix2 a d) : EReal) = (GlaSpec.ke kr lr a d : ℝ) := by
  pointwise [kend]
  rw [hk, ee_apply hl]
  simp only [← EReal.coe_mul]
  rfl

include hq hk hl in
theorem att_apply (a c : Fin 64) : (att q k la (ix2 a c) : EReal) = (GlaSpec.att σ qr kr lr a c : ℝ) := by
  pointwise [att]
  simp only [tri_apply, qi_apply hq hl, ki_apply hk hl, ← EReal.coe_mul, ← coe_sum, GlaSpec.att]
  split_ifs <;> simp [Scalar.select]

include hv hg in
theorem datt_apply (a c : Fin 64) : (datt v g (ix2 a c) : EReal) = (GlaSpec.datt vr gr a c : ℝ) := by
  pointwise [datt]
  simp only [tri_apply, hv, hg, ← EReal.coe_mul, ← coe_sum, GlaSpec.datt]
  split_ifs <;> simp [Scalar.select]

include hs in
theorem sIn_apply (e : Fin 256) (d : Fin 128) : (sIn s (ix2 e d) : EReal) = (sr e d : EReal) := by
  rw [← hs]
  pointwise [sIn]

include hd in
theorem dsOut_apply (e : Fin 256) (d : Fin 128) : (dsOut ds (ix2 e d) : EReal) = (dr e d : EReal) := by
  rw [← hd]
  pointwise [dsOut]

include hk hv hg hl hs in
theorem dqi_apply (a : Fin 64) (d : Fin 128) :
    (dqi k v la g s (ix2 a d) : EReal) = (GlaSpec.dqi kr vr gr lr sr a d : ℝ) := by
  pointwise [dqi]
  simp only [datt_apply hv hg, ki_apply hk hl, sIn_apply hs, hg, ← EReal.coe_mul, ← coe_sum, ← EReal.coe_add]
  rfl

include hq hv hg hl in
theorem dki_apply (a : Fin 64) (d : Fin 128) :
    (dki q v la g (ix2 a d) : EReal) = (GlaSpec.dki σ qr vr gr lr a d : ℝ) := by
  pointwise [dki]
  simp only [datt_apply hv hg, qi_apply hq hl, ← EReal.coe_mul, ← coe_sum]
  rfl

include hv hd in
theorem dkend_apply (a : Fin 64) (d : Fin 128) : (dkend v ds (ix2 a d) : EReal) = (GlaSpec.dke vr dr a d : ℝ) := by
  pointwise [dkend]
  simp only [hv, dsOut_apply hd, ← EReal.coe_mul, ← coe_sum]
  rfl

include hs hd in
theorem dgam_apply (z : Fin 1) (d : Fin 128) :
    (dgam s ds (ix2 z d) : EReal) = ((∑ e, dr e d * sr e d : ℝ) : EReal) := by
  pointwise [dgam]
  simp only [sIn_apply hs, dsOut_apply hd, ← EReal.coe_mul, ← coe_sum]

include hq hk hg hl hd in
theorem dvB_apply (a : Fin 64) (e : Fin 256) :
    (dvB q k la g ds (ix2 a e) : EReal) = (GlaSpec.dv σ qr kr gr lr dr a e : ℝ) := by
  pointwise [dvB]
  simp only [att_apply hq hk hl, kend_apply hk hl, dsOut_apply hd, hg, ← EReal.coe_mul, ← coe_sum, ← EReal.coe_add]
  rfl

include hq hg hl hd in
theorem dsB_apply (z : Fin 1) (e : Fin 256) (d : Fin 128) :
    (dsB q la g ds (ix3 z e d) : EReal) = (GlaSpec.dsPrev σ qr gr lr dr e d : ℝ) := by
  pointwise [dsB]
  simp only [gam_apply hl, qi_apply hq hl, dsOut_apply hd, hg, ← EReal.coe_mul, ← coe_sum, ← EReal.coe_add]
  rfl

include hk hv hg hl hs in
theorem dqB_apply (a : Fin 64) (d : Fin 128) :
    (dqB k v la g s (ix2 a d) : EReal) = (GlaSpec.dq σ kr vr gr lr sr a d : ℝ) := by
  pointwise [dqB]
  simp only [dqi_apply hk hv hg hl hs, eb_apply hl, σ_coe, ← EReal.coe_mul]
  rfl

include hq hv hg hl hd in
theorem dkB_apply (a : Fin 64) (d : Fin 128) :
    (dkB q v la g ds (ix2 a d) : EReal) = (GlaSpec.dk σ qr vr gr lr dr a d : ℝ) := by
  pointwise [dkB]
  simp only [dki_apply hq hv hg hl, dkend_apply hv hd, enb_apply hl, ee_apply hl, ← EReal.coe_mul, ← EReal.coe_add]
  rfl

include hq hk hv hg hl hs hd in
theorem dbB_apply (a : Fin 64) (d : Fin 128) :
    (dbB q k v la g s ds (ix2 a d) : EReal) = (GlaSpec.db σ qr kr vr gr lr sr dr a d : ℝ) := by
  pointwise [dbB]
  simp only [dqi_apply hk hv hg hl hs, qi_apply hq hl, dki_apply hq hv hg hl, ki_apply hk hl, dkend_apply hv hd,
    kend_apply hk hl, ← EReal.coe_mul, ← EReal.coe_sub]
  rfl

include hq hk hv hg hl hs hd in
theorem dlB_apply (a : Fin 64) (d : Fin 128) :
    (dlB q k v la g s ds (ix2 a d) : EReal) = (GlaSpec.dl σ qr kr vr gr lr sr dr a d : ℝ) := by
  have h : ∀ a d, ((mulf (dkend v ds) (kend k la) : FVec Ideal S64x128 .f32) (ix2 a d) : EReal) =
      ((GlaSpec.dke vr dr a d * GlaSpec.ke kr lr a d : ℝ) : EReal) := by
    intro a d
    pointwise
    simp only [dkend_apply hv hd, kend_apply hk hl, ← EReal.coe_mul]
  pointwise [dlB]
  simp only [splitTN_apply (dbB_apply hq hk hv hg hl hs hd), rowSum_apply h, dgam_apply hs hd, gam_apply hl,
    ← EReal.coe_mul, ← EReal.coe_add]
  rfl

end

end Cert.KernelIdeal.Gla

end
-- ==== Proof.Gla.RefReal.lean ====
/- The reference's stages over the reals. -/
module

public import proofs.«01_k».proof.Proof.Gla.Window
public import proofs.«01_k».proof.Proof.Gla.Algebra
public import proofs.«01_k».proof.Proof.Gla.TileReal

@[expose] public section

noncomputable section

namespace Cert.ReferenceIdeal.Gla

open Cert.ReferenceIdeal Cert.ReferenceIdeal.Gen Cert.ReferenceIdeal.Read Idealize.ShloMosaic Cert.GlaSpec
open Cert.KernelIdeal.Gla (σ σ_coe)

/-- The three arrays hold reals where they are read. -/
structure Reals (x0 : (⟨S4352x8192, .bf16⟩ : BufTy).Contents (Elt Ideal)) (x1 : (⟨S4352x1024, .f32⟩ : BufTy).Contents (Elt Ideal))
    (x2 : (⟨S4352x1024, .bf16⟩ : BufTy).Contents (Elt Ideal)) (p l g : ℕ → ℕ → ℝ) : Prop where
  hp : ∀ (r : Fin 4352) (d : Fin 8192), 4096 ≤ d.val → d.val < 6144 → (x0 (ix2 r d) : EReal) = (p r d : ℝ)
  hl : ∀ (r : Fin 4352) (d : Fin 1024), d.val < 512 → (x1 (ix2 r d) : EReal) = (l r d : ℝ)
  hg : ∀ (r : Fin 4352) (d : Fin 1024), (x2 (ix2 r d) : EReal) = (g r d : ℝ)

variable {x0 : (⟨S4352x8192, .bf16⟩ : BufTy).Contents (Elt Ideal)} {x1 : (⟨S4352x1024, .f32⟩ : BufTy).Contents (Elt Ideal)}
  {x2 : (⟨S4352x1024, .bf16⟩ : BufTy).Contents (Elt Ideal)} {p l g : ℕ → ℕ → ℝ} (H : Reals x0 x1 x2 p l g)
  (n m : Fin 68) (t s : Fin 64) (h : Fin 4) (d : Fin 128) (e : Fin 256)

theorem zero_word : (FloatOps.ofBits (F := Ideal) .f32 0x00000000#32 : EReal) = 0 := by
  show Ideal.ofBits .f32 0x00000000#32 = 0
  simp [Ideal.ofBits, Ideal.ieee]

theorem word_zero : (Ideal.ofBits .f32 0x00000000#32 : EReal) = 0 := zero_word

include H

theorem v7 : (val_main_v7 (F := Ideal) x0 (ix4 n t h d) : EReal) = (Q p n h t d : ℝ) := by
  pointwise [val_main_v7, val_main_v1, val_main_v0]
  rw [H.hp _ _ (by simp only; omega) (by simp only; omega)]
  unfold Q
  congr 2 <;> simp only <;> omega

theorem v10 : (val_main_v10 (F := Ideal) x0 (ix4 n t h d) : EReal) = (K p n h t d : ℝ) := by
  pointwise [val_main_v10, val_main_v3, val_main_v2]
  rw [H.hp _ _ (by simp only; omega) (by simp only; omega)]
  unfold K
  congr 2 <;> simp only <;> omega

theorem v11 : (val_main_v11 (F := Ideal) x0 (ix4 n t h e) : EReal) = (V p n h t e : ℝ) := by
  pointwise [val_main_v11, val_main_v5, val_main_v4]
  rw [H.hp _ _ (by simp only; omega) (by simp only; omega)]
  unfold V
  congr 2 <;> simp only <;> omega

theorem v12 : (val_main_v12 (F := Ideal) x1 (ix4 n t h d) : EReal) = (L l n h t d : ℝ) := by
  pointwise [val_main_v12, val_main_v6]
  rw [H.hl _ _ (by simp only; omega)]
  unfold L
  congr 2 <;> simp only <;> omega

theorem v52 : (val_main_v52 (F := Ideal) x2 (ix4 n t h e) : EReal) = (G g n h t e : ℝ) := by
  pointwise [val_main_v52, val_main_v51]
  rw [H.hg]
  unfold G
  congr 2 <;> simp only <;> omega

theorem v9 : (val_main_v9 (F := Ideal) x0 (ix4 n t h d) : EReal) = (Q p n h t d * σ : ℝ) := by
  pointwise [val_main_v9, val_main_v8, val_main_cst]
  simp only [v7 H, σ_coe, EReal.coe_mul]

theorem v13 : (val_main_v13 (F := Ideal) x1 (ix4 n t h d) : EReal) = (b (L l n h) t d : ℝ) := by
  unfold val_main_v13 b
  rw [cumsum4 _ _ (by pointwise [val_main_call0_call0_v0, val_main_call0_call0_cst]; try simp [word_zero])]
  simp only [v12 H, coe_sum, coe_ite]

theorem v14 : (val_main_v14 (F := Ideal) x1 (ix4 n t h d) : EReal) = (Real.exp (b (L l n h) t d) : ℝ) := by
  pointwise [val_main_v14]
  simp only [v13 H, Ideal.exp_coe]

theorem v15 : (val_main_v15 (F := Ideal) x0 x1 (ix4 n t h d) : EReal) = (qi σ (Q p n h) (L l n h) t d : ℝ) := by
  pointwise [val_main_v15]
  simp only [v9 H, v14 H, ← EReal.coe_mul, qi]

theorem v17 : (val_main_v17 (F := Ideal) x1 (ix4 n t h d) : EReal) = (Real.exp (-b (L l n h) t d) : ℝ) := by
  pointwise [val_main_v17, val_main_v16]
  simp only [v13 H, ← EReal.coe_neg, Ideal.exp_coe]

theorem v18 : (val_main_v18 (F := Ideal) x0 x1 (ix4 n t h d) : EReal) = (ki (K p n h) (L l n h) t d : ℝ) := by
  pointwise [val_main_v18]
  simp only [v10 H, v17 H, ← EReal.coe_mul, ki]

omit H in
theorem v20 : val_main_v20 (F := Ideal) (ix2 t s) = if s ≤ t then 1#1 else 0#1 := by
  pointwise [val_main_v20, val_main_call1_v4, val_main_call1_v2, val_main_call1_v0, val_main_call1_v1, val_main_call1_c,
    val_main_call1_v3, val_main_v19, val_main_c, val_main_call1_v5, val_main_call1_c_0]
  revert t s
  decide +kernel

theorem v22 : (val_main_v22_0 (F := Ideal) x0 x1 (ix4 n h t s) : EReal) =
    (att σ (Q p n h) (K p n h) (L l n h) t s : ℝ) := by
  pointwise [val_main_v22_0, val_main_v22_1, val_main_v21, val_main_call2_v2, val_main_call2_v0, val_main_cst_0]
  simp only [v15 H, v18 H, v20, ← EReal.coe_mul, ← coe_sum, att, word_zero]
  split_ifs <;> simp [Scalar.select, constant, word_zero]

theorem bEnd_row (x : Mat 64 128) : b x 63 d = bEnd x d := by
  unfold b bEnd
  exact Finset.sum_congr rfl fun c _ => if_pos (by rw [Fin.le_def]; show c.val ≤ 63; omega)

theorem v26 : (val_main_v26 (F := Ideal) x1 (ix3 n h d) : EReal) = (bEnd (L l n h) d : ℝ) := by
  pointwise [val_main_v26, val_main_v25]
  rw [v13 H, bEnd_row H]

theorem v30 : (val_main_v30 (F := Ideal) x1 (ix4 n t h d) : EReal) =
    (Real.exp (bEnd (L l n h) d - b (L l n h) t d) : ℝ) := by
  pointwise [val_main_v30, val_main_v29, val_main_v28, val_main_v27]
  simp only [v13 H, v26 H, ← EReal.coe_sub, Ideal.exp_coe]

theorem v31 : (val_main_v31 (F := Ideal) x0 x1 (ix4 n t h d) : EReal) = (ke (K p n h) (L l n h) t d : ℝ) := by
  pointwise [val_main_v31]
  simp only [v10 H, v30 H, ← EReal.coe_mul, ke]

theorem v32 : (val_main_v32 (F := Ideal) x0 x1 (ix4 n h d e) : EReal) = (dst p l h n e d : ℝ) := by
  pointwise [val_main_v32]
  simp only [v31 H, v11 H, ← EReal.coe_mul, ← coe_sum, dst]

theorem v33 : (val_main_v33 (F := Ideal) x1 (ix3 n h d) : EReal) = (ub l h n d : ℝ) := by
  unfold val_main_v33 ub
  rw [cumsum3 _ _ (by pointwise [val_main_call3_call0_v0, val_main_call3_call0_cst]; try simp [word_zero])]
  simp only [v26 H, coe_sum, coe_ite]

omit H in
theorem v36 : val_main_v36 (F := Ideal) (ix2 n m) = if m < n then 1#1 else 0#1 := by
  pointwise [val_main_v36, val_main_call4_v4, val_main_call4_v2, val_main_call4_v0, val_main_call4_v1, val_main_call4_c,
    val_main_call4_v3, val_main_v35, val_main_c_1, val_main_call4_v5, val_main_call4_c_0]
  revert n m
  decide +kernel

omit H in
theorem v43_1 : val_main_v43_1 (F := Ideal) (ix4 n m h d) = if m < n then 1#1 else 0#1 := by
  pointwise [val_main_v43_1, val_main_v37]
  exact v36 n m

omit H in
theorem bot_word : (Ideal.ofBits .f32 0xFF800000#32 : EReal) = ⊥ := by
  simp [Ideal.ofBits, Ideal.ieee]

theorem v42 : (val_main_v42 (F := Ideal) x1 (ix4 n m h d) : EReal) =
    (ub l h n d - bEnd (L l n h) d - ub l h m d : ℝ) := by
  have a : (val_main_v40 (F := Ideal) x1 (ix4 n m h d) : EReal) = (ub l h n d - bEnd (L l n h) d : ℝ) := by
    pointwise [val_main_v40, val_main_v38]
    pointwise [val_main_v34]
    rw [v33 H, v26 H, EReal.coe_sub]
  have c : (val_main_v41 (F := Ideal) x1 (ix4 n m h d) : EReal) = (ub l h m d : ℝ) := by
    pointwise [val_main_v41, val_main_v39]
    exact v33 H m h d
  pointwise [val_main_v42]
  rw [a, c, ← EReal.coe_sub]

theorem v43 : (val_main_v43_0 (F := Ideal) x1 (ix4 n m h d) : EReal) =
    if m < n then ((ub l h n d - bEnd (L l n h) d - ub l h m d : ℝ) : EReal) else ⊥ := by
  have a : (val_main_call5_v2 (F := Ideal) (ix4 n m h d) : EReal) = ⊥ := by
    pointwise [val_main_call5_v2, val_main_call5_v0, val_main_cst_2]
    exact bot_word
  pointwise [val_main_v43_0]
  rw [v43_1, v42 H, a]
  split_ifs <;> simp [Scalar.select]

theorem v44 : (val_main_v44 (F := Ideal) x1 (ix4 n m h d) : EReal) = (dec l h n m d : ℝ) := by
  rw [val_main_v44_apply, v43 H]
  unfold dec
  by_cases c : m < n
  · rw [if_pos c, if_pos c]; exact (Ideal.exp_coe (r := _))
  · rw [if_neg c, if_neg c]; exact Ideal.exp_bot

theorem v46 : (val_main_v46 (F := Ideal) x0 x1 (ix4 n h d e) : EReal) = (st p l h n e d : ℝ) := by
  pointwise [val_main_v46, val_main_v45]
  simp only [v32 H, v44 H, ← EReal.coe_mul, ← coe_sum, st]

theorem v57 : (val_main_v57 (F := Ideal) x0 x1 x2 (ix4 n h d e) : EReal) = (gs σ p l g h n e d : ℝ) := by
  pointwise [val_main_v57, val_main_v56, val_main_v53]
  simp only [v52 H, v15 H, ← EReal.coe_mul, ← coe_sum, gs]

theorem v62 : (val_main_v62 (F := Ideal) x0 x1 x2 (ix4 m h d e) : EReal) = (rr σ p l g h m e d : ℝ) := by
  pointwise [val_main_v62, val_main_v61, val_main_v58]
  simp only [v57 H, v44 H, ← EReal.coe_mul, ← coe_sum, rr]

theorem v64 : (val_main_v64 (F := Ideal) x0 x1 x2 (ix4 n m h d) : EReal) = (ww σ p l g h n m d : ℝ) := by
  pointwise [val_main_v64, val_main_v63, val_main_v60, val_main_v59, val_main_v58, val_main_call6_v0, val_main_call6_cst]
  simp only [v57 H, v32 H, v44 H, v43_1, ← EReal.coe_mul, ← coe_sum, ww, word_zero]
  split_ifs <;> simp [Scalar.select]

theorem v65 : (val_main_v65 (F := Ideal) x0 x1 x2 (ix3 n h d) : EReal) = (∑ m, ww σ p l g h n m d : ℝ) := by
  pointwise [val_main_v65, val_main_cst_3]
  simp only [v64 H, coe_sum, word_zero, zero_add]

theorem v71 : (val_main_v71 (F := Ideal) x0 x1 x2 (ix3 n h d) : EReal) = (∑ m, ww σ p l g h n m d : ℝ) := by
  pointwise [val_main_v71, val_main_v66, val_main_cst_6]
  simp only [v65 H, word_zero, zero_add, Finset.univ_unique, Finset.sum_singleton]

theorem v68 : (val_main_v68 (F := Ideal) x0 x1 x2 (ix3 n h d) : EReal) = (∑ i, -ww σ p l g h i n d : ℝ) := by
  pointwise [val_main_v68, val_main_cst_4]
  rw [coe_sum]
  try rw [word_zero, zero_add]
  refine Finset.sum_congr rfl fun i _ => ?_
  rw [val_main_v67_apply, v64 H, EReal.coe_neg]
  try rfl

theorem v70 : (val_main_v70 (F := Ideal) x0 x1 x2 (ix3 n h d) : EReal) = (∑ i, -ww σ p l g h i n d : ℝ) := by
  pointwise [val_main_v70, val_main_v69, val_main_cst_5]
  simp only [v68 H, word_zero, zero_add, Finset.univ_unique, Finset.sum_singleton]

theorem v75 : (val_main_v75 (F := Ideal) x0 x1 x2 (ix3 n h d) : EReal) = (du σ p l g h n d : ℝ) := by
  have e : (val_main_v74 (F := Ideal) x0 x1 x2 (ix3 n h d) : EReal) =
      (∑ s, if n ≤ s then ∑ i, -ww σ p l g h i s d + ∑ m, ww σ p l g h s m d else 0 : ℝ) := by
    unfold val_main_v74
    rw [revsum3 _ _ (by pointwise [val_main_call7_call0_v0, val_main_call7_call0_cst]; try simp [word_zero])]
    rw [coe_sum]
    refine Finset.sum_congr rfl fun s _ => ?_
    rw [coe_ite]
    refine if_congr Iff.rfl ?_ rfl
    pointwise [val_main_v73]
    rw [v70 H, v71 H, ← EReal.coe_add]
  pointwise [val_main_v75, val_main_v72]
  rw [e, v71 H, du, EReal.coe_add, EReal.coe_neg]

theorem v79 : (val_main_v79 (F := Ideal) x0 x1 x2 (ix4 n t h d) : EReal) = (dke (V p n h) (rr σ p l g h n) t d : ℝ) := by
  pointwise [val_main_v79, val_main_v78]
  simp only [v62 H, v11 H, ← EReal.coe_mul, ← coe_sum, dke]
  exact congrArg _ (Finset.sum_congr rfl fun _ _ => mul_comm _ _)

theorem v82 : (val_main_v82 (F := Ideal) x0 x1 x2 (ix4 n t h d) : EReal) =
    (K p n h t d * dke (V p n h) (rr σ p l g h n) t d * Real.exp (bEnd (L l n h) d - b (L l n h) t d) : ℝ) := by
  pointwise [val_main_v82, val_main_v80]
  simp only [v10 H, v79 H, v30 H, ← EReal.coe_mul]

theorem v83 : (val_main_v83 (F := Ideal) x0 x1 x2 (ix3 n h d) : EReal) =
    (∑ a, dke (V p n h) (rr σ p l g h n) a d * ke (K p n h) (L l n h) a d : ℝ) := by
  pointwise [val_main_v83, val_main_cst_7]
  simp only [v82 H, word_zero, zero_add, coe_sum, ke]
  exact Finset.sum_congr rfl fun a _ => congrArg _ (by ring)

theorem v86 : (val_main_v86 (F := Ideal) x0 x1 x2 (ix3 n h d) : EReal) =
    (∑ a, dke (V p n h) (rr σ p l g h n) a d * ke (K p n h) (L l n h) a d : ℝ) := by
  pointwise [val_main_v86, val_main_v84, val_main_cst_8]
  simp only [v83 H, word_zero, zero_add, Finset.univ_unique, Finset.sum_singleton]

theorem v87 : (val_main_v87 (F := Ideal) x0 x1 x2 (ix3 n h d) : EReal) =
    (du σ p l g h n d + ∑ a, dke (V p n h) (rr σ p l g h n) a d * ke (K p n h) (L l n h) a d : ℝ) := by
  pointwise [val_main_v87]
  rw [v75 H, v86 H, EReal.coe_add]

theorem v89 : (val_main_v89 (F := Ideal) x0 x1 x2 (ix4 n t h d) : EReal) =
    (if t = 63 then du σ p l g h n d + ∑ a, dke (V p n h) (rr σ p l g h n) a d * ke (K p n h) (L l n h) a d else 0 : ℝ) := by
  pointwise [val_main_v89, val_main_v88, val_main_cst_9]
  rw [v87 H, coe_ite]
  by_cases c : t = 63
  · rw [if_pos c, dif_pos (by subst c; decide)]
  · rw [if_neg c, dif_neg (fun k => c (Fin.ext (by show t.val = 63; omega)))]
    try exact word_zero

theorem v90 : (val_main_v90 (F := Ideal) x0 x1 x2 (ix4 n t h d) : EReal) =
    (-(K p n h t d * dke (V p n h) (rr σ p l g h n) t d * Real.exp (bEnd (L l n h) d - b (L l n h) t d)) +
      (if t = 63 then du σ p l g h n d + ∑ a, dke (V p n h) (rr σ p l g h n) a d * ke (K p n h) (L l n h) a d else 0) : ℝ) := by
  pointwise [val_main_v90, val_main_v85]
  rw [v82 H, v89 H, EReal.coe_add, EReal.coe_neg]

theorem v95 : (val_main_v95 (F := Ideal) x0 x1 x2 (ix4 n t h e) : EReal) =
    (dv σ (Q p n h) (K p n h) (G g n h) (L l n h) (rr σ p l g h n) t e : ℝ) := by
  pointwise [val_main_v95, val_main_v77, val_main_v76, val_main_v94, val_main_v93, val_main_v91]
  simp only [v62 H, v31 H, v52 H, v22 H, ← EReal.coe_mul, ← coe_sum, ← EReal.coe_add, dv]
  refine congrArg _ ?_
  rw [add_comm]
  exact congrArg₂ (· + ·) (Finset.sum_congr rfl fun _ _ => mul_comm _ _) (Finset.sum_congr rfl fun _ _ => mul_comm _ _)

theorem v96 : (val_main_v96 (F := Ideal) x0 x2 (ix4 n h t s) : EReal) = (datt (V p n h) (G g n h) t s : ℝ) := by
  pointwise [val_main_v96, val_main_v92, val_main_v91, val_main_v22_1, val_main_call8_v0, val_main_call8_cst]
  simp only [v52 H, v11 H, v20, ← EReal.coe_mul, ← coe_sum, datt, word_zero]
  split_ifs <;> simp [Scalar.select]

theorem v98 : (val_main_v98 (F := Ideal) x0 x1 x2 (ix4 n t h d) : EReal) =
    (dki σ (Q p n h) (V p n h) (G g n h) (L l n h) t d : ℝ) := by
  pointwise [val_main_v98, val_main_v97]
  simp only [v96 H, v15 H, ← EReal.coe_mul, ← coe_sum, dki]

theorem v101 : (val_main_v101 (F := Ideal) x0 x1 x2 (ix4 n t h d) : EReal) =
    (dqi (K p n h) (V p n h) (G g n h) (L l n h) (st p l h n) t d : ℝ) := by
  pointwise [val_main_v101, val_main_v55, val_main_v54, val_main_v53, val_main_v100, val_main_v99]
  simp only [v96 H, v18 H, v52 H, v46 H, ← EReal.coe_mul, ← coe_sum, ← EReal.coe_add, dqi]
  exact congrArg _ (add_comm _ _)

theorem v104 : (val_main_v104 (F := Ideal) x0 x1 x2 (ix4 n t h d) : EReal) =
    (dk σ (Q p n h) (V p n h) (G g n h) (L l n h) (rr σ p l g h n) t d : ℝ) := by
  pointwise [val_main_v104, val_main_v81, val_main_v103]
  simp only [v79 H, v30 H, v98 H, v17 H, ← EReal.coe_mul, ← EReal.coe_add, dk]
  exact congrArg _ (add_comm _ _)

theorem v112 : (val_main_v112 (F := Ideal) x0 x1 x2 (ix4 n t h d) : EReal) = (dlRef σ p l g h n t d : ℝ) := by
  unfold val_main_v112 dlRef
  rw [revsum4 _ _ (by pointwise [val_main_call9_call0_v0, val_main_call9_call0_cst]; try simp [word_zero])]
  rw [coe_sum]
  refine Finset.sum_congr rfl fun c _ => ?_
  rw [coe_ite]
  refine if_congr Iff.rfl ?_ rfl
  pointwise [val_main_v111, val_main_v107, val_main_v106, val_main_v105, val_main_v102, val_main_v110, val_main_v108]
  simp only [v90 H, v10 H, v98 H, v17 H, v9 H, v101 H, v14 H, ← EReal.coe_mul, ← EReal.coe_neg, ← EReal.coe_add]

theorem v117 : (val_main_v117 (F := Ideal) x0 x1 x2 (ix4 n t h d) : EReal) =
    (dq σ (K p n h) (V p n h) (G g n h) (L l n h) (st p l h n) t d : ℝ) := by
  pointwise [val_main_v117, val_main_v109, val_main_v116, val_main_cst_10]
  simp only [v101 H, v14 H, σ_coe, ← EReal.coe_mul, dq]
  exact congrArg _ (by ring)

end Cert.ReferenceIdeal.Gla

end
-- ==== Proof.Gla.Loads.lean ====
/- The slices one (chunk, head) pair of a grid point works on, as the body loads them from the staged blocks. -/
module

public import proofs.«01_k».proof.Proof.Gla.Block
public import proofs.«01_k».proof.Proof.Gen.KernelIdeal.Frame

@[expose] public section

noncomputable section

namespace Cert.KernelIdeal.Gla

open Cert.KernelIdeal Cert.KernelIdeal.Gen Idealize.ShloMosaic

variable {F : FTy → Type} [FloatOps F]

theorem inbK (n h : Fin 4) : ∀ a, (![64 * n.val, 128 * h.val] : Fin 2 → ℕ) a + S64x128.size a ≤ S256x512.size a := by
  decide +revert

theorem inbV (n h : Fin 4) : ∀ a, (![64 * n.val, 256 * h.val] : Fin 2 → ℕ) a + S64x256.size a ≤ S256x1024.size a := by
  decide +revert

theorem inbS (n h : Fin 4) :
    ∀ a, (![n.val, h.val, 0, 0] : Fin 4 → ℕ) a + S1x1x256x128.size a ≤ S4x4x256x128.size a := by
  decide +revert

theorem inbD (h : Fin 4) : ∀ a, (![h.val, 0, 0] : Fin 3 → ℕ) a + S1x256x128.size a ≤ S4x256x128.size a := by
  decide +revert

/-- Chunk `n`'s rows and head `h`'s columns of a block of keys, queries or log decays. -/
abbrev rK (n h : Fin 4) : Rect S256x512 := Rect.unit ![64 * n.val, 128 * h.val] S64x128.size (inbK n h)

/-- Chunk `n`'s rows and head `h`'s columns of a block of values. -/
abbrev rV (n h : Fin 4) : Rect S256x1024 := Rect.unit ![64 * n.val, 256 * h.val] S64x256.size (inbV n h)

/-- Chunk `n`'s and head `h`'s state. -/
abbrev rS (n h : Fin 4) : Rect S4x4x256x128 := Rect.unit ![n.val, h.val, 0, 0] S1x1x256x128.size (inbS n h)

/-- Head `h`'s part of the carried gradient. -/
abbrev rD (h : Fin 4) : Rect S4x256x128 := Rect.unit ![h.val, 0, 0] S1x256x128.size (inbD h)

section
variable {e : EltTy}

abbrev rdK (a : Memref sig .tc .vmem S256x512 e) (ha : a.IsWhole) (x : Vec F S256x512 e) (n h : Fin 4) : Vec F S64x128 e :=
  View.readAt (Elt F) a.view (rK n h).toLoadRect (ha.unread x)

abbrev rdV (a : Memref sig .tc .vmem S256x1024 e) (ha : a.IsWhole) (x : Vec F S256x1024 e) (n h : Fin 4) : Vec F S64x256 e :=
  View.readAt (Elt F) a.view (rV n h).toLoadRect (ha.unread x)

abbrev rdS (a : Memref sig .tc .vmem S4x4x256x128 e) (ha : a.IsWhole) (x : Vec F S4x4x256x128 e) (n h : Fin 4) :
    Vec F S1x1x256x128 e :=
  View.readAt (Elt F) a.view (rS n h).toLoadRect (ha.unread x)

abbrev rdD (a : Memref sig .tc .vmem S4x256x128 e) (ha : a.IsWhole) (x : Vec F S4x256x128 e) (h : Fin 4) : Vec F S1x256x128 e :=
  View.readAt (Elt F) a.view (rD h).toLoadRect (ha.unread x)

end

end Cert.KernelIdeal.Gla

end
-- ==== Proof.Gla.Tiles.lean ====
/- A block assembled from its (chunk, head) tiles, and the carried gradient handed from chunk to chunk. -/
module

public import proofs.«01_k».proof.Proof.Gla.Loads
public import Idealize.ShloMosaic.Lib.Pipeline.ReadBack
public import Idealize.ShloMosaic.Lib.Pipeline.ValueKit
public import Idealize.ShloMosaic.Lib.Pointwise

@[expose] public section

set_option maxRecDepth 16384

noncomputable section

namespace Cert.KernelIdeal.Gla

open Cert.KernelIdeal Cert.KernelIdeal.Gen Idealize.ShloMosaic

variable {F : FTy → Type} [FloatOps F]

/-- The store of the carried gradient by chunk `n` of head `h`. -/
abbrev pcD (arg1 : Memref sig .tc .vmem S256x512 .bf16) (harg1 : arg1.IsWhole) (arg4 : Memref sig .tc .vmem S256x512 .f32)
    (harg4 : arg4.IsWhole) (arg5 : Memref sig .tc .vmem S256x1024 .bf16) (harg5 : arg5.IsWhole)
    (x0 : Vec F S256x512 .bf16) (x3 : Vec F S256x512 .f32) (x4 : Vec F S256x1024 .bf16)
    (n h : Fin 4) (ds : Vec F S1x256x128 .f32) : View.Piece (Elt F) S4x256x128 .f32 :=
  ⟨rD h, dsB (rdK arg1 harg1 x0 n h) (rdK arg4 harg4 x3 n h) (rdV arg5 harg5 x4 n h) ds⟩

/-- The carried gradient as the first point clears it. -/
def d0 : Fin 4 → Vec F S1x256x128 .f32 := fun h => View.ld (Val := Elt F) (e' := .f32) (k0_pay2 (F := F)) (rD h)

/-- The state gradient of head `h` after `j` chunks of the block, the last chunk first, from `d`. -/
def inner (x0 : Vec F S256x512 .bf16) (x3 : Vec F S256x512 .f32) (x4 : Vec F S256x1024 .bf16)
    (d : Fin 4 → Vec F S1x256x128 .f32) : ℕ → Fin 4 → Vec F S1x256x128 .f32
  | 0, h => d h
  | j + 1, h => dsB (View.ld x0 (rK ⟨3 - j, by omega⟩ h)) (View.ld x3 (rK ⟨3 - j, by omega⟩ h))
      (View.ld x4 (rV ⟨3 - j, by omega⟩ h)) (inner x0 x3 x4 d j h)

section
variable {e : EltTy}

theorem rdK_eq (a : Memref sig .tc .vmem S256x512 e) (ha : a.IsWhole) (x : Vec F S256x512 e) (n h : Fin 4) :
    rdK a ha x n h = View.ld x (rK n h) := by
  show View.readAt _ _ _ _ = _
  rw [View.readAt_eq_ld, Memref.IsWhole.read_unread]

theorem rdV_eq (a : Memref sig .tc .vmem S256x1024 e) (ha : a.IsWhole) (x : Vec F S256x1024 e) (n h : Fin 4) :
    rdV a ha x n h = View.ld x (rV n h) := by
  show View.readAt _ _ _ _ = _
  rw [View.readAt_eq_ld, Memref.IsWhole.read_unread]

theorem rdS_eq (a : Memref sig .tc .vmem S4x4x256x128 e) (ha : a.IsWhole) (x : Vec F S4x4x256x128 e) (n h : Fin 4) :
    rdS a ha x n h = View.ld x (rS n h) := by
  show View.readAt _ _ _ _ = _
  rw [View.readAt_eq_ld, Memref.IsWhole.read_unread]

theorem rdD_eq (a : Memref sig .tc .vmem S4x256x128 e) (ha : a.IsWhole) (x : Vec F S4x256x128 e) (h : Fin 4) :
    rdD a ha x h = View.ld x (rD h) := by
  show View.readAt _ _ _ _ = _
  rw [View.readAt_eq_ld, Memref.IsWhole.read_unread]

/-- The block whose tiles are `T`. -/
def tileK (T : Fin 4 → Fin 4 → Vec F S64x128 e) : Vec F S256x512 e := fun y =>
  T ⟨(y 0).val / 64, by have := (y 0).isLt; change _ < 256 at this; omega⟩
    ⟨(y 1).val / 128, by have := (y 1).isLt; change _ < 512 at this; omega⟩
    (ix2 ⟨(y 0).val % 64, Nat.mod_lt _ (by decide)⟩ ⟨(y 1).val % 128, Nat.mod_lt _ (by decide)⟩)

def tileV (T : Fin 4 → Fin 4 → Vec F S64x256 e) : Vec F S256x1024 e := fun y =>
  T ⟨(y 0).val / 64, by have := (y 0).isLt; change _ < 256 at this; omega⟩
    ⟨(y 1).val / 256, by have := (y 1).isLt; change _ < 1024 at this; omega⟩
    (ix2 ⟨(y 0).val % 64, Nat.mod_lt _ (by decide)⟩ ⟨(y 1).val % 256, Nat.mod_lt _ (by decide)⟩)

def tileD (T : Fin 4 → Vec F S1x256x128 e) : Vec F S4x256x128 e := fun y =>
  T (y 0) (ix3 (0 : Fin 1) (y 1) (y 2))

theorem tileK_emb (T : Fin 4 → Fin 4 → Vec F S64x128 e) (n h : Fin 4) (x : (rK n h).shape.Idx) :
    T n h x = tileK T ((rK n h).emb x) := by
  have e0 : (((rK n h).emb x) 0).val = 64 * n.val + (x 0).val := by
    rw [Rect.emb_apply]; exact Rect.idx_unit_val ..
  have e1 : (((rK n h).emb x) 1).val = 128 * h.val + (x 1).val := by
    rw [Rect.emb_apply]; exact Rect.idx_unit_val ..
  have l0 : (x 0).val < 64 := (x 0).isLt
  have l1 : (x 1).val < 128 := (x 1).isLt
  unfold tileK
  congr 1
  · apply Fin.ext; simp only [e0]; omega
  · apply Fin.ext; simp only [e1]; omega
  · funext a
    match a with
    | 0 => apply Fin.ext; simp only [e0]; show (x 0).val = (64 * n.val + (x 0).val) % 64; omega
    | 1 => apply Fin.ext; simp only [e1]; show (x 1).val = (128 * h.val + (x 1).val) % 128; omega

theorem tileV_emb (T : Fin 4 → Fin 4 → Vec F S64x256 e) (n h : Fin 4) (x : (rV n h).shape.Idx) :
    T n h x = tileV T ((rV n h).emb x) := by
  have e0 : (((rV n h).emb x) 0).val = 64 * n.val + (x 0).val := by
    rw [Rect.emb_apply]; exact Rect.idx_unit_val ..
  have e1 : (((rV n h).emb x) 1).val = 256 * h.val + (x 1).val := by
    rw [Rect.emb_apply]; exact Rect.idx_unit_val ..
  have l0 : (x 0).val < 64 := (x 0).isLt
  have l1 : (x 1).val < 256 := (x 1).isLt
  unfold tileV
  congr 1
  · apply Fin.ext; simp only [e0]; omega
  · apply Fin.ext; simp only [e1]; omega
  · funext a
    match a with
    | 0 => apply Fin.ext; simp only [e0]; show (x 0).val = (64 * n.val + (x 0).val) % 64; omega
    | 1 => apply Fin.ext; simp only [e1]; show (x 1).val = (256 * h.val + (x 1).val) % 256; omega

theorem tileD_emb (T : Fin 4 → Vec F S1x256x128 e) (h : Fin 4) (x : (rD h).shape.Idx) :
    T h x = tileD T ((rD h).emb x) := by
  have e0 : (((rD h).emb x) 0).val = h.val + (x 0).val := by
    rw [Rect.emb_apply]; exact Rect.idx_unit_val ..
  have e1 : (((rD h).emb x) 1).val = 0 + (x 1).val := by
    rw [Rect.emb_apply]; exact Rect.idx_unit_val ..
  have e2 : (((rD h).emb x) 2).val = 0 + (x 2).val := by
    rw [Rect.emb_apply]; exact Rect.idx_unit_val ..
  have l0 : (x 0).val < 1 := (x 0).isLt
  unfold tileD
  congr 1
  · congr 1; apply Fin.ext; simp only [e0]; omega
  · funext a
    match a with
    | 0 => apply Fin.ext; show (x 0).val = 0; omega
    | 1 => apply Fin.ext; show (x 1).val = _; simp only [ix3]; exact (e1.trans (Nat.zero_add _)).symm
    | 2 => apply Fin.ext; show (x 2).val = _; simp only [ix3]; exact (e2.trans (Nat.zero_add _)).symm

/-- Sixteen stores, tile by tile, leave the block whose tiles they are. -/
theorem canon_tileK (T : Fin 4 → Fin 4 → Vec F S64x128 e) (L : List (View.Piece (Elt F) S256x512 e))
    (hL : L = [⟨rK 0 3, T 0 3⟩, ⟨rK 0 2, T 0 2⟩, ⟨rK 0 1, T 0 1⟩, ⟨rK 0 0, T 0 0⟩,
      ⟨rK 1 3, T 1 3⟩, ⟨rK 1 2, T 1 2⟩, ⟨rK 1 1, T 1 1⟩, ⟨rK 1 0, T 1 0⟩,
      ⟨rK 2 3, T 2 3⟩, ⟨rK 2 2, T 2 2⟩, ⟨rK 2 1, T 2 1⟩, ⟨rK 2 0, T 2 0⟩,
      ⟨rK 3 3, T 3 3⟩, ⟨rK 3 2, T 3 2⟩, ⟨rK 3 1, T 3 1⟩, ⟨rK 3 0, T 3 0⟩]) :
    View.canon L = tileK T := by
  subst hL
  funext y
  refine (congrArg (fun l => View.canon l y) (List.append_nil _).symm).trans
    (View.canon_append_of_piecesOf (tileK T) [] _ ?_ y (View.cover_of_tiledL (s := S256x512) _ S64x128.size (by sl_kernel_rfl) y))
  have t := tileK_emb T
  exact ⟨t 0 3, t 0 2, t 0 1, t 0 0, t 1 3, t 1 2, t 1 1, t 1 0, t 2 3, t 2 2, t 2 1, t 2 0, t 3 3, t 3 2, t 3 1, t 3 0,
    trivial⟩

theorem canon_tileV (T : Fin 4 → Fin 4 → Vec F S64x256 e) (L : List (View.Piece (Elt F) S256x1024 e))
    (hL : L = [⟨rV 0 3, T 0 3⟩, ⟨rV 0 2, T 0 2⟩, ⟨rV 0 1, T 0 1⟩, ⟨rV 0 0, T 0 0⟩,
      ⟨rV 1 3, T 1 3⟩, ⟨rV 1 2, T 1 2⟩, ⟨rV 1 1, T 1 1⟩, ⟨rV 1 0, T 1 0⟩,
      ⟨rV 2 3, T 2 3⟩, ⟨rV 2 2, T 2 2⟩, ⟨rV 2 1, T 2 1⟩, ⟨rV 2 0, T 2 0⟩,
      ⟨rV 3 3, T 3 3⟩, ⟨rV 3 2, T 3 2⟩, ⟨rV 3 1, T 3 1⟩, ⟨rV 3 0, T 3 0⟩]) :
    View.canon L = tileV T := by
  subst hL
  funext y
  refine (congrArg (fun l => View.canon l y) (List.append_nil _).symm).trans
    (View.canon_append_of_piecesOf (tileV T) [] _ ?_ y (View.cover_of_tiledL (s := S256x1024) _ S64x256.size (by sl_kernel_rfl) y))
  have t := tileV_emb T
  exact ⟨t 0 3, t 0 2, t 0 1, t 0 0, t 1 3, t 1 2, t 1 1, t 1 0, t 2 3, t 2 2, t 2 1, t 2 0, t 3 3, t 3 2, t 3 1, t 3 0,
    trivial⟩

/-- Four stores of the carried gradient, over any earlier ones. -/
theorem canon_tileD (T : Fin 4 → Vec F S1x256x128 e) (L' L : List (View.Piece (Elt F) S4x256x128 e))
    (hL : L = [⟨rD 3, T 3⟩, ⟨rD 2, T 2⟩, ⟨rD 1, T 1⟩, ⟨rD 0, T 0⟩] ++ L') :
    View.canon L = tileD T := by
  subst hL
  funext y
  have t := tileD_emb T
  exact View.canon_append_of_piecesOf (tileD T) L' [⟨rD 3, T 3⟩, ⟨rD 2, T 2⟩, ⟨rD 1, T 1⟩, ⟨rD 0, T 0⟩]
    ⟨t 3, t 2, t 1, t 0, trivial⟩ y (View.cover_of_tiledL (s := S4x256x128) _ S1x256x128.size (by sl_kernel_rfl) y)

end

end Cert.KernelIdeal.Gla

end
-- ==== Proof.Gla.RunA.lean ====
/- What a grid point leaves, in the case "the first point": the stores its run found are the sixteen (chunk, head)
   pairs, each `Block`'s function of its own slices, with the carried gradient handed from chunk to chunk. -/
module

public import proofs.«01_k».proof.Proof.Gla.Tiles
public import Idealize.ShloMosaic.Lib.Pipeline.ReadBack

@[expose] public section

set_option maxRecDepth 16384

noncomputable section

namespace Cert.KernelIdeal.Gla

open Cert.KernelIdeal Cert.KernelIdeal.Gen Idealize.ShloMosaic

variable {F : FTy → Type} [FloatOps F]

section

variable (c : Dev nD) (i : grid0.Coords) (arg1 : Memref sig .tc .vmem S256x512 .bf16) (harg1 : arg1.IsWhole)
  (arg2 : Memref sig .tc .vmem S256x512 .bf16) (harg2 : arg2.IsWhole)
  (arg3 : Memref sig .tc .vmem S256x1024 .bf16) (harg3 : arg3.IsWhole)
  (arg4 : Memref sig .tc .vmem S256x512 .f32) (harg4 : arg4.IsWhole)
  (arg5 : Memref sig .tc .vmem S256x1024 .bf16) (harg5 : arg5.IsWhole)
  (arg6 : Memref sig .tc .vmem S4x4x256x128 .f32) (harg6 : arg6.IsWhole)
  (arg7 : Memref sig .tc .vmem S256x512 .f32) (harg7 : arg7.IsWhole)
  (arg8 : Memref sig .tc .vmem S256x512 .f32) (harg8 : arg8.IsWhole)
  (arg9 : Memref sig .tc .vmem S256x1024 .f32) (harg9 : arg9.IsWhole)
  (arg10 : Memref sig .tc .vmem S256x512 .f32) (harg10 : arg10.IsWhole)
  (arg11 : Memref sig .tc .vmem S4x256x128 .f32) (harg11 : arg11.IsWhole)
  (hc0 : cond0_0 i)
  (x0 : Vec F S256x512 .bf16) (x1 : Vec F S256x512 .bf16) (x2 : Vec F S256x1024 .bf16) (x3 : Vec F S256x512 .f32)
  (x4 : Vec F S256x1024 .bf16) (x5 : Vec F S4x4x256x128 .f32)

theorem HS1_A : kernelRun0_A.sl.HS0_1 (F := F) =
  [⟨Rect.unit ![0, 0, 0] S4x256x128.size inb_S4x256x128_S4x256x128_0_0_0, k0_pay2⟩] := rfl

theorem HS2_A : kernelRun0_A.sl.HS0_2 c arg1 harg1 arg4 harg4 arg5 harg5 arg11 x0 x3 x4 =
    pcD arg1 harg1 arg4 harg4 arg5 harg5 x0 x3 x4 3 0 (kernelRun0_A.sl.v43 c arg11) ::
      kernelRun0_A.sl.HS0_1 (F := F) := rfl

theorem HS3_A : kernelRun0_A.sl.HS0_3 c arg1 harg1 arg4 harg4 arg5 harg5 arg11 x0 x3 x4 =
    pcD arg1 harg1 arg4 harg4 arg5 harg5 x0 x3 x4 3 1 (kernelRun0_A.sl.v144 c arg1 harg1 arg4 harg4 arg5 harg5 arg11 x0 x3 x4) ::
      kernelRun0_A.sl.HS0_2 c arg1 harg1 arg4 harg4 arg5 harg5 arg11 x0 x3 x4 := rfl

theorem HS4_A : kernelRun0_A.sl.HS0_4 c arg1 harg1 arg4 harg4 arg5 harg5 arg11 x0 x3 x4 =
    pcD arg1 harg1 arg4 harg4 arg5 harg5 x0 x3 x4 3 2 (kernelRun0_A.sl.v245 c arg1 harg1 arg4 harg4 arg5 harg5 arg11 x0 x3 x4) ::
      kernelRun0_A.sl.HS0_3 c arg1 harg1 arg4 harg4 arg5 harg5 arg11 x0 x3 x4 := rfl

theorem HS5_A : kernelRun0_A.sl.HS0_5 c arg1 harg1 arg4 harg4 arg5 harg5 arg11 x0 x3 x4 =
    pcD arg1 harg1 arg4 harg4 arg5 harg5 x0 x3 x4 3 3 (kernelRun0_A.sl.v346 c arg1 harg1 arg4 harg4 arg5 harg5 arg11 x0 x3 x4) ::
      kernelRun0_A.sl.HS0_4 c arg1 harg1 arg4 harg4 arg5 harg5 arg11 x0 x3 x4 := rfl

theorem HS6_A : kernelRun0_A.sl.HS0_6 c arg1 harg1 arg4 harg4 arg5 harg5 arg11 x0 x3 x4 =
    pcD arg1 harg1 arg4 harg4 arg5 harg5 x0 x3 x4 2 0 (kernelRun0_A.sl.v447 c arg1 harg1 arg4 harg4 arg5 harg5 arg11 x0 x3 x4) ::
      kernelRun0_A.sl.HS0_5 c arg1 harg1 arg4 harg4 arg5 harg5 arg11 x0 x3 x4 := rfl

theorem HS7_A : kernelRun0_A.sl.HS0_7 c arg1 harg1 arg4 harg4 arg5 harg5 arg11 x0 x3 x4 =
    pcD arg1 harg1 arg4 harg4 arg5 harg5 x0 x3 x4 2 1 (kernelRun0_A.sl.v548 c arg1 harg1 arg4 harg4 arg5 harg5 arg11 x0 x3 x4) ::
      kernelRun0_A.sl.HS0_6 c arg1 harg1 arg4 harg4 arg5 harg5 arg11 x0 x3 x4 := rfl

theorem HS8_A : kernelRun0_A.sl.HS0_8 c arg1 harg1 arg4 harg4 arg5 harg5 arg11 x0 x3 x4 =
    pcD arg1 harg1 arg4 harg4 arg5 harg5 x0 x3 x4 2 2 (kernelRun0_A.sl.v649 c arg1 harg1 arg4 harg4 arg5 harg5 arg11 x0 x3 x4) ::
      kernelRun0_A.sl.HS0_7 c arg1 harg1 arg4 harg4 arg5 harg5 arg11 x0 x3 x4 := rfl

theorem HS9_A : kernelRun0_A.sl.HS0_9 c arg1 harg1 arg4 harg4 arg5 harg5 arg11 x0 x3 x4 =
    pcD arg1 harg1 arg4 harg4 arg5 harg5 x0 x3 x4 2 3 (kernelRun0_A.sl.v750 c arg1 harg1 arg4 harg4 arg5 harg5 arg11 x0 x3 x4) ::
      kernelRun0_A.sl.HS0_8 c arg1 harg1 arg4 harg4 arg5 harg5 arg11 x0 x3 x4 := rfl

theorem HS10_A : kernelRun0_A.sl.HS0_10 c arg1 harg1 arg4 harg4 arg5 harg5 arg11 x0 x3 x4 =
    pcD arg1 harg1 arg4 harg4 arg5 harg5 x0 x3 x4 1 0 (kernelRun0_A.sl.v851 c arg1 harg1 arg4 harg4 arg5 harg5 arg11 x0 x3 x4) ::
      kernelRun0_A.sl.HS0_9 c arg1 harg1 arg4 harg4 arg5 harg5 arg11 x0 x3 x4 := rfl

theorem HS11_A : kernelRun0_A.sl.HS0_11 c arg1 harg1 arg4 harg4 arg5 harg5 arg11 x0 x3 x4 =
    pcD arg1 harg1 arg4 harg4 arg5 harg5 x0 x3 x4 1 1 (kernelRun0_A.sl.v952 c arg1 harg1 arg4 harg4 arg5 harg5 arg11 x0 x3 x4) ::
      kernelRun0_A.sl.HS0_10 c arg1 harg1 arg4 harg4 arg5 harg5 arg11 x0 x3 x4 := rfl

theorem HS12_A : kernelRun0_A.sl.HS0_12 c arg1 harg1 arg4 harg4 arg5 harg5 arg11 x0 x3 x4 =
    pcD arg1 harg1 arg4 harg4 arg5 harg5 x0 x3 x4 1 2 (kernelRun0_A.sl.v1053 c arg1 harg1 arg4 harg4 arg5 harg5 arg11 x0 x3 x4) ::
      kernelRun0_A.sl.HS0_11 c arg1 harg1 arg4 harg4 arg5 harg5 arg11 x0 x3 x4 := rfl

theorem HS13_A : kernelRun0_A.sl.HS0_13 c arg1 harg1 arg4 harg4 arg5 harg5 arg11 x0 x3 x4 =
    pcD arg1 harg1 arg4 harg4 arg5 harg5 x0 x3 x4 1 3 (kernelRun0_A.sl.v1154 c arg1 harg1 arg4 harg4 arg5 harg5 arg11 x0 x3 x4) ::
      kernelRun0_A.sl.HS0_12 c arg1 harg1 arg4 harg4 arg5 harg5 arg11 x0 x3 x4 := rfl

theorem HS14_A : kernelRun0_A.sl.HS0_14 c arg1 harg1 arg4 harg4 arg5 harg5 arg11 x0 x3 x4 =
    pcD arg1 harg1 arg4 harg4 arg5 harg5 x0 x3 x4 0 0 (kernelRun0_A.sl.v1255 c arg1 harg1 arg4 harg4 arg5 harg5 arg11 x0 x3 x4) ::
      kernelRun0_A.sl.HS0_13 c arg1 harg1 arg4 harg4 arg5 harg5 arg11 x0 x3 x4 := rfl

theorem HS15_A : kernelRun0_A.sl.HS0_15 c arg1 harg1 arg4 harg4 arg5 harg5 arg11 x0 x3 x4 =
    pcD arg1 harg1 arg4 harg4 arg5 harg5 x0 x3 x4 0 1 (kernelRun0_A.sl.v1356 c arg1 harg1 arg4 harg4 arg5 harg5 arg11 x0 x3 x4) ::
      kernelRun0_A.sl.HS0_14 c arg1 harg1 arg4 harg4 arg5 harg5 arg11 x0 x3 x4 := rfl

theorem HS16_A : kernelRun0_A.sl.HS0_16 c arg1 harg1 arg4 harg4 arg5 harg5 arg11 x0 x3 x4 =
    pcD arg1 harg1 arg4 harg4 arg5 harg5 x0 x3 x4 0 2 (kernelRun0_A.sl.v1457 c arg1 harg1 arg4 harg4 arg5 harg5 arg11 x0 x3 x4) ::
      kernelRun0_A.sl.HS0_15 c arg1 harg1 arg4 harg4 arg5 harg5 arg11 x0 x3 x4 := rfl

theorem v0_A : kernelRun0_A.sl.v43 c arg11 = inner x0 x3 x4 (d0 (F := F)) 0 0 := by
  unfold kernelRun0_A.sl.v43
  rw [HS1_A]
  exact View.readCov_fill _ _ _ _ _ (by decide)

theorem v1_A : kernelRun0_A.sl.v144 c arg1 harg1 arg4 harg4 arg5 harg5 arg11 x0 x3 x4 = inner x0 x3 x4 (d0 (F := F)) 0 1 := by
  unfold kernelRun0_A.sl.v144
  rw [HS2_A, HS1_A]
  iterate 1 rw [View.readCov_skip _ _ _ _ _ (by decide)]
  exact View.readCov_fill _ _ _ _ _ (by decide)

theorem v2_A : kernelRun0_A.sl.v245 c arg1 harg1 arg4 harg4 arg5 harg5 arg11 x0 x3 x4 = inner x0 x3 x4 (d0 (F := F)) 0 2 := by
  unfold kernelRun0_A.sl.v245
  rw [HS3_A, HS2_A, HS1_A]
  iterate 2 rw [View.readCov_skip _ _ _ _ _ (by decide)]
  exact View.readCov_fill _ _ _ _ _ (by decide)

theorem v3_A : kernelRun0_A.sl.v346 c arg1 harg1 arg4 harg4 arg5 harg5 arg11 x0 x3 x4 = inner x0 x3 x4 (d0 (F := F)) 0 3 := by
  unfold kernelRun0_A.sl.v346
  rw [HS4_A, HS3_A, HS2_A, HS1_A]
  iterate 3 rw [View.readCov_skip _ _ _ _ _ (by decide)]
  exact View.readCov_fill _ _ _ _ _ (by decide)

theorem v4_A : kernelRun0_A.sl.v447 c arg1 harg1 arg4 harg4 arg5 harg5 arg11 x0 x3 x4 = inner x0 x3 x4 (d0 (F := F)) 1 0 := by
  unfold kernelRun0_A.sl.v447
  rw [HS5_A, HS4_A, HS3_A, HS2_A]
  iterate 3 rw [View.readCov_skip _ _ _ _ _ (by decide)]
  refine (View.readCov_cons_toLoadRect _ _ _ _).trans ?_
  rw [v0_A]
  simp only [rdK_eq, rdV_eq]
  rfl

theorem v5_A : kernelRun0_A.sl.v548 c arg1 harg1 arg4 harg4 arg5 harg5 arg11 x0 x3 x4 = inner x0 x3 x4 (d0 (F := F)) 1 1 := by
  unfold kernelRun0_A.sl.v548
  rw [HS6_A, HS5_A, HS4_A, HS3_A]
  iterate 3 rw [View.readCov_skip _ _ _ _ _ (by decide)]
  refine (View.readCov_cons_toLoadRect _ _ _ _).trans ?_
  rw [v1_A]
  simp only [rdK_eq, rdV_eq]
  rfl

theorem v6_A : kernelRun0_A.sl.v649 c arg1 harg1 arg4 harg4 arg5 harg5 arg11 x0 x3 x4 = inner x0 x3 x4 (d0 (F := F)) 1 2 := by
  unfold kernelRun0_A.sl.v649
  rw [HS7_A, HS6_A, HS5_A, HS4_A]
  iterate 3 rw [View.readCov_skip _ _ _ _ _ (by decide)]
  refine (View.readCov_cons_toLoadRect _ _ _ _).trans ?_
  rw [v2_A]
  simp only [rdK_eq, rdV_eq]
  rfl

theorem v7_A : kernelRun0_A.sl.v750 c arg1 harg1 arg4 harg4 arg5 harg5 arg11 x0 x3 x4 = inner x0 x3 x4 (d0 (F := F)) 1 3 := by
  unfold kernelRun0_A.sl.v750
  rw [HS8_A, HS7_A, HS6_A, HS5_A]
  iterate 3 rw [View.readCov_skip _ _ _ _ _ (by decide)]
  refine (View.readCov_cons_toLoadRect _ _ _ _).trans ?_
  rw [v3_A]
  simp only [rdK_eq, rdV_eq]
  rfl

theorem v8_A : kernelRun0_A.sl.v851 c arg1 harg1 arg4 harg4 arg5 harg5 arg11 x0 x3 x4 = inner x0 x3 x4 (d0 (F := F)) 2 0 := by
  unfold kernelRun0_A.sl.v851
  rw [HS9_A, HS8_A, HS7_A, HS6_A]
  iterate 3 rw [View.readCov_skip _ _ _ _ _ (by decide)]
  refine (View.readCov_cons_toLoadRect _ _ _ _).trans ?_
  rw [v4_A]
  simp only [rdK_eq, rdV_eq]
  rfl

theorem v9_A : kernelRun0_A.sl.v952 c arg1 harg1 arg4 harg4 arg5 harg5 arg11 x0 x3 x4 = inner x0 x3 x4 (d0 (F := F)) 2 1 := by
  unfold kernelRun0_A.sl.v952
  rw [HS10_A, HS9_A, HS8_A, HS7_A]
  iterate 3 rw [View.readCov_skip _ _ _ _ _ (by decide)]
  refine (View.readCov_cons_toLoadRect _ _ _ _).trans ?_
  rw [v5_A]
  simp only [rdK_eq, rdV_eq]
  rfl

theorem v10_A : kernelRun0_A.sl.v1053 c arg1 harg1 arg4 harg4 arg5 harg5 arg11 x0 x3 x4 = inner x0 x3 x4 (d0 (F := F)) 2 2 := by
  unfold kernelRun0_A.sl.v1053
  rw [HS11_A, HS10_A, HS9_A, HS8_A]
  iterate 3 rw [View.readCov_skip _ _ _ _ _ (by decide)]
  refine (View.readCov_cons_toLoadRect _ _ _ _).trans ?_
  rw [v6_A]
  simp only [rdK_eq, rdV_eq]
  rfl

theorem v11_A : kernelRun0_A.sl.v1154 c arg1 harg1 arg4 harg4 arg5 harg5 arg11 x0 x3 x4 = inner x0 x3 x4 (d0 (F := F)) 2 3 := by
  unfold kernelRun0_A.sl.v1154
  rw [HS12_A, HS11_A, HS10_A, HS9_A]
  iterate 3 rw [View.readCov_skip _ _ _ _ _ (by decide)]
  refine (View.readCov_cons_toLoadRect _ _ _ _).trans ?_
  rw [v7_A]
  simp only [rdK_eq, rdV_eq]
  rfl

theorem v12_A : kernelRun0_A.sl.v1255 c arg1 harg1 arg4 harg4 arg5 harg5 arg11 x0 x3 x4 = inner x0 x3 x4 (d0 (F := F)) 3 0 := by
  unfold kernelRun0_A.sl.v1255
  rw [HS13_A, HS12_A, HS11_A, HS10_A]
  iterate 3 rw [View.readCov_skip _ _ _ _ _ (by decide)]
  refine (View.readCov_cons_toLoadRect _ _ _ _).trans ?_
  rw [v8_A]
  simp only [rdK_eq, rdV_eq]
  rfl

theorem v13_A : kernelRun0_A.sl.v1356 c arg1 harg1 arg4 harg4 arg5 harg5 arg11 x0 x3 x4 = inner x0 x3 x4 (d0 (F := F)) 3 1 := by
  unfold kernelRun0_A.sl.v1356
  rw [HS14_A, HS13_A, HS12_A, HS11_A]
  iterate 3 rw [View.readCov_skip _ _ _ _ _ (by decide)]
  refine (View.readCov_cons_toLoadRect _ _ _ _).trans ?_
  rw [v9_A]
  simp only [rdK_eq, rdV_eq]
  rfl

theorem v14_A : kernelRun0_A.sl.v1457 c arg1 harg1 arg4 harg4 arg5 harg5 arg11 x0 x3 x4 = inner x0 x3 x4 (d0 (F := F)) 3 2 := by
  unfold kernelRun0_A.sl.v1457
  rw [HS15_A, HS14_A, HS13_A, HS12_A]
  iterate 3 rw [View.readCov_skip _ _ _ _ _ (by decide)]
  refine (View.readCov_cons_toLoadRect _ _ _ _).trans ?_
  rw [v10_A]
  simp only [rdK_eq, rdV_eq]
  rfl

theorem v15_A : kernelRun0_A.sl.v1558 c arg1 harg1 arg4 harg4 arg5 harg5 arg11 x0 x3 x4 = inner x0 x3 x4 (d0 (F := F)) 3 3 := by
  unfold kernelRun0_A.sl.v1558
  rw [HS16_A, HS15_A, HS14_A, HS13_A]
  iterate 3 rw [View.readCov_skip _ _ _ _ _ (by decide)]
  refine (View.readCov_cons_toLoadRect _ _ _ _).trans ?_
  rw [v11_A]
  simp only [rdK_eq, rdV_eq]
  rfl

/-- The point's block of the query's gradient. -/
theorem out6_A : out0_A_6 c i arg1 harg1 arg2 harg2 arg3 harg3 arg4 harg4 arg5 harg5 arg6 harg6 arg7 harg7 arg8 harg8 arg9 harg9 arg10 harg10 arg11 harg11 hc0 x0 x1 x2 x3 x4 x5 =
    tileK fun n h => dqB (View.ld x1 (rK n h)) (View.ld x2 (rV n h)) (View.ld x3 (rK n h)) (View.ld x4 (rV n h)) (View.ld x5 (rS n h)) := by
  unfold out0_A_6
  rw [View.read_writes_junk_eq_canon]
  rw [show (kernelRun0_A c i arg1 harg1 arg2 harg2 arg3 harg3 arg4 harg4 arg5 harg5 arg6 harg6 arg7 harg7 arg8 harg8 arg9 harg9 arg10 harg10 arg11 harg11 hc0 x0 x1 x2 x3 x4 x5).1 =
    [⟨rK 0 3, dqB (rdK arg2 harg2 x1 0 3) (rdV arg3 harg3 x2 0 3) (rdK arg4 harg4 x3 0 3) (rdV arg5 harg5 x4 0 3) (rdS arg6 harg6 x5 0 3)⟩,
     ⟨rK 0 2, dqB (rdK arg2 harg2 x1 0 2) (rdV arg3 harg3 x2 0 2) (rdK arg4 harg4 x3 0 2) (rdV arg5 harg5 x4 0 2) (rdS arg6 harg6 x5 0 2)⟩,
     ⟨rK 0 1, dqB (rdK arg2 harg2 x1 0 1) (rdV arg3 harg3 x2 0 1) (rdK arg4 harg4 x3 0 1) (rdV arg5 harg5 x4 0 1) (rdS arg6 harg6 x5 0 1)⟩,
     ⟨rK 0 0, dqB (rdK arg2 harg2 x1 0 0) (rdV arg3 harg3 x2 0 0) (rdK arg4 harg4 x3 0 0) (rdV arg5 harg5 x4 0 0) (rdS arg6 harg6 x5 0 0)⟩,
     ⟨rK 1 3, dqB (rdK arg2 harg2 x1 1 3) (rdV arg3 harg3 x2 1 3) (rdK arg4 harg4 x3 1 3) (rdV arg5 harg5 x4 1 3) (rdS arg6 harg6 x5 1 3)⟩,
     ⟨rK 1 2, dqB (rdK arg2 harg2 x1 1 2) (rdV arg3 harg3 x2 1 2) (rdK arg4 harg4 x3 1 2) (rdV arg5 harg5 x4 1 2) (rdS arg6 harg6 x5 1 2)⟩,
     ⟨rK 1 1, dqB (rdK arg2 harg2 x1 1 1) (rdV arg3 harg3 x2 1 1) (rdK arg4 harg4 x3 1 1) (rdV arg5 harg5 x4 1 1) (rdS arg6 harg6 x5 1 1)⟩,
     ⟨rK 1 0, dqB (rdK arg2 harg2 x1 1 0) (rdV arg3 harg3 x2 1 0) (rdK arg4 harg4 x3 1 0) (rdV arg5 harg5 x4 1 0) (rdS arg6 harg6 x5 1 0)⟩,
     ⟨rK 2 3, dqB (rdK arg2 harg2 x1 2 3) (rdV arg3 harg3 x2 2 3) (rdK arg4 harg4 x3 2 3) (rdV arg5 harg5 x4 2 3) (rdS arg6 harg6 x5 2 3)⟩,
     ⟨rK 2 2, dqB (rdK arg2 harg2 x1 2 2) (rdV arg3 harg3 x2 2 2) (rdK arg4 harg4 x3 2 2) (rdV arg5 harg5 x4 2 2) (rdS arg6 harg6 x5 2 2)⟩,
     ⟨rK 2 1, dqB (rdK arg2 harg2 x1 2 1) (rdV arg3 harg3 x2 2 1) (rdK arg4 harg4 x3 2 1) (rdV arg5 harg5 x4 2 1) (rdS arg6 harg6 x5 2 1)⟩,
     ⟨rK 2 0, dqB (rdK arg2 harg2 x1 2 0) (rdV arg3 harg3 x2 2 0) (rdK arg4 harg4 x3 2 0) (rdV arg5 harg5 x4 2 0) (rdS arg6 harg6 x5 2 0)⟩,
     ⟨rK 3 3, dqB (rdK arg2 harg2 x1 3 3) (rdV arg3 harg3 x2 3 3) (rdK arg4 harg4 x3 3 3) (rdV arg5 harg5 x4 3 3) (rdS arg6 harg6 x5 3 3)⟩,
     ⟨rK 3 2, dqB (rdK arg2 harg2 x1 3 2) (rdV arg3 harg3 x2 3 2) (rdK arg4 harg4 x3 3 2) (rdV arg5 harg5 x4 3 2) (rdS arg6 harg6 x5 3 2)⟩,
     ⟨rK 3 1, dqB (rdK arg2 harg2 x1 3 1) (rdV arg3 harg3 x2 3 1) (rdK arg4 harg4 x3 3 1) (rdV arg5 harg5 x4 3 1) (rdS arg6 harg6 x5 3 1)⟩,
     ⟨rK 3 0, dqB (rdK arg2 harg2 x1 3 0) (rdV arg3 harg3 x2 3 0) (rdK arg4 harg4 x3 3 0) (rdV arg5 harg5 x4 3 0) (rdS arg6 harg6 x5 3 0)⟩] from rfl]
  simp only [rdK_eq, rdV_eq, rdS_eq]
  exact canon_tileK (F := F) (e := .f32) (fun n h => dqB (View.ld x1 (rK n h)) (View.ld x2 (rV n h)) (View.ld x3 (rK n h)) (View.ld x4 (rV n h)) (View.ld x5 (rS n h))) _ rfl

/-- The point's block of the key's gradient. -/
theorem out7_A : out0_A_7 c i arg1 harg1 arg2 harg2 arg3 harg3 arg4 harg4 arg5 harg5 arg6 harg6 arg7 harg7 arg8 harg8 arg9 harg9 arg10 harg10 arg11 harg11 hc0 x0 x1 x2 x3 x4 x5 =
    tileK fun n h => dkB (View.ld x0 (rK n h)) (View.ld x2 (rV n h)) (View.ld x3 (rK n h)) (View.ld x4 (rV n h)) (inner x0 x3 x4 (d0 (F := F)) (3 - n.val) h) := by
  unfold out0_A_7
  rw [View.read_writes_junk_eq_canon]
  rw [show (kernelRun0_A c i arg1 harg1 arg2 harg2 arg3 harg3 arg4 harg4 arg5 harg5 arg6 harg6 arg7 harg7 arg8 harg8 arg9 harg9 arg10 harg10 arg11 harg11 hc0 x0 x1 x2 x3 x4 x5).2.1 =
    [⟨rK 0 3, dkB (rdK arg1 harg1 x0 0 3) (rdV arg3 harg3 x2 0 3) (rdK arg4 harg4 x3 0 3) (rdV arg5 harg5 x4 0 3) (kernelRun0_A.sl.v1558 c arg1 harg1 arg4 harg4 arg5 harg5 arg11 x0 x3 x4)⟩,
     ⟨rK 0 2, dkB (rdK arg1 harg1 x0 0 2) (rdV arg3 harg3 x2 0 2) (rdK arg4 harg4 x3 0 2) (rdV arg5 harg5 x4 0 2) (kernelRun0_A.sl.v1457 c arg1 harg1 arg4 harg4 arg5 harg5 arg11 x0 x3 x4)⟩,
     ⟨rK 0 1, dkB (rdK arg1 harg1 x0 0 1) (rdV arg3 harg3 x2 0 1) (rdK arg4 harg4 x3 0 1) (rdV arg5 harg5 x4 0 1) (kernelRun0_A.sl.v1356 c arg1 harg1 arg4 harg4 arg5 harg5 arg11 x0 x3 x4)⟩,
     ⟨rK 0 0, dkB (rdK arg1 harg1 x0 0 0) (rdV arg3 harg3 x2 0 0) (rdK arg4 harg4 x3 0 0) (rdV arg5 harg5 x4 0 0) (kernelRun0_A.sl.v1255 c arg1 harg1 arg4 harg4 arg5 harg5 arg11 x0 x3 x4)⟩,
     ⟨rK 1 3, dkB (rdK arg1 harg1 x0 1 3) (rdV arg3 harg3 x2 1 3) (rdK arg4 harg4 x3 1 3) (rdV arg5 harg5 x4 1 3) (kernelRun0_A.sl.v1154 c arg1 harg1 arg4 harg4 arg5 harg5 arg11 x0 x3 x4)⟩,
     ⟨rK 1 2, dkB (rdK arg1 harg1 x0 1 2) (rdV arg3 harg3 x2 1 2) (rdK arg4 harg4 x3 1 2) (rdV arg5 harg5 x4 1 2) (kernelRun0_A.sl.v1053 c arg1 harg1 arg4 harg4 arg5 harg5 arg11 x0 x3 x4)⟩,
     ⟨rK 1 1, dkB (rdK arg1 harg1 x0 1 1) (rdV arg3 harg3 x2 1 1) (rdK arg4 harg4 x3 1 1) (rdV arg5 harg5 x4 1 1) (kernelRun0_A.sl.v952 c arg1 harg1 arg4 harg4 arg5 harg5 arg11 x0 x3 x4)⟩,
     ⟨rK 1 0, dkB (rdK arg1 harg1 x0 1 0) (rdV arg3 harg3 x2 1 0) (rdK arg4 harg4 x3 1 0) (rdV arg5 harg5 x4 1 0) (kernelRun0_A.sl.v851 c arg1 harg1 arg4 harg4 arg5 harg5 arg11 x0 x3 x4)⟩,
     ⟨rK 2 3, dkB (rdK arg1 harg1 x0 2 3) (rdV arg3 harg3 x2 2 3) (rdK arg4 harg4 x3 2 3) (rdV arg5 harg5 x4 2 3) (kernelRun0_A.sl.v750 c arg1 harg1 arg4 harg4 arg5 harg5 arg11 x0 x3 x4)⟩,
     ⟨rK 2 2, dkB (rdK arg1 harg1 x0 2 2) (rdV arg3 harg3 x2 2 2) (rdK arg4 harg4 x3 2 2) (rdV arg5 harg5 x4 2 2) (kernelRun0_A.sl.v649 c arg1 harg1 arg4 harg4 arg5 harg5 arg11 x0 x3 x4)⟩,
     ⟨rK 2 1, dkB (rdK arg1 harg1 x0 2 1) (rdV arg3 harg3 x2 2 1) (rdK arg4 harg4 x3 2 1) (rdV arg5 harg5 x4 2 1) (kernelRun0_A.sl.v548 c arg1 harg1 arg4 harg4 arg5 harg5 arg11 x0 x3 x4)⟩,
     ⟨rK 2 0, dkB (rdK arg1 harg1 x0 2 0) (rdV arg3 harg3 x2 2 0) (rdK arg4 harg4 x3 2 0) (rdV arg5 harg5 x4 2 0) (kernelRun0_A.sl.v447 c arg1 harg1 arg4 harg4 arg5 harg5 arg11 x0 x3 x4)⟩,
     ⟨rK 3 3, dkB (rdK arg1 harg1 x0 3 3) (rdV arg3 harg3 x2 3 3) (rdK arg4 harg4 x3 3 3) (rdV arg5 harg5 x4 3 3) (kernelRun0_A.sl.v346 c arg1 harg1 arg4 harg4 arg5 harg5 arg11 x0 x3 x4)⟩,
     ⟨rK 3 2, dkB (rdK arg1 harg1 x0 3 2) (rdV arg3 harg3 x2 3 2) (rdK arg4 harg4 x3 3 2) (rdV arg5 harg5 x4 3 2) (kernelRun0_A.sl.v245 c arg1 harg1 arg4 harg4 arg5 harg5 arg11 x0 x3 x4)⟩,
     ⟨rK 3 1, dkB (rdK arg1 harg1 x0 3 1) (rdV arg3 harg3 x2 3 1) (rdK arg4 harg4 x3 3 1) (rdV arg5 harg5 x4 3 1) (kernelRun0_A.sl.v144 c arg1 harg1 arg4 harg4 arg5 harg5 arg11 x0 x3 x4)⟩,
     ⟨rK 3 0, dkB (rdK arg1 harg1 x0 3 0) (rdV arg3 harg3 x2 3 0) (rdK arg4 harg4 x3 3 0) (rdV arg5 harg5 x4 3 0) (kernelRun0_A.sl.v43 c arg11)⟩] from rfl]
  rw [v0_A, v1_A, v2_A, v3_A, v4_A, v5_A, v6_A, v7_A, v8_A, v9_A, v10_A, v11_A, v12_A, v13_A, v14_A, v15_A]
  simp only [rdK_eq, rdV_eq, rdS_eq]
  exact canon_tileK (F := F) (e := .f32) (fun n h => dkB (View.ld x0 (rK n h)) (View.ld x2 (rV n h)) (View.ld x3 (rK n h)) (View.ld x4 (rV n h)) (inner x0 x3 x4 (d0 (F := F)) (3 - n.val) h)) _ rfl

/-- The point's block of the value's gradient. -/
theorem out8_A : out0_A_8 c i arg1 harg1 arg2 harg2 arg3 harg3 arg4 harg4 arg5 harg5 arg6 harg6 arg7 harg7 arg8 harg8 arg9 harg9 arg10 harg10 arg11 harg11 hc0 x0 x1 x2 x3 x4 x5 =
    tileV fun n h => dvB (View.ld x0 (rK n h)) (View.ld x1 (rK n h)) (View.ld x3 (rK n h)) (View.ld x4 (rV n h)) (inner x0 x3 x4 (d0 (F := F)) (3 - n.val) h) := by
  unfold out0_A_8
  rw [View.read_writes_junk_eq_canon]
  rw [show (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.1 =
    [⟨rV 0 3, dvB (rdK arg1 harg1 x0 0 3) (rdK arg2 harg2 x1 0 3) (rdK arg4 harg4 x3 0 3) (rdV arg5 harg5 x4 0 3) (kernelRun0_A.sl.v1558 c arg1 harg1 arg4 harg4 arg5 harg5 arg11 x0 x3 x4)⟩,
     ⟨rV 0 2, dvB (rdK arg1 harg1 x0 0 2) (rdK arg2 harg2 x1 0 2) (rdK arg4 harg4 x3 0 2) (rdV arg5 harg5 x4 0 2) (kernelRun0_A.sl.v1457 c arg1 harg1 arg4 harg4 arg5 harg5 arg11 x0 x3 x4)⟩,
     ⟨rV 0 1, dvB (rdK arg1 harg1 x0 0 1) (rdK arg2 harg2 x1 0 1) (rdK arg4 harg4 x3 0 1) (rdV arg5 harg5 x4 0 1) (kernelRun0_A.sl.v1356 c arg1 harg1 arg4 harg4 arg5 harg5 arg11 x0 x3 x4)⟩,
     ⟨rV 0 0, dvB (rdK arg1 harg1 x0 0 0) (rdK arg2 harg2 x1 0 0) (rdK arg4 harg4 x3 0 0) (rdV arg5 harg5 x4 0 0) (kernelRun0_A.sl.v1255 c arg1 harg1 arg4 harg4 arg5 harg5 arg11 x0 x3 x4)⟩,
     ⟨rV 1 3, dvB (rdK arg1 harg1 x0 1 3) (rdK arg2 harg2 x1 1 3) (rdK arg4 harg4 x3 1 3) (rdV arg5 harg5 x4 1 3) (kernelRun0_A.sl.v1154 c arg1 harg1 arg4 harg4 arg5 harg5 arg11 x0 x3 x4)⟩,
     ⟨rV 1 2, dvB (rdK arg1 harg1 x0 1 2) (rdK arg2 harg2 x1 1 2) (rdK arg4 harg4 x3 1 2) (rdV arg5 harg5 x4 1 2) (kernelRun0_A.sl.v1053 c arg1 harg1 arg4 harg4 arg5 harg5 arg11 x0 x3 x4)⟩,
     ⟨rV 1 1, dvB (rdK arg1 harg1 x0 1 1) (rdK arg2 harg2 x1 1 1) (rdK arg4 harg4 x3 1 1) (rdV arg5 harg5 x4 1 1) (kernelRun0_A.sl.v952 c arg1 harg1 arg4 harg4 arg5 harg5 arg11 x0 x3 x4)⟩,
     ⟨rV 1 0, dvB (rdK arg1 harg1 x0 1 0) (rdK arg2 harg2 x1 1 0) (rdK arg4 harg4 x3 1 0) (rdV arg5 harg5 x4 1 0) (kernelRun0_A.sl.v851 c arg1 harg1 arg4 harg4 arg5 harg5 arg11 x0 x3 x4)⟩,
     ⟨rV 2 3, dvB (rdK arg1 harg1 x0 2 3) (rdK arg2 harg2 x1 2 3) (rdK arg4 harg4 x3 2 3) (rdV arg5 harg5 x4 2 3) (kernelRun0_A.sl.v750 c arg1 harg1 arg4 harg4 arg5 harg5 arg11 x0 x3 x4)⟩,
     ⟨rV 2 2, dvB (rdK arg1 harg1 x0 2 2) (rdK arg2 harg2 x1 2 2) (rdK arg4 harg4 x3 2 2) (rdV arg5 harg5 x4 2 2) (kernelRun0_A.sl.v649 c arg1 harg1 arg4 harg4 arg5 harg5 arg11 x0 x3 x4)⟩,
     ⟨rV 2 1, dvB (rdK arg1 harg1 x0 2 1) (rdK arg2 harg2 x1 2 1) (rdK arg4 harg4 x3 2 1) (rdV arg5 harg5 x4 2 1) (kernelRun0_A.sl.v548 c arg1 harg1 arg4 harg4 arg5 harg5 arg11 x0 x3 x4)⟩,
     ⟨rV 2 0, dvB (rdK arg1 harg1 x0 2 0) (rdK arg2 harg2 x1 2 0) (rdK arg4 harg4 x3 2 0) (rdV arg5 harg5 x4 2 0) (kernelRun0_A.sl.v447 c arg1 harg1 arg4 harg4 arg5 harg5 arg11 x0 x3 x4)⟩,
     ⟨rV 3 3, dvB (rdK arg1 harg1 x0 3 3) (rdK arg2 harg2 x1 3 3) (rdK arg4 harg4 x3 3 3) (rdV arg5 harg5 x4 3 3) (kernelRun0_A.sl.v346 c arg1 harg1 arg4 harg4 arg5 harg5 arg11 x0 x3 x4)⟩,
     ⟨rV 3 2, dvB (rdK arg1 harg1 x0 3 2) (rdK arg2 harg2 x1 3 2) (rdK arg4 harg4 x3 3 2) (rdV arg5 harg5 x4 3 2) (kernelRun0_A.sl.v245 c arg1 harg1 arg4 harg4 arg5 harg5 arg11 x0 x3 x4)⟩,
     ⟨rV 3 1, dvB (rdK arg1 harg1 x0 3 1) (rdK arg2 harg2 x1 3 1) (rdK arg4 harg4 x3 3 1) (rdV arg5 harg5 x4 3 1) (kernelRun0_A.sl.v144 c arg1 harg1 arg4 harg4 arg5 harg5 arg11 x0 x3 x4)⟩,
     ⟨rV 3 0, dvB (rdK arg1 harg1 x0 3 0) (rdK arg2 harg2 x1 3 0) (rdK arg4 harg4 x3 3 0) (rdV arg5 harg5 x4 3 0) (kernelRun0_A.sl.v43 c arg11)⟩] from rfl]
  rw [v0_A, v1_A, v2_A, v3_A, v4_A, v5_A, v6_A, v7_A, v8_A, v9_A, v10_A, v11_A, v12_A, v13_A, v14_A, v15_A]
  simp only [rdK_eq, rdV_eq, rdS_eq]
  exact canon_tileV (F := F) (e := .f32) (fun n h => dvB (View.ld x0 (rK n h)) (View.ld x1 (rK n h)) (View.ld x3 (rK n h)) (View.ld x4 (rV n h)) (inner x0 x3 x4 (d0 (F := F)) (3 - n.val) h)) _ rfl

/-- The point's block of the log decays' gradient. -/
theorem out9_A : out0_A_9 c i arg1 harg1 arg2 harg2 arg3 harg3 arg4 harg4 arg5 harg5 arg6 harg6 arg7 harg7 arg8 harg8 arg9 harg9 arg10 harg10 arg11 harg11 hc0 x0 x1 x2 x3 x4 x5 =
    tileK fun n h => dlB (View.ld x0 (rK n h)) (View.ld x1 (rK n h)) (View.ld x2 (rV n h)) (View.ld x3 (rK n h)) (View.ld x4 (rV n h)) (View.ld x5 (rS n h)) (inner x0 x3 x4 (d0 (F := F)) (3 - n.val) h) := by
  unfold out0_A_9
  rw [View.read_writes_junk_eq_canon]
  rw [show (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.1 =
    [⟨rK 0 3, dlB (rdK arg1 harg1 x0 0 3) (rdK arg2 harg2 x1 0 3) (rdV arg3 harg3 x2 0 3) (rdK arg4 harg4 x3 0 3) (rdV arg5 harg5 x4 0 3) (rdS arg6 harg6 x5 0 3) (kernelRun0_A.sl.v1558 c arg1 harg1 arg4 harg4 arg5 harg5 arg11 x0 x3 x4)⟩,
     ⟨rK 0 2, dlB (rdK arg1 harg1 x0 0 2) (rdK arg2 harg2 x1 0 2) (rdV arg3 harg3 x2 0 2) (rdK arg4 harg4 x3 0 2) (rdV arg5 harg5 x4 0 2) (rdS arg6 harg6 x5 0 2) (kernelRun0_A.sl.v1457 c arg1 harg1 arg4 harg4 arg5 harg5 arg11 x0 x3 x4)⟩,
     ⟨rK 0 1, dlB (rdK arg1 harg1 x0 0 1) (rdK arg2 harg2 x1 0 1) (rdV arg3 harg3 x2 0 1) (rdK arg4 harg4 x3 0 1) (rdV arg5 harg5 x4 0 1) (rdS arg6 harg6 x5 0 1) (kernelRun0_A.sl.v1356 c arg1 harg1 arg4 harg4 arg5 harg5 arg11 x0 x3 x4)⟩,
     ⟨rK 0 0, dlB (rdK arg1 harg1 x0 0 0) (rdK arg2 harg2 x1 0 0) (rdV arg3 harg3 x2 0 0) (rdK arg4 harg4 x3 0 0) (rdV arg5 harg5 x4 0 0) (rdS arg6 harg6 x5 0 0) (kernelRun0_A.sl.v1255 c arg1 harg1 arg4 harg4 arg5 harg5 arg11 x0 x3 x4)⟩,
     ⟨rK 1 3, dlB (rdK arg1 harg1 x0 1 3) (rdK arg2 harg2 x1 1 3) (rdV arg3 harg3 x2 1 3) (rdK arg4 harg4 x3 1 3) (rdV arg5 harg5 x4 1 3) (rdS arg6 harg6 x5 1 3) (kernelRun0_A.sl.v1154 c arg1 harg1 arg4 harg4 arg5 harg5 arg11 x0 x3 x4)⟩,
     ⟨rK 1 2, dlB (rdK arg1 harg1 x0 1 2) (rdK arg2 harg2 x1 1 2) (rdV arg3 harg3 x2 1 2) (rdK arg4 harg4 x3 1 2) (rdV arg5 harg5 x4 1 2) (rdS arg6 harg6 x5 1 2) (kernelRun0_A.sl.v1053 c arg1 harg1 arg4 harg4 arg5 harg5 arg11 x0 x3 x4)⟩,
     ⟨rK 1 1, dlB (rdK arg1 harg1 x0 1 1) (rdK arg2 harg2 x1 1 1) (rdV arg3 harg3 x2 1 1) (rdK arg4 harg4 x3 1 1) (rdV arg5 harg5 x4 1 1) (rdS arg6 harg6 x5 1 1) (kernelRun0_A.sl.v952 c arg1 harg1 arg4 harg4 arg5 harg5 arg11 x0 x3 x4)⟩,
     ⟨rK 1 0, dlB (rdK arg1 harg1 x0 1 0) (rdK arg2 harg2 x1 1 0) (rdV arg3 harg3 x2 1 0) (rdK arg4 harg4 x3 1 0) (rdV arg5 harg5 x4 1 0) (rdS arg6 harg6 x5 1 0) (kernelRun0_A.sl.v851 c arg1 harg1 arg4 harg4 arg5 harg5 arg11 x0 x3 x4)⟩,
     ⟨rK 2 3, dlB (rdK arg1 harg1 x0 2 3) (rdK arg2 harg2 x1 2 3) (rdV arg3 harg3 x2 2 3) (rdK arg4 harg4 x3 2 3) (rdV arg5 harg5 x4 2 3) (rdS arg6 harg6 x5 2 3) (kernelRun0_A.sl.v750 c arg1 harg1 arg4 harg4 arg5 harg5 arg11 x0 x3 x4)⟩,
     ⟨rK 2 2, dlB (rdK arg1 harg1 x0 2 2) (rdK arg2 harg2 x1 2 2) (rdV arg3 harg3 x2 2 2) (rdK arg4 harg4 x3 2 2) (rdV arg5 harg5 x4 2 2) (rdS arg6 harg6 x5 2 2) (kernelRun0_A.sl.v649 c arg1 harg1 arg4 harg4 arg5 harg5 arg11 x0 x3 x4)⟩,
     ⟨rK 2 1, dlB (rdK arg1 harg1 x0 2 1) (rdK arg2 harg2 x1 2 1) (rdV arg3 harg3 x2 2 1) (rdK arg4 harg4 x3 2 1) (rdV arg5 harg5 x4 2 1) (rdS arg6 harg6 x5 2 1) (kernelRun0_A.sl.v548 c arg1 harg1 arg4 harg4 arg5 harg5 arg11 x0 x3 x4)⟩,
     ⟨rK 2 0, dlB (rdK arg1 harg1 x0 2 0) (rdK arg2 harg2 x1 2 0) (rdV arg3 harg3 x2 2 0) (rdK arg4 harg4 x3 2 0) (rdV arg5 harg5 x4 2 0) (rdS arg6 harg6 x5 2 0) (kernelRun0_A.sl.v447 c arg1 harg1 arg4 harg4 arg5 harg5 arg11 x0 x3 x4)⟩,
     ⟨rK 3 3, dlB (rdK arg1 harg1 x0 3 3) (rdK arg2 harg2 x1 3 3) (rdV arg3 harg3 x2 3 3) (rdK arg4 harg4 x3 3 3) (rdV arg5 harg5 x4 3 3) (rdS arg6 harg6 x5 3 3) (kernelRun0_A.sl.v346 c arg1 harg1 arg4 harg4 arg5 harg5 arg11 x0 x3 x4)⟩,
     ⟨rK 3 2, dlB (rdK arg1 harg1 x0 3 2) (rdK arg2 harg2 x1 3 2) (rdV arg3 harg3 x2 3 2) (rdK arg4 harg4 x3 3 2) (rdV arg5 harg5 x4 3 2) (rdS arg6 harg6 x5 3 2) (kernelRun0_A.sl.v245 c arg1 harg1 arg4 harg4 arg5 harg5 arg11 x0 x3 x4)⟩,
     ⟨rK 3 1, dlB (rdK arg1 harg1 x0 3 1) (rdK arg2 harg2 x1 3 1) (rdV arg3 harg3 x2 3 1) (rdK arg4 harg4 x3 3 1) (rdV arg5 harg5 x4 3 1) (rdS arg6 harg6 x5 3 1) (kernelRun0_A.sl.v144 c arg1 harg1 arg4 harg4 arg5 harg5 arg11 x0 x3 x4)⟩,
     ⟨rK 3 0, dlB (rdK arg1 harg1 x0 3 0) (rdK arg2 harg2 x1 3 0) (rdV arg3 harg3 x2 3 0) (rdK arg4 harg4 x3 3 0) (rdV arg5 harg5 x4 3 0) (rdS arg6 harg6 x5 3 0) (kernelRun0_A.sl.v43 c arg11)⟩] from rfl]
  rw [v0_A, v1_A, v2_A, v3_A, v4_A, v5_A, v6_A, v7_A, v8_A, v9_A, v10_A, v11_A, v12_A, v13_A, v14_A, v15_A]
  simp only [rdK_eq, rdV_eq, rdS_eq]
  exact canon_tileK (F := F) (e := .f32) (fun n h => dlB (View.ld x0 (rK n h)) (View.ld x1 (rK n h)) (View.ld x2 (rV n h)) (View.ld x3 (rK n h)) (View.ld x4 (rV n h)) (View.ld x5 (rS n h)) (inner x0 x3 x4 (d0 (F := F)) (3 - n.val) h)) _ rfl

/-- What the point leaves of the carried gradient. -/
theorem sout_A : sout0_A_0 c i arg1 harg1 arg2 harg2 arg3 harg3 arg4 harg4 arg5 harg5 arg6 harg6 arg7 harg7 arg8 harg8 arg9 harg9 arg10 harg10 arg11 harg11 hc0 x0 x1 x2 x3 x4 x5 = tileD fun h => inner x0 x3 x4 (d0 (F := F)) 4 h := by
  unfold sout0_A_0
  rw [View.read_writes_junk_eq_canon]
  rw [show (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.2.1 =
      pcD arg1 harg1 arg4 harg4 arg5 harg5 x0 x3 x4 0 3 (kernelRun0_A.sl.v1558 c arg1 harg1 arg4 harg4 arg5 harg5 arg11 x0 x3 x4) ::
      pcD arg1 harg1 arg4 harg4 arg5 harg5 x0 x3 x4 0 2 (kernelRun0_A.sl.v1457 c arg1 harg1 arg4 harg4 arg5 harg5 arg11 x0 x3 x4) ::
      pcD arg1 harg1 arg4 harg4 arg5 harg5 x0 x3 x4 0 1 (kernelRun0_A.sl.v1356 c arg1 harg1 arg4 harg4 arg5 harg5 arg11 x0 x3 x4) ::
      pcD arg1 harg1 arg4 harg4 arg5 harg5 x0 x3 x4 0 0 (kernelRun0_A.sl.v1255 c arg1 harg1 arg4 harg4 arg5 harg5 arg11 x0 x3 x4) ::
      kernelRun0_A.sl.HS0_13 c arg1 harg1 arg4 harg4 arg5 harg5 arg11 x0 x3 x4 from rfl]
  generalize kernelRun0_A.sl.HS0_13 c arg1 harg1 arg4 harg4 arg5 harg5 arg11 x0 x3 x4 = L'
  rw [v12_A, v13_A, v14_A, v15_A]
  generalize d0 (F := F) = d
  simp only [pcD, rdK_eq, rdV_eq]
  exact canon_tileD (F := F) (e := .f32) (fun h => inner x0 x3 x4 d 4 h) L' _ rfl

end

end Cert.KernelIdeal.Gla

end
-- ==== Proof.Gla.RunB.lean ====
/- What a grid point leaves, in the case "any later point": the stores its run found are the sixteen (chunk, head)
   pairs, each `Block`'s function of its own slices, with the carried gradient handed from chunk to chunk. -/
module

public import proofs.«01_k».proof.Proof.Gla.Tiles
public import Idealize.ShloMosaic.Lib.Pipeline.ReadBack

@[expose] public section

set_option maxRecDepth 16384

noncomputable section

namespace Cert.KernelIdeal.Gla

open Cert.KernelIdeal Cert.KernelIdeal.Gen Idealize.ShloMosaic

variable {F : FTy → Type} [FloatOps F]

section

variable (c : Dev nD) (i : grid0.Coords) (arg1 : Memref sig .tc .vmem S256x512 .bf16) (harg1 : arg1.IsWhole)
  (arg2 : Memref sig .tc .vmem S256x512 .bf16) (harg2 : arg2.IsWhole)
  (arg3 : Memref sig .tc .vmem S256x1024 .bf16) (harg3 : arg3.IsWhole)
  (arg4 : Memref sig .tc .vmem S256x512 .f32) (harg4 : arg4.IsWhole)
  (arg5 : Memref sig .tc .vmem S256x1024 .bf16) (harg5 : arg5.IsWhole)
  (arg6 : Memref sig .tc .vmem S4x4x256x128 .f32) (harg6 : arg6.IsWhole)
  (arg7 : Memref sig .tc .vmem S256x512 .f32) (harg7 : arg7.IsWhole)
  (arg8 : Memref sig .tc .vmem S256x512 .f32) (harg8 : arg8.IsWhole)
  (arg9 : Memref sig .tc .vmem S256x1024 .f32) (harg9 : arg9.IsWhole)
  (arg10 : Memref sig .tc .vmem S256x512 .f32) (harg10 : arg10.IsWhole)
  (arg11 : Memref sig .tc .vmem S4x256x128 .f32) (harg11 : arg11.IsWhole)
  (hc0 : ¬cond0_0 i)
  (x0 : Vec F S256x512 .bf16) (x1 : Vec F S256x512 .bf16) (x2 : Vec F S256x1024 .bf16) (x3 : Vec F S256x512 .f32)
  (x4 : Vec F S256x1024 .bf16) (x5 : Vec F S4x4x256x128 .f32) (xs0 : Vec F S4x256x128 .f32)

theorem HS4_B : kernelRun0_B.sl.HS0_4 c arg1 harg1 arg4 harg4 arg5 harg5 arg11 harg11 x0 x3 x4 xs0 =
  [
   pcD arg1 harg1 arg4 harg4 arg5 harg5 x0 x3 x4 3 3 (kernelRun0_B.sl.v346 c arg11 harg11 xs0),
   pcD arg1 harg1 arg4 harg4 arg5 harg5 x0 x3 x4 3 2 (kernelRun0_B.sl.v245 c arg11 harg11 xs0),
   pcD arg1 harg1 arg4 harg4 arg5 harg5 x0 x3 x4 3 1 (kernelRun0_B.sl.v144 c arg11 harg11 xs0),
   pcD arg1 harg1 arg4 harg4 arg5 harg5 x0 x3 x4 3 0 (rdD arg11 harg11 xs0 0)] := rfl

theorem HS5_B : kernelRun0_B.sl.HS0_5 c arg1 harg1 arg4 harg4 arg5 harg5 arg11 harg11 x0 x3 x4 xs0 =
    pcD arg1 harg1 arg4 harg4 arg5 harg5 x0 x3 x4 2 0 (kernelRun0_B.sl.v447 c arg1 harg1 arg4 harg4 arg5 harg5 arg11 harg11 x0 x3 x4 xs0) ::
      kernelRun0_B.sl.HS0_4 c arg1 harg1 arg4 harg4 arg5 harg5 arg11 harg11 x0 x3 x4 xs0 := rfl

theorem HS6_B : kernelRun0_B.sl.HS0_6 c arg1 harg1 arg4 harg4 arg5 harg5 arg11 harg11 x0 x3 x4 xs0 =
    pcD arg1 harg1 arg4 harg4 arg5 harg5 x0 x3 x4 2 1 (kernelRun0_B.sl.v548 c arg1 harg1 arg4 harg4 arg5 harg5 arg11 harg11 x0 x3 x4 xs0) ::
      kernelRun0_B.sl.HS0_5 c arg1 harg1 arg4 harg4 arg5 harg5 arg11 harg11 x0 x3 x4 xs0 := rfl

theorem HS7_B : kernelRun0_B.sl.HS0_7 c arg1 harg1 arg4 harg4 arg5 harg5 arg11 harg11 x0 x3 x4 xs0 =
    pcD arg1 harg1 arg4 harg4 arg5 harg5 x0 x3 x4 2 2 (kernelRun0_B.sl.v649 c arg1 harg1 arg4 harg4 arg5 harg5 arg11 harg11 x0 x3 x4 xs0) ::
      kernelRun0_B.sl.HS0_6 c arg1 harg1 arg4 harg4 arg5 harg5 arg11 harg11 x0 x3 x4 xs0 := rfl

theorem HS8_B : kernelRun0_B.sl.HS0_8 c arg1 harg1 arg4 harg4 arg5 harg5 arg11 harg11 x0 x3 x4 xs0 =
    pcD arg1 harg1 arg4 harg4 arg5 harg5 x0 x3 x4 2 3 (kernelRun0_B.sl.v750 c arg1 harg1 arg4 harg4 arg5 harg5 arg11 harg11 x0 x3 x4 xs0) ::
      kernelRun0_B.sl.HS0_7 c arg1 harg1 arg4 harg4 arg5 harg5 arg11 harg11 x0 x3 x4 xs0 := rfl

theorem HS9_B : kernelRun0_B.sl.HS0_9 c arg1 harg1 arg4 harg4 arg5 harg5 arg11 harg11 x0 x3 x4 xs0 =
    pcD arg1 harg1 arg4 harg4 arg5 harg5 x0 x3 x4 1 0 (kernelRun0_B.sl.v851 c arg1 harg1 arg4 harg4 arg5 harg5 arg11 harg11 x0 x3 x4 xs0) ::
      kernelRun0_B.sl.HS0_8 c arg1 harg1 arg4 harg4 arg5 harg5 arg11 harg11 x0 x3 x4 xs0 := rfl

theorem HS10_B : kernelRun0_B.sl.HS0_10 c arg1 harg1 arg4 harg4 arg5 harg5 arg11 harg11 x0 x3 x4 xs0 =
    pcD arg1 harg1 arg4 harg4 arg5 harg5 x0 x3 x4 1 1 (kernelRun0_B.sl.v952 c arg1 harg1 arg4 harg4 arg5 harg5 arg11 harg11 x0 x3 x4 xs0) ::
      kernelRun0_B.sl.HS0_9 c arg1 harg1 arg4 harg4 arg5 harg5 arg11 harg11 x0 x3 x4 xs0 := rfl

theorem HS11_B : kernelRun0_B.sl.HS0_11 c arg1 harg1 arg4 harg4 arg5 harg5 arg11 harg11 x0 x3 x4 xs0 =
    pcD arg1 harg1 arg4 harg4 arg5 harg5 x0 x3 x4 1 2 (kernelRun0_B.sl.v1053 c arg1 harg1 arg4 harg4 arg5 harg5 arg11 harg11 x0 x3 x4 xs0) ::
      kernelRun0_B.sl.HS0_10 c arg1 harg1 arg4 harg4 arg5 harg5 arg11 harg11 x0 x3 x4 xs0 := rfl

theorem HS12_B : kernelRun0_B.sl.HS0_12 c arg1 harg1 arg4 harg4 arg5 harg5 arg11 harg11 x0 x3 x4 xs0 =
    pcD arg1 harg1 arg4 harg4 arg5 harg5 x0 x3 x4 1 3 (kernelRun0_B.sl.v1154 c arg1 harg1 arg4 harg4 arg5 harg5 arg11 harg11 x0 x3 x4 xs0) ::
      kernelRun0_B.sl.HS0_11 c arg1 harg1 arg4 harg4 arg5 harg5 arg11 harg11 x0 x3 x4 xs0 := rfl

theorem HS13_B : kernelRun0_B.sl.HS0_13 c arg1 harg1 arg4 harg4 arg5 harg5 arg11 harg11 x0 x3 x4 xs0 =
    pcD arg1 harg1 arg4 harg4 arg5 harg5 x0 x3 x4 0 0 (kernelRun0_B.sl.v1255 c arg1 harg1 arg4 harg4 arg5 harg5 arg11 harg11 x0 x3 x4 xs0) ::
      kernelRun0_B.sl.HS0_12 c arg1 harg1 arg4 harg4 arg5 harg5 arg11 harg11 x0 x3 x4 xs0 := rfl

theorem HS14_B : kernelRun0_B.sl.HS0_14 c arg1 harg1 arg4 harg4 arg5 harg5 arg11 harg11 x0 x3 x4 xs0 =
    pcD arg1 harg1 arg4 harg4 arg5 harg5 x0 x3 x4 0 1 (kernelRun0_B.sl.v1356 c arg1 harg1 arg4 harg4 arg5 harg5 arg11 harg11 x0 x3 x4 xs0) ::
      kernelRun0_B.sl.HS0_13 c arg1 harg1 arg4 harg4 arg5 harg5 arg11 harg11 x0 x3 x4 xs0 := rfl

theorem HS15_B : kernelRun0_B.sl.HS0_15 c arg1 harg1 arg4 harg4 arg5 harg5 arg11 harg11 x0 x3 x4 xs0 =
    pcD arg1 harg1 arg4 harg4 arg5 harg5 x0 x3 x4 0 2 (kernelRun0_B.sl.v1457 c arg1 harg1 arg4 harg4 arg5 harg5 arg11 harg11 x0 x3 x4 xs0) ::
      kernelRun0_B.sl.HS0_14 c arg1 harg1 arg4 harg4 arg5 harg5 arg11 harg11 x0 x3 x4 xs0 := rfl

theorem v0_B : rdD arg11 harg11 xs0 0 = inner x0 x3 x4 (fun h => View.ld xs0 (rD h)) 0 0 := rdD_eq ..

theorem v1_B : kernelRun0_B.sl.v144 c arg11 harg11 xs0 = inner x0 x3 x4 (fun h => View.ld xs0 (rD h)) 0 1 := by
  exact rdD_eq arg11 harg11 xs0 1

theorem v2_B : kernelRun0_B.sl.v245 c arg11 harg11 xs0 = inner x0 x3 x4 (fun h => View.ld xs0 (rD h)) 0 2 := by
  exact rdD_eq arg11 harg11 xs0 2

theorem v3_B : kernelRun0_B.sl.v346 c arg11 harg11 xs0 = inner x0 x3 x4 (fun h => View.ld xs0 (rD h)) 0 3 := by
  exact rdD_eq arg11 harg11 xs0 3

theorem v4_B : kernelRun0_B.sl.v447 c arg1 harg1 arg4 harg4 arg5 harg5 arg11 harg11 x0 x3 x4 xs0 = inner x0 x3 x4 (fun h => View.ld xs0 (rD h)) 1 0 := by
  unfold kernelRun0_B.sl.v447
  rw [HS4_B]
  iterate 3 rw [View.readCov_skip _ _ _ _ _ (by decide)]
  refine (View.readCov_cons_toLoadRect _ _ _ _).trans ?_
  rw [v0_B]
  simp only [rdK_eq, rdV_eq]
  rfl

theorem v5_B : kernelRun0_B.sl.v548 c arg1 harg1 arg4 harg4 arg5 harg5 arg11 harg11 x0 x3 x4 xs0 = inner x0 x3 x4 (fun h => View.ld xs0 (rD h)) 1 1 := by
  unfold kernelRun0_B.sl.v548
  rw [HS5_B, HS4_B]
  iterate 3 rw [View.readCov_skip _ _ _ _ _ (by decide)]
  refine (View.readCov_cons_toLoadRect _ _ _ _).trans ?_
  rw [v1_B]
  simp only [rdK_eq, rdV_eq]
  rfl

theorem v6_B : kernelRun0_B.sl.v649 c arg1 harg1 arg4 harg4 arg5 harg5 arg11 harg11 x0 x3 x4 xs0 = inner x0 x3 x4 (fun h => View.ld xs0 (rD h)) 1 2 := by
  unfold kernelRun0_B.sl.v649
  rw [HS6_B, HS5_B, HS4_B]
  iterate 3 rw [View.readCov_skip _ _ _ _ _ (by decide)]
  refine (View.readCov_cons_toLoadRect _ _ _ _).trans ?_
  rw [v2_B]
  simp only [rdK_eq, rdV_eq]
  rfl

theorem v7_B : kernelRun0_B.sl.v750 c arg1 harg1 arg4 harg4 arg5 harg5 arg11 harg11 x0 x3 x4 xs0 = inner x0 x3 x4 (fun h => View.ld xs0 (rD h)) 1 3 := by
  unfold kernelRun0_B.sl.v750
  rw [HS7_B, HS6_B, HS5_B, HS4_B]
  iterate 3 rw [View.readCov_skip _ _ _ _ _ (by decide)]
  refine (View.readCov_cons_toLoadRect _ _ _ _).trans ?_
  rw [v3_B]
  simp only [rdK_eq, rdV_eq]
  rfl

theorem v8_B : kernelRun0_B.sl.v851 c arg1 harg1 arg4 harg4 arg5 harg5 arg11 harg11 x0 x3 x4 xs0 = inner x0 x3 x4 (fun h => View.ld xs0 (rD h)) 2 0 := by
  unfold kernelRun0_B.sl.v851
  rw [HS8_B, HS7_B, HS6_B, HS5_B]
  iterate 3 rw [View.readCov_skip _ _ _ _ _ (by decide)]
  refine (View.readCov_cons_toLoadRect _ _ _ _).trans ?_
  rw [v4_B]
  simp only [rdK_eq, rdV_eq]
  rfl

theorem v9_B : kernelRun0_B.sl.v952 c arg1 harg1 arg4 harg4 arg5 harg5 arg11 harg11 x0 x3 x4 xs0 = inner x0 x3 x4 (fun h => View.ld xs0 (rD h)) 2 1 := by
  unfold kernelRun0_B.sl.v952
  rw [HS9_B, HS8_B, HS7_B, HS6_B]
  iterate 3 rw [View.readCov_skip _ _ _ _ _ (by decide)]
  refine (View.readCov_cons_toLoadRect _ _ _ _).trans ?_
  rw [v5_B]
  simp only [rdK_eq, rdV_eq]
  rfl

theorem v10_B : kernelRun0_B.sl.v1053 c arg1 harg1 arg4 harg4 arg5 harg5 arg11 harg11 x0 x3 x4 xs0 = inner x0 x3 x4 (fun h => View.ld xs0 (rD h)) 2 2 := by
  unfold kernelRun0_B.sl.v1053
  rw [HS10_B, HS9_B, HS8_B, HS7_B]
  iterate 3 rw [View.readCov_skip _ _ _ _ _ (by decide)]
  refine (View.readCov_cons_toLoadRect _ _ _ _).trans ?_
  rw [v6_B]
  simp only [rdK_eq, rdV_eq]
  rfl

theorem v11_B : kernelRun0_B.sl.v1154 c arg1 harg1 arg4 harg4 arg5 harg5 arg11 harg11 x0 x3 x4 xs0 = inner x0 x3 x4 (fun h => View.ld xs0 (rD h)) 2 3 := by
  unfold kernelRun0_B.sl.v1154
  rw [HS11_B, HS10_B, HS9_B, HS8_B]
  iterate 3 rw [View.readCov_skip _ _ _ _ _ (by decide)]
  refine (View.readCov_cons_toLoadRect _ _ _ _).trans ?_
  rw [v7_B]
  simp only [rdK_eq, rdV_eq]
  rfl

theorem v12_B : kernelRun0_B.sl.v1255 c arg1 harg1 arg4 harg4 arg5 harg5 arg11 harg11 x0 x3 x4 xs0 = inner x0 x3 x4 (fun h => View.ld xs0 (rD h)) 3 0 := by
  unfold kernelRun0_B.sl.v1255
  rw [HS12_B, HS11_B, HS10_B, HS9_B]
  iterate 3 rw [View.readCov_skip _ _ _ _ _ (by decide)]
  refine (View.readCov_cons_toLoadRect _ _ _ _).trans ?_
  rw [v8_B]
  simp only [rdK_eq, rdV_eq]
  rfl

theorem v13_B : kernelRun0_B.sl.v1356 c arg1 harg1 arg4 harg4 arg5 harg5 arg11 harg11 x0 x3 x4 xs0 = inner x0 x3 x4 (fun h => View.ld xs0 (rD h)) 3 1 := by
  unfold kernelRun0_B.sl.v1356
  rw [HS13_B, HS12_B, HS11_B, HS10_B]
  iterate 3 rw [View.readCov_skip _ _ _ _ _ (by decide)]
  refine (View.readCov_cons_toLoadRect _ _ _ _).trans ?_
  rw [v9_B]
  simp only [rdK_eq, rdV_eq]
  rfl

theorem v14_B : kernelRun0_B.sl.v1457 c arg1 harg1 arg4 harg4 arg5 harg5 arg11 harg11 x0 x3 x4 xs0 = inner x0 x3 x4 (fun h => View.ld xs0 (rD h)) 3 2 := by
  unfold kernelRun0_B.sl.v1457
  rw [HS14_B, HS13_B, HS12_B, HS11_B]
  iterate 3 rw [View.readCov_skip _ _ _ _ _ (by decide)]
  refine (View.readCov_cons_toLoadRect _ _ _ _).trans ?_
  rw [v10_B]
  simp only [rdK_eq, rdV_eq]
  rfl

theorem v15_B : kernelRun0_B.sl.v1558 c arg1 harg1 arg4 harg4 arg5 harg5 arg11 harg11 x0 x3 x4 xs0 = inner x0 x3 x4 (fun h => View.ld xs0 (rD h)) 3 3 := by
  unfold kernelRun0_B.sl.v1558
  rw [HS15_B, HS14_B, HS13_B, HS12_B]
  iterate 3 rw [View.readCov_skip _ _ _ _ _ (by decide)]
  refine (View.readCov_cons_toLoadRect _ _ _ _).trans ?_
  rw [v11_B]
  simp only [rdK_eq, rdV_eq]
  rfl

/-- The point's block of the query's gradient. -/
theorem out6_B : out0_B_6 c i arg1 harg1 arg2 harg2 arg3 harg3 arg4 harg4 arg5 harg5 arg6 harg6 arg7 harg7 arg8 harg8 arg9 harg9 arg10 harg10 arg11 harg11 hc0 x0 x1 x2 x3 x4 x5 xs0 =
    tileK fun n h => dqB (View.ld x1 (rK n h)) (View.ld x2 (rV n h)) (View.ld x3 (rK n h)) (View.ld x4 (rV n h)) (View.ld x5 (rS n h)) := by
  unfold out0_B_6
  rw [View.read_writes_junk_eq_canon]
  rw [show (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).1 =
    [⟨rK 0 3, dqB (rdK arg2 harg2 x1 0 3) (rdV arg3 harg3 x2 0 3) (rdK arg4 harg4 x3 0 3) (rdV arg5 harg5 x4 0 3) (rdS arg6 harg6 x5 0 3)⟩,
     ⟨rK 0 2, dqB (rdK arg2 harg2 x1 0 2) (rdV arg3 harg3 x2 0 2) (rdK arg4 harg4 x3 0 2) (rdV arg5 harg5 x4 0 2) (rdS arg6 harg6 x5 0 2)⟩,
     ⟨rK 0 1, dqB (rdK arg2 harg2 x1 0 1) (rdV arg3 harg3 x2 0 1) (rdK arg4 harg4 x3 0 1) (rdV arg5 harg5 x4 0 1) (rdS arg6 harg6 x5 0 1)⟩,
     ⟨rK 0 0, dqB (rdK arg2 harg2 x1 0 0) (rdV arg3 harg3 x2 0 0) (rdK arg4 harg4 x3 0 0) (rdV arg5 harg5 x4 0 0) (rdS arg6 harg6 x5 0 0)⟩,
     ⟨rK 1 3, dqB (rdK arg2 harg2 x1 1 3) (rdV arg3 harg3 x2 1 3) (rdK arg4 harg4 x3 1 3) (rdV arg5 harg5 x4 1 3) (rdS arg6 harg6 x5 1 3)⟩,
     ⟨rK 1 2, dqB (rdK arg2 harg2 x1 1 2) (rdV arg3 harg3 x2 1 2) (rdK arg4 harg4 x3 1 2) (rdV arg5 harg5 x4 1 2) (rdS arg6 harg6 x5 1 2)⟩,
     ⟨rK 1 1, dqB (rdK arg2 harg2 x1 1 1) (rdV arg3 harg3 x2 1 1) (rdK arg4 harg4 x3 1 1) (rdV arg5 harg5 x4 1 1) (rdS arg6 harg6 x5 1 1)⟩,
     ⟨rK 1 0, dqB (rdK arg2 harg2 x1 1 0) (rdV arg3 harg3 x2 1 0) (rdK arg4 harg4 x3 1 0) (rdV arg5 harg5 x4 1 0) (rdS arg6 harg6 x5 1 0)⟩,
     ⟨rK 2 3, dqB (rdK arg2 harg2 x1 2 3) (rdV arg3 harg3 x2 2 3) (rdK arg4 harg4 x3 2 3) (rdV arg5 harg5 x4 2 3) (rdS arg6 harg6 x5 2 3)⟩,
     ⟨rK 2 2, dqB (rdK arg2 harg2 x1 2 2) (rdV arg3 harg3 x2 2 2) (rdK arg4 harg4 x3 2 2) (rdV arg5 harg5 x4 2 2) (rdS arg6 harg6 x5 2 2)⟩,
     ⟨rK 2 1, dqB (rdK arg2 harg2 x1 2 1) (rdV arg3 harg3 x2 2 1) (rdK arg4 harg4 x3 2 1) (rdV arg5 harg5 x4 2 1) (rdS arg6 harg6 x5 2 1)⟩,
     ⟨rK 2 0, dqB (rdK arg2 harg2 x1 2 0) (rdV arg3 harg3 x2 2 0) (rdK arg4 harg4 x3 2 0) (rdV arg5 harg5 x4 2 0) (rdS arg6 harg6 x5 2 0)⟩,
     ⟨rK 3 3, dqB (rdK arg2 harg2 x1 3 3) (rdV arg3 harg3 x2 3 3) (rdK arg4 harg4 x3 3 3) (rdV arg5 harg5 x4 3 3) (rdS arg6 harg6 x5 3 3)⟩,
     ⟨rK 3 2, dqB (rdK arg2 harg2 x1 3 2) (rdV arg3 harg3 x2 3 2) (rdK arg4 harg4 x3 3 2) (rdV arg5 harg5 x4 3 2) (rdS arg6 harg6 x5 3 2)⟩,
     ⟨rK 3 1, dqB (rdK arg2 harg2 x1 3 1) (rdV arg3 harg3 x2 3 1) (rdK arg4 harg4 x3 3 1) (rdV arg5 harg5 x4 3 1) (rdS arg6 harg6 x5 3 1)⟩,
     ⟨rK 3 0, dqB (rdK arg2 harg2 x1 3 0) (rdV arg3 harg3 x2 3 0) (rdK arg4 harg4 x3 3 0) (rdV arg5 harg5 x4 3 0) (rdS arg6 harg6 x5 3 0)⟩] from rfl]
  simp only [rdK_eq, rdV_eq, rdS_eq]
  exact canon_tileK (F := F) (e := .f32) (fun n h => dqB (View.ld x1 (rK n h)) (View.ld x2 (rV n h)) (View.ld x3 (rK n h)) (View.ld x4 (rV n h)) (View.ld x5 (rS n h))) _ rfl

/-- The point's block of the key's gradient. -/
theorem out7_B : out0_B_7 c i arg1 harg1 arg2 harg2 arg3 harg3 arg4 harg4 arg5 harg5 arg6 harg6 arg7 harg7 arg8 harg8 arg9 harg9 arg10 harg10 arg11 harg11 hc0 x0 x1 x2 x3 x4 x5 xs0 =
    tileK fun n h => dkB (View.ld x0 (rK n h)) (View.ld x2 (rV n h)) (View.ld x3 (rK n h)) (View.ld x4 (rV n h)) (inner x0 x3 x4 (fun h => View.ld xs0 (rD h)) (3 - n.val) h) := by
  unfold out0_B_7
  rw [View.read_writes_junk_eq_canon]
  rw [show (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).2.1 =
    [⟨rK 0 3, dkB (rdK arg1 harg1 x0 0 3) (rdV arg3 harg3 x2 0 3) (rdK arg4 harg4 x3 0 3) (rdV arg5 harg5 x4 0 3) (kernelRun0_B.sl.v1558 c arg1 harg1 arg4 harg4 arg5 harg5 arg11 harg11 x0 x3 x4 xs0)⟩,
     ⟨rK 0 2, dkB (rdK arg1 harg1 x0 0 2) (rdV arg3 harg3 x2 0 2) (rdK arg4 harg4 x3 0 2) (rdV arg5 harg5 x4 0 2) (kernelRun0_B.sl.v1457 c arg1 harg1 arg4 harg4 arg5 harg5 arg11 harg11 x0 x3 x4 xs0)⟩,
     ⟨rK 0 1, dkB (rdK arg1 harg1 x0 0 1) (rdV arg3 harg3 x2 0 1) (rdK arg4 harg4 x3 0 1) (rdV arg5 harg5 x4 0 1) (kernelRun0_B.sl.v1356 c arg1 harg1 arg4 harg4 arg5 harg5 arg11 harg11 x0 x3 x4 xs0)⟩,
     ⟨rK 0 0, dkB (rdK arg1 harg1 x0 0 0) (rdV arg3 harg3 x2 0 0) (rdK arg4 harg4 x3 0 0) (rdV arg5 harg5 x4 0 0) (kernelRun0_B.sl.v1255 c arg1 harg1 arg4 harg4 arg5 harg5 arg11 harg11 x0 x3 x4 xs0)⟩,
     ⟨rK 1 3, dkB (rdK arg1 harg1 x0 1 3) (rdV arg3 harg3 x2 1 3) (rdK arg4 harg4 x3 1 3) (rdV arg5 harg5 x4 1 3) (kernelRun0_B.sl.v1154 c arg1 harg1 arg4 harg4 arg5 harg5 arg11 harg11 x0 x3 x4 xs0)⟩,
     ⟨rK 1 2, dkB (rdK arg1 harg1 x0 1 2) (rdV arg3 harg3 x2 1 2) (rdK arg4 harg4 x3 1 2) (rdV arg5 harg5 x4 1 2) (kernelRun0_B.sl.v1053 c arg1 harg1 arg4 harg4 arg5 harg5 arg11 harg11 x0 x3 x4 xs0)⟩,
     ⟨rK 1 1, dkB (rdK arg1 harg1 x0 1 1) (rdV arg3 harg3 x2 1 1) (rdK arg4 harg4 x3 1 1) (rdV arg5 harg5 x4 1 1) (kernelRun0_B.sl.v952 c arg1 harg1 arg4 harg4 arg5 harg5 arg11 harg11 x0 x3 x4 xs0)⟩,
     ⟨rK 1 0, dkB (rdK arg1 harg1 x0 1 0) (rdV arg3 harg3 x2 1 0) (rdK arg4 harg4 x3 1 0) (rdV arg5 harg5 x4 1 0) (kernelRun0_B.sl.v851 c arg1 harg1 arg4 harg4 arg5 harg5 arg11 harg11 x0 x3 x4 xs0)⟩,
     ⟨rK 2 3, dkB (rdK arg1 harg1 x0 2 3) (rdV arg3 harg3 x2 2 3) (rdK arg4 harg4 x3 2 3) (rdV arg5 harg5 x4 2 3) (kernelRun0_B.sl.v750 c arg1 harg1 arg4 harg4 arg5 harg5 arg11 harg11 x0 x3 x4 xs0)⟩,
     ⟨rK 2 2, dkB (rdK arg1 harg1 x0 2 2) (rdV arg3 harg3 x2 2 2) (rdK arg4 harg4 x3 2 2) (rdV arg5 harg5 x4 2 2) (kernelRun0_B.sl.v649 c arg1 harg1 arg4 harg4 arg5 harg5 arg11 harg11 x0 x3 x4 xs0)⟩,
     ⟨rK 2 1, dkB (rdK arg1 harg1 x0 2 1) (rdV arg3 harg3 x2 2 1) (rdK arg4 harg4 x3 2 1) (rdV arg5 harg5 x4 2 1) (kernelRun0_B.sl.v548 c arg1 harg1 arg4 harg4 arg5 harg5 arg11 harg11 x0 x3 x4 xs0)⟩,
     ⟨rK 2 0, dkB (rdK arg1 harg1 x0 2 0) (rdV arg3 harg3 x2 2 0) (rdK arg4 harg4 x3 2 0) (rdV arg5 harg5 x4 2 0) (kernelRun0_B.sl.v447 c arg1 harg1 arg4 harg4 arg5 harg5 arg11 harg11 x0 x3 x4 xs0)⟩,
     ⟨rK 3 3, dkB (rdK arg1 harg1 x0 3 3) (rdV arg3 harg3 x2 3 3) (rdK arg4 harg4 x3 3 3) (rdV arg5 harg5 x4 3 3) (kernelRun0_B.sl.v346 c arg11 harg11 xs0)⟩,
     ⟨rK 3 2, dkB (rdK arg1 harg1 x0 3 2) (rdV arg3 harg3 x2 3 2) (rdK arg4 harg4 x3 3 2) (rdV arg5 harg5 x4 3 2) (kernelRun0_B.sl.v245 c arg11 harg11 xs0)⟩,
     ⟨rK 3 1, dkB (rdK arg1 harg1 x0 3 1) (rdV arg3 harg3 x2 3 1) (rdK arg4 harg4 x3 3 1) (rdV arg5 harg5 x4 3 1) (kernelRun0_B.sl.v144 c arg11 harg11 xs0)⟩,
     ⟨rK 3 0, dkB (rdK arg1 harg1 x0 3 0) (rdV arg3 harg3 x2 3 0) (rdK arg4 harg4 x3 3 0) (rdV arg5 harg5 x4 3 0) (rdD arg11 harg11 xs0 0)⟩] from rfl]
  rw [v0_B, v1_B, v2_B, v3_B, v4_B, v5_B, v6_B, v7_B, v8_B, v9_B, v10_B, v11_B, v12_B, v13_B, v14_B, v15_B]
  simp only [rdK_eq, rdV_eq, rdS_eq]
  exact canon_tileK (F := F) (e := .f32) (fun n h => dkB (View.ld x0 (rK n h)) (View.ld x2 (rV n h)) (View.ld x3 (rK n h)) (View.ld x4 (rV n h)) (inner x0 x3 x4 (fun h => View.ld xs0 (rD h)) (3 - n.val) h)) _ rfl

/-- The point's block of the value's gradient. -/
theorem out8_B : out0_B_8 c i arg1 harg1 arg2 harg2 arg3 harg3 arg4 harg4 arg5 harg5 arg6 harg6 arg7 harg7 arg8 harg8 arg9 harg9 arg10 harg10 arg11 harg11 hc0 x0 x1 x2 x3 x4 x5 xs0 =
    tileV fun n h => dvB (View.ld x0 (rK n h)) (View.ld x1 (rK n h)) (View.ld x3 (rK n h)) (View.ld x4 (rV n h)) (inner x0 x3 x4 (fun h => View.ld xs0 (rD h)) (3 - n.val) h) := by
  unfold out0_B_8
  rw [View.read_writes_junk_eq_canon]
  rw [show (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).2.2.1 =
    [⟨rV 0 3, dvB (rdK arg1 harg1 x0 0 3) (rdK arg2 harg2 x1 0 3) (rdK arg4 harg4 x3 0 3) (rdV arg5 harg5 x4 0 3) (kernelRun0_B.sl.v1558 c arg1 harg1 arg4 harg4 arg5 harg5 arg11 harg11 x0 x3 x4 xs0)⟩,
     ⟨rV 0 2, dvB (rdK arg1 harg1 x0 0 2) (rdK arg2 harg2 x1 0 2) (rdK arg4 harg4 x3 0 2) (rdV arg5 harg5 x4 0 2) (kernelRun0_B.sl.v1457 c arg1 harg1 arg4 harg4 arg5 harg5 arg11 harg11 x0 x3 x4 xs0)⟩,
     ⟨rV 0 1, dvB (rdK arg1 harg1 x0 0 1) (rdK arg2 harg2 x1 0 1) (rdK arg4 harg4 x3 0 1) (rdV arg5 harg5 x4 0 1) (kernelRun0_B.sl.v1356 c arg1 harg1 arg4 harg4 arg5 harg5 arg11 harg11 x0 x3 x4 xs0)⟩,
     ⟨rV 0 0, dvB (rdK arg1 harg1 x0 0 0) (rdK arg2 harg2 x1 0 0) (rdK arg4 harg4 x3 0 0) (rdV arg5 harg5 x4 0 0) (kernelRun0_B.sl.v1255 c arg1 harg1 arg4 harg4 arg5 harg5 arg11 harg11 x0 x3 x4 xs0)⟩,
     ⟨rV 1 3, dvB (rdK arg1 harg1 x0 1 3) (rdK arg2 harg2 x1 1 3) (rdK arg4 harg4 x3 1 3) (rdV arg5 harg5 x4 1 3) (kernelRun0_B.sl.v1154 c arg1 harg1 arg4 harg4 arg5 harg5 arg11 harg11 x0 x3 x4 xs0)⟩,
     ⟨rV 1 2, dvB (rdK arg1 harg1 x0 1 2) (rdK arg2 harg2 x1 1 2) (rdK arg4 harg4 x3 1 2) (rdV arg5 harg5 x4 1 2) (kernelRun0_B.sl.v1053 c arg1 harg1 arg4 harg4 arg5 harg5 arg11 harg11 x0 x3 x4 xs0)⟩,
     ⟨rV 1 1, dvB (rdK arg1 harg1 x0 1 1) (rdK arg2 harg2 x1 1 1) (rdK arg4 harg4 x3 1 1) (rdV arg5 harg5 x4 1 1) (kernelRun0_B.sl.v952 c arg1 harg1 arg4 harg4 arg5 harg5 arg11 harg11 x0 x3 x4 xs0)⟩,
     ⟨rV 1 0, dvB (rdK arg1 harg1 x0 1 0) (rdK arg2 harg2 x1 1 0) (rdK arg4 harg4 x3 1 0) (rdV arg5 harg5 x4 1 0) (kernelRun0_B.sl.v851 c arg1 harg1 arg4 harg4 arg5 harg5 arg11 harg11 x0 x3 x4 xs0)⟩,
     ⟨rV 2 3, dvB (rdK arg1 harg1 x0 2 3) (rdK arg2 harg2 x1 2 3) (rdK arg4 harg4 x3 2 3) (rdV arg5 harg5 x4 2 3) (kernelRun0_B.sl.v750 c arg1 harg1 arg4 harg4 arg5 harg5 arg11 harg11 x0 x3 x4 xs0)⟩,
     ⟨rV 2 2, dvB (rdK arg1 harg1 x0 2 2) (rdK arg2 harg2 x1 2 2) (rdK arg4 harg4 x3 2 2) (rdV arg5 harg5 x4 2 2) (kernelRun0_B.sl.v649 c arg1 harg1 arg4 harg4 arg5 harg5 arg11 harg11 x0 x3 x4 xs0)⟩,
     ⟨rV 2 1, dvB (rdK arg1 harg1 x0 2 1) (rdK arg2 harg2 x1 2 1) (rdK arg4 harg4 x3 2 1) (rdV arg5 harg5 x4 2 1) (kernelRun0_B.sl.v548 c arg1 harg1 arg4 harg4 arg5 harg5 arg11 harg11 x0 x3 x4 xs0)⟩,
     ⟨rV 2 0, dvB (rdK arg1 harg1 x0 2 0) (rdK arg2 harg2 x1 2 0) (rdK arg4 harg4 x3 2 0) (rdV arg5 harg5 x4 2 0) (kernelRun0_B.sl.v447 c arg1 harg1 arg4 harg4 arg5 harg5 arg11 harg11 x0 x3 x4 xs0)⟩,
     ⟨rV 3 3, dvB (rdK arg1 harg1 x0 3 3) (rdK arg2 harg2 x1 3 3) (rdK arg4 harg4 x3 3 3) (rdV arg5 harg5 x4 3 3) (kernelRun0_B.sl.v346 c arg11 harg11 xs0)⟩,
     ⟨rV 3 2, dvB (rdK arg1 harg1 x0 3 2) (rdK arg2 harg2 x1 3 2) (rdK arg4 harg4 x3 3 2) (rdV arg5 harg5 x4 3 2) (kernelRun0_B.sl.v245 c arg11 harg11 xs0)⟩,
     ⟨rV 3 1, dvB (rdK arg1 harg1 x0 3 1) (rdK arg2 harg2 x1 3 1) (rdK arg4 harg4 x3 3 1) (rdV arg5 harg5 x4 3 1) (kernelRun0_B.sl.v144 c arg11 harg11 xs0)⟩,
     ⟨rV 3 0, dvB (rdK arg1 harg1 x0 3 0) (rdK arg2 harg2 x1 3 0) (rdK arg4 harg4 x3 3 0) (rdV arg5 harg5 x4 3 0) (rdD arg11 harg11 xs0 0)⟩] from rfl]
  rw [v0_B, v1_B, v2_B, v3_B, v4_B, v5_B, v6_B, v7_B, v8_B, v9_B, v10_B, v11_B, v12_B, v13_B, v14_B, v15_B]
  simp only [rdK_eq, rdV_eq, rdS_eq]
  exact canon_tileV (F := F) (e := .f32) (fun n h => dvB (View.ld x0 (rK n h)) (View.ld x1 (rK n h)) (View.ld x3 (rK n h)) (View.ld x4 (rV n h)) (inner x0 x3 x4 (fun h => View.ld xs0 (rD h)) (3 - n.val) h)) _ rfl

/-- The point's block of the log decays' gradient. -/
theorem out9_B : out0_B_9 c i arg1 harg1 arg2 harg2 arg3 harg3 arg4 harg4 arg5 harg5 arg6 harg6 arg7 harg7 arg8 harg8 arg9 harg9 arg10 harg10 arg11 harg11 hc0 x0 x1 x2 x3 x4 x5 xs0 =
    tileK fun n h => dlB (View.ld x0 (rK n h)) (View.ld x1 (rK n h)) (View.ld x2 (rV n h)) (View.ld x3 (rK n h)) (View.ld x4 (rV n h)) (View.ld x5 (rS n h)) (inner x0 x3 x4 (fun h => View.ld xs0 (rD h)) (3 - n.val) h) := by
  unfold out0_B_9
  rw [View.read_writes_junk_eq_canon]
  rw [show (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).2.2.2.1 =
    [⟨rK 0 3, dlB (rdK arg1 harg1 x0 0 3) (rdK arg2 harg2 x1 0 3) (rdV arg3 harg3 x2 0 3) (rdK arg4 harg4 x3 0 3) (rdV arg5 harg5 x4 0 3) (rdS arg6 harg6 x5 0 3) (kernelRun0_B.sl.v1558 c arg1 harg1 arg4 harg4 arg5 harg5 arg11 harg11 x0 x3 x4 xs0)⟩,
     ⟨rK 0 2, dlB (rdK arg1 harg1 x0 0 2) (rdK arg2 harg2 x1 0 2) (rdV arg3 harg3 x2 0 2) (rdK arg4 harg4 x3 0 2) (rdV arg5 harg5 x4 0 2) (rdS arg6 harg6 x5 0 2) (kernelRun0_B.sl.v1457 c arg1 harg1 arg4 harg4 arg5 harg5 arg11 harg11 x0 x3 x4 xs0)⟩,
     ⟨rK 0 1, dlB (rdK arg1 harg1 x0 0 1) (rdK arg2 harg2 x1 0 1) (rdV arg3 harg3 x2 0 1) (rdK arg4 harg4 x3 0 1) (rdV arg5 harg5 x4 0 1) (rdS arg6 harg6 x5 0 1) (kernelRun0_B.sl.v1356 c arg1 harg1 arg4 harg4 arg5 harg5 arg11 harg11 x0 x3 x4 xs0)⟩,
     ⟨rK 0 0, dlB (rdK arg1 harg1 x0 0 0) (rdK arg2 harg2 x1 0 0) (rdV arg3 harg3 x2 0 0) (rdK arg4 harg4 x3 0 0) (rdV arg5 harg5 x4 0 0) (rdS arg6 harg6 x5 0 0) (kernelRun0_B.sl.v1255 c arg1 harg1 arg4 harg4 arg5 harg5 arg11 harg11 x0 x3 x4 xs0)⟩,
     ⟨rK 1 3, dlB (rdK arg1 harg1 x0 1 3) (rdK arg2 harg2 x1 1 3) (rdV arg3 harg3 x2 1 3) (rdK arg4 harg4 x3 1 3) (rdV arg5 harg5 x4 1 3) (rdS arg6 harg6 x5 1 3) (kernelRun0_B.sl.v1154 c arg1 harg1 arg4 harg4 arg5 harg5 arg11 harg11 x0 x3 x4 xs0)⟩,
     ⟨rK 1 2, dlB (rdK arg1 harg1 x0 1 2) (rdK arg2 harg2 x1 1 2) (rdV arg3 harg3 x2 1 2) (rdK arg4 harg4 x3 1 2) (rdV arg5 harg5 x4 1 2) (rdS arg6 harg6 x5 1 2) (kernelRun0_B.sl.v1053 c arg1 harg1 arg4 harg4 arg5 harg5 arg11 harg11 x0 x3 x4 xs0)⟩,
     ⟨rK 1 1, dlB (rdK arg1 harg1 x0 1 1) (rdK arg2 harg2 x1 1 1) (rdV arg3 harg3 x2 1 1) (rdK arg4 harg4 x3 1 1) (rdV arg5 harg5 x4 1 1) (rdS arg6 harg6 x5 1 1) (kernelRun0_B.sl.v952 c arg1 harg1 arg4 harg4 arg5 harg5 arg11 harg11 x0 x3 x4 xs0)⟩,
     ⟨rK 1 0, dlB (rdK arg1 harg1 x0 1 0) (rdK arg2 harg2 x1 1 0) (rdV arg3 harg3 x2 1 0) (rdK arg4 harg4 x3 1 0) (rdV arg5 harg5 x4 1 0) (rdS arg6 harg6 x5 1 0) (kernelRun0_B.sl.v851 c arg1 harg1 arg4 harg4 arg5 harg5 arg11 harg11 x0 x3 x4 xs0)⟩,
     ⟨rK 2 3, dlB (rdK arg1 harg1 x0 2 3) (rdK arg2 harg2 x1 2 3) (rdV arg3 harg3 x2 2 3) (rdK arg4 harg4 x3 2 3) (rdV arg5 harg5 x4 2 3) (rdS arg6 harg6 x5 2 3) (kernelRun0_B.sl.v750 c arg1 harg1 arg4 harg4 arg5 harg5 arg11 harg11 x0 x3 x4 xs0)⟩,
     ⟨rK 2 2, dlB (rdK arg1 harg1 x0 2 2) (rdK arg2 harg2 x1 2 2) (rdV arg3 harg3 x2 2 2) (rdK arg4 harg4 x3 2 2) (rdV arg5 harg5 x4 2 2) (rdS arg6 harg6 x5 2 2) (kernelRun0_B.sl.v649 c arg1 harg1 arg4 harg4 arg5 harg5 arg11 harg11 x0 x3 x4 xs0)⟩,
     ⟨rK 2 1, dlB (rdK arg1 harg1 x0 2 1) (rdK arg2 harg2 x1 2 1) (rdV arg3 harg3 x2 2 1) (rdK arg4 harg4 x3 2 1) (rdV arg5 harg5 x4 2 1) (rdS arg6 harg6 x5 2 1) (kernelRun0_B.sl.v548 c arg1 harg1 arg4 harg4 arg5 harg5 arg11 harg11 x0 x3 x4 xs0)⟩,
     ⟨rK 2 0, dlB (rdK arg1 harg1 x0 2 0) (rdK arg2 harg2 x1 2 0) (rdV arg3 harg3 x2 2 0) (rdK arg4 harg4 x3 2 0) (rdV arg5 harg5 x4 2 0) (rdS arg6 harg6 x5 2 0) (kernelRun0_B.sl.v447 c arg1 harg1 arg4 harg4 arg5 harg5 arg11 harg11 x0 x3 x4 xs0)⟩,
     ⟨rK 3 3, dlB (rdK arg1 harg1 x0 3 3) (rdK arg2 harg2 x1 3 3) (rdV arg3 harg3 x2 3 3) (rdK arg4 harg4 x3 3 3) (rdV arg5 harg5 x4 3 3) (rdS arg6 harg6 x5 3 3) (kernelRun0_B.sl.v346 c arg11 harg11 xs0)⟩,
     ⟨rK 3 2, dlB (rdK arg1 harg1 x0 3 2) (rdK arg2 harg2 x1 3 2) (rdV arg3 harg3 x2 3 2) (rdK arg4 harg4 x3 3 2) (rdV arg5 harg5 x4 3 2) (rdS arg6 harg6 x5 3 2) (kernelRun0_B.sl.v245 c arg11 harg11 xs0)⟩,
     ⟨rK 3 1, dlB (rdK arg1 harg1 x0 3 1) (rdK arg2 harg2 x1 3 1) (rdV arg3 harg3 x2 3 1) (rdK arg4 harg4 x3 3 1) (rdV arg5 harg5 x4 3 1) (rdS arg6 harg6 x5 3 1) (kernelRun0_B.sl.v144 c arg11 harg11 xs0)⟩,
     ⟨rK 3 0, dlB (rdK arg1 harg1 x0 3 0) (rdK arg2 harg2 x1 3 0) (rdV arg3 harg3 x2 3 0) (rdK arg4 harg4 x3 3 0) (rdV arg5 harg5 x4 3 0) (rdS arg6 harg6 x5 3 0) (rdD arg11 harg11 xs0 0)⟩] from rfl]
  rw [v0_B, v1_B, v2_B, v3_B, v4_B, v5_B, v6_B, v7_B, v8_B, v9_B, v10_B, v11_B, v12_B, v13_B, v14_B, v15_B]
  simp only [rdK_eq, rdV_eq, rdS_eq]
  exact canon_tileK (F := F) (e := .f32) (fun n h => dlB (View.ld x0 (rK n h)) (View.ld x1 (rK n h)) (View.ld x2 (rV n h)) (View.ld x3 (rK n h)) (View.ld x4 (rV n h)) (View.ld x5 (rS n h)) (inner x0 x3 x4 (fun h => View.ld xs0 (rD h)) (3 - n.val) h)) _ rfl

/-- What the point leaves of the carried gradient. -/
theorem sout_B : sout0_B_0 c i arg1 harg1 arg2 harg2 arg3 harg3 arg4 harg4 arg5 harg5 arg6 harg6 arg7 harg7 arg8 harg8 arg9 harg9 arg10 harg10 arg11 harg11 hc0 x0 x1 x2 x3 x4 x5 xs0 = tileD fun h => inner x0 x3 x4 (fun h => View.ld xs0 (rD h)) 4 h := by
  unfold sout0_B_0
  rw [View.read_writes_junk_eq_canon]
  rw [show (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).2.2.2.2.1 =
      pcD arg1 harg1 arg4 harg4 arg5 harg5 x0 x3 x4 0 3 (kernelRun0_B.sl.v1558 c arg1 harg1 arg4 harg4 arg5 harg5 arg11 harg11 x0 x3 x4 xs0) ::
      pcD arg1 harg1 arg4 harg4 arg5 harg5 x0 x3 x4 0 2 (kernelRun0_B.sl.v1457 c arg1 harg1 arg4 harg4 arg5 harg5 arg11 harg11 x0 x3 x4 xs0) ::
      pcD arg1 harg1 arg4 harg4 arg5 harg5 x0 x3 x4 0 1 (kernelRun0_B.sl.v1356 c arg1 harg1 arg4 harg4 arg5 harg5 arg11 harg11 x0 x3 x4 xs0) ::
      pcD arg1 harg1 arg4 harg4 arg5 harg5 x0 x3 x4 0 0 (kernelRun0_B.sl.v1255 c arg1 harg1 arg4 harg4 arg5 harg5 arg11 harg11 x0 x3 x4 xs0) ::
      kernelRun0_B.sl.HS0_12 c arg1 harg1 arg4 harg4 arg5 harg5 arg11 harg11 x0 x3 x4 xs0 from rfl]
  generalize kernelRun0_B.sl.HS0_12 c arg1 harg1 arg4 harg4 arg5 harg5 arg11 harg11 x0 x3 x4 xs0 = L'
  rw [v12_B, v13_B, v14_B, v15_B]
  generalize (fun h => View.ld xs0 (rD h)) = d
  simp only [pcD, rdK_eq, rdV_eq]
  exact canon_tileD (F := F) (e := .f32) (fun h => inner x0 x3 x4 d 4 h) L' _ rfl

end

end Cert.KernelIdeal.Gla

end
-- ==== Proof.Gla.Fold.lean ====
/- The call's four arrays over the reals: the carried gradient after each grid point, then each output array at
   an index. -/
module

public import proofs.«01_k».proof.Proof.Gla.RunA
public import proofs.«01_k».proof.Proof.Gla.RunB
public import proofs.«01_k».proof.Proof.Gla.TileReal
public import proofs.«01_k».proof.Proof.Gla.Chunks
public import proofs.«01_k».proof.Proof.Gen.KernelIdeal.Value
public import Idealize.ShloMosaic.Lib.Pipeline.ValueKit

@[expose] public section

set_option maxRecDepth 16384

noncomputable section

namespace Cert.KernelIdeal.Gla

open Cert.KernelIdeal Cert.KernelIdeal.Gen Idealize.ShloMosaic Idealize.ShloMosaic.TcCoe Idealize.SL.Sem
open Cert.GlaSpec (Mat)

/-! ## Where each staged block lies in its array -/

section
variable {F : FTy → Type} [FloatOps F]
variable (m : (ℓ : Loc nD τ sig) → Buf (Elt F) ℓ)

theorem idx : ∀ t : Fin cfg0.N, win0_0.index t = ![16 - t.val, 10] ∧ win0_1.index t = ![16 - t.val, 11] ∧
    win0_2.index t = ![16 - t.val, 4] ∧ win0_3.index t = ![16 - t.val, 0] ∧ win0_4.index t = ![16 - t.val, 0] ∧
    win0_5.index t = ![16 - t.val, 0, 0, 0] ∧ win0_6.index t = ![16 - t.val, 0] ∧ win0_7.index t = ![16 - t.val, 0] ∧
    win0_8.index t = ![16 - t.val, 0] ∧ win0_9.index t = ![16 - t.val, 0] := by decide +kernel

variable (c : Dev nD) (t : Fin cfg0.N)

theorem iblk0 (r : Fin 256) (d : Fin 512) (hr : 256 * (16 - t.val) + r.val < 4352) :
    iblk m c 0 t (ix2 r d) =
      m ((c : Thread nD τ).loc main_arg0) (ix2 ⟨256 * (16 - t.val) + r.val, hr⟩ ⟨5120 + d.val, by omega⟩) := by
  blk_ext [iblk, Gen.V, idx t]

theorem iblk1 (r : Fin 256) (d : Fin 512) (hr : 256 * (16 - t.val) + r.val < 4352) :
    iblk m c 1 t (ix2 r d) =
      m ((c : Thread nD τ).loc main_arg0) (ix2 ⟨256 * (16 - t.val) + r.val, hr⟩ ⟨5632 + d.val, by omega⟩) := by
  blk_ext [iblk, Gen.V, idx t]

theorem iblk2 (r : Fin 256) (d : Fin 1024) (hr : 256 * (16 - t.val) + r.val < 4352) :
    iblk m c 2 t (ix2 r d) =
      m ((c : Thread nD τ).loc main_arg0) (ix2 ⟨256 * (16 - t.val) + r.val, hr⟩ ⟨4096 + d.val, by omega⟩) := by
  blk_ext [iblk, Gen.V, idx t]

theorem iblk3 (r : Fin 256) (d : Fin 512) (hr : 256 * (16 - t.val) + r.val < 4352) :
    iblk m c 3 t (ix2 r d) =
      m ((c : Thread nD τ).loc main_arg1) (ix2 ⟨256 * (16 - t.val) + r.val, hr⟩ ⟨d.val, by omega⟩) := by
  blk_ext [iblk, Gen.V, idx t]

theorem iblk4 (r : Fin 256) (d : Fin 1024) (hr : 256 * (16 - t.val) + r.val < 4352) :
    iblk m c 4 t (ix2 r d) =
      m ((c : Thread nD τ).loc main_arg2) (ix2 ⟨256 * (16 - t.val) + r.val, hr⟩ d) := by
  blk_ext [iblk, Gen.V, idx t]

theorem iblk5 (j h : Fin 4) (e : Fin 256) (d : Fin 128) (hr : 4 * (16 - t.val) + j.val < 68) :
    iblk m c 5 t (ix4 j h e d) = Gen.V m c main_v36 (ix4 ⟨4 * (16 - t.val) + j.val, hr⟩ h e d) := by
  blk_ext [iblk, idx t]

end

/-! ## Loads of tiles -/

section
variable {F : FTy → Type} [FloatOps F] {e : EltTy}

theorem ldK (x : Vec F S256x512 e) (n h : Fin 4) (a : Fin 64) (d : Fin 128) :
    View.ld x (rK n h) (ix2 a d) = x (ix2 ⟨64 * n.val + a.val, by omega⟩ ⟨128 * h.val + d.val, by omega⟩) := by
  refine View.ld_unit_apply_of x _ _ _ _ _ fun a => ?_
  fin_cases a <;> rfl

theorem ldV (x : Vec F S256x1024 e) (n h : Fin 4) (a : Fin 64) (d : Fin 256) :
    View.ld x (rV n h) (ix2 a d) = x (ix2 ⟨64 * n.val + a.val, by omega⟩ ⟨256 * h.val + d.val, by omega⟩) := by
  refine View.ld_unit_apply_of x _ _ _ _ _ fun a => ?_
  fin_cases a <;> rfl

theorem ldS (x : Vec F S4x4x256x128 e) (n h : Fin 4) (z w : Fin 1) (a : Fin 256) (d : Fin 128) :
    View.ld x (rS n h) (ix4 z w a d) = x (ix4 n h a d) := by
  refine View.ld_unit_apply_of x _ _ _ _ _ fun i => ?_
  fin_cases i
  · show n.val = n.val + z.val; omega
  · show h.val = h.val + w.val; omega
  · show a.val = 0 + a.val; omega
  · show d.val = 0 + d.val; omega

theorem ldD (x : Vec F S4x256x128 e) (h : Fin 4) (z : Fin 1) (a : Fin 256) (d : Fin 128) :
    View.ld x (rD h) (ix3 z a d) = x (ix3 h a d) := by
  refine View.ld_unit_apply_of x _ _ _ _ _ fun i => ?_
  fin_cases i
  · show h.val = h.val + z.val; omega
  · show a.val = 0 + a.val; omega
  · show d.val = 0 + d.val; omega

end

/-! ## The arrays are real -/

variable (m : (ℓ : Loc nD τ sig) → Buf (Elt Ideal) ℓ) (c : Dev nD) (p l g : ℕ → ℕ → ℝ) (S : ℕ → Fin 4 → Mat 256 128)

/-- The parts of the arrays that the call reads hold the reals `p`, `l`, `g`, and the saved states `S`. -/
structure Holds : Prop where
  hp : ∀ (r : Fin 4352) (d : Fin 8192), 4096 ≤ d.val → d.val < 6144 →
    (m ((c : Thread nD τ).loc main_arg0) (ix2 r d) : EReal) = (p r d : EReal)
  hl : ∀ (r : Fin 4352) (d : Fin 1024), d.val < 512 →
    (m ((c : Thread nD τ).loc main_arg1) (ix2 r d) : EReal) = (l r d : EReal)
  hg : ∀ (r : Fin 4352) (d : Fin 1024), (m ((c : Thread nD τ).loc main_arg2) (ix2 r d) : EReal) = (g r d : EReal)
  hS : ∀ (n : Fin 68) (h : Fin 4) (e : Fin 256) (d : Fin 128),
    (Gen.V m c main_v36 (ix4 n h e d) : EReal) = (S n h e d : EReal)

variable {m c p l g S} (H : Holds m c p l g S)

theorem tlt (t : Fin cfg0.N) : t.val < 17 := lt_of_lt_of_eq t.isLt (show cfg0.N = 17 from N_0)

include H

section
variable (t : Fin cfg0.N) (j h : Fin 4)

theorem hq (a : Fin 64) (d : Fin 128) :
    (View.ld (iblk m c 0 t) (rK j h) (ix2 a d) : EReal) = (GlaSpec.Q p (4 * (16 - t.val) + j.val) h a d : EReal) := by
  have := tlt t
  rw [ldK, iblk0 _ _ _ _ _ (by simp only; omega), H.hp _ _ (by simp only; omega) (by simp only; omega)]
  simp only [GlaSpec.Q]
  congr 2 <;> omega

theorem hk (a : Fin 64) (d : Fin 128) :
    (View.ld (iblk m c 1 t) (rK j h) (ix2 a d) : EReal) = (GlaSpec.K p (4 * (16 - t.val) + j.val) h a d : EReal) := by
  have := tlt t
  rw [ldK, iblk1 _ _ _ _ _ (by simp only; omega), H.hp _ _ (by simp only; omega) (by simp only; omega)]
  simp only [GlaSpec.K]
  congr 2 <;> omega

theorem hv (a : Fin 64) (d : Fin 256) :
    (View.ld (iblk m c 2 t) (rV j h) (ix2 a d) : EReal) = (GlaSpec.V p (4 * (16 - t.val) + j.val) h a d : EReal) := by
  have := tlt t
  rw [ldV, iblk2 _ _ _ _ _ (by simp only; omega), H.hp _ _ (by simp only; omega) (by simp only; omega)]
  simp only [GlaSpec.V]
  congr 2 <;> omega

theorem hl (a : Fin 64) (d : Fin 128) :
    (View.ld (iblk m c 3 t) (rK j h) (ix2 a d) : EReal) = (GlaSpec.L l (4 * (16 - t.val) + j.val) h a d : EReal) := by
  have := tlt t
  rw [ldK, iblk3 _ _ _ _ _ (by simp only; omega), H.hl _ _ (by simp only; omega)]
  simp only [GlaSpec.L]
  congr 2; omega

theorem hg (a : Fin 64) (d : Fin 256) :
    (View.ld (iblk m c 4 t) (rV j h) (ix2 a d) : EReal) = (GlaSpec.G g (4 * (16 - t.val) + j.val) h a d : EReal) := by
  have := tlt t
  rw [ldV, iblk4 _ _ _ _ _ (by simp only; omega), H.hg]
  simp only [GlaSpec.G]
  congr 2; omega

theorem hs (e : Fin 256) (d : Fin 128) :
    (View.ld (iblk m c 5 t) (rS j h) (ix4 0 0 e d) : EReal) = (S (4 * (16 - t.val) + j.val) h e d : EReal) := by
  have := tlt t
  rw [ldS, iblk5 _ _ _ _ _ _ _ (by omega), H.hS]

end

/-- The gradient handed from chunk to chunk inside a grid point. -/
theorem inner_real (t : Fin cfg0.N) (dz : Fin 4 → Vec Ideal S1x256x128 .f32)
    (hd : ∀ h e d, (dz h (ix3 0 e d) : EReal) = (GlaSpec.R σ p l g h (4 * t.val) e d : EReal)) (h : Fin 4) :
    ∀ i, i ≤ 4 → ∀ e d, (inner (iblk m c 0 t) (iblk m c 3 t) (iblk m c 4 t) dz i h (ix3 0 e d) : EReal) =
      (GlaSpec.R σ p l g h (4 * t.val + i) e d : EReal)
  | 0, _, e, d => hd h e d
  | i + 1, hi, e, d => by
    have := tlt t
    have ih := inner_real t dz hd h i (by omega)
    have e1 : 4 * (16 - t.val) + (3 - i) = 67 - (4 * t.val + i) := by omega
    rw [inner, dsB_apply (hq H t _ h) (hg H t _ h) (hl H t _ h) ih]
    simp only [e1]
    rfl

/-- The carried gradient after point `t`. -/
theorem scratch_real : ∀ (n : ℕ) (hn : n < cfg0.N) (h : Fin 4) (e : Fin 256) (d : Fin 128),
    ((outsAt0 m c n hn).2.2.2.2 (ix3 h e d) : EReal) = (GlaSpec.R σ p l g h (4 * n + 4) e d : EReal)
  | 0, hn, h, e, d => by
    rw [outsAt0_A m c ⟨0, hn⟩ rfl]
    dsimp only
    rw [sout_A]
    refine inner_real H ⟨0, hn⟩ _ ?_ h 4 le_rfl e d
    intro h e d
    show ((k0_pay2 (F := Ideal) _ : EReal)) = ((0 : ℝ) : EReal)
    rw [EReal.coe_zero]
    show Ideal.ofBits .f32 0x00000000#32 = 0
    exact Ideal.ofBits_zero_f32
  | n + 1, hn, h, e, d => by
    have hN := lt_of_lt_of_eq hn (show cfg0.N = 17 from N_0)
    rw [outsAt0_B m c ⟨n + 1, hn⟩ (by show ¬(n + 1) % 17 = 0; omega)]
    dsimp only
    rw [sout_B]
    refine inner_real H ⟨n + 1, hn⟩ _ ?_ h 4 le_rfl e d
    intro h e d
    rw [ldD]
    exact scratch_real n (by omega) h e d

/-- What a point of either kind starts from. -/
theorem start_real (t : Fin cfg0.N) (h0 : ¬t.val % 17 = 0) (h : Fin 4) (e : Fin 256) (d : Fin 128) :
    (View.ld (outsAt0 m c (t.val - 1) (Nat.lt_of_le_of_lt (Nat.sub_le _ _) t.isLt)).2.2.2.2 (rD h) (ix3 0 e d) : EReal) =
      (GlaSpec.R σ p l g h (4 * t.val) e d : EReal) := by
  rw [ldD, scratch_real H]
  congr 2
  omega

theorem start0_real (t : Fin cfg0.N) (h0 : t.val % 17 = 0) (h : Fin 4) (e : Fin 256) (d : Fin 128) :
    (d0 (F := Ideal) h (ix3 0 e d) : EReal) = (GlaSpec.R σ p l g h (4 * t.val) e d : EReal) := by
  have := tlt t
  rw [show 4 * t.val = 0 by omega]
  show Ideal.ofBits .f32 0x00000000#32 = ((0 : ℝ) : EReal)
  rw [EReal.coe_zero]
  exact Ideal.ofBits_zero_f32

end Cert.KernelIdeal.Gla

end
-- ==== Proof.Gla.Out.lean ====
/- Each output array of the call at an index, over the reals. -/
module

public import proofs.«01_k».proof.Proof.Gla.Fold

@[expose] public section

set_option maxRecDepth 16384

noncomputable section

namespace Cert.KernelIdeal.Gla

open Cert.KernelIdeal Cert.KernelIdeal.Gen Idealize.ShloMosaic Idealize.ShloMosaic.TcCoe Idealize.SL.Sem
open Cert.GlaSpec (Mat)

/-- The array whose chunk `n` and head `h` is `T n h`, for tiles of width 128. -/
def arrK (T : ℕ → Fin 4 → Mat 64 128) : S4352x512.Idx → EReal := fun i =>
  (T ((i 0).val / 64) ⟨(i 1).val / 128, by have := (i 1).isLt; change _ < 512 at this; omega⟩
    ⟨(i 0).val % 64, Nat.mod_lt _ (by decide)⟩ ⟨(i 1).val % 128, Nat.mod_lt _ (by decide)⟩ : ℝ)

/-- … and of width 256. -/
def arrV (T : ℕ → Fin 4 → Mat 64 256) : S4352x1024.Idx → EReal := fun i =>
  (T ((i 0).val / 64) ⟨(i 1).val / 256, by have := (i 1).isLt; change _ < 1024 at this; omega⟩
    ⟨(i 0).val % 64, Nat.mod_lt _ (by decide)⟩ ⟨(i 1).val % 256, Nat.mod_lt _ (by decide)⟩ : ℝ)

theorem arrK_of (T : ℕ → Fin 4 → Mat 64 128) (t : Fin cfg0.N) (U : Fin 4 → Fin 4 → Vec Ideal S64x128 .f32)
    (hU : ∀ j h a d, (U j h (ix2 a d) : EReal) = (T (4 * (16 - t.val) + j.val) h a d : ℝ)) (y : S256x512.Idx)
    (i : S4352x512.Idx) (h0 : (i 0).val = (16 - t.val) * 256 + (y 0).val) (h1 : (i 1).val = (y 1).val) :
    (tileK (F := Ideal) (e := .f32) U y : EReal) = arrK T i := by
  unfold tileK arrK
  rw [hU]
  have l0 : (y 0).val < 256 := (y 0).isLt
  congr 1
  simp only [h0, h1]
  have e1 : ((16 - t.val) * 256 + (y 0).val) / 64 = 4 * (16 - t.val) + (y 0).val / 64 := by omega
  have e2 : ((16 - t.val) * 256 + (y 0).val) % 64 = (y 0).val % 64 := by omega
  simp only [e1, e2]

theorem arrV_of (T : ℕ → Fin 4 → Mat 64 256) (t : Fin cfg0.N) (U : Fin 4 → Fin 4 → Vec Ideal S64x256 .f32)
    (hU : ∀ j h a d, (U j h (ix2 a d) : EReal) = (T (4 * (16 - t.val) + j.val) h a d : ℝ)) (y : S256x1024.Idx)
    (i : S4352x1024.Idx) (h0 : (i 0).val = (16 - t.val) * 256 + (y 0).val) (h1 : (i 1).val = (y 1).val) :
    (tileV (F := Ideal) (e := .f32) U y : EReal) = arrV T i := by
  unfold tileV arrV
  rw [hU]
  have l0 : (y 0).val < 256 := (y 0).isLt
  congr 1
  simp only [h0, h1]
  have e1 : ((16 - t.val) * 256 + (y 0).val) / 64 = 4 * (16 - t.val) + (y 0).val / 64 := by omega
  have e2 : ((16 - t.val) * 256 + (y 0).val) % 64 = (y 0).val % 64 := by omega
  simp only [e1, e2]

/-! ## The four gradients, chunk by chunk and head by head -/

section
variable (p l g : ℕ → ℕ → ℝ) (S : ℕ → Fin 4 → Mat 256 128) (n : ℕ) (h : Fin 4)

def DQ : Mat 64 128 :=
  GlaSpec.dq σ (GlaSpec.K p n h) (GlaSpec.V p n h) (GlaSpec.G g n h) (GlaSpec.L l n h) (S n h)

def DK : Mat 64 128 :=
  GlaSpec.dk σ (GlaSpec.Q p n h) (GlaSpec.V p n h) (GlaSpec.G g n h) (GlaSpec.L l n h) (GlaSpec.R σ p l g h (67 - n))

def DV : Mat 64 256 :=
  GlaSpec.dv σ (GlaSpec.Q p n h) (GlaSpec.K p n h) (GlaSpec.G g n h) (GlaSpec.L l n h) (GlaSpec.R σ p l g h (67 - n))

def DL : Mat 64 128 :=
  GlaSpec.dl σ (GlaSpec.Q p n h) (GlaSpec.K p n h) (GlaSpec.V p n h) (GlaSpec.G g n h) (GlaSpec.L l n h) (S n h)
    (GlaSpec.R σ p l g h (67 - n))

end

variable {m : (ℓ : Loc nD τ sig) → Buf (Elt Ideal) ℓ} {c : Dev nD} {p l g : ℕ → ℕ → ℝ} {S : ℕ → Fin 4 → Mat 256 128}
  (H : Holds m c p l g S)

include H

/-- The state's gradient a chunk of a point meets. -/
theorem inner_at (t : Fin cfg0.N) (dz : Fin 4 → Vec Ideal S1x256x128 .f32)
    (hd : ∀ h e d, (dz h (ix3 0 e d) : EReal) = (GlaSpec.R σ p l g h (4 * t.val) e d : EReal)) (j h : Fin 4)
    (e : Fin 256) (d : Fin 128) :
    (inner (iblk m c 0 t) (iblk m c 3 t) (iblk m c 4 t) dz (3 - j.val) h (ix3 0 e d) : EReal) =
      (GlaSpec.R σ p l g h (67 - (4 * (16 - t.val) + j.val)) e d : EReal) := by
  have := tlt t
  rw [inner_real H t dz hd h _ (by omega)]
  congr 2
  omega

/-- The query's gradient. -/
theorem arr6 : (dats m 0 c).arrAt 6 cfg0.N = arrK (DQ p l g S) := by
  refine (dats m 0 c).arrAt_eq_of_covers 6 _ (by decide +kernel) fun t hf y => ?_
  have ht := tlt t
  rw [after0_6]
  by_cases h0 : t.val % 17 = 0
  · have hd := start0_real H t h0
    rw [outsAt0_A m c t h0]
    dsimp only
    rw [out6_A]
    exact arrK_of (DQ p l g S) t _ (fun j h a d => dqB_apply (hk H t j h) (hv H t j h) (hg H t j h) (hl H t j h) (hs H t j h) a d) y _
      (by blk_simp [idx t]) (by blk_simp [idx t])
  · have hd := start_real H t h0
    rw [outsAt0_B m c t h0]
    dsimp only
    rw [out6_B]
    exact arrK_of (DQ p l g S) t _ (fun j h a d => dqB_apply (hk H t j h) (hv H t j h) (hg H t j h) (hl H t j h) (hs H t j h) a d) y _
      (by blk_simp [idx t]) (by blk_simp [idx t])

/-- The key's gradient. -/
theorem arr7 : (dats m 0 c).arrAt 7 cfg0.N = arrK (DK p l g) := by
  refine (dats m 0 c).arrAt_eq_of_covers 7 _ (by decide +kernel) fun t hf y => ?_
  have ht := tlt t
  rw [after0_7]
  by_cases h0 : t.val % 17 = 0
  · have hd := start0_real H t h0
    rw [outsAt0_A m c t h0]
    dsimp only
    rw [out7_A]
    exact arrK_of (DK p l g) t _ (fun j h a d => dkB_apply (hq H t j h) (hv H t j h) (hg H t j h) (hl H t j h) (inner_at H t _ hd j h) a d) y _
      (by blk_simp [idx t]) (by blk_simp [idx t])
  · have hd := start_real H t h0
    rw [outsAt0_B m c t h0]
    dsimp only
    rw [out7_B]
    exact arrK_of (DK p l g) t _ (fun j h a d => dkB_apply (hq H t j h) (hv H t j h) (hg H t j h) (hl H t j h) (inner_at H t _ hd j h) a d) y _
      (by blk_simp [idx t]) (by blk_simp [idx t])

/-- The value's gradient. -/
theorem arr8 : (dats m 0 c).arrAt 8 cfg0.N = arrV (DV p l g) := by
  refine (dats m 0 c).arrAt_eq_of_covers 8 _ (by decide +kernel) fun t hf y => ?_
  have ht := tlt t
  rw [after0_8]
  by_cases h0 : t.val % 17 = 0
  · have hd := start0_real H t h0
    rw [outsAt0_A m c t h0]
    dsimp only
    rw [out8_A]
    exact arrV_of (DV p l g) t _ (fun j h a d => dvB_apply (hq H t j h) (hk H t j h) (hg H t j h) (hl H t j h) (inner_at H t _ hd j h) a d) y _
      (by blk_simp [idx t]) (by blk_simp [idx t])
  · have hd := start_real H t h0
    rw [outsAt0_B m c t h0]
    dsimp only
    rw [out8_B]
    exact arrV_of (DV p l g) t _ (fun j h a d => dvB_apply (hq H t j h) (hk H t j h) (hg H t j h) (hl H t j h) (inner_at H t _ hd j h) a d) y _
      (by blk_simp [idx t]) (by blk_simp [idx t])

/-- The log decays' gradient. -/
theorem arr9 : (dats m 0 c).arrAt 9 cfg0.N = arrK (DL p l g S) := by
  refine (dats m 0 c).arrAt_eq_of_covers 9 _ (by decide +kernel) fun t hf y => ?_
  have ht := tlt t
  rw [after0_9]
  by_cases h0 : t.val % 17 = 0
  · have hd := start0_real H t h0
    rw [outsAt0_A m c t h0]
    dsimp only
    rw [out9_A]
    exact arrK_of (DL p l g S) t _ (fun j h a d => dlB_apply (hq H t j h) (hk H t j h) (hv H t j h) (hg H t j h) (hl H t j h) (hs H t j h) (inner_at H t _ hd j h) a d) y _
      (by blk_simp [idx t]) (by blk_simp [idx t])
  · have hd := start_real H t h0
    rw [outsAt0_B m c t h0]
    dsimp only
    rw [out9_B]
    exact arrK_of (DL p l g S) t _ (fun j h a d => dlB_apply (hq H t j h) (hk H t j h) (hv H t j h) (hg H t j h) (hl H t j h) (hs H t j h) (inner_at H t _ hd j h) a d) y _
      (by blk_simp [idx t]) (by blk_simp [idx t])

end Cert.KernelIdeal.Gla

end
-- ==== Proof.Gla.States.lean ====
/- The states the kernel is given: the host's lines write the array the reference forms, its last two axes exchanged. -/
module

public import proofs.«01_k».proof.Proof.Gla.RefReal
public import proofs.«01_k».proof.Proof.Gla.Out
public import Idealize.ShloMosaic.Lib.Claim

@[expose] public section
set_option maxRecDepth 16384
noncomputable section
namespace Cert.KernelIdeal.Gla
open Cert.KernelIdeal Cert.KernelIdeal.Gen Idealize.ShloMosaic Idealize.ShloMosaic.TcCoe Idealize.SL.Sem

theorem to_v13 (h₁ h₂ h₃) (v : (⟨S68x64x4x128, .f32⟩ : BufTy).Contents (Elt Ideal)) :
    (StableHlo.TRef.of main_v13 h₁ h₂ h₃ : StableHlo.TRef sig ⟨S68x64x4x128, .f32⟩).toBuf v = v := rfl

theorem to_v22 (h₁ h₂ h₃) (v : (⟨S68x4x128, .f32⟩ : BufTy).Contents (Elt Ideal)) :
    (StableHlo.TRef.of main_v22 h₁ h₂ h₃ : StableHlo.TRef sig ⟨S68x4x128, .f32⟩).toBuf v = v := rfl

theorem to_v25 (h₁ h₂ h₃) (v : (⟨S68x68, .i1⟩ : BufTy).Contents (Elt Ideal)) :
    (StableHlo.TRef.of main_v25 h₁ h₂ h₃ : StableHlo.TRef sig ⟨S68x68, .i1⟩).toBuf v = v := rfl

theorem to_v32 (h₁ h₂ h₃) (v : (⟨S68x68x4x128, .f32⟩ : BufTy).Contents (Elt Ideal)) :
    (StableHlo.TRef.of main_v32 h₁ h₂ h₃ : StableHlo.TRef sig ⟨S68x68x4x128, .f32⟩).toBuf v = v := rfl

theorem of_v12 (h₁ h₂ h₃) (v : main_v12.ty.Contents (Elt Ideal)) :
    (StableHlo.TRef.of main_v12 h₁ h₂ h₃ : StableHlo.TRef sig ⟨S68x64x4x128, .f32⟩).ofBuf v = v := rfl

theorem of_v15 (h₁ h₂ h₃) (v : main_v15.ty.Contents (Elt Ideal)) :
    (StableHlo.TRef.of main_v15 h₁ h₂ h₃ : StableHlo.TRef sig ⟨S68x4x128, .f32⟩).ofBuf v = v := rfl

theorem of_v24 (h₁ h₂ h₃) (v : main_v24.ty.Contents (Elt Ideal)) :
    (StableHlo.TRef.of main_v24 h₁ h₂ h₃ : StableHlo.TRef sig ⟨S68x68, .i1⟩).ofBuf v = v := rfl

theorem of_v26 (h₁ h₂ h₃) (v : main_v26.ty.Contents (Elt Ideal)) :
    (StableHlo.TRef.of main_v26 h₁ h₂ h₃ : StableHlo.TRef sig ⟨S68x68x1x1, .i1⟩).ofBuf v = v := rfl

theorem of_v31 (h₁ h₂ h₃) (v : main_v31.ty.Contents (Elt Ideal)) :
    (StableHlo.TRef.of main_v31 h₁ h₂ h₃ : StableHlo.TRef sig ⟨S68x68x4x128, .f32⟩).ofBuf v = v := rfl

theorem of_cst_0 (h₁ h₂ h₃) (v : main_cst_0.ty.Contents (Elt Ideal)) :
    (StableHlo.TRef.of main_cst_0 h₁ h₂ h₃ : StableHlo.TRef sig ⟨S_, .f32⟩).ofBuf v = v := rfl

/-- The kernel's state operand is the reference's states, transposed. -/
theorem states (m : (ℓ : Loc nD τ sig) → Buf (Elt Ideal) ℓ) (c : Dev nD) :
    Gen.V m c main_v36 = transpose S68x4x256x128 [0, 1, 3, 2]
      (Cert.ReferenceIdeal.Read.val_main_v46 (F := Ideal) (m ((c : Thread nD τ).loc main_arg0)) (m ((c : Thread nD τ).loc main_arg1)))
      (by decide) := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  simp only [StableHlo.TRef.ofBuf_toBuf, id_eq, to_v13, to_v22, to_v25, to_v32, of_v12, of_v15, of_v24, of_v26, of_v31, of_cst_0]
  simp only [Cert.ReferenceIdeal.Read.val_main_v46, Cert.ReferenceIdeal.Read.val_main_v45, Cert.ReferenceIdeal.Read.val_main_v44, Cert.ReferenceIdeal.Read.val_main_v32, Cert.ReferenceIdeal.Read.val_main_v31, Cert.ReferenceIdeal.Read.val_main_v30, Cert.ReferenceIdeal.Read.val_main_v29, Cert.ReferenceIdeal.Read.val_main_v28, Cert.ReferenceIdeal.Read.val_main_v27, Cert.ReferenceIdeal.Read.val_main_v26, Cert.ReferenceIdeal.Read.val_main_v25, Cert.ReferenceIdeal.Read.val_main_v13, Cert.ReferenceIdeal.Read.val_main_v12, Cert.ReferenceIdeal.Read.val_main_v6, Cert.ReferenceIdeal.Read.val_main_call0_call0_v0, Cert.ReferenceIdeal.Read.val_main_call0_call0_cst, Cert.ReferenceIdeal.Read.val_main_v10, Cert.ReferenceIdeal.Read.val_main_v3, Cert.ReferenceIdeal.Read.val_main_v2, Cert.ReferenceIdeal.Read.val_main_v11, Cert.ReferenceIdeal.Read.val_main_v5, Cert.ReferenceIdeal.Read.val_main_v4, Cert.ReferenceIdeal.Read.val_main_v43_0, Cert.ReferenceIdeal.Read.val_main_v43_1, Cert.ReferenceIdeal.Read.val_main_v37, Cert.ReferenceIdeal.Read.val_main_v36, Cert.ReferenceIdeal.Read.val_main_call4_v4, Cert.ReferenceIdeal.Read.val_main_call4_v2, Cert.ReferenceIdeal.Read.val_main_call4_v0, Cert.ReferenceIdeal.Read.val_main_call4_v1, Cert.ReferenceIdeal.Read.val_main_call4_c, Cert.ReferenceIdeal.Read.val_main_call4_v3, Cert.ReferenceIdeal.Read.val_main_v35, Cert.ReferenceIdeal.Read.val_main_c_1, Cert.ReferenceIdeal.Read.val_main_call4_v5, Cert.ReferenceIdeal.Read.val_main_call4_c_0, Cert.ReferenceIdeal.Read.val_main_v42, Cert.ReferenceIdeal.Read.val_main_v40, Cert.ReferenceIdeal.Read.val_main_v38, Cert.ReferenceIdeal.Read.val_main_v34, Cert.ReferenceIdeal.Read.val_main_v33, Cert.ReferenceIdeal.Read.val_main_call3_call0_v0, Cert.ReferenceIdeal.Read.val_main_call3_call0_cst, Cert.ReferenceIdeal.Read.val_main_v41, Cert.ReferenceIdeal.Read.val_main_v39, Cert.ReferenceIdeal.Read.val_main_call5_v2, Cert.ReferenceIdeal.Read.val_main_call5_v0, Cert.ReferenceIdeal.Read.val_main_cst_2, id_eq]
  rfl

end Cert.KernelIdeal.Gla

end
-- ==== Proof.Gla.Finite.lean ====
/- The precondition read back: the entries used are reals. -/
module

public import proofs.«01_k».proof.Proof.Gla.RefReal
public import proofs.«01_k».proof.Pre_finite
public import Idealize.ShloMosaic.Lib.ReduceAll
public import Idealize.ShloMosaic.Lib.Pipeline.Value

@[expose] public section

noncomputable section

namespace Cert.Pre_finite.Gla

open Idealize.ShloMosaic

instance facts : Cert.Pre_finite.Facts where
  slices_S4352x8192_S4352x2048_0_4096 := by decide
  bitsLt_bf16_f32 := by decide
  bcast_S_S4352x2048 := by decide
  reducesTo_S4352x2048_S_d0_1 := by decide
  h_S_ := by decide
  slices_S4352x1024_S4352x512_0_0 := by decide
  bcast_S_S4352x512 := by decide
  reducesTo_S4352x512_S_d0_1 := by decide
  bcast_S_S4352x1024 := by decide
  reducesTo_S4352x1024_S_d0_1 := by decide

/-- An extended real of absolute value below `⊤` is its real part. -/
theorem real_of_lt (x : EReal) (h : max x (-x) < ⊤) : x = (x.toReal : ℝ) := by
  have h1 : x ≠ ⊤ := fun e => by simp [e] at h
  have h2 : x ≠ ⊥ := fun e => by simp [e] at h
  exact (EReal.coe_toReal h1 h2).symm

theorem inf_word : Ideal.ofBits .f32 0x7F800000#32 = (⊤ : EReal) := by
  simp [Ideal.ofBits, Ideal.ieee]

/-- The comparison with infinity, read back. -/
theorem real_of_olt (x : EReal) (h : Ideal.cmp .olt (max x (-x)) (Ideal.ofBits .f32 0x7F800000#32) = 1#1) :
    x = (x.toReal : ℝ) := by
  rw [inf_word] at h
  apply real_of_lt
  by_contra hc
  simp [Ideal.cmp, hc] at h

/-- The real parts of an array, as a function of two naturals. -/
def parts {a b : ℕ} (x : (⟨2, ![a, b]⟩ : Shape).Idx → EReal) (r d : ℕ) : ℝ :=
  if h : r < a ∧ d < b then (x (ix2 (⟨r, h.1⟩ : Fin a) (⟨d, h.2⟩ : Fin b))).toReal else 0

theorem parts_at {a b : ℕ} (x : (⟨2, ![a, b]⟩ : Shape).Idx → EReal) (r : Fin a) (d : Fin b) :
    parts x r d = (x (ix2 r d)).toReal := by
  unfold parts
  rw [dif_pos ⟨r.isLt, d.isLt⟩]

instance : Subsingleton S_.Idx := ⟨fun a b => funext fun i => i.elim0⟩

/-- Under the precondition the entries read are reals. -/
theorem reals (x0 : FVec Ideal S4352x8192 .bf16) (x1 : FVec Ideal S4352x1024 .f32) (x2 : FVec Ideal S4352x1024 .bf16)
    (h : fn x0 x1 x2 = fun _ => 1#1) : Cert.ReferenceIdeal.Gla.Reals x0 x1 x2 (parts x0) (parts x1) (parts x2) := by
  have h := congrFun h ix0
  unfold fn at h
  dsimp only at h
  obtain ⟨h01, h2⟩ := IntOp.andi_eq_one.1 h
  obtain ⟨h0, h1⟩ := IntOp.andi_eq_one.1 h01
  refine ⟨fun r d hd hd' => ?_, fun r d hd => ?_, fun r d => ?_⟩
  · have e := Host.reduce_andi_all _ _ _ _ _ h0 (ix2 r (⟨d.val - 4096, by omega⟩ : Fin 2048))
    have k : extractStridedSlice S4352x2048 ![0, 4096] x0 Facts.slices_S4352x8192_S4352x2048_0_4096
        (ix2 r (⟨d.val - 4096, by omega⟩ : Fin 2048)) = x0 (ix2 r d) := by
      refine extractStridedSlice_apply _ _ _ _ _ fun a => ?_
      match a with
      | ⟨0, _⟩ => exact (Nat.zero_add _).symm
      | ⟨1, _⟩ => exact (Nat.add_sub_cancel' hd).symm
    rw [parts_at]
    refine real_of_olt _ (Eq.trans ?_ e)
    rw [← k]
    rfl
  · have e := Host.reduce_andi_all _ _ _ _ _ h1 (ix2 r (⟨d.val, hd⟩ : Fin 512))
    have k : extractStridedSlice S4352x512 ![0, 0] x1 Facts.slices_S4352x1024_S4352x512_0_0
        (ix2 r (⟨d.val, hd⟩ : Fin 512)) = x1 (ix2 r d) := by
      refine extractStridedSlice_apply _ _ _ _ _ fun a => ?_
      match a with
      | ⟨0, _⟩ => exact (Nat.zero_add _).symm
      | ⟨1, _⟩ => exact (Nat.zero_add _).symm
    rw [parts_at]
    refine real_of_olt _ (Eq.trans ?_ e)
    rw [← k]
    rfl
  · have e := Host.reduce_andi_all _ _ _ _ _ h2 (ix2 r d)
    rw [parts_at]
    exact real_of_olt _ (Eq.trans rfl e)

end Cert.Pre_finite.Gla

end
-- ==== Proof.Gla.Final.lean ====
/- The kernel's four gradients are the reference's. -/
module

public import proofs.«01_k».proof.Proof.Gla.States
public import proofs.«01_k».proof.Proof.Gla.Finite
public import proofs.«01_k».proof.Proof.Gen.ReferenceIdeal.Run

@[expose] public section

noncomputable section

namespace Cert.KernelIdeal.Gla

open Cert.KernelIdeal Cert.KernelIdeal.Gen Idealize.ShloMosaic Idealize.ShloMosaic.TcCoe Idealize.SL.Sem Cert.GlaSpec
open Cert.ReferenceIdeal.Gla (Reals)
open Cert.ReferenceIdeal.Read

/-- The states, by the chunk's number. -/
def S (p l : ℕ → ℕ → ℝ) (n : ℕ) (h : Fin 4) : Mat 256 128 :=
  if hn : n < 68 then st p l h ⟨n, hn⟩ else 0

theorem S_at (p l : ℕ → ℕ → ℝ) (n : Fin 68) (h : Fin 4) : S p l n.val h = st p l h n := by
  unfold S
  rw [dif_pos n.isLt]

variable {m : (ℓ : Loc nD τ sig) → Buf (Elt Ideal) ℓ} {c : Dev nD} {p l g : ℕ → ℕ → ℝ}

/-- The arrays being reals where they are read, so is all the kernel reads. -/
theorem holds (H : Reals (m ((c : Thread nD τ).loc main_arg0)) (m ((c : Thread nD τ).loc main_arg1))
    (m ((c : Thread nD τ).loc main_arg2)) p l g) : Holds m c p l g (S p l) where
  hp := H.hp
  hl := H.hl
  hg := H.hg
  hS n h e d := by
    rw [states, S_at]
    refine Eq.trans ?_ (Cert.ReferenceIdeal.Gla.v46 H n h d e)
    pointwise []

section

variable {x0 : (⟨Cert.ReferenceIdeal.S4352x8192, .bf16⟩ : BufTy).Contents (Elt Ideal)}
  {x1 : (⟨Cert.ReferenceIdeal.S4352x1024, .f32⟩ : BufTy).Contents (Elt Ideal)}
  {x2 : (⟨Cert.ReferenceIdeal.S4352x1024, .bf16⟩ : BufTy).Contents (Elt Ideal)} (H : Reals x0 x1 x2 p l g)

/-- A `[4352, 512]` array read chunk by chunk and head by head. -/
theorem toK (T : ℕ → Fin 4 → Mat 64 128) (y : Cert.ReferenceIdeal.S68x64x4x128.Idx → EReal)
    (hy : ∀ (n : Fin 68) (t : Fin 64) (h : Fin 4) (d : Fin 128), y (ix4 n t h d) = (T n h t d : ℝ))
    (i : S4352x512.Idx) (k : Cert.ReferenceIdeal.S68x64x4x128.Idx)
    (h0 : (k 0).val = ((i 0).val * 512 + (i 1).val) / 32768) (h1 : (k 1).val = ((i 0).val * 512 + (i 1).val) / 512 % 64)
    (h2 : (k 2).val = ((i 0).val * 512 + (i 1).val) / 128 % 4) (h3 : (k 3).val = ((i 0).val * 512 + (i 1).val) % 128) :
    y k = arrK T i := by
  have l1 : (i 1).val < 512 := (i 1).isLt
  obtain ⟨n, t, h, d, rfl⟩ : ∃ (n : Fin 68) (t : Fin 64) (h : Fin 4) (d : Fin 128), k = ix4 n t h d :=
    ⟨k 0, k 1, k 2, k 3, by funext a; fin_cases a <;> rfl⟩
  change n.val = _ at h0
  change t.val = _ at h1
  change h.val = _ at h2
  change d.val = _ at h3
  rw [hy]
  unfold arrK
  have e0 : n.val = (i 0).val / 64 := by omega
  have e1 : t = ⟨(i 0).val % 64, Nat.mod_lt _ (by decide)⟩ := Fin.ext (by show t.val = (i 0).val % 64; omega)
  have e2 : h = ⟨(i 1).val / 128, by omega⟩ := Fin.ext (by show h.val = (i 1).val / 128; omega)
  have e3 : d = ⟨(i 1).val % 128, Nat.mod_lt _ (by decide)⟩ := Fin.ext (by show d.val = (i 1).val % 128; omega)
  exact congrArg (fun x : ℝ => (x : EReal)) (by rw [e0, ← e1, ← e2, ← e3])

/-- A `[4352, 1024]` array read chunk by chunk and head by head. -/
theorem toV (T : ℕ → Fin 4 → Mat 64 256) (y : Cert.ReferenceIdeal.S68x64x4x256.Idx → EReal)
    (hy : ∀ (n : Fin 68) (t : Fin 64) (h : Fin 4) (d : Fin 256), y (ix4 n t h d) = (T n h t d : ℝ))
    (i : S4352x1024.Idx) (k : Cert.ReferenceIdeal.S68x64x4x256.Idx)
    (h0 : (k 0).val = ((i 0).val * 1024 + (i 1).val) / 65536) (h1 : (k 1).val = ((i 0).val * 1024 + (i 1).val) / 1024 % 64)
    (h2 : (k 2).val = ((i 0).val * 1024 + (i 1).val) / 256 % 4) (h3 : (k 3).val = ((i 0).val * 1024 + (i 1).val) % 256) :
    y k = arrV T i := by
  have l1 : (i 1).val < 1024 := (i 1).isLt
  obtain ⟨n, t, h, d, rfl⟩ : ∃ (n : Fin 68) (t : Fin 64) (h : Fin 4) (d : Fin 256), k = ix4 n t h d :=
    ⟨k 0, k 1, k 2, k 3, by funext a; fin_cases a <;> rfl⟩
  change n.val = _ at h0
  change t.val = _ at h1
  change h.val = _ at h2
  change d.val = _ at h3
  rw [hy]
  unfold arrV
  have e0 : n.val = (i 0).val / 64 := by omega
  have e1 : t = ⟨(i 0).val % 64, Nat.mod_lt _ (by decide)⟩ := Fin.ext (by show t.val = (i 0).val % 64; omega)
  have e2 : h = ⟨(i 1).val / 256, by omega⟩ := Fin.ext (by show h.val = (i 1).val / 256; omega)
  have e3 : d = ⟨(i 1).val % 256, Nat.mod_lt _ (by decide)⟩ := Fin.ext (by show d.val = (i 1).val % 256; omega)
  exact congrArg (fun x : ℝ => (x : EReal)) (by rw [e0, ← e1, ← e2, ← e3])

include H

theorem ref118 : (val_main_v118 (F := Ideal) x0 x1 x2 : S4352x512.Idx → EReal) = arrK (DQ p l g (S p l)) := by
  funext i
  refine (val_main_v118_apply x0 x1 x2 i).trans (toK _ _ (fun n t h d => ?_) i _ rfl rfl rfl rfl)
  rw [Cert.ReferenceIdeal.Gla.v117 H, DQ, S_at]

theorem ref115 : (val_main_v115 (F := Ideal) x0 x1 x2 : S4352x512.Idx → EReal) = arrK (DK p l g) := by
  funext i
  refine (val_main_v115_apply x0 x1 x2 i).trans (toK _ _ (fun n t h d => ?_) i _ rfl rfl rfl rfl)
  rw [Cert.ReferenceIdeal.Gla.v104 H, DK, R_chunk]

theorem ref114 : (val_main_v114 (F := Ideal) x0 x1 x2 : S4352x1024.Idx → EReal) = arrV (DV p l g) := by
  funext i
  refine (val_main_v114_apply x0 x1 x2 i).trans (toV _ _ (fun n t h d => ?_) i _ rfl rfl rfl rfl)
  rw [Cert.ReferenceIdeal.Gla.v95 H, DV, R_chunk]

theorem ref113 : (val_main_v113 (F := Ideal) x0 x1 x2 : S4352x512.Idx → EReal) = arrK (DL p l g (S p l)) := by
  funext i
  refine (val_main_v113_apply x0 x1 x2 i).trans (toK _ _ (fun n t h d => ?_) i _ rfl rfl rfl rfl)
  rw [Cert.ReferenceIdeal.Gla.v112 H, DL, R_chunk, S_at, dlRef_eq]

end

end Cert.KernelIdeal.Gla

end
-- ==== Proof.Mm.Sum.lean ====
/- Sums a tiled product adds up block by block, and a matrix read at any pair of numbers. -/
module

public import Idealize.ShloMosaic.Lib.Pipeline.Value
public import Idealize.ShloMosaic.Lib.Pipeline.ValueKit
public import Idealize.ShloMosaic.Lib.Pointwise.Index

@[expose] public section

noncomputable section

namespace Cert.Mm

open Idealize.ShloMosaic

/-- A matrix at row `a` and column `b`, zero outside it. -/
def nat2 {R C : ℕ} (A : (⟨2, ![R, C]⟩ : Shape).Idx → EReal) (a b : ℕ) : EReal :=
  if h : a < R ∧ b < C then A (ix2 ⟨a, h.1⟩ ⟨b, h.2⟩) else 0

theorem nat2_pos {R C : ℕ} (A : (⟨2, ![R, C]⟩ : Shape).Idx → EReal) {a b : ℕ} (ha : a < R) (hb : b < C) :
    nat2 A a b = A (ix2 ⟨a, ha⟩ ⟨b, hb⟩) := dif_pos ⟨ha, hb⟩

theorem nat2_idx {R C : ℕ} (A : (⟨2, ![R, C]⟩ : Shape).Idx → EReal) (i : (⟨2, ![R, C]⟩ : Shape).Idx) :
    nat2 A (i 0).val (i 1).val = A i := by
  rw [nat2_pos A (i 0).isLt (i 1).isLt]
  congr 1
  funext a
  match a with
  | ⟨0, _⟩ => rfl
  | ⟨1, _⟩ => rfl

/-- A sum over `n · b` numbers, `b` at a time. -/
theorem sum_blocks {β : Type*} [AddCommMonoid β] (f : ℕ → β) (b : ℕ) : ∀ n : ℕ,
    ∑ s ∈ Finset.range n, ∑ k : Fin b, f (b * s + k.val) = ∑ k : Fin (n * b), f k.val
  | 0 => by rw [Finset.sum_range_zero, ← Finset.sum_range (fun k => f k), Nat.zero_mul, Finset.sum_range_zero]
  | n + 1 => by
    rw [Finset.sum_range_succ, sum_blocks f b n, ← Finset.sum_range (fun k => f k), ← Finset.sum_range (fun k => f k),
      ← Finset.sum_range (fun k => f (b * n + k)), Nat.succ_mul, Finset.sum_range_add, Nat.mul_comm n b]

/-- What is reset at the multiples of `J` and adds `M n` at every point `n` is, at a run's last point, the run's sum. -/
theorem run_sum {ι β : Type*} [AddCommMonoid β] {N : ℕ} (f : (n : ℕ) → n < N → ι → β) (J : ℕ) (M : ℕ → ι → β)
    (h0 : ∀ (n : ℕ) (h : n < N), n % J = 0 → ∀ i, f n h i = M n i)
    (hs : ∀ (n : ℕ) (h : n + 1 < N), ¬(n + 1) % J = 0 →
      ∀ i, f (n + 1) h i = f n (Nat.lt_of_succ_lt h) i + M (n + 1) i) (q : ℕ) : ∀ (j : ℕ) (_ : j < J) (h : J * q + j < N)
      (i : ι), f (J * q + j) h i = ∑ s ∈ Finset.range (j + 1), M (J * q + s) i
  | 0, _, h, i => by
    rw [Finset.sum_range_one]
    exact h0 _ h (by rw [Nat.add_zero, Nat.mul_mod_right]) i
  | j + 1, hj, h, i => by
    have hne : ¬(J * q + j + 1) % J = 0 := by
      rw [Nat.add_assoc, Nat.mul_add_mod, Nat.mod_eq_of_lt hj]; omega
    rw [Finset.sum_range_succ, ← run_sum f J M h0 hs q j (Nat.lt_of_succ_lt hj) (Nat.lt_of_succ_lt h) i]
    exact hs (J * q + j) h hne i

end Cert.Mm

end
-- ==== Proof.Mm.DxMlp2.lean ====
/- The gradient of the squared-ReLU block's hidden layer, as the kernel computes it from the saved activation: the
   product `dy · w2ᵀ` times twice the activation's square root, which is the positive part of the pre-activation. -/
module

public import proofs.«01_k».proof.Proof.Mm.Sum
public import proofs.«01_k».proof.Defs
public import proofs.«01_k».proof.Proof.Gen.Kernel2Ideal.Value
public import proofs.«01_k».proof.Proof.Gen.Reference2Ideal.Read
public import Idealize.ShloMosaic.Lib.Quiescent
public import Idealize.ShloMosaic.Lib.Pipeline.ReadBack
public import Idealize.ShloMosaic.Lib.Tactic
public import Idealize.ShloMosaic.Lib.Claim

@[expose] public section

set_option maxRecDepth 16384

noncomputable section

namespace Cert.Kernel2Ideal.Mm

open Cert.Kernel2Ideal Cert.Kernel2Ideal.Gen Idealize.ShloMosaic Idealize.ShloMosaic.TcCoe Idealize.SL.Sem
open Cert.Mm

theorem hz : (![0, 0] : Fin 2 → Nat) = fun _ => 0 := funext fun a => by fin_cases a <;> rfl

/-- The number two the kernel multiplies by. -/
abbrev two : EReal := Ideal.ofBits .f32 0x40000000#32

/-- The square root of the square of a positive part is the positive part. -/
theorem sqrt_sq (u : EReal) : Ideal.sqrt (max u 0 * max u 0) = max u 0 := by
  induction u with
  | bot => rw [max_eq_right bot_le, zero_mul, show (0 : EReal) = ((0 : ℝ) : EReal) from rfl, Ideal.sqrt_coe]; simp
  | top => rw [max_eq_left le_top, EReal.top_mul_top, Ideal.sqrt_top]
  | coe r =>
    have h0 : (0 : EReal) = ((0 : ℝ) : EReal) := rfl
    rcases le_total r 0 with h | h
    · rw [max_eq_right (EReal.coe_nonpos.mpr h), zero_mul, h0, Ideal.sqrt_coe]; simp
    · rw [max_eq_left (EReal.coe_nonneg.mpr h), ← EReal.coe_mul, Ideal.sqrt_coe, if_neg (not_lt.mpr (mul_self_nonneg _)),
        Real.sqrt_mul_self h]

/-- Twice the positive part where the pre-activation is positive, nothing elsewhere. -/
theorem gate (s u : EReal) : s * (two * max u 0) = if 0 < u then s * (two * max u 0) else 0 := by
  by_cases h : 0 < u
  · rw [if_pos h]
  · rw [if_neg h, max_eq_right (not_lt.mp h), mul_zero, mul_zero]

/-- The block a grid point writes. -/
theorem out_eq {F : FTy → Type} [FloatOps F] (x0 : Vec F S1088x1024 .bf16) (x1 : Vec F S1024x1024 .bf16)
    (x2 : Vec F S1088x1024 .bf16) : out0_3 x0 x1 x2 = k0_pay1 x0 x1 x2 := by
  unfold out0_3
  rw [View.canon_unit_zero hz]
  simp only [View.ld_unit_zero (S := S1088x1024) hz, View.ld_unit_zero (S := S1024x1024) hz]

theorem pay1_apply (x0 : Vec Ideal S1088x1024 .bf16) (x1 : Vec Ideal S1024x1024 .bf16) (x2 : Vec Ideal S1088x1024 .bf16)
    (y : S1088x1024.Idx) :
    (k0_pay1 x0 x1 x2 y : EReal) = (∑ k : Fin 1024, (x0 (ix2 (y 0) k) : EReal) * x1 (ix2 (y 1) k)) *
      (two * Ideal.sqrt (x2 y)) := by
  pointwise [k0_pay1]

section
variable (m : (ℓ : Loc nD τ sig) → Buf (Elt Ideal) ℓ) (c : Dev nD)

abbrev A0 : S4352x1024.Idx → EReal := m ((c : Thread nD τ).loc main_arg0)
abbrev A1 : S1024x4096.Idx → EReal := m ((c : Thread nD τ).loc main_arg1)
abbrev A2 : S4096x1024.Idx → EReal := m ((c : Thread nD τ).loc main_arg2)
abbrev A3 : S4352x1024.Idx → EReal := m ((c : Thread nD τ).loc main_arg3)

/-- The pre-activation. -/
def u (i : S4352x4096.Idx) : EReal := Cert.Reference2Ideal.Read.val_main_v4 (F := Ideal) (A0 m c) (A1 m c) i

/-- The saved activation the host's lines hand the kernel. -/
def act (i : S4352x4096.Idx) : EReal := max (u m c i) 0 * max (u m c i) 0

theorem to_v3 (h₁ h₂ h₃) (v : (⟨S4352x4096, .f32⟩ : BufTy).Contents (Elt Ideal)) :
    (StableHlo.TRef.of main_v3 h₁ h₂ h₃ : StableHlo.TRef sig ⟨S4352x4096, .f32⟩).toBuf v = v := rfl

theorem of_v2 (h₁ h₂ h₃) (v : main_v2.ty.Contents (Elt Ideal)) :
    (StableHlo.TRef.of main_v2 h₁ h₂ h₃ : StableHlo.TRef sig ⟨S4352x4096, .f32⟩).ofBuf v = v := rfl

theorem entry : (Gen.V m c main_v5 : S4352x4096.Idx → EReal) =
    Cert.Reference2Ideal.Read.val_main_v9 (F := Ideal) (A0 m c) (A1 m c) := by
  unfold_abbrev_sides
  simp only [hostOps0, hostOps0_1, hostOps0_2, List.flatten_cons, List.flatten_nil, List.append_nil, List.cons_append,
    List.nil_append]
  after_results
  simp only [StableHlo.TRef.ofBuf_toBuf, id_eq, to_v3, of_v2]
  rfl

open Cert.Reference2Ideal.Read in
theorem v5_apply (x0 : S4352x1024.Idx → EReal) (x1 : S1024x4096.Idx → EReal) (i : S4352x4096.Idx) :
    (val_main_v5 (F := Ideal) x0 x1 i : EReal) = max (val_main_v4 (F := Ideal) x0 x1 i : EReal) 0 := by
  rw [val_main_v5_apply, val_main_call0_v0_apply, val_main_call0_cst_apply]
  generalize val_main_v4 (F := Ideal) x0 x1 i = z
  pointwise []

theorem entry_apply (i : S4352x4096.Idx) : (Gen.V m c main_v5 i : EReal) = act m c i := by
  refine (congrFun (entry m c) i).trans ?_
  rw [Cert.Reference2Ideal.Read.val_main_v9_apply, v5_apply]
  rfl

theorem idx : ∀ t : Fin cfg0.N, win0_0.index t = ![t.val / 4, 0] ∧ win0_1.index t = ![t.val % 4, 0] ∧
    win0_2.index t = ![t.val / 4, t.val % 4] ∧ win0_3.index t = ![t.val / 4, t.val % 4] := by decide +kernel

theorem tlt (t : Fin cfg0.N) : t.val < 16 := lt_of_lt_of_eq t.isLt N_0

theorem iblk0 (t : Fin cfg0.N) (r : Fin 1088) (d : Fin 1024) :
    (iblk m c 0 t (ix2 r d) : EReal) = nat2 (A3 m c) (1088 * (t.val / 4) + r.val) d.val := by
  have := tlt t
  rw [nat2_pos _ (show 1088 * (t.val / 4) + r.val < 4352 by omega) d.isLt]
  blk_ext [iblk, V_main_arg3 m c, idx t]

theorem iblk1 (t : Fin cfg0.N) (r : Fin 1024) (d : Fin 1024) :
    (iblk m c 1 t (ix2 r d) : EReal) = nat2 (A2 m c) (1024 * (t.val % 4) + r.val) d.val := by
  have := tlt t
  rw [nat2_pos _ (show 1024 * (t.val % 4) + r.val < 4096 by omega) d.isLt]
  blk_ext [iblk, V_main_arg2 m c, idx t]

theorem iblk2 (t : Fin cfg0.N) (y : S1088x1024.Idx) :
    (iblk m c 2 t y : EReal) = nat2 (act m c) (1088 * (t.val / 4) + (y 0).val) (1024 * (t.val % 4) + (y 1).val) := by
  have := tlt t
  have l0 : (y 0).val < 1088 := (y 0).isLt
  have l1 : (y 1).val < 1024 := (y 1).isLt
  rw [nat2_pos _ (show 1088 * (t.val / 4) + (y 0).val < 4352 by omega) (show 1024 * (t.val % 4) + (y 1).val < 4096 by omega),
    ← entry_apply]
  blk_ext [iblk, idx t]

/-- The result array at an index. -/
def G (i : S4352x4096.Idx) : EReal :=
  (∑ k : Fin 1024, nat2 (A3 m c) (i 0).val k.val * nat2 (A2 m c) (i 1).val k.val) *
    (two * Ideal.sqrt (nat2 (act m c) (i 0).val (i 1).val))

theorem arr : (dats m 0 c).arrAt 3 cfg0.N = G m c := by
  refine (dats m 0 c).arrAt_eq_of_covers 3 _ (by decide +kernel) fun t hf y => ?_
  have ht := tlt t
  rw [after0_3, out_eq]
  refine (pay1_apply _ _ _ y).trans ?_
  unfold G
  refine congrArg₂ _ (Finset.sum_congr rfl fun k _ => congrArg₂ _ ((iblk0 m c t (y 0) k).trans ?_)
    ((iblk1 m c t (y 1) k).trans ?_)) (congrArg _ (congrArg _ ((iblk2 m c t y).trans ?_)))
  · congr 1
    blk_simp [idx t]
    omega
  · congr 1
    blk_simp [idx t]
    omega
  · congr 1
    · blk_simp [idx t]
      omega
    · blk_simp [idx t]
      omega

end

open Cert.Reference2Ideal.Read in
/-- The reference's result at an index. -/
theorem ref (x0 : S4352x1024.Idx → EReal) (x1 : S1024x4096.Idx → EReal) (x2 : S4096x1024.Idx → EReal)
    (x3 : S4352x1024.Idx → EReal) (i : S4352x4096.Idx) :
    (val_main_v17 (F := Ideal) x0 x1 x2 x3 i : EReal) =
      if 0 < (val_main_v4 (F := Ideal) x0 x1 i : EReal) then
        (∑ k : Fin 1024, nat2 x3 (i 0).val k.val * nat2 x2 (i 1).val k.val) *
          (two * max (val_main_v4 (F := Ideal) x0 x1 i : EReal) 0)
      else 0 := by
  have h13 : (val_main_v13 (F := Ideal) x2 x3 i : EReal) =
      ∑ k : Fin 1024, nat2 x3 (i 0).val k.val * nat2 x2 (i 1).val k.val :=
    (val_main_v13_apply x2 x3 i).trans (Finset.sum_congr rfl fun k _ =>
      congrArg₂ _ (nat2_idx x3 (lidx_main_v13 i k)).symm (nat2_idx x2 (ridx_main_v13 i k)).symm)
  rw [val_main_v17_apply, val_main_v16_apply, val_main_v14_apply, val_main_v7_apply, val_main_v15_apply,
    val_main_cst_2_apply, val_main_v6_apply, val_main_cst_apply, val_main_v11_apply, v5_apply, val_main_v10_apply,
    val_main_cst_1_apply, h13]
  generalize val_main_v4 (F := Ideal) x0 x1 i = z
  generalize (∑ k : Fin 1024, nat2 x3 (i 0).val k.val * nat2 x2 (i 1).val k.val) = s
  pointwise []

theorem frame_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The kernel's gradient is the reference's. -/
theorem algebraic : Cert.algebraic_Kernel2Ideal_Reference2Ideal := by
  intro m g m' g' _ hagree
  refine ⟨fun c => (dats m 0 c).arrAt 3 cfg0.N, Cert.Kernel2Ideal.Value.run_blocks m g, ?_⟩
  refine (θ_run Cert.Reference2Ideal.defs _ _).mono (fun r h c => ?_) (Cert.Reference2Ideal.Value.run (F := Ideal) m' g')
  obtain ⟨e0, e1, e2, e3⟩ := hagree c
  refine ⟨(h c).1.trans ?_, (h c).2⟩
  rw [Cert.Reference2Ideal.Read.val_main_v17_eq, e0, e1, e2, e3]
  refine Eq.trans ?_ (arr m c).symm
  funext i
  refine (ref (A0 m c) (A1 m c) (A2 m c) (A3 m c) i).trans ((gate _ _).symm.trans ?_)
  unfold G
  rw [nat2_idx]
  exact congrArg _ (congrArg _ (sqrt_sq _).symm)

end Cert.Kernel2Ideal.Mm

end
-- ==== Proof.Mm.DwMlp2.lean ====
/- The gradient of the second weight of the squared-ReLU block, as the kernel computes it: the result array's entry
   `(a, b)` is the sum over the rows of `act · dy`. -/
module

public import proofs.«01_k».proof.Proof.Mm.Sum
public import proofs.«01_k».proof.Defs
public import proofs.«01_k».proof.Proof.Gen.Kernel3Ideal.Value
public import proofs.«01_k».proof.Proof.Gen.Reference3Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel3Ideal.Mm

open Cert.Kernel3Ideal Cert.Kernel3Ideal.Gen Idealize.ShloMosaic Idealize.ShloMosaic.TcCoe Idealize.SL.Sem
open Cert.Mm

theorem hz : (![0, 0] : Fin 2 → Nat) = fun _ => 0 := funext fun a => by fin_cases a <;> rfl

section
variable {F : FTy → Type} [FloatOps F]
variable (c : Dev nD) (i : grid0.Coords) (a3 : Memref sig .tc .vmem S1088x1024 .bf16) (h3 : a3.IsWhole)
  (a4 : Memref sig .tc .vmem S1088x1024 .bf16) (h4 : a4.IsWhole) (a5 : Memref sig .tc .vmem S1024x1024 .bf16)
  (h5 : a5.IsWhole) (a6 : Memref sig .tc .vmem S1024x1024 .f32) (h6 : a6.IsWhole)
  (x0 : Vec F S1088x1024 .bf16) (x1 : Vec F S1088x1024 .bf16) (xs : Vec F S1024x1024 .f32)

/-- The first point of a run stores its product. -/
theorem sout_A (c0 : cond0_0 i) (c1 : ¬cond0_1 i) (c2 : ¬cond0_2 i) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero hz]
  unfold k0_pay2
  simp only [View.readAt_eq_ld, h3.read_unread, h4.read_unread, View.ld_unit_zero (S := S1088x1024) hz, shapeCast_self]

/-- A later point adds its product, … -/
theorem sout_B (c0 : ¬cond0_0 i) (c1 : cond0_1 i) (c2 : ¬cond0_2 i) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero hz]
  unfold k0_pay3
  simp only [View.readAt_eq_ld, h3.read_unread, h4.read_unread, h6.read_unread, View.ld_unit_zero (S := S1088x1024) hz,
    View.ld_unit_zero (S := S1024x1024) hz, shapeCast_self]

/-- … the last one too, … -/
theorem sout_C (c0 : ¬cond0_0 i) (c1 : cond0_1 i) (c2 : cond0_2 i) :
    sout0_C_0 c i a3 h3 a4 h4 a5 h5 a6 h6 c0 c1 c2 x0 x1 xs = addf xs (k0_pay1 x0 x1) := by
  unfold sout0_C_0
  rw [View.read_writes_eq_canon _ _ _ (scover0_C_0 c i a3 h3 a4 h4 a5 h5 a6 h6 c0 c1 c2 x0 x1 xs)]
  unfold kernelRun0_C
  dsimp only
  sl_unfold_words
  rw [View.canon_unit_zero hz]
  unfold k0_pay3
  simp only [View.readAt_eq_ld, h3.read_unread, h4.read_unread, h6.read_unread, View.ld_unit_zero (S := S1088x1024) hz,
    View.ld_unit_zero (S := S1024x1024) hz, shapeCast_self]

/-- … which writes the sum, rounded, to the output block. -/
theorem out_C (c0 : ¬cond0_0 i) (c1 : cond0_1 i) (c2 : cond0_2 i) :
    out0_C_2 c i a3 h3 a4 h4 a5 h5 a6 h6 c0 c1 c2 x0 x1 xs = k0_pay4 (addf xs (k0_pay1 x0 x1)) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S1088x1024) hz,
    View.ld_unit_zero (S := S1024x1024) hz, shapeCast_self]

end

/-- A point's product at an index. -/
theorem pay1_apply (x0 x1 : Vec Ideal S1088x1024 .bf16) (y : S1024x1024.Idx) :
    (k0_pay1 x0 x1 y : EReal) = ∑ k : Fin 1088, (x0 (ix2 k (y 0)) : EReal) * x1 (ix2 k (y 1)) := by
  pointwise [k0_pay1]

/-! ## The staged blocks, and the fold over a run -/

section
variable (m : (ℓ : Loc nD τ sig) → Buf (Elt Ideal) ℓ) (c : Dev nD)

/-- The two arguments. -/
abbrev A : S4352x4096.Idx → EReal := m ((c : Thread nD τ).loc main_arg0)
abbrev B : S4352x1024.Idx → EReal := m ((c : Thread nD τ).loc main_arg1)

theorem idx : ∀ t : Fin cfg0.N, win0_0.index t = ![t.val % 4, t.val / 4] ∧ win0_1.index t = ![t.val % 4, 0] ∧
    win0_2.index t = ![t.val / 4, 0] := by decide +kernel

theorem tlt (t : Fin cfg0.N) : t.val < 16 := lt_of_lt_of_eq t.isLt N_0

theorem iblk0 (t : Fin cfg0.N) (r : Fin 1088) (d : Fin 1024) :
    (iblk m c 0 t (ix2 r d) : EReal) = nat2 (A m c) (1088 * (t.val % 4) + r.val) (1024 * (t.val / 4) + d.val) := by
  have := tlt t
  rw [nat2_pos _ (show 1088 * (t.val % 4) + r.val < 4352 by omega) (show 1024 * (t.val / 4) + d.val < 4096 by omega)]
  blk_ext [iblk, Gen.V, idx t]

theorem iblk1 (t : Fin cfg0.N) (r : Fin 1088) (d : Fin 1024) :
    (iblk m c 1 t (ix2 r d) : EReal) = nat2 (B m c) (1088 * (t.val % 4) + r.val) d.val := by
  have := tlt t
  rw [nat2_pos _ (show 1088 * (t.val % 4) + r.val < 4352 by omega) d.isLt]
  blk_ext [iblk, Gen.V, idx t]

/-- Point `n`'s product at an index of the block. -/
def M (n : ℕ) (y : S1024x1024.Idx) : EReal :=
  ∑ k : Fin 1088, nat2 (A m c) (1088 * (n % 4) + k.val) (1024 * (n / 4) + (y 0).val) *
    nat2 (B m c) (1088 * (n % 4) + k.val) (y 1).val

theorem pay1_M (t : Fin cfg0.N) (y : S1024x1024.Idx) : (k0_pay1 (iblk m c 0 t) (iblk m c 1 t) y : EReal) = M m c t.val y := by
  rw [pay1_apply]
  unfold M
  exact Finset.sum_congr rfl fun k _ => congrArg₂ _ (iblk0 m c t k (y 0)) (iblk1 m c t k (y 1))

/-- What the scratch holds after a point. -/
theorem scratch (q j : ℕ) (hj : j < 4) (h : 4 * q + j < cfg0.N) (y : S1024x1024.Idx) :
    ((outsAt0 m c (4 * q + j) h).2 y : EReal) = ∑ s ∈ Finset.range (j + 1), M m c (4 * q + s) y := by
  refine run_sum (ι := S1024x1024.Idx) (β := EReal) (fun n h => (outsAt0 m c n h).2) 4 (M m c) ?_ ?_ q j hj h y
  · intro n h hn i
    have e := outsAt0_A m c ⟨n, h⟩ hn (by dsimp only; omega) (by dsimp only; omega)
    dsimp only at e ⊢
    rw [e]
    dsimp only
    rw [sout_A]
    exact pay1_M m c ⟨n, h⟩ i
  · intro n h hn i
    by_cases h2 : (n + 1) % 4 = 3
    · have e := outsAt0_C m c ⟨n + 1, h⟩ hn (by dsimp only; omega) h2
      dsimp only at e ⊢
      rw [e]
      dsimp only
      rw [sout_C]
      exact congrArg _ (pay1_M m c ⟨n + 1, h⟩ i)
    · have e := outsAt0_B m c ⟨n + 1, h⟩ hn (by dsimp only; omega) h2
      dsimp only at e ⊢
      rw [e]
      dsimp only
      rw [sout_B]
      exact congrArg _ (pay1_M m c ⟨n + 1, h⟩ i)

/-- The result array at an index. -/
theorem arr : (dats m 0 c).arrAt 2 cfg0.N = fun i : S4096x1024.Idx =>
    ∑ k : Fin 4352, nat2 (A m c) k.val (i 0).val * nat2 (B m c) k.val (i 1).val := by
  refine (dats m 0 c).arrAt_eq_of_covers 2 _ (by decide +kernel) fun t hf y => ?_
  have ht := tlt t
  have hm : t.val % 4 = 3 := by have := (flush0_2 t).mp hf; omega
  rw [after0_2]
  have e := outsAt0_C m c t (by omega) (by omega) hm
  have e2 := congrArg Prod.snd e
  dsimp only at e2
  rw [sout_C] at e2
  rw [e]
  dsimp only
  rw [out_C, ← e2]
  have hs := scratch m c (t.val / 4) 3 (by decide) (by have := t.isLt; omega) y
  have et : 4 * (t.val / 4) + 3 = t.val := by omega
  simp only [et] at hs
  refine (show _ = ((outsAt0 m c t.val t.isLt).2 y : EReal) from rfl).trans (hs.trans ?_)
  have hsum := sum_blocks (fun k => nat2 (A m c) k (1024 * (t.val / 4) + (y 0).val) * nat2 (B m c) k (y 1).val) 1088 4
  refine (Finset.sum_congr rfl fun s hs => ?_).trans (hsum.trans ?_)
  · have hs4 : s < 4 := Finset.mem_range.mp hs
    unfold M
    rw [show (4 * (t.val / 4) + s) % 4 = s by omega, show (4 * (t.val / 4) + s) / 4 = t.val / 4 by omega]
  · refine Finset.sum_congr rfl fun k _ => ?_
    congr 2
    · blk_simp [idx t]
      omega
    · blk_simp [idx t]

end

open Cert.Reference3Ideal.Read in
/-- The reference's result at an index is the same sum. -/
theorem ref (x0 : S4352x4096.Idx → EReal) (x1 : S4352x1024.Idx → EReal) :
    (val_main_v6 (F := Ideal) x0 x1 : S4096x1024.Idx → EReal) = fun i =>
      ∑ k : Fin 4352, nat2 x0 k.val (i 0).val * nat2 x1 k.val (i 1).val := by
  funext i
  rw [val_main_v6_apply, val_main_v5_apply]
  refine (val_main_v4_apply x0 x1 _).trans (Finset.sum_congr rfl fun k _ => ?_)
  rw [mul_comm]
  exact congrArg₂ _ (nat2_idx x0 (ridx_main_v4 (idx_main_v5 i) k)).symm (nat2_idx x1 (lidx_main_v4 (idx_main_v5 i) k)).symm

theorem frame_reference : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The kernel's gradient is the reference's. -/
theorem algebraic : Cert.algebraic_Kernel3Ideal_Reference3Ideal := by
  intro m g m' g' _ hagree
  refine ⟨fun c => (dats m 0 c).arrAt 2 cfg0.N, Cert.Kernel3Ideal.Value.run_blocks m g, ?_⟩
  refine (θ_run Cert.Reference3Ideal.defs _ _).mono (fun r h c => ?_) (Cert.Reference3Ideal.Value.run (F := Ideal) m' g')
  obtain ⟨e0, e1⟩ := hagree c
  refine ⟨(h c).1.trans ?_, (h c).2⟩
  rw [Cert.Reference3Ideal.Read.val_main_v6_eq, e0, e1]
  exact (ref _ _).trans (arr m c).symm

end Cert.Kernel3Ideal.Mm

end
-- ==== Proof.Mm.DxMlp1.lean ====
/- The gradient of the squared-ReLU block's input, as the kernel computes it: `du · w1ᵀ`, four blocks of columns of
   `du` at a time. -/
module

public import proofs.«01_k».proof.Proof.Mm.Sum
public import proofs.«01_k».proof.Defs
public import proofs.«01_k».proof.Proof.Gen.Kernel4Ideal.Value
public import proofs.«01_k».proof.Proof.Gen.Reference4Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel4Ideal.Mm

open Cert.Kernel4Ideal Cert.Kernel4Ideal.Gen Idealize.ShloMosaic Idealize.ShloMosaic.TcCoe Idealize.SL.Sem
open Cert.Mm

theorem hz : (![0, 0] : Fin 2 → Nat) = fun _ => 0 := funext fun a => by fin_cases a <;> rfl

section
variable {F : FTy → Type} [FloatOps F]
variable (c : Dev nD) (i : grid0.Coords) (a3 : Memref sig .tc .vmem S1088x1024 .bf16) (h3 : a3.IsWhole)
  (a4 : Memref sig .tc .vmem S1024x1024 .bf16) (h4 : a4.IsWhole) (a5 : Memref sig .tc .vmem S1088x1024 .bf16)
  (h5 : a5.IsWhole) (a6 : Memref sig .tc .vmem S1088x1024 .f32) (h6 : a6.IsWhole)
  (x0 : Vec F S1088x1024 .bf16) (x1 : Vec F S1024x1024 .bf16) (xs : Vec F S1088x1024 .f32)

/-- The first point of a run stores its product. -/
theorem sout_A (c0 : cond0_0 i) (c1 : ¬cond0_1 i) (c2 : ¬cond0_2 i) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero hz]
  unfold k0_pay2
  simp only [View.readAt_eq_ld, h3.read_unread, h4.read_unread, View.ld_unit_zero (S := S1088x1024) hz, View.ld_unit_zero (S := S1024x1024) hz,
    shapeCast_self]

/-- A later point adds its product, … -/
theorem sout_B (c0 : ¬cond0_0 i) (c1 : cond0_1 i) (c2 : ¬cond0_2 i) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero hz]
  unfold k0_pay3
  simp only [View.readAt_eq_ld, h3.read_unread, h4.read_unread, h6.read_unread, View.ld_unit_zero (S := S1088x1024) hz, View.ld_unit_zero (S := S1024x1024) hz,
    shapeCast_self]

/-- … the last one too, … -/
theorem sout_C (c0 : ¬cond0_0 i) (c1 : cond0_1 i) (c2 : cond0_2 i) :
    sout0_C_0 c i a3 h3 a4 h4 a5 h5 a6 h6 c0 c1 c2 x0 x1 xs = addf xs (k0_pay1 x0 x1) := by
  unfold sout0_C_0
  rw [View.read_writes_eq_canon _ _ _ (scover0_C_0 c i a3 h3 a4 h4 a5 h5 a6 h6 c0 c1 c2 x0 x1 xs)]
  unfold kernelRun0_C
  dsimp only
  sl_unfold_words
  rw [View.canon_unit_zero hz]
  unfold k0_pay3
  simp only [View.readAt_eq_ld, h3.read_unread, h4.read_unread, h6.read_unread, View.ld_unit_zero (S := S1088x1024) hz, View.ld_unit_zero (S := S1024x1024) hz,
    shapeCast_self]

/-- … which writes the sum, rounded, to the output block. -/
theorem out_C (c0 : ¬cond0_0 i) (c1 : cond0_1 i) (c2 : cond0_2 i) :
    out0_C_2 c i a3 h3 a4 h4 a5 h5 a6 h6 c0 c1 c2 x0 x1 xs = k0_pay4 (addf xs (k0_pay1 x0 x1)) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz, View.readCov_unit_zero (S := S1088x1024) _ hz]
  unfold k0_pay3
  simp only [View.readAt_eq_ld, h3.read_unread, h4.read_unread, h6.read_unread, View.ld_unit_zero (S := S1088x1024) hz, View.ld_unit_zero (S := S1024x1024) hz,
    shapeCast_self]

end

/-- A point's product at an index. -/
theorem pay1_apply (x0 : Vec Ideal S1088x1024 .bf16) (x1 : Vec Ideal S1024x1024 .bf16) (y : S1088x1024.Idx) :
    (k0_pay1 x0 x1 y : EReal) = ∑ k : Fin 1024, (x0 (ix2 (y 0) k) : EReal) * x1 (ix2 (y 1) k) := by
  pointwise [k0_pay1]

/-! ## The staged blocks, and the fold over a run -/

section
variable (m : (ℓ : Loc nD τ sig) → Buf (Elt Ideal) ℓ) (c : Dev nD)

/-- The two factors. -/
abbrev A : S4352x4096.Idx → EReal := m ((c : Thread nD τ).loc main_arg1)
abbrev B : S1024x4096.Idx → EReal := m ((c : Thread nD τ).loc main_arg0)

theorem idx : ∀ t : Fin cfg0.N, win0_0.index t = ![t.val / 4, t.val % 4] ∧ win0_1.index t = ![0, t.val % 4] ∧
    win0_2.index t = ![t.val / 4, 0] := by decide +kernel

theorem tlt (t : Fin cfg0.N) : t.val < 16 := lt_of_lt_of_eq t.isLt N_0

theorem iblk0 (t : Fin cfg0.N) (r : Fin 1088) (d : Fin 1024) :
    (iblk m c 0 t (ix2 r d) : EReal) = nat2 (A m c) (1088 * (t.val / 4) + r.val) (1024 * (t.val % 4) + d.val) := by
  have := tlt t
  rw [nat2_pos _ (show 1088 * (t.val / 4) + r.val < 4352 by omega) (show 1024 * (t.val % 4) + d.val < 4096 by omega)]
  blk_ext [iblk, Gen.V, idx t]

theorem iblk1 (t : Fin cfg0.N) (r : Fin 1024) (d : Fin 1024) :
    (iblk m c 1 t (ix2 r d) : EReal) = nat2 (B m c) r.val (1024 * (t.val % 4) + d.val) := by
  have := tlt t
  rw [nat2_pos _ r.isLt (show 1024 * (t.val % 4) + d.val < 4096 by omega)]
  blk_ext [iblk, Gen.V, idx t]

/-- Point `n`'s product at an index of the block. -/
def M (n : ℕ) (y : S1088x1024.Idx) : EReal :=
  ∑ k : Fin 1024, nat2 (A m c) (1088 * (n / 4) + (y 0).val) (1024 * (n % 4) + k.val) *
    nat2 (B m c) ((y 1).val) (1024 * (n % 4) + k.val)

theorem pay1_M (t : Fin cfg0.N) (y : S1088x1024.Idx) : (k0_pay1 (iblk m c 0 t) (iblk m c 1 t) y : EReal) = M m c t.val y := by
  rw [pay1_apply]
  unfold M
  exact Finset.sum_congr rfl fun k _ => congrArg₂ _ (iblk0 m c t (y 0) k) (iblk1 m c t (y 1) k)

/-- What the scratch holds after a point. -/
theorem scratch (q j : ℕ) (hj : j < 4) (h : 4 * q + j < cfg0.N) (y : S1088x1024.Idx) :
    ((outsAt0 m c (4 * q + j) h).2 y : EReal) = ∑ s ∈ Finset.range (j + 1), M m c (4 * q + s) y := by
  refine run_sum (ι := S1088x1024.Idx) (β := EReal) (fun n h => (outsAt0 m c n h).2) 4 (M m c) ?_ ?_ q j hj h y
  · intro n h hn i
    have hb := tlt ⟨n, h⟩
    have e := outsAt0_A m c ⟨n, h⟩ hn (by dsimp only at hb ⊢; omega) (by dsimp only; omega)
    dsimp only at e ⊢
    rw [e]
    dsimp only
    rw [sout_A]
    exact pay1_M m c ⟨n, h⟩ i
  · intro n h hn i
    by_cases h2 : (n + 1) % 4 = 3
    · have e := outsAt0_C m c ⟨n + 1, h⟩ hn (by dsimp only; omega) h2
      dsimp only at e ⊢
      rw [e]
      dsimp only
      rw [sout_C]
      exact congrArg _ (pay1_M m c ⟨n + 1, h⟩ i)
    · have e := outsAt0_B m c ⟨n + 1, h⟩ hn (by dsimp only; omega) h2
      dsimp only at e ⊢
      rw [e]
      dsimp only
      rw [sout_B]
      exact congrArg _ (pay1_M m c ⟨n + 1, h⟩ i)

/-- The result array at an index. -/
theorem arr : (dats m 0 c).arrAt 2 cfg0.N = fun i : S4352x1024.Idx =>
    ∑ k : Fin 4096, nat2 (A m c) ((i 0).val) k.val * nat2 (B m c) ((i 1).val) k.val := by
  refine (dats m 0 c).arrAt_eq_of_covers 2 _ (by decide +kernel) fun t hf y => ?_
  have ht := tlt t
  have hm : t.val % 4 = 3 := by have := (flush0_2 t).mp hf; omega
  rw [after0_2]
  have e := outsAt0_C m c t (by omega) (by omega) hm
  have e2 := congrArg Prod.snd e
  dsimp only at e2
  rw [sout_C] at e2
  rw [e]
  dsimp only
  rw [out_C, ← e2]
  have hs := scratch m c (t.val / 4) 3 (by decide) (by have := t.isLt; omega) y
  have et : 4 * (t.val / 4) + 3 = t.val := by omega
  simp only [et] at hs
  refine (show _ = ((outsAt0 m c t.val t.isLt).2 y : EReal) from rfl).trans (hs.trans ?_)
  have hsum := sum_blocks (fun k => nat2 (A m c) (1088 * (t.val / 4) + (y 0).val) k *
    nat2 (B m c) ((y 1).val) k) 1024 4
  refine (Finset.sum_congr rfl fun s hs => ?_).trans (hsum.trans ?_)
  · have hs4 : s < 4 := Finset.mem_range.mp hs
    unfold M
    rw [show (4 * (t.val / 4) + s) % 4 = s by omega, show (4 * (t.val / 4) + s) / 4 = t.val / 4 by omega]
  · refine Finset.sum_congr rfl fun k _ => ?_
    congr 2 <;> blk_simp [idx t] <;> omega

end

open Cert.Reference4Ideal.Read in
/-- The reference's result at an index is the same. -/
theorem ref (x0 : S1024x4096.Idx → EReal) (x1 : S4352x4096.Idx → EReal) :
    (val_main_v5 (F := Ideal) x0 x1 : S4352x1024.Idx → EReal) = fun i =>
      ∑ k : Fin 4096, nat2 x1 ((i 0).val) k.val * nat2 x0 ((i 1).val) k.val := by
  funext i
  rw [val_main_v5_apply]
  refine (val_main_v4_apply x0 x1 _).trans (Finset.sum_congr rfl fun k _ => ?_)
  exact congrArg₂ _ (nat2_idx x1 (lidx_main_v4 i k)).symm
    (nat2_idx x0 (ridx_main_v4 i k)).symm

theorem frame_reference : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The kernel's gradient is the reference's. -/
theorem algebraic : Cert.algebraic_Kernel4Ideal_Reference4Ideal := by
  intro m g m' g' _ hagree
  refine ⟨fun c => (dats m 0 c).arrAt 2 cfg0.N, Cert.Kernel4Ideal.Value.run_blocks m g, ?_⟩
  refine (θ_run Cert.Reference4Ideal.defs _ _).mono (fun r h c => ?_) (Cert.Reference4Ideal.Value.run (F := Ideal) m' g')
  obtain ⟨e0, e1⟩ := hagree c
  refine ⟨(h c).1.trans ?_, (h c).2⟩
  rw [Cert.Reference4Ideal.Read.val_main_v5_eq, e0, e1]
  exact (ref _ _).trans (arr m c).symm

end Cert.Kernel4Ideal.Mm

end
-- ==== Proof.Mm.DwMlp1.lean ====
/- The gradient of the first weight of the squared-ReLU block, as the kernel computes it: `hᵀ · du`, four blocks of
   rows at a time. -/
module

public import proofs.«01_k».proof.Proof.Mm.Sum
public import proofs.«01_k».proof.Defs
public import proofs.«01_k».proof.Proof.Gen.Kernel5Ideal.Value
public import proofs.«01_k».proof.Proof.Gen.Reference5Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel5Ideal.Mm

open Cert.Kernel5Ideal Cert.Kernel5Ideal.Gen Idealize.ShloMosaic Idealize.ShloMosaic.TcCoe Idealize.SL.Sem
open Cert.Mm

theorem hz : (![0, 0] : Fin 2 → Nat) = fun _ => 0 := funext fun a => by fin_cases a <;> rfl

section
variable {F : FTy → Type} [FloatOps F]
variable (c : Dev nD) (i : grid0.Coords) (a3 : Memref sig .tc .vmem S1088x1024 .bf16) (h3 : a3.IsWhole)
  (a4 : Memref sig .tc .vmem S1088x1024 .bf16) (h4 : a4.IsWhole) (a5 : Memref sig .tc .vmem S1024x1024 .bf16)
  (h5 : a5.IsWhole) (a6 : Memref sig .tc .vmem S1024x1024 .f32) (h6 : a6.IsWhole)
  (x0 : Vec F S1088x1024 .bf16) (x1 : Vec F S1088x1024 .bf16) (xs : Vec F S1024x1024 .f32)

/-- The first point of a run stores its product. -/
theorem sout_A (c0 : cond0_0 i) (c1 : ¬cond0_1 i) (c2 : ¬cond0_2 i) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero hz]
  unfold k0_pay2
  simp only [View.readAt_eq_ld, h3.read_unread, h4.read_unread, View.ld_unit_zero (S := S1088x1024) hz,
    shapeCast_self]

/-- A later point adds its product, … -/
theorem sout_B (c0 : ¬cond0_0 i) (c1 : cond0_1 i) (c2 : ¬cond0_2 i) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero hz]
  unfold k0_pay3
  simp only [View.readAt_eq_ld, h3.read_unread, h4.read_unread, h6.read_unread, View.ld_unit_zero (S := S1088x1024) hz, View.ld_unit_zero (S := S1024x1024) hz,
    shapeCast_self]

/-- … the last one too, … -/
theorem sout_C (c0 : ¬cond0_0 i) (c1 : cond0_1 i) (c2 : cond0_2 i) :
    sout0_C_0 c i a3 h3 a4 h4 a5 h5 a6 h6 c0 c1 c2 x0 x1 xs = addf xs (k0_pay1 x0 x1) := by
  unfold sout0_C_0
  rw [View.read_writes_eq_canon _ _ _ (scover0_C_0 c i a3 h3 a4 h4 a5 h5 a6 h6 c0 c1 c2 x0 x1 xs)]
  unfold kernelRun0_C
  dsimp only
  sl_unfold_words
  rw [View.canon_unit_zero hz]
  unfold k0_pay3
  simp only [View.readAt_eq_ld, h3.read_unread, h4.read_unread, h6.read_unread, View.ld_unit_zero (S := S1088x1024) hz, View.ld_unit_zero (S := S1024x1024) hz,
    shapeCast_self]

/-- … which writes the sum, rounded, to the output block. -/
theorem out_C (c0 : ¬cond0_0 i) (c1 : cond0_1 i) (c2 : cond0_2 i) :
    out0_C_2 c i a3 h3 a4 h4 a5 h5 a6 h6 c0 c1 c2 x0 x1 xs = k0_pay4 (addf xs (k0_pay1 x0 x1)) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S1088x1024) hz, View.ld_unit_zero (S := S1024x1024) hz,
    shapeCast_self]

end

/-- A point's product at an index. -/
theorem pay1_apply (x0 : Vec Ideal S1088x1024 .bf16) (x1 : Vec Ideal S1088x1024 .bf16) (y : S1024x1024.Idx) :
    (k0_pay1 x0 x1 y : EReal) = ∑ k : Fin 1088, (x0 (ix2 k (y 0)) : EReal) * x1 (ix2 k (y 1)) := by
  pointwise [k0_pay1]

/-! ## The staged blocks, and the fold over a run -/

section
variable (m : (ℓ : Loc nD τ sig) → Buf (Elt Ideal) ℓ) (c : Dev nD)

/-- The two factors. -/
abbrev A : S4352x1024.Idx → EReal := m ((c : Thread nD τ).loc main_arg0)
abbrev B : S4352x4096.Idx → EReal := m ((c : Thread nD τ).loc main_arg1)

theorem idx : ∀ t : Fin cfg0.N, win0_0.index t = ![t.val % 4, 0] ∧ win0_1.index t = ![t.val % 4, t.val / 4] ∧
    win0_2.index t = ![0, t.val / 4] := by decide +kernel

theorem tlt (t : Fin cfg0.N) : t.val < 16 := lt_of_lt_of_eq t.isLt N_0

theorem iblk0 (t : Fin cfg0.N) (r : Fin 1088) (d : Fin 1024) :
    (iblk m c 0 t (ix2 r d) : EReal) = nat2 (A m c) (1088 * (t.val % 4) + r.val) d.val := by
  have := tlt t
  rw [nat2_pos _ (show 1088 * (t.val % 4) + r.val < 4352 by omega) d.isLt]
  blk_ext [iblk, Gen.V, idx t]

theorem iblk1 (t : Fin cfg0.N) (r : Fin 1088) (d : Fin 1024) :
    (iblk m c 1 t (ix2 r d) : EReal) = nat2 (B m c) (1088 * (t.val % 4) + r.val) (1024 * (t.val / 4) + d.val) := by
  have := tlt t
  rw [nat2_pos _ (show 1088 * (t.val % 4) + r.val < 4352 by omega) (show 1024 * (t.val / 4) + d.val < 4096 by omega)]
  blk_ext [iblk, Gen.V, idx t]

/-- Point `n`'s product at an index of the block. -/
def M (n : ℕ) (y : S1024x1024.Idx) : EReal :=
  ∑ k : Fin 1088, nat2 (A m c) (1088 * (n % 4) + k.val) ((y 0).val) *
    nat2 (B m c) (1088 * (n % 4) + k.val) (1024 * (n / 4) + (y 1).val)

theorem pay1_M (t : Fin cfg0.N) (y : S1024x1024.Idx) : (k0_pay1 (iblk m c 0 t) (iblk m c 1 t) y : EReal) = M m c t.val y := by
  rw [pay1_apply]
  unfold M
  exact Finset.sum_congr rfl fun k _ => congrArg₂ _ (iblk0 m c t k (y 0)) (iblk1 m c t k (y 1))

/-- What the scratch holds after a point. -/
theorem scratch (q j : ℕ) (hj : j < 4) (h : 4 * q + j < cfg0.N) (y : S1024x1024.Idx) :
    ((outsAt0 m c (4 * q + j) h).2 y : EReal) = ∑ s ∈ Finset.range (j + 1), M m c (4 * q + s) y := by
  refine run_sum (ι := S1024x1024.Idx) (β := EReal) (fun n h => (outsAt0 m c n h).2) 4 (M m c) ?_ ?_ q j hj h y
  · intro n h hn i
    have hb := tlt ⟨n, h⟩
    have e := outsAt0_A m c ⟨n, h⟩ hn (by dsimp only at hb ⊢; omega) (by dsimp only; omega)
    dsimp only at e ⊢
    rw [e]
    dsimp only
    rw [sout_A]
    exact pay1_M m c ⟨n, h⟩ i
  · intro n h hn i
    by_cases h2 : (n + 1) % 4 = 3
    · have e := outsAt0_C m c ⟨n + 1, h⟩ hn (by dsimp only; omega) h2
      dsimp only at e ⊢
      rw [e]
      dsimp only
      rw [sout_C]
      exact congrArg _ (pay1_M m c ⟨n + 1, h⟩ i)
    · have e := outsAt0_B m c ⟨n + 1, h⟩ hn (by dsimp only; omega) h2
      dsimp only at e ⊢
      rw [e]
      dsimp only
      rw [sout_B]
      exact congrArg _ (pay1_M m c ⟨n + 1, h⟩ i)

/-- The result array at an index. -/
theorem arr : (dats m 0 c).arrAt 2 cfg0.N = fun i : S1024x4096.Idx =>
    ∑ k : Fin 4352, nat2 (A m c) k.val ((i 0).val) * nat2 (B m c) k.val ((i 1).val) := by
  refine (dats m 0 c).arrAt_eq_of_covers 2 _ (by decide +kernel) fun t hf y => ?_
  have ht := tlt t
  have hm : t.val % 4 = 3 := by have := (flush0_2 t).mp hf; omega
  rw [after0_2]
  have e := outsAt0_C m c t (by omega) (by omega) hm
  have e2 := congrArg Prod.snd e
  dsimp only at e2
  rw [sout_C] at e2
  rw [e]
  dsimp only
  rw [out_C, ← e2]
  have hs := scratch m c (t.val / 4) 3 (by decide) (by have := t.isLt; omega) y
  have et : 4 * (t.val / 4) + 3 = t.val := by omega
  simp only [et] at hs
  refine (show _ = ((outsAt0 m c t.val t.isLt).2 y : EReal) from rfl).trans (hs.trans ?_)
  have hsum := sum_blocks (fun k => nat2 (A m c) k ((y 0).val) *
    nat2 (B m c) k (1024 * (t.val / 4) + (y 1).val)) 1088 4
  refine (Finset.sum_congr rfl fun s hs => ?_).trans (hsum.trans ?_)
  · have hs4 : s < 4 := Finset.mem_range.mp hs
    unfold M
    rw [show (4 * (t.val / 4) + s) % 4 = s by omega, show (4 * (t.val / 4) + s) / 4 = t.val / 4 by omega]
  · refine Finset.sum_congr rfl fun k _ => ?_
    congr 2 <;> blk_simp [idx t] <;> omega

end

open Cert.Reference5Ideal.Read in
/-- The reference's result at an index is the same. -/
theorem ref (x0 : S4352x1024.Idx → EReal) (x1 : S4352x4096.Idx → EReal) :
    (val_main_v6 (F := Ideal) x0 x1 : S1024x4096.Idx → EReal) = fun i =>
      ∑ k : Fin 4352, nat2 x0 k.val ((i 0).val) * nat2 x1 k.val ((i 1).val) := by
  funext i
  rw [val_main_v6_apply, val_main_v5_apply]
  refine (val_main_v4_apply x0 x1 _).trans (Finset.sum_congr rfl fun k _ => ?_)
  rw [mul_comm]
  exact congrArg₂ _ (nat2_idx x0 (ridx_main_v4 (idx_main_v5 i) k)).symm
    (nat2_idx x1 (lidx_main_v4 (idx_main_v5 i) k)).symm

theorem frame_reference : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The kernel's gradient is the reference's. -/
theorem algebraic : Cert.algebraic_Kernel5Ideal_Reference5Ideal := by
  intro m g m' g' _ hagree
  refine ⟨fun c => (dats m 0 c).arrAt 2 cfg0.N, Cert.Kernel5Ideal.Value.run_blocks m g, ?_⟩
  refine (θ_run Cert.Reference5Ideal.defs _ _).mono (fun r h c => ?_) (Cert.Reference5Ideal.Value.run (F := Ideal) m' g')
  obtain ⟨e0, e1⟩ := hagree c
  refine ⟨(h c).1.trans ?_, (h c).2⟩
  rw [Cert.Reference5Ideal.Read.val_main_v6_eq, e0, e1]
  exact (ref _ _).trans (arr m c).symm

end Cert.Kernel5Ideal.Mm

end
-- ==== Proof.Mm.DxInProj.lean ====
/- The gradient of the input projection's input, as the kernel computes it: `dp · w`, eight blocks of columns of `dp`
   at a time. -/
module

public import proofs.«01_k».proof.Proof.Mm.Sum
public import proofs.«01_k».proof.Defs
public import proofs.«01_k».proof.Proof.Gen.Kernel6Ideal.Value
public import proofs.«01_k».proof.Proof.Gen.Reference6Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel6Ideal.Mm

open Cert.Kernel6Ideal Cert.Kernel6Ideal.Gen Idealize.ShloMosaic Idealize.ShloMosaic.TcCoe Idealize.SL.Sem
open Cert.Mm

theorem hz : (![0, 0] : Fin 2 → Nat) = fun _ => 0 := funext fun a => by fin_cases a <;> rfl

section
variable {F : FTy → Type} [FloatOps F]
variable (c : Dev nD) (i : grid0.Coords) (a3 : Memref sig .tc .vmem S1088x1024 .bf16) (h3 : a3.IsWhole)
  (a4 : Memref sig .tc .vmem S1024x1024 .bf16) (h4 : a4.IsWhole) (a5 : Memref sig .tc .vmem S1088x1024 .bf16)
  (h5 : a5.IsWhole) (a6 : Memref sig .tc .vmem S1088x1024 .f32) (h6 : a6.IsWhole)
  (x0 : Vec F S1088x1024 .bf16) (x1 : Vec F S1024x1024 .bf16) (xs : Vec F S1088x1024 .f32)

/-- The first point of a run stores its product. -/
theorem sout_A (c0 : cond0_0 i) (c1 : ¬cond0_1 i) (c2 : ¬cond0_2 i) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero hz]
  unfold k0_pay2
  simp only [View.readAt_eq_ld, h3.read_unread, h4.read_unread, View.ld_unit_zero (S := S1088x1024) hz, View.ld_unit_zero (S := S1024x1024) hz,
    shapeCast_self]

/-- A later point adds its product, … -/
theorem sout_B (c0 : ¬cond0_0 i) (c1 : cond0_1 i) (c2 : ¬cond0_2 i) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero hz]
  unfold k0_pay3
  simp only [View.readAt_eq_ld, h3.read_unread, h4.read_unread, h6.read_unread, View.ld_unit_zero (S := S1088x1024) hz, View.ld_unit_zero (S := S1024x1024) hz,
    shapeCast_self]

/-- … the last one too, … -/
theorem sout_C (c0 : ¬cond0_0 i) (c1 : cond0_1 i) (c2 : cond0_2 i) :
    sout0_C_0 c i a3 h3 a4 h4 a5 h5 a6 h6 c0 c1 c2 x0 x1 xs = addf xs (k0_pay1 x0 x1) := by
  unfold sout0_C_0
  rw [View.read_writes_eq_canon _ _ _ (scover0_C_0 c i a3 h3 a4 h4 a5 h5 a6 h6 c0 c1 c2 x0 x1 xs)]
  unfold kernelRun0_C
  dsimp only
  sl_unfold_words
  rw [View.canon_unit_zero hz]
  unfold k0_pay3
  simp only [View.readAt_eq_ld, h3.read_unread, h4.read_unread, h6.read_unread, View.ld_unit_zero (S := S1088x1024) hz, View.ld_unit_zero (S := S1024x1024) hz,
    shapeCast_self]

/-- … which writes the sum, rounded, to the output block. -/
theorem out_C (c0 : ¬cond0_0 i) (c1 : cond0_1 i) (c2 : cond0_2 i) :
    out0_C_2 c i a3 h3 a4 h4 a5 h5 a6 h6 c0 c1 c2 x0 x1 xs = k0_pay4 (addf xs (k0_pay1 x0 x1)) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz, View.readCov_unit_zero (S := S1088x1024) _ hz]
  unfold k0_pay3
  simp only [View.readAt_eq_ld, h3.read_unread, h4.read_unread, h6.read_unread, View.ld_unit_zero (S := S1088x1024) hz, View.ld_unit_zero (S := S1024x1024) hz,
    shapeCast_self]

end

/-- A point's product at an index. -/
theorem pay1_apply (x0 : Vec Ideal S1088x1024 .bf16) (x1 : Vec Ideal S1024x1024 .bf16) (y : S1088x1024.Idx) :
    (k0_pay1 x0 x1 y : EReal) = ∑ k : Fin 1024, (x0 (ix2 (y 0) k) : EReal) * x1 (ix2 k (y 1)) := by
  pointwise [k0_pay1]

/-! ## The staged blocks, and the fold over a run -/

section
variable (m : (ℓ : Loc nD τ sig) → Buf (Elt Ideal) ℓ) (c : Dev nD)

/-- The two factors. -/
abbrev A : S4352x8192.Idx → EReal := m ((c : Thread nD τ).loc main_arg1)
abbrev B : S8192x1024.Idx → EReal := m ((c : Thread nD τ).loc main_arg0)

theorem idx : ∀ t : Fin cfg0.N, win0_0.index t = ![t.val / 8, t.val % 8] ∧ win0_1.index t = ![t.val % 8, 0] ∧
    win0_2.index t = ![t.val / 8, 0] := by decide +kernel

theorem tlt (t : Fin cfg0.N) : t.val < 32 := lt_of_lt_of_eq t.isLt N_0

theorem iblk0 (t : Fin cfg0.N) (r : Fin 1088) (d : Fin 1024) :
    (iblk m c 0 t (ix2 r d) : EReal) = nat2 (A m c) (1088 * (t.val / 8) + r.val) (1024 * (t.val % 8) + d.val) := by
  have := tlt t
  rw [nat2_pos _ (show 1088 * (t.val / 8) + r.val < 4352 by omega) (show 1024 * (t.val % 8) + d.val < 8192 by omega)]
  blk_ext [iblk, Gen.V, idx t]

theorem iblk1 (t : Fin cfg0.N) (r : Fin 1024) (d : Fin 1024) :
    (iblk m c 1 t (ix2 r d) : EReal) = nat2 (B m c) (1024 * (t.val % 8) + r.val) d.val := by
  have := tlt t
  rw [nat2_pos _ (show 1024 * (t.val % 8) + r.val < 8192 by omega) d.isLt]
  blk_ext [iblk, Gen.V, idx t]

/-- Point `n`'s product at an index of the block. -/
def M (n : ℕ) (y : S1088x1024.Idx) : EReal :=
  ∑ k : Fin 1024, nat2 (A m c) (1088 * (n / 8) + (y 0).val) (1024 * (n % 8) + k.val) *
    nat2 (B m c) (1024 * (n % 8) + k.val) ((y 1).val)

theorem pay1_M (t : Fin cfg0.N) (y : S1088x1024.Idx) : (k0_pay1 (iblk m c 0 t) (iblk m c 1 t) y : EReal) = M m c t.val y := by
  rw [pay1_apply]
  unfold M
  exact Finset.sum_congr rfl fun k _ => congrArg₂ _ (iblk0 m c t (y 0) k) (iblk1 m c t k (y 1))

/-- What the scratch holds after a point. -/
theorem scratch (q j : ℕ) (hj : j < 8) (h : 8 * q + j < cfg0.N) (y : S1088x1024.Idx) :
    ((outsAt0 m c (8 * q + j) h).2 y : EReal) = ∑ s ∈ Finset.range (j + 1), M m c (8 * q + s) y := by
  refine run_sum (ι := S1088x1024.Idx) (β := EReal) (fun n h => (outsAt0 m c n h).2) 8 (M m c) ?_ ?_ q j hj h y
  · intro n h hn i
    have hb := tlt ⟨n, h⟩
    have e := outsAt0_A m c ⟨n, h⟩ hn (by dsimp only at hb ⊢; omega) (by dsimp only; omega)
    dsimp only at e ⊢
    rw [e]
    dsimp only
    rw [sout_A]
    exact pay1_M m c ⟨n, h⟩ i
  · intro n h hn i
    by_cases h2 : (n + 1) % 8 = 7
    · have e := outsAt0_C m c ⟨n + 1, h⟩ hn (by dsimp only; omega) h2
      dsimp only at e ⊢
      rw [e]
      dsimp only
      rw [sout_C]
      exact congrArg _ (pay1_M m c ⟨n + 1, h⟩ i)
    · have e := outsAt0_B m c ⟨n + 1, h⟩ hn (by dsimp only; omega) h2
      dsimp only at e ⊢
      rw [e]
      dsimp only
      rw [sout_B]
      exact congrArg _ (pay1_M m c ⟨n + 1, h⟩ i)

/-- The result array at an index. -/
theorem arr : (dats m 0 c).arrAt 2 cfg0.N = fun i : S4352x1024.Idx =>
    ∑ k : Fin 8192, nat2 (A m c) ((i 0).val) k.val * nat2 (B m c) k.val ((i 1).val) := by
  refine (dats m 0 c).arrAt_eq_of_covers 2 _ (by decide +kernel) fun t hf y => ?_
  have ht := tlt t
  have hm : t.val % 8 = 7 := by have := (flush0_2 t).mp hf; omega
  rw [after0_2]
  have e := outsAt0_C m c t (by omega) (by omega) hm
  have e2 := congrArg Prod.snd e
  dsimp only at e2
  rw [sout_C] at e2
  rw [e]
  dsimp only
  rw [out_C, ← e2]
  have hs := scratch m c (t.val / 8) 7 (by decide) (by have := t.isLt; omega) y
  have et : 8 * (t.val / 8) + 7 = t.val := by omega
  simp only [et] at hs
  refine (show _ = ((outsAt0 m c t.val t.isLt).2 y : EReal) from rfl).trans (hs.trans ?_)
  have hsum := sum_blocks (fun k => nat2 (A m c) (1088 * (t.val / 8) + (y 0).val) k *
    nat2 (B m c) k ((y 1).val)) 1024 8
  refine (Finset.sum_congr rfl fun s hs => ?_).trans (hsum.trans ?_)
  · have hs4 : s < 8 := Finset.mem_range.mp hs
    unfold M
    rw [show (8 * (t.val / 8) + s) % 8 = s by omega, show (8 * (t.val / 8) + s) / 8 = t.val / 8 by omega]
  · refine Finset.sum_congr rfl fun k _ => ?_
    congr 2 <;> blk_simp [idx t] <;> omega

end

open Cert.Reference6Ideal.Read in
/-- The reference's result at an index is the same. -/
theorem ref (x0 : S8192x1024.Idx → EReal) (x1 : S4352x8192.Idx → EReal) :
    (val_main_v6 (F := Ideal) x0 x1 : S4352x1024.Idx → EReal) = fun i =>
      ∑ k : Fin 8192, nat2 x1 ((i 0).val) k.val * nat2 x0 k.val ((i 1).val) := by
  funext i
  rw [val_main_v6_apply]
  refine (val_main_v5_apply x0 x1 _).trans (Finset.sum_congr rfl fun k _ => ?_)
  exact congrArg₂ _ (nat2_idx x1 (lidx_main_v5 i k)).symm
    ((val_main_v3_apply (F := Ideal) x0 (ridx_main_v5 i k)).trans (nat2_idx x0 (idx_main_v3 (ridx_main_v5 i k))).symm)

theorem frame_reference : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The kernel's gradient is the reference's. -/
theorem algebraic : Cert.algebraic_Kernel6Ideal_Reference6Ideal := by
  intro m g m' g' _ hagree
  refine ⟨fun c => (dats m 0 c).arrAt 2 cfg0.N, Cert.Kernel6Ideal.Value.run_blocks m g, ?_⟩
  refine (θ_run Cert.Reference6Ideal.defs _ _).mono (fun r h c => ?_) (Cert.Reference6Ideal.Value.run (F := Ideal) m' g')
  obtain ⟨e0, e1⟩ := hagree c
  refine ⟨(h c).1.trans ?_, (h c).2⟩
  rw [Cert.Reference6Ideal.Read.val_main_v6_eq, e0, e1]
  exact (ref _ _).trans (arr m c).symm

end Cert.Kernel6Ideal.Mm

end
-- ==== Proof.Mm.DwInProj.lean ====
/- The gradient of the input projection's weight, as the kernel computes it: `dpᵀ · h`, four blocks of rows at a
   time. -/
module

public import proofs.«01_k».proof.Proof.Mm.Sum
public import proofs.«01_k».proof.Defs
public import proofs.«01_k».proof.Proof.Gen.Kernel7Ideal.Value
public import proofs.«01_k».proof.Proof.Gen.Reference7Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel7Ideal.Mm

open Cert.Kernel7Ideal Cert.Kernel7Ideal.Gen Idealize.ShloMosaic Idealize.ShloMosaic.TcCoe Idealize.SL.Sem
open Cert.Mm

theorem hz : (![0, 0] : Fin 2 → Nat) = fun _ => 0 := funext fun a => by fin_cases a <;> rfl

section
variable {F : FTy → Type} [FloatOps F]
variable (c : Dev nD) (i : grid0.Coords) (a3 : Memref sig .tc .vmem S1088x1024 .bf16) (h3 : a3.IsWhole)
  (a4 : Memref sig .tc .vmem S1088x1024 .bf16) (h4 : a4.IsWhole) (a5 : Memref sig .tc .vmem S1024x1024 .bf16)
  (h5 : a5.IsWhole) (a6 : Memref sig .tc .vmem S1024x1024 .f32) (h6 : a6.IsWhole)
  (x0 : Vec F S1088x1024 .bf16) (x1 : Vec F S1088x1024 .bf16) (xs : Vec F S1024x1024 .f32)

/-- The first point of a run stores its product. -/
theorem sout_A (c0 : cond0_0 i) (c1 : ¬cond0_1 i) (c2 : ¬cond0_2 i) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero hz]
  unfold k0_pay2
  simp only [View.readAt_eq_ld, h3.read_unread, h4.read_unread, View.ld_unit_zero (S := S1088x1024) hz,
    shapeCast_self]

/-- A later point adds its product, … -/
theorem sout_B (c0 : ¬cond0_0 i) (c1 : cond0_1 i) (c2 : ¬cond0_2 i) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero hz]
  unfold k0_pay3
  simp only [View.readAt_eq_ld, h3.read_unread, h4.read_unread, h6.read_unread, View.ld_unit_zero (S := S1088x1024) hz, View.ld_unit_zero (S := S1024x1024) hz,
    shapeCast_self]

/-- … the last one too, … -/
theorem sout_C (c0 : ¬cond0_0 i) (c1 : cond0_1 i) (c2 : cond0_2 i) :
    sout0_C_0 c i a3 h3 a4 h4 a5 h5 a6 h6 c0 c1 c2 x0 x1 xs = addf xs (k0_pay1 x0 x1) := by
  unfold sout0_C_0
  rw [View.read_writes_eq_canon _ _ _ (scover0_C_0 c i a3 h3 a4 h4 a5 h5 a6 h6 c0 c1 c2 x0 x1 xs)]
  unfold kernelRun0_C
  dsimp only
  sl_unfold_words
  rw [View.canon_unit_zero hz]
  unfold k0_pay3
  simp only [View.readAt_eq_ld, h3.read_unread, h4.read_unread, h6.read_unread, View.ld_unit_zero (S := S1088x1024) hz, View.ld_unit_zero (S := S1024x1024) hz,
    shapeCast_self]

/-- … which writes the sum, rounded, to the output block. -/
theorem out_C (c0 : ¬cond0_0 i) (c1 : cond0_1 i) (c2 : cond0_2 i) :
    out0_C_2 c i a3 h3 a4 h4 a5 h5 a6 h6 c0 c1 c2 x0 x1 xs = k0_pay4 (addf xs (k0_pay1 x0 x1)) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S1088x1024) hz, View.ld_unit_zero (S := S1024x1024) hz,
    shapeCast_self]

end

/-- A point's product at an index. -/
theorem pay1_apply (x0 : Vec Ideal S1088x1024 .bf16) (x1 : Vec Ideal S1088x1024 .bf16) (y : S1024x1024.Idx) :
    (k0_pay1 x0 x1 y : EReal) = ∑ k : Fin 1088, (x0 (ix2 k (y 0)) : EReal) * x1 (ix2 k (y 1)) := by
  pointwise [k0_pay1]

/-! ## The staged blocks, and the fold over a run -/

section
variable (m : (ℓ : Loc nD τ sig) → Buf (Elt Ideal) ℓ) (c : Dev nD)

/-- The two factors. -/
abbrev A : S4352x8192.Idx → EReal := m ((c : Thread nD τ).loc main_arg1)
abbrev B : S4352x1024.Idx → EReal := m ((c : Thread nD τ).loc main_arg0)

theorem idx : ∀ t : Fin cfg0.N, win0_0.index t = ![t.val % 4, t.val / 4] ∧ win0_1.index t = ![t.val % 4, 0] ∧
    win0_2.index t = ![t.val / 4, 0] := by decide +kernel

theorem tlt (t : Fin cfg0.N) : t.val < 32 := lt_of_lt_of_eq t.isLt N_0

theorem iblk0 (t : Fin cfg0.N) (r : Fin 1088) (d : Fin 1024) :
    (iblk m c 0 t (ix2 r d) : EReal) = nat2 (A m c) (1088 * (t.val % 4) + r.val) (1024 * (t.val / 4) + d.val) := by
  have := tlt t
  rw [nat2_pos _ (show 1088 * (t.val % 4) + r.val < 4352 by omega) (show 1024 * (t.val / 4) + d.val < 8192 by omega)]
  blk_ext [iblk, Gen.V, idx t]

theorem iblk1 (t : Fin cfg0.N) (r : Fin 1088) (d : Fin 1024) :
    (iblk m c 1 t (ix2 r d) : EReal) = nat2 (B m c) (1088 * (t.val % 4) + r.val) d.val := by
  have := tlt t
  rw [nat2_pos _ (show 1088 * (t.val % 4) + r.val < 4352 by omega) d.isLt]
  blk_ext [iblk, Gen.V, idx t]

/-- Point `n`'s product at an index of the block. -/
def M (n : ℕ) (y : S1024x1024.Idx) : EReal :=
  ∑ k : Fin 1088, nat2 (A m c) (1088 * (n % 4) + k.val) (1024 * (n / 4) + (y 0).val) *
    nat2 (B m c) (1088 * (n % 4) + k.val) ((y 1).val)

theorem pay1_M (t : Fin cfg0.N) (y : S1024x1024.Idx) : (k0_pay1 (iblk m c 0 t) (iblk m c 1 t) y : EReal) = M m c t.val y := by
  rw [pay1_apply]
  unfold M
  exact Finset.sum_congr rfl fun k _ => congrArg₂ _ (iblk0 m c t k (y 0)) (iblk1 m c t k (y 1))

/-- What the scratch holds after a point. -/
theorem scratch (q j : ℕ) (hj : j < 4) (h : 4 * q + j < cfg0.N) (y : S1024x1024.Idx) :
    ((outsAt0 m c (4 * q + j) h).2 y : EReal) = ∑ s ∈ Finset.range (j + 1), M m c (4 * q + s) y := by
  refine run_sum (ι := S1024x1024.Idx) (β := EReal) (fun n h => (outsAt0 m c n h).2) 4 (M m c) ?_ ?_ q j hj h y
  · intro n h hn i
    have hb := tlt ⟨n, h⟩
    have e := outsAt0_A m c ⟨n, h⟩ hn (by dsimp only at hb ⊢; omega) (by dsimp only; omega)
    dsimp only at e ⊢
    rw [e]
    dsimp only
    rw [sout_A]
    exact pay1_M m c ⟨n, h⟩ i
  · intro n h hn i
    by_cases h2 : (n + 1) % 4 = 3
    · have e := outsAt0_C m c ⟨n + 1, h⟩ hn (by dsimp only; omega) h2
      dsimp only at e ⊢
      rw [e]
      dsimp only
      rw [sout_C]
      exact congrArg _ (pay1_M m c ⟨n + 1, h⟩ i)
    · have e := outsAt0_B m c ⟨n + 1, h⟩ hn (by dsimp only; omega) h2
      dsimp only at e ⊢
      rw [e]
      dsimp only
      rw [sout_B]
      exact congrArg _ (pay1_M m c ⟨n + 1, h⟩ i)

/-- The result array at an index. -/
theorem arr : (dats m 0 c).arrAt 2 cfg0.N = fun i : S8192x1024.Idx =>
    ∑ k : Fin 4352, nat2 (A m c) k.val ((i 0).val) * nat2 (B m c) k.val ((i 1).val) := by
  refine (dats m 0 c).arrAt_eq_of_covers 2 _ (by decide +kernel) fun t hf y => ?_
  have ht := tlt t
  have hm : t.val % 4 = 3 := by have := (flush0_2 t).mp hf; omega
  rw [after0_2]
  have e := outsAt0_C m c t (by omega) (by omega) hm
  have e2 := congrArg Prod.snd e
  dsimp only at e2
  rw [sout_C] at e2
  rw [e]
  dsimp only
  rw [out_C, ← e2]
  have hs := scratch m c (t.val / 4) 3 (by decide) (by have := t.isLt; omega) y
  have et : 4 * (t.val / 4) + 3 = t.val := by omega
  simp only [et] at hs
  refine (show _ = ((outsAt0 m c t.val t.isLt).2 y : EReal) from rfl).trans (hs.trans ?_)
  have hsum := sum_blocks (fun k => nat2 (A m c) k (1024 * (t.val / 4) + (y 0).val) *
    nat2 (B m c) k ((y 1).val)) 1088 4
  refine (Finset.sum_congr rfl fun s hs => ?_).trans (hsum.trans ?_)
  · have hs4 : s < 4 := Finset.mem_range.mp hs
    unfold M
    rw [show (4 * (t.val / 4) + s) % 4 = s by omega, show (4 * (t.val / 4) + s) / 4 = t.val / 4 by omega]
  · refine Finset.sum_congr rfl fun k _ => ?_
    congr 2 <;> blk_simp [idx t] <;> omega

end

open Cert.Reference7Ideal.Read in
/-- The reference's result at an index is the same. -/
theorem ref (x0 : S4352x1024.Idx → EReal) (x1 : S4352x8192.Idx → EReal) :
    (val_main_v8 (F := Ideal) x0 x1 : S8192x1024.Idx → EReal) = fun i =>
      ∑ k : Fin 4352, nat2 x1 k.val ((i 0).val) * nat2 x0 k.val ((i 1).val) := by
  funext i
  rw [val_main_v8_apply, val_main_v7_apply, val_main_v6_apply]
  refine (val_main_v5_apply x0 x1 _).trans (Finset.sum_congr rfl fun k _ => ?_)
  exact congrArg₂ _ (nat2_idx x1 (lidx_main_v5 (idx_main_v6 (idx_main_v7 i)) k)).symm
    (nat2_idx x0 (ridx_main_v5 (idx_main_v6 (idx_main_v7 i)) k)).symm

theorem frame_reference : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The kernel's gradient is the reference's. -/
theorem algebraic : Cert.algebraic_Kernel7Ideal_Reference7Ideal := by
  intro m g m' g' _ hagree
  refine ⟨fun c => (dats m 0 c).arrAt 2 cfg0.N, Cert.Kernel7Ideal.Value.run_blocks m g, ?_⟩
  refine (θ_run Cert.Reference7Ideal.defs _ _).mono (fun r h c => ?_) (Cert.Reference7Ideal.Value.run (F := Ideal) m' g')
  obtain ⟨e0, e1⟩ := hagree c
  refine ⟨(h c).1.trans ?_, (h c).2⟩
  rw [Cert.Reference7Ideal.Read.val_main_v8_eq, e0, e1]
  exact (ref _ _).trans (arr m c).symm

end Cert.Kernel7Ideal.Mm

end
-- ==== Proof.Mm.InProj.lean ====
/- The input projection, as the kernel computes it: `h · wᵀ` tile by tile. -/
module

public import proofs.«01_k».proof.Proof.Mm.Sum
public import proofs.«01_k».proof.Defs
public import proofs.«01_k».proof.Proof.Gen.Kernel8Ideal.Value
public import proofs.«01_k».proof.Proof.Gen.Reference8Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel8Ideal.Mm

open Cert.Kernel8Ideal Cert.Kernel8Ideal.Gen Idealize.ShloMosaic Idealize.ShloMosaic.TcCoe Idealize.SL.Sem
open Cert.Mm

theorem hz : (![0, 0] : Fin 2 → Nat) = fun _ => 0 := funext fun a => by fin_cases a <;> rfl

/-- The block a grid point writes. -/
theorem out_eq {F : FTy → Type} [FloatOps F] (x0 : Vec F S1088x1024 .bf16) (x1 : Vec F S1024x1024 .bf16) :
    out0_2 x0 x1 = k0_pay1 x0 x1 := by
  unfold out0_2
  rw [View.canon_unit_zero hz]
  simp only [View.ld_unit_zero (S := S1088x1024) hz, View.ld_unit_zero (S := S1024x1024) hz]

/-- A point's product at an index. -/
theorem pay1_apply (x0 : Vec Ideal S1088x1024 .bf16) (x1 : Vec Ideal S1024x1024 .bf16) (y : S1088x1024.Idx) :
    (k0_pay1 x0 x1 y : EReal) = ∑ k : Fin 1024, (x0 (ix2 (y 0) k) : EReal) * x1 (ix2 (y 1) k) := by
  pointwise [k0_pay1]

/-! ## The staged blocks -/

section
variable (m : (ℓ : Loc nD τ sig) → Buf (Elt Ideal) ℓ) (c : Dev nD)

/-- The two factors. -/
abbrev A : S4352x1024.Idx → EReal := m ((c : Thread nD τ).loc main_arg0)
abbrev B : S8192x1024.Idx → EReal := m ((c : Thread nD τ).loc main_arg1)

theorem idx : ∀ t : Fin cfg0.N, win0_0.index t = ![t.val / 8, 0] ∧ win0_1.index t = ![t.val % 8, 0] ∧
    win0_2.index t = ![t.val / 8, t.val % 8] := by decide +kernel

theorem tlt (t : Fin cfg0.N) : t.val < 32 := lt_of_lt_of_eq t.isLt N_0

theorem iblk0 (t : Fin cfg0.N) (r : Fin 1088) (d : Fin 1024) :
    (iblk m c 0 t (ix2 r d) : EReal) = nat2 (A m c) (1088 * (t.val / 8) + r.val) d.val := by
  have := tlt t
  rw [nat2_pos _ (show 1088 * (t.val / 8) + r.val < 4352 by omega) d.isLt]
  blk_ext [iblk, Gen.V, idx t]

theorem iblk1 (t : Fin cfg0.N) (r : Fin 1024) (d : Fin 1024) :
    (iblk m c 1 t (ix2 r d) : EReal) = nat2 (B m c) (1024 * (t.val % 8) + r.val) d.val := by
  have := tlt t
  rw [nat2_pos _ (show 1024 * (t.val % 8) + r.val < 8192 by omega) d.isLt]
  blk_ext [iblk, Gen.V, idx t]

/-- The result array at an index. -/
theorem arr : (dats m 0 c).arrAt 2 cfg0.N = fun i : S4352x8192.Idx =>
    ∑ k : Fin 1024, nat2 (A m c) ((i 0).val) k.val * nat2 (B m c) ((i 1).val) k.val := by
  refine (dats m 0 c).arrAt_eq_of_covers 2 _ (by decide +kernel) fun t hf y => ?_
  have ht := tlt t
  rw [after0_2, out_eq]
  refine (pay1_apply _ _ y).trans (Finset.sum_congr rfl fun k _ => congrArg₂ _
    ((iblk0 m c t (y 0) k).trans ?_) ((iblk1 m c t (y 1) k).trans ?_))
  all_goals congr 1 <;> blk_simp [idx t] <;> omega

end

open Cert.Reference8Ideal.Read in
/-- The reference's result at an index is the same. -/
theorem ref (x0 : S4352x1024.Idx → EReal) (x1 : S8192x1024.Idx → EReal) :
    (val_main_v4 (F := Ideal) x0 x1 : S4352x8192.Idx → EReal) = fun i =>
      ∑ k : Fin 1024, nat2 x0 ((i 0).val) k.val * nat2 x1 ((i 1).val) k.val := by
  funext i
  rw [val_main_v4_apply]
  refine (val_main_v3_apply x0 x1 _).trans (Finset.sum_congr rfl fun k _ => ?_)
  exact congrArg₂ _ (nat2_idx x0 (lidx_main_v3 i k)).symm
    ((val_main_v2_apply (F := Ideal) x1 (ridx_main_v3 i k)).trans (nat2_idx x1 (idx_main_v2 (ridx_main_v3 i k))).symm)

theorem frame_reference : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The kernel's product is the reference's. -/
theorem algebraic : Cert.algebraic_Kernel8Ideal_Reference8Ideal := by
  intro m g m' g' _ hagree
  refine ⟨fun c => (dats m 0 c).arrAt 2 cfg0.N, Cert.Kernel8Ideal.Value.run_blocks m g, ?_⟩
  refine (θ_run Cert.Reference8Ideal.defs _ _).mono (fun r h c => ?_) (Cert.Reference8Ideal.Value.run (F := Ideal) m' g')
  obtain ⟨e0, e1⟩ := hagree c
  refine ⟨(h c).1.trans ?_, (h c).2⟩
  rw [Cert.Reference8Ideal.Read.val_main_v4_eq, e0, e1]
  exact (ref _ _).trans (arr m c).symm

end Cert.Kernel8Ideal.Mm

end
-- ==== Proof.Mm.Mlp1.lean ====
/- The squared-ReLU block's activation, as the kernel computes it: the square of the positive part of `h · w1`. -/
module

public import proofs.«01_k».proof.Proof.Mm.Sum
public import proofs.«01_k».proof.Defs
public import proofs.«01_k».proof.Proof.Gen.Kernel9Ideal.Value
public import proofs.«01_k».proof.Proof.Gen.Reference9Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel9Ideal.Mm

open Cert.Kernel9Ideal Cert.Kernel9Ideal.Gen Idealize.ShloMosaic Idealize.ShloMosaic.TcCoe Idealize.SL.Sem
open Cert.Mm

theorem hz : (![0, 0] : Fin 2 → Nat) = fun _ => 0 := funext fun a => by fin_cases a <;> rfl

/-- The block a grid point writes. -/
theorem out_eq {F : FTy → Type} [FloatOps F] (x0 : Vec F S1088x1024 .bf16) (x1 : Vec F S1024x1024 .bf16) :
    out0_2 x0 x1 = k0_pay1 x0 x1 := by
  unfold out0_2
  rw [View.canon_unit_zero hz]
  simp only [View.ld_unit_zero (S := S1088x1024) hz, View.ld_unit_zero (S := S1024x1024) hz]

/-- The square of the positive part. -/
def relu2 (x : EReal) : EReal := max x 0 * max x 0

/-- A point's product at an index. -/
theorem pay1_apply (x0 : Vec Ideal S1088x1024 .bf16) (x1 : Vec Ideal S1024x1024 .bf16) (y : S1088x1024.Idx) :
    (k0_pay1 x0 x1 y : EReal) = relu2 (∑ k : Fin 1024, (x0 (ix2 (y 0) k) : EReal) * x1 (ix2 k (y 1))) := by
  unfold relu2
  pointwise [k0_pay1]

/-! ## The staged blocks -/

section
variable (m : (ℓ : Loc nD τ sig) → Buf (Elt Ideal) ℓ) (c : Dev nD)

/-- The two factors. -/
abbrev A : S4352x1024.Idx → EReal := m ((c : Thread nD τ).loc main_arg0)
abbrev B : S1024x4096.Idx → EReal := m ((c : Thread nD τ).loc main_arg1)

theorem idx : ∀ t : Fin cfg0.N, win0_0.index t = ![t.val / 4, 0] ∧ win0_1.index t = ![0, t.val % 4] ∧
    win0_2.index t = ![t.val / 4, t.val % 4] := by decide +kernel

theorem tlt (t : Fin cfg0.N) : t.val < 16 := lt_of_lt_of_eq t.isLt N_0

theorem iblk0 (t : Fin cfg0.N) (r : Fin 1088) (d : Fin 1024) :
    (iblk m c 0 t (ix2 r d) : EReal) = nat2 (A m c) (1088 * (t.val / 4) + r.val) d.val := by
  have := tlt t
  rw [nat2_pos _ (show 1088 * (t.val / 4) + r.val < 4352 by omega) d.isLt]
  blk_ext [iblk, Gen.V, idx t]

theorem iblk1 (t : Fin cfg0.N) (r : Fin 1024) (d : Fin 1024) :
    (iblk m c 1 t (ix2 r d) : EReal) = nat2 (B m c) r.val (1024 * (t.val % 4) + d.val) := by
  have := tlt t
  rw [nat2_pos _ r.isLt (show 1024 * (t.val % 4) + d.val < 4096 by omega)]
  blk_ext [iblk, Gen.V, idx t]

/-- The result array at an index. -/
theorem arr : (dats m 0 c).arrAt 2 cfg0.N = fun i : S4352x4096.Idx =>
    relu2 (∑ k : Fin 1024, nat2 (A m c) ((i 0).val) k.val * nat2 (B m c) k.val ((i 1).val)) := by
  refine (dats m 0 c).arrAt_eq_of_covers 2 _ (by decide +kernel) fun t hf y => ?_
  have ht := tlt t
  rw [after0_2, out_eq]
  refine (pay1_apply _ _ y).trans (congrArg relu2 (Finset.sum_congr rfl fun k _ => congrArg₂ _
    ((iblk0 m c t (y 0) k).trans ?_) ((iblk1 m c t k (y 1)).trans ?_)))
  all_goals congr 1 <;> blk_simp [idx t] <;> omega

end

open Cert.Reference9Ideal.Read in
/-- The reference's result at an index is the same. -/
theorem ref (x0 : S4352x1024.Idx → EReal) (x1 : S1024x4096.Idx → EReal) :
    (val_main_v5 (F := Ideal) x0 x1 : S4352x4096.Idx → EReal) = fun i =>
      relu2 (∑ k : Fin 1024, nat2 x0 ((i 0).val) k.val * nat2 x1 k.val ((i 1).val)) := by
  funext i
  have e : (val_main_v2 (F := Ideal) x0 x1 i : EReal) = ∑ k : Fin 1024, nat2 x0 ((i 0).val) k.val * nat2 x1 k.val ((i 1).val) :=
    (val_main_v2_apply x0 x1 i).trans (Finset.sum_congr rfl fun k _ => congrArg₂ _ (nat2_idx x0 (lidx_main_v2 i k)).symm (nat2_idx x1 (ridx_main_v2 i k)).symm)
  rw [val_main_v5_apply, val_main_v4_apply, val_main_v3_apply, val_main_call0_v0_apply, val_main_call0_cst_apply, ← e]
  generalize val_main_v2 (F := Ideal) x0 x1 i = z
  unfold relu2
  pointwise []

theorem frame_reference : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The kernel's activation is the reference's. -/
theorem algebraic : Cert.algebraic_Kernel9Ideal_Reference9Ideal := by
  intro m g m' g' _ hagree
  refine ⟨fun c => (dats m 0 c).arrAt 2 cfg0.N, Cert.Kernel9Ideal.Value.run_blocks m g, ?_⟩
  refine (θ_run Cert.Reference9Ideal.defs _ _).mono (fun r h c => ?_) (Cert.Reference9Ideal.Value.run (F := Ideal) m' g')
  obtain ⟨e0, e1⟩ := hagree c
  refine ⟨(h c).1.trans ?_, (h c).2⟩
  rw [Cert.Reference9Ideal.Read.val_main_v5_eq, e0, e1]
  exact (ref _ _).trans (arr m c).symm

end Cert.Kernel9Ideal.Mm

end
-- ==== Proof.Mm.Mlp2.lean ====
/- The second product of the squared-ReLU block, as the kernel computes it: `act · w2`, four blocks of columns of
   `act` at a time. -/
module

public import proofs.«01_k».proof.Proof.Mm.Sum
public import proofs.«01_k».proof.Defs
public import proofs.«01_k».proof.Proof.Gen.Kernel10Ideal.Value
public import proofs.«01_k».proof.Proof.Gen.Reference10Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel10Ideal.Mm

open Cert.Kernel10Ideal Cert.Kernel10Ideal.Gen Idealize.ShloMosaic Idealize.ShloMosaic.TcCoe Idealize.SL.Sem
open Cert.Mm

theorem hz : (![0, 0] : Fin 2 → Nat) = fun _ => 0 := funext fun a => by fin_cases a <;> rfl

section
variable {F : FTy → Type} [FloatOps F]
variable (c : Dev nD) (i : grid0.Coords) (a3 : Memref sig .tc .vmem S1088x1024 .bf16) (h3 : a3.IsWhole)
  (a4 : Memref sig .tc .vmem S1024x1024 .bf16) (h4 : a4.IsWhole) (a5 : Memref sig .tc .vmem S1088x1024 .bf16)
  (h5 : a5.IsWhole) (a6 : Memref sig .tc .vmem S1088x1024 .f32) (h6 : a6.IsWhole)
  (x0 : Vec F S1088x1024 .bf16) (x1 : Vec F S1024x1024 .bf16) (xs : Vec F S1088x1024 .f32)

/-- The first point of a run stores its product. -/
theorem sout_A (c0 : cond0_0 i) (c1 : ¬cond0_1 i) (c2 : ¬cond0_2 i) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero hz]
  unfold k0_pay2
  simp only [View.readAt_eq_ld, h3.read_unread, h4.read_unread, View.ld_unit_zero (S := S1088x1024) hz, View.ld_unit_zero (S := S1024x1024) hz,
    shapeCast_self]

/-- A later point adds its product, … -/
theorem sout_B (c0 : ¬cond0_0 i) (c1 : cond0_1 i) (c2 : ¬cond0_2 i) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero hz]
  unfold k0_pay3
  simp only [View.readAt_eq_ld, h3.read_unread, h4.read_unread, h6.read_unread, View.ld_unit_zero (S := S1088x1024) hz, View.ld_unit_zero (S := S1024x1024) hz,
    shapeCast_self]

/-- … the last one too, … -/
theorem sout_C (c0 : ¬cond0_0 i) (c1 : cond0_1 i) (c2 : cond0_2 i) :
    sout0_C_0 c i a3 h3 a4 h4 a5 h5 a6 h6 c0 c1 c2 x0 x1 xs = addf xs (k0_pay1 x0 x1) := by
  unfold sout0_C_0
  rw [View.read_writes_eq_canon _ _ _ (scover0_C_0 c i a3 h3 a4 h4 a5 h5 a6 h6 c0 c1 c2 x0 x1 xs)]
  unfold kernelRun0_C
  dsimp only
  sl_unfold_words
  rw [View.canon_unit_zero hz]
  unfold k0_pay3
  simp only [View.readAt_eq_ld, h3.read_unread, h4.read_unread, h6.read_unread, View.ld_unit_zero (S := S1088x1024) hz, View.ld_unit_zero (S := S1024x1024) hz,
    shapeCast_self]

/-- … which writes the sum, rounded, to the output block. -/
theorem out_C (c0 : ¬cond0_0 i) (c1 : cond0_1 i) (c2 : cond0_2 i) :
    out0_C_2 c i a3 h3 a4 h4 a5 h5 a6 h6 c0 c1 c2 x0 x1 xs = k0_pay4 (addf xs (k0_pay1 x0 x1)) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz, View.readCov_unit_zero (S := S1088x1024) _ hz]
  unfold k0_pay3
  simp only [View.readAt_eq_ld, h3.read_unread, h4.read_unread, h6.read_unread, View.ld_unit_zero (S := S1088x1024) hz, View.ld_unit_zero (S := S1024x1024) hz,
    shapeCast_self]

end

/-- A point's product at an index. -/
theorem pay1_apply (x0 : Vec Ideal S1088x1024 .bf16) (x1 : Vec Ideal S1024x1024 .bf16) (y : S1088x1024.Idx) :
    (k0_pay1 x0 x1 y : EReal) = ∑ k : Fin 1024, (x0 (ix2 (y 0) k) : EReal) * x1 (ix2 k (y 1)) := by
  pointwise [k0_pay1]

/-! ## The staged blocks, and the fold over a run -/

section
variable (m : (ℓ : Loc nD τ sig) → Buf (Elt Ideal) ℓ) (c : Dev nD)

/-- The two factors. -/
abbrev A : S4352x4096.Idx → EReal := m ((c : Thread nD τ).loc main_arg0)
abbrev B : S4096x1024.Idx → EReal := m ((c : Thread nD τ).loc main_arg1)

theorem idx : ∀ t : Fin cfg0.N, win0_0.index t = ![t.val / 4, t.val % 4] ∧ win0_1.index t = ![t.val % 4, 0] ∧
    win0_2.index t = ![t.val / 4, 0] := by decide +kernel

theorem tlt (t : Fin cfg0.N) : t.val < 16 := lt_of_lt_of_eq t.isLt N_0

theorem iblk0 (t : Fin cfg0.N) (r : Fin 1088) (d : Fin 1024) :
    (iblk m c 0 t (ix2 r d) : EReal) = nat2 (A m c) (1088 * (t.val / 4) + r.val) (1024 * (t.val % 4) + d.val) := by
  have := tlt t
  rw [nat2_pos _ (show 1088 * (t.val / 4) + r.val < 4352 by omega) (show 1024 * (t.val % 4) + d.val < 4096 by omega)]
  blk_ext [iblk, Gen.V, idx t]

theorem iblk1 (t : Fin cfg0.N) (r : Fin 1024) (d : Fin 1024) :
    (iblk m c 1 t (ix2 r d) : EReal) = nat2 (B m c) (1024 * (t.val % 4) + r.val) d.val := by
  have := tlt t
  rw [nat2_pos _ (show 1024 * (t.val % 4) + r.val < 4096 by omega) d.isLt]
  blk_ext [iblk, Gen.V, idx t]

/-- Point `n`'s product at an index of the block. -/
def M (n : ℕ) (y : S1088x1024.Idx) : EReal :=
  ∑ k : Fin 1024, nat2 (A m c) (1088 * (n / 4) + (y 0).val) (1024 * (n % 4) + k.val) *
    nat2 (B m c) (1024 * (n % 4) + k.val) ((y 1).val)

theorem pay1_M (t : Fin cfg0.N) (y : S1088x1024.Idx) : (k0_pay1 (iblk m c 0 t) (iblk m c 1 t) y : EReal) = M m c t.val y := by
  rw [pay1_apply]
  unfold M
  exact Finset.sum_congr rfl fun k _ => congrArg₂ _ (iblk0 m c t (y 0) k) (iblk1 m c t k (y 1))

/-- What the scratch holds after a point. -/
theorem scratch (q j : ℕ) (hj : j < 4) (h : 4 * q + j < cfg0.N) (y : S1088x1024.Idx) :
    ((outsAt0 m c (4 * q + j) h).2 y : EReal) = ∑ s ∈ Finset.range (j + 1), M m c (4 * q + s) y := by
  refine run_sum (ι := S1088x1024.Idx) (β := EReal) (fun n h => (outsAt0 m c n h).2) 4 (M m c) ?_ ?_ q j hj h y
  · intro n h hn i
    have hb := tlt ⟨n, h⟩
    have e := outsAt0_A m c ⟨n, h⟩ hn (by dsimp only at hb ⊢; omega) (by dsimp only; omega)
    dsimp only at e ⊢
    rw [e]
    dsimp only
    rw [sout_A]
    exact pay1_M m c ⟨n, h⟩ i
  · intro n h hn i
    by_cases h2 : (n + 1) % 4 = 3
    · have e := outsAt0_C m c ⟨n + 1, h⟩ hn (by dsimp only; omega) h2
      dsimp only at e ⊢
      rw [e]
      dsimp only
      rw [sout_C]
      exact congrArg _ (pay1_M m c ⟨n + 1, h⟩ i)
    · have e := outsAt0_B m c ⟨n + 1, h⟩ hn (by dsimp only; omega) h2
      dsimp only at e ⊢
      rw [e]
      dsimp only
      rw [sout_B]
      exact congrArg _ (pay1_M m c ⟨n + 1, h⟩ i)

/-- The result array at an index. -/
theorem arr : (dats m 0 c).arrAt 2 cfg0.N = fun i : S4352x1024.Idx =>
    ∑ k : Fin 4096, nat2 (A m c) ((i 0).val) k.val * nat2 (B m c) k.val ((i 1).val) := by
  refine (dats m 0 c).arrAt_eq_of_covers 2 _ (by decide +kernel) fun t hf y => ?_
  have ht := tlt t
  have hm : t.val % 4 = 3 := by have := (flush0_2 t).mp hf; omega
  rw [after0_2]
  have e := outsAt0_C m c t (by omega) (by omega) hm
  have e2 := congrArg Prod.snd e
  dsimp only at e2
  rw [sout_C] at e2
  rw [e]
  dsimp only
  rw [out_C, ← e2]
  have hs := scratch m c (t.val / 4) 3 (by decide) (by have := t.isLt; omega) y
  have et : 4 * (t.val / 4) + 3 = t.val := by omega
  simp only [et] at hs
  refine (show _ = ((outsAt0 m c t.val t.isLt).2 y : EReal) from rfl).trans (hs.trans ?_)
  have hsum := sum_blocks (fun k => nat2 (A m c) (1088 * (t.val / 4) + (y 0).val) k *
    nat2 (B m c) k ((y 1).val)) 1024 4
  refine (Finset.sum_congr rfl fun s hs => ?_).trans (hsum.trans ?_)
  · have hs4 : s < 4 := Finset.mem_range.mp hs
    unfold M
    rw [show (4 * (t.val / 4) + s) % 4 = s by omega, show (4 * (t.val / 4) + s) / 4 = t.val / 4 by omega]
  · refine Finset.sum_congr rfl fun k _ => ?_
    congr 2 <;> blk_simp [idx t] <;> omega

end

open Cert.Reference10Ideal.Read in
/-- The reference's result at an index is the same. -/
theorem ref (x0 : S4352x4096.Idx → EReal) (x1 : S4096x1024.Idx → EReal) :
    (val_main_v3 (F := Ideal) x0 x1 : S4352x1024.Idx → EReal) = fun i =>
      ∑ k : Fin 4096, nat2 x0 ((i 0).val) k.val * nat2 x1 k.val ((i 1).val) := by
  funext i
  rw [val_main_v3_apply]
  refine (val_main_v2_apply x0 x1 _).trans (Finset.sum_congr rfl fun k _ => ?_)
  exact congrArg₂ _ (nat2_idx x0 (lidx_main_v2 i k)).symm
    (nat2_idx x1 (ridx_main_v2 i k)).symm

theorem frame_reference : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The kernel's product is the reference's. -/
theorem algebraic : Cert.algebraic_Kernel10Ideal_Reference10Ideal := by
  intro m g m' g' _ hagree
  refine ⟨fun c => (dats m 0 c).arrAt 2 cfg0.N, Cert.Kernel10Ideal.Value.run_blocks m g, ?_⟩
  refine (θ_run Cert.Reference10Ideal.defs _ _).mono (fun r h c => ?_) (Cert.Reference10Ideal.Value.run (F := Ideal) m' g')
  obtain ⟨e0, e1⟩ := hagree c
  refine ⟨(h c).1.trans ?_, (h c).2⟩
  rw [Cert.Reference10Ideal.Read.val_main_v3_eq, e0, e1]
  exact (ref _ _).trans (arr m c).symm

end Cert.Kernel10Ideal.Mm

end
-- ==== Proof.Mm.DxOut.lean ====
/- The gradient of the input of an output projection, as the kernel computes it: `dy · wᵀ` tile by tile. -/
module

public import proofs.«01_k».proof.Proof.Mm.Sum
public import proofs.«01_k».proof.Defs
public import proofs.«01_k».proof.Proof.Gen.Kernel11Ideal.Value
public import proofs.«01_k».proof.Proof.Gen.Reference11Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel11Ideal.Mm

open Cert.Kernel11Ideal Cert.Kernel11Ideal.Gen Idealize.ShloMosaic Idealize.ShloMosaic.TcCoe Idealize.SL.Sem
open Cert.Mm

theorem hz : (![0, 0] : Fin 2 → Nat) = fun _ => 0 := funext fun a => by fin_cases a <;> rfl

/-- The block a grid point writes. -/
theorem out_eq {F : FTy → Type} [FloatOps F] (x0 : Vec F S1088x1024 .bf16) (x1 : Vec F S1024x1024 .bf16) :
    out0_2 x0 x1 = k0_pay1 x0 x1 := by
  unfold out0_2
  rw [View.canon_unit_zero hz]
  simp only [View.ld_unit_zero (S := S1088x1024) hz, View.ld_unit_zero (S := S1024x1024) hz]

/-- A point's product at an index. -/
theorem pay1_apply (x0 : Vec Ideal S1088x1024 .bf16) (x1 : Vec Ideal S1024x1024 .bf16) (y : S1088x1024.Idx) :
    (k0_pay1 x0 x1 y : EReal) = ∑ k : Fin 1024, (x0 (ix2 (y 0) k) : EReal) * x1 (ix2 (y 1) k) := by
  pointwise [k0_pay1]

/-! ## The staged blocks -/

section
variable (m : (ℓ : Loc nD τ sig) → Buf (Elt Ideal) ℓ) (c : Dev nD)

/-- The two factors. -/
abbrev A : S4352x1024.Idx → EReal := m ((c : Thread nD τ).loc main_arg1)
abbrev B : S1024x1024.Idx → EReal := m ((c : Thread nD τ).loc main_arg0)

theorem idx : ∀ t : Fin cfg0.N, win0_0.index t = ![t.val, 0] ∧ win0_1.index t = ![0, 0] ∧
    win0_2.index t = ![t.val, 0] := by decide +kernel

theorem tlt (t : Fin cfg0.N) : t.val < 4 := lt_of_lt_of_eq t.isLt N_0

theorem iblk0 (t : Fin cfg0.N) (r : Fin 1088) (d : Fin 1024) :
    (iblk m c 0 t (ix2 r d) : EReal) = nat2 (A m c) (1088 * (t.val) + r.val) d.val := by
  have := tlt t
  rw [nat2_pos _ (show 1088 * (t.val) + r.val < 4352 by omega) d.isLt]
  blk_ext [iblk, Gen.V, idx t]

theorem iblk1 (t : Fin cfg0.N) (r : Fin 1024) (d : Fin 1024) :
    (iblk m c 1 t (ix2 r d) : EReal) = nat2 (B m c) r.val d.val := by
  have := tlt t
  rw [nat2_pos _ r.isLt d.isLt]
  blk_ext [iblk, Gen.V, idx t]

/-- The result array at an index. -/
theorem arr : (dats m 0 c).arrAt 2 cfg0.N = fun i : S4352x1024.Idx =>
    ∑ k : Fin 1024, nat2 (A m c) ((i 0).val) k.val * nat2 (B m c) ((i 1).val) k.val := by
  refine (dats m 0 c).arrAt_eq_of_covers 2 _ (by decide +kernel) fun t hf y => ?_
  have ht := tlt t
  rw [after0_2, out_eq]
  refine (pay1_apply _ _ y).trans (Finset.sum_congr rfl fun k _ => congrArg₂ _
    ((iblk0 m c t (y 0) k).trans ?_) ((iblk1 m c t (y 1) k).trans ?_))
  all_goals congr 1 <;> blk_simp [idx t] <;> omega

end

open Cert.Reference11Ideal.Read in
/-- The reference's result at an index is the same. -/
theorem ref (x0 : S1024x1024.Idx → EReal) (x1 : S4352x1024.Idx → EReal) :
    (val_main_v5 (F := Ideal) x0 x1 : S4352x1024.Idx → EReal) = fun i =>
      ∑ k : Fin 1024, nat2 x1 ((i 0).val) k.val * nat2 x0 ((i 1).val) k.val := by
  funext i
  rw [val_main_v5_apply]
  refine (val_main_v4_apply x0 x1 _).trans (Finset.sum_congr rfl fun k _ => ?_)
  exact congrArg₂ _ (nat2_idx x1 (lidx_main_v4 i k)).symm
    (nat2_idx x0 (ridx_main_v4 i k)).symm

theorem frame_reference : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

/-- The kernel's gradient is the reference's. -/
theorem algebraic : Cert.algebraic_Kernel11Ideal_Reference11Ideal := by
  intro m g m' g' _ hagree
  refine ⟨fun c => (dats m 0 c).arrAt 2 cfg0.N, Cert.Kernel11Ideal.Value.run_blocks m g, ?_⟩
  refine (θ_run Cert.Reference11Ideal.defs _ _).mono (fun r h c => ?_) (Cert.Reference11Ideal.Value.run (F := Ideal) m' g')
  obtain ⟨e0, e1⟩ := hagree c
  refine ⟨(h c).1.trans ?_, (h c).2⟩
  rw [Cert.Reference11Ideal.Read.val_main_v5_eq, e0, e1]
  exact (ref _ _).trans (arr m c).symm

end Cert.Kernel11Ideal.Mm

end
-- ==== Proof.Mm.DwOut.lean ====
/- The gradient of the weight of an output projection, as the kernel computes it: `xᵀ · dy`, four blocks of rows at a
   time. -/
module

public import proofs.«01_k».proof.Proof.Mm.Sum
public import proofs.«01_k».proof.Defs
public import proofs.«01_k».proof.Proof.Gen.Kernel12Ideal.Value
public import proofs.«01_k».proof.Proof.Gen.Reference12Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel12Ideal.Mm

open Cert.Kernel12Ideal Cert.Kernel12Ideal.Gen Idealize.ShloMosaic Idealize.ShloMosaic.TcCoe Idealize.SL.Sem
open Cert.Mm

theorem hz : (![0, 0] : Fin 2 → Nat) = fun _ => 0 := funext fun a => by fin_cases a <;> rfl

section
variable {F : FTy → Type} [FloatOps F]
variable (c : Dev nD) (i : grid0.Coords) (a3 : Memref sig .tc .vmem S1088x1024 .bf16) (h3 : a3.IsWhole)
  (a4 : Memref sig .tc .vmem S1088x1024 .bf16) (h4 : a4.IsWhole) (a5 : Memref sig .tc .vmem S1024x1024 .bf16)
  (h5 : a5.IsWhole) (a6 : Memref sig .tc .vmem S1024x1024 .f32) (h6 : a6.IsWhole)
  (x0 : Vec F S1088x1024 .bf16) (x1 : Vec F S1088x1024 .bf16) (xs : Vec F S1024x1024 .f32)

/-- The first point of a run stores its product. -/
theorem sout_A (c0 : cond0_0 i) (c1 : ¬cond0_1 i) (c2 : ¬cond0_2 i) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero hz]
  unfold k0_pay2
  simp only [View.readAt_eq_ld, h3.read_unread, h4.read_unread, View.ld_unit_zero (S := S1088x1024) hz,
    shapeCast_self]

/-- A later point adds its product, … -/
theorem sout_B (c0 : ¬cond0_0 i) (c1 : cond0_1 i) (c2 : ¬cond0_2 i) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero hz]
  unfold k0_pay3
  simp only [View.readAt_eq_ld, h3.read_unread, h4.read_unread, h6.read_unread, View.ld_unit_zero (S := S1088x1024) hz, View.ld_unit_zero (S := S1024x1024) hz,
    shapeCast_self]

/-- … the last one too, … -/
theorem sout_C (c0 : ¬cond0_0 i) (c1 : cond0_1 i) (c2 : cond0_2 i) :
    sout0_C_0 c i a3 h3 a4 h4 a5 h5 a6 h6 c0 c1 c2 x0 x1 xs = addf xs (k0_pay1 x0 x1) := by
  unfold sout0_C_0
  rw [View.read_writes_eq_canon _ _ _ (scover0_C_0 c i a3 h3 a4 h4 a5 h5 a6 h6 c0 c1 c2 x0 x1 xs)]
  unfold kernelRun0_C
  dsimp only
  sl_unfold_words
  rw [View.canon_unit_zero hz]
  unfold k0_pay3
  simp only [View.readAt_eq_ld, h3.read_unread, h4.read_unread, h6.read_unread, View.ld_unit_zero (S := S1088x1024) hz, View.ld_unit_zero (S := S1024x1024) hz,
    shapeCast_self]

/-- … which writes the sum, rounded, to the output block. -/
theorem out_C (c0 : ¬cond0_0 i) (c1 : cond0_1 i) (c2 : cond0_2 i) :
    out0_C_2 c i a3 h3 a4 h4 a5 h5 a6 h6 c0 c1 c2 x0 x1 xs = k0_pay4 (addf xs (k0_pay1 x0 x1)) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S1088x1024) hz, View.ld_unit_zero (S := S1024x1024) hz,
    shapeCast_self]

end

/-- A point's product at an index. -/
theorem pay1_apply (x0 : Vec Ideal S1088x1024 .bf16) (x1 : Vec Ideal S1088x1024 .bf16) (y : S1024x1024.Idx) :
    (k0_pay1 x0 x1 y : EReal) = ∑ k : Fin 1088, (x0 (ix2 k (y 0)) : EReal) * x1 (ix2 k (y 1)) := by
  pointwise [k0_pay1]

/-! ## The staged blocks, and the fold over a run -/

section
variable (m : (ℓ : Loc nD τ sig) → Buf (Elt Ideal) ℓ) (c : Dev nD)

/-- The two factors. -/
abbrev A : S4352x1024.Idx → EReal := m ((c : Thread nD τ).loc main_arg0)
abbrev B : S4352x1024.Idx → EReal := m ((c : Thread nD τ).loc main_arg1)

theorem idx : ∀ t : Fin cfg0.N, win0_0.index t = ![t.val % 4, 0] ∧ win0_1.index t = ![t.val % 4, 0] ∧
    win0_2.index t = ![0, 0] := by decide +kernel

theorem tlt (t : Fin cfg0.N) : t.val < 4 := lt_of_lt_of_eq t.isLt N_0

theorem iblk0 (t : Fin cfg0.N) (r : Fin 1088) (d : Fin 1024) :
    (iblk m c 0 t (ix2 r d) : EReal) = nat2 (A m c) (1088 * (t.val % 4) + r.val) d.val := by
  have := tlt t
  rw [nat2_pos _ (show 1088 * (t.val % 4) + r.val < 4352 by omega) d.isLt]
  blk_ext [iblk, Gen.V, idx t]

theorem iblk1 (t : Fin cfg0.N) (r : Fin 1088) (d : Fin 1024) :
    (iblk m c 1 t (ix2 r d) : EReal) = nat2 (B m c) (1088 * (t.val % 4) + r.val) d.val := by
  have := tlt t
  rw [nat2_pos _ (show 1088 * (t.val % 4) + r.val < 4352 by omega) d.isLt]
  blk_ext [iblk, Gen.V, idx t]

/-- Point `n`'s product at an index of the block. -/
def M (n : ℕ) (y : S1024x1024.Idx) : EReal :=
  ∑ k : Fin 1088, nat2 (A m c) (1088 * (n % 4) + k.val) ((y 0).val) *
    nat2 (B m c) (1088 * (n % 4) + k.val) ((y 1).val)

theorem pay1_M (t : Fin cfg0.N) (y : S1024x1024.Idx) : (k0_pay1 (iblk m c 0 t) (iblk m c 1 t) y : EReal) = M m c t.val y := by
  rw [pay1_apply]
  unfold M
  exact Finset.sum_congr rfl fun k _ => congrArg₂ _ (iblk0 m c t k (y 0)) (iblk1 m c t k (y 1))

/-- What the scratch holds after a point. -/
theorem scratch (q j : ℕ) (hj : j < 4) (h : 4 * q + j < cfg0.N) (y : S1024x1024.Idx) :
    ((outsAt0 m c (4 * q + j) h).2 y : EReal) = ∑ s ∈ Finset.range (j + 1), M m c (4 * q + s) y := by
  refine run_sum (ι := S1024x1024.Idx) (β := EReal) (fun n h => (outsAt0 m c n h).2) 4 (M m c) ?_ ?_ q j hj h y
  · intro n h hn i
    have hb := tlt ⟨n, h⟩
    have e := outsAt0_A m c ⟨n, h⟩ hn (by dsimp only at hb ⊢; omega) (by dsimp only; omega)
    dsimp only at e ⊢
    rw [e]
    dsimp only
    rw [sout_A]
    exact pay1_M m c ⟨n, h⟩ i
  · intro n h hn i
    by_cases h2 : (n + 1) % 4 = 3
    · have e := outsAt0_C m c ⟨n + 1, h⟩ hn (by dsimp only; omega) h2
      dsimp only at e ⊢
      rw [e]
      dsimp only
      rw [sout_C]
      exact congrArg _ (pay1_M m c ⟨n + 1, h⟩ i)
    · have e := outsAt0_B m c ⟨n + 1, h⟩ hn (by dsimp only; omega) h2
      dsimp only at e ⊢
      rw [e]
      dsimp only
      rw [sout_B]
      exact congrArg _ (pay1_M m c ⟨n + 1, h⟩ i)

/-- The result array at an index. -/
theorem arr : (dats m 0 c).arrAt 2 cfg0.N = fun i : S1024x1024.Idx =>
    ∑ k : Fin 4352, nat2 (A m c) k.val ((i 0).val) * nat2 (B m c) k.val ((i 1).val) := by
  refine (dats m 0 c).arrAt_eq_of_covers 2 _ (by decide +kernel) fun t hf y => ?_
  have ht := tlt t
  have hm : t.val % 4 = 3 := by have := (flush0_2 t).mp hf; omega
  rw [after0_2]
  have e := outsAt0_C m c t (by omega) (by omega) hm
  have e2 := congrArg Prod.snd e
  dsimp only at e2
  rw [sout_C] at e2
  rw [e]
  dsimp only
  rw [out_C, ← e2]
  have hs := scratch m c (t.val / 4) 3 (by decide) (by have := t.isLt; omega) y
  have et : 4 * (t.val / 4) + 3 = t.val := by omega
  simp only [et] at hs
  refine (show _ = ((outsAt0 m c t.val t.isLt).2 y : EReal) from rfl).trans (hs.trans ?_)
  have hsum := sum_blocks (fun k => nat2 (A m c) k ((y 0).val) *
    nat2 (B m c) k ((y 1).val)) 1088 4
  refine (Finset.sum_congr rfl fun s hs => ?_).trans (hsum.trans ?_)
  · have hs4 : s < 4 := Finset.mem_range.mp hs
    unfold M
    rw [show (4 * (t.val / 4) + s) % 4 = s by omega]
  · refine Finset.sum_congr rfl fun k _ => ?_
    congr 2 <;> blk_simp [idx t] <;> omega

end

open Cert.Reference12Ideal.Read in
/-- The reference's result at an index is the same. -/
theorem ref (x0 : S4352x1024.Idx → EReal) (x1 : S4352x1024.Idx → EReal) :
    (val_main_v6 (F := Ideal) x0 x1 : S1024x1024.Idx → EReal) = fun i =>
      ∑ k : Fin 4352, nat2 x0 k.val ((i 0).val) * nat2 x1 k.val ((i 1).val) := by
  funext i
  rw [val_main_v6_apply, val_main_v5_apply]
  refine (val_main_v4_apply x0 x1 _).trans (Finset.sum_congr rfl fun k _ => ?_)
  rw [mul_comm]
  exact congrArg₂ _ (nat2_idx x0 (ridx_main_v4 (idx_main_v5 i) k)).symm
    (nat2_idx x1 (lidx_main_v4 (idx_main_v5 i) k)).symm

theorem frame_reference : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- The kernel's gradient is the reference's. -/
theorem algebraic : Cert.algebraic_Kernel12Ideal_Reference12Ideal := by
  intro m g m' g' _ hagree
  refine ⟨fun c => (dats m 0 c).arrAt 2 cfg0.N, Cert.Kernel12Ideal.Value.run_blocks m g, ?_⟩
  refine (θ_run Cert.Reference12Ideal.defs _ _).mono (fun r h c => ?_) (Cert.Reference12Ideal.Value.run (F := Ideal) m' g')
  obtain ⟨e0, e1⟩ := hagree c
  refine ⟨(h c).1.trans ?_, (h c).2⟩
  rw [Cert.Reference12Ideal.Read.val_main_v6_eq, e0, e1]
  exact (ref _ _).trans (arr m c).symm

end Cert.Kernel12Ideal.Mm

end
-- ==== Proof.Mm.Out.lean ====
/- An output projection, as the kernel computes it: `x · w` tile by tile. -/
module

public import proofs.«01_k».proof.Proof.Mm.Sum
public import proofs.«01_k».proof.Defs
public import proofs.«01_k».proof.Proof.Gen.Kernel13Ideal.Value
public import proofs.«01_k».proof.Proof.Gen.Reference13Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel13Ideal.Mm

open Cert.Kernel13Ideal Cert.Kernel13Ideal.Gen Idealize.ShloMosaic Idealize.ShloMosaic.TcCoe Idealize.SL.Sem
open Cert.Mm

theorem hz : (![0, 0] : Fin 2 → Nat) = fun _ => 0 := funext fun a => by fin_cases a <;> rfl

/-- The block a grid point writes. -/
theorem out_eq {F : FTy → Type} [FloatOps F] (x0 : Vec F S1088x1024 .bf16) (x1 : Vec F S1024x1024 .bf16) :
    out0_2 x0 x1 = k0_pay1 x0 x1 := by
  unfold out0_2
  rw [View.canon_unit_zero hz]
  simp only [View.ld_unit_zero (S := S1088x1024) hz, View.ld_unit_zero (S := S1024x1024) hz]

/-- A point's product at an index. -/
theorem pay1_apply (x0 : Vec Ideal S1088x1024 .bf16) (x1 : Vec Ideal S1024x1024 .bf16) (y : S1088x1024.Idx) :
    (k0_pay1 x0 x1 y : EReal) = ∑ k : Fin 1024, (x0 (ix2 (y 0) k) : EReal) * x1 (ix2 k (y 1)) := by
  pointwise [k0_pay1]

/-! ## The staged blocks -/

section
variable (m : (ℓ : Loc nD τ sig) → Buf (Elt Ideal) ℓ) (c : Dev nD)

/-- The two factors. -/
abbrev A : S4352x1024.Idx → EReal := m ((c : Thread nD τ).loc main_arg0)
abbrev B : S1024x1024.Idx → EReal := m ((c : Thread nD τ).loc main_arg1)

theorem idx : ∀ t : Fin cfg0.N, win0_0.index t = ![t.val, 0] ∧ win0_1.index t = ![0, 0] ∧
    win0_2.index t = ![t.val, 0] := by decide +kernel

theorem tlt (t : Fin cfg0.N) : t.val < 4 := lt_of_lt_of_eq t.isLt N_0

theorem iblk0 (t : Fin cfg0.N) (r : Fin 1088) (d : Fin 1024) :
    (iblk m c 0 t (ix2 r d) : EReal) = nat2 (A m c) (1088 * (t.val) + r.val) d.val := by
  have := tlt t
  rw [nat2_pos _ (show 1088 * (t.val) + r.val < 4352 by omega) d.isLt]
  blk_ext [iblk, Gen.V, idx t]

theorem iblk1 (t : Fin cfg0.N) (r : Fin 1024) (d : Fin 1024) :
    (iblk m c 1 t (ix2 r d) : EReal) = nat2 (B m c) r.val d.val := by
  have := tlt t
  rw [nat2_pos _ r.isLt d.isLt]
  blk_ext [iblk, Gen.V, idx t]

/-- The result array at an index. -/
theorem arr : (dats m 0 c).arrAt 2 cfg0.N = fun i : S4352x1024.Idx =>
    ∑ k : Fin 1024, nat2 (A m c) ((i 0).val) k.val * nat2 (B m c) k.val ((i 1).val) := by
  refine (dats m 0 c).arrAt_eq_of_covers 2 _ (by decide +kernel) fun t hf y => ?_
  have ht := tlt t
  rw [after0_2, out_eq]
  refine (pay1_apply _ _ y).trans (Finset.sum_congr rfl fun k _ => congrArg₂ _
    ((iblk0 m c t (y 0) k).trans ?_) ((iblk1 m c t k (y 1)).trans ?_))
  all_goals congr 1 <;> blk_simp [idx t] <;> omega

end

open Cert.Reference13Ideal.Read in
/-- The reference's result at an index is the same. -/
theorem ref (x0 : S4352x1024.Idx → EReal) (x1 : S1024x1024.Idx → EReal) :
    (val_main_v3 (F := Ideal) x0 x1 : S4352x1024.Idx → EReal) = fun i =>
      ∑ k : Fin 1024, nat2 x0 ((i 0).val) k.val * nat2 x1 k.val ((i 1).val) := by
  funext i
  rw [val_main_v3_apply]
  refine (val_main_v2_apply x0 x1 _).trans (Finset.sum_congr rfl fun k _ => ?_)
  exact congrArg₂ _ (nat2_idx x0 (lidx_main_v2 i k)).symm
    (nat2_idx x1 (ridx_main_v2 i k)).symm

theorem frame_reference : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

/-- The kernel's product is the reference's. -/
theorem algebraic : Cert.algebraic_Kernel13Ideal_Reference13Ideal := by
  intro m g m' g' _ hagree
  refine ⟨fun c => (dats m 0 c).arrAt 2 cfg0.N, Cert.Kernel13Ideal.Value.run_blocks m g, ?_⟩
  refine (θ_run Cert.Reference13Ideal.defs _ _).mono (fun r h c => ?_) (Cert.Reference13Ideal.Value.run (F := Ideal) m' g')
  obtain ⟨e0, e1⟩ := hagree c
  refine ⟨(h c).1.trans ?_, (h c).2⟩
  rw [Cert.Reference13Ideal.Read.val_main_v3_eq, e0, e1]
  exact (ref _ _).trans (arr m c).symm

end Cert.Kernel13Ideal.Mm

end
-- ==== Proof.Mm.DxBranch.lean ====
/- The gradient of the input of a half-width branch's output projection, as the kernel computes it: `dy · wᵀ` tile by
   tile. -/
module

public import proofs.«01_k».proof.Proof.Mm.Sum
public import proofs.«01_k».proof.Defs
public import proofs.«01_k».proof.Proof.Gen.Kernel14Ideal.Value
public import proofs.«01_k».proof.Proof.Gen.Reference14Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel14Ideal.Mm

open Cert.Kernel14Ideal Cert.Kernel14Ideal.Gen Idealize.ShloMosaic Idealize.ShloMosaic.TcCoe Idealize.SL.Sem
open Cert.Mm

theorem hz : (![0, 0] : Fin 2 → Nat) = fun _ => 0 := funext fun a => by fin_cases a <;> rfl

/-- The block a grid point writes. -/
theorem out_eq {F : FTy → Type} [FloatOps F] (x0 : Vec F S1088x1024 .bf16) (x1 : Vec F S512x1024 .bf16) :
    out0_2 x0 x1 = k0_pay1 x0 x1 := by
  unfold out0_2
  rw [View.canon_unit_zero hz]
  simp only [View.ld_unit_zero (S := S1088x1024) hz, View.ld_unit_zero (S := S512x1024) hz]

/-- A point's product at an index. -/
theorem pay1_apply (x0 : Vec Ideal S1088x1024 .bf16) (x1 : Vec Ideal S512x1024 .bf16) (y : S1088x512.Idx) :
    (k0_pay1 x0 x1 y : EReal) = ∑ k : Fin 1024, (x0 (ix2 (y 0) k) : EReal) * x1 (ix2 (y 1) k) := by
  pointwise [k0_pay1]

/-! ## The staged blocks -/

section
variable (m : (ℓ : Loc nD τ sig) → Buf (Elt Ideal) ℓ) (c : Dev nD)

/-- The two factors. -/
abbrev A : S4352x1024.Idx → EReal := m ((c : Thread nD τ).loc main_arg1)
abbrev B : S512x1024.Idx → EReal := m ((c : Thread nD τ).loc main_arg0)

theorem idx : ∀ t : Fin cfg0.N, win0_0.index t = ![t.val, 0] ∧ win0_1.index t = ![0, 0] ∧
    win0_2.index t = ![t.val, 0] := by decide +kernel

theorem tlt (t : Fin cfg0.N) : t.val < 4 := lt_of_lt_of_eq t.isLt N_0

theorem iblk0 (t : Fin cfg0.N) (r : Fin 1088) (d : Fin 1024) :
    (iblk m c 0 t (ix2 r d) : EReal) = nat2 (A m c) (1088 * (t.val) + r.val) d.val := by
  have := tlt t
  rw [nat2_pos _ (show 1088 * (t.val) + r.val < 4352 by omega) d.isLt]
  blk_ext [iblk, Gen.V, idx t]

theorem iblk1 (t : Fin cfg0.N) (r : Fin 512) (d : Fin 1024) :
    (iblk m c 1 t (ix2 r d) : EReal) = nat2 (B m c) r.val d.val := by
  have := tlt t
  rw [nat2_pos _ r.isLt d.isLt]
  blk_ext [iblk, Gen.V, idx t]

/-- The result array at an index. -/
theorem arr : (dats m 0 c).arrAt 2 cfg0.N = fun i : S4352x512.Idx =>
    ∑ k : Fin 1024, nat2 (A m c) ((i 0).val) k.val * nat2 (B m c) ((i 1).val) k.val := by
  refine (dats m 0 c).arrAt_eq_of_covers 2 _ (by decide +kernel) fun t hf y => ?_
  have ht := tlt t
  rw [after0_2, out_eq]
  refine (pay1_apply _ _ y).trans (Finset.sum_congr rfl fun k _ => congrArg₂ _
    ((iblk0 m c t (y 0) k).trans ?_) ((iblk1 m c t (y 1) k).trans ?_))
  all_goals congr 1 <;> blk_simp [idx t] <;> omega

end

open Cert.Reference14Ideal.Read in
/-- The reference's result at an index is the same. -/
theorem ref (x0 : S512x1024.Idx → EReal) (x1 : S4352x1024.Idx → EReal) :
    (val_main_v5 (F := Ideal) x0 x1 : S4352x512.Idx → EReal) = fun i =>
      ∑ k : Fin 1024, nat2 x1 ((i 0).val) k.val * nat2 x0 ((i 1).val) k.val := by
  funext i
  rw [val_main_v5_apply]
  refine (val_main_v4_apply x0 x1 _).trans (Finset.sum_congr rfl fun k _ => ?_)
  exact congrArg₂ _ (nat2_idx x1 (lidx_main_v4 i k)).symm
    (nat2_idx x0 (ridx_main_v4 i k)).symm

theorem frame_reference : Cert.quiescent_Reference14Ideal := fun m ρ _ =>
  (θ_run Cert.Reference14Ideal.defs _ _).mono
    (fun r h => ⟨fun c => (h c).2, Idealize.ShloMosaic.sem_eq_zero_of_no_sems (by decide) r.2⟩)
    (Cert.Reference14Ideal.Value.run (F := Ideal) m ρ)

/-- The kernel's gradient is the reference's. -/
theorem algebraic : Cert.algebraic_Kernel14Ideal_Reference14Ideal := by
  intro m g m' g' _ hagree
  refine ⟨fun c => (dats m 0 c).arrAt 2 cfg0.N, Cert.Kernel14Ideal.Value.run_blocks m g, ?_⟩
  refine (θ_run Cert.Reference14Ideal.defs _ _).mono (fun r h c => ?_) (Cert.Reference14Ideal.Value.run (F := Ideal) m' g')
  obtain ⟨e0, e1⟩ := hagree c
  refine ⟨(h c).1.trans ?_, (h c).2⟩
  rw [Cert.Reference14Ideal.Read.val_main_v5_eq, e0, e1]
  exact (ref _ _).trans (arr m c).symm

end Cert.Kernel14Ideal.Mm

end
-- ==== Proof.Mm.DwBranch.lean ====
/- The gradient of the weight of a half-width branch's output projection, as the kernel computes it: `xᵀ · dy`, four
   blocks of rows at a time. -/
module

public import proofs.«01_k».proof.Proof.Mm.Sum
public import proofs.«01_k».proof.Defs
public import proofs.«01_k».proof.Proof.Gen.Kernel15Ideal.Value
public import proofs.«01_k».proof.Proof.Gen.Reference15Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel15Ideal.Mm

open Cert.Kernel15Ideal Cert.Kernel15Ideal.Gen Idealize.ShloMosaic Idealize.ShloMosaic.TcCoe Idealize.SL.Sem
open Cert.Mm

theorem hz : (![0, 0] : Fin 2 → Nat) = fun _ => 0 := funext fun a => by fin_cases a <;> rfl

section
variable {F : FTy → Type} [FloatOps F]
variable (c : Dev nD) (i : grid0.Coords) (a3 : Memref sig .tc .vmem S1088x512 .bf16) (h3 : a3.IsWhole)
  (a4 : Memref sig .tc .vmem S1088x1024 .bf16) (h4 : a4.IsWhole) (a5 : Memref sig .tc .vmem S512x1024 .bf16)
  (h5 : a5.IsWhole) (a6 : Memref sig .tc .vmem S512x1024 .f32) (h6 : a6.IsWhole)
  (x0 : Vec F S1088x512 .bf16) (x1 : Vec F S1088x1024 .bf16) (xs : Vec F S512x1024 .f32)

/-- The first point of a run stores its product. -/
theorem sout_A (c0 : cond0_0 i) (c1 : ¬cond0_1 i) (c2 : ¬cond0_2 i) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero hz]
  unfold k0_pay2
  simp only [View.readAt_eq_ld, h3.read_unread, h4.read_unread, View.ld_unit_zero (S := S1088x512) hz, View.ld_unit_zero (S := S1088x1024) hz,
    shapeCast_self]

/-- A later point adds its product, … -/
theorem sout_B (c0 : ¬cond0_0 i) (c1 : cond0_1 i) (c2 : ¬cond0_2 i) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero hz]
  unfold k0_pay3
  simp only [View.readAt_eq_ld, h3.read_unread, h4.read_unread, h6.read_unread, View.ld_unit_zero (S := S1088x512) hz, View.ld_unit_zero (S := S1088x1024) hz, View.ld_unit_zero (S := S512x1024) hz,
    shapeCast_self]

/-- … the last one too, … -/
theorem sout_C (c0 : ¬cond0_0 i) (c1 : cond0_1 i) (c2 : cond0_2 i) :
    sout0_C_0 c i a3 h3 a4 h4 a5 h5 a6 h6 c0 c1 c2 x0 x1 xs = addf xs (k0_pay1 x0 x1) := by
  unfold sout0_C_0
  rw [View.read_writes_eq_canon _ _ _ (scover0_C_0 c i a3 h3 a4 h4 a5 h5 a6 h6 c0 c1 c2 x0 x1 xs)]
  unfold kernelRun0_C
  dsimp only
  sl_unfold_words
  rw [View.canon_unit_zero hz]
  unfold k0_pay3
  simp only [View.readAt_eq_ld, h3.read_unread, h4.read_unread, h6.read_unread, View.ld_unit_zero (S := S1088x512) hz, View.ld_unit_zero (S := S1088x1024) hz, View.ld_unit_zero (S := S512x1024) hz,
    shapeCast_self]

/-- … which writes the sum, rounded, to the output block. -/
theorem out_C (c0 : ¬cond0_0 i) (c1 : cond0_1 i) (c2 : cond0_2 i) :
    out0_C_2 c i a3 h3 a4 h4 a5 h5 a6 h6 c0 c1 c2 x0 x1 xs = k0_pay4 (addf xs (k0_pay1 x0 x1)) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz, View.readCov_unit_zero (S := S512x1024) _ hz]
  unfold k0_pay3
  simp only [View.readAt_eq_ld, h3.read_unread, h4.read_unread, h6.read_unread, View.ld_unit_zero (S := S1088x512) hz, View.ld_unit_zero (S := S1088x1024) hz, View.ld_unit_zero (S := S512x1024) hz,
    shapeCast_self]

end

/-- A point's product at an index. -/
theorem pay1_apply (x0 : Vec Ideal S1088x512 .bf16) (x1 : Vec Ideal S1088x1024 .bf16) (y : S512x1024.Idx) :
    (k0_pay1 x0 x1 y : EReal) = ∑ k : Fin 1088, (x0 (ix2 k (y 0)) : EReal) * x1 (ix2 k (y 1)) := by
  pointwise [k0_pay1]

/-! ## The staged blocks, and the fold over a run -/

section
variable (m : (ℓ : Loc nD τ sig) → Buf (Elt Ideal) ℓ) (c : Dev nD)

/-- The two factors. -/
abbrev A : S4352x512.Idx → EReal := m ((c : Thread nD τ).loc main_arg0)
abbrev B : S4352x1024.Idx → EReal := m ((c : Thread nD τ).loc main_arg1)

theorem idx : ∀ t : Fin cfg0.N, win0_0.index t = ![t.val % 4, 0] ∧ win0_1.index t = ![t.val % 4, 0] ∧
    win0_2.index t = ![0, 0] := by decide +kernel

theorem tlt (t : Fin cfg0.N) : t.val < 4 := lt_of_lt_of_eq t.isLt N_0

theorem iblk0 (t : Fin cfg0.N) (r : Fin 1088) (d : Fin 512) :
    (iblk m c 0 t (ix2 r d) : EReal) = nat2 (A m c) (1088 * (t.val % 4) + r.val) d.val := by
  have := tlt t
  rw [nat2_pos _ (show 1088 * (t.val % 4) + r.val < 4352 by omega) d.isLt]
  blk_ext [iblk, Gen.V, idx t]

theorem iblk1 (t : Fin cfg0.N) (r : Fin 1088) (d : Fin 1024) :
    (iblk m c 1 t (ix2 r d) : EReal) = nat2 (B m c) (1088 * (t.val % 4) + r.val) d.val := by
  have := tlt t
  rw [nat2_pos _ (show 1088 * (t.val % 4) + r.val < 4352 by omega) d.isLt]
  blk_ext [iblk, Gen.V, idx t]

/-- Point `n`'s product at an index of the block. -/
def M (n : ℕ) (y : S512x1024.Idx) : EReal :=
  ∑ k : Fin 1088, nat2 (A m c) (1088 * (n % 4) + k.val) ((y 0).val) *
    nat2 (B m c) (1088 * (n % 4) + k.val) ((y 1).val)

theorem pay1_M (t : Fin cfg0.N) (y : S512x1024.Idx) : (k0_pay1 (iblk m c 0 t) (iblk m c 1 t) y : EReal) = M m c t.val y := by
  rw [pay1_apply]
  unfold M
  exact Finset.sum_congr rfl fun k _ => congrArg₂ _ (iblk0 m c t k (y 0)) (iblk1 m c t k (y 1))

/-- What the scratch holds after a point. -/
theorem scratch (q j : ℕ) (hj : j < 4) (h : 4 * q + j < cfg0.N) (y : S512x1024.Idx) :
    ((outsAt0 m c (4 * q + j) h).2 y : EReal) = ∑ s ∈ Finset.range (j + 1), M m c (4 * q + s) y := by
  refine run_sum (ι := S512x1024.Idx) (β := EReal) (fun n h => (outsAt0 m c n h).2) 4 (M m c) ?_ ?_ q j hj h y
  · intro n h hn i
    have hb := tlt ⟨n, h⟩
    have e := outsAt0_A m c ⟨n, h⟩ hn (by dsimp only at hb ⊢; omega) (by dsimp only; omega)
    dsimp only at e ⊢
    rw [e]
    dsimp only
    rw [sout_A]
    exact pay1_M m c ⟨n, h⟩ i
  · intro n h hn i
    by_cases h2 : (n + 1) % 4 = 3
    · have e := outsAt0_C m c ⟨n + 1, h⟩ hn (by dsimp only; omega) h2
      dsimp only at e ⊢
      rw [e]
      dsimp only
      rw [sout_C]
      exact congrArg _ (pay1_M m c ⟨n + 1, h⟩ i)
    · have e := outsAt0_B m c ⟨n + 1, h⟩ hn (by dsimp only; omega) h2
      dsimp only at e ⊢
      rw [e]
      dsimp only
      rw [sout_B]
      exact congrArg _ (pay1_M m c ⟨n + 1, h⟩ i)

/-- The result array at an index. -/
theorem arr : (dats m 0 c).arrAt 2 cfg0.N = fun i : S512x1024.Idx =>
    ∑ k : Fin 4352, nat2 (A m c) k.val ((i 0).val) * nat2 (B m c) k.val ((i 1).val) := by
  refine (dats m 0 c).arrAt_eq_of_covers 2 _ (by decide +kernel) fun t hf y => ?_
  have ht := tlt t
  have hm : t.val % 4 = 3 := by have := (flush0_2 t).mp hf; omega
  rw [after0_2]
  have e := outsAt0_C m c t (by omega) (by omega) hm
  have e2 := congrArg Prod.snd e
  dsimp only at e2
  rw [sout_C] at e2
  rw [e]
  dsimp only
  rw [out_C, ← e2]
  have hs := scratch m c (t.val / 4) 3 (by decide) (by have := t.isLt; omega) y
  have et : 4 * (t.val / 4) + 3 = t.val := by omega
  simp only [et] at hs
  refine (show _ = ((outsAt0 m c t.val t.isLt).2 y : EReal) from rfl).trans (hs.trans ?_)
  have hsum := sum_blocks (fun k => nat2 (A m c) k ((y 0).val) *
    nat2 (B m c) k ((y 1).val)) 1088 4
  refine (Finset.sum_congr rfl fun s hs => ?_).trans (hsum.trans ?_)
  · have hs4 : s < 4 := Finset.mem_range.mp hs
    unfold M
    rw [show (4 * (t.val / 4) + s) % 4 = s by omega]
  · refine Finset.sum_congr rfl fun k _ => ?_
    congr 2 <;> blk_simp [idx t] <;> omega

end

open Cert.Reference15Ideal.Read in
/-- The reference's result at an index is the same. -/
theorem ref (x0 : S4352x512.Idx → EReal) (x1 : S4352x1024.Idx → EReal) :
    (val_main_v6 (F := Ideal) x0 x1 : S512x1024.Idx → EReal) = fun i =>
      ∑ k : Fin 4352, nat2 x0 k.val ((i 0).val) * nat2 x1 k.val ((i 1).val) := by
  funext i
  rw [val_main_v6_apply, val_main_v5_apply]
  refine (val_main_v4_apply x0 x1 _).trans (Finset.sum_congr rfl fun k _ => ?_)
  rw [mul_comm]
  exact congrArg₂ _ (nat2_idx x0 (ridx_main_v4 (idx_main_v5 i) k)).symm
    (nat2_idx x1 (lidx_main_v4 (idx_main_v5 i) k)).symm

theorem frame_reference : Cert.quiescent_Reference15Ideal := fun m ρ _ =>
  (θ_run Cert.Reference15Ideal.defs _ _).mono
    (fun r h => ⟨fun c => (h c).2, Idealize.ShloMosaic.sem_eq_zero_of_no_sems (by decide) r.2⟩)
    (Cert.Reference15Ideal.Value.run (F := Ideal) m ρ)

/-- The kernel's gradient is the reference's. -/
theorem algebraic : Cert.algebraic_Kernel15Ideal_Reference15Ideal := by
  intro m g m' g' _ hagree
  refine ⟨fun c => (dats m 0 c).arrAt 2 cfg0.N, Cert.Kernel15Ideal.Value.run_blocks m g, ?_⟩
  refine (θ_run Cert.Reference15Ideal.defs _ _).mono (fun r h c => ?_) (Cert.Reference15Ideal.Value.run (F := Ideal) m' g')
  obtain ⟨e0, e1⟩ := hagree c
  refine ⟨(h c).1.trans ?_, (h c).2⟩
  rw [Cert.Reference15Ideal.Read.val_main_v6_eq, e0, e1]
  exact (ref _ _).trans (arr m c).symm

end Cert.Kernel15Ideal.Mm

end
-- ==== Proof.Mm.Branch.lean ====
/- A half-width branch's output projection, as the kernel computes it: `x · w` tile by tile. -/
module

public import proofs.«01_k».proof.Proof.Mm.Sum
public import proofs.«01_k».proof.Defs
public import proofs.«01_k».proof.Proof.Gen.Kernel16Ideal.Value
public import proofs.«01_k».proof.Proof.Gen.Reference16Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel16Ideal.Mm

open Cert.Kernel16Ideal Cert.Kernel16Ideal.Gen Idealize.ShloMosaic Idealize.ShloMosaic.TcCoe Idealize.SL.Sem
open Cert.Mm

theorem hz : (![0, 0] : Fin 2 → Nat) = fun _ => 0 := funext fun a => by fin_cases a <;> rfl

/-- The block a grid point writes. -/
theorem out_eq {F : FTy → Type} [FloatOps F] (x0 : Vec F S1088x512 .bf16) (x1 : Vec F S512x1024 .bf16) :
    out0_2 x0 x1 = k0_pay1 x0 x1 := by
  unfold out0_2
  rw [View.canon_unit_zero hz]
  simp only [View.ld_unit_zero (S := S1088x512) hz, View.ld_unit_zero (S := S512x1024) hz]

/-- A point's product at an index. -/
theorem pay1_apply (x0 : Vec Ideal S1088x512 .bf16) (x1 : Vec Ideal S512x1024 .bf16) (y : S1088x1024.Idx) :
    (k0_pay1 x0 x1 y : EReal) = ∑ k : Fin 512, (x0 (ix2 (y 0) k) : EReal) * x1 (ix2 k (y 1)) := by
  pointwise [k0_pay1]

/-! ## The staged blocks -/

section
variable (m : (ℓ : Loc nD τ sig) → Buf (Elt Ideal) ℓ) (c : Dev nD)

/-- The two factors. -/
abbrev A : S4352x512.Idx → EReal := m ((c : Thread nD τ).loc main_arg0)
abbrev B : S512x1024.Idx → EReal := m ((c : Thread nD τ).loc main_arg1)

theorem idx : ∀ t : Fin cfg0.N, win0_0.index t = ![t.val, 0] ∧ win0_1.index t = ![0, 0] ∧
    win0_2.index t = ![t.val, 0] := by decide +kernel

theorem tlt (t : Fin cfg0.N) : t.val < 4 := lt_of_lt_of_eq t.isLt N_0

theorem iblk0 (t : Fin cfg0.N) (r : Fin 1088) (d : Fin 512) :
    (iblk m c 0 t (ix2 r d) : EReal) = nat2 (A m c) (1088 * (t.val) + r.val) d.val := by
  have := tlt t
  rw [nat2_pos _ (show 1088 * (t.val) + r.val < 4352 by omega) d.isLt]
  blk_ext [iblk, Gen.V, idx t]

theorem iblk1 (t : Fin cfg0.N) (r : Fin 512) (d : Fin 1024) :
    (iblk m c 1 t (ix2 r d) : EReal) = nat2 (B m c) r.val d.val := by
  have := tlt t
  rw [nat2_pos _ r.isLt d.isLt]
  blk_ext [iblk, Gen.V, idx t]

/-- The result array at an index. -/
theorem arr : (dats m 0 c).arrAt 2 cfg0.N = fun i : S4352x1024.Idx =>
    ∑ k : Fin 512, nat2 (A m c) ((i 0).val) k.val * nat2 (B m c) k.val ((i 1).val) := by
  refine (dats m 0 c).arrAt_eq_of_covers 2 _ (by decide +kernel) fun t hf y => ?_
  have ht := tlt t
  rw [after0_2, out_eq]
  refine (pay1_apply _ _ y).trans (Finset.sum_congr rfl fun k _ => congrArg₂ _
    ((iblk0 m c t (y 0) k).trans ?_) ((iblk1 m c t k (y 1)).trans ?_))
  all_goals congr 1 <;> blk_simp [idx t] <;> omega

end

open Cert.Reference16Ideal.Read in
/-- The reference's result at an index is the same. -/
theorem ref (x0 : S4352x512.Idx → EReal) (x1 : S512x1024.Idx → EReal) :
    (val_main_v3 (F := Ideal) x0 x1 : S4352x1024.Idx → EReal) = fun i =>
      ∑ k : Fin 512, nat2 x0 ((i 0).val) k.val * nat2 x1 k.val ((i 1).val) := by
  funext i
  rw [val_main_v3_apply]
  refine (val_main_v2_apply x0 x1 _).trans (Finset.sum_congr rfl fun k _ => ?_)
  exact congrArg₂ _ (nat2_idx x0 (lidx_main_v2 i k)).symm
    (nat2_idx x1 (ridx_main_v2 i k)).symm

theorem frame_reference : Cert.quiescent_Reference16Ideal := fun m ρ _ =>
  (θ_run Cert.Reference16Ideal.defs _ _).mono
    (fun r h => ⟨fun c => (h c).2, Idealize.ShloMosaic.sem_eq_zero_of_no_sems (by decide) r.2⟩)
    (Cert.Reference16Ideal.Value.run (F := Ideal) m ρ)

/-- The kernel's product is the reference's. -/
theorem algebraic : Cert.algebraic_Kernel16Ideal_Reference16Ideal := by
  intro m g m' g' _ hagree
  refine ⟨fun c => (dats m 0 c).arrAt 2 cfg0.N, Cert.Kernel16Ideal.Value.run_blocks m g, ?_⟩
  refine (θ_run Cert.Reference16Ideal.defs _ _).mono (fun r h c => ?_) (Cert.Reference16Ideal.Value.run (F := Ideal) m' g')
  obtain ⟨e0, e1⟩ := hagree c
  refine ⟨(h c).1.trans ?_, (h c).2⟩
  rw [Cert.Reference16Ideal.Read.val_main_v3_eq, e0, e1]
  exact (ref _ _).trans (arr m c).symm

end Cert.Kernel16Ideal.Mm

end
-- ==== Proof.Mm.Mod.lean ====
/- The modulation of a layer, as the kernel computes it: the product of the activated condition with its weight. -/
module

public import proofs.«01_k».proof.Proof.Mm.Sum
public import proofs.«01_k».proof.Defs
public import proofs.«01_k».proof.Proof.Gen.Kernel17Ideal.Value
public import proofs.«01_k».proof.Proof.Gen.Reference17Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel17Ideal.Mm

open Cert.Kernel17Ideal Cert.Kernel17Ideal.Gen Idealize.ShloMosaic Idealize.ShloMosaic.TcCoe Idealize.SL.Sem
open Cert.Mm

theorem hz : (![0, 0] : Fin 2 → Nat) = fun _ => 0 := funext fun a => by fin_cases a <;> rfl

/-- The block a grid point writes. -/
theorem out_eq {F : FTy → Type} [FloatOps F] (x0 : Vec F S8x1024 .bf16) (x1 : Vec F S1024x1024 .bf16) :
    out0_2 x0 x1 = k0_pay1 x0 x1 := by
  unfold out0_2
  rw [View.canon_unit_zero hz]
  simp only [View.ld_unit_zero (S := S8x1024) hz, View.ld_unit_zero (S := S1024x1024) hz]

/-- A point's product at an index. -/
theorem pay1_apply (x0 : Vec Ideal S8x1024 .bf16) (x1 : Vec Ideal S1024x1024 .bf16) (y : S8x1024.Idx) :
    (k0_pay1 x0 x1 y : EReal) = ∑ k : Fin 1024, (x0 (ix2 (y 0) k) : EReal) * x1 (ix2 k (y 1)) := by
  pointwise [k0_pay1]

/-! ## The staged blocks -/

section
variable (m : (ℓ : Loc nD τ sig) → Buf (Elt Ideal) ℓ) (c : Dev nD)

/-- The two factors. -/
abbrev A : S8x1024.Idx → EReal := m ((c : Thread nD τ).loc main_arg0)
abbrev B : S1024x6144.Idx → EReal := m ((c : Thread nD τ).loc main_arg1)

theorem idx : ∀ t : Fin cfg0.N, win0_0.index t = ![0, 0] ∧ win0_1.index t = ![0, t.val] ∧
    win0_2.index t = ![0, t.val] := by decide +kernel

theorem tlt (t : Fin cfg0.N) : t.val < 6 := lt_of_lt_of_eq t.isLt N_0

theorem iblk0 (t : Fin cfg0.N) (r : Fin 8) (d : Fin 1024) :
    (iblk m c 0 t (ix2 r d) : EReal) = nat2 (A m c) r.val d.val := by
  have := tlt t
  rw [nat2_pos _ r.isLt d.isLt]
  blk_ext [iblk, Gen.V, idx t]

theorem iblk1 (t : Fin cfg0.N) (r : Fin 1024) (d : Fin 1024) :
    (iblk m c 1 t (ix2 r d) : EReal) = nat2 (B m c) r.val (1024 * (t.val) + d.val) := by
  have := tlt t
  rw [nat2_pos _ r.isLt (show 1024 * (t.val) + d.val < 6144 by omega)]
  blk_ext [iblk, Gen.V, idx t]

/-- The result array at an index. -/
theorem arr : (dats m 0 c).arrAt 2 cfg0.N = fun i : S8x6144.Idx =>
    ∑ k : Fin 1024, nat2 (A m c) ((i 0).val) k.val * nat2 (B m c) k.val ((i 1).val) := by
  refine (dats m 0 c).arrAt_eq_of_covers 2 _ (by decide +kernel) fun t hf y => ?_
  have ht := tlt t
  rw [after0_2, out_eq]
  refine (pay1_apply _ _ y).trans (Finset.sum_congr rfl fun k _ => congrArg₂ _
    ((iblk0 m c t (y 0) k).trans ?_) ((iblk1 m c t k (y 1)).trans ?_))
  all_goals congr 1 <;> blk_simp [idx t] <;> omega

end

open Cert.Reference17Ideal.Read in
/-- The reference's result at an index is the same. -/
theorem ref (x0 : S8x1024.Idx → EReal) (x1 : S1024x6144.Idx → EReal) :
    (val_main_v2 (F := Ideal) x0 x1 : S8x6144.Idx → EReal) = fun i =>
      ∑ k : Fin 1024, nat2 x0 ((i 0).val) k.val * nat2 x1 k.val ((i 1).val) := by
  funext i
  refine (val_main_v2_apply x0 x1 _).trans (Finset.sum_congr rfl fun k _ => ?_)
  exact congrArg₂ _ (nat2_idx x0 (lidx_main_v2 i k)).symm
    (nat2_idx x1 (ridx_main_v2 i k)).symm

theorem frame_reference : Cert.quiescent_Reference17Ideal := fun m ρ _ =>
  (θ_run Cert.Reference17Ideal.defs _ _).mono
    (fun r h => ⟨fun c => (h c).2, Idealize.ShloMosaic.sem_eq_zero_of_no_sems (by decide) r.2⟩)
    (Cert.Reference17Ideal.Value.run (F := Ideal) m ρ)

/-- The kernel's product is the reference's. -/
theorem algebraic : Cert.algebraic_Kernel17Ideal_Reference17Ideal := by
  intro m g m' g' _ hagree
  refine ⟨fun c => (dats m 0 c).arrAt 2 cfg0.N, Cert.Kernel17Ideal.Value.run_blocks m g, ?_⟩
  refine (θ_run Cert.Reference17Ideal.defs _ _).mono (fun r h c => ?_) (Cert.Reference17Ideal.Value.run (F := Ideal) m' g')
  obtain ⟨e0, e1⟩ := hagree c
  refine ⟨(h c).1.trans ?_, (h c).2⟩
  rw [Cert.Reference17Ideal.Read.val_main_v2_eq, e0, e1]
  exact (ref _ _).trans (arr m c).symm

end Cert.Kernel17Ideal.Mm

end
-- ==== Proof.Mm.DwMod.lean ====
/- The gradient of the modulation's weight, as the kernel computes it: `aᵀ · dm`. -/
module

public import proofs.«01_k».proof.Proof.Mm.Sum
public import proofs.«01_k».proof.Defs
public import proofs.«01_k».proof.Proof.Gen.Kernel18Ideal.Value
public import proofs.«01_k».proof.Proof.Gen.Reference18Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel18Ideal.Mm

open Cert.Kernel18Ideal Cert.Kernel18Ideal.Gen Idealize.ShloMosaic Idealize.ShloMosaic.TcCoe Idealize.SL.Sem
open Cert.Mm

theorem hz : (![0, 0] : Fin 2 → Nat) = fun _ => 0 := funext fun a => by fin_cases a <;> rfl

/-- The block a grid point writes. -/
theorem out_eq {F : FTy → Type} [FloatOps F] (x0 : Vec F S8x1024 .bf16) (x1 : Vec F S8x1024 .f32) :
    out0_2 x0 x1 = k0_pay1 x0 x1 := by
  unfold out0_2
  rw [View.canon_unit_zero hz]
  simp only [View.ld_unit_zero (S := S8x1024) hz]

/-- A point's product at an index. -/
theorem pay1_apply (x0 : Vec Ideal S8x1024 .bf16) (x1 : Vec Ideal S8x1024 .f32) (y : S1024x1024.Idx) :
    (k0_pay1 x0 x1 y : EReal) = ∑ k : Fin 8, (x0 (ix2 k (y 0)) : EReal) * x1 (ix2 k (y 1)) := by
  pointwise [k0_pay1]

/-! ## The staged blocks -/

section
variable (m : (ℓ : Loc nD τ sig) → Buf (Elt Ideal) ℓ) (c : Dev nD)

/-- The two factors. -/
abbrev A : S8x1024.Idx → EReal := m ((c : Thread nD τ).loc main_arg0)
abbrev B : S8x6144.Idx → EReal := m ((c : Thread nD τ).loc main_arg1)

theorem idx : ∀ t : Fin cfg0.N, win0_0.index t = ![0, 0] ∧ win0_1.index t = ![0, t.val] ∧
    win0_2.index t = ![0, t.val] := by decide +kernel

theorem tlt (t : Fin cfg0.N) : t.val < 6 := lt_of_lt_of_eq t.isLt N_0

theorem iblk0 (t : Fin cfg0.N) (r : Fin 8) (d : Fin 1024) :
    (iblk m c 0 t (ix2 r d) : EReal) = nat2 (A m c) r.val d.val := by
  have := tlt t
  rw [nat2_pos _ r.isLt d.isLt]
  blk_ext [iblk, Gen.V, idx t]

theorem iblk1 (t : Fin cfg0.N) (r : Fin 8) (d : Fin 1024) :
    (iblk m c 1 t (ix2 r d) : EReal) = nat2 (B m c) r.val (1024 * (t.val) + d.val) := by
  have := tlt t
  rw [nat2_pos _ r.isLt (show 1024 * (t.val) + d.val < 6144 by omega)]
  blk_ext [iblk, Gen.V, idx t]

/-- The result array at an index. -/
theorem arr : (dats m 0 c).arrAt 2 cfg0.N = fun i : S1024x6144.Idx =>
    ∑ k : Fin 8, nat2 (A m c) k.val ((i 0).val) * nat2 (B m c) k.val ((i 1).val) := by
  refine (dats m 0 c).arrAt_eq_of_covers 2 _ (by decide +kernel) fun t hf y => ?_
  have ht := tlt t
  rw [after0_2, out_eq]
  refine (pay1_apply _ _ y).trans (Finset.sum_congr rfl fun k _ => congrArg₂ _
    ((iblk0 m c t k (y 0)).trans ?_) ((iblk1 m c t k (y 1)).trans ?_))
  all_goals congr 1 <;> blk_simp [idx t] <;> omega

end

open Cert.Reference18Ideal.Read in
/-- The reference's result at an index is the same. -/
theorem ref (x0 : S8x1024.Idx → EReal) (x1 : S8x6144.Idx → EReal) :
    (val_main_v5 (F := Ideal) x0 x1 : S1024x6144.Idx → EReal) = fun i =>
      ∑ k : Fin 8, nat2 x0 k.val ((i 0).val) * nat2 x1 k.val ((i 1).val) := by
  funext i
  rw [val_main_v5_apply, val_main_v4_apply]
  refine (val_main_v3_apply x0 x1 _).trans (Finset.sum_congr rfl fun k _ => ?_)
  rw [mul_comm]
  exact congrArg₂ _ (nat2_idx x0 (ridx_main_v3 (idx_main_v4 i) k)).symm
    (nat2_idx x1 (lidx_main_v3 (idx_main_v4 i) k)).symm

theorem frame_reference : Cert.quiescent_Reference18Ideal := fun m ρ _ =>
  (θ_run Cert.Reference18Ideal.defs _ _).mono
    (fun r h => ⟨fun c => (h c).2, Idealize.ShloMosaic.sem_eq_zero_of_no_sems (by decide) r.2⟩)
    (Cert.Reference18Ideal.Value.run (F := Ideal) m ρ)

/-- The kernel's gradient is the reference's. -/
theorem algebraic : Cert.algebraic_Kernel18Ideal_Reference18Ideal := by
  intro m g m' g' _ hagree
  refine ⟨fun c => (dats m 0 c).arrAt 2 cfg0.N, Cert.Kernel18Ideal.Value.run_blocks m g, ?_⟩
  refine (θ_run Cert.Reference18Ideal.defs _ _).mono (fun r h c => ?_) (Cert.Reference18Ideal.Value.run (F := Ideal) m' g')
  obtain ⟨e0, e1⟩ := hagree c
  refine ⟨(h c).1.trans ?_, (h c).2⟩
  rw [Cert.Reference18Ideal.Read.val_main_v5_eq, e0, e1]
  exact (ref _ _).trans (arr m c).symm

end Cert.Kernel18Ideal.Mm

end
-- ==== Proof.Mm.DxMod.lean ====
/- The gradient of the modulation's activated condition, as the kernel computes it: `dm · wᵀ`, six blocks of columns of
   `dm` at a time. -/
module

public import proofs.«01_k».proof.Proof.Mm.Sum
public import proofs.«01_k».proof.Defs
public import proofs.«01_k».proof.Proof.Gen.Kernel19Ideal.Value
public import proofs.«01_k».proof.Proof.Gen.Reference19Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel19Ideal.Mm

open Cert.Kernel19Ideal Cert.Kernel19Ideal.Gen Idealize.ShloMosaic Idealize.ShloMosaic.TcCoe Idealize.SL.Sem
open Cert.Mm

theorem hz : (![0, 0] : Fin 2 → Nat) = fun _ => 0 := funext fun a => by fin_cases a <;> rfl

section
variable {F : FTy → Type} [FloatOps F]
variable (c : Dev nD) (i : grid0.Coords) (a3 : Memref sig .tc .vmem S8x1024 .f32) (h3 : a3.IsWhole)
  (a4 : Memref sig .tc .vmem S1024x1024 .bf16) (h4 : a4.IsWhole) (a5 : Memref sig .tc .vmem S8x1024 .f32)
  (h5 : a5.IsWhole) (a6 : Memref sig .tc .vmem S8x1024 .f32) (h6 : a6.IsWhole)
  (x0 : Vec F S8x1024 .f32) (x1 : Vec F S1024x1024 .bf16) (xs : Vec F S8x1024 .f32)

/-- The first point of a run stores its product. -/
theorem sout_A (c0 : cond0_0 i) (c1 : ¬cond0_1 i) (c2 : ¬cond0_2 i) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero hz]
  unfold k0_pay2
  simp only [View.readAt_eq_ld, h3.read_unread, h4.read_unread, View.ld_unit_zero (S := S8x1024) hz, View.ld_unit_zero (S := S1024x1024) hz,
    shapeCast_self]

/-- A later point adds its product, … -/
theorem sout_B (c0 : ¬cond0_0 i) (c1 : cond0_1 i) (c2 : ¬cond0_2 i) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero hz]
  unfold k0_pay3
  simp only [View.readAt_eq_ld, h3.read_unread, h4.read_unread, h6.read_unread, View.ld_unit_zero (S := S8x1024) hz, View.ld_unit_zero (S := S1024x1024) hz,
    shapeCast_self]

/-- … the last one too, … -/
theorem sout_C (c0 : ¬cond0_0 i) (c1 : cond0_1 i) (c2 : cond0_2 i) :
    sout0_C_0 c i a3 h3 a4 h4 a5 h5 a6 h6 c0 c1 c2 x0 x1 xs = addf xs (k0_pay1 x0 x1) := by
  unfold sout0_C_0
  rw [View.read_writes_eq_canon _ _ _ (scover0_C_0 c i a3 h3 a4 h4 a5 h5 a6 h6 c0 c1 c2 x0 x1 xs)]
  unfold kernelRun0_C
  dsimp only
  sl_unfold_words
  rw [View.canon_unit_zero hz]
  unfold k0_pay3
  simp only [View.readAt_eq_ld, h3.read_unread, h4.read_unread, h6.read_unread, View.ld_unit_zero (S := S8x1024) hz, View.ld_unit_zero (S := S1024x1024) hz,
    shapeCast_self]

/-- … which writes the sum to the output block. -/
theorem out_C (c0 : ¬cond0_0 i) (c1 : cond0_1 i) (c2 : cond0_2 i) :
    out0_C_2 c i a3 h3 a4 h4 a5 h5 a6 h6 c0 c1 c2 x0 x1 xs = addf xs (k0_pay1 x0 x1) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz, View.readCov_unit_zero (S := S8x1024) _ hz]
  unfold k0_pay3
  simp only [View.readAt_eq_ld, h3.read_unread, h4.read_unread, h6.read_unread, View.ld_unit_zero (S := S8x1024) hz, View.ld_unit_zero (S := S1024x1024) hz,
    shapeCast_self]

end

/-- A point's product at an index. -/
theorem pay1_apply (x0 : Vec Ideal S8x1024 .f32) (x1 : Vec Ideal S1024x1024 .bf16) (y : S8x1024.Idx) :
    (k0_pay1 x0 x1 y : EReal) = ∑ k : Fin 1024, (x0 (ix2 (y 0) k) : EReal) * x1 (ix2 (y 1) k) := by
  pointwise [k0_pay1]

/-! ## The staged blocks, and the fold over a run -/

section
variable (m : (ℓ : Loc nD τ sig) → Buf (Elt Ideal) ℓ) (c : Dev nD)

/-- The two factors. -/
abbrev A : S8x6144.Idx → EReal := m ((c : Thread nD τ).loc main_arg1)
abbrev B : S1024x6144.Idx → EReal := m ((c : Thread nD τ).loc main_arg0)

theorem idx : ∀ t : Fin cfg0.N, win0_0.index t = ![0, t.val % 6] ∧ win0_1.index t = ![0, t.val % 6] ∧
    win0_2.index t = ![0, 0] := by decide +kernel

theorem tlt (t : Fin cfg0.N) : t.val < 6 := lt_of_lt_of_eq t.isLt N_0

theorem iblk0 (t : Fin cfg0.N) (r : Fin 8) (d : Fin 1024) :
    (iblk m c 0 t (ix2 r d) : EReal) = nat2 (A m c) r.val (1024 * (t.val % 6) + d.val) := by
  have := tlt t
  rw [nat2_pos _ r.isLt (show 1024 * (t.val % 6) + d.val < 6144 by omega)]
  blk_ext [iblk, Gen.V, idx t]

theorem iblk1 (t : Fin cfg0.N) (r : Fin 1024) (d : Fin 1024) :
    (iblk m c 1 t (ix2 r d) : EReal) = nat2 (B m c) r.val (1024 * (t.val % 6) + d.val) := by
  have := tlt t
  rw [nat2_pos _ r.isLt (show 1024 * (t.val % 6) + d.val < 6144 by omega)]
  blk_ext [iblk, Gen.V, idx t]

/-- Point `n`'s product at an index of the block. -/
def M (n : ℕ) (y : S8x1024.Idx) : EReal :=
  ∑ k : Fin 1024, nat2 (A m c) ((y 0).val) (1024 * (n % 6) + k.val) *
    nat2 (B m c) ((y 1).val) (1024 * (n % 6) + k.val)

theorem pay1_M (t : Fin cfg0.N) (y : S8x1024.Idx) : (k0_pay1 (iblk m c 0 t) (iblk m c 1 t) y : EReal) = M m c t.val y := by
  rw [pay1_apply]
  unfold M
  exact Finset.sum_congr rfl fun k _ => congrArg₂ _ (iblk0 m c t (y 0) k) (iblk1 m c t (y 1) k)

/-- What the scratch holds after a point. -/
theorem scratch (q j : ℕ) (hj : j < 6) (h : 6 * q + j < cfg0.N) (y : S8x1024.Idx) :
    ((outsAt0 m c (6 * q + j) h).2 y : EReal) = ∑ s ∈ Finset.range (j + 1), M m c (6 * q + s) y := by
  refine run_sum (ι := S8x1024.Idx) (β := EReal) (fun n h => (outsAt0 m c n h).2) 6 (M m c) ?_ ?_ q j hj h y
  · intro n h hn i
    have hb := tlt ⟨n, h⟩
    have e := outsAt0_A m c ⟨n, h⟩ hn (by dsimp only at hb ⊢; omega) (by dsimp only; omega)
    dsimp only at e ⊢
    rw [e]
    dsimp only
    rw [sout_A]
    exact pay1_M m c ⟨n, h⟩ i
  · intro n h hn i
    by_cases h2 : (n + 1) % 6 = 5
    · have e := outsAt0_C m c ⟨n + 1, h⟩ hn (by dsimp only; omega) h2
      dsimp only at e ⊢
      rw [e]
      dsimp only
      rw [sout_C]
      exact congrArg _ (pay1_M m c ⟨n + 1, h⟩ i)
    · have e := outsAt0_B m c ⟨n + 1, h⟩ hn (by dsimp only; omega) h2
      dsimp only at e ⊢
      rw [e]
      dsimp only
      rw [sout_B]
      exact congrArg _ (pay1_M m c ⟨n + 1, h⟩ i)

/-- The result array at an index. -/
theorem arr : (dats m 0 c).arrAt 2 cfg0.N = fun i : S8x1024.Idx =>
    ∑ k : Fin 6144, nat2 (A m c) ((i 0).val) k.val * nat2 (B m c) ((i 1).val) k.val := by
  refine (dats m 0 c).arrAt_eq_of_covers 2 _ (by decide +kernel) fun t hf y => ?_
  have ht := tlt t
  have hm : t.val % 6 = 5 := by have := (flush0_2 t).mp hf; omega
  rw [after0_2]
  have e := outsAt0_C m c t (by omega) (by omega) hm
  have e2 := congrArg Prod.snd e
  dsimp only at e2
  rw [sout_C] at e2
  rw [e]
  dsimp only
  rw [out_C, ← e2]
  have hs := scratch m c (t.val / 6) 5 (by decide) (by have := t.isLt; omega) y
  have et : 6 * (t.val / 6) + 5 = t.val := by omega
  simp only [et] at hs
  refine (show _ = ((outsAt0 m c t.val t.isLt).2 y : EReal) from rfl).trans (hs.trans ?_)
  have hsum := sum_blocks (fun k => nat2 (A m c) ((y 0).val) k *
    nat2 (B m c) ((y 1).val) k) 1024 6
  refine (Finset.sum_congr rfl fun s hs => ?_).trans (hsum.trans ?_)
  · have hs4 : s < 6 := Finset.mem_range.mp hs
    unfold M
    rw [show (6 * (t.val / 6) + s) % 6 = s by omega]
  · refine Finset.sum_congr rfl fun k _ => ?_
    congr 2 <;> blk_simp [idx t] <;> omega

end

open Cert.Reference19Ideal.Read in
/-- The reference's result at an index is the same. -/
theorem ref (x0 : S1024x6144.Idx → EReal) (x1 : S8x6144.Idx → EReal) :
    (val_main_v3 (F := Ideal) x0 x1 : S8x1024.Idx → EReal) = fun i =>
      ∑ k : Fin 6144, nat2 x1 ((i 0).val) k.val * nat2 x0 ((i 1).val) k.val := by
  funext i
  refine (val_main_v3_apply x0 x1 _).trans (Finset.sum_congr rfl fun k _ => ?_)
  exact congrArg₂ _ (nat2_idx x1 (lidx_main_v3 i k)).symm
    (nat2_idx x0 (ridx_main_v3 i k)).symm

theorem frame_reference : Cert.quiescent_Reference19Ideal := fun m ρ _ =>
  (θ_run Cert.Reference19Ideal.defs _ _).mono
    (fun r h => ⟨fun c => (h c).2, Idealize.ShloMosaic.sem_eq_zero_of_no_sems (by decide) r.2⟩)
    (Cert.Reference19Ideal.Value.run (F := Ideal) m ρ)

/-- The kernel's gradient is the reference's. -/
theorem algebraic : Cert.algebraic_Kernel19Ideal_Reference19Ideal := by
  intro m g m' g' _ hagree
  refine ⟨fun c => (dats m 0 c).arrAt 2 cfg0.N, Cert.Kernel19Ideal.Value.run_blocks m g, ?_⟩
  refine (θ_run Cert.Reference19Ideal.defs _ _).mono (fun r h c => ?_) (Cert.Reference19Ideal.Value.run (F := Ideal) m' g')
  obtain ⟨e0, e1⟩ := hagree c
  refine ⟨(h c).1.trans ?_, (h c).2⟩
  rw [Cert.Reference19Ideal.Read.val_main_v3_eq, e0, e1]
  exact (ref _ _).trans (arr m c).symm

end Cert.Kernel19Ideal.Mm

end
-- ==== Proof.Mm.Decay.lean ====
/- The decay gate's second projection, as the kernel computes it: the low-rank columns of the projected rows times the
   weight. -/
module

public import proofs.«01_k».proof.Proof.Mm.Sum
public import proofs.«01_k».proof.Defs
public import proofs.«01_k».proof.Proof.Gen.Kernel20Ideal.Value
public import proofs.«01_k».proof.Proof.Gen.Reference20Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel20Ideal.Mm

open Cert.Kernel20Ideal Cert.Kernel20Ideal.Gen Idealize.ShloMosaic Idealize.ShloMosaic.TcCoe Idealize.SL.Sem
open Cert.Mm

theorem hz : (![0, 0] : Fin 2 → Nat) = fun _ => 0 := funext fun a => by fin_cases a <;> rfl

/-- The block a grid point writes. -/
theorem out_eq {F : FTy → Type} [FloatOps F] (x0 : Vec F S1088x128 .bf16) (x1 : Vec F S128x1024 .bf16) :
    out0_2 x0 x1 = k0_pay1 x0 x1 := by
  unfold out0_2
  rw [View.canon_unit_zero hz]
  simp only [View.ld_unit_zero (S := S1088x128) hz, View.ld_unit_zero (S := S128x1024) hz]

/-- A point's product at an index. -/
theorem pay1_apply (x0 : Vec Ideal S1088x128 .bf16) (x1 : Vec Ideal S128x1024 .bf16) (y : S1088x1024.Idx) :
    (k0_pay1 x0 x1 y : EReal) = ∑ k : Fin 128, (x0 (ix2 (y 0) k) : EReal) * x1 (ix2 k (y 1)) := by
  pointwise [k0_pay1]

/-! ## The staged blocks -/

section
variable (m : (ℓ : Loc nD τ sig) → Buf (Elt Ideal) ℓ) (c : Dev nD)

/-- The two factors. -/
abbrev A : S4352x8192.Idx → EReal := m ((c : Thread nD τ).loc main_arg0)
abbrev B : S128x1024.Idx → EReal := m ((c : Thread nD τ).loc main_arg1)

theorem idx : ∀ t : Fin cfg0.N, win0_0.index t = ![t.val, 60] ∧ win0_1.index t = ![0, 0] ∧
    win0_2.index t = ![t.val, 0] := by decide +kernel

theorem tlt (t : Fin cfg0.N) : t.val < 4 := lt_of_lt_of_eq t.isLt N_0

theorem iblk0 (t : Fin cfg0.N) (r : Fin 1088) (d : Fin 128) :
    (iblk m c 0 t (ix2 r d) : EReal) = nat2 (A m c) (1088 * (t.val) + r.val) (7680 + d.val) := by
  have := tlt t
  rw [nat2_pos _ (show 1088 * (t.val) + r.val < 4352 by omega) (show 7680 + d.val < 8192 by omega)]
  blk_ext [iblk, Gen.V, idx t]

theorem iblk1 (t : Fin cfg0.N) (r : Fin 128) (d : Fin 1024) :
    (iblk m c 1 t (ix2 r d) : EReal) = nat2 (B m c) r.val d.val := by
  have := tlt t
  rw [nat2_pos _ r.isLt d.isLt]
  blk_ext [iblk, Gen.V, idx t]

/-- The result array at an index. -/
theorem arr : (dats m 0 c).arrAt 2 cfg0.N = fun i : S4352x1024.Idx =>
    ∑ k : Fin 128, nat2 (A m c) ((i 0).val) (7680 + k.val) * nat2 (B m c) k.val ((i 1).val) := by
  refine (dats m 0 c).arrAt_eq_of_covers 2 _ (by decide +kernel) fun t hf y => ?_
  have ht := tlt t
  rw [after0_2, out_eq]
  refine (pay1_apply _ _ y).trans (Finset.sum_congr rfl fun k _ => congrArg₂ _
    ((iblk0 m c t (y 0) k).trans ?_) ((iblk1 m c t k (y 1)).trans ?_))
  all_goals congr 1 <;> blk_simp [idx t] <;> omega

end

open Cert.Reference20Ideal.Read in
/-- The reference's result at an index is the same. -/
theorem ref (x0 : S4352x8192.Idx → EReal) (x1 : S128x1024.Idx → EReal) :
    (val_main_v3 (F := Ideal) x0 x1 : S4352x1024.Idx → EReal) = fun i =>
      ∑ k : Fin 128, nat2 x0 ((i 0).val) (7680 + k.val) * nat2 x1 k.val ((i 1).val) := by
  funext i
  refine (val_main_v3_apply x0 x1 _).trans (Finset.sum_congr rfl fun k _ => ?_)
  exact congrArg₂ _ ((val_main_v0_apply (F := Ideal) x0 (lidx_main_v3 i k)).trans (nat2_idx x0 (idx_main_v0 (lidx_main_v3 i k))).symm)
    (nat2_idx x1 (ridx_main_v3 i k)).symm

theorem frame_reference : Cert.quiescent_Reference20Ideal := fun m ρ _ =>
  (θ_run Cert.Reference20Ideal.defs _ _).mono
    (fun r h => ⟨fun c => (h c).2, Idealize.ShloMosaic.sem_eq_zero_of_no_sems (by decide) r.2⟩)
    (Cert.Reference20Ideal.Value.run (F := Ideal) m ρ)

/-- The kernel's product is the reference's. -/
theorem algebraic : Cert.algebraic_Kernel20Ideal_Reference20Ideal := by
  intro m g m' g' _ hagree
  refine ⟨fun c => (dats m 0 c).arrAt 2 cfg0.N, Cert.Kernel20Ideal.Value.run_blocks m g, ?_⟩
  refine (θ_run Cert.Reference20Ideal.defs _ _).mono (fun r h c => ?_) (Cert.Reference20Ideal.Value.run (F := Ideal) m' g')
  obtain ⟨e0, e1⟩ := hagree c
  refine ⟨(h c).1.trans ?_, (h c).2⟩
  rw [Cert.Reference20Ideal.Read.val_main_v3_eq, e0, e1]
  exact (ref _ _).trans (arr m c).symm

end Cert.Kernel20Ideal.Mm

end
-- ==== Proof.Mm.DwDecay.lean ====
/- The gradient of the decay gate's second weight, as the kernel computes it: the low-rank columns of the projected
   rows, transposed, times `dz`, four blocks of rows at a time. -/
module

public import proofs.«01_k».proof.Proof.Mm.Sum
public import proofs.«01_k».proof.Defs
public import proofs.«01_k».proof.Proof.Gen.Kernel21Ideal.Value
public import proofs.«01_k».proof.Proof.Gen.Reference21Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel21Ideal.Mm

open Cert.Kernel21Ideal Cert.Kernel21Ideal.Gen Idealize.ShloMosaic Idealize.ShloMosaic.TcCoe Idealize.SL.Sem
open Cert.Mm

theorem hz : (![0, 0] : Fin 2 → Nat) = fun _ => 0 := funext fun a => by fin_cases a <;> rfl

section
variable {F : FTy → Type} [FloatOps F]
variable (c : Dev nD) (i : grid0.Coords) (a3 : Memref sig .tc .vmem S1088x128 .bf16) (h3 : a3.IsWhole)
  (a4 : Memref sig .tc .vmem S1088x1024 .bf16) (h4 : a4.IsWhole) (a5 : Memref sig .tc .vmem S128x1024 .f32)
  (h5 : a5.IsWhole) (a6 : Memref sig .tc .vmem S128x1024 .f32) (h6 : a6.IsWhole)
  (x0 : Vec F S1088x128 .bf16) (x1 : Vec F S1088x1024 .bf16) (xs : Vec F S128x1024 .f32)

/-- The first point of a run stores its product. -/
theorem sout_A (c0 : cond0_0 i) (c1 : ¬cond0_1 i) (c2 : ¬cond0_2 i) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero hz]
  unfold k0_pay2
  simp only [View.readAt_eq_ld, h3.read_unread, h4.read_unread, View.ld_unit_zero (S := S1088x128) hz, View.ld_unit_zero (S := S1088x1024) hz,
    shapeCast_self]

/-- A later point adds its product, … -/
theorem sout_B (c0 : ¬cond0_0 i) (c1 : cond0_1 i) (c2 : ¬cond0_2 i) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero hz]
  unfold k0_pay3
  simp only [View.readAt_eq_ld, h3.read_unread, h4.read_unread, h6.read_unread, View.ld_unit_zero (S := S1088x128) hz, View.ld_unit_zero (S := S1088x1024) hz, View.ld_unit_zero (S := S128x1024) hz,
    shapeCast_self]

/-- … the last one too, … -/
theorem sout_C (c0 : ¬cond0_0 i) (c1 : cond0_1 i) (c2 : cond0_2 i) :
    sout0_C_0 c i a3 h3 a4 h4 a5 h5 a6 h6 c0 c1 c2 x0 x1 xs = addf xs (k0_pay1 x0 x1) := by
  unfold sout0_C_0
  rw [View.read_writes_eq_canon _ _ _ (scover0_C_0 c i a3 h3 a4 h4 a5 h5 a6 h6 c0 c1 c2 x0 x1 xs)]
  unfold kernelRun0_C
  dsimp only
  sl_unfold_words
  rw [View.canon_unit_zero hz]
  unfold k0_pay3
  simp only [View.readAt_eq_ld, h3.read_unread, h4.read_unread, h6.read_unread, View.ld_unit_zero (S := S1088x128) hz, View.ld_unit_zero (S := S1088x1024) hz, View.ld_unit_zero (S := S128x1024) hz,
    shapeCast_self]

/-- … which writes the sum to the output block. -/
theorem out_C (c0 : ¬cond0_0 i) (c1 : cond0_1 i) (c2 : cond0_2 i) :
    out0_C_2 c i a3 h3 a4 h4 a5 h5 a6 h6 c0 c1 c2 x0 x1 xs = addf xs (k0_pay1 x0 x1) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz, View.readCov_unit_zero (S := S128x1024) _ hz]
  unfold k0_pay3
  simp only [View.readAt_eq_ld, h3.read_unread, h4.read_unread, h6.read_unread, View.ld_unit_zero (S := S1088x128) hz, View.ld_unit_zero (S := S1088x1024) hz, View.ld_unit_zero (S := S128x1024) hz,
    shapeCast_self]

end

/-- A point's product at an index. -/
theorem pay1_apply (x0 : Vec Ideal S1088x128 .bf16) (x1 : Vec Ideal S1088x1024 .bf16) (y : S128x1024.Idx) :
    (k0_pay1 x0 x1 y : EReal) = ∑ k : Fin 1088, (x0 (ix2 k (y 0)) : EReal) * x1 (ix2 k (y 1)) := by
  pointwise [k0_pay1]

/-! ## The staged blocks, and the fold over a run -/

section
variable (m : (ℓ : Loc nD τ sig) → Buf (Elt Ideal) ℓ) (c : Dev nD)

/-- The two factors. -/
abbrev A : S4352x8192.Idx → EReal := m ((c : Thread nD τ).loc main_arg0)
abbrev B : S4352x1024.Idx → EReal := m ((c : Thread nD τ).loc main_arg1)

theorem idx : ∀ t : Fin cfg0.N, win0_0.index t = ![t.val % 4, 60] ∧ win0_1.index t = ![t.val % 4, 0] ∧
    win0_2.index t = ![0, 0] := by decide +kernel

theorem tlt (t : Fin cfg0.N) : t.val < 4 := lt_of_lt_of_eq t.isLt N_0

theorem iblk0 (t : Fin cfg0.N) (r : Fin 1088) (d : Fin 128) :
    (iblk m c 0 t (ix2 r d) : EReal) = nat2 (A m c) (1088 * (t.val % 4) + r.val) (7680 + d.val) := by
  have := tlt t
  rw [nat2_pos _ (show 1088 * (t.val % 4) + r.val < 4352 by omega) (show 7680 + d.val < 8192 by omega)]
  blk_ext [iblk, Gen.V, idx t]

theorem iblk1 (t : Fin cfg0.N) (r : Fin 1088) (d : Fin 1024) :
    (iblk m c 1 t (ix2 r d) : EReal) = nat2 (B m c) (1088 * (t.val % 4) + r.val) d.val := by
  have := tlt t
  rw [nat2_pos _ (show 1088 * (t.val % 4) + r.val < 4352 by omega) d.isLt]
  blk_ext [iblk, Gen.V, idx t]

/-- Point `n`'s product at an index of the block. -/
def M (n : ℕ) (y : S128x1024.Idx) : EReal :=
  ∑ k : Fin 1088, nat2 (A m c) (1088 * (n % 4) + k.val) (7680 + (y 0).val) *
    nat2 (B m c) (1088 * (n % 4) + k.val) ((y 1).val)

theorem pay1_M (t : Fin cfg0.N) (y : S128x1024.Idx) : (k0_pay1 (iblk m c 0 t) (iblk m c 1 t) y : EReal) = M m c t.val y := by
  rw [pay1_apply]
  unfold M
  exact Finset.sum_congr rfl fun k _ => congrArg₂ _ (iblk0 m c t k (y 0)) (iblk1 m c t k (y 1))

/-- What the scratch holds after a point. -/
theorem scratch (q j : ℕ) (hj : j < 4) (h : 4 * q + j < cfg0.N) (y : S128x1024.Idx) :
    ((outsAt0 m c (4 * q + j) h).2 y : EReal) = ∑ s ∈ Finset.range (j + 1), M m c (4 * q + s) y := by
  refine run_sum (ι := S128x1024.Idx) (β := EReal) (fun n h => (outsAt0 m c n h).2) 4 (M m c) ?_ ?_ q j hj h y
  · intro n h hn i
    have hb := tlt ⟨n, h⟩
    have e := outsAt0_A m c ⟨n, h⟩ hn (by dsimp only at hb ⊢; omega) (by dsimp only; omega)
    dsimp only at e ⊢
    rw [e]
    dsimp only
    rw [sout_A]
    exact pay1_M m c ⟨n, h⟩ i
  · intro n h hn i
    by_cases h2 : (n + 1) % 4 = 3
    · have e := outsAt0_C m c ⟨n + 1, h⟩ hn (by dsimp only; omega) h2
      dsimp only at e ⊢
      rw [e]
      dsimp only
      rw [sout_C]
      exact congrArg _ (pay1_M m c ⟨n + 1, h⟩ i)
    · have e := outsAt0_B m c ⟨n + 1, h⟩ hn (by dsimp only; omega) h2
      dsimp only at e ⊢
      rw [e]
      dsimp only
      rw [sout_B]
      exact congrArg _ (pay1_M m c ⟨n + 1, h⟩ i)

/-- The result array at an index. -/
theorem arr : (dats m 0 c).arrAt 2 cfg0.N = fun i : S128x1024.Idx =>
    ∑ k : Fin 4352, nat2 (A m c) k.val (7680 + (i 0).val) * nat2 (B m c) k.val ((i 1).val) := by
  refine (dats m 0 c).arrAt_eq_of_covers 2 _ (by decide +kernel) fun t hf y => ?_
  have ht := tlt t
  have hm : t.val % 4 = 3 := by have := (flush0_2 t).mp hf; omega
  rw [after0_2]
  have e := outsAt0_C m c t (by omega) (by omega) hm
  have e2 := congrArg Prod.snd e
  dsimp only at e2
  rw [sout_C] at e2
  rw [e]
  dsimp only
  rw [out_C, ← e2]
  have hs := scratch m c (t.val / 4) 3 (by decide) (by have := t.isLt; omega) y
  have et : 4 * (t.val / 4) + 3 = t.val := by omega
  simp only [et] at hs
  refine (show _ = ((outsAt0 m c t.val t.isLt).2 y : EReal) from rfl).trans (hs.trans ?_)
  have hsum := sum_blocks (fun k => nat2 (A m c) k (7680 + (y 0).val) *
    nat2 (B m c) k ((y 1).val)) 1088 4
  refine (Finset.sum_congr rfl fun s hs => ?_).trans (hsum.trans ?_)
  · have hs4 : s < 4 := Finset.mem_range.mp hs
    unfold M
    rw [show (4 * (t.val / 4) + s) % 4 = s by omega]
  · refine Finset.sum_congr rfl fun k _ => ?_
    congr 2 <;> blk_simp [idx t] <;> omega

end

open Cert.Reference21Ideal.Read in
/-- The reference's result at an index is the same. -/
theorem ref (x0 : S4352x8192.Idx → EReal) (x1 : S4352x1024.Idx → EReal) :
    (val_main_v6 (F := Ideal) x0 x1 : S128x1024.Idx → EReal) = fun i =>
      ∑ k : Fin 4352, nat2 x0 k.val (7680 + (i 0).val) * nat2 x1 k.val ((i 1).val) := by
  funext i
  rw [val_main_v6_apply]
  refine (val_main_v5_apply x0 x1 _).trans (Finset.sum_congr rfl fun k _ => ?_)
  rw [mul_comm]
  exact congrArg₂ _ ((val_main_v0_apply (F := Ideal) x0 (ridx_main_v5 (idx_main_v6 i) k)).trans (nat2_idx x0 (idx_main_v0 (ridx_main_v5 (idx_main_v6 i) k))).symm)
    (nat2_idx x1 (lidx_main_v5 (idx_main_v6 i) k)).symm

theorem frame_reference : Cert.quiescent_Reference21Ideal := fun m ρ _ =>
  (θ_run Cert.Reference21Ideal.defs _ _).mono
    (fun r h => ⟨fun c => (h c).2, Idealize.ShloMosaic.sem_eq_zero_of_no_sems (by decide) r.2⟩)
    (Cert.Reference21Ideal.Value.run (F := Ideal) m ρ)

/-- The kernel's gradient is the reference's. -/
theorem algebraic : Cert.algebraic_Kernel21Ideal_Reference21Ideal := by
  intro m g m' g' _ hagree
  refine ⟨fun c => (dats m 0 c).arrAt 2 cfg0.N, Cert.Kernel21Ideal.Value.run_blocks m g, ?_⟩
  refine (θ_run Cert.Reference21Ideal.defs _ _).mono (fun r h c => ?_) (Cert.Reference21Ideal.Value.run (F := Ideal) m' g')
  obtain ⟨e0, e1⟩ := hagree c
  refine ⟨(h c).1.trans ?_, (h c).2⟩
  rw [Cert.Reference21Ideal.Read.val_main_v6_eq, e0, e1]
  exact (ref _ _).trans (arr m c).symm

end Cert.Kernel21Ideal.Mm

end
-- ==== Proof.Mm.Cube.lean ====
/- A stack of matrices read at any three numbers. -/
module

public import proofs.«01_k».proof.Proof.Mm.Sum

@[expose] public section

noncomputable section

namespace Cert.Mm

open Idealize.ShloMosaic

/-- Matrix `g` of a stack at row `a` and column `b`, zero outside it. -/
def nat3 {G R C : ℕ} (W : (⟨3, ![G, R, C]⟩ : Shape).Idx → EReal) (g a b : ℕ) : EReal :=
  if h : g < G ∧ a < R ∧ b < C then W (ix3 ⟨g, h.1⟩ ⟨a, h.2.1⟩ ⟨b, h.2.2⟩) else 0

theorem nat3_pos {G R C : ℕ} (W : (⟨3, ![G, R, C]⟩ : Shape).Idx → EReal) {g a b : ℕ} (hg : g < G) (ha : a < R)
    (hb : b < C) : nat3 W g a b = W (ix3 ⟨g, hg⟩ ⟨a, ha⟩ ⟨b, hb⟩) := dif_pos ⟨hg, ha, hb⟩

theorem nat3_idx {G R C : ℕ} (W : (⟨3, ![G, R, C]⟩ : Shape).Idx → EReal) (i : (⟨3, ![G, R, C]⟩ : Shape).Idx) :
    nat3 W (i 0).val (i 1).val (i 2).val = W i := by
  rw [nat3_pos W (i 0).isLt (i 1).isLt (i 2).isLt]
  congr 1
  funext a
  match a with
  | ⟨0, _⟩ => rfl
  | ⟨1, _⟩ => rfl
  | ⟨2, _⟩ => rfl

end Cert.Mm

end
-- ==== Proof.Mm.Group.lean ====
/- The grouped product of the pooling branch, as the kernel computes it: each group of 128 columns times its own weight. -/
module

public import proofs.«01_k».proof.Proof.Mm.Cube
public import proofs.«01_k».proof.Defs
public import proofs.«01_k».proof.Proof.Gen.Kernel22Ideal.Value
public import proofs.«01_k».proof.Proof.Gen.Reference22Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel22Ideal.Mm

open Cert.Kernel22Ideal Cert.Kernel22Ideal.Gen Idealize.ShloMosaic Idealize.ShloMosaic.TcCoe Idealize.SL.Sem
open Cert.Mm

theorem hz : (![0, 0] : Fin 2 → Nat) = fun _ => 0 := funext fun a => by fin_cases a <;> rfl
theorem hz3 : (![0, 0, 0] : Fin 3 → Nat) = fun _ => 0 := funext fun a => by fin_cases a <;> rfl

/-- The block a grid point writes. -/
theorem out_eq {F : FTy → Type} [FloatOps F] (x0 : Vec F S4352x128 .f32) (x1 : Vec F S1x128x128 .f32) :
    out0_2 x0 x1 = k0_pay1 x0 x1 := by
  unfold out0_2
  rw [View.canon_unit_zero hz]
  simp only [View.ld_unit_zero (S := S4352x128) hz, View.ld_unit_zero (S := S1x128x128) hz3]

/-- A point's product at an index. -/
theorem pay1_apply (x0 : Vec Ideal S4352x128 .f32) (x1 : Vec Ideal S1x128x128 .f32) (y : S4352x128.Idx) :
    (k0_pay1 x0 x1 y : EReal) = ∑ k : Fin 128, (x0 (ix2 (y 0) k) : EReal) * x1 (ix3 0 k (y 1)) := by
  pointwise [k0_pay1]

section
variable (m : (ℓ : Loc nD τ sig) → Buf (Elt Ideal) ℓ) (c : Dev nD)

/-- The two factors. -/
abbrev A : S4352x512.Idx → EReal := m ((c : Thread nD τ).loc main_arg0)
abbrev B : S4x128x128.Idx → EReal := m ((c : Thread nD τ).loc main_arg1)

theorem idx : ∀ t : Fin cfg0.N, win0_0.index t = ![0, t.val] ∧ win0_1.index t = ![t.val, 0, 0] ∧
    win0_2.index t = ![0, t.val] := by decide +kernel

theorem tlt (t : Fin cfg0.N) : t.val < 4 := lt_of_lt_of_eq t.isLt N_0

theorem iblk0 (t : Fin cfg0.N) (r : Fin 4352) (d : Fin 128) :
    (iblk m c 0 t (ix2 r d) : EReal) = nat2 (A m c) r.val (t.val * 128 + d.val) := by
  have := tlt t
  rw [nat2_pos _ r.isLt (show t.val * 128 + d.val < 512 by omega)]
  blk_ext [iblk, Gen.V, idx t]

theorem iblk1 (t : Fin cfg0.N) (r d : Fin 128) :
    (iblk m c 1 t (ix3 0 r d) : EReal) = nat3 (B m c) t.val r.val d.val := by
  have := tlt t
  rw [nat3_pos _ (show t.val < 4 by omega) r.isLt d.isLt]
  blk_ext [iblk, Gen.V, idx t]

/-- The result array at an index. -/
theorem arr : (dats m 0 c).arrAt 2 cfg0.N = fun i : S4352x512.Idx =>
    ∑ k : Fin 128, nat2 (A m c) (i 0).val (128 * ((i 1).val / 128) + k.val) * nat3 (B m c) ((i 1).val / 128) k.val ((i 1).val % 128) := by
  refine (dats m 0 c).arrAt_eq_of_covers 2 _ (by decide +kernel) fun t hf y => ?_
  have ht := tlt t
  have hy : (y 1).val < 128 := (show S4352x128.Idx from y) 1 |>.isLt
  rw [after0_2, out_eq]
  refine (pay1_apply _ _ y).trans (Finset.sum_congr rfl fun k _ => congrArg₂ _
    ((iblk0 m c t (y 0) k).trans ?_) ((iblk1 m c t k (y 1)).trans ?_))
  all_goals congr 1 <;> blk_simp [idx t] <;> omega

end

open Cert.Reference22Ideal.Read in
/-- The reference's result at an index is the same. -/
theorem ref (x0 : S4352x512.Idx → EReal) (x1 : S4x128x128.Idx → EReal) :
    (val_main_v3 (F := Ideal) x0 x1 : S4352x512.Idx → EReal) = fun i =>
      ∑ k : Fin 128, nat2 x0 (i 0).val (128 * ((i 1).val / 128) + k.val) * nat3 x1 ((i 1).val / 128) k.val ((i 1).val % 128) := by
  funext i
  have h0 : (i 0).val < 4352 := (i 0).isLt
  have h1 : (i 1).val < 512 := (i 1).isLt
  rw [val_main_v3_apply, val_main_v2_apply]
  refine (val_main_v1_apply x0 x1 _).trans (Finset.sum_congr rfl fun k _ => ?_)
  have hk := k.isLt
  rw [mul_comm]
  refine congrArg₂ _ ((val_main_v0_apply (F := Ideal) x0 (ridx_main_v1 (idx_main_v2 (idx_main_v3 i)) k)).trans ((nat2_idx x0 (idx_main_v0 (ridx_main_v1 (idx_main_v2 (idx_main_v3 i)) k))).symm.trans ?_))
    ((nat3_idx x1 (lidx_main_v1 (idx_main_v2 (idx_main_v3 i)) k)).symm.trans ?_)
  all_goals dsimp only; congr 1 <;> omega

theorem frame_reference : Cert.quiescent_Reference22Ideal := fun m ρ _ =>
  (θ_run Cert.Reference22Ideal.defs _ _).mono
    (fun r h => ⟨fun c => (h c).2, Idealize.ShloMosaic.sem_eq_zero_of_no_sems (by decide) r.2⟩)
    (Cert.Reference22Ideal.Value.run (F := Ideal) m ρ)

/-- The kernel's product is the reference's. -/
theorem algebraic : Cert.algebraic_Kernel22Ideal_Reference22Ideal := by
  intro m g m' g' _ hagree
  refine ⟨fun c => (dats m 0 c).arrAt 2 cfg0.N, Cert.Kernel22Ideal.Value.run_blocks m g, ?_⟩
  refine (θ_run Cert.Reference22Ideal.defs _ _).mono (fun r h c => ?_) (Cert.Reference22Ideal.Value.run (F := Ideal) m' g')
  obtain ⟨e0, e1⟩ := hagree c
  refine ⟨(h c).1.trans ?_, (h c).2⟩
  rw [Cert.Reference22Ideal.Read.val_main_v3_eq, e0, e1]
  exact (ref _ _).trans (arr m c).symm

end Cert.Kernel22Ideal.Mm

end
-- ==== Proof.Mm.DwGroup.lean ====
/- The gradient of the weights of the grouped product, as the kernel computes it: for each group of 128 columns,
   `pmᵀ · dy`. -/
module

public import proofs.«01_k».proof.Proof.Mm.Cube
public import proofs.«01_k».proof.Defs
public import proofs.«01_k».proof.Proof.Gen.Kernel23Ideal.Value
public import proofs.«01_k».proof.Proof.Gen.Reference23Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel23Ideal.Mm

open Cert.Kernel23Ideal Cert.Kernel23Ideal.Gen Idealize.ShloMosaic Idealize.ShloMosaic.TcCoe Idealize.SL.Sem
open Cert.Mm

theorem hz : (![0, 0] : Fin 2 → Nat) = fun _ => 0 := funext fun a => by fin_cases a <;> rfl
theorem hz3 : (![0, 0, 0] : Fin 3 → Nat) = fun _ => 0 := funext fun a => by fin_cases a <;> rfl

/-- The block a grid point writes. -/
theorem out_eq {F : FTy → Type} [FloatOps F] (x0 : Vec F S4352x128 .f32) (x1 : Vec F S4352x128 .f32) :
    out0_2 x0 x1 = k0_pay1 x0 x1 := by
  unfold out0_2
  rw [View.canon_unit_zero hz3]
  simp only [View.ld_unit_zero (S := S4352x128) hz]

/-- A point's product at an index. -/
theorem pay1_apply (x0 : Vec Ideal S4352x128 .f32) (x1 : Vec Ideal S4352x128 .f32) (y : S1x128x128.Idx) :
    (k0_pay1 x0 x1 y : EReal) = ∑ k : Fin 4352, (x0 (ix2 k (y 1)) : EReal) * x1 (ix2 k (y 2)) := by
  pointwise [k0_pay1]

section
variable (m : (ℓ : Loc nD τ sig) → Buf (Elt Ideal) ℓ) (c : Dev nD)

/-- The two factors. -/
abbrev A : S4352x512.Idx → EReal := m ((c : Thread nD τ).loc main_arg0)
abbrev B : S4352x512.Idx → EReal := m ((c : Thread nD τ).loc main_arg2)

theorem idx : ∀ t : Fin cfg0.N, win0_0.index t = ![0, t.val] ∧ win0_1.index t = ![0, t.val] ∧
    win0_2.index t = ![t.val, 0, 0] := by decide +kernel

theorem tlt (t : Fin cfg0.N) : t.val < 4 := lt_of_lt_of_eq t.isLt N_0

theorem iblk0 (t : Fin cfg0.N) (r : Fin 4352) (d : Fin 128) :
    (iblk m c 0 t (ix2 r d) : EReal) = nat2 (A m c) r.val (t.val * 128 + d.val) := by
  have := tlt t
  rw [nat2_pos _ r.isLt (show t.val * 128 + d.val < 512 by omega)]
  blk_ext [iblk, Gen.V, idx t]

theorem iblk1 (t : Fin cfg0.N) (r : Fin 4352) (d : Fin 128) :
    (iblk m c 1 t (ix2 r d) : EReal) = nat2 (B m c) r.val (t.val * 128 + d.val) := by
  have := tlt t
  rw [nat2_pos _ r.isLt (show t.val * 128 + d.val < 512 by omega)]
  blk_ext [iblk, Gen.V, idx t]

/-- The result array at an index. -/
theorem arr : (dats m 0 c).arrAt 2 cfg0.N = fun i : S4x128x128.Idx =>
    ∑ k : Fin 4352, nat2 (A m c) k.val (128 * (i 0).val + (i 1).val) * nat2 (B m c) k.val (128 * (i 0).val + (i 2).val) := by
  refine (dats m 0 c).arrAt_eq_of_covers 2 _ (by decide +kernel) fun t hf y => ?_
  have ht := tlt t
  rw [after0_2, out_eq]
  refine (pay1_apply _ _ y).trans (Finset.sum_congr rfl fun k _ => congrArg₂ _
    ((iblk0 m c t k (y 1)).trans ?_) ((iblk1 m c t k (y 2)).trans ?_))
  all_goals congr 1 <;> blk_simp [idx t] <;> omega

end

open Cert.Reference23Ideal.Read in
/-- The reference's result at an index is the same. -/
theorem ref (x0 x2 : S4352x512.Idx → EReal) :
    (val_main_v7 (F := Ideal) x0 x2 : S4x128x128.Idx → EReal) = fun i =>
      ∑ k : Fin 4352, nat2 x0 k.val (128 * (i 0).val + (i 1).val) * nat2 x2 k.val (128 * (i 0).val + (i 2).val) := by
  funext i
  have h0 : (i 0).val < 4 := (i 0).isLt
  have h1 : (i 1).val < 128 := (i 1).isLt
  have h2 : (i 2).val < 128 := (i 2).isLt
  rw [val_main_v7_apply]
  refine (val_main_v6_apply x0 x2 _).trans (Finset.sum_congr rfl fun k _ => ?_)
  have hk := k.isLt
  rw [mul_comm]
  refine congrArg₂ _ ((val_main_v0_apply (F := Ideal) x0 (ridx_main_v6 (idx_main_v7 i) k)).trans ((nat2_idx x0 (idx_main_v0 (ridx_main_v6 (idx_main_v7 i) k))).symm.trans ?_))
    (((val_main_v5_apply (F := Ideal) x2 (lidx_main_v6 (idx_main_v7 i) k)).trans (val_main_v4_apply (F := Ideal) x2 _)).trans ((nat2_idx x2 (idx_main_v4 (idx_main_v5 (lidx_main_v6 (idx_main_v7 i) k)))).symm.trans ?_))
  all_goals dsimp only; congr 1 <;> omega

theorem frame_reference : Cert.quiescent_Reference23Ideal := fun m ρ _ =>
  (θ_run Cert.Reference23Ideal.defs _ _).mono
    (fun r h => ⟨fun c => (h c).2, Idealize.ShloMosaic.sem_eq_zero_of_no_sems (by decide) r.2⟩)
    (Cert.Reference23Ideal.Value.run (F := Ideal) m ρ)

/-- The kernel's gradient is the reference's. -/
theorem algebraic : Cert.algebraic_Kernel23Ideal_Reference23Ideal := by
  intro m g m' g' _ hagree
  refine ⟨fun c => (dats m 0 c).arrAt 2 cfg0.N, Cert.Kernel23Ideal.Value.run_blocks m g, ?_⟩
  refine (θ_run Cert.Reference23Ideal.defs _ _).mono (fun r h c => ?_) (Cert.Reference23Ideal.Value.run (F := Ideal) m' g')
  obtain ⟨e0, e1, e2⟩ := hagree c
  refine ⟨(h c).1.trans ?_, (h c).2⟩
  rw [Cert.Reference23Ideal.Read.val_main_v7_eq, e0, e2]
  exact (ref _ _).trans (arr m c).symm

end Cert.Kernel23Ideal.Mm

end
-- ==== Proof.Mm.DxGroup.lean ====
/- The gradient of the input of the grouped product, as the kernel computes it: each group of 128 columns of `dy` times
   its own weight, transposed. -/
module

public import proofs.«01_k».proof.Proof.Mm.Cube
public import proofs.«01_k».proof.Defs
public import proofs.«01_k».proof.Proof.Gen.Kernel24Ideal.Value
public import proofs.«01_k».proof.Proof.Gen.Reference24Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel24Ideal.Mm

open Cert.Kernel24Ideal Cert.Kernel24Ideal.Gen Idealize.ShloMosaic Idealize.ShloMosaic.TcCoe Idealize.SL.Sem
open Cert.Mm

theorem hz : (![0, 0] : Fin 2 → Nat) = fun _ => 0 := funext fun a => by fin_cases a <;> rfl
theorem hz3 : (![0, 0, 0] : Fin 3 → Nat) = fun _ => 0 := funext fun a => by fin_cases a <;> rfl

/-- The block a grid point writes. -/
theorem out_eq {F : FTy → Type} [FloatOps F] (x0 : Vec F S4352x128 .f32) (x1 : Vec F S1x128x128 .f32) :
    out0_2 x0 x1 = k0_pay1 x0 x1 := by
  unfold out0_2
  rw [View.canon_unit_zero hz]
  simp only [View.ld_unit_zero (S := S4352x128) hz, View.ld_unit_zero (S := S1x128x128) hz3]

/-- A point's product at an index. -/
theorem pay1_apply (x0 : Vec Ideal S4352x128 .f32) (x1 : Vec Ideal S1x128x128 .f32) (y : S4352x128.Idx) :
    (k0_pay1 x0 x1 y : EReal) = ∑ k : Fin 128, (x0 (ix2 (y 0) k) : EReal) * x1 (ix3 0 (y 1) k) := by
  pointwise [k0_pay1]

section
variable (m : (ℓ : Loc nD τ sig) → Buf (Elt Ideal) ℓ) (c : Dev nD)

/-- The two factors. -/
abbrev A : S4352x512.Idx → EReal := m ((c : Thread nD τ).loc main_arg1)
abbrev B : S4x128x128.Idx → EReal := m ((c : Thread nD τ).loc main_arg0)

theorem idx : ∀ t : Fin cfg0.N, win0_0.index t = ![0, t.val] ∧ win0_1.index t = ![t.val, 0, 0] ∧
    win0_2.index t = ![0, t.val] := by decide +kernel

theorem tlt (t : Fin cfg0.N) : t.val < 4 := lt_of_lt_of_eq t.isLt N_0

theorem iblk0 (t : Fin cfg0.N) (r : Fin 4352) (d : Fin 128) :
    (iblk m c 0 t (ix2 r d) : EReal) = nat2 (A m c) r.val (t.val * 128 + d.val) := by
  have := tlt t
  rw [nat2_pos _ r.isLt (show t.val * 128 + d.val < 512 by omega)]
  blk_ext [iblk, Gen.V, idx t]

theorem iblk1 (t : Fin cfg0.N) (r d : Fin 128) :
    (iblk m c 1 t (ix3 0 r d) : EReal) = nat3 (B m c) t.val r.val d.val := by
  have := tlt t
  rw [nat3_pos _ (show t.val < 4 by omega) r.isLt d.isLt]
  blk_ext [iblk, Gen.V, idx t]

/-- The result array at an index. -/
theorem arr : (dats m 0 c).arrAt 2 cfg0.N = fun i : S4352x512.Idx =>
    ∑ k : Fin 128, nat2 (A m c) (i 0).val (128 * ((i 1).val / 128) + k.val) * nat3 (B m c) ((i 1).val / 128) ((i 1).val % 128) k.val := by
  refine (dats m 0 c).arrAt_eq_of_covers 2 _ (by decide +kernel) fun t hf y => ?_
  have ht := tlt t
  have hy : (y 1).val < 128 := (show S4352x128.Idx from y) 1 |>.isLt
  rw [after0_2, out_eq]
  refine (pay1_apply _ _ y).trans (Finset.sum_congr rfl fun k _ => congrArg₂ _
    ((iblk0 m c t (y 0) k).trans ?_) ((iblk1 m c t (y 1) k).trans ?_))
  all_goals congr 1 <;> blk_simp [idx t] <;> omega

end

open Cert.Reference24Ideal.Read in
/-- The reference's result at an index is the same. -/
theorem ref (x0 : S4x128x128.Idx → EReal) (x1 : S4352x512.Idx → EReal) :
    (val_main_v9 (F := Ideal) x0 x1 : S4352x512.Idx → EReal) = fun i =>
      ∑ k : Fin 128, nat2 x1 (i 0).val (128 * ((i 1).val / 128) + k.val) * nat3 x0 ((i 1).val / 128) ((i 1).val % 128) k.val := by
  funext i
  have h0 : (i 0).val < 4352 := (i 0).isLt
  have h1 : (i 1).val < 512 := (i 1).isLt
  rw [val_main_v9_apply, val_main_v8_apply]
  refine (val_main_v7_apply x0 x1 _).trans (Finset.sum_congr rfl fun k _ => ?_)
  have hk := k.isLt
  refine congrArg₂ _ (((val_main_v6_apply (F := Ideal) x1 (lidx_main_v7 (idx_main_v8 (idx_main_v9 i)) k)).trans (val_main_v5_apply (F := Ideal) x1 _)).trans ((nat2_idx x1 (idx_main_v5 (idx_main_v6 (lidx_main_v7 (idx_main_v8 (idx_main_v9 i)) k)))).symm.trans ?_))
    ((nat3_idx x0 (ridx_main_v7 (idx_main_v8 (idx_main_v9 i)) k)).symm.trans ?_)
  all_goals dsimp only; congr 1 <;> omega

theorem frame_reference : Cert.quiescent_Reference24Ideal := fun m ρ _ =>
  (θ_run Cert.Reference24Ideal.defs _ _).mono
    (fun r h => ⟨fun c => (h c).2, Idealize.ShloMosaic.sem_eq_zero_of_no_sems (by decide) r.2⟩)
    (Cert.Reference24Ideal.Value.run (F := Ideal) m ρ)

/-- The kernel's gradient is the reference's. -/
theorem algebraic : Cert.algebraic_Kernel24Ideal_Reference24Ideal := by
  intro m g m' g' _ hagree
  refine ⟨fun c => (dats m 0 c).arrAt 2 cfg0.N, Cert.Kernel24Ideal.Value.run_blocks m g, ?_⟩
  refine (θ_run Cert.Reference24Ideal.defs _ _).mono (fun r h c => ?_) (Cert.Reference24Ideal.Value.run (F := Ideal) m' g')
  obtain ⟨e0, e1⟩ := hagree c
  refine ⟨(h c).1.trans ?_, (h c).2⟩
  rw [Cert.Reference24Ideal.Read.val_main_v9_eq, e0, e1]
  exact (ref _ _).trans (arr m c).symm

end Cert.Kernel24Ideal.Mm

end
-- ==== Proof.Adam.Step.lean ====
/- One number's AdamW step: the new moments and the change of the weight, as the numbers compute them. -/
module

public import proofs.«01_k».proof.Proof.Mm.Cube

@[expose] public section

noncomputable section

namespace Cert.Adam

open Idealize.ShloMosaic

/-- The new first moment, from the gradient `g` and the moment `m`. -/
@[irreducible] def newM (g m : Ideal .f32) : Ideal .f32 :=
  FloatOps.addf (FloatOps.mulf (FloatOps.ofBits .f32 0x3F666666#32) m) (FloatOps.mulf (FloatOps.ofBits .f32 0x3DCCCCCD#32) g)

/-- The new second moment, from the gradient `g` and the moment `v`. -/
@[irreducible] def newV (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- The change of the weight `w`, from the gradient and both moments. -/
@[irreducible] def delta (w g m v : Ideal .f32) : Ideal .f32 :=
  FloatOps.mulf (FloatOps.ofBits .f32 0xBA83126F#32)
    (FloatOps.addf
      (FloatOps.divf (FloatOps.divf (newM g m) (FloatOps.ofBits .f32 0x3F26BD02#32))
        (FloatOps.addf (FloatOps.sqrt (FloatOps.divf (newV g v) (FloatOps.ofBits .f32 0x3C231ACC#32)))
          (FloatOps.ofBits .f32 0x322BCC77#32)))
      (FloatOps.mulf (FloatOps.ofBits .f32 0x3C23D70A#32) w))

theorem newM_congr {g g' m m' : Ideal .f32} (hg : g = g') (hm : m = m') : newM g m = newM g' m' := by rw [hg, hm]

theorem newV_congr {g g' v v' : Ideal .f32} (hg : g = g') (hv : v = v') : newV g v = newV g' v' := by rw [hg, hv]

theorem delta_congr {w w' g g' m m' v v' : Ideal .f32} (hw : w = w') (hg : g = g') (hm : m = m') (hv : v = v') :
    delta w g m v = delta w' g' m' v' := by rw [hw, hg, hm, hv]

end Cert.Adam

end
-- ==== Proof.Adam.Small.lean ====
/- The AdamW step of the small weights, packed in one array, as the kernel computes it: 512 rows at a time. -/
module

public import proofs.«01_k».proof.Proof.Adam.Step
public import proofs.«01_k».proof.Defs
public import proofs.«01_k».proof.Proof.Gen.Kernel25Ideal.Value
public import proofs.«01_k».proof.Proof.Gen.Reference25Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel25Ideal.Adam

open Cert.Kernel25Ideal Cert.Kernel25Ideal.Gen Idealize.ShloMosaic Idealize.ShloMosaic.TcCoe Idealize.SL.Sem
open Cert.Mm Cert.Adam

theorem hz : (![0, 0] : Fin 2 → Nat) = fun _ => 0 := funext fun a => by fin_cases a <;> rfl

/-! ## The blocks a grid point writes -/

section
variable (x0 x1 x2 x3 : Vec Ideal S512x128 .f32)

theorem out4_eq : out0_4 x0 x1 x2 x3 = fun y => delta (x0 y) (x1 y) (x2 y) (x3 y) := by
  unfold out0_4
  rw [View.canon_unit_zero hz]
  simp only [View.ld_unit_zero (S := S512x128) hz]
  unfold delta newM newV
  rfl

theorem out5_eq : out0_5 x0 x1 x2 x3 = fun y => newM (x1 y) (x2 y) := by
  unfold out0_5
  rw [View.canon_unit_zero hz]
  simp only [View.ld_unit_zero (S := S512x128) hz]
  unfold newM
  rfl

theorem out6_eq : out0_6 x0 x1 x2 x3 = fun y => newV (x1 y) (x3 y) := by
  unfold out0_6
  rw [View.canon_unit_zero hz]
  simp only [View.ld_unit_zero (S := S512x128) hz]
  unfold newV
  rfl

end

/-! ## The result arrays -/

section
variable (m : (ℓ : Loc nD τ sig) → Buf (Elt Ideal) ℓ) (c : Dev nD)

/-- The weight, the gradient and the two moments. -/
abbrev W : S1536x128.Idx → EReal := m ((c : Thread nD τ).loc main_arg0)
abbrev G : S1536x128.Idx → EReal := m ((c : Thread nD τ).loc main_arg1)
abbrev M : S1536x128.Idx → EReal := m ((c : Thread nD τ).loc main_arg2)
abbrev V2 : S1536x128.Idx → EReal := m ((c : Thread nD τ).loc main_arg3)

theorem idx : ∀ t : Fin cfg0.N, win0_0.index t = ![t.val, 0] ∧
    win0_1.index t = ![t.val, 0] ∧
    win0_2.index t = ![t.val, 0] ∧
    win0_3.index t = ![t.val, 0] ∧
    win0_4.index t = ![t.val, 0] ∧
    win0_5.index t = ![t.val, 0] ∧
    win0_6.index t = ![t.val, 0] := by decide +kernel

theorem tlt (t : Fin cfg0.N) : t.val < 3 := lt_of_lt_of_eq t.isLt N_0

theorem iblk0 (t : Fin cfg0.N) (y : S512x128.Idx) :
    (iblk m c 0 t y : EReal) = nat2 (W m c) (t.val * 512 + (y 0).val) (y 1).val := by
  have := tlt t
  have h0 : (y 0).val < 512 := (y 0).isLt
  have h1 : (y 1).val < 128 := (y 1).isLt
  rw [nat2_pos _ (show t.val * 512 + (y 0).val < 1536 by omega) h1]
  blk_ext [iblk, Gen.V, idx t]

theorem iblk1 (t : Fin cfg0.N) (y : S512x128.Idx) :
    (iblk m c 1 t y : EReal) = nat2 (G m c) (t.val * 512 + (y 0).val) (y 1).val := by
  have := tlt t
  have h0 : (y 0).val < 512 := (y 0).isLt
  have h1 : (y 1).val < 128 := (y 1).isLt
  rw [nat2_pos _ (show t.val * 512 + (y 0).val < 1536 by omega) h1]
  blk_ext [iblk, Gen.V, idx t]

theorem iblk2 (t : Fin cfg0.N) (y : S512x128.Idx) :
    (iblk m c 2 t y : EReal) = nat2 (M m c) (t.val * 512 + (y 0).val) (y 1).val := by
  have := tlt t
  have h0 : (y 0).val < 512 := (y 0).isLt
  have h1 : (y 1).val < 128 := (y 1).isLt
  rw [nat2_pos _ (show t.val * 512 + (y 0).val < 1536 by omega) h1]
  blk_ext [iblk, Gen.V, idx t]

theorem iblk3 (t : Fin cfg0.N) (y : S512x128.Idx) :
    (iblk m c 3 t y : EReal) = nat2 (V2 m c) (t.val * 512 + (y 0).val) (y 1).val := by
  have := tlt t
  have h0 : (y 0).val < 512 := (y 0).isLt
  have h1 : (y 1).val < 128 := (y 1).isLt
  rw [nat2_pos _ (show t.val * 512 + (y 0).val < 1536 by omega) h1]
  blk_ext [iblk, Gen.V, idx t]

theorem arr4 : (dats m 0 c).arrAt 4 cfg0.N = fun i : S1536x128.Idx =>
    delta (nat2 (W m c) (i 0).val (i 1).val) (nat2 (G m c) (i 0).val (i 1).val) (nat2 (M m c) (i 0).val (i 1).val) (nat2 (V2 m c) (i 0).val (i 1).val) := by
  refine (dats m 0 c).arrAt_eq_of_covers 4 _ (by decide +kernel) fun t hf y => ?_
  have ht := tlt t
  rw [after0_4, out4_eq]
  refine delta_congr ((iblk0 m c t y).trans ?_) ((iblk1 m c t y).trans ?_) ((iblk2 m c t y).trans ?_) ((iblk3 m c t y).trans ?_)
  all_goals refine congrArg₂ (nat2 _) ?_ ?_ <;> blk_simp [idx t] <;> omega

theorem arr5 : (dats m 0 c).arrAt 5 cfg0.N = fun i : S1536x128.Idx =>
    newM (nat2 (G m c) (i 0).val (i 1).val) (nat2 (M m c) (i 0).val (i 1).val) := by
  refine (dats m 0 c).arrAt_eq_of_covers 5 _ (by decide +kernel) fun t hf y => ?_
  have ht := tlt t
  rw [after0_5, out5_eq]
  refine newM_congr ((iblk1 m c t y).trans ?_) ((iblk2 m c t y).trans ?_)
  all_goals refine congrArg₂ (nat2 _) ?_ ?_ <;> blk_simp [idx t] <;> omega

theorem arr6 : (dats m 0 c).arrAt 6 cfg0.N = fun i : S1536x128.Idx =>
    newV (nat2 (G m c) (i 0).val (i 1).val) (nat2 (V2 m c) (i 0).val (i 1).val) := by
  refine (dats m 0 c).arrAt_eq_of_covers 6 _ (by decide +kernel) fun t hf y => ?_
  have ht := tlt t
  rw [after0_6, out6_eq]
  refine newV_congr ((iblk1 m c t y).trans ?_) ((iblk3 m c t y).trans ?_)
  all_goals refine congrArg₂ (nat2 _) ?_ ?_ <;> blk_simp [idx t] <;> omega

end

/-! ## The reference -/

section
variable (x0 x1 x2 x3 : S1536x128.Idx → EReal)
open Cert.Reference25Ideal.Read

theorem refM : (val_main_v4 (F := Ideal) x1 x2 : S1536x128.Idx → EReal) = fun i =>
    newM (nat2 x1 (i 0).val (i 1).val) (nat2 x2 (i 0).val (i 1).val) := by
  funext i
  rw [nat2_idx, nat2_idx, val_main_v4_apply, val_main_v3_apply, val_main_v2_apply, val_main_cst_0_apply, val_main_v1_apply, val_main_v0_apply, val_main_cst_apply]
  unfold newM
  rfl

theorem refV : (val_main_v10 (F := Ideal) x1 x3 : S1536x128.Idx → EReal) = fun i =>
    newV (nat2 x1 (i 0).val (i 1).val) (nat2 x3 (i 0).val (i 1).val) := by
  funext i
  rw [nat2_idx, nat2_idx, val_main_v10_apply, val_main_v9_apply, val_main_v8_apply, val_main_cst_2_apply, val_main_v7_apply, val_main_v6_apply, val_main_v5_apply, val_main_cst_1_apply]
  unfold newV
  rfl

theorem refD : (val_main_v23 (F := Ideal) x0 x1 x2 x3 : S1536x128.Idx → EReal) = fun i =>
    delta (nat2 x0 (i 0).val (i 1).val) (nat2 x1 (i 0).val (i 1).val) (nat2 x2 (i 0).val (i 1).val)
      (nat2 x3 (i 0).val (i 1).val) := by
  funext i
  unfold delta
  rw [← congrFun (refM x1 x2) i, ← congrFun (refV x1 x3) i, nat2_idx]
  rw [val_main_v23_apply, val_main_v22_apply, val_main_cst_7_apply, val_main_v21_apply, val_main_v20_apply, val_main_v19_apply, val_main_cst_6_apply, val_main_v18_apply, val_main_v17_apply, val_main_v16_apply, val_main_cst_5_apply, val_main_v15_apply, val_main_v14_apply, val_main_v13_apply, val_main_cst_4_apply, val_main_v12_apply, val_main_v11_apply, val_main_cst_3_apply]
  rfl

end

theorem frame_reference : Cert.quiescent_Reference25Ideal := fun m ρ _ =>
  (θ_run Cert.Reference25Ideal.defs _ _).mono
    (fun r h => ⟨fun c => (h c).2.2.2, Idealize.ShloMosaic.sem_eq_zero_of_no_sems (by decide) r.2⟩)
    (Cert.Reference25Ideal.Value.run (F := Ideal) m ρ)

/-- The kernel's three arrays are the reference's. -/
theorem algebraic : Cert.algebraic_Kernel25Ideal_Reference25Ideal := by
  intro m g m' g' _ hagree
  refine ⟨fun c => (dats m 0 c).arrAt 4 cfg0.N, fun c => (dats m 0 c).arrAt 5 cfg0.N,
    fun c => (dats m 0 c).arrAt 6 cfg0.N, Cert.Kernel25Ideal.Value.run_blocks m g, ?_⟩
  refine (θ_run Cert.Reference25Ideal.defs _ _).mono (fun r h c => ?_) (Cert.Reference25Ideal.Value.run (F := Ideal) m' g')
  obtain ⟨e0, e1, e2, e3⟩ := hagree c
  refine ⟨(h c).1.trans ?_, (h c).2.1.trans ?_, (h c).2.2.1.trans ?_, (h c).2.2.2⟩
  · rw [Cert.Reference25Ideal.Read.val_main_v23_eq, e0, e1, e2, e3]
    exact (refD _ _ _ _).trans (arr4 m c).symm
  · rw [Cert.Reference25Ideal.Read.val_main_v4_eq, e1, e2]
    exact (refM _ _).trans (arr5 m c).symm
  · rw [Cert.Reference25Ideal.Read.val_main_v10_eq, e1, e3]
    exact (refV _ _).trans (arr6 m c).symm

end Cert.Kernel25Ideal.Adam

end
-- ==== Proof.Adam.Mlp.lean ====
/- The AdamW step of a weight of the squared-ReLU block in both layers, as the kernel computes it: the sum of a layer's
   gradient terms and the step from it, 256 rows of one layer at a time. -/
module

public import proofs.«01_k».proof.Proof.Adam.Step
public import proofs.«01_k».proof.Defs
public import proofs.«01_k».proof.Proof.Gen.Kernel26Ideal.Value
public import proofs.«01_k».proof.Proof.Gen.Reference26Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel26Ideal.Adam

open Cert.Kernel26Ideal Cert.Kernel26Ideal.Gen Idealize.ShloMosaic Idealize.ShloMosaic.TcCoe Idealize.SL.Sem
open Cert.Mm Cert.Adam

theorem hz2 : (![0, 0] : Fin 2 → Nat) = fun _ => 0 := funext fun a => by fin_cases a <;> rfl
theorem hz3 : (![0, 0, 0] : Fin 3 → Nat) = fun _ => 0 := funext fun a => by fin_cases a <;> rfl

/-- A layer's block as a matrix, and back. -/
theorem up (v : Vec Ideal S256x1024 .f32) (y : S1x256x1024.Idx) :
    (shapeCast S1x256x1024 v shapeCasts_S256x1024_S1x256x1024 y : EReal) = v (ix2 (y 1) (y 2)) := by
  pointwise []

theorem down (v : Vec Ideal S1x256x1024 .f32) (r : Fin 256) (d : Fin 1024) :
    (shapeCast S256x1024 v shapeCasts_S1x256x1024_S256x1024 (ix2 r d) : EReal) = v (ix3 0 r d) := by
  pointwise []

/-! ## What a grid point writes: the sum of its layer's gradient terms and the step from it -/

section
variable (x0 x1 x2 : Vec Ideal S1x256x1024 .f32) (xa xb : Vec Ideal S256x1024 .f32)

/-- The gradient at an index of the block. -/
abbrev gr (y : S1x256x1024.Idx) : Ideal .f32 := FloatOps.addf (xa (ix2 (y 1) (y 2))) (xb (ix2 (y 1) (y 2)))

abbrev outG : Vec Ideal S1x256x1024 .f32 := fun y => gr xa xb y
abbrev outD : Vec Ideal S1x256x1024 .f32 := fun y =>
  delta (x0 (ix3 0 (y 1) (y 2))) (gr xa xb y) (x1 (ix3 0 (y 1) (y 2))) (x2 (ix3 0 (y 1) (y 2)))
abbrev outM : Vec Ideal S1x256x1024 .f32 := fun y => newM (gr xa xb y) (x1 (ix3 0 (y 1) (y 2)))
abbrev outV : Vec Ideal S1x256x1024 .f32 := fun y => newV (gr xa xb y) (x2 (ix3 0 (y 1) (y 2)))

theorem payG_A : k0_pay10 xa xb = outG xa xb := by
  funext y
  unfold k0_pay10
  exact (up _ y).trans rfl

theorem payM_A : k0_pay2 (k0_pay8 xa xb x1) = outM x1 xa xb := by
  funext y
  unfold k0_pay2
  refine (up _ y).trans ?_
  unfold outM newM
  rw [← down x1 (y 1) (y 2)]
  rfl

theorem payV_A : k0_pay3 (k0_pay9 xa xb x2) = outV x2 xa xb := by
  funext y
  unfold k0_pay3
  refine (up _ y).trans ?_
  unfold outV newV
  rw [← down x2 (y 1) (y 2)]
  rfl

theorem payD_A : k0_pay1 (k0_pay11 xa xb x1 x2 x0) (Scalar.ofBits .f32 0xBA83126F#32) = outD x0 x1 x2 xa xb := by
  funext y
  unfold k0_pay1
  refine (up _ y).trans ?_
  unfold outD delta newM newV
  rw [← down x0 (y 1) (y 2), ← down x1 (y 1) (y 2), ← down x2 (y 1) (y 2)]
  rfl

theorem payG_B : k0_pay15 xa xb = outG xa xb := by
  funext y
  unfold k0_pay15
  exact (up _ y).trans rfl

theorem payM_B : k0_pay5 (k0_pay13 xa xb x1) = outM x1 xa xb := by
  funext y
  unfold k0_pay5
  refine (up _ y).trans ?_
  unfold outM newM
  rw [← down x1 (y 1) (y 2)]
  rfl

theorem payV_B : k0_pay6 (k0_pay14 xa xb x2) = outV x2 xa xb := by
  funext y
  unfold k0_pay6
  refine (up _ y).trans ?_
  unfold outV newV
  rw [← down x2 (y 1) (y 2)]
  rfl

theorem payD_B : k0_pay4 (k0_pay16 xa xb x1 x2 x0) (Scalar.ofBits .f32 0xBA83126F#32) = outD x0 x1 x2 xa xb := by
  funext y
  unfold k0_pay4
  refine (up _ y).trans ?_
  unfold outD delta newM newV
  rw [← down x0 (y 1) (y 2), ← down x1 (y 1) (y 2), ← down x2 (y 1) (y 2)]
  rfl

end

section
variable (c : Dev nD) (i : grid0.Coords)
  (a2 : Memref sig .tc .vmem S1x256x1024 .f32) (h2 : a2.IsWhole)
  (a3 : Memref sig .tc .vmem S1x256x1024 .f32) (h3 : a3.IsWhole)
  (a4 : Memref sig .tc .vmem S1x256x1024 .f32) (h4 : a4.IsWhole)
  (a5 : Memref sig .tc .vmem S256x1024 .f32) (h5 : a5.IsWhole)
  (a6 : Memref sig .tc .vmem S256x1024 .f32) (h6 : a6.IsWhole)
  (a7 : Memref sig .tc .vmem S256x1024 .f32) (h7 : a7.IsWhole)
  (a8 : Memref sig .tc .vmem S256x1024 .f32) (h8 : a8.IsWhole)
  (a9 : Memref sig .tc .vmem S1x256x1024 .f32) (h9 : a9.IsWhole)
  (a10 : Memref sig .tc .vmem S1x256x1024 .f32) (h10 : a10.IsWhole)
  (a11 : Memref sig .tc .vmem S1x256x1024 .f32) (h11 : a11.IsWhole)
  (a12 : Memref sig .tc .vmem S1x256x1024 .f32) (h12 : a12.IsWhole)
  (x0 x1 x2 : Vec Ideal S1x256x1024 .f32) (x3 x4 x5 x6 : Vec Ideal S256x1024 .f32)

theorem outA_7 (c0 : cond0_0 i) (c1 : ¬cond0_1 i) :
    out0_A_7 c i a2 h2 a3 h3 a4 h4 a5 h5 a6 h6 a7 h7 a8 h8 a9 h9 a10 h10 a11 h11 a12 h12 c0 c1
      x0 x1 x2 x3 x4 x5 x6 = outG x3 x4 := by
  rw [← payG_A]
  unfold out0_A_7
  rw [View.read_writes_eq_canon _ _ _ (cover0_A_7 c i a2 h2 a3 h3 a4 h4 a5 h5 a6 h6 a7 h7 a8 h8 a9 h9 a10 h10 a11 h11 a12 h12
    c0 c1 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

theorem outA_8 (c0 : cond0_0 i) (c1 : ¬cond0_1 i) :
    out0_A_8 c i a2 h2 a3 h3 a4 h4 a5 h5 a6 h6 a7 h7 a8 h8 a9 h9 a10 h10 a11 h11 a12 h12 c0 c1
      x0 x1 x2 x3 x4 x5 x6 = outD x0 x1 x2 x3 x4 := by
  rw [← payD_A]
  unfold out0_A_8
  rw [View.read_writes_eq_canon _ _ _ (cover0_A_8 c i a2 h2 a3 h3 a4 h4 a5 h5 a6 h6 a7 h7 a8 h8 a9 h9 a10 h10 a11 h11 a12 h12
    c0 c1 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

theorem outA_9 (c0 : cond0_0 i) (c1 : ¬cond0_1 i) :
    out0_A_9 c i a2 h2 a3 h3 a4 h4 a5 h5 a6 h6 a7 h7 a8 h8 a9 h9 a10 h10 a11 h11 a12 h12 c0 c1
      x0 x1 x2 x3 x4 x5 x6 = outM x1 x3 x4 := by
  rw [← payM_A]
  unfold out0_A_9
  rw [View.read_writes_eq_canon _ _ _ (cover0_A_9 c i a2 h2 a3 h3 a4 h4 a5 h5 a6 h6 a7 h7 a8 h8 a9 h9 a10 h10 a11 h11 a12 h12
    c0 c1 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

theorem outA_10 (c0 : cond0_0 i) (c1 : ¬cond0_1 i) :
    out0_A_10 c i a2 h2 a3 h3 a4 h4 a5 h5 a6 h6 a7 h7 a8 h8 a9 h9 a10 h10 a11 h11 a12 h12 c0 c1
      x0 x1 x2 x3 x4 x5 x6 = outV x2 x3 x4 := by
  rw [← payV_A]
  unfold out0_A_10
  rw [View.read_writes_eq_canon _ _ _ (cover0_A_10 c i a2 h2 a3 h3 a4 h4 a5 h5 a6 h6 a7 h7 a8 h8 a9 h9 a10 h10 a11 h11 a12 h12
    c0 c1 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

theorem outB_7 (c0 : ¬cond0_0 i) (c1 : cond0_1 i) :
    out0_B_7 c i a2 h2 a3 h3 a4 h4 a5 h5 a6 h6 a7 h7 a8 h8 a9 h9 a10 h10 a11 h11 a12 h12 c0 c1
      x0 x1 x2 x3 x4 x5 x6 = outG x5 x6 := by
  rw [← payG_B]
  unfold out0_B_7
  rw [View.read_writes_eq_canon _ _ _ (cover0_B_7 c i a2 h2 a3 h3 a4 h4 a5 h5 a6 h6 a7 h7 a8 h8 a9 h9 a10 h10 a11 h11 a12 h12
    c0 c1 x0 x1 x2 x3 x4 x5 x6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

theorem outB_8 (c0 : ¬cond0_0 i) (c1 : cond0_1 i) :
    out0_B_8 c i a2 h2 a3 h3 a4 h4 a5 h5 a6 h6 a7 h7 a8 h8 a9 h9 a10 h10 a11 h11 a12 h12 c0 c1
      x0 x1 x2 x3 x4 x5 x6 = outD x0 x1 x2 x5 x6 := by
  rw [← payD_B]
  unfold out0_B_8
  rw [View.read_writes_eq_canon _ _ _ (cover0_B_8 c i a2 h2 a3 h3 a4 h4 a5 h5 a6 h6 a7 h7 a8 h8 a9 h9 a10 h10 a11 h11 a12 h12
    c0 c1 x0 x1 x2 x3 x4 x5 x6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

theorem outB_9 (c0 : ¬cond0_0 i) (c1 : cond0_1 i) :
    out0_B_9 c i a2 h2 a3 h3 a4 h4 a5 h5 a6 h6 a7 h7 a8 h8 a9 h9 a10 h10 a11 h11 a12 h12 c0 c1
      x0 x1 x2 x3 x4 x5 x6 = outM x1 x5 x6 := by
  rw [← payM_B]
  unfold out0_B_9
  rw [View.read_writes_eq_canon _ _ _ (cover0_B_9 c i a2 h2 a3 h3 a4 h4 a5 h5 a6 h6 a7 h7 a8 h8 a9 h9 a10 h10 a11 h11 a12 h12
    c0 c1 x0 x1 x2 x3 x4 x5 x6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

theorem outB_10 (c0 : ¬cond0_0 i) (c1 : cond0_1 i) :
    out0_B_10 c i a2 h2 a3 h3 a4 h4 a5 h5 a6 h6 a7 h7 a8 h8 a9 h9 a10 h10 a11 h11 a12 h12 c0 c1
      x0 x1 x2 x3 x4 x5 x6 = outV x2 x5 x6 := by
  rw [← payV_B]
  unfold out0_B_10
  rw [View.read_writes_eq_canon _ _ _ (cover0_B_10 c i a2 h2 a3 h3 a4 h4 a5 h5 a6 h6 a7 h7 a8 h8 a9 h9 a10 h10 a11 h11 a12 h12
    c0 c1 x0 x1 x2 x3 x4 x5 x6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

end

/-! ## The result arrays -/

/-- The gradient of layer `l` at row `a` and column `b`. -/
def grad (ga gb gc gd : S1024x1024.Idx → EReal) (l a b : ℕ) : Ideal .f32 :=
  if l = 0 then FloatOps.addf (F := Ideal) (φ := .f32) (nat2 ga a b) (nat2 gb a b)
  else FloatOps.addf (F := Ideal) (φ := .f32) (nat2 gc a b) (nat2 gd a b)

section
variable (m : (ℓ : Loc nD τ sig) → Buf (Elt Ideal) ℓ) (c : Dev nD)

/-- The weight, its two moments, and the terms of the two layers' gradients. -/
abbrev W : S2x1024x1024.Idx → EReal := m ((c : Thread nD τ).loc main_arg0)
abbrev M : S2x1024x1024.Idx → EReal := m ((c : Thread nD τ).loc main_arg1)
abbrev V2 : S2x1024x1024.Idx → EReal := m ((c : Thread nD τ).loc main_arg2)
abbrev Ga : S1024x1024.Idx → EReal := m ((c : Thread nD τ).loc main_arg3)
abbrev Gb : S1024x1024.Idx → EReal := m ((c : Thread nD τ).loc main_arg4)
abbrev Gc : S1024x1024.Idx → EReal := m ((c : Thread nD τ).loc main_arg5)
abbrev Gd : S1024x1024.Idx → EReal := m ((c : Thread nD τ).loc main_arg6)
abbrev gradm (l a b : ℕ) : Ideal .f32 := grad (Ga m c) (Gb m c) (Gc m c) (Gd m c) l a b

theorem idx : ∀ t : Fin cfg0.N, win0_0.index t = ![t.val / 4, t.val % 4, 0] ∧
    win0_1.index t = ![t.val / 4, t.val % 4, 0] ∧
    win0_2.index t = ![t.val / 4, t.val % 4, 0] ∧
    win0_3.index t = ![t.val % 4 * (1 - t.val / 4), 0] ∧
    win0_4.index t = ![t.val % 4 * (1 - t.val / 4), 0] ∧
    win0_5.index t = ![t.val % 4 * (t.val / 4), 0] ∧
    win0_6.index t = ![t.val % 4 * (t.val / 4), 0] ∧
    win0_7.index t = ![t.val / 4, t.val % 4, 0] ∧
    win0_8.index t = ![t.val / 4, t.val % 4, 0] ∧
    win0_9.index t = ![t.val / 4, t.val % 4, 0] ∧
    win0_10.index t = ![t.val / 4, t.val % 4, 0] := by decide +kernel

theorem tlt (t : Fin cfg0.N) : t.val < 8 := lt_of_lt_of_eq t.isLt N_0

theorem iblk0 (t : Fin cfg0.N) (r : Fin 256) (d : Fin 1024) :
    (iblk m c 0 t (ix3 0 r d) : EReal) = nat3 (W m c) (t.val / 4) (256 * (t.val % 4) + r.val) d.val := by
  have := tlt t
  rw [nat3_pos _ (show t.val / 4 < 2 by omega) (show 256 * (t.val % 4) + r.val < 1024 by omega) d.isLt]
  blk_ext [iblk, Gen.V, idx t]

theorem iblk1 (t : Fin cfg0.N) (r : Fin 256) (d : Fin 1024) :
    (iblk m c 1 t (ix3 0 r d) : EReal) = nat3 (M m c) (t.val / 4) (256 * (t.val % 4) + r.val) d.val := by
  have := tlt t
  rw [nat3_pos _ (show t.val / 4 < 2 by omega) (show 256 * (t.val % 4) + r.val < 1024 by omega) d.isLt]
  blk_ext [iblk, Gen.V, idx t]

theorem iblk2 (t : Fin cfg0.N) (r : Fin 256) (d : Fin 1024) :
    (iblk m c 2 t (ix3 0 r d) : EReal) = nat3 (V2 m c) (t.val / 4) (256 * (t.val % 4) + r.val) d.val := by
  have := tlt t
  rw [nat3_pos _ (show t.val / 4 < 2 by omega) (show 256 * (t.val % 4) + r.val < 1024 by omega) d.isLt]
  blk_ext [iblk, Gen.V, idx t]

theorem iblk3 (t : Fin cfg0.N) (h : t.val / 4 = 0) (r : Fin 256) (d : Fin 1024) :
    (iblk m c 3 t (ix2 r d) : EReal) = nat2 (Ga m c) (256 * (t.val % 4) + r.val) d.val := by
  have := tlt t
  rw [nat2_pos _ (show 256 * (t.val % 4) + r.val < 1024 by omega) d.isLt]
  blk_ext [iblk, Gen.V, idx t, h]

theorem iblk4 (t : Fin cfg0.N) (h : t.val / 4 = 0) (r : Fin 256) (d : Fin 1024) :
    (iblk m c 4 t (ix2 r d) : EReal) = nat2 (Gb m c) (256 * (t.val % 4) + r.val) d.val := by
  have := tlt t
  rw [nat2_pos _ (show 256 * (t.val % 4) + r.val < 1024 by omega) d.isLt]
  blk_ext [iblk, Gen.V, idx t, h]

theorem iblk5 (t : Fin cfg0.N) (h : t.val / 4 = 1) (r : Fin 256) (d : Fin 1024) :
    (iblk m c 5 t (ix2 r d) : EReal) = nat2 (Gc m c) (256 * (t.val % 4) + r.val) d.val := by
  have := tlt t
  rw [nat2_pos _ (show 256 * (t.val % 4) + r.val < 1024 by omega) d.isLt]
  blk_ext [iblk, Gen.V, idx t, h]

theorem iblk6 (t : Fin cfg0.N) (h : t.val / 4 = 1) (r : Fin 256) (d : Fin 1024) :
    (iblk m c 6 t (ix2 r d) : EReal) = nat2 (Gd m c) (256 * (t.val % 4) + r.val) d.val := by
  have := tlt t
  rw [nat2_pos _ (show 256 * (t.val % 4) + r.val < 1024 by omega) d.isLt]
  blk_ext [iblk, Gen.V, idx t, h]

/-- The four blocks a point writes. -/
theorem blocks (t : Fin cfg0.N) : outsAt0 m c t.val t.isLt =
    ((fun y => gradm m c (t.val / 4) (256 * (t.val % 4) + (y 1).val) (y 2).val),
     (fun y => delta (nat3 (W m c) (t.val / 4) (256 * (t.val % 4) + (y 1).val) (y 2).val) (gradm m c (t.val / 4) (256 * (t.val % 4) + (y 1).val) (y 2).val)
      (nat3 (M m c) (t.val / 4) (256 * (t.val % 4) + (y 1).val) (y 2).val) (nat3 (V2 m c) (t.val / 4) (256 * (t.val % 4) + (y 1).val) (y 2).val)),
     (fun y => newM (gradm m c (t.val / 4) (256 * (t.val % 4) + (y 1).val) (y 2).val) (nat3 (M m c) (t.val / 4) (256 * (t.val % 4) + (y 1).val) (y 2).val)),
     (fun y => newV (gradm m c (t.val / 4) (256 * (t.val % 4) + (y 1).val) (y 2).val) (nat3 (V2 m c) (t.val / 4) (256 * (t.val % 4) + (y 1).val) (y 2).val))) := by
  have ht := tlt t
  by_cases h : t.val < 4
  · rw [outsAt0_A m c t h (by omega), outA_7, outA_8, outA_9, outA_10]
    have h0 : t.val / 4 = 0 := by omega
    have g : ∀ y : S1x256x1024.Idx, gr (iblk m c 3 t) (iblk m c 4 t) y = gradm m c (t.val / 4) (256 * (t.val % 4) + (y 1).val) (y 2).val := fun y =>
      (congrArg₂ (FloatOps.addf (F := Ideal) (φ := .f32)) (iblk3 m c t h0 (y 1) (y 2)) (iblk4 m c t h0 (y 1) (y 2))).trans
        (if_pos h0).symm
    exact Prod.ext (funext fun y => g y) (Prod.ext
      (funext fun y => delta_congr (iblk0 m c t (y 1) (y 2)) (g y) (iblk1 m c t (y 1) (y 2)) (iblk2 m c t (y 1) (y 2)))
      (Prod.ext (funext fun y => newM_congr (g y) (iblk1 m c t (y 1) (y 2)))
        (funext fun y => newV_congr (g y) (iblk2 m c t (y 1) (y 2)))))
  · rw [outsAt0_B m c t h (by omega), outB_7, outB_8, outB_9, outB_10]
    have h1 : t.val / 4 = 1 := by omega
    have g : ∀ y : S1x256x1024.Idx, gr (iblk m c 5 t) (iblk m c 6 t) y = gradm m c (t.val / 4) (256 * (t.val % 4) + (y 1).val) (y 2).val := fun y =>
      (congrArg₂ (FloatOps.addf (F := Ideal) (φ := .f32)) (iblk5 m c t h1 (y 1) (y 2)) (iblk6 m c t h1 (y 1) (y 2))).trans
        (if_neg (by omega)).symm
    exact Prod.ext (funext fun y => g y) (Prod.ext
      (funext fun y => delta_congr (iblk0 m c t (y 1) (y 2)) (g y) (iblk1 m c t (y 1) (y 2)) (iblk2 m c t (y 1) (y 2)))
      (Prod.ext (funext fun y => newM_congr (g y) (iblk1 m c t (y 1) (y 2)))
        (funext fun y => newV_congr (g y) (iblk2 m c t (y 1) (y 2)))))

/-- Equal numbers give equal entries. -/
theorem at3 {α : Type} (f : ℕ → ℕ → ℕ → α) {l l' a a' b b' : ℕ} (h : l = l') (h' : a = a') (h'' : b = b') :
    f l a b = f l' a' b' := by rw [h, h', h'']

theorem arr7 : (dats m 0 c).arrAt 7 cfg0.N = fun i : S2x1024x1024.Idx => gradm m c (i 0).val (i 1).val (i 2).val := by
  refine (dats m 0 c).arrAt_eq_of_covers 7 _ (by decide +kernel) fun t hf y => ?_
  have ht := tlt t
  rw [after0_7, blocks]
  refine at3 (a := 256 * (t.val % 4) + (y 1).val) (b := (y 2).val) (gradm m c) ?_ ?_ ?_ <;>
    blk_simp [idx t] <;> omega

theorem arr8 : (dats m 0 c).arrAt 8 cfg0.N = fun i : S2x1024x1024.Idx => delta (nat3 (W m c) (i 0).val (i 1).val (i 2).val) (gradm m c (i 0).val (i 1).val (i 2).val) (nat3 (M m c) (i 0).val (i 1).val (i 2).val)
      (nat3 (V2 m c) (i 0).val (i 1).val (i 2).val) := by
  refine (dats m 0 c).arrAt_eq_of_covers 8 _ (by decide +kernel) fun t hf y => ?_
  have ht := tlt t
  rw [after0_8, blocks]
  refine at3 (a := 256 * (t.val % 4) + (y 1).val) (b := (y 2).val) (fun l a b => delta (nat3 (W m c) l a b) (gradm m c l a b) (nat3 (M m c) l a b) (nat3 (V2 m c) l a b)) ?_ ?_ ?_ <;>
    blk_simp [idx t] <;> omega

theorem arr9 : (dats m 0 c).arrAt 9 cfg0.N = fun i : S2x1024x1024.Idx => newM (gradm m c (i 0).val (i 1).val (i 2).val) (nat3 (M m c) (i 0).val (i 1).val (i 2).val) := by
  refine (dats m 0 c).arrAt_eq_of_covers 9 _ (by decide +kernel) fun t hf y => ?_
  have ht := tlt t
  rw [after0_9, blocks]
  refine at3 (a := 256 * (t.val % 4) + (y 1).val) (b := (y 2).val) (fun l a b => newM (gradm m c l a b) (nat3 (M m c) l a b)) ?_ ?_ ?_ <;>
    blk_simp [idx t] <;> omega

theorem arr10 : (dats m 0 c).arrAt 10 cfg0.N = fun i : S2x1024x1024.Idx => newV (gradm m c (i 0).val (i 1).val (i 2).val) (nat3 (V2 m c) (i 0).val (i 1).val (i 2).val) := by
  refine (dats m 0 c).arrAt_eq_of_covers 10 _ (by decide +kernel) fun t hf y => ?_
  have ht := tlt t
  rw [after0_10, blocks]
  refine at3 (a := 256 * (t.val % 4) + (y 1).val) (b := (y 2).val) (fun l a b => newV (gradm m c l a b) (nat3 (V2 m c) l a b)) ?_ ?_ ?_ <;>
    blk_simp [idx t] <;> omega

end

/-! ## The reference -/

section
variable (x0 x1 x2 : S2x1024x1024.Idx → EReal) (x3 x4 x5 x6 : S1024x1024.Idx → EReal)
open Cert.Reference26Ideal.Read

theorem refG : (val_main_v4 (F := Ideal) x3 x4 x5 x6 : S2x1024x1024.Idx → EReal) = fun i => grad x3 x4 x5 x6 (i 0).val (i 1).val (i 2).val := by
  funext i
  have h0 : (i 0).val < 2 := (i 0).isLt
  unfold val_main_v4 grad
  by_cases h : (i 0).val = 0
  · refine (concatenate_pair_apply_left (t := Cert.Reference26Ideal.S2x1024x1024) (s₁ := Cert.Reference26Ideal.S1x1024x1024) (s₂ := Cert.Reference26Ideal.S1x1024x1024) 0 _ _ _ i rfl (ix3 (0 : Fin 1) (i 1) (i 2)) (fun b => ?_)).trans ?_
    · match b with
      | ⟨0, _⟩ => exact h.symm
      | ⟨1, _⟩ => rfl
      | ⟨2, _⟩ => rfl
    · rw [val_main_v2_apply, val_main_v0_apply, if_pos h]
      exact congrArg₂ (FloatOps.addf (F := Ideal) (φ := .f32)) (nat2_idx x3 _).symm (nat2_idx x4 _).symm
  · refine (concatenate_pair_apply_right (t := Cert.Reference26Ideal.S2x1024x1024) (s₁ := Cert.Reference26Ideal.S1x1024x1024) (s₂ := Cert.Reference26Ideal.S1x1024x1024) 0 _ _ _ i rfl rfl (ix3 (0 : Fin 1) (i 1) (i 2)) (fun b hb => ?_) ?_).trans ?_
    · match b with
      | ⟨0, _⟩ => exact absurd rfl hb
      | ⟨1, _⟩ => rfl
      | ⟨2, _⟩ => rfl
    · show 0 + 1 = (i 0).val
      omega
    · rw [val_main_v3_apply, val_main_v1_apply, if_neg h]
      exact congrArg₂ (FloatOps.addf (F := Ideal) (φ := .f32)) (nat2_idx x5 _).symm (nat2_idx x6 _).symm

theorem refM : (val_main_v9 (F := Ideal) x1 x3 x4 x5 x6 : S2x1024x1024.Idx → EReal) = fun i =>
    newM (grad x3 x4 x5 x6 (i 0).val (i 1).val (i 2).val) (nat3 x1 (i 0).val (i 1).val (i 2).val) := by
  funext i
  rw [← congrFun (refG x3 x4 x5 x6) i, nat3_idx, val_main_v9_apply, val_main_v8_apply, val_main_v7_apply, val_main_cst_0_apply, val_main_v6_apply, val_main_v5_apply, val_main_cst_apply]
  unfold newM
  rfl

theorem refV : (val_main_v15 (F := Ideal) x2 x3 x4 x5 x6 : S2x1024x1024.Idx → EReal) = fun i =>
    newV (grad x3 x4 x5 x6 (i 0).val (i 1).val (i 2).val) (nat3 x2 (i 0).val (i 1).val (i 2).val) := by
  funext i
  rw [← congrFun (refG x3 x4 x5 x6) i, nat3_idx, val_main_v15_apply, val_main_v14_apply, val_main_v13_apply, val_main_cst_2_apply, val_main_v12_apply, val_main_v11_apply, val_main_v10_apply, val_main_cst_1_apply]
  unfold newV
  rfl

theorem refD : (val_main_v28 (F := Ideal) x0 x1 x2 x3 x4 x5 x6 : S2x1024x1024.Idx → EReal) = fun i =>
    delta (nat3 x0 (i 0).val (i 1).val (i 2).val) (grad x3 x4 x5 x6 (i 0).val (i 1).val (i 2).val)
      (nat3 x1 (i 0).val (i 1).val (i 2).val) (nat3 x2 (i 0).val (i 1).val (i 2).val) := by
  funext i
  unfold delta
  rw [← congrFun (refM x1 x3 x4 x5 x6) i, ← congrFun (refV x2 x3 x4 x5 x6) i, nat3_idx]
  rw [val_main_v28_apply, val_main_v27_apply, val_main_cst_7_apply, val_main_v26_apply, val_main_v25_apply, val_main_v24_apply, val_main_cst_6_apply, val_main_v23_apply, val_main_v22_apply, val_main_v21_apply, val_main_cst_5_apply, val_main_v20_apply, val_main_v19_apply, val_main_v18_apply, val_main_cst_4_apply, val_main_v17_apply, val_main_v16_apply, val_main_cst_3_apply]
  rfl

end

theorem frame_reference : Cert.quiescent_Reference26Ideal := fun m ρ _ =>
  (θ_run Cert.Reference26Ideal.defs _ _).mono
    (fun r h => ⟨fun c => (h c).2.2.2.2, Idealize.ShloMosaic.sem_eq_zero_of_no_sems (by decide) r.2⟩)
    (Cert.Reference26Ideal.Value.run (F := Ideal) m ρ)

/-- The kernel's four arrays are the reference's. -/
theorem algebraic : Cert.algebraic_Kernel26Ideal_Reference26Ideal := by
  intro m g m' g' _ hagree
  refine ⟨fun c => (dats m 0 c).arrAt 7 cfg0.N, fun c => (dats m 0 c).arrAt 8 cfg0.N,
    fun c => (dats m 0 c).arrAt 9 cfg0.N, fun c => (dats m 0 c).arrAt 10 cfg0.N,
    Cert.Kernel26Ideal.Value.run_blocks m g, ?_⟩
  refine (θ_run Cert.Reference26Ideal.defs _ _).mono (fun r h c => ?_) (Cert.Reference26Ideal.Value.run (F := Ideal) m' g')
  obtain ⟨e0, e1, e2, e3, e4, e5, e6⟩ := hagree c
  refine ⟨(h c).1.trans ?_, (h c).2.1.trans ?_, (h c).2.2.1.trans ?_, (h c).2.2.2.1.trans ?_, (h c).2.2.2.2⟩
  · rw [Cert.Reference26Ideal.Read.val_main_v4_eq, e3, e4, e5, e6]
    exact (refG _ _ _ _).trans (arr7 m c).symm
  · rw [Cert.Reference26Ideal.Read.val_main_v28_eq, e0, e1, e2, e3, e4, e5, e6]
    exact (refD _ _ _ _ _ _ _).trans (arr8 m c).symm
  · rw [Cert.Reference26Ideal.Read.val_main_v9_eq, e1, e3, e4, e5, e6]
    exact (refM _ _ _ _ _).trans (arr9 m c).symm
  · rw [Cert.Reference26Ideal.Read.val_main_v15_eq, e2, e3, e4, e5, e6]
    exact (refV _ _ _ _ _).trans (arr10 m c).symm

end Cert.Kernel26Ideal.Adam

end
-- ==== Proof.Adam.Out.lean ====
/- The AdamW step of an output projection's weight in both layers, as the kernel computes it: the sum of a layer's
   gradient terms and the step from it, a layer at a time. -/
module

public import proofs.«01_k».proof.Proof.Adam.Step
public import proofs.«01_k».proof.Defs
public import proofs.«01_k».proof.Proof.Gen.Kernel27Ideal.Value
public import proofs.«01_k».proof.Proof.Gen.Reference27Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel27Ideal.Adam

open Cert.Kernel27Ideal Cert.Kernel27Ideal.Gen Idealize.ShloMosaic Idealize.ShloMosaic.TcCoe Idealize.SL.Sem
open Cert.Mm Cert.Adam

theorem hz2 : (![0, 0] : Fin 2 → Nat) = fun _ => 0 := funext fun a => by fin_cases a <;> rfl
theorem hz3 : (![0, 0, 0] : Fin 3 → Nat) = fun _ => 0 := funext fun a => by fin_cases a <;> rfl

/-- A layer's block as a matrix, and back. -/
theorem up (v : Vec Ideal S256x1024 .f32) (y : S1x256x1024.Idx) :
    (shapeCast S1x256x1024 v shapeCasts_S256x1024_S1x256x1024 y : EReal) = v (ix2 (y 1) (y 2)) := by
  pointwise []

theorem down (v : Vec Ideal S1x256x1024 .f32) (r : Fin 256) (d : Fin 1024) :
    (shapeCast S256x1024 v shapeCasts_S1x256x1024_S256x1024 (ix2 r d) : EReal) = v (ix3 0 r d) := by
  pointwise []

/-! ## What a grid point writes: the sum of its layer's gradient terms and the step from it -/

section
variable (x0 x1 x2 : Vec Ideal S1x256x1024 .f32) (xa xb : Vec Ideal S256x1024 .f32)

/-- The gradient at an index of the block. -/
abbrev gr (y : S1x256x1024.Idx) : Ideal .f32 := FloatOps.addf (xa (ix2 (y 1) (y 2))) (xb (ix2 (y 1) (y 2)))

abbrev outG : Vec Ideal S1x256x1024 .f32 := fun y => gr xa xb y
abbrev outD : Vec Ideal S1x256x1024 .f32 := fun y =>
  delta (x0 (ix3 0 (y 1) (y 2))) (gr xa xb y) (x1 (ix3 0 (y 1) (y 2))) (x2 (ix3 0 (y 1) (y 2)))
abbrev outM : Vec Ideal S1x256x1024 .f32 := fun y => newM (gr xa xb y) (x1 (ix3 0 (y 1) (y 2)))
abbrev outV : Vec Ideal S1x256x1024 .f32 := fun y => newV (gr xa xb y) (x2 (ix3 0 (y 1) (y 2)))

theorem payG_A : k0_pay10 xa xb = outG xa xb := by
  funext y
  unfold k0_pay10
  exact (up _ y).trans rfl

theorem payM_A : k0_pay2 (k0_pay8 xa xb x1) = outM x1 xa xb := by
  funext y
  unfold k0_pay2
  refine (up _ y).trans ?_
  unfold outM newM
  rw [← down x1 (y 1) (y 2)]
  rfl

theorem payV_A : k0_pay3 (k0_pay9 xa xb x2) = outV x2 xa xb := by
  funext y
  unfold k0_pay3
  refine (up _ y).trans ?_
  unfold outV newV
  rw [← down x2 (y 1) (y 2)]
  rfl

theorem payD_A : k0_pay1 (k0_pay11 xa xb x1 x2 x0) (Scalar.ofBits .f32 0xBA83126F#32) = outD x0 x1 x2 xa xb := by
  funext y
  unfold k0_pay1
  refine (up _ y).trans ?_
  unfold outD delta newM newV
  rw [← down x0 (y 1) (y 2), ← down x1 (y 1) (y 2), ← down x2 (y 1) (y 2)]
  rfl

theorem payG_B : k0_pay15 xa xb = outG xa xb := by
  funext y
  unfold k0_pay15
  exact (up _ y).trans rfl

theorem payM_B : k0_pay5 (k0_pay13 xa xb x1) = outM x1 xa xb := by
  funext y
  unfold k0_pay5
  refine (up _ y).trans ?_
  unfold outM newM
  rw [← down x1 (y 1) (y 2)]
  rfl

theorem payV_B : k0_pay6 (k0_pay14 xa xb x2) = outV x2 xa xb := by
  funext y
  unfold k0_pay6
  refine (up _ y).trans ?_
  unfold outV newV
  rw [← down x2 (y 1) (y 2)]
  rfl

theorem payD_B : k0_pay4 (k0_pay16 xa xb x1 x2 x0) (Scalar.ofBits .f32 0xBA83126F#32) = outD x0 x1 x2 xa xb := by
  funext y
  unfold k0_pay4
  refine (up _ y).trans ?_
  unfold outD delta newM newV
  rw [← down x0 (y 1) (y 2), ← down x1 (y 1) (y 2), ← down x2 (y 1) (y 2)]
  rfl

end

section
variable (c : Dev nD) (i : grid0.Coords)
  (a2 : Memref sig .tc .vmem S1x256x1024 .f32) (h2 : a2.IsWhole)
  (a3 : Memref sig .tc .vmem S1x256x1024 .f32) (h3 : a3.IsWhole)
  (a4 : Memref sig .tc .vmem S1x256x1024 .f32) (h4 : a4.IsWhole)
  (a5 : Memref sig .tc .vmem S256x1024 .f32) (h5 : a5.IsWhole)
  (a6 : Memref sig .tc .vmem S256x1024 .f32) (h6 : a6.IsWhole)
  (a7 : Memref sig .tc .vmem S256x1024 .f32) (h7 : a7.IsWhole)
  (a8 : Memref sig .tc .vmem S256x1024 .f32) (h8 : a8.IsWhole)
  (a9 : Memref sig .tc .vmem S1x256x1024 .f32) (h9 : a9.IsWhole)
  (a10 : Memref sig .tc .vmem S1x256x1024 .f32) (h10 : a10.IsWhole)
  (a11 : Memref sig .tc .vmem S1x256x1024 .f32) (h11 : a11.IsWhole)
  (a12 : Memref sig .tc .vmem S1x256x1024 .f32) (h12 : a12.IsWhole)
  (x0 x1 x2 : Vec Ideal S1x256x1024 .f32) (x3 x4 x5 x6 : Vec Ideal S256x1024 .f32)

theorem outA_7 (c0 : cond0_0 i) (c1 : ¬cond0_1 i) :
    out0_A_7 c i a2 h2 a3 h3 a4 h4 a5 h5 a6 h6 a7 h7 a8 h8 a9 h9 a10 h10 a11 h11 a12 h12 c0 c1
      x0 x1 x2 x3 x4 x5 x6 = outG x3 x4 := by
  rw [← payG_A]
  unfold out0_A_7
  rw [View.read_writes_eq_canon _ _ _ (cover0_A_7 c i a2 h2 a3 h3 a4 h4 a5 h5 a6 h6 a7 h7 a8 h8 a9 h9 a10 h10 a11 h11 a12 h12
    c0 c1 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

theorem outA_8 (c0 : cond0_0 i) (c1 : ¬cond0_1 i) :
    out0_A_8 c i a2 h2 a3 h3 a4 h4 a5 h5 a6 h6 a7 h7 a8 h8 a9 h9 a10 h10 a11 h11 a12 h12 c0 c1
      x0 x1 x2 x3 x4 x5 x6 = outD x0 x1 x2 x3 x4 := by
  rw [← payD_A]
  unfold out0_A_8
  rw [View.read_writes_eq_canon _ _ _ (cover0_A_8 c i a2 h2 a3 h3 a4 h4 a5 h5 a6 h6 a7 h7 a8 h8 a9 h9 a10 h10 a11 h11 a12 h12
    c0 c1 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

theorem outA_9 (c0 : cond0_0 i) (c1 : ¬cond0_1 i) :
    out0_A_9 c i a2 h2 a3 h3 a4 h4 a5 h5 a6 h6 a7 h7 a8 h8 a9 h9 a10 h10 a11 h11 a12 h12 c0 c1
      x0 x1 x2 x3 x4 x5 x6 = outM x1 x3 x4 := by
  rw [← payM_A]
  unfold out0_A_9
  rw [View.read_writes_eq_canon _ _ _ (cover0_A_9 c i a2 h2 a3 h3 a4 h4 a5 h5 a6 h6 a7 h7 a8 h8 a9 h9 a10 h10 a11 h11 a12 h12
    c0 c1 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

theorem outA_10 (c0 : cond0_0 i) (c1 : ¬cond0_1 i) :
    out0_A_10 c i a2 h2 a3 h3 a4 h4 a5 h5 a6 h6 a7 h7 a8 h8 a9 h9 a10 h10 a11 h11 a12 h12 c0 c1
      x0 x1 x2 x3 x4 x5 x6 = outV x2 x3 x4 := by
  rw [← payV_A]
  unfold out0_A_10
  rw [View.read_writes_eq_canon _ _ _ (cover0_A_10 c i a2 h2 a3 h3 a4 h4 a5 h5 a6 h6 a7 h7 a8 h8 a9 h9 a10 h10 a11 h11 a12 h12
    c0 c1 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

theorem outB_7 (c0 : ¬cond0_0 i) (c1 : cond0_1 i) :
    out0_B_7 c i a2 h2 a3 h3 a4 h4 a5 h5 a6 h6 a7 h7 a8 h8 a9 h9 a10 h10 a11 h11 a12 h12 c0 c1
      x0 x1 x2 x3 x4 x5 x6 = outG x5 x6 := by
  rw [← payG_B]
  unfold out0_B_7
  rw [View.read_writes_eq_canon _ _ _ (cover0_B_7 c i a2 h2 a3 h3 a4 h4 a5 h5 a6 h6 a7 h7 a8 h8 a9 h9 a10 h10 a11 h11 a12 h12
    c0 c1 x0 x1 x2 x3 x4 x5 x6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

theorem outB_8 (c0 : ¬cond0_0 i) (c1 : cond0_1 i) :
    out0_B_8 c i a2 h2 a3 h3 a4 h4 a5 h5 a6 h6 a7 h7 a8 h8 a9 h9 a10 h10 a11 h11 a12 h12 c0 c1
      x0 x1 x2 x3 x4 x5 x6 = outD x0 x1 x2 x5 x6 := by
  rw [← payD_B]
  unfold out0_B_8
  rw [View.read_writes_eq_canon _ _ _ (cover0_B_8 c i a2 h2 a3 h3 a4 h4 a5 h5 a6 h6 a7 h7 a8 h8 a9 h9 a10 h10 a11 h11 a12 h12
    c0 c1 x0 x1 x2 x3 x4 x5 x6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

theorem outB_9 (c0 : ¬cond0_0 i) (c1 : cond0_1 i) :
    out0_B_9 c i a2 h2 a3 h3 a4 h4 a5 h5 a6 h6 a7 h7 a8 h8 a9 h9 a10 h10 a11 h11 a12 h12 c0 c1
      x0 x1 x2 x3 x4 x5 x6 = outM x1 x5 x6 := by
  rw [← payM_B]
  unfold out0_B_9
  rw [View.read_writes_eq_canon _ _ _ (cover0_B_9 c i a2 h2 a3 h3 a4 h4 a5 h5 a6 h6 a7 h7 a8 h8 a9 h9 a10 h10 a11 h11 a12 h12
    c0 c1 x0 x1 x2 x3 x4 x5 x6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

theorem outB_10 (c0 : ¬cond0_0 i) (c1 : cond0_1 i) :
    out0_B_10 c i a2 h2 a3 h3 a4 h4 a5 h5 a6 h6 a7 h7 a8 h8 a9 h9 a10 h10 a11 h11 a12 h12 c0 c1
      x0 x1 x2 x3 x4 x5 x6 = outV x2 x5 x6 := by
  rw [← payV_B]
  unfold out0_B_10
  rw [View.read_writes_eq_canon _ _ _ (cover0_B_10 c i a2 h2 a3 h3 a4 h4 a5 h5 a6 h6 a7 h7 a8 h8 a9 h9 a10 h10 a11 h11 a12 h12
    c0 c1 x0 x1 x2 x3 x4 x5 x6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S256x1024) hz2, View.ld_unit_zero (S := S1x256x1024) hz3]

end

/-! ## The result arrays -/

/-- The gradient of layer `l` at row `a` and column `b`. -/
def grad (ga gb gc gd : S256x1024.Idx → EReal) (l a b : ℕ) : Ideal .f32 :=
  if l = 0 then FloatOps.addf (F := Ideal) (φ := .f32) (nat2 ga a b) (nat2 gb a b)
  else FloatOps.addf (F := Ideal) (φ := .f32) (nat2 gc a b) (nat2 gd a b)

section
variable (m : (ℓ : Loc nD τ sig) → Buf (Elt Ideal) ℓ) (c : Dev nD)

/-- The weight, its two moments, and the terms of the two layers' gradients. -/
abbrev W : S2x256x1024.Idx → EReal := m ((c : Thread nD τ).loc main_arg0)
abbrev M : S2x256x1024.Idx → EReal := m ((c : Thread nD τ).loc main_arg1)
abbrev V2 : S2x256x1024.Idx → EReal := m ((c : Thread nD τ).loc main_arg2)
abbrev Ga : S256x1024.Idx → EReal := m ((c : Thread nD τ).loc main_arg3)
abbrev Gb : S256x1024.Idx → EReal := m ((c : Thread nD τ).loc main_arg4)
abbrev Gc : S256x1024.Idx → EReal := m ((c : Thread nD τ).loc main_arg5)
abbrev Gd : S256x1024.Idx → EReal := m ((c : Thread nD τ).loc main_arg6)
abbrev gradm (l a b : ℕ) : Ideal .f32 := grad (Ga m c) (Gb m c) (Gc m c) (Gd m c) l a b

theorem idx : ∀ t : Fin cfg0.N, win0_0.index t = ![t.val, 0, 0] ∧
    win0_1.index t = ![t.val, 0, 0] ∧
    win0_2.index t = ![t.val, 0, 0] ∧
    win0_3.index t = ![0, 0] ∧
    win0_4.index t = ![0, 0] ∧
    win0_5.index t = ![0, 0] ∧
    win0_6.index t = ![0, 0] ∧
    win0_7.index t = ![t.val, 0, 0] ∧
    win0_8.index t = ![t.val, 0, 0] ∧
    win0_9.index t = ![t.val, 0, 0] ∧
    win0_10.index t = ![t.val, 0, 0] := by decide +kernel

theorem tlt (t : Fin cfg0.N) : t.val < 2 := lt_of_lt_of_eq t.isLt N_0

theorem iblk0 (t : Fin cfg0.N) (r : Fin 256) (d : Fin 1024) :
    (iblk m c 0 t (ix3 0 r d) : EReal) = nat3 (W m c) t.val r.val d.val := by
  have := tlt t
  rw [nat3_pos _ (show t.val < 2 by omega) r.isLt d.isLt]
  blk_ext [iblk, Gen.V, idx t]

theorem iblk1 (t : Fin cfg0.N) (r : Fin 256) (d : Fin 1024) :
    (iblk m c 1 t (ix3 0 r d) : EReal) = nat3 (M m c) t.val r.val d.val := by
  have := tlt t
  rw [nat3_pos _ (show t.val < 2 by omega) r.isLt d.isLt]
  blk_ext [iblk, Gen.V, idx t]

theorem iblk2 (t : Fin cfg0.N) (r : Fin 256) (d : Fin 1024) :
    (iblk m c 2 t (ix3 0 r d) : EReal) = nat3 (V2 m c) t.val r.val d.val := by
  have := tlt t
  rw [nat3_pos _ (show t.val < 2 by omega) r.isLt d.isLt]
  blk_ext [iblk, Gen.V, idx t]

theorem iblk3 (t : Fin cfg0.N) (h : t.val = 0) (r : Fin 256) (d : Fin 1024) :
    (iblk m c 3 t (ix2 r d) : EReal) = nat2 (Ga m c) r.val d.val := by
  have := tlt t
  rw [nat2_pos _ r.isLt d.isLt]
  blk_ext [iblk, Gen.V, idx t]

theorem iblk4 (t : Fin cfg0.N) (h : t.val = 0) (r : Fin 256) (d : Fin 1024) :
    (iblk m c 4 t (ix2 r d) : EReal) = nat2 (Gb m c) r.val d.val := by
  have := tlt t
  rw [nat2_pos _ r.isLt d.isLt]
  blk_ext [iblk, Gen.V, idx t]

theorem iblk5 (t : Fin cfg0.N) (h : t.val = 1) (r : Fin 256) (d : Fin 1024) :
    (iblk m c 5 t (ix2 r d) : EReal) = nat2 (Gc m c) r.val d.val := by
  have := tlt t
  rw [nat2_pos _ r.isLt d.isLt]
  blk_ext [iblk, Gen.V, idx t]

theorem iblk6 (t : Fin cfg0.N) (h : t.val = 1) (r : Fin 256) (d : Fin 1024) :
    (iblk m c 6 t (ix2 r d) : EReal) = nat2 (Gd m c) r.val d.val := by
  have := tlt t
  rw [nat2_pos _ r.isLt d.isLt]
  blk_ext [iblk, Gen.V, idx t]

/-- The four blocks a point writes. -/
theorem blocks (t : Fin cfg0.N) : outsAt0 m c t.val t.isLt =
    ((fun y => gradm m c t.val ((y 1).val) (y 2).val),
     (fun y => delta (nat3 (W m c) t.val ((y 1).val) (y 2).val) (gradm m c t.val ((y 1).val) (y 2).val)
      (nat3 (M m c) t.val ((y 1).val) (y 2).val) (nat3 (V2 m c) t.val ((y 1).val) (y 2).val)),
     (fun y => newM (gradm m c t.val ((y 1).val) (y 2).val) (nat3 (M m c) t.val ((y 1).val) (y 2).val)),
     (fun y => newV (gradm m c t.val ((y 1).val) (y 2).val) (nat3 (V2 m c) t.val ((y 1).val) (y 2).val))) := by
  have ht := tlt t
  by_cases h : t.val % 2 = 0
  · rw [outsAt0_A m c t h (by omega), outA_7, outA_8, outA_9, outA_10]
    have h0 : t.val = 0 := by omega
    have g : ∀ y : S1x256x1024.Idx, gr (iblk m c 3 t) (iblk m c 4 t) y = gradm m c t.val ((y 1).val) (y 2).val := fun y =>
      (congrArg₂ (FloatOps.addf (F := Ideal) (φ := .f32)) (iblk3 m c t h0 (y 1) (y 2)) (iblk4 m c t h0 (y 1) (y 2))).trans
        (if_pos h0).symm
    exact Prod.ext (funext fun y => g y) (Prod.ext
      (funext fun y => delta_congr (iblk0 m c t (y 1) (y 2)) (g y) (iblk1 m c t (y 1) (y 2)) (iblk2 m c t (y 1) (y 2)))
      (Prod.ext (funext fun y => newM_congr (g y) (iblk1 m c t (y 1) (y 2)))
        (funext fun y => newV_congr (g y) (iblk2 m c t (y 1) (y 2)))))
  · rw [outsAt0_B m c t h (by omega), outB_7, outB_8, outB_9, outB_10]
    have h1 : t.val = 1 := by omega
    have g : ∀ y : S1x256x1024.Idx, gr (iblk m c 5 t) (iblk m c 6 t) y = gradm m c t.val ((y 1).val) (y 2).val := fun y =>
      (congrArg₂ (FloatOps.addf (F := Ideal) (φ := .f32)) (iblk5 m c t h1 (y 1) (y 2)) (iblk6 m c t h1 (y 1) (y 2))).trans
        (if_neg (by omega)).symm
    exact Prod.ext (funext fun y => g y) (Prod.ext
      (funext fun y => delta_congr (iblk0 m c t (y 1) (y 2)) (g y) (iblk1 m c t (y 1) (y 2)) (iblk2 m c t (y 1) (y 2)))
      (Prod.ext (funext fun y => newM_congr (g y) (iblk1 m c t (y 1) (y 2)))
        (funext fun y => newV_congr (g y) (iblk2 m c t (y 1) (y 2)))))

/-- Equal numbers give equal entries. -/
theorem at3 {α : Type} (f : ℕ → ℕ → ℕ → α) {l l' a a' b b' : ℕ} (h : l = l') (h' : a = a') (h'' : b = b') :
    f l a b = f l' a' b' := by rw [h, h', h'']

theorem arr7 : (dats m 0 c).arrAt 7 cfg0.N = fun i : S2x256x1024.Idx => gradm m c (i 0).val (i 1).val (i 2).val := by
  refine (dats m 0 c).arrAt_eq_of_covers 7 _ (by decide +kernel) fun t hf y => ?_
  have ht := tlt t
  rw [after0_7, blocks]
  refine at3 (a := (y 1).val) (b := (y 2).val) (gradm m c) ?_ ?_ ?_ <;>
    blk_simp [idx t] <;> omega

theorem arr8 : (dats m 0 c).arrAt 8 cfg0.N = fun i : S2x256x1024.Idx => delta (nat3 (W m c) (i 0).val (i 1).val (i 2).val) (gradm m c (i 0).val (i 1).val (i 2).val) (nat3 (M m c) (i 0).val (i 1).val (i 2).val)
      (nat3 (V2 m c) (i 0).val (i 1).val (i 2).val) := by
  refine (dats m 0 c).arrAt_eq_of_covers 8 _ (by decide +kernel) fun t hf y => ?_
  have ht := tlt t
  rw [after0_8, blocks]
  refine at3 (a := (y 1).val) (b := (y 2).val) (fun l a b => delta (nat3 (W m c) l a b) (gradm m c l a b) (nat3 (M m c) l a b) (nat3 (V2 m c) l a b)) ?_ ?_ ?_ <;>
    blk_simp [idx t] <;> omega

theorem arr9 : (dats m 0 c).arrAt 9 cfg0.N = fun i : S2x256x1024.Idx => newM (gradm m c (i 0).val (i 1).val (i 2).val) (nat3 (M m c) (i 0).val (i 1).val (i 2).val) := by
  refine (dats m 0 c).arrAt_eq_of_covers 9 _ (by decide +kernel) fun t hf y => ?_
  have ht := tlt t
  rw [after0_9, blocks]
  refine at3 (a := (y 1).val) (b := (y 2).val) (fun l a b => newM (gradm m c l a b) (nat3 (M m c) l a b)) ?_ ?_ ?_ <;>
    blk_simp [idx t] <;> omega

theorem arr10 : (dats m 0 c).arrAt 10 cfg0.N = fun i : S2x256x1024.Idx => newV (gradm m c (i 0).val (i 1).val (i 2).val) (nat3 (V2 m c) (i 0).val (i 1).val (i 2).val) := by
  refine (dats m 0 c).arrAt_eq_of_covers 10 _ (by decide +kernel) fun t hf y => ?_
  have ht := tlt t
  rw [after0_10, blocks]
  refine at3 (a := (y 1).val) (b := (y 2).val) (fun l a b => newV (gradm m c l a b) (nat3 (V2 m c) l a b)) ?_ ?_ ?_ <;>
    blk_simp [idx t] <;> omega

end

/-! ## The reference -/

section
variable (x0 x1 x2 : S2x256x1024.Idx → EReal) (x3 x4 x5 x6 : S256x1024.Idx → EReal)
open Cert.Reference27Ideal.Read

theorem refG : (val_main_v4 (F := Ideal) x3 x4 x5 x6 : S2x256x1024.Idx → EReal) = fun i => grad x3 x4 x5 x6 (i 0).val (i 1).val (i 2).val := by
  funext i
  have h0 : (i 0).val < 2 := (i 0).isLt
  unfold val_main_v4 grad
  by_cases h : (i 0).val = 0
  · refine (concatenate_pair_apply_left (t := Cert.Reference27Ideal.S2x256x1024) (s₁ := Cert.Reference27Ideal.S1x256x1024) (s₂ := Cert.Reference27Ideal.S1x256x1024) 0 _ _ _ i rfl (ix3 (0 : Fin 1) (i 1) (i 2)) (fun b => ?_)).trans ?_
    · match b with
      | ⟨0, _⟩ => exact h.symm
      | ⟨1, _⟩ => rfl
      | ⟨2, _⟩ => rfl
    · rw [val_main_v2_apply, val_main_v0_apply, if_pos h]
      exact congrArg₂ (FloatOps.addf (F := Ideal) (φ := .f32)) (nat2_idx x3 _).symm (nat2_idx x4 _).symm
  · refine (concatenate_pair_apply_right (t := Cert.Reference27Ideal.S2x256x1024) (s₁ := Cert.Reference27Ideal.S1x256x1024) (s₂ := Cert.Reference27Ideal.S1x256x1024) 0 _ _ _ i rfl rfl (ix3 (0 : Fin 1) (i 1) (i 2)) (fun b hb => ?_) ?_).trans ?_
    · match b with
      | ⟨0, _⟩ => exact absurd rfl hb
      | ⟨1, _⟩ => rfl
      | ⟨2, _⟩ => rfl
    · show 0 + 1 = (i 0).val
      omega
    · rw [val_main_v3_apply, val_main_v1_apply, if_neg h]
      exact congrArg₂ (FloatOps.addf (F := Ideal) (φ := .f32)) (nat2_idx x5 _).symm (nat2_idx x6 _).symm

theorem refM : (val_main_v9 (F := Ideal) x1 x3 x4 x5 x6 : S2x256x1024.Idx → EReal) = fun i =>
    newM (grad x3 x4 x5 x6 (i 0).val (i 1).val (i 2).val) (nat3 x1 (i 0).val (i 1).val (i 2).val) := by
  funext i
  rw [← congrFun (refG x3 x4 x5 x6) i, nat3_idx, val_main_v9_apply, val_main_v8_apply, val_main_v7_apply, val_main_cst_0_apply, val_main_v6_apply, val_main_v5_apply, val_main_cst_apply]
  unfold newM
  rfl

theorem refV : (val_main_v15 (F := Ideal) x2 x3 x4 x5 x6 : S2x256x1024.Idx → EReal) = fun i =>
    newV (grad x3 x4 x5 x6 (i 0).val (i 1).val (i 2).val) (nat3 x2 (i 0).val (i 1).val (i 2).val) := by
  funext i
  rw [← congrFun (refG x3 x4 x5 x6) i, nat3_idx, val_main_v15_apply, val_main_v14_apply, val_main_v13_apply, val_main_cst_2_apply, val_main_v12_apply, val_main_v11_apply, val_main_v10_apply, val_main_cst_1_apply]
  unfold newV
  rfl

theorem refD : (val_main_v28 (F := Ideal) x0 x1 x2 x3 x4 x5 x6 : S2x256x1024.Idx → EReal) = fun i =>
    delta (nat3 x0 (i 0).val (i 1).val (i 2).val) (grad x3 x4 x5 x6 (i 0).val (i 1).val (i 2).val)
      (nat3 x1 (i 0).val (i 1).val (i 2).val) (nat3 x2 (i 0).val (i 1).val (i 2).val) := by
  funext i
  unfold delta
  rw [← congrFun (refM x1 x3 x4 x5 x6) i, ← congrFun (refV x2 x3 x4 x5 x6) i, nat3_idx]
  rw [val_main_v28_apply, val_main_v27_apply, val_main_cst_7_apply, val_main_v26_apply, val_main_v25_apply, val_main_v24_apply, val_main_cst_6_apply, val_main_v23_apply, val_main_v22_apply, val_main_v21_apply, val_main_cst_5_apply, val_main_v20_apply, val_main_v19_apply, val_main_v18_apply, val_main_cst_4_apply, val_main_v17_apply, val_main_v16_apply, val_main_cst_3_apply]
  rfl

end

theorem frame_reference : Cert.quiescent_Reference27Ideal := fun m ρ _ =>
  (θ_run Cert.Reference27Ideal.defs _ _).mono
    (fun r h => ⟨fun c => (h c).2.2.2.2, Idealize.ShloMosaic.sem_eq_zero_of_no_sems (by decide) r.2⟩)
    (Cert.Reference27Ideal.Value.run (F := Ideal) m ρ)

/-- The kernel's four arrays are the reference's. -/
theorem algebraic : Cert.algebraic_Kernel27Ideal_Reference27Ideal := by
  intro m g m' g' _ hagree
  refine ⟨fun c => (dats m 0 c).arrAt 7 cfg0.N, fun c => (dats m 0 c).arrAt 8 cfg0.N,
    fun c => (dats m 0 c).arrAt 9 cfg0.N, fun c => (dats m 0 c).arrAt 10 cfg0.N,
    Cert.Kernel27Ideal.Value.run_blocks m g, ?_⟩
  refine (θ_run Cert.Reference27Ideal.defs _ _).mono (fun r h c => ?_) (Cert.Reference27Ideal.Value.run (F := Ideal) m' g')
  obtain ⟨e0, e1, e2, e3, e4, e5, e6⟩ := hagree c
  refine ⟨(h c).1.trans ?_, (h c).2.1.trans ?_, (h c).2.2.1.trans ?_, (h c).2.2.2.1.trans ?_, (h c).2.2.2.2⟩
  · rw [Cert.Reference27Ideal.Read.val_main_v4_eq, e3, e4, e5, e6]
    exact (refG _ _ _ _).trans (arr7 m c).symm
  · rw [Cert.Reference27Ideal.Read.val_main_v28_eq, e0, e1, e2, e3, e4, e5, e6]
    exact (refD _ _ _ _ _ _ _).trans (arr8 m c).symm
  · rw [Cert.Reference27Ideal.Read.val_main_v9_eq, e1, e3, e4, e5, e6]
    exact (refM _ _ _ _ _).trans (arr9 m c).symm
  · rw [Cert.Reference27Ideal.Read.val_main_v15_eq, e2, e3, e4, e5, e6]
    exact (refV _ _ _ _ _).trans (arr10 m c).symm

end Cert.Kernel27Ideal.Adam

end
-- ==== Proof.Adam.Branch.lean ====
/- The AdamW step of a half-width branch's output weight in both layers, as the kernel computes it: the sum of a
   layer's gradient terms and the step from it, a layer at a time. -/
module

public import proofs.«01_k».proof.Proof.Adam.Step
public import proofs.«01_k».proof.Defs
public import proofs.«01_k».proof.Proof.Gen.Kernel28Ideal.Value
public import proofs.«01_k».proof.Proof.Gen.Reference28Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel28Ideal.Adam

open Cert.Kernel28Ideal Cert.Kernel28Ideal.Gen Idealize.ShloMosaic Idealize.ShloMosaic.TcCoe Idealize.SL.Sem
open Cert.Mm Cert.Adam

theorem hz2 : (![0, 0] : Fin 2 → Nat) = fun _ => 0 := funext fun a => by fin_cases a <;> rfl
theorem hz3 : (![0, 0, 0] : Fin 3 → Nat) = fun _ => 0 := funext fun a => by fin_cases a <;> rfl

/-- A layer's block as a matrix, and back. -/
theorem up (v : Vec Ideal S512x256 .f32) (y : S1x512x256.Idx) :
    (shapeCast S1x512x256 v shapeCasts_S512x256_S1x512x256 y : EReal) = v (ix2 (y 1) (y 2)) := by
  pointwise []

theorem down (v : Vec Ideal S1x512x256 .f32) (r : Fin 512) (d : Fin 256) :
    (shapeCast S512x256 v shapeCasts_S1x512x256_S512x256 (ix2 r d) : EReal) = v (ix3 0 r d) := by
  pointwise []

/-! ## What a grid point writes: the sum of its layer's gradient terms and the step from it -/

section
variable (x0 x1 x2 : Vec Ideal S1x512x256 .f32) (xa xb : Vec Ideal S512x256 .f32)

/-- The gradient at an index of the block. -/
abbrev gr (y : S1x512x256.Idx) : Ideal .f32 := FloatOps.addf (xa (ix2 (y 1) (y 2))) (xb (ix2 (y 1) (y 2)))

abbrev outG : Vec Ideal S1x512x256 .f32 := fun y => gr xa xb y
abbrev outD : Vec Ideal S1x512x256 .f32 := fun y =>
  delta (x0 (ix3 0 (y 1) (y 2))) (gr xa xb y) (x1 (ix3 0 (y 1) (y 2))) (x2 (ix3 0 (y 1) (y 2)))
abbrev outM : Vec Ideal S1x512x256 .f32 := fun y => newM (gr xa xb y) (x1 (ix3 0 (y 1) (y 2)))
abbrev outV : Vec Ideal S1x512x256 .f32 := fun y => newV (gr xa xb y) (x2 (ix3 0 (y 1) (y 2)))

theorem payG_A : k0_pay10 xa xb = outG xa xb := by
  funext y
  unfold k0_pay10
  exact (up _ y).trans rfl

theorem payM_A : k0_pay2 (k0_pay8 xa xb x1) = outM x1 xa xb := by
  funext y
  unfold k0_pay2
  refine (up _ y).trans ?_
  unfold outM newM
  rw [← down x1 (y 1) (y 2)]
  rfl

theorem payV_A : k0_pay3 (k0_pay9 xa xb x2) = outV x2 xa xb := by
  funext y
  unfold k0_pay3
  refine (up _ y).trans ?_
  unfold outV newV
  rw [← down x2 (y 1) (y 2)]
  rfl

theorem payD_A : k0_pay1 (k0_pay11 xa xb x1 x2 x0) (Scalar.ofBits .f32 0xBA83126F#32) = outD x0 x1 x2 xa xb := by
  funext y
  unfold k0_pay1
  refine (up _ y).trans ?_
  unfold outD delta newM newV
  rw [← down x0 (y 1) (y 2), ← down x1 (y 1) (y 2), ← down x2 (y 1) (y 2)]
  rfl

theorem payG_B : k0_pay15 xa xb = outG xa xb := by
  funext y
  unfold k0_pay15
  exact (up _ y).trans rfl

theorem payM_B : k0_pay5 (k0_pay13 xa xb x1) = outM x1 xa xb := by
  funext y
  unfold k0_pay5
  refine (up _ y).trans ?_
  unfold outM newM
  rw [← down x1 (y 1) (y 2)]
  rfl

theorem payV_B : k0_pay6 (k0_pay14 xa xb x2) = outV x2 xa xb := by
  funext y
  unfold k0_pay6
  refine (up _ y).trans ?_
  unfold outV newV
  rw [← down x2 (y 1) (y 2)]
  rfl

theorem payD_B : k0_pay4 (k0_pay16 xa xb x1 x2 x0) (Scalar.ofBits .f32 0xBA83126F#32) = outD x0 x1 x2 xa xb := by
  funext y
  unfold k0_pay4
  refine (up _ y).trans ?_
  unfold outD delta newM newV
  rw [← down x0 (y 1) (y 2), ← down x1 (y 1) (y 2), ← down x2 (y 1) (y 2)]
  rfl

end

section
variable (c : Dev nD) (i : grid0.Coords)
  (a2 : Memref sig .tc .vmem S1x512x256 .f32) (h2 : a2.IsWhole)
  (a3 : Memref sig .tc .vmem S1x512x256 .f32) (h3 : a3.IsWhole)
  (a4 : Memref sig .tc .vmem S1x512x256 .f32) (h4 : a4.IsWhole)
  (a5 : Memref sig .tc .vmem S512x256 .f32) (h5 : a5.IsWhole)
  (a6 : Memref sig .tc .vmem S512x256 .f32) (h6 : a6.IsWhole)
  (a7 : Memref sig .tc .vmem S512x256 .f32) (h7 : a7.IsWhole)
  (a8 : Memref sig .tc .vmem S512x256 .f32) (h8 : a8.IsWhole)
  (a9 : Memref sig .tc .vmem S1x512x256 .f32) (h9 : a9.IsWhole)
  (a10 : Memref sig .tc .vmem S1x512x256 .f32) (h10 : a10.IsWhole)
  (a11 : Memref sig .tc .vmem S1x512x256 .f32) (h11 : a11.IsWhole)
  (a12 : Memref sig .tc .vmem S1x512x256 .f32) (h12 : a12.IsWhole)
  (x0 x1 x2 : Vec Ideal S1x512x256 .f32) (x3 x4 x5 x6 : Vec Ideal S512x256 .f32)

theorem outA_7 (c0 : cond0_0 i) (c1 : ¬cond0_1 i) :
    out0_A_7 c i a2 h2 a3 h3 a4 h4 a5 h5 a6 h6 a7 h7 a8 h8 a9 h9 a10 h10 a11 h11 a12 h12 c0 c1
      x0 x1 x2 x3 x4 x5 x6 = outG x3 x4 := by
  rw [← payG_A]
  unfold out0_A_7
  rw [View.read_writes_eq_canon _ _ _ (cover0_A_7 c i a2 h2 a3 h3 a4 h4 a5 h5 a6 h6 a7 h7 a8 h8 a9 h9 a10 h10 a11 h11 a12 h12
    c0 c1 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S512x256) hz2, View.ld_unit_zero (S := S1x512x256) hz3]

theorem outA_8 (c0 : cond0_0 i) (c1 : ¬cond0_1 i) :
    out0_A_8 c i a2 h2 a3 h3 a4 h4 a5 h5 a6 h6 a7 h7 a8 h8 a9 h9 a10 h10 a11 h11 a12 h12 c0 c1
      x0 x1 x2 x3 x4 x5 x6 = outD x0 x1 x2 x3 x4 := by
  rw [← payD_A]
  unfold out0_A_8
  rw [View.read_writes_eq_canon _ _ _ (cover0_A_8 c i a2 h2 a3 h3 a4 h4 a5 h5 a6 h6 a7 h7 a8 h8 a9 h9 a10 h10 a11 h11 a12 h12
    c0 c1 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S512x256) hz2, View.ld_unit_zero (S := S1x512x256) hz3]

theorem outA_9 (c0 : cond0_0 i) (c1 : ¬cond0_1 i) :
    out0_A_9 c i a2 h2 a3 h3 a4 h4 a5 h5 a6 h6 a7 h7 a8 h8 a9 h9 a10 h10 a11 h11 a12 h12 c0 c1
      x0 x1 x2 x3 x4 x5 x6 = outM x1 x3 x4 := by
  rw [← payM_A]
  unfold out0_A_9
  rw [View.read_writes_eq_canon _ _ _ (cover0_A_9 c i a2 h2 a3 h3 a4 h4 a5 h5 a6 h6 a7 h7 a8 h8 a9 h9 a10 h10 a11 h11 a12 h12
    c0 c1 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S512x256) hz2, View.ld_unit_zero (S := S1x512x256) hz3]

theorem outA_10 (c0 : cond0_0 i) (c1 : ¬cond0_1 i) :
    out0_A_10 c i a2 h2 a3 h3 a4 h4 a5 h5 a6 h6 a7 h7 a8 h8 a9 h9 a10 h10 a11 h11 a12 h12 c0 c1
      x0 x1 x2 x3 x4 x5 x6 = outV x2 x3 x4 := by
  rw [← payV_A]
  unfold out0_A_10
  rw [View.read_writes_eq_canon _ _ _ (cover0_A_10 c i a2 h2 a3 h3 a4 h4 a5 h5 a6 h6 a7 h7 a8 h8 a9 h9 a10 h10 a11 h11 a12 h12
    c0 c1 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S512x256) hz2, View.ld_unit_zero (S := S1x512x256) hz3]

theorem outB_7 (c0 : ¬cond0_0 i) (c1 : cond0_1 i) :
    out0_B_7 c i a2 h2 a3 h3 a4 h4 a5 h5 a6 h6 a7 h7 a8 h8 a9 h9 a10 h10 a11 h11 a12 h12 c0 c1
      x0 x1 x2 x3 x4 x5 x6 = outG x5 x6 := by
  rw [← payG_B]
  unfold out0_B_7
  rw [View.read_writes_eq_canon _ _ _ (cover0_B_7 c i a2 h2 a3 h3 a4 h4 a5 h5 a6 h6 a7 h7 a8 h8 a9 h9 a10 h10 a11 h11 a12 h12
    c0 c1 x0 x1 x2 x3 x4 x5 x6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S512x256) hz2, View.ld_unit_zero (S := S1x512x256) hz3]

theorem outB_8 (c0 : ¬cond0_0 i) (c1 : cond0_1 i) :
    out0_B_8 c i a2 h2 a3 h3 a4 h4 a5 h5 a6 h6 a7 h7 a8 h8 a9 h9 a10 h10 a11 h11 a12 h12 c0 c1
      x0 x1 x2 x3 x4 x5 x6 = outD x0 x1 x2 x5 x6 := by
  rw [← payD_B]
  unfold out0_B_8
  rw [View.read_writes_eq_canon _ _ _ (cover0_B_8 c i a2 h2 a3 h3 a4 h4 a5 h5 a6 h6 a7 h7 a8 h8 a9 h9 a10 h10 a11 h11 a12 h12
    c0 c1 x0 x1 x2 x3 x4 x5 x6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S512x256) hz2, View.ld_unit_zero (S := S1x512x256) hz3]

theorem outB_9 (c0 : ¬cond0_0 i) (c1 : cond0_1 i) :
    out0_B_9 c i a2 h2 a3 h3 a4 h4 a5 h5 a6 h6 a7 h7 a8 h8 a9 h9 a10 h10 a11 h11 a12 h12 c0 c1
      x0 x1 x2 x3 x4 x5 x6 = outM x1 x5 x6 := by
  rw [← payM_B]
  unfold out0_B_9
  rw [View.read_writes_eq_canon _ _ _ (cover0_B_9 c i a2 h2 a3 h3 a4 h4 a5 h5 a6 h6 a7 h7 a8 h8 a9 h9 a10 h10 a11 h11 a12 h12
    c0 c1 x0 x1 x2 x3 x4 x5 x6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S512x256) hz2, View.ld_unit_zero (S := S1x512x256) hz3]

theorem outB_10 (c0 : ¬cond0_0 i) (c1 : cond0_1 i) :
    out0_B_10 c i a2 h2 a3 h3 a4 h4 a5 h5 a6 h6 a7 h7 a8 h8 a9 h9 a10 h10 a11 h11 a12 h12 c0 c1
      x0 x1 x2 x3 x4 x5 x6 = outV x2 x5 x6 := by
  rw [← payV_B]
  unfold out0_B_10
  rw [View.read_writes_eq_canon _ _ _ (cover0_B_10 c i a2 h2 a3 h3 a4 h4 a5 h5 a6 h6 a7 h7 a8 h8 a9 h9 a10 h10 a11 h11 a12 h12
    c0 c1 x0 x1 x2 x3 x4 x5 x6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S512x256) hz2, View.ld_unit_zero (S := S1x512x256) hz3]

end

/-! ## The result arrays -/

/-- The gradient of layer `l` at row `a` and column `b`. -/
def grad (ga gb gc gd : S512x256.Idx → EReal) (l a b : ℕ) : Ideal .f32 :=
  if l = 0 then FloatOps.addf (F := Ideal) (φ := .f32) (nat2 ga a b) (nat2 gb a b)
  else FloatOps.addf (F := Ideal) (φ := .f32) (nat2 gc a b) (nat2 gd a b)

section
variable (m : (ℓ : Loc nD τ sig) → Buf (Elt Ideal) ℓ) (c : Dev nD)

/-- The weight, its two moments, and the terms of the two layers' gradients. -/
abbrev W : S2x512x256.Idx → EReal := m ((c : Thread nD τ).loc main_arg0)
abbrev M : S2x512x256.Idx → EReal := m ((c : Thread nD τ).loc main_arg1)
abbrev V2 : S2x512x256.Idx → EReal := m ((c : Thread nD τ).loc main_arg2)
abbrev Ga : S512x256.Idx → EReal := m ((c : Thread nD τ).loc main_arg3)
abbrev Gb : S512x256.Idx → EReal := m ((c : Thread nD τ).loc main_arg4)
abbrev Gc : S512x256.Idx → EReal := m ((c : Thread nD τ).loc main_arg5)
abbrev Gd : S512x256.Idx → EReal := m ((c : Thread nD τ).loc main_arg6)
abbrev gradm (l a b : ℕ) : Ideal .f32 := grad (Ga m c) (Gb m c) (Gc m c) (Gd m c) l a b

theorem idx : ∀ t : Fin cfg0.N, win0_0.index t = ![t.val, 0, 0] ∧
    win0_1.index t = ![t.val, 0, 0] ∧
    win0_2.index t = ![t.val, 0, 0] ∧
    win0_3.index t = ![0, 0] ∧
    win0_4.index t = ![0, 0] ∧
    win0_5.index t = ![0, 0] ∧
    win0_6.index t = ![0, 0] ∧
    win0_7.index t = ![t.val, 0, 0] ∧
    win0_8.index t = ![t.val, 0, 0] ∧
    win0_9.index t = ![t.val, 0, 0] ∧
    win0_10.index t = ![t.val, 0, 0] := by decide +kernel

theorem tlt (t : Fin cfg0.N) : t.val < 2 := lt_of_lt_of_eq t.isLt N_0

theorem iblk0 (t : Fin cfg0.N) (r : Fin 512) (d : Fin 256) :
    (iblk m c 0 t (ix3 0 r d) : EReal) = nat3 (W m c) t.val r.val d.val := by
  have := tlt t
  rw [nat3_pos _ (show t.val < 2 by omega) r.isLt d.isLt]
  blk_ext [iblk, Gen.V, idx t]

theorem iblk1 (t : Fin cfg0.N) (r : Fin 512) (d : Fin 256) :
    (iblk m c 1 t (ix3 0 r d) : EReal) = nat3 (M m c) t.val r.val d.val := by
  have := tlt t
  rw [nat3_pos _ (show t.val < 2 by omega) r.isLt d.isLt]
  blk_ext [iblk, Gen.V, idx t]

theorem iblk2 (t : Fin cfg0.N) (r : Fin 512) (d : Fin 256) :
    (iblk m c 2 t (ix3 0 r d) : EReal) = nat3 (V2 m c) t.val r.val d.val := by
  have := tlt t
  rw [nat3_pos _ (show t.val < 2 by omega) r.isLt d.isLt]
  blk_ext [iblk, Gen.V, idx t]

theorem iblk3 (t : Fin cfg0.N) (h : t.val = 0) (r : Fin 512) (d : Fin 256) :
    (iblk m c 3 t (ix2 r d) : EReal) = nat2 (Ga m c) r.val d.val := by
  have := tlt t
  rw [nat2_pos _ r.isLt d.isLt]
  blk_ext [iblk, Gen.V, idx t]

theorem iblk4 (t : Fin cfg0.N) (h : t.val = 0) (r : Fin 512) (d : Fin 256) :
    (iblk m c 4 t (ix2 r d) : EReal) = nat2 (Gb m c) r.val d.val := by
  have := tlt t
  rw [nat2_pos _ r.isLt d.isLt]
  blk_ext [iblk, Gen.V, idx t]

theorem iblk5 (t : Fin cfg0.N) (h : t.val = 1) (r : Fin 512) (d : Fin 256) :
    (iblk m c 5 t (ix2 r d) : EReal) = nat2 (Gc m c) r.val d.val := by
  have := tlt t
  rw [nat2_pos _ r.isLt d.isLt]
  blk_ext [iblk, Gen.V, idx t]

theorem iblk6 (t : Fin cfg0.N) (h : t.val = 1) (r : Fin 512) (d : Fin 256) :
    (iblk m c 6 t (ix2 r d) : EReal) = nat2 (Gd m c) r.val d.val := by
  have := tlt t
  rw [nat2_pos _ r.isLt d.isLt]
  blk_ext [iblk, Gen.V, idx t]

/-- The four blocks a point writes. -/
theorem blocks (t : Fin cfg0.N) : outsAt0 m c t.val t.isLt =
    ((fun y => gradm m c t.val ((y 1).val) (y 2).val),
     (fun y => delta (nat3 (W m c) t.val ((y 1).val) (y 2).val) (gradm m c t.val ((y 1).val) (y 2).val)
      (nat3 (M m c) t.val ((y 1).val) (y 2).val) (nat3 (V2 m c) t.val ((y 1).val) (y 2).val)),
     (fun y => newM (gradm m c t.val ((y 1).val) (y 2).val) (nat3 (M m c) t.val ((y 1).val) (y 2).val)),
     (fun y => newV (gradm m c t.val ((y 1).val) (y 2).val) (nat3 (V2 m c) t.val ((y 1).val) (y 2).val))) := by
  have ht := tlt t
  by_cases h : t.val % 2 = 0
  · rw [outsAt0_A m c t h (by omega), outA_7, outA_8, outA_9, outA_10]
    have h0 : t.val = 0 := by omega
    have g : ∀ y : S1x512x256.Idx, gr (iblk m c 3 t) (iblk m c 4 t) y = gradm m c t.val ((y 1).val) (y 2).val := fun y =>
      (congrArg₂ (FloatOps.addf (F := Ideal) (φ := .f32)) (iblk3 m c t h0 (y 1) (y 2)) (iblk4 m c t h0 (y 1) (y 2))).trans
        (if_pos h0).symm
    exact Prod.ext (funext fun y => g y) (Prod.ext
      (funext fun y => delta_congr (iblk0 m c t (y 1) (y 2)) (g y) (iblk1 m c t (y 1) (y 2)) (iblk2 m c t (y 1) (y 2)))
      (Prod.ext (funext fun y => newM_congr (g y) (iblk1 m c t (y 1) (y 2)))
        (funext fun y => newV_congr (g y) (iblk2 m c t (y 1) (y 2)))))
  · rw [outsAt0_B m c t h (by omega), outB_7, outB_8, outB_9, outB_10]
    have h1 : t.val = 1 := by omega
    have g : ∀ y : S1x512x256.Idx, gr (iblk m c 5 t) (iblk m c 6 t) y = gradm m c t.val ((y 1).val) (y 2).val := fun y =>
      (congrArg₂ (FloatOps.addf (F := Ideal) (φ := .f32)) (iblk5 m c t h1 (y 1) (y 2)) (iblk6 m c t h1 (y 1) (y 2))).trans
        (if_neg (by omega)).symm
    exact Prod.ext (funext fun y => g y) (Prod.ext
      (funext fun y => delta_congr (iblk0 m c t (y 1) (y 2)) (g y) (iblk1 m c t (y 1) (y 2)) (iblk2 m c t (y 1) (y 2)))
      (Prod.ext (funext fun y => newM_congr (g y) (iblk1 m c t (y 1) (y 2)))
        (funext fun y => newV_congr (g y) (iblk2 m c t (y 1) (y 2)))))

/-- Equal numbers give equal entries. -/
theorem at3 {α : Type} (f : ℕ → ℕ → ℕ → α) {l l' a a' b b' : ℕ} (h : l = l') (h' : a = a') (h'' : b = b') :
    f l a b = f l' a' b' := by rw [h, h', h'']

theorem arr7 : (dats m 0 c).arrAt 7 cfg0.N = fun i : S2x512x256.Idx => gradm m c (i 0).val (i 1).val (i 2).val := by
  refine (dats m 0 c).arrAt_eq_of_covers 7 _ (by decide +kernel) fun t hf y => ?_
  have ht := tlt t
  rw [after0_7, blocks]
  refine at3 (a := (y 1).val) (b := (y 2).val) (gradm m c) ?_ ?_ ?_ <;>
    blk_simp [idx t] <;> omega

theorem arr8 : (dats m 0 c).arrAt 8 cfg0.N = fun i : S2x512x256.Idx => delta (nat3 (W m c) (i 0).val (i 1).val (i 2).val) (gradm m c (i 0).val (i 1).val (i 2).val) (nat3 (M m c) (i 0).val (i 1).val (i 2).val)
      (nat3 (V2 m c) (i 0).val (i 1).val (i 2).val) := by
  refine (dats m 0 c).arrAt_eq_of_covers 8 _ (by decide +kernel) fun t hf y => ?_
  have ht := tlt t
  rw [after0_8, blocks]
  refine at3 (a := (y 1).val) (b := (y 2).val) (fun l a b => delta (nat3 (W m c) l a b) (gradm m c l a b) (nat3 (M m c) l a b) (nat3 (V2 m c) l a b)) ?_ ?_ ?_ <;>
    blk_simp [idx t] <;> omega

theorem arr9 : (dats m 0 c).arrAt 9 cfg0.N = fun i : S2x512x256.Idx => newM (gradm m c (i 0).val (i 1).val (i 2).val) (nat3 (M m c) (i 0).val (i 1).val (i 2).val) := by
  refine (dats m 0 c).arrAt_eq_of_covers 9 _ (by decide +kernel) fun t hf y => ?_
  have ht := tlt t
  rw [after0_9, blocks]
  refine at3 (a := (y 1).val) (b := (y 2).val) (fun l a b => newM (gradm m c l a b) (nat3 (M m c) l a b)) ?_ ?_ ?_ <;>
    blk_simp [idx t] <;> omega

theorem arr10 : (dats m 0 c).arrAt 10 cfg0.N = fun i : S2x512x256.Idx => newV (gradm m c (i 0).val (i 1).val (i 2).val) (nat3 (V2 m c) (i 0).val (i 1).val (i 2).val) := by
  refine (dats m 0 c).arrAt_eq_of_covers 10 _ (by decide +kernel) fun t hf y => ?_
  have ht := tlt t
  rw [after0_10, blocks]
  refine at3 (a := (y 1).val) (b := (y 2).val) (fun l a b => newV (gradm m c l a b) (nat3 (V2 m c) l a b)) ?_ ?_ ?_ <;>
    blk_simp [idx t] <;> omega

end

/-! ## The reference -/

section
variable (x0 x1 x2 : S2x512x256.Idx → EReal) (x3 x4 x5 x6 : S512x256.Idx → EReal)
open Cert.Reference28Ideal.Read

theorem refG : (val_main_v4 (F := Ideal) x3 x4 x5 x6 : S2x512x256.Idx → EReal) = fun i => grad x3 x4 x5 x6 (i 0).val (i 1).val (i 2).val := by
  funext i
  have h0 : (i 0).val < 2 := (i 0).isLt
  unfold val_main_v4 grad
  by_cases h : (i 0).val = 0
  · refine (concatenate_pair_apply_left (t := Cert.Reference28Ideal.S2x512x256) (s₁ := Cert.Reference28Ideal.S1x512x256) (s₂ := Cert.Reference28Ideal.S1x512x256) 0 _ _ _ i rfl (ix3 (0 : Fin 1) (i 1) (i 2)) (fun b => ?_)).trans ?_
    · match b with
      | ⟨0, _⟩ => exact h.symm
      | ⟨1, _⟩ => rfl
      | ⟨2, _⟩ => rfl
    · rw [val_main_v2_apply, val_main_v0_apply, if_pos h]
      exact congrArg₂ (FloatOps.addf (F := Ideal) (φ := .f32)) (nat2_idx x3 _).symm (nat2_idx x4 _).symm
  · refine (concatenate_pair_apply_right (t := Cert.Reference28Ideal.S2x512x256) (s₁ := Cert.Reference28Ideal.S1x512x256) (s₂ := Cert.Reference28Ideal.S1x512x256) 0 _ _ _ i rfl rfl (ix3 (0 : Fin 1) (i 1) (i 2)) (fun b hb => ?_) ?_).trans ?_
    · match b with
      | ⟨0, _⟩ => exact absurd rfl hb
      | ⟨1, _⟩ => rfl
      | ⟨2, _⟩ => rfl
    · show 0 + 1 = (i 0).val
      omega
    · rw [val_main_v3_apply, val_main_v1_apply, if_neg h]
      exact congrArg₂ (FloatOps.addf (F := Ideal) (φ := .f32)) (nat2_idx x5 _).symm (nat2_idx x6 _).symm

theorem refM : (val_main_v9 (F := Ideal) x1 x3 x4 x5 x6 : S2x512x256.Idx → EReal) = fun i =>
    newM (grad x3 x4 x5 x6 (i 0).val (i 1).val (i 2).val) (nat3 x1 (i 0).val (i 1).val (i 2).val) := by
  funext i
  rw [← congrFun (refG x3 x4 x5 x6) i, nat3_idx, val_main_v9_apply, val_main_v8_apply, val_main_v7_apply, val_main_cst_0_apply, val_main_v6_apply, val_main_v5_apply, val_main_cst_apply]
  unfold newM
  rfl

theorem refV : (val_main_v15 (F := Ideal) x2 x3 x4 x5 x6 : S2x512x256.Idx → EReal) = fun i =>
    newV (grad x3 x4 x5 x6 (i 0).val (i 1).val (i 2).val) (nat3 x2 (i 0).val (i 1).val (i 2).val) := by
  funext i
  rw [← congrFun (refG x3 x4 x5 x6) i, nat3_idx, val_main_v15_apply, val_main_v14_apply, val_main_v13_apply, val_main_cst_2_apply, val_main_v12_apply, val_main_v11_apply, val_main_v10_apply, val_main_cst_1_apply]
  unfold newV
  rfl

theorem refD : (val_main_v28 (F := Ideal) x0 x1 x2 x3 x4 x5 x6 : S2x512x256.Idx → EReal) = fun i =>
    delta (nat3 x0 (i 0).val (i 1).val (i 2).val) (grad x3 x4 x5 x6 (i 0).val (i 1).val (i 2).val)
      (nat3 x1 (i 0).val (i 1).val (i 2).val) (nat3 x2 (i 0).val (i 1).val (i 2).val) := by
  funext i
  unfold delta
  rw [← congrFun (refM x1 x3 x4 x5 x6) i, ← congrFun (refV x2 x3 x4 x5 x6) i, nat3_idx]
  rw [val_main_v28_apply, val_main_v27_apply, val_main_cst_7_apply, val_main_v26_apply, val_main_v25_apply, val_main_v24_apply, val_main_cst_6_apply, val_main_v23_apply, val_main_v22_apply, val_main_v21_apply, val_main_cst_5_apply, val_main_v20_apply, val_main_v19_apply, val_main_v18_apply, val_main_cst_4_apply, val_main_v17_apply, val_main_v16_apply, val_main_cst_3_apply]
  rfl

end

theorem frame_reference : Cert.quiescent_Reference28Ideal := fun m ρ _ =>
  (θ_run Cert.Reference28Ideal.defs _ _).mono
    (fun r h => ⟨fun c => (h c).2.2.2.2, Idealize.ShloMosaic.sem_eq_zero_of_no_sems (by decide) r.2⟩)
    (Cert.Reference28Ideal.Value.run (F := Ideal) m ρ)

/-- The kernel's four arrays are the reference's. -/
theorem algebraic : Cert.algebraic_Kernel28Ideal_Reference28Ideal := by
  intro m g m' g' _ hagree
  refine ⟨fun c => (dats m 0 c).arrAt 7 cfg0.N, fun c => (dats m 0 c).arrAt 8 cfg0.N,
    fun c => (dats m 0 c).arrAt 9 cfg0.N, fun c => (dats m 0 c).arrAt 10 cfg0.N,
    Cert.Kernel28Ideal.Value.run_blocks m g, ?_⟩
  refine (θ_run Cert.Reference28Ideal.defs _ _).mono (fun r h c => ?_) (Cert.Reference28Ideal.Value.run (F := Ideal) m' g')
  obtain ⟨e0, e1, e2, e3, e4, e5, e6⟩ := hagree c
  refine ⟨(h c).1.trans ?_, (h c).2.1.trans ?_, (h c).2.2.1.trans ?_, (h c).2.2.2.1.trans ?_, (h c).2.2.2.2⟩
  · rw [Cert.Reference28Ideal.Read.val_main_v4_eq, e3, e4, e5, e6]
    exact (refG _ _ _ _).trans (arr7 m c).symm
  · rw [Cert.Reference28Ideal.Read.val_main_v28_eq, e0, e1, e2, e3, e4, e5, e6]
    exact (refD _ _ _ _ _ _ _).trans (arr8 m c).symm
  · rw [Cert.Reference28Ideal.Read.val_main_v9_eq, e1, e3, e4, e5, e6]
    exact (refM _ _ _ _ _).trans (arr9 m c).symm
  · rw [Cert.Reference28Ideal.Read.val_main_v15_eq, e2, e3, e4, e5, e6]
    exact (refV _ _ _ _ _).trans (arr10 m c).symm

end Cert.Kernel28Ideal.Adam

end
-- ==== Proof.Row.Loss.lean ====
/- The loss and its gradient, as the kernel computes them: no gradient for the first block of 256 rows, which the loss
   leaves out; for every later block the gradient, and half the sum of its rows' mean squares added to the loss. -/
module

public import proofs.«01_k».proof.Proof.Mm.Sum
public import proofs.«01_k».proof.Defs
public import proofs.«01_k».proof.Proof.Gen.Kernel29Ideal.Value
public import proofs.«01_k».proof.Proof.Gen.Reference29Ideal.Read
public import Idealize.ShloMosaic.Lib.Quiescent
public import Idealize.ShloMosaic.Lib.KernelVsHost
public import Idealize.ShloMosaic.Lib.Pipeline.ReadBack
public import Idealize.ShloMosaic.Lib.Tactic

@[expose] public section

set_option maxRecDepth 16384

noncomputable section

namespace Cert.Kernel29Ideal.Row

open Cert.Kernel29Ideal Cert.Kernel29Ideal.Gen Idealize.ShloMosaic Idealize.ShloMosaic.TcCoe Idealize.SL.Sem
open Cert.Mm

theorem hz : (![0, 0] : Fin 2 → Nat) = fun _ => 0 := funext fun a => by fin_cases a <;> rfl

/-! ## The numbers of the program -/

/-- The programs' one half, two and 1024. -/
abbrev half : EReal := Ideal.ofBits .f32 0x3F000000#32
abbrev two : EReal := Ideal.ofBits .f32 0x40000000#32
abbrev width : EReal := Ideal.ofBits .f32 0x44800000#32

theorem half_eq : half = ((1 / 2 : ℝ) : EReal) := by
  simp [half, Ideal.ofBits, Ideal.ieee, -EReal.coe_mul]; norm_num

theorem two_eq : two = ((2 : ℝ) : EReal) := by
  simp [two, Ideal.ofBits, Ideal.ieee, -EReal.coe_mul]; norm_num

theorem width_eq : width = ((1024 : ℝ) : EReal) := by
  simp [width, Ideal.ofBits, Ideal.ieee, -EReal.coe_mul]; norm_num

/-- A 1024th of one half of twice a number is a 1024th of it. -/
theorem scale (e : EReal) : Ideal.div (half * 1) width * (two * e) = Ideal.div e width := by
  rw [half_eq, two_eq, width_eq, Ideal.div_coe (by norm_num), Ideal.div_coe (by norm_num), mul_one, ← mul_assoc,
    ← EReal.coe_mul, ← EReal.coe_mul, mul_comm]
  congr 2
  norm_num

/-- Half a sum is the sum of the halves. -/
theorem half_sum (f : ℕ → EReal) : ∀ n : ℕ, half * ∑ s ∈ Finset.range n, f s = ∑ s ∈ Finset.range n, half * f s
  | 0 => by rw [Finset.sum_range_zero, Finset.sum_range_zero, mul_zero]
  | n + 1 => by
    rw [Finset.sum_range_succ, Finset.sum_range_succ, ← half_sum f n]
    refine EReal.left_distrib_of_nonneg_of_ne_top ?_ ?_ _ _
    · rw [half_eq]; exact_mod_cast (by norm_num : (0 : ℝ) ≤ 1 / 2)
    · rw [half_eq]; exact EReal.coe_ne_top _

section
variable {F : FTy → Type} [FloatOps F]
variable (c : Dev nD) (i : grid0.Coords) (a1 : Memref sig .tc .vmem S256x1024 .f32) (h1 : a1.IsWhole)
  (a2 : Memref sig .tc .vmem S256x1024 .f32) (h2 : a2.IsWhole) (a3 : Memref sig .tc .vmem S256x1024 .f32) (h3 : a3.IsWhole)
  (a4 : Memref sig .tc .vmem S8x128 .f32) (h4 : a4.IsWhole)
  (x0 x1 : Vec F S256x1024 .f32) (xo : Vec F S8x128 .f32)

/-- The first point writes zeros, … -/
theorem outA_2 (c0 : cond0_0 i) (c1 : cond0_1 i) (c2 : ¬cond0_2 i) :
    out0_A_2 c i a1 h1 a2 h2 a3 h3 a4 h4 c0 c1 c2 x0 x1 = k0_pay2 := by
  unfold out0_A_2
  rw [View.read_writes_eq_canon _ _ _ (cover0_A_2 c i a1 h1 a2 h2 a3 h3 a4 h4 c0 c1 c2 x0 x1)]
  unfold kernelRun0_A
  dsimp only
  sl_unfold_words
  rw [View.canon_unit_zero hz]

theorem outA_3 (c0 : cond0_0 i) (c1 : cond0_1 i) (c2 : ¬cond0_2 i) :
    out0_A_3 c i a1 h1 a2 h2 a3 h3 a4 h4 c0 c1 c2 x0 x1 = k0_pay1 := by
  unfold out0_A_3
  rw [View.read_writes_eq_canon _ _ _ (cover0_A_3 c i a1 h1 a2 h2 a3 h3 a4 h4 c0 c1 c2 x0 x1)]
  unfold kernelRun0_A
  dsimp only
  sl_unfold_words
  rw [View.canon_unit_zero hz]

/-- … a later one its block's gradient, … -/
theorem outB_2 (c0 : ¬cond0_0 i) (c1 : ¬cond0_1 i) (c2 : cond0_2 i) :
    out0_B_2 c i a1 h1 a2 h2 a3 h3 a4 h4 c0 c1 c2 x0 x1 xo = k0_pay4 x0 x1 := by
  unfold out0_B_2
  rw [View.read_writes_eq_canon _ _ _ (cover0_B_2 c i a1 h1 a2 h2 a3 h3 a4 h4 c0 c1 c2 x0 x1 xo)]
  unfold kernelRun0_B
  dsimp only
  sl_unfold_words
  rw [View.canon_unit_zero hz]
  simp only [View.readAt_eq_ld, h1.read_unread, h2.read_unread, View.ld_unit_zero (S := S256x1024) hz]

/-- … and adds its rows' part of the loss. -/
theorem outB_3 (c0 : ¬cond0_0 i) (c1 : ¬cond0_1 i) (c2 : cond0_2 i) :
    out0_B_3 c i a1 h1 a2 h2 a3 h3 a4 h4 c0 c1 c2 x0 x1 xo = k0_pay5 x0 x1 xo := by
  unfold out0_B_3
  rw [View.read_writes_eq_canon _ _ _ (cover0_B_3 c i a1 h1 a2 h2 a3 h3 a4 h4 c0 c1 c2 x0 x1 xo)]
  unfold kernelRun0_B
  dsimp only
  sl_unfold_words
  rw [View.canon_unit_zero hz]
  simp only [View.readAt_eq_ld, h1.read_unread, h2.read_unread, h4.read_unread, View.ld_unit_zero (S := S256x1024) hz,
    View.ld_unit_zero (S := S8x128) hz]

end

theorem pay1_apply (y : S8x128.Idx) : (k0_pay1 (F := Ideal) y : EReal) = 0 := Ideal.ofBits_zero_f32

theorem pay2_apply (y : S256x1024.Idx) : (k0_pay2 (F := Ideal) y : EReal) = 0 := Ideal.ofBits_zero_f32

theorem pay4_apply (x0 x1 : Vec Ideal S256x1024 .f32) (y : S256x1024.Idx) :
    (k0_pay4 x0 x1 y : EReal) =
      Ideal.div ((x0 (ix2 (y 0) (y 1)) : EReal) - x1 (ix2 (y 0) (y 1))) width := by
  pointwise [k0_pay4, k0_pay3]

theorem pay5_apply (x0 x1 : Vec Ideal S256x1024 .f32) (v : Vec Ideal S8x128 .f32) (y : S8x128.Idx) :
    (k0_pay5 x0 x1 v y : EReal) = (v y : EReal) + half * ∑ k : Fin 256, Ideal.div
      (∑ d : Fin 1024, ((x0 (ix2 k d) : EReal) - x1 (ix2 k d)) * ((x0 (ix2 k d) : EReal) - x1 (ix2 k d))) width := by
  pointwise [k0_pay5, k0_pay3]

/-! ## The staged blocks, and the sum over the points -/

section
variable (m : (ℓ : Loc nD τ sig) → Buf (Elt Ideal) ℓ) (c : Dev nD)

/-- The last activations and the target. -/
abbrev A : S4352x1024.Idx → EReal := m ((c : Thread nD τ).loc main_arg0)
abbrev B : S4096x1024.Idx → EReal := m ((c : Thread nD τ).loc main_arg1)

/-- The error of row `a` of the target at column `b`, and the mean of the row's squares. -/
def err (x : S4352x1024.Idx → EReal) (t : S4096x1024.Idx → EReal) (a b : ℕ) : EReal :=
  nat2 x (256 + a) b - nat2 t a b
def msq (x : S4352x1024.Idx → EReal) (t : S4096x1024.Idx → EReal) (a : ℕ) : EReal :=
  Ideal.div (∑ d : Fin 1024, err x t a d.val * err x t a d.val) width

theorem idx : ∀ t : Fin cfg0.N, win0_0.index t = ![t.val, 0] ∧ win0_1.index t = ![t.val - 1, 0] ∧
    win0_2.index t = ![t.val, 0] ∧ win0_3.index t = ![0, 0] := by decide +kernel

theorem tlt (t : Fin cfg0.N) : t.val < 17 := lt_of_lt_of_eq t.isLt N_0

theorem iblk0 (t : Fin cfg0.N) (r : Fin 256) (d : Fin 1024) :
    (iblk m c 0 t (ix2 r d) : EReal) = nat2 (A m c) (256 * t.val + r.val) d.val := by
  have := tlt t
  rw [nat2_pos _ (show 256 * t.val + r.val < 4352 by omega) d.isLt]
  blk_ext [iblk, Gen.V, idx t]

theorem iblk1 (t : Fin cfg0.N) (r : Fin 256) (d : Fin 1024) :
    (iblk m c 1 t (ix2 r d) : EReal) = nat2 (B m c) (256 * (t.val - 1) + r.val) d.val := by
  have := tlt t
  rw [nat2_pos _ (show 256 * (t.val - 1) + r.val < 4096 by omega) d.isLt]
  blk_ext [iblk, Gen.V, idx t]

theorem errs (t : Fin cfg0.N) (h : 1 ≤ t.val) (r : Fin 256) (d : Fin 1024) :
    (fun a b : EReal => a - b) (iblk m c 0 t (ix2 r d)) (iblk m c 1 t (ix2 r d)) =
      err (A m c) (B m c) (256 * (t.val - 1) + r.val) d.val := by
  refine (congrArg₂ (fun a b : EReal => a - b) (iblk0 m c t r d) (iblk1 m c t r d)).trans ?_
  unfold err
  rw [show 256 * t.val + r.val = 256 + (256 * (t.val - 1) + r.val) by omega]

/-- Point `n`'s part of the loss. -/
def M (n : ℕ) (y : S8x128.Idx) : EReal :=
  if n = 0 then 0 else half * ∑ k : Fin 256, msq (A m c) (B m c) (256 * (n - 1) + k.val)

theorem pay5_M (t : Fin cfg0.N) (h : 1 ≤ t.val) (v : Vec Ideal S8x128 .f32) (y : S8x128.Idx) :
    (k0_pay5 (iblk m c 0 t) (iblk m c 1 t) v y : EReal) = (v y : EReal) + M m c t.val y := by
  rw [pay5_apply]
  unfold M
  rw [if_neg (by omega)]
  refine congrArg (fun e => (v y : EReal) + half * e) (Finset.sum_congr rfl fun k _ => ?_)
  unfold msq
  refine congrArg (fun e => Ideal.div e width) (Finset.sum_congr rfl fun d _ => ?_)
  exact congrArg₂ (fun a b : EReal => a * b) (errs m c t h k d) (errs m c t h k d)

/-- What the loss holds after a point. -/
theorem sums (q j : ℕ) (hj : j < 17) (h : 17 * q + j < cfg0.N) (y : S8x128.Idx) :
    ((outsAt0 m c (17 * q + j) h).2 y : EReal) = ∑ s ∈ Finset.range (j + 1), M m c (17 * q + s) y := by
  refine run_sum (ι := S8x128.Idx) (β := EReal) (fun n h => (outsAt0 m c n h).2) 17 (M m c) ?_ ?_ q j hj h y
  · intro n h hn i
    have hb := tlt ⟨n, h⟩
    have e := outsAt0_A m c ⟨n, h⟩ hn hn (by dsimp only at hb ⊢; omega)
    dsimp only at e hb ⊢
    rw [e]
    dsimp only
    rw [outA_3, pay1_apply]
    unfold M
    rw [if_pos (by omega)]
  · intro n h hn i
    have e := outsAt0_B m c ⟨n + 1, h⟩ hn hn (by dsimp only; omega)
    dsimp only at e ⊢
    rw [e]
    dsimp only
    rw [outB_3]
    exact pay5_M m c ⟨n + 1, h⟩ (by dsimp only; omega) _ i

/-- The gradient of row `a` at column `b`. -/
def grad (x : S4352x1024.Idx → EReal) (t : S4096x1024.Idx → EReal) (a b : ℕ) : EReal :=
  if a < 256 then 0 else Ideal.div (err x t (a - 256) b) width

/-- A block of the gradient. -/
theorem rows (t : Fin cfg0.N) (y : S256x1024.Idx) :
    ((outsAt0 m c t.val t.isLt).1 y : EReal) = grad (A m c) (B m c) (256 * t.val + (y 0).val) (y 1).val := by
  have ht := tlt t
  have hy : (y 0).val < 256 := (y 0).isLt
  unfold grad
  by_cases h : t.val % 17 = 0
  · rw [outsAt0_A m c t h h (by omega)]
    dsimp only
    rw [outA_2, pay2_apply, if_pos (by omega)]
  · rw [outsAt0_B m c t h h (by omega)]
    dsimp only
    rw [outB_2, pay4_apply, if_neg (by omega)]
    refine congrArg (fun e => Ideal.div e width) ((errs m c t (by omega) (y 0) (y 1)).trans ?_)
    rw [show 256 * t.val + (y 0).val - 256 = 256 * (t.val - 1) + (y 0).val by omega]

/-- Equal numbers give equal entries. -/
theorem at2 {α : Type} (f : ℕ → ℕ → α) {a a' b b' : ℕ} (h : a = a') (h' : b = b') : f a b = f a' b' := by rw [h, h']

/-- The gradient's array, … -/
theorem arr2 : (dats m 0 c).arrAt 2 cfg0.N = fun i : S4352x1024.Idx => grad (A m c) (B m c) (i 0).val (i 1).val := by
  refine (dats m 0 c).arrAt_eq_of_covers 2 _ (by decide +kernel) fun t hf y => ?_
  have ht := tlt t
  rw [after0_2]
  refine (rows m c t y).trans ?_
  refine at2 (a := 256 * t.val + (y 0).val) (b := (y 1).val) (grad (A m c) (B m c)) ?_ ?_ <;> blk_simp [idx t] <;> omega

/-- … and the loss's. -/
theorem arr3 : (dats m 0 c).arrAt 3 cfg0.N = fun i : S8x128.Idx =>
    half * ∑ k : Fin 4096, msq (A m c) (B m c) k.val := by
  refine (dats m 0 c).arrAt_eq_of_covers 3 _ (by decide +kernel) fun t hf y => ?_
  have ht := tlt t
  have hm : t.val = 17 * 0 + 16 := by have := (flush0_3 t).mp hf; omega
  rw [after0_3]
  have hs := sums m c 0 16 (by decide) (by have := t.isLt; omega) y
  simp only [← hm] at hs
  refine hs.trans ?_
  rw [Finset.sum_range_succ']
  have hsum := sum_blocks (fun k => msq (A m c) (B m c) k) 256 16
  refine (congrArg₂ (· + ·) (Finset.sum_congr rfl fun s _ => ?_) (?_ : M m c (17 * 0 + 0) y = 0)).trans ((add_zero _).trans
    ((half_sum (fun s => ∑ k : Fin 256, msq (A m c) (B m c) (256 * s + k.val)) 16).symm.trans (congrArg (half * ·) hsum)))
  · unfold M
    rw [if_neg (by omega), show 17 * 0 + (s + 1) - 1 = s by omega]
  · unfold M
    rw [if_pos (by omega)]

end

/-! ## The reference -/

section
variable (x0 : S4352x1024.Idx → EReal) (x1 : S4096x1024.Idx → EReal)
open Cert.Reference29Ideal.Read

theorem refE (i : S4096x1024.Idx) :
    (val_main_v1 (F := Ideal) x0 x1 i : EReal) = err x0 x1 (i 0).val (i 1).val := by
  rw [val_main_v1_apply, val_main_v0_apply]
  exact congrArg₂ (fun a b : EReal => a - b) (nat2_idx x0 (idx_main_v0 i)).symm (nat2_idx x1 i).symm

theorem refM (i : Cert.Reference29Ideal.S4096.Idx) :
    (val_main_v7 (F := Ideal) x0 x1 i : EReal) = msq x0 x1 (i 0).val := by
  rw [val_main_v7_apply, val_main_v6_apply, val_main_cst_1_apply, val_main_v5_apply, val_main_cst_0_apply]
  refine congrArg (fun e => Ideal.div e width) ((congrArg (· + _) Ideal.ofBits_zero_f32).trans ((zero_add _).trans
    (Finset.sum_congr rfl fun k _ => ?_)))
  rw [val_main_v2_apply]
  exact congrArg₂ (fun a b : EReal => a * b) (refE x0 x1 _) (refE x0 x1 _)

theorem refL : (val_main_v17 (F := Ideal) x0 x1 : S8x128.Idx → EReal) = fun i =>
    half * ∑ k : Fin 4096, msq x0 x1 k.val := by
  funext i
  rw [val_main_v17_apply, val_main_v9_apply, val_main_cst_3_apply, val_main_v8_apply, val_main_cst_2_apply]
  refine congrArg (fun e => half * e) ((congrArg (· + _) Ideal.ofBits_zero_f32).trans ((zero_add _).trans ?_))
  refine (sum_idx1 (n0 := 4096) (fun j => (val_main_v7 (F := Ideal) x0 x1 j : EReal))).trans ?_
  exact Finset.sum_congr rfl fun k _ => refM x0 x1 _

theorem refG (i : S4096x1024.Idx) :
    (val_main_v15 (F := Ideal) x0 x1 i : EReal) = Ideal.div (err x0 x1 (i 0).val (i 1).val) width := by
  rw [val_main_v15_apply, val_main_v14_apply, val_main_v13_apply, val_main_v12_apply, val_main_cst_6_apply,
    val_main_v11_apply, val_main_v10_apply, val_main_cst_4_apply, val_main_cst_5_apply, val_main_v4_apply,
    val_main_v3_apply, val_main_cst_apply, refE]
  refine Eq.trans ?_ (scale _)
  refine congrArg (fun e => Ideal.div (half * e) width * (two * err x0 x1 (i 0).val (i 1).val)) ?_
  exact Ideal.ofBits_one_f32

theorem refX : (val_main_v16 (F := Ideal) x0 x1 : S4352x1024.Idx → EReal) = fun i => grad x0 x1 (i 0).val (i 1).val := by
  funext i
  have hi : (i 0).val < 4352 := (i 0).isLt
  unfold val_main_v16 grad
  by_cases h : (i 0).val < 256
  · rw [if_pos h]
    refine (pad_apply_of_not_inside _ _ _ _ _ _ _ i 0 ?_).trans ((val_main_cst_7_apply (F := Ideal) _).trans Ideal.ofBits_zero_f32)
    intro hn
    exact absurd (show 256 ≤ (i 0).val from hn.1) (by omega)
  · rw [if_neg h]
    refine (pad_apply_of_inside _ _ _ _ _ _ _ i (ix2 (⟨(i 0).val - 256, by omega⟩ : Fin 4096) (i 1)) fun a => ?_).trans
      (refG x0 x1 _)
    match a with
    | ⟨0, _⟩ => show (i 0).val = 256 + ((i 0).val - 256) * (0 + 1); omega
    | ⟨1, _⟩ => show (i 1).val = 0 + (i 1).val * (0 + 1); omega

end

theorem frame_reference : Cert.quiescent_Reference29Ideal := fun m ρ _ =>
  (θ_run Cert.Reference29Ideal.defs _ _).mono
    (fun r h => ⟨fun c => (h c).2.2, Idealize.ShloMosaic.sem_eq_zero_of_no_sems (by decide) r.2⟩)
    (Cert.Reference29Ideal.Value.run (F := Ideal) m ρ)

/-- The kernel's gradient and loss are the reference's. -/
theorem algebraic : Cert.algebraic_Kernel29Ideal_Reference29Ideal := by
  intro m g m' g' _ hagree
  refine ⟨fun c => (dats m 0 c).arrAt 2 cfg0.N, fun c => (dats m 0 c).arrAt 3 cfg0.N,
    Cert.Kernel29Ideal.Value.run_blocks m g, ?_⟩
  refine (θ_run Cert.Reference29Ideal.defs _ _).mono (fun r h c => ?_) (Cert.Reference29Ideal.Value.run (F := Ideal) m' g')
  obtain ⟨e0, e1⟩ := hagree c
  refine ⟨(h c).1.trans ?_, (h c).2.1.trans ?_, (h c).2.2⟩
  · rw [Cert.Reference29Ideal.Read.val_main_v16_eq, e0, e1]
    exact (refX _ _).trans (arr2 m c).symm
  · rw [Cert.Reference29Ideal.Read.val_main_v17_eq, e0, e1]
    exact (refL _ _).trans (arr3 m c).symm

end Cert.Kernel29Ideal.Row

end
-- ==== Proof.Row.PoolPost.lean ====
/- The gradients of a scaling of columns, as the kernel computes them: the one of the scaled rows, and the one of the
   scales, summed a block of 256 rows at a time. -/
module

public import proofs.«01_k».proof.Proof.Mm.Sum
public import proofs.«01_k».proof.Defs
public import proofs.«01_k».proof.Proof.Gen.Kernel30Ideal.Value
public import proofs.«01_k».proof.Proof.Gen.Reference30Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel30Ideal.Row

open Cert.Kernel30Ideal Cert.Kernel30Ideal.Gen Idealize.ShloMosaic Idealize.ShloMosaic.TcCoe Idealize.SL.Sem
open Cert.Mm

theorem hz : (![0, 0] : Fin 2 → Nat) = fun _ => 0 := funext fun a => by fin_cases a <;> rfl

section
variable {F : FTy → Type} [FloatOps F]
variable (c : Dev nD) (i : grid0.Coords) (a1 : Memref sig .tc .vmem S256x512 .f32) (h1 : a1.IsWhole)
  (a2 : Memref sig .tc .vmem S1x512 .f32) (h2 : a2.IsWhole) (a3 : Memref sig .tc .vmem S256x512 .bf16) (h3 : a3.IsWhole)
  (a4 : Memref sig .tc .vmem S256x512 .f32) (h4 : a4.IsWhole) (a5 : Memref sig .tc .vmem S1x512 .f32) (h5 : a5.IsWhole)
  (x0 : Vec F S256x512 .f32) (x1 : Vec F S1x512 .f32) (x2 : Vec F S256x512 .bf16) (xo : Vec F S1x512 .f32)

/-- Every point writes its block of rows. -/
theorem outA_3 (c0 : cond0_0 i) (c1 : ¬cond0_1 i) :
    out0_A_3 c i a1 h1 a2 h2 a3 h3 a4 h4 a5 h5 c0 c1 x0 x1 x2 = k0_pay3 x1 x2 := by
  unfold out0_A_3
  rw [View.read_writes_eq_canon _ _ _ (cover0_A_3 c i a1 h1 a2 h2 a3 h3 a4 h4 a5 h5 c0 c1 x0 x1 x2)]
  unfold kernelRun0_A
  dsimp only
  sl_unfold_words
  rw [View.canon_unit_zero hz]
  simp only [View.readAt_eq_ld, h1.read_unread, h2.read_unread, h3.read_unread, View.ld_unit_zero (S := S256x512) hz,
    View.ld_unit_zero (S := S1x512) hz]

theorem outB_3 (c0 : ¬cond0_0 i) (c1 : cond0_1 i) :
    out0_B_3 c i a1 h1 a2 h2 a3 h3 a4 h4 a5 h5 c0 c1 x0 x1 x2 xo = k0_pay3 x1 x2 := by
  unfold out0_B_3
  rw [View.read_writes_eq_canon _ _ _ (cover0_B_3 c i a1 h1 a2 h2 a3 h3 a4 h4 a5 h5 c0 c1 x0 x1 x2 xo)]
  unfold kernelRun0_B
  dsimp only
  sl_unfold_words
  rw [View.canon_unit_zero hz]
  simp only [View.readAt_eq_ld, h1.read_unread, h2.read_unread, h3.read_unread, View.ld_unit_zero (S := S256x512) hz,
    View.ld_unit_zero (S := S1x512) hz]

/-- The first point stores its sum of rows, … -/
theorem outA_4 (c0 : cond0_0 i) (c1 : ¬cond0_1 i) :
    out0_A_4 c i a1 h1 a2 h2 a3 h3 a4 h4 a5 h5 c0 c1 x0 x1 x2 = k0_pay2 x0 x2 := by
  unfold out0_A_4
  rw [View.read_writes_eq_canon _ _ _ (cover0_A_4 c i a1 h1 a2 h2 a3 h3 a4 h4 a5 h5 c0 c1 x0 x1 x2)]
  unfold kernelRun0_A
  dsimp only
  sl_unfold_words
  rw [View.canon_unit_zero hz]
  simp only [View.readAt_eq_ld, h1.read_unread, h2.read_unread, h3.read_unread, View.ld_unit_zero (S := S256x512) hz,
    View.ld_unit_zero (S := S1x512) hz]

/-- … a later one adds its own. -/
theorem outB_4 (c0 : ¬cond0_0 i) (c1 : cond0_1 i) :
    out0_B_4 c i a1 h1 a2 h2 a3 h3 a4 h4 a5 h5 c0 c1 x0 x1 x2 xo = addf xo (k0_pay2 x0 x2) := by
  unfold out0_B_4
  rw [View.read_writes_eq_canon _ _ _ (cover0_B_4 c i a1 h1 a2 h2 a3 h3 a4 h4 a5 h5 c0 c1 x0 x1 x2 xo)]
  unfold kernelRun0_B
  dsimp only
  sl_unfold_words
  rw [View.canon_unit_zero hz]
  unfold k0_pay4
  simp only [View.readAt_eq_ld, h1.read_unread, h2.read_unread, h3.read_unread, h5.read_unread,
    View.ld_unit_zero (S := S256x512) hz, View.ld_unit_zero (S := S1x512) hz, shapeCast_self]

end

theorem pay3_apply (x1 : Vec Ideal S1x512 .f32) (x2 : Vec Ideal S256x512 .bf16) (y : S256x512.Idx) :
    (k0_pay3 x1 x2 y : EReal) = (x2 (ix2 (y 0) (y 1)) : EReal) * x1 (ix2 0 (y 1)) := by
  pointwise [k0_pay3, k0_pay1]

theorem pay2_apply (x0 : Vec Ideal S256x512 .f32) (x2 : Vec Ideal S256x512 .bf16) (y : S1x512.Idx) :
    (k0_pay2 x0 x2 y : EReal) = ∑ k : Fin 256, (x0 (ix2 k (y 1)) : EReal) * x2 (ix2 k (y 1)) := by
  pointwise [k0_pay2, k0_pay1]

/-! ## The staged blocks, and the sum over the points -/

section
variable (m : (ℓ : Loc nD τ sig) → Buf (Elt Ideal) ℓ) (c : Dev nD)

/-- The rows, the scales, and the gradient of the scaled rows. -/
abbrev A : S4352x512.Idx → EReal := m ((c : Thread nD τ).loc main_arg0)
abbrev S : S1x512.Idx → EReal := m ((c : Thread nD τ).loc main_arg1)
abbrev B : S4352x512.Idx → EReal := m ((c : Thread nD τ).loc main_arg2)

theorem idx : ∀ t : Fin cfg0.N, win0_0.index t = ![t.val, 0] ∧ win0_1.index t = ![0, 0] ∧
    win0_2.index t = ![t.val, 0] ∧ win0_3.index t = ![t.val, 0] ∧ win0_4.index t = ![0, 0] := by decide +kernel

theorem tlt (t : Fin cfg0.N) : t.val < 17 := lt_of_lt_of_eq t.isLt N_0

theorem iblk0 (t : Fin cfg0.N) (r : Fin 256) (d : Fin 512) :
    (iblk m c 0 t (ix2 r d) : EReal) = nat2 (A m c) (256 * t.val + r.val) d.val := by
  have := tlt t
  rw [nat2_pos _ (show 256 * t.val + r.val < 4352 by omega) d.isLt]
  blk_ext [iblk, Gen.V, idx t]

theorem iblk1 (t : Fin cfg0.N) (d : Fin 512) :
    (iblk m c 1 t (ix2 0 d) : EReal) = nat2 (S m c) 0 d.val := by
  have := tlt t
  rw [nat2_pos _ (show 0 < 1 by omega) d.isLt]
  blk_ext [iblk, Gen.V, idx t]

theorem iblk2 (t : Fin cfg0.N) (r : Fin 256) (d : Fin 512) :
    (iblk m c 2 t (ix2 r d) : EReal) = nat2 (B m c) (256 * t.val + r.val) d.val := by
  have := tlt t
  rw [nat2_pos _ (show 256 * t.val + r.val < 4352 by omega) d.isLt]
  blk_ext [iblk, Gen.V, idx t]

/-- Point `n`'s sum of rows. -/
def M (n : ℕ) (y : S1x512.Idx) : EReal :=
  ∑ k : Fin 256, nat2 (A m c) (256 * n + k.val) ((y 1).val) * nat2 (B m c) (256 * n + k.val) ((y 1).val)

theorem pay2_M (t : Fin cfg0.N) (y : S1x512.Idx) : (k0_pay2 (iblk m c 0 t) (iblk m c 2 t) y : EReal) = M m c t.val y := by
  rw [pay2_apply]
  unfold M
  exact Finset.sum_congr rfl fun k _ => congrArg₂ _ (iblk0 m c t k (y 1)) (iblk2 m c t k (y 1))

/-- A block of scaled rows. -/
theorem rows (t : Fin cfg0.N) : (outsAt0 m c t.val t.isLt).1 = k0_pay3 (iblk m c 1 t) (iblk m c 2 t) := by
  have ht := tlt t
  by_cases h : t.val % 17 = 0
  · rw [outsAt0_A m c t h (by omega)]
    dsimp only
    rw [outA_3]
  · rw [outsAt0_B m c t h (by omega)]
    dsimp only
    rw [outB_3]

/-- What the sum holds after a point. -/
theorem sums (q j : ℕ) (hj : j < 17) (h : 17 * q + j < cfg0.N) (y : S1x512.Idx) :
    ((outsAt0 m c (17 * q + j) h).2 y : EReal) = ∑ s ∈ Finset.range (j + 1), M m c (17 * q + s) y := by
  refine run_sum (ι := S1x512.Idx) (β := EReal) (fun n h => (outsAt0 m c n h).2) 17 (M m c) ?_ ?_ q j hj h y
  · intro n h hn i
    have hb := tlt ⟨n, h⟩
    have e := outsAt0_A m c ⟨n, h⟩ hn (by dsimp only at hb ⊢; omega)
    dsimp only at e ⊢
    rw [e]
    dsimp only
    rw [outA_4]
    exact pay2_M m c ⟨n, h⟩ i
  · intro n h hn i
    have e := outsAt0_B m c ⟨n + 1, h⟩ hn (by dsimp only; omega)
    dsimp only at e ⊢
    rw [e]
    dsimp only
    rw [outB_4]
    exact congrArg _ (pay2_M m c ⟨n + 1, h⟩ i)

/-- Equal numbers give equal entries. -/
theorem at2 {α : Type} (f : ℕ → ℕ → α) {a a' b b' : ℕ} (h : a = a') (h' : b = b') : f a b = f a' b' := by rw [h, h']

/-- The two result arrays. -/
theorem arr3 : (dats m 0 c).arrAt 3 cfg0.N = fun i : S4352x512.Idx =>
    nat2 (B m c) (i 0).val (i 1).val * nat2 (S m c) 0 (i 1).val := by
  refine (dats m 0 c).arrAt_eq_of_covers 3 _ (by decide +kernel) fun t hf y => ?_
  have ht := tlt t
  rw [after0_3, rows]
  refine (pay3_apply _ _ y).trans ((congrArg₂ _ (iblk2 m c t (y 0) (y 1)) (iblk1 m c t (y 1))).trans ?_)
  refine at2 (a := 256 * t.val + (y 0).val) (b := (y 1).val)
    (fun a b => nat2 (B m c) a b * nat2 (S m c) 0 b) ?_ ?_ <;> blk_simp [idx t] <;> omega

theorem arr4 : (dats m 0 c).arrAt 4 cfg0.N = fun i : S1x512.Idx =>
    ∑ k : Fin 4352, nat2 (A m c) k.val ((i 1).val) * nat2 (B m c) k.val ((i 1).val) := by
  refine (dats m 0 c).arrAt_eq_of_covers 4 _ (by decide +kernel) fun t hf y => ?_
  have ht := tlt t
  have hm : t.val = 17 * 0 + 16 := by have := (flush0_4 t).mp hf; omega
  rw [after0_4]
  have hs := sums m c 0 16 (by decide) (by have := t.isLt; omega) y
  simp only [← hm] at hs
  refine hs.trans ?_
  have hsum := sum_blocks (fun k => nat2 (A m c) k ((y 1).val) * nat2 (B m c) k ((y 1).val)) 256 17
  refine (Finset.sum_congr rfl fun s hs => ?_).trans (hsum.trans ?_)
  · unfold M
    rw [Nat.mul_zero, Nat.zero_add]
  · refine Finset.sum_congr rfl fun k _ => ?_
    congr 2 <;> blk_simp [idx t] <;> omega

end

/-! ## The reference -/

section
variable (x0 : S4352x512.Idx → EReal) (x1 : S1x512.Idx → EReal) (x2 : S4352x512.Idx → EReal)
open Cert.Reference30Ideal.Read

theorem refX : (val_main_v7 (F := Ideal) x1 x2 : S4352x512.Idx → EReal) = fun i =>
    nat2 x2 (i 0).val (i 1).val * nat2 x1 0 (i 1).val := by
  funext i
  rw [val_main_v7_apply, val_main_v2_apply, val_main_v6_apply]
  exact congrArg₂ _ (nat2_idx x2 i).symm (nat2_idx x1 (idx_main_v6 i)).symm

theorem refS : (val_main_v5 (F := Ideal) x0 x2 : S1x512.Idx → EReal) = fun i =>
    ∑ k : Fin 4352, nat2 x0 k.val ((i 1).val) * nat2 x2 k.val ((i 1).val) := by
  funext i
  have h0 : (i 0).val = 0 := by have : (i 0).val < 1 := (i 0).isLt; omega
  rw [val_main_v5_apply]
  refine (val_main_v4_apply x0 x2 _).trans ?_
  rw [val_main_cst_apply]
  refine (congrArg (· + _) (Ideal.ofBits_zero_f32)).trans ((zero_add _).trans (Finset.sum_congr rfl fun k _ => ?_))
  rw [val_main_v3_apply, val_main_v2_apply]
  refine (congrArg₂ (· * ·) (nat2_idx x0 _).symm (nat2_idx x2 _).symm).trans ?_
  have e : ((idx_main_v4 (idx_main_v5 i) k) 1).val = (i 1).val := by
    show (i 0).val * 512 + (i 1).val = _
    rw [h0]; omega
  rw [e]

end

theorem frame_reference : Cert.quiescent_Reference30Ideal := fun m ρ _ =>
  (θ_run Cert.Reference30Ideal.defs _ _).mono
    (fun r h => ⟨fun c => (h c).2.2, Idealize.ShloMosaic.sem_eq_zero_of_no_sems (by decide) r.2⟩)
    (Cert.Reference30Ideal.Value.run (F := Ideal) m ρ)

/-- The kernel's two gradients are the reference's. -/
theorem algebraic : Cert.algebraic_Kernel30Ideal_Reference30Ideal := by
  intro m g m' g' _ hagree
  refine ⟨fun c => (dats m 0 c).arrAt 3 cfg0.N, fun c => (dats m 0 c).arrAt 4 cfg0.N,
    Cert.Kernel30Ideal.Value.run_blocks m g, ?_⟩
  refine (θ_run Cert.Reference30Ideal.defs _ _).mono (fun r h c => ?_) (Cert.Reference30Ideal.Value.run (F := Ideal) m' g')
  obtain ⟨e0, e1, e2⟩ := hagree c
  refine ⟨(h c).1.trans ?_, (h c).2.1.trans ?_, (h c).2.2⟩
  · rw [Cert.Reference30Ideal.Read.val_main_v7_eq, e1, e2]
    exact (refX _ _).trans (arr3 m c).symm
  · rw [Cert.Reference30Ideal.Read.val_main_v5_eq, e0, e2]
    exact (refS _ _).trans (arr4 m c).symm

end Cert.Kernel30Ideal.Row

end
-- ==== Proof.Row.ConvPost.lean ====
/- The gradients behind a short convolution (its bias, a layer norm over 512 columns, the gate `x · logistic x`), as the
   kernel computes them: the one of the rows block by block, the three of the parameters summed over the blocks. -/
module

public import proofs.«01_k».proof.Proof.Mm.Sum
public import proofs.«01_k».proof.Defs
public import proofs.«01_k».proof.Proof.Gen.Kernel31Ideal.Value
public import proofs.«01_k».proof.Proof.Gen.Reference31Ideal.Frame
public import Idealize.ShloMosaic.Lib.Quiescent
public import Idealize.ShloMosaic.Lib.Pipeline.ReadBack
public import Idealize.ShloMosaic.Lib.Tactic

@[expose] public section

set_option maxRecDepth 16384

noncomputable section

/-! ## One row -/

namespace Cert.ConvPost

open Idealize.ShloMosaic Cert.Mm

/-- A row of 512 numbers. -/
abbrev Row := Fin 512 → EReal

/-- The numbers of the programs: 512, the norm's epsilon, minus one half, one, zero. -/
abbrev width : EReal := Ideal.ofBits .f32 0x44000000#32
abbrev eps : EReal := Ideal.ofBits .f32 0x358637BD#32
abbrev mhalf : EReal := Ideal.ofBits .f32 0xBF000000#32
abbrev one : EReal := Ideal.ofBits .f32 0x3F800000#32
abbrev zero : EReal := Ideal.ofBits .f32 0x00000000#32

/-- A row less its mean, its variance, and the inverse of its deviation. -/
def cen (s : Row) : Row := fun d => s d - Ideal.div (∑ k, s k) width
def var (s : Row) : EReal := Ideal.div (∑ k, cen s k * cen s k) width + eps
def dev (s : Row) : EReal := Ideal.rsqrt (var s)
/-- The derivative of that inverse by the variance. -/
def vslope (s : Row) : EReal := mhalf * Ideal.div (dev s) (var s)
/-- The row normalised, then scaled and shifted. -/
def nrm (s : Row) : Row := fun d => cen s d * dev s
def lin (g b s : Row) : Row := fun d => nrm s d * g d + b d
/-- The gradient through the gate. -/
def gate (g b s e : Row) : Row := fun d =>
  e d * Ideal.logistic (lin g b s d)
    + lin g b s d * e d * (Ideal.logistic (lin g b s d) * (one - Ideal.logistic (lin g b s d)))
/-- The part of it that arrives through the variance, … -/
def share (g s e : Row) : EReal := Ideal.div ((∑ k, cen s k * (e k * g k)) * vslope s) width
/-- … the gradient of the centred row, … -/
def cgrad (g s e : Row) : Row := fun d => e d * g d * dev s + cen s d * share g s e + share g s e * cen s d
/-- … and that of the row. -/
def rgrad (g s e : Row) : Row := fun d => cgrad g s e d + Ideal.div (∑ k, (zero - cgrad g s e k)) width

/-- Row `n` of a matrix, and with the bias added. -/
def row {R C : ℕ} (a : Shape.Idx ⟨2, ![R, C]⟩ → EReal) (n : ℕ) : Row := fun d => nat2 a n d.val
def biased {R C R' C' : ℕ} (a : Shape.Idx ⟨2, ![R, C]⟩ → EReal) (w : Shape.Idx ⟨2, ![R', C']⟩ → EReal) (n : ℕ) : Row :=
  fun d => nat2 a n d.val + nat2 w 0 d.val

section
variable {R C R' C' P Q P' Q' P'' Q'' : ℕ} (a : Shape.Idx ⟨2, ![R, C]⟩ → EReal) (w : Shape.Idx ⟨2, ![P, Q]⟩ → EReal)
  (g : Shape.Idx ⟨2, ![P', Q']⟩ → EReal) (b : Shape.Idx ⟨2, ![P'', Q'']⟩ → EReal) (e : Shape.Idx ⟨2, ![R', C']⟩ → EReal)

/-- Row `n` of the gradients: through the gate, through the norm, and the terms of the parameters' sums. -/
def gateAt (n : ℕ) : Row := gate (row g 0) (row b 0) (biased a w n) (row e n)
def rowsAt (n : ℕ) : Row := rgrad (row g 0) (biased a w n) (gateAt a w g b e n)
def scaleAt (n : ℕ) : Row := fun d => nrm (biased a w n) d * gateAt a w g b e n d

end

/-- Equal rows have equal gradients. -/
theorem rows_congr {g g' b b' s s' e e' : Row} (hg : g = g') (hb : b = b') (hs : s = s') (he : e = e') (d : Fin 512) :
    rgrad g s (gate g b s e) d = rgrad g' s' (gate g' b' s' e') d := by
  rw [hg, hb, hs, he]

/-- Equal numbers give equal entries. -/
theorem at2 (f : ℕ → Row) {n n' : ℕ} {d d' : Fin 512} (h : n = n') (h' : d.val = d'.val) : f n d = f n' d' := by
  rw [h, Fin.ext h']

end Cert.ConvPost

namespace Cert.Reference31Ideal.Row

open Cert.Reference31Ideal Cert.Reference31Ideal.Gen Idealize.ShloMosaic Idealize.ShloMosaic.TcCoe Idealize.SL.Sem
open Cert.Mm Cert.ConvPost

theorem hz : (![0, 0] : Fin 2 → Nat) = fun _ => 0 := funext fun a => by fin_cases a <;> rfl

/-! ## The payloads of the reference, row by row -/

section
variable (x0 : Vec Ideal S4352x512 .f32) (x1 x2 x3 : Vec Ideal S1x512 .f32) (x4 : Vec Ideal S4352x512 .bf16)

/-- The biased row `r`, and row `r` of the incoming gradient. -/
abbrev bias (r : Fin 4352) : Row := fun d => (x0 (ix2 r d) : EReal) + x1 (ix2 0 d)
abbrev inc (r : Fin 4352) : Row := fun d => (x4 (ix2 r d) : EReal)
abbrev par (x : Vec Ideal S1x512 .f32) : Row := fun d => (x (ix2 0 d) : EReal)

theorem cen_apply (y : S4352x512.Idx) : (k0_pay4 x0 x1 y : EReal) = cen (bias x0 x1 (y 0)) (y 1) := by
  unfold cen
  pointwise [k0_pay4, bias, width]

theorem var_apply (y : S4352x1.Idx) : (k0_pay5 x0 x1 y : EReal) = var (bias x0 x1 (y 0)) := by
  unfold var
  pointwise [k0_pay5, cen_apply, width, eps]

theorem inv_apply (y : S4352x1.Idx) : (k0_pay6 x0 x1 y : EReal) = dev (bias x0 x1 (y 0)) := by
  unfold dev
  pointwise [k0_pay6, var_apply]

theorem slope_apply (y : S4352x1.Idx) : (k0_pay7 x0 x1 y : EReal) = vslope (bias x0 x1 (y 0)) := by
  unfold vslope
  pointwise [k0_pay7, mhalf, inv_apply, var_apply]

theorem nrm_apply (y : S4352x512.Idx) : (k0_pay8 x0 x1 y : EReal) = nrm (bias x0 x1 (y 0)) (y 1) := by
  unfold nrm
  pointwise [k0_pay8, inv_apply, cen_apply]

theorem gate_apply (y : S4352x512.Idx) : (k0_pay9 x0 x1 x2 x3 x4 y : EReal) =
    gate (par x2) (par x3) (bias x0 x1 (y 0)) (inc x4 (y 0)) (y 1) := by
  unfold gate lin
  pointwise [k0_pay9, nrm_apply, inc, par]

/-- The sum of a matrix's rows. -/
theorem db_apply (y : S1x512.Idx) : (k0_pay10 x0 x1 x2 x3 x4 y : EReal) =
    ∑ r : Fin 4352, gate (par x2) (par x3) (bias x0 x1 r) (inc x4 r) (y 1) := by
  pointwise [k0_pay10, gate_apply]

theorem dg_apply (y : S1x512.Idx) : (k0_pay1 (k0_pay11 x0 x1 x2 x3 x4) y : EReal) =
    ∑ r : Fin 4352, nrm (bias x0 x1 r) (y 1) * gate (par x2) (par x3) (bias x0 x1 r) (inc x4 r) (y 1) := by
  pointwise [k0_pay1, k0_pay11, nrm_apply, gate_apply]

theorem dy_apply (y : S4352x512.Idx) :
    (k0_pay2 x2 (k0_pay4 x0 x1) (k0_pay6 x0 x1) (k0_pay7 x0 x1) (k0_pay9 x0 x1 x2 x3 x4) y : EReal) =
    rgrad (par x2) (bias x0 x1 (y 0)) (gate (par x2) (par x3) (bias x0 x1 (y 0)) (inc x4 (y 0))) (y 1) := by
  unfold rgrad cgrad share
  pointwise [k0_pay2, cen_apply, inv_apply, slope_apply, gate_apply, par, width, Finset.sum_const, Finset.card_univ, Fintype.card_fin, one_smul]

theorem dw_apply (y : S1x512.Idx) :
    (k0_pay3 x2 (k0_pay4 x0 x1) (k0_pay6 x0 x1) (k0_pay7 x0 x1) (k0_pay9 x0 x1 x2 x3 x4) y : EReal) =
    ∑ r : Fin 4352, rgrad (par x2) (bias x0 x1 r) (gate (par x2) (par x3) (bias x0 x1 r) (inc x4 r)) (y 1) := by
  pointwise [k0_pay3, dy_apply]

end

/-! ## The staged blocks -/

section
variable (m : (ℓ : Loc nD τ sig) → Buf (Elt Ideal) ℓ) (c : Dev nD)

/-- The rows, the bias, the scale, the shift, and the incoming gradient. -/
abbrev A : S4352x512.Idx → EReal := m ((c : Thread nD τ).loc main_arg0)
abbrev W : S1x512.Idx → EReal := m ((c : Thread nD τ).loc main_arg1)
abbrev G : S1x512.Idx → EReal := m ((c : Thread nD τ).loc main_arg2)
abbrev B : S1x512.Idx → EReal := m ((c : Thread nD τ).loc main_arg3)
abbrev D : S4352x512.Idx → EReal := m ((c : Thread nD τ).loc main_arg4)

theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![0, 0] := by decide +kernel

theorem iblk0 (t : Fin cfg0.N) (r : Fin 4352) (d : Fin 512) :
    (iblk m c 0 t (ix2 r d) : EReal) = nat2 (A m c) r.val d.val := by
  rw [nat2_pos _ (show r.val < 4352 by omega) d.isLt]
  blk_ext [iblk, Gen.V, idx t]

theorem iblk4 (t : Fin cfg0.N) (r : Fin 4352) (d : Fin 512) :
    (iblk m c 4 t (ix2 r d) : EReal) = nat2 (D m c) r.val d.val := by
  rw [nat2_pos _ (show r.val < 4352 by omega) d.isLt]
  blk_ext [iblk, Gen.V, idx t]

theorem iblk1 (t : Fin cfg0.N) (d : Fin 512) : (iblk m c 1 t (ix2 0 d) : EReal) = nat2 (W m c) 0 d.val := by
  rw [nat2_pos _ (show 0 < 1 by omega) d.isLt]
  blk_ext [iblk, Gen.V, idx t]

theorem iblk2 (t : Fin cfg0.N) (d : Fin 512) : (iblk m c 2 t (ix2 0 d) : EReal) = nat2 (G m c) 0 d.val := by
  rw [nat2_pos _ (show 0 < 1 by omega) d.isLt]
  blk_ext [iblk, Gen.V, idx t]

theorem iblk3 (t : Fin cfg0.N) (d : Fin 512) : (iblk m c 3 t (ix2 0 d) : EReal) = nat2 (B m c) 0 d.val := by
  rw [nat2_pos _ (show 0 < 1 by omega) d.isLt]
  blk_ext [iblk, Gen.V, idx t]

theorem bias_blk (t : Fin cfg0.N) (r : Fin 4352) :
    bias (iblk m c 0 t) (iblk m c 1 t) r = biased (A m c) (W m c) r.val :=
  funext fun d => congrArg₂ (fun a b : EReal => a + b) (iblk0 m c t r d) (iblk1 m c t d)

theorem inc_blk (t : Fin cfg0.N) (r : Fin 4352) : inc (iblk m c 4 t) r = row (D m c) r.val :=
  funext fun d => iblk4 m c t r d

theorem scale_blk (t : Fin cfg0.N) : par (iblk m c 2 t) = row (G m c) 0 := funext fun d => iblk2 m c t d
theorem shift_blk (t : Fin cfg0.N) : par (iblk m c 3 t) = row (B m c) 0 := funext fun d => iblk3 m c t d

/-- Row `n` of each gradient. -/
abbrev gateM (n : ℕ) : Row := gateAt (A m c) (W m c) (G m c) (B m c) (D m c) n
abbrev rowsM (n : ℕ) : Row := rowsAt (A m c) (W m c) (G m c) (B m c) (D m c) n
abbrev scaleM (n : ℕ) : Row := scaleAt (A m c) (W m c) (G m c) (B m c) (D m c) n

theorem val5 (t : Fin cfg0.N) (y : S4352x512.Idx) :
    (k0_pay2 (iblk m c 2 t) (k0_pay4 (iblk m c 0 t) (iblk m c 1 t)) (k0_pay6 (iblk m c 0 t) (iblk m c 1 t)) (k0_pay7 (iblk m c 0 t) (iblk m c 1 t)) (k0_pay9 (iblk m c 0 t) (iblk m c 1 t) (iblk m c 2 t) (iblk m c 3 t) (iblk m c 4 t)) y : EReal) = rowsM m c (y 0).val (y 1) := by
  exact (dy_apply _ _ _ _ _ y).trans
    (rows_congr (scale_blk m c t) (shift_blk m c t) (bias_blk m c t (y 0)) (inc_blk m c t (y 0)) (y 1))

theorem val6 (t : Fin cfg0.N) (y : S1x512.Idx) :
    (k0_pay3 (iblk m c 2 t) (k0_pay4 (iblk m c 0 t) (iblk m c 1 t)) (k0_pay6 (iblk m c 0 t) (iblk m c 1 t)) (k0_pay7 (iblk m c 0 t) (iblk m c 1 t)) (k0_pay9 (iblk m c 0 t) (iblk m c 1 t) (iblk m c 2 t) (iblk m c 3 t) (iblk m c 4 t)) y : EReal) = ∑ r : Fin 4352, rowsM m c r.val (y 1) := by
  rw [dw_apply]
  refine Finset.sum_congr rfl fun r _ => ?_
  rw [bias_blk, inc_blk, scale_blk, shift_blk]
  rfl

theorem val7 (t : Fin cfg0.N) (y : S1x512.Idx) :
    (k0_pay1 (k0_pay11 (iblk m c 0 t) (iblk m c 1 t) (iblk m c 2 t) (iblk m c 3 t) (iblk m c 4 t)) y : EReal) = ∑ r : Fin 4352, scaleM m c r.val (y 1) := by
  rw [dg_apply]
  refine Finset.sum_congr rfl fun r _ => ?_
  rw [bias_blk, inc_blk, scale_blk, shift_blk]
  rfl

theorem val8 (t : Fin cfg0.N) (y : S1x512.Idx) :
    (k0_pay10 (iblk m c 0 t) (iblk m c 1 t) (iblk m c 2 t) (iblk m c 3 t) (iblk m c 4 t) y : EReal) = ∑ r : Fin 4352, gateM m c r.val (y 1) := by
  rw [db_apply]
  refine Finset.sum_congr rfl fun r _ => ?_
  rw [bias_blk, inc_blk, scale_blk, shift_blk]
  rfl

/-! ## The result arrays -/

theorem arr5 : (dats m 0 c).arrAt 5 cfg0.N = fun i : S4352x512.Idx => rowsM m c (i 0).val (i 1) := by
  refine (dats m 0 c).arrAt_eq_of_covers 5 _ (by decide +kernel) fun t hf y => ?_
  rw [after0_5]
  unfold out0_5 k0_pay15 k0_pay14 k0_pay13 k0_pay12
  rw [View.canon_unit_zero hz]
  simp only [View.ld_unit_zero (S := S4352x512) hz, View.ld_unit_zero (S := S1x512) hz]
  refine (val5 m c t y).trans (at2 (rowsM m c) ?_ ?_) <;> blk_simp [idx t] <;> omega

theorem arr6 : (dats m 0 c).arrAt 6 cfg0.N = fun i : S1x512.Idx => ∑ r : Fin 4352, rowsM m c r.val (i 1) := by
  refine (dats m 0 c).arrAt_eq_of_covers 6 _ (by decide +kernel) fun t hf y => ?_
  rw [after0_6]
  unfold out0_6 k0_pay15 k0_pay14 k0_pay13 k0_pay12
  rw [View.canon_unit_zero hz]
  simp only [View.ld_unit_zero (S := S4352x512) hz, View.ld_unit_zero (S := S1x512) hz]
  refine (val6 m c t y).trans (Finset.sum_congr rfl fun r _ => at2 (rowsM m c) rfl ?_)
  blk_simp [idx t] <;> omega

theorem arr7 : (dats m 0 c).arrAt 7 cfg0.N = fun i : S1x512.Idx => ∑ r : Fin 4352, scaleM m c r.val (i 1) := by
  refine (dats m 0 c).arrAt_eq_of_covers 7 _ (by decide +kernel) fun t hf y => ?_
  rw [after0_7]
  unfold out0_7
  rw [View.canon_unit_zero hz]
  simp only [View.ld_unit_zero (S := S4352x512) hz, View.ld_unit_zero (S := S1x512) hz]
  refine (val7 m c t y).trans (Finset.sum_congr rfl fun r _ => at2 (scaleM m c) rfl ?_)
  blk_simp [idx t] <;> omega

theorem arr8 : (dats m 0 c).arrAt 8 cfg0.N = fun i : S1x512.Idx => ∑ r : Fin 4352, gateM m c r.val (i 1) := by
  refine (dats m 0 c).arrAt_eq_of_covers 8 _ (by decide +kernel) fun t hf y => ?_
  rw [after0_8]
  unfold out0_8
  rw [View.canon_unit_zero hz]
  simp only [View.ld_unit_zero (S := S4352x512) hz, View.ld_unit_zero (S := S1x512) hz]
  refine (val8 m c t y).trans (Finset.sum_congr rfl fun r _ => at2 (gateM m c) rfl ?_)
  blk_simp [idx t] <;> omega

end

/-- The run, with each result array named and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨⟨(h.1 c).1 5, (h.1 c).1 6, (h.1 c).1 7, (h.1 c).1 8⟩, h.2 c⟩)
    (θ_run_and (run_main m ρ) (unchanged m ρ))

end Cert.Reference31Ideal.Row

namespace Cert.Kernel31Ideal.Row

open Cert.Kernel31Ideal Cert.Kernel31Ideal.Gen Idealize.ShloMosaic Idealize.ShloMosaic.TcCoe Idealize.SL.Sem
open Cert.Mm Cert.ConvPost

theorem hz : (![0, 0] : Fin 2 → Nat) = fun _ => 0 := funext fun a => by fin_cases a <;> rfl

/-! ## The payloads of a block, row by row -/

section
variable (x0 : Vec Ideal S256x512 .f32) (x1 x2 x3 : Vec Ideal S1x512 .f32) (x4 : Vec Ideal S256x512 .bf16)

/-- The biased row `r`, and row `r` of the incoming gradient. -/
abbrev bias (r : Fin 256) : Row := fun d => (x0 (ix2 r d) : EReal) + x1 (ix2 0 d)
abbrev inc (r : Fin 256) : Row := fun d => (x4 (ix2 r d) : EReal)
abbrev par (x : Vec Ideal S1x512 .f32) : Row := fun d => (x (ix2 0 d) : EReal)

theorem cen_apply (y : S256x512.Idx) : (k0_pay3 x0 x1 y : EReal) = cen (bias x0 x1 (y 0)) (y 1) := by
  unfold cen
  pointwise [k0_pay3, bias, width]

theorem var_apply (y : S256x1.Idx) : (k0_pay4 x0 x1 y : EReal) = var (bias x0 x1 (y 0)) := by
  unfold var
  pointwise [k0_pay4, cen_apply, width, eps]

theorem inv_apply (y : S256x1.Idx) : (k0_pay5 x0 x1 y : EReal) = dev (bias x0 x1 (y 0)) := by
  unfold dev
  pointwise [k0_pay5, var_apply]

theorem slope_apply (y : S256x1.Idx) : (k0_pay6 x0 x1 y : EReal) = vslope (bias x0 x1 (y 0)) := by
  unfold vslope
  pointwise [k0_pay6, mhalf, inv_apply, var_apply]

theorem nrm_apply (y : S256x512.Idx) : (k0_pay7 x0 x1 y : EReal) = nrm (bias x0 x1 (y 0)) (y 1) := by
  unfold nrm
  pointwise [k0_pay7, inv_apply, cen_apply]

theorem gate_apply (y : S256x512.Idx) : (k0_pay8 x0 x1 x2 x3 x4 y : EReal) =
    gate (par x2) (par x3) (bias x0 x1 (y 0)) (inc x4 (y 0)) (y 1) := by
  unfold gate lin
  pointwise [k0_pay8, nrm_apply, inc, par]

/-- The sum of a matrix's rows. -/
theorem db_apply (y : S1x512.Idx) : (k0_pay9 x0 x1 x2 x3 x4 y : EReal) =
    ∑ r : Fin 256, gate (par x2) (par x3) (bias x0 x1 r) (inc x4 r) (y 1) := by
  pointwise [k0_pay9, gate_apply]

theorem dg_apply (y : S1x512.Idx) : (k0_pay10 (k0_pay7 x0 x1) (k0_pay8 x0 x1 x2 x3 x4) y : EReal) =
    ∑ r : Fin 256, nrm (bias x0 x1 r) (y 1) * gate (par x2) (par x3) (bias x0 x1 r) (inc x4 r) (y 1) := by
  pointwise [k0_pay10, nrm_apply, gate_apply]

theorem dy_apply (y : S256x512.Idx) :
    (k0_pay11 x2 (k0_pay3 x0 x1) (k0_pay5 x0 x1) (k0_pay6 x0 x1) (k0_pay8 x0 x1 x2 x3 x4) y : EReal) =
    rgrad (par x2) (bias x0 x1 (y 0)) (gate (par x2) (par x3) (bias x0 x1 (y 0)) (inc x4 (y 0))) (y 1) := by
  unfold rgrad cgrad share
  pointwise [k0_pay11, cen_apply, inv_apply, slope_apply, gate_apply, par, width, Finset.sum_const, Finset.card_univ, Fintype.card_fin, one_smul]

theorem dw_apply (y : S1x512.Idx) :
    (k0_pay12 x2 (k0_pay3 x0 x1) (k0_pay5 x0 x1) (k0_pay6 x0 x1) (k0_pay8 x0 x1 x2 x3 x4) y : EReal) =
    ∑ r : Fin 256, rgrad (par x2) (bias x0 x1 r) (gate (par x2) (par x3) (bias x0 x1 r) (inc x4 r)) (y 1) := by
  pointwise [k0_pay12, dy_apply]

end

/-! ## What a point stores -/

section
variable {F : FTy → Type} [FloatOps F]
variable (c : Dev nD) (i : grid0.Coords) (a1 : Memref sig .tc .vmem S256x512 .f32) (h1 : a1.IsWhole)
  (a2 : Memref sig .tc .vmem S1x512 .f32) (h2 : a2.IsWhole) (a3 : Memref sig .tc .vmem S1x512 .f32) (h3 : a3.IsWhole)
  (a4 : Memref sig .tc .vmem S1x512 .f32) (h4 : a4.IsWhole) (a5 : Memref sig .tc .vmem S256x512 .bf16) (h5 : a5.IsWhole)
  (a6 : Memref sig .tc .vmem S256x512 .f32) (h6 : a6.IsWhole) (a7 : Memref sig .tc .vmem S1x512 .f32) (h7 : a7.IsWhole)
  (a8 : Memref sig .tc .vmem S1x512 .f32) (h8 : a8.IsWhole) (a9 : Memref sig .tc .vmem S1x512 .f32) (h9 : a9.IsWhole)
  (x0 : Vec F S256x512 .f32) (x1 x2 x3 : Vec F S1x512 .f32) (x4 : Vec F S256x512 .bf16) (u v w : Vec F S1x512 .f32)

/-- The first point stores its own sums, … -/
theorem outA_5 (c0 : cond0_0 i) (c1 : ¬cond0_1 i) (c2 : cond0_2 i) (c3 : ¬cond0_3 i) (c4 : cond0_4 i) (c5 : ¬cond0_5 i) :
    out0_A_5 c i a1 h1 a2 h2 a3 h3 a4 h4 a5 h5 a6 h6 a7 h7 a8 h8 a9 h9 c0 c1 c2 c3 c4 c5 x0 x1 x2 x3 x4 =
      k0_pay11 x2 (k0_pay3 x0 x1) (k0_pay5 x0 x1) (k0_pay6 x0 x1) (k0_pay8 x0 x1 x2 x3 x4) := by
  unfold out0_A_5
  rw [View.read_writes_eq_canon _ _ _ (cover0_A_5 c i a1 h1 a2 h2 a3 h3 a4 h4 a5 h5 a6 h6 a7 h7 a8 h8 a9 h9 c0 c1 c2 c3 c4 c5 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S256x512) hz, View.ld_unit_zero (S := S1x512) hz]

theorem outA_6 (c0 : cond0_0 i) (c1 : ¬cond0_1 i) (c2 : cond0_2 i) (c3 : ¬cond0_3 i) (c4 : cond0_4 i) (c5 : ¬cond0_5 i) :
    out0_A_6 c i a1 h1 a2 h2 a3 h3 a4 h4 a5 h5 a6 h6 a7 h7 a8 h8 a9 h9 c0 c1 c2 c3 c4 c5 x0 x1 x2 x3 x4 =
      k0_pay12 x2 (k0_pay3 x0 x1) (k0_pay5 x0 x1) (k0_pay6 x0 x1) (k0_pay8 x0 x1 x2 x3 x4) := by
  unfold out0_A_6
  rw [View.read_writes_eq_canon _ _ _ (cover0_A_6 c i a1 h1 a2 h2 a3 h3 a4 h4 a5 h5 a6 h6 a7 h7 a8 h8 a9 h9 c0 c1 c2 c3 c4 c5 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S256x512) hz, View.ld_unit_zero (S := S1x512) hz]

theorem outA_7 (c0 : cond0_0 i) (c1 : ¬cond0_1 i) (c2 : cond0_2 i) (c3 : ¬cond0_3 i) (c4 : cond0_4 i) (c5 : ¬cond0_5 i) :
    out0_A_7 c i a1 h1 a2 h2 a3 h3 a4 h4 a5 h5 a6 h6 a7 h7 a8 h8 a9 h9 c0 c1 c2 c3 c4 c5 x0 x1 x2 x3 x4 =
      k0_pay10 (k0_pay7 x0 x1) (k0_pay8 x0 x1 x2 x3 x4) := by
  unfold out0_A_7
  rw [View.read_writes_eq_canon _ _ _ (cover0_A_7 c i a1 h1 a2 h2 a3 h3 a4 h4 a5 h5 a6 h6 a7 h7 a8 h8 a9 h9 c0 c1 c2 c3 c4 c5 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S256x512) hz, View.ld_unit_zero (S := S1x512) hz]

theorem outA_8 (c0 : cond0_0 i) (c1 : ¬cond0_1 i) (c2 : cond0_2 i) (c3 : ¬cond0_3 i) (c4 : cond0_4 i) (c5 : ¬cond0_5 i) :
    out0_A_8 c i a1 h1 a2 h2 a3 h3 a4 h4 a5 h5 a6 h6 a7 h7 a8 h8 a9 h9 c0 c1 c2 c3 c4 c5 x0 x1 x2 x3 x4 =
      k0_pay9 x0 x1 x2 x3 x4 := by
  unfold out0_A_8
  rw [View.read_writes_eq_canon _ _ _ (cover0_A_8 c i a1 h1 a2 h2 a3 h3 a4 h4 a5 h5 a6 h6 a7 h7 a8 h8 a9 h9 c0 c1 c2 c3 c4 c5 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S256x512) hz, View.ld_unit_zero (S := S1x512) hz]

/-- … a later one adds its own. -/
theorem outB_5 (c0 : ¬cond0_0 i) (c1 : cond0_1 i) (c2 : ¬cond0_2 i) (c3 : cond0_3 i) (c4 : ¬cond0_4 i) (c5 : cond0_5 i) :
    out0_B_5 c i a1 h1 a2 h2 a3 h3 a4 h4 a5 h5 a6 h6 a7 h7 a8 h8 a9 h9 c0 c1 c2 c3 c4 c5 x0 x1 x2 x3 x4 u v w =
      k0_pay11 x2 (k0_pay3 x0 x1) (k0_pay5 x0 x1) (k0_pay6 x0 x1) (k0_pay8 x0 x1 x2 x3 x4) := by
  unfold out0_B_5
  rw [View.read_writes_eq_canon _ _ _ (cover0_B_5 c i a1 h1 a2 h2 a3 h3 a4 h4 a5 h5 a6 h6 a7 h7 a8 h8 a9 h9 c0 c1 c2 c3 c4 c5 x0 x1 x2 x3 x4 u v w)]
  unfold kernelRun0_B
  dsimp only
  sl_unfold_words
  rw [View.canon_unit_zero hz]
  simp only [View.readAt_eq_ld, h1.read_unread, h2.read_unread, h3.read_unread, h4.read_unread, h5.read_unread,
    View.ld_unit_zero (S := S256x512) hz, View.ld_unit_zero (S := S1x512) hz]

theorem outB_6 (c0 : ¬cond0_0 i) (c1 : cond0_1 i) (c2 : ¬cond0_2 i) (c3 : cond0_3 i) (c4 : ¬cond0_4 i) (c5 : cond0_5 i) :
    out0_B_6 c i a1 h1 a2 h2 a3 h3 a4 h4 a5 h5 a6 h6 a7 h7 a8 h8 a9 h9 c0 c1 c2 c3 c4 c5 x0 x1 x2 x3 x4 u v w =
      addf u (k0_pay12 x2 (k0_pay3 x0 x1) (k0_pay5 x0 x1) (k0_pay6 x0 x1) (k0_pay8 x0 x1 x2 x3 x4)) := by
  unfold out0_B_6
  rw [View.read_writes_eq_canon _ _ _ (cover0_B_6 c i a1 h1 a2 h2 a3 h3 a4 h4 a5 h5 a6 h6 a7 h7 a8 h8 a9 h9 c0 c1 c2 c3 c4 c5 x0 x1 x2 x3 x4 u v w)]
  unfold kernelRun0_B
  dsimp only
  sl_unfold_words
  rw [View.canon_unit_zero hz]
  unfold k0_pay13
  simp only [View.readAt_eq_ld, h1.read_unread, h2.read_unread, h3.read_unread, h4.read_unread, h5.read_unread, h7.read_unread,
    View.ld_unit_zero (S := S256x512) hz, View.ld_unit_zero (S := S1x512) hz, shapeCast_self]

theorem outB_7 (c0 : ¬cond0_0 i) (c1 : cond0_1 i) (c2 : ¬cond0_2 i) (c3 : cond0_3 i) (c4 : ¬cond0_4 i) (c5 : cond0_5 i) :
    out0_B_7 c i a1 h1 a2 h2 a3 h3 a4 h4 a5 h5 a6 h6 a7 h7 a8 h8 a9 h9 c0 c1 c2 c3 c4 c5 x0 x1 x2 x3 x4 u v w =
      addf v (k0_pay10 (k0_pay7 x0 x1) (k0_pay8 x0 x1 x2 x3 x4)) := by
  unfold out0_B_7
  rw [View.read_writes_eq_canon _ _ _ (cover0_B_7 c i a1 h1 a2 h2 a3 h3 a4 h4 a5 h5 a6 h6 a7 h7 a8 h8 a9 h9 c0 c1 c2 c3 c4 c5 x0 x1 x2 x3 x4 u v w)]
  unfold kernelRun0_B
  dsimp only
  sl_unfold_words
  rw [View.canon_unit_zero hz]
  unfold k0_pay1
  simp only [View.readAt_eq_ld, h1.read_unread, h2.read_unread, h3.read_unread, h4.read_unread, h5.read_unread, h8.read_unread,
    View.ld_unit_zero (S := S256x512) hz, View.ld_unit_zero (S := S1x512) hz, shapeCast_self]

theorem outB_8 (c0 : ¬cond0_0 i) (c1 : cond0_1 i) (c2 : ¬cond0_2 i) (c3 : cond0_3 i) (c4 : ¬cond0_4 i) (c5 : cond0_5 i) :
    out0_B_8 c i a1 h1 a2 h2 a3 h3 a4 h4 a5 h5 a6 h6 a7 h7 a8 h8 a9 h9 c0 c1 c2 c3 c4 c5 x0 x1 x2 x3 x4 u v w =
      addf w (k0_pay9 x0 x1 x2 x3 x4) := by
  unfold out0_B_8
  rw [View.read_writes_eq_canon _ _ _ (cover0_B_8 c i a1 h1 a2 h2 a3 h3 a4 h4 a5 h5 a6 h6 a7 h7 a8 h8 a9 h9 c0 c1 c2 c3 c4 c5 x0 x1 x2 x3 x4 u v w)]
  unfold kernelRun0_B
  dsimp only
  sl_unfold_words
  rw [View.canon_unit_zero hz]
  unfold k0_pay2
  simp only [View.readAt_eq_ld, h1.read_unread, h2.read_unread, h3.read_unread, h4.read_unread, h5.read_unread, h9.read_unread,
    View.ld_unit_zero (S := S256x512) hz, View.ld_unit_zero (S := S1x512) hz, shapeCast_self]

end

/-! ## The staged blocks -/

section
variable (m : (ℓ : Loc nD τ sig) → Buf (Elt Ideal) ℓ) (c : Dev nD)

/-- The rows, the bias, the scale, the shift, and the incoming gradient. -/
abbrev A : S4352x512.Idx → EReal := m ((c : Thread nD τ).loc main_arg0)
abbrev W : S1x512.Idx → EReal := m ((c : Thread nD τ).loc main_arg1)
abbrev G : S1x512.Idx → EReal := m ((c : Thread nD τ).loc main_arg2)
abbrev B : S1x512.Idx → EReal := m ((c : Thread nD τ).loc main_arg3)
abbrev D : S4352x512.Idx → EReal := m ((c : Thread nD τ).loc main_arg4)

theorem idx : ∀ t : Fin cfg0.N, win0_0.index t = ![t.val, 0] ∧ win0_1.index t = ![0, 0] ∧ win0_2.index t = ![0, 0] ∧
    win0_3.index t = ![0, 0] ∧ win0_4.index t = ![t.val, 0] ∧ win0_5.index t = ![t.val, 0] ∧ win0_6.index t = ![0, 0] ∧
    win0_7.index t = ![0, 0] ∧ win0_8.index t = ![0, 0] := by decide +kernel

theorem tlt (t : Fin cfg0.N) : t.val < 17 := lt_of_lt_of_eq t.isLt N_0

theorem iblk0 (t : Fin cfg0.N) (r : Fin 256) (d : Fin 512) :
    (iblk m c 0 t (ix2 r d) : EReal) = nat2 (A m c) (256 * t.val + r.val) d.val := by
  have := tlt t
  rw [nat2_pos _ (show 256 * t.val + r.val < 4352 by omega) d.isLt]
  blk_ext [iblk, Gen.V, idx t]

theorem iblk4 (t : Fin cfg0.N) (r : Fin 256) (d : Fin 512) :
    (iblk m c 4 t (ix2 r d) : EReal) = nat2 (D m c) (256 * t.val + r.val) d.val := by
  have := tlt t
  rw [nat2_pos _ (show 256 * t.val + r.val < 4352 by omega) d.isLt]
  blk_ext [iblk, Gen.V, idx t]

theorem iblk1 (t : Fin cfg0.N) (d : Fin 512) : (iblk m c 1 t (ix2 0 d) : EReal) = nat2 (W m c) 0 d.val := by
  rw [nat2_pos _ (show 0 < 1 by omega) d.isLt]
  blk_ext [iblk, Gen.V, idx t]

theorem iblk2 (t : Fin cfg0.N) (d : Fin 512) : (iblk m c 2 t (ix2 0 d) : EReal) = nat2 (G m c) 0 d.val := by
  rw [nat2_pos _ (show 0 < 1 by omega) d.isLt]
  blk_ext [iblk, Gen.V, idx t]

theorem iblk3 (t : Fin cfg0.N) (d : Fin 512) : (iblk m c 3 t (ix2 0 d) : EReal) = nat2 (B m c) 0 d.val := by
  rw [nat2_pos _ (show 0 < 1 by omega) d.isLt]
  blk_ext [iblk, Gen.V, idx t]

theorem bias_blk (t : Fin cfg0.N) (r : Fin 256) :
    bias (iblk m c 0 t) (iblk m c 1 t) r = biased (A m c) (W m c) (256 * t.val + r.val) :=
  funext fun d => congrArg₂ (fun a b : EReal => a + b) (iblk0 m c t r d) (iblk1 m c t d)

theorem inc_blk (t : Fin cfg0.N) (r : Fin 256) : inc (iblk m c 4 t) r = row (D m c) (256 * t.val + r.val) :=
  funext fun d => iblk4 m c t r d

theorem scale_blk (t : Fin cfg0.N) : par (iblk m c 2 t) = row (G m c) 0 := funext fun d => iblk2 m c t d
theorem shift_blk (t : Fin cfg0.N) : par (iblk m c 3 t) = row (B m c) 0 := funext fun d => iblk3 m c t d

/-- Row `n` of each gradient. -/
abbrev gateM (n : ℕ) : Row := gateAt (A m c) (W m c) (G m c) (B m c) (D m c) n
abbrev rowsM (n : ℕ) : Row := rowsAt (A m c) (W m c) (G m c) (B m c) (D m c) n
abbrev scaleM (n : ℕ) : Row := scaleAt (A m c) (W m c) (G m c) (B m c) (D m c) n

theorem val5 (t : Fin cfg0.N) (y : S256x512.Idx) :
    (k0_pay11 (iblk m c 2 t) (k0_pay3 (iblk m c 0 t) (iblk m c 1 t)) (k0_pay5 (iblk m c 0 t) (iblk m c 1 t)) (k0_pay6 (iblk m c 0 t) (iblk m c 1 t)) (k0_pay8 (iblk m c 0 t) (iblk m c 1 t) (iblk m c 2 t) (iblk m c 3 t) (iblk m c 4 t)) y : EReal) = rowsM m c (256 * t.val + (y 0).val) (y 1) := by
  exact (dy_apply _ _ _ _ _ y).trans
    (rows_congr (scale_blk m c t) (shift_blk m c t) (bias_blk m c t (y 0)) (inc_blk m c t (y 0)) (y 1))

theorem val6 (t : Fin cfg0.N) (y : S1x512.Idx) :
    (k0_pay12 (iblk m c 2 t) (k0_pay3 (iblk m c 0 t) (iblk m c 1 t)) (k0_pay5 (iblk m c 0 t) (iblk m c 1 t)) (k0_pay6 (iblk m c 0 t) (iblk m c 1 t)) (k0_pay8 (iblk m c 0 t) (iblk m c 1 t) (iblk m c 2 t) (iblk m c 3 t) (iblk m c 4 t)) y : EReal) = ∑ r : Fin 256, rowsM m c (256 * t.val + r.val) (y 1) := by
  rw [dw_apply]
  refine Finset.sum_congr rfl fun r _ => ?_
  rw [bias_blk, inc_blk, scale_blk, shift_blk]
  rfl

theorem val7 (t : Fin cfg0.N) (y : S1x512.Idx) :
    (k0_pay10 (k0_pay7 (iblk m c 0 t) (iblk m c 1 t)) (k0_pay8 (iblk m c 0 t) (iblk m c 1 t) (iblk m c 2 t) (iblk m c 3 t) (iblk m c 4 t)) y : EReal) = ∑ r : Fin 256, scaleM m c (256 * t.val + r.val) (y 1) := by
  rw [dg_apply]
  refine Finset.sum_congr rfl fun r _ => ?_
  rw [bias_blk, inc_blk, scale_blk, shift_blk]
  rfl

theorem val8 (t : Fin cfg0.N) (y : S1x512.Idx) :
    (k0_pay9 (iblk m c 0 t) (iblk m c 1 t) (iblk m c 2 t) (iblk m c 3 t) (iblk m c 4 t) y : EReal) = ∑ r : Fin 256, gateM m c (256 * t.val + r.val) (y 1) := by
  rw [db_apply]
  refine Finset.sum_congr rfl fun r _ => ?_
  rw [bias_blk, inc_blk, scale_blk, shift_blk]
  rfl

/-! ## What the windows hold after a point -/

theorem rows (t : Fin cfg0.N) : (outsAt0 m c t.val t.isLt).1 = k0_pay11 (iblk m c 2 t) (k0_pay3 (iblk m c 0 t) (iblk m c 1 t)) (k0_pay5 (iblk m c 0 t) (iblk m c 1 t)) (k0_pay6 (iblk m c 0 t) (iblk m c 1 t)) (k0_pay8 (iblk m c 0 t) (iblk m c 1 t) (iblk m c 2 t) (iblk m c 3 t) (iblk m c 4 t)) := by
  have ht := tlt t
  by_cases h : t.val % 17 = 0
  · rw [outsAt0_A m c t h (by omega) h (by omega) h (by omega)]
    dsimp only
    rw [outA_5]
  · rw [outsAt0_B m c t h (by omega) h (by omega) h (by omega)]
    dsimp only
    rw [outB_5]

theorem sums6 (q j : ℕ) (hj : j < 17) (h : 17 * q + j < cfg0.N) (y : S1x512.Idx) :
    ((outsAt0 m c (17 * q + j) h).2.1 y : EReal) =
      ∑ s ∈ Finset.range (j + 1), ∑ r : Fin 256, rowsM m c (256 * (17 * q + s) + r.val) (y 1) := by
  refine run_sum (ι := S1x512.Idx) (β := EReal) (fun n h => (outsAt0 m c n h).2.1) 17
    (fun n y => ∑ r : Fin 256, rowsM m c (256 * n + r.val) (y 1)) ?_ ?_ q j hj h y
  · intro n h hn i
    have hb := tlt ⟨n, h⟩
    have e := outsAt0_A m c ⟨n, h⟩ hn (by dsimp only at hb ⊢; omega) hn (by dsimp only at hb ⊢; omega) hn
      (by dsimp only at hb ⊢; omega)
    dsimp only at e ⊢
    rw [e]
    dsimp only
    rw [outA_6]
    exact val6 m c ⟨n, h⟩ i
  · intro n h hn i
    have e := outsAt0_B m c ⟨n + 1, h⟩ hn (by dsimp only; omega) hn (by dsimp only; omega) hn (by dsimp only; omega)
    dsimp only at e ⊢
    rw [e]
    dsimp only
    rw [outB_6]
    exact congrArg _ (val6 m c ⟨n + 1, h⟩ i)

theorem sums7 (q j : ℕ) (hj : j < 17) (h : 17 * q + j < cfg0.N) (y : S1x512.Idx) :
    ((outsAt0 m c (17 * q + j) h).2.2.1 y : EReal) =
      ∑ s ∈ Finset.range (j + 1), ∑ r : Fin 256, scaleM m c (256 * (17 * q + s) + r.val) (y 1) := by
  refine run_sum (ι := S1x512.Idx) (β := EReal) (fun n h => (outsAt0 m c n h).2.2.1) 17
    (fun n y => ∑ r : Fin 256, scaleM m c (256 * n + r.val) (y 1)) ?_ ?_ q j hj h y
  · intro n h hn i
    have hb := tlt ⟨n, h⟩
    have e := outsAt0_A m c ⟨n, h⟩ hn (by dsimp only at hb ⊢; omega) hn (by dsimp only at hb ⊢; omega) hn
      (by dsimp only at hb ⊢; omega)
    dsimp only at e ⊢
    rw [e]
    dsimp only
    rw [outA_7]
    exact val7 m c ⟨n, h⟩ i
  · intro n h hn i
    have e := outsAt0_B m c ⟨n + 1, h⟩ hn (by dsimp only; omega) hn (by dsimp only; omega) hn (by dsimp only; omega)
    dsimp only at e ⊢
    rw [e]
    dsimp only
    rw [outB_7]
    exact congrArg _ (val7 m c ⟨n + 1, h⟩ i)

theorem sums8 (q j : ℕ) (hj : j < 17) (h : 17 * q + j < cfg0.N) (y : S1x512.Idx) :
    ((outsAt0 m c (17 * q + j) h).2.2.2 y : EReal) =
      ∑ s ∈ Finset.range (j + 1), ∑ r : Fin 256, gateM m c (256 * (17 * q + s) + r.val) (y 1) := by
  refine run_sum (ι := S1x512.Idx) (β := EReal) (fun n h => (outsAt0 m c n h).2.2.2) 17
    (fun n y => ∑ r : Fin 256, gateM m c (256 * n + r.val) (y 1)) ?_ ?_ q j hj h y
  · intro n h hn i
    have hb := tlt ⟨n, h⟩
    have e := outsAt0_A m c ⟨n, h⟩ hn (by dsimp only at hb ⊢; omega) hn (by dsimp only at hb ⊢; omega) hn
      (by dsimp only at hb ⊢; omega)
    dsimp only at e ⊢
    rw [e]
    dsimp only
    rw [outA_8]
    exact val8 m c ⟨n, h⟩ i
  · intro n h hn i
    have e := outsAt0_B m c ⟨n + 1, h⟩ hn (by dsimp only; omega) hn (by dsimp only; omega) hn (by dsimp only; omega)
    dsimp only at e ⊢
    rw [e]
    dsimp only
    rw [outB_8]
    exact congrArg _ (val8 m c ⟨n + 1, h⟩ i)

/-! ## The result arrays -/

theorem arr5 : (dats m 0 c).arrAt 5 cfg0.N = fun i : S4352x512.Idx => rowsM m c (i 0).val (i 1) := by
  refine (dats m 0 c).arrAt_eq_of_covers 5 _ (by decide +kernel) fun t hf y => ?_
  have ht := tlt t
  rw [after0_5, rows]
  refine (val5 m c t y).trans (at2 (rowsM m c) ?_ ?_) <;> blk_simp [idx t] <;> omega

theorem arr6 : (dats m 0 c).arrAt 6 cfg0.N = fun i : S1x512.Idx => ∑ r : Fin 4352, rowsM m c r.val (i 1) := by
  refine (dats m 0 c).arrAt_eq_of_covers 6 _ (by decide +kernel) fun t hf y => ?_
  have ht := tlt t
  have hm : t.val = 17 * 0 + 16 := by have := (flush0_6 t).mp hf; omega
  rw [after0_6]
  have hs := sums6 m c 0 16 (by decide) (by have := t.isLt; omega) y
  simp only [← hm] at hs
  refine hs.trans ?_
  have hsum := sum_blocks (fun n => rowsM m c n (y 1)) 256 17
  refine (Finset.sum_congr rfl fun s hs => ?_).trans (hsum.trans ?_)
  · rw [Nat.mul_zero, Nat.zero_add]
  · refine Finset.sum_congr rfl fun r _ => at2 (rowsM m c) rfl ?_
    blk_simp [idx t] <;> omega

theorem arr7 : (dats m 0 c).arrAt 7 cfg0.N = fun i : S1x512.Idx => ∑ r : Fin 4352, scaleM m c r.val (i 1) := by
  refine (dats m 0 c).arrAt_eq_of_covers 7 _ (by decide +kernel) fun t hf y => ?_
  have ht := tlt t
  have hm : t.val = 17 * 0 + 16 := by have := (flush0_7 t).mp hf; omega
  rw [after0_7]
  have hs := sums7 m c 0 16 (by decide) (by have := t.isLt; omega) y
  simp only [← hm] at hs
  refine hs.trans ?_
  have hsum := sum_blocks (fun n => scaleM m c n (y 1)) 256 17
  refine (Finset.sum_congr rfl fun s hs => ?_).trans (hsum.trans ?_)
  · rw [Nat.mul_zero, Nat.zero_add]
  · refine Finset.sum_congr rfl fun r _ => at2 (scaleM m c) rfl ?_
    blk_simp [idx t] <;> omega

theorem arr8 : (dats m 0 c).arrAt 8 cfg0.N = fun i : S1x512.Idx => ∑ r : Fin 4352, gateM m c r.val (i 1) := by
  refine (dats m 0 c).arrAt_eq_of_covers 8 _ (by decide +kernel) fun t hf y => ?_
  have ht := tlt t
  have hm : t.val = 17 * 0 + 16 := by have := (flush0_8 t).mp hf; omega
  rw [after0_8]
  have hs := sums8 m c 0 16 (by decide) (by have := t.isLt; omega) y
  simp only [← hm] at hs
  refine hs.trans ?_
  have hsum := sum_blocks (fun n => gateM m c n (y 1)) 256 17
  refine (Finset.sum_congr rfl fun s hs => ?_).trans (hsum.trans ?_)
  · rw [Nat.mul_zero, Nat.zero_add]
  · refine Finset.sum_congr rfl fun r _ => at2 (gateM m c) rfl ?_
    blk_simp [idx t] <;> omega

end

theorem frame_reference : Cert.quiescent_Reference31Ideal := fun m ρ _ => Cert.Reference31Ideal.Gen.frame m ρ

/-- The kernel's four gradients are the reference's. -/
theorem algebraic : Cert.algebraic_Kernel31Ideal_Reference31Ideal := by
  intro m g m' g' _ hagree
  refine ⟨fun c => (dats m 0 c).arrAt 5 cfg0.N, fun c => (dats m 0 c).arrAt 6 cfg0.N,
    fun c => (dats m 0 c).arrAt 7 cfg0.N, fun c => (dats m 0 c).arrAt 8 cfg0.N,
    Cert.Kernel31Ideal.Value.run_blocks m g, ?_⟩
  refine (θ_run Cert.Reference31Ideal.defs _ _).mono (fun r h c => ?_) (Cert.Reference31Ideal.Row.run m' g')
  obtain ⟨e0, e1, e2, e3, e4⟩ := hagree c
  have f0 : Cert.Reference31Ideal.Row.A m' c = A m c := e0
  have f1 : Cert.Reference31Ideal.Row.W m' c = W m c := e1
  have f2 : Cert.Reference31Ideal.Row.G m' c = G m c := e2
  have f3 : Cert.Reference31Ideal.Row.B m' c = B m c := e3
  have f4 : Cert.Reference31Ideal.Row.D m' c = D m c := e4
  have fw : ∀ n, Cert.Reference31Ideal.Row.rowsM m' c n = rowsM m c n := fun n => by
    rw [Cert.Reference31Ideal.Row.rowsM, f0, f1, f2, f3, f4]
  have fg : ∀ n, Cert.Reference31Ideal.Row.gateM m' c n = gateM m c n := fun n => by
    rw [Cert.Reference31Ideal.Row.gateM, f0, f1, f2, f3, f4]
  have fs : ∀ n, Cert.Reference31Ideal.Row.scaleM m' c n = scaleM m c n := fun n => by
    rw [Cert.Reference31Ideal.Row.scaleM, f0, f1, f2, f3, f4]
  refine ⟨(h c).1.1.trans ?_, (h c).1.2.1.trans ?_, (h c).1.2.2.1.trans ?_, (h c).1.2.2.2.trans ?_, (h c).2⟩
  · refine (Cert.Reference31Ideal.Row.arr5 m' c).trans (Eq.trans ?_ (arr5 m c).symm)
    exact funext fun i => congrFun (fw _) _
  · refine (Cert.Reference31Ideal.Row.arr6 m' c).trans (Eq.trans ?_ (arr6 m c).symm)
    exact funext fun i => Finset.sum_congr rfl fun r _ => congrFun (fw _) _
  · refine (Cert.Reference31Ideal.Row.arr7 m' c).trans (Eq.trans ?_ (arr7 m c).symm)
    exact funext fun i => Finset.sum_congr rfl fun r _ => congrFun (fs _) _
  · refine (Cert.Reference31Ideal.Row.arr8 m' c).trans (Eq.trans ?_ (arr8 m c).symm)
    exact funext fun i => Finset.sum_congr rfl fun r _ => congrFun (fg _) _

end Cert.Kernel31Ideal.Row

end
-- ==== Proof.Row.ConvPostFwd.lean ====
/- What follows a short convolution: its bias, a layer norm over 512 columns and the gate `x · logistic x`. -/
module

public import proofs.«01_k».proof.Proof.Mm.Sum
public import proofs.«01_k».proof.Defs
public import proofs.«01_k».proof.Proof.Gen.Kernel32Ideal.Value
public import proofs.«01_k».proof.Proof.Gen.Reference32Ideal.Read
public import proofs.«01_k».proof.Proof.Row.ConvPost
public import Idealize.ShloMosaic.Lib.Quiescent
public import Idealize.ShloMosaic.Lib.Pipeline.ReadBack
public import Idealize.ShloMosaic.Lib.Tactic

@[expose] public section

set_option maxRecDepth 16384

noncomputable section

namespace Cert.Kernel32Ideal.Row

open Cert.Kernel32Ideal Cert.Kernel32Ideal.Gen Idealize.ShloMosaic Idealize.ShloMosaic.TcCoe Idealize.SL.Sem
open Cert.Mm Cert.ConvPost

theorem hz : (![0, 0] : Fin 2 → Nat) = fun _ => 0 := funext fun a => by fin_cases a <;> rfl

/-- The gated row. -/
def act (g b s : Row) : Row := fun d => lin g b s d * Ideal.logistic (lin g b s d)

theorem act_congr {g g' b b' s s' : Row} (hg : g = g') (hb : b = b') (hs : s = s') (d : Fin 512) :
    act g b s d = act g' b' s' d := by
  rw [hg, hb, hs]

section
variable (x0 : Vec Ideal S256x512 .f32) (x1 x2 x3 : Vec Ideal S1x512 .f32)

abbrev bias (r : Fin 256) : Row := fun d => (x0 (ix2 r d) : EReal) + x1 (ix2 0 d)
abbrev par (x : Vec Ideal S1x512 .f32) : Row := fun d => (x (ix2 0 d) : EReal)

theorem pay1_apply (y : S256x512.Idx) : (k0_pay1 x0 x1 x2 x3 y : EReal) = act (par x2) (par x3) (bias x0 x1 (y 0)) (y 1) := by
  unfold act lin nrm dev var cen
  pointwise [k0_pay1, par, bias, width, eps]

end

section
variable (m : (ℓ : Loc nD τ sig) → Buf (Elt Ideal) ℓ) (c : Dev nD)

/-- The arguments. -/
abbrev A : S4352x512.Idx → EReal := m ((c : Thread nD τ).loc main_arg0)
abbrev W : S1x512.Idx → EReal := m ((c : Thread nD τ).loc main_arg1)
abbrev G : S1x512.Idx → EReal := m ((c : Thread nD τ).loc main_arg2)
abbrev B : S1x512.Idx → EReal := m ((c : Thread nD τ).loc main_arg3)

theorem idx : ∀ t : Fin cfg0.N, win0_0.index t = ![t.val, 0] ∧ win0_1.index t = ![0, 0] ∧ win0_2.index t = ![0, 0] ∧ win0_3.index t = ![0, 0] ∧ win0_4.index t = ![t.val, 0] := by
  decide +kernel

theorem tlt (t : Fin cfg0.N) : t.val < 17 := lt_of_lt_of_eq t.isLt N_0

theorem iblk0 (t : Fin cfg0.N) (r : Fin 256) (d : Fin 512) :
    (iblk m c 0 t (ix2 r d) : EReal) = nat2 (A m c) (256 * t.val + r.val) d.val := by
  have := tlt t
  rw [nat2_pos _ (show 256 * t.val + r.val < 4352 by omega) d.isLt]
  blk_ext [iblk, Gen.V, idx t]

theorem iblk1 (t : Fin cfg0.N) (d : Fin 512) : (iblk m c 1 t (ix2 0 d) : EReal) = nat2 (W m c) 0 d.val := by
  rw [nat2_pos _ (show 0 < 1 by omega) d.isLt]
  blk_ext [iblk, Gen.V, idx t]

theorem iblk2 (t : Fin cfg0.N) (d : Fin 512) : (iblk m c 2 t (ix2 0 d) : EReal) = nat2 (G m c) 0 d.val := by
  rw [nat2_pos _ (show 0 < 1 by omega) d.isLt]
  blk_ext [iblk, Gen.V, idx t]

theorem iblk3 (t : Fin cfg0.N) (d : Fin 512) : (iblk m c 3 t (ix2 0 d) : EReal) = nat2 (B m c) 0 d.val := by
  rw [nat2_pos _ (show 0 < 1 by omega) d.isLt]
  blk_ext [iblk, Gen.V, idx t]

/-- Row `n` of the result. -/
def out (x0 : Shape.Idx ⟨2, ![4352, 512]⟩ → EReal) (x1 x2 x3 : Shape.Idx ⟨2, ![1, 512]⟩ → EReal) (n : ℕ) : Row :=
  act (row x2 0) (row x3 0) (biased x0 x1 n)

theorem arr4 : (dats m 0 c).arrAt 4 cfg0.N = fun i : S4352x512.Idx => out (A m c) (W m c) (G m c) (B m c) (i 0).val (i 1) := by
  refine (dats m 0 c).arrAt_eq_of_covers 4 _ (by decide +kernel) fun t hf y => ?_
  have ht := tlt t
  rw [after0_4]
  unfold out0_4
  rw [View.canon_unit_zero hz]
  simp only [View.ld_unit_zero (S := S256x512) hz, View.ld_unit_zero (S := S1x512) hz]
  refine (pay1_apply _ _ _ _ y).trans ((act_congr (funext fun k => iblk2 m c t k) (funext fun k => iblk3 m c t k)
    (funext fun k => congrArg₂ (fun a b : EReal => a + b) (iblk0 m c t (y 0) k) (iblk1 m c t k)) (y 1)).trans ?_)
  refine at2 (n := 256 * t.val + (y 0).val) (d := y 1) (out (A m c) (W m c) (G m c) (B m c)) ?_ ?_ <;> blk_simp [idx t] <;> omega

end

section
variable (x0 : Cert.Reference32Ideal.S4352x512.Idx → EReal) (x1 x2 x3 : Cert.Reference32Ideal.S1x512.Idx → EReal)

open Cert.Reference32Ideal.Read

theorem refBias (i : Cert.Reference32Ideal.S4352x512.Idx) : (val_main_v1 (F := Ideal) x0 x1 i : EReal) = biased x0 x1 (i 0).val (i 1) := by
  rw [val_main_v1_apply, val_main_v0_apply]
  exact congrArg₂ (fun a b : EReal => a + b) (nat2_idx x0 _).symm (nat2_idx x1 _).symm

theorem refCen (i : Cert.Reference32Ideal.S4352x512.Idx) : (val_main_v7 (F := Ideal) x0 x1 i : EReal) = cen (biased x0 x1 (i 0).val) (i 1) := by
  rw [val_main_v7_apply, val_main_v6_apply, val_main_v5_apply, val_main_v4_apply, val_main_cst_0_apply, val_main_v3_apply,
    val_main_v2_apply, val_main_cst_apply]
  exact congrArg₂ (fun a b : EReal => a - Ideal.div b width) (refBias x0 x1 i)
    ((congrArg (· + _) Ideal.ofBits_zero_f32).trans ((zero_add _).trans (Finset.sum_congr rfl fun k _ => refBias x0 x1 _)))

theorem refNrm (i : Cert.Reference32Ideal.S4352x512.Idx) : (val_main_v17 (F := Ideal) x0 x1 i : EReal) = nrm (biased x0 x1 (i 0).val) (i 1) := by
  rw [val_main_v17_apply, val_main_v16_apply, val_main_v15_apply, val_main_v14_apply, val_main_v13_apply, val_main_cst_3_apply,
    val_main_v12_apply, val_main_v11_apply, val_main_cst_2_apply, val_main_v10_apply, val_main_v9_apply, val_main_cst_1_apply]
  simp only [val_main_v8_apply]
  exact congrArg₂ (fun a b : EReal => a * Ideal.rsqrt (Ideal.div b width + eps)) (refCen x0 x1 i)
    ((congrArg (· + _) Ideal.ofBits_zero_f32).trans ((zero_add _).trans (Finset.sum_congr rfl fun k _ =>
      congrArg₂ (fun a b : EReal => a * b) (refCen x0 x1 _) (refCen x0 x1 _))))

theorem refLin (i : Cert.Reference32Ideal.S4352x512.Idx) :
    (val_main_v21 (F := Ideal) x0 x1 x2 x3 i : EReal) = lin (row x2 0) (row x3 0) (biased x0 x1 (i 0).val) (i 1) := by
  rw [val_main_v21_apply, val_main_v20_apply, val_main_v19_apply, val_main_v18_apply]
  exact congrArg₂ (fun a b : EReal => a + b) (congrArg₂ (fun a b : EReal => a * b) (refNrm x0 x1 i) (nat2_idx x2 _).symm)
    (nat2_idx x3 _).symm

theorem ref : (val_main_v23 (F := Ideal) x0 x1 x2 x3 : S4352x512.Idx → EReal) = fun i => out x0 x1 x2 x3 (i 0).val (i 1) := by
  funext i
  rw [val_main_v23_apply, val_main_v22_apply, val_main_call0_v5_apply, val_main_call0_v4_apply, val_main_call0_cst_0_apply,
    val_main_call0_v3_apply, val_main_call0_v2_apply, val_main_call0_cst_apply, val_main_call0_v1_apply, val_main_call0_v0_apply]
  refine congrArg₂ (fun a b : EReal => a * b) (refLin x0 x1 x2 x3 i) ?_
  exact congrArg₂ (fun u v : EReal => Ideal.div u (u + Ideal.exp (-v))) Ideal.ofBits_one_f32 (refLin x0 x1 x2 x3 i)

end

theorem frame_reference : Cert.quiescent_Reference32Ideal := fun m ρ _ =>
  (θ_run Cert.Reference32Ideal.defs _ _).mono
    (fun r h => ⟨fun c => (h c).2, Idealize.ShloMosaic.sem_eq_zero_of_no_sems (by decide) r.2⟩)
    (Cert.Reference32Ideal.Value.run (F := Ideal) m ρ)

/-- The kernel's gated rows are the reference's. -/
theorem algebraic : Cert.algebraic_Kernel32Ideal_Reference32Ideal := by
  intro m g m' g' _ hagree
  refine ⟨fun c => (dats m 0 c).arrAt 4 cfg0.N, Cert.Kernel32Ideal.Value.run_blocks m g, ?_⟩
  refine (θ_run Cert.Reference32Ideal.defs _ _).mono (fun r h c => ?_) (Cert.Reference32Ideal.Value.run (F := Ideal) m' g')
  obtain ⟨e0, e1, e2, e3⟩ := hagree c
  refine ⟨(h c).1.trans ?_, (h c).2⟩
  · rw [Cert.Reference32Ideal.Read.val_main_v23_eq, e0, e1, e2, e3]
    exact (ref _ _ _ _).trans (arr4 m c).symm

end Cert.Kernel32Ideal.Row

end
-- ==== Proof.Row.PoolPostFwd.lean ====
/- A scaling of columns, a block of 256 rows at a time. -/
module

public import proofs.«01_k».proof.Proof.Mm.Sum
public import proofs.«01_k».proof.Defs
public import proofs.«01_k».proof.Proof.Gen.Kernel33Ideal.Value
public import proofs.«01_k».proof.Proof.Gen.Reference33Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel33Ideal.Row

open Cert.Kernel33Ideal Cert.Kernel33Ideal.Gen Idealize.ShloMosaic Idealize.ShloMosaic.TcCoe Idealize.SL.Sem
open Cert.Mm

theorem hz : (![0, 0] : Fin 2 → Nat) = fun _ => 0 := funext fun a => by fin_cases a <;> rfl

theorem pay1_apply (x0 : Vec Ideal S256x512 .f32) (x1 : Vec Ideal S1x512 .f32) (y : S256x512.Idx) :
    (k0_pay1 x0 x1 y : EReal) = (x0 (ix2 (y 0) (y 1)) : EReal) * x1 (ix2 0 (y 1)) := by
  pointwise [k0_pay1]

section
variable (m : (ℓ : Loc nD τ sig) → Buf (Elt Ideal) ℓ) (c : Dev nD)

/-- The rows and the scales. -/
abbrev A : S4352x512.Idx → EReal := m ((c : Thread nD τ).loc main_arg0)
abbrev S : S1x512.Idx → EReal := m ((c : Thread nD τ).loc main_arg1)

theorem idx : ∀ t : Fin cfg0.N, win0_0.index t = ![t.val, 0] ∧ win0_1.index t = ![0, 0] ∧ win0_2.index t = ![t.val, 0] := by
  decide +kernel

theorem tlt (t : Fin cfg0.N) : t.val < 17 := lt_of_lt_of_eq t.isLt N_0

theorem iblk0 (t : Fin cfg0.N) (r : Fin 256) (d : Fin 512) :
    (iblk m c 0 t (ix2 r d) : EReal) = nat2 (A m c) (256 * t.val + r.val) d.val := by
  have := tlt t
  rw [nat2_pos _ (show 256 * t.val + r.val < 4352 by omega) d.isLt]
  blk_ext [iblk, Gen.V, idx t]

theorem iblk1 (t : Fin cfg0.N) (d : Fin 512) : (iblk m c 1 t (ix2 0 d) : EReal) = nat2 (S m c) 0 d.val := by
  rw [nat2_pos _ (show 0 < 1 by omega) d.isLt]
  blk_ext [iblk, Gen.V, idx t]

/-- Equal numbers give equal entries. -/
theorem at2 {α : Type} (f : ℕ → ℕ → α) {a a' b b' : ℕ} (h : a = a') (h' : b = b') : f a b = f a' b' := by rw [h, h']

theorem arr2 : (dats m 0 c).arrAt 2 cfg0.N = fun i : S4352x512.Idx =>
    nat2 (A m c) (i 0).val (i 1).val * nat2 (S m c) 0 (i 1).val := by
  refine (dats m 0 c).arrAt_eq_of_covers 2 _ (by decide +kernel) fun t hf y => ?_
  have ht := tlt t
  rw [after0_2]
  unfold out0_2
  rw [View.canon_unit_zero hz]
  simp only [View.ld_unit_zero (S := S256x512) hz, View.ld_unit_zero (S := S1x512) hz]
  refine (pay1_apply _ _ y).trans ((congrArg₂ _ (iblk0 m c t (y 0) (y 1)) (iblk1 m c t (y 1))).trans ?_)
  refine at2 (a := 256 * t.val + (y 0).val) (b := (y 1).val)
    (fun a b => nat2 (A m c) a b * nat2 (S m c) 0 b) ?_ ?_ <;> blk_simp [idx t] <;> omega

end

open Cert.Reference33Ideal.Read in
theorem ref (x0 : S4352x512.Idx → EReal) (x1 : S1x512.Idx → EReal) :
    (val_main_v2 (F := Ideal) x0 x1 : S4352x512.Idx → EReal) = fun i =>
      nat2 x0 (i 0).val (i 1).val * nat2 x1 0 (i 1).val := by
  funext i
  rw [val_main_v2_apply, val_main_v1_apply, val_main_v0_apply]
  exact congrArg₂ (fun a b : EReal => a * b) (nat2_idx x0 i).symm (nat2_idx x1 (idx_main_v0 i)).symm

theorem frame_reference : Cert.quiescent_Reference33Ideal := fun m ρ _ =>
  (θ_run Cert.Reference33Ideal.defs _ _).mono
    (fun r h => ⟨fun c => (h c).2, Idealize.ShloMosaic.sem_eq_zero_of_no_sems (by decide) r.2⟩)
    (Cert.Reference33Ideal.Value.run (F := Ideal) m ρ)

/-- The kernel's scaled rows are the reference's. -/
theorem algebraic : Cert.algebraic_Kernel33Ideal_Reference33Ideal := by
  intro m g m' g' _ hagree
  refine ⟨fun c => (dats m 0 c).arrAt 2 cfg0.N, Cert.Kernel33Ideal.Value.run_blocks m g, ?_⟩
  refine (θ_run Cert.Reference33Ideal.defs _ _).mono (fun r h c => ?_) (Cert.Reference33Ideal.Value.run (F := Ideal) m' g')
  obtain ⟨e0, e1⟩ := hagree c
  refine ⟨(h c).1.trans ?_, (h c).2⟩
  · rw [Cert.Reference33Ideal.Read.val_main_v2_eq, e0, e1]
    exact (ref _ _).trans (arr2 m c).symm

end Cert.Kernel33Ideal.Row

end
-- ==== Proof.Row.Glu.lean ====
/- The gated linear unit before the convolution: one half of a block of columns times the logistic of the other. -/
module

public import proofs.«01_k».proof.Proof.Mm.Sum
public import proofs.«01_k».proof.Defs
public import proofs.«01_k».proof.Proof.Gen.Kernel34Ideal.Value
public import proofs.«01_k».proof.Proof.Gen.Reference34Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel34Ideal.Row

open Cert.Kernel34Ideal Cert.Kernel34Ideal.Gen Idealize.ShloMosaic Idealize.ShloMosaic.TcCoe Idealize.SL.Sem
open Cert.Mm

theorem hz : (![0, 0] : Fin 2 → Nat) = fun _ => 0 := funext fun a => by fin_cases a <;> rfl

theorem pay1_apply (x0 : Vec Ideal S256x1024 .bf16) (y : S256x512.Idx) :
    (k0_pay1 x0 y : EReal) = (x0 (ix2 (y 0) ⟨(y 1).val, by have : (y 1).val < 512 := (y 1).isLt; omega⟩) : EReal)
      * Ideal.logistic (x0 (ix2 (y 0) ⟨512 + (y 1).val, by have : (y 1).val < 512 := (y 1).isLt; omega⟩)) := by
  pointwise [k0_pay1]

section
variable (m : (ℓ : Loc nD τ sig) → Buf (Elt Ideal) ℓ) (c : Dev nD)

/-- The projection. -/
abbrev A : S4352x8192.Idx → EReal := m ((c : Thread nD τ).loc main_arg0)

theorem idx : ∀ t : Fin cfg0.N, win0_0.index t = ![t.val, 6] ∧ win0_1.index t = ![t.val, 0] := by
  decide +kernel

theorem tlt (t : Fin cfg0.N) : t.val < 17 := lt_of_lt_of_eq t.isLt N_0

theorem iblk0 (t : Fin cfg0.N) (r : Fin 256) (d : Fin 1024) :
    (iblk m c 0 t (ix2 r d) : EReal) = nat2 (A m c) (256 * t.val + r.val) (6144 + d.val) := by
  have := tlt t
  rw [nat2_pos _ (show 256 * t.val + r.val < 4352 by omega) (show 6144 + d.val < 8192 by omega)]
  blk_ext [iblk, Gen.V, idx t]

/-- Equal numbers give equal entries. -/
theorem at2 {α : Type} (f : ℕ → ℕ → α) {a a' b b' : ℕ} (h : a = a') (h' : b = b') : f a b = f a' b' := by rw [h, h']

theorem arr1 : (dats m 0 c).arrAt 1 cfg0.N = fun i : S4352x512.Idx =>
    nat2 (A m c) (i 0).val (6144 + (i 1).val) * Ideal.logistic (nat2 (A m c) (i 0).val (6656 + (i 1).val)) := by
  refine (dats m 0 c).arrAt_eq_of_covers 1 _ (by decide +kernel) fun t hf y => ?_
  have ht := tlt t
  rw [after0_1]
  unfold out0_1
  rw [View.canon_unit_zero hz]
  simp only [View.ld_unit_zero (S := S256x1024) hz]
  refine (pay1_apply _ y).trans ((congrArg₂ (fun a b => a * Ideal.logistic b) (iblk0 m c t (y 0) _) (iblk0 m c t (y 0) _)).trans ?_)
  dsimp only
  rw [show 6144 + (512 + (y 1).val) = 6656 + (y 1).val by omega]
  refine at2 (a := 256 * t.val + (y 0).val) (b := (y 1).val)
    (fun a b => nat2 (A m c) a (6144 + b) * Ideal.logistic (nat2 (A m c) a (6656 + b))) ?_ ?_ <;> blk_simp [idx t] <;> omega

end

open Cert.Reference34Ideal.Read in
theorem ref (x0 : S4352x8192.Idx → EReal) :
    (val_main_v10 (F := Ideal) x0 : S4352x512.Idx → EReal) = fun i =>
      nat2 x0 (i 0).val (6144 + (i 1).val) * Ideal.logistic (nat2 x0 (i 0).val (6656 + (i 1).val)) := by
  funext i
  rw [val_main_v10_apply, val_main_v9_apply, val_main_v8_apply, val_main_cst_0_apply, val_main_v7_apply, val_main_v6_apply,
    val_main_cst_apply, val_main_v5_apply, val_main_v4_apply, val_main_v3_apply, val_main_v2_apply, val_main_v1_apply,
    val_main_v0_apply]
  refine congrArg₂ (fun a b : EReal => a * b) (nat2_idx x0 (idx_main_v0 i)).symm ?_
  refine (congrArg₂ (fun u v : EReal => Ideal.div u (u + Ideal.exp (-v))) Ideal.ofBits_one_f32 (nat2_idx x0 (idx_main_v2 i)).symm)

theorem frame_reference : Cert.quiescent_Reference34Ideal := fun m ρ _ =>
  (θ_run Cert.Reference34Ideal.defs _ _).mono
    (fun r h => ⟨fun c => (h c).2, Idealize.ShloMosaic.sem_eq_zero_of_no_sems (by decide) r.2⟩)
    (Cert.Reference34Ideal.Value.run (F := Ideal) m ρ)

/-- The kernel's gated columns are the reference's. -/
theorem algebraic : Cert.algebraic_Kernel34Ideal_Reference34Ideal := by
  intro m g m' g' _ hagree
  refine ⟨fun c => (dats m 0 c).arrAt 1 cfg0.N, Cert.Kernel34Ideal.Value.run_blocks m g, ?_⟩
  refine (θ_run Cert.Reference34Ideal.defs _ _).mono (fun r h c => ?_) (Cert.Reference34Ideal.Value.run (F := Ideal) m' g')
  have e0 := hagree c
  refine ⟨(h c).1.trans ?_, (h c).2⟩
  · rw [Cert.Reference34Ideal.Read.val_main_v10_eq, e0]
    exact (ref _).trans (arr1 m c).symm

end Cert.Kernel34Ideal.Row

end
-- ==== Proof.Row.Norm.lean ====
/- A row of 1024 numbers under the root-mean-square norm, its modulation and the gated residual, and two row blocks joined. -/
module

public import proofs.«01_k».proof.Proof.Mm.Cube
public import Idealize.ShloMosaic.Lib.Pipeline.Value
public import Idealize.ShloMosaic.Lib.Tactic

@[expose] public section

noncomputable section

namespace Cert.Norm

open Idealize.ShloMosaic Cert.Mm

/-- A row of 1024 numbers. -/
abbrev Row := Fin 1024 → EReal

/-- The numbers of the programs: 1024, the norm's epsilon, one. -/
abbrev width : EReal := Ideal.ofBits .f32 0x44800000#32
abbrev eps : EReal := Ideal.ofBits .f32 0x358637BD#32
abbrev one : EReal := Ideal.ofBits .f32 0x3F800000#32

/-- The row over the root of its mean square, times the norm's weights. -/
def rms (s g : Row) : Row := fun d => s d * Ideal.rsqrt (Ideal.div (∑ k, s k * s k) width + eps) * g d
/-- The normed row scaled by one plus `c` and shifted by `b`. -/
def modul (s g c b : Row) : Row := fun d => rms s g d * (one + c d) + b d
/-- The residual: a row plus the gated norm of another. -/
def resid (x y e g : Row) : Row := fun d => x d + e d * rms y g d

/-- Row `n` of a matrix, and the row of segment `s` of a stack. -/
def mrow {R C : ℕ} (a : Shape.Idx ⟨2, ![R, C]⟩ → EReal) (n : ℕ) : Row := fun d => nat2 a n d.val
def srow {G R C : ℕ} (a : Shape.Idx ⟨3, ![G, R, C]⟩ → EReal) (s : ℕ) : Row := fun d => nat3 a s 0 d.val

/-- The segment of a row: zero for the first 256 rows, one for the rest. -/
def part (n : ℕ) : ℕ := min (n / 256) 1

theorem part_block {t r : ℕ} (h : r < 256) : part (256 * t + r) = min t 1 := by
  unfold part
  omega

theorem part_left {n : ℕ} (h : n < 256) : part n = 0 := by
  unfold part
  omega

theorem part_right (n : ℕ) : part (256 + n) = 1 := by
  unfold part
  omega

theorem rms_eq {s g : Row} {d : Fin 1024} {a b : EReal} {f : Fin 1024 → EReal} (ha : a = s d) (hf : ∀ k, f k = s k)
    (hb : b = g d) :
    a * Ideal.rsqrt (Ideal.div (Ideal.ofBits .f32 0x00000000#32 + ∑ k, f k * f k) width + eps) * b = rms s g d := by
  rw [ha, hb, funext hf, Ideal.ofBits_zero_f32, zero_add]
  rfl

theorem modul_eq {s g c b : Row} {d : Fin 1024} {u v w : EReal} (hu : u = rms s g d) (hv : v = c d) (hw : w = b d) :
    u * (one + v) + w = modul s g c b d := by
  rw [hu, hv, hw]
  rfl

theorem resid_eq {x y e g : Row} {d : Fin 1024} {u v w : EReal} (hu : u = x d) (hv : v = e d) (hw : w = rms y g d) :
    u + v * w = resid x y e g d := by
  rw [hu, hv, hw]
  rfl

/-- Equal rows have equal results. -/
theorem modul_congr {s s' g g' c c' b b' : Row} (hs : s = s') (hg : g = g') (hc : c = c') (hb : b = b') (d : Fin 1024) :
    modul s g c b d = modul s' g' c' b' d := by
  rw [hs, hg, hc, hb]

theorem resid_congr {x x' y y' e e' g g' : Row} (hx : x = x') (hy : y = y') (he : e = e') (hg : g = g') (d : Fin 1024) :
    resid x y e g d = resid x' y' e' g' d := by
  rw [hx, hy, he, hg]

/-- Equal numbers give equal entries. -/
theorem at2 (f : ℕ → Row) {n n' : ℕ} {d d' : Fin 1024} (h : n = n') (h' : d.val = d'.val) : f n d = f n' d' := by
  rw [h, Fin.ext h']

/-- An entry of a matrix, and of a stack's segment behind a cut and a reshape, as entries of rows. -/
theorem mrow_idx {R : ℕ} (a : Shape.Idx ⟨2, ![R, 1024]⟩ → EReal) (i : Shape.Idx ⟨2, ![R, 1024]⟩) :
    a i = mrow a (i 0).val (i 1) := (nat2_idx a i).symm

theorem srow_idx (a : Shape.Idx ⟨3, ![2, 1, 1024]⟩ → EReal) (i : Shape.Idx ⟨3, ![2, 1, 1024]⟩) (s : ℕ) (d : Fin 1024)
    (h0 : (i 0).val = s) (h1 : (i 1).val = 0) (h2 : (i 2).val = (0 * 1024 + d.val) % 1024) : a i = srow a s d := by
  refine (nat3_idx a i).symm.trans ?_
  rw [h0, h1, h2, show (0 * 1024 + d.val) % 1024 = d.val by omega]
  rfl

/-- 256 rows and 4096 rows joined. -/
theorem joined (f : ℕ → Row) (x : Shape.Idx ⟨2, ![256, 1024]⟩ → EReal) (y : Shape.Idx ⟨2, ![4096, 1024]⟩ → EReal)
    (h : Shape.Concatenates [⟨2, ![256, 1024]⟩, ⟨2, ![4096, 1024]⟩] ⟨2, ![4352, 1024]⟩ 0)
    (hx : ∀ i, x i = f (i 0).val (i 1)) (hy : ∀ i, y i = f (256 + (i 0).val) (i 1)) :
    concatenate ⟨2, ![4352, 1024]⟩ 0 [⟨⟨2, ![256, 1024]⟩, x⟩, ⟨⟨2, ![4096, 1024]⟩, y⟩] h
      = fun i : Shape.Idx ⟨2, ![4352, 1024]⟩ => f (i 0).val (i 1) := by
  funext i
  have h0 : (i 0).val < 4352 := (i 0).isLt
  by_cases hi : (i 0).val < 256
  · refine (concatenate_pair_apply_left (t := ⟨2, ![4352, 1024]⟩) (s₁ := ⟨2, ![256, 1024]⟩) (s₂ := ⟨2, ![4096, 1024]⟩) 0 _ _ _ i rfl
      (ix2 (⟨(i 0).val, hi⟩ : Fin 256) (i 1)) (fun b => ?_)).trans (hx _)
    match b with
    | ⟨0, _⟩ => rfl
    | ⟨1, _⟩ => rfl
  · refine (concatenate_pair_apply_right (t := ⟨2, ![4352, 1024]⟩) (s₁ := ⟨2, ![256, 1024]⟩) (s₂ := ⟨2, ![4096, 1024]⟩) 0 _ _ _ i rfl rfl
      (ix2 (⟨(i 0).val - 256, by omega⟩ : Fin 4096) (i 1)) (fun b hb => ?_) ?_).trans ((hy _).trans ?_)
    · match b with
      | ⟨0, _⟩ => exact absurd rfl hb
      | ⟨1, _⟩ => rfl
    · show (i 0).val - 256 + 256 = (i 0).val
      omega
    · exact at2 f (show 256 + ((i 0).val - 256) = (i 0).val by omega) rfl

end Cert.Norm

end
-- ==== Proof.Row.Pre.lean ====
/- The norm in front of the mixing half of a layer and its modulation, a block of 256 rows at a time. -/
module

public import proofs.«01_k».proof.Proof.Mm.Sum
public import proofs.«01_k».proof.Defs
public import proofs.«01_k».proof.Proof.Gen.Kernel35Ideal.Value
public import proofs.«01_k».proof.Proof.Gen.Reference35Ideal.Read
public import proofs.«01_k».proof.Proof.Row.Norm
public import Idealize.ShloMosaic.Lib.Quiescent
public import Idealize.ShloMosaic.Lib.Pipeline.ReadBack
public import Idealize.ShloMosaic.Lib.Tactic

@[expose] public section

set_option maxRecDepth 16384

noncomputable section

namespace Cert.Kernel35Ideal.Row

open Cert.Kernel35Ideal Cert.Kernel35Ideal.Gen Idealize.ShloMosaic Idealize.ShloMosaic.TcCoe Idealize.SL.Sem
open Cert.Mm Cert.Norm

theorem hz : (![0, 0] : Fin 2 → Nat) = fun _ => 0 := funext fun a => by fin_cases a <;> rfl
theorem hz3 : (![0, 0, 0] : Fin 3 → Nat) = fun _ => 0 := funext fun a => by fin_cases a <;> rfl

/-- Row `r` of a block, and a segment's row. -/
abbrev brow {R : ℕ} (x : Shape.Idx ⟨2, ![R, 1024]⟩ → EReal) (r : Fin R) : Row := fun d => x (ix2 r d)
abbrev grow (x : Shape.Idx ⟨3, ![1, 1, 1024]⟩ → EReal) : Row := fun d => x (ix3 0 0 d)

theorem pay1_apply (x0 : Vec Ideal S256x1024 .f32) (x1 x2 : Vec Ideal S1x1x1024 .f32) (x3 : Vec Ideal S1x1024 .f32) (y : S256x1024.Idx) :
    (k0_pay1 x0 x1 x2 x3 y : EReal) = modul (brow x0 (y 0)) (brow x3 0) (grow x2) (grow x1) (y 1) := by
  unfold modul rms
  pointwise [k0_pay1, width, eps, one, brow, grow]

section
variable (m : (ℓ : Loc nD τ sig) → Buf (Elt Ideal) ℓ) (c : Dev nD)

/-- The arguments. -/
abbrev A : S4352x1024.Idx → EReal := m ((c : Thread nD τ).loc main_arg0)
abbrev B : S2x1x1024.Idx → EReal := m ((c : Thread nD τ).loc main_arg1)
abbrev C : S2x1x1024.Idx → EReal := m ((c : Thread nD τ).loc main_arg2)
abbrev G : S1x1024.Idx → EReal := m ((c : Thread nD τ).loc main_arg3)

theorem idx : ∀ t : Fin cfg0.N, win0_0.index t = ![t.val, 0] ∧ win0_1.index t = ![min t.val 1, 0, 0] ∧ win0_2.index t = ![min t.val 1, 0, 0] ∧ win0_3.index t = ![0, 0] ∧ win0_4.index t = ![t.val, 0] := by
  decide +kernel

theorem tlt (t : Fin cfg0.N) : t.val < 17 := lt_of_lt_of_eq t.isLt N_0

theorem iblk0 (t : Fin cfg0.N) (r : Fin 256) : brow (iblk m c 0 t) r = mrow (A m c) (256 * t.val + r.val) := by
  have := tlt t
  funext d
  refine Eq.trans ?_ (nat2_pos _ (show 256 * t.val + r.val < 4352 by omega) d.isLt).symm
  show iblk m c 0 t (ix2 r d) = _
  blk_ext [iblk, Gen.V, idx t]

theorem iblk1 (t : Fin cfg0.N) (r : Fin 256) : grow (iblk m c 1 t) = srow (B m c) (part (256 * t.val + r.val)) := by
  rw [part_block r.isLt]
  funext d
  refine Eq.trans ?_ (nat3_pos _ (show min t.val 1 < 2 by omega) (show 0 < 1 by omega) d.isLt).symm
  show iblk m c 1 t (ix3 0 0 d) = _
  blk_ext [iblk, Gen.V, idx t]

theorem iblk2 (t : Fin cfg0.N) (r : Fin 256) : grow (iblk m c 2 t) = srow (C m c) (part (256 * t.val + r.val)) := by
  rw [part_block r.isLt]
  funext d
  refine Eq.trans ?_ (nat3_pos _ (show min t.val 1 < 2 by omega) (show 0 < 1 by omega) d.isLt).symm
  show iblk m c 2 t (ix3 0 0 d) = _
  blk_ext [iblk, Gen.V, idx t]

theorem iblk3 (t : Fin cfg0.N) : brow (iblk m c 3 t) 0 = mrow (G m c) 0 := by
  funext d
  refine Eq.trans ?_ (nat2_pos _ (show 0 < 1 by omega) d.isLt).symm
  show iblk m c 3 t (ix2 0 d) = _
  blk_ext [iblk, Gen.V, idx t]

/-- Row `n` of the result. -/
def out (x0 : Shape.Idx ⟨2, ![4352, 1024]⟩ → EReal) (x1 x2 : Shape.Idx ⟨3, ![2, 1, 1024]⟩ → EReal)
    (x3 : Shape.Idx ⟨2, ![1, 1024]⟩ → EReal) (n : ℕ) : Row :=
  modul (mrow x0 n) (mrow x3 0) (srow x2 (part n)) (srow x1 (part n))

theorem arr4 : (dats m 0 c).arrAt 4 cfg0.N = fun i : S4352x1024.Idx => out (A m c) (B m c) (C m c) (G m c) (i 0).val (i 1) := by
  refine (dats m 0 c).arrAt_eq_of_covers 4 _ (by decide +kernel) fun t hf y => ?_
  have ht := tlt t
  rw [after0_4]
  unfold out0_4
  rw [View.canon_unit_zero hz]
  simp only [View.ld_unit_zero (S := S256x1024) hz, View.ld_unit_zero (S := S1x1024) hz, View.ld_unit_zero (S := S1x1x1024) hz3]
  refine (pay1_apply _ _ _ _ y).trans
    ((modul_congr (iblk0 m c t (y 0)) (iblk3 m c t) (iblk2 m c t (y 0)) (iblk1 m c t (y 0)) (y 1)).trans ?_)
  refine at2 (n := 256 * t.val + (y 0).val) (d := y 1) (out (A m c) (B m c) (C m c) (G m c)) ?_ ?_ <;> blk_simp [idx t] <;> omega

end

section
variable (x0 : Cert.Reference35Ideal.S4352x1024.Idx → EReal) (x1 x2 : Cert.Reference35Ideal.S2x1x1024.Idx → EReal)
  (x3 : Cert.Reference35Ideal.S1x1024.Idx → EReal)

open Cert.Reference35Ideal.Read

theorem baseA (i : Cert.Reference35Ideal.S256x1024.Idx) : (val_main_v0 (F := Ideal) x0 i : EReal) = mrow x0 (i 0).val (i 1) := by
  rw [val_main_v0_apply]
  exact mrow_idx x0 _

theorem rmsA (i : Cert.Reference35Ideal.S256x1024.Idx) : (val_main_v12 (F := Ideal) x0 x3 i : EReal) = rms (mrow x0 (i 0).val) (mrow x3 0) (i 1) := by
  rw [val_main_v12_apply, val_main_v11_apply, val_main_v10_apply, val_main_v9_apply, val_main_v8_apply, val_main_v7_apply, val_main_v6_apply, val_main_cst_1_apply, val_main_v5_apply, val_main_v4_apply, val_main_cst_0_apply, val_main_v3_apply, val_main_v2_apply, val_main_cst_apply]
  simp only [val_main_v1_apply]
  exact rms_eq (baseA x0 i) (fun k => baseA x0 _) (mrow_idx x3 _)

theorem halfA (i : Cert.Reference35Ideal.S256x1024.Idx) : (val_main_v22 (F := Ideal) x0 x1 x2 x3 i : EReal)
    = modul (mrow x0 (i 0).val) (mrow x3 0) (srow x2 0) (srow x1 0) (i 1) := by
  rw [val_main_v22_apply, val_main_v21_apply, val_main_v20_apply, val_main_v19_apply, val_main_v18_apply, val_main_v17_apply, val_main_cst_2_apply, val_main_v16_apply, val_main_v15_apply, val_main_v14_apply, val_main_v13_apply]
  exact modul_eq (rmsA x0 x3 i) (srow_idx x2 _ _ _ rfl rfl rfl) (srow_idx x1 _ _ _ rfl rfl rfl)

theorem baseB (i : Cert.Reference35Ideal.S4096x1024.Idx) : (val_main_v23 (F := Ideal) x0 i : EReal) = mrow x0 (256 + (i 0).val) (i 1) := by
  rw [val_main_v23_apply]
  exact mrow_idx x0 _

theorem rmsB (i : Cert.Reference35Ideal.S4096x1024.Idx) : (val_main_v35 (F := Ideal) x0 x3 i : EReal) = rms (mrow x0 (256 + (i 0).val)) (mrow x3 0) (i 1) := by
  rw [val_main_v35_apply, val_main_v34_apply, val_main_v33_apply, val_main_v32_apply, val_main_v31_apply, val_main_v30_apply, val_main_v29_apply, val_main_cst_5_apply, val_main_v28_apply, val_main_v27_apply, val_main_cst_4_apply, val_main_v26_apply, val_main_v25_apply, val_main_cst_3_apply]
  simp only [val_main_v24_apply]
  exact rms_eq (baseB x0 i) (fun k => baseB x0 _) (mrow_idx x3 _)

theorem halfB (i : Cert.Reference35Ideal.S4096x1024.Idx) : (val_main_v45 (F := Ideal) x0 x1 x2 x3 i : EReal)
    = modul (mrow x0 (256 + (i 0).val)) (mrow x3 0) (srow x2 1) (srow x1 1) (i 1) := by
  rw [val_main_v45_apply, val_main_v44_apply, val_main_v43_apply, val_main_v42_apply, val_main_v41_apply, val_main_v40_apply, val_main_cst_6_apply, val_main_v39_apply, val_main_v38_apply, val_main_v37_apply, val_main_v36_apply]
  exact modul_eq (rmsB x0 x3 i) (srow_idx x2 _ _ _ rfl rfl rfl) (srow_idx x1 _ _ _ rfl rfl rfl)

theorem ref : (val_main_v47 (F := Ideal) x0 x1 x2 x3 : S4352x1024.Idx → EReal) = fun i => out x0 x1 x2 x3 (i 0).val (i 1) := by
  funext i
  rw [val_main_v47_apply]
  unfold val_main_v46
  refine congrFun (joined (out x0 x1 x2 x3) _ _ _ (fun i => ?_) (fun i => ?_)) i
  · rw [halfA]
    unfold out
    rw [part_left (i 0).isLt]
  · rw [halfB]
    unfold out
    rw [part_right]

end

theorem frame_reference : Cert.quiescent_Reference35Ideal := fun m ρ _ =>
  (θ_run Cert.Reference35Ideal.defs _ _).mono
    (fun r h => ⟨fun c => (h c).2, Idealize.ShloMosaic.sem_eq_zero_of_no_sems (by decide) r.2⟩)
    (Cert.Reference35Ideal.Value.run (F := Ideal) m ρ)

/-- The kernel's modulated rows are the reference's. -/
theorem algebraic : Cert.algebraic_Kernel35Ideal_Reference35Ideal := by
  intro m g m' g' _ hagree
  refine ⟨fun c => (dats m 0 c).arrAt 4 cfg0.N, Cert.Kernel35Ideal.Value.run_blocks m g, ?_⟩
  refine (θ_run Cert.Reference35Ideal.defs _ _).mono (fun r h c => ?_) (Cert.Reference35Ideal.Value.run (F := Ideal) m' g')
  obtain ⟨e0, e1, e2, e3⟩ := hagree c
  refine ⟨(h c).1.trans ?_, (h c).2⟩
  · rw [Cert.Reference35Ideal.Read.val_main_v47_eq, e0, e1, e2, e3]
    exact (ref _ _ _ _).trans (arr4 m c).symm

end Cert.Kernel35Ideal.Row

end
-- ==== Proof.Row.Post.lean ====
/- The gated residual after the MLP of a layer, a block of 256 rows at a time. -/
module

public import proofs.«01_k».proof.Proof.Mm.Sum
public import proofs.«01_k».proof.Defs
public import proofs.«01_k».proof.Proof.Gen.Kernel36Ideal.Value
public import proofs.«01_k».proof.Proof.Gen.Reference36Ideal.Read
public import proofs.«01_k».proof.Proof.Row.Norm
public import Idealize.ShloMosaic.Lib.Quiescent
public import Idealize.ShloMosaic.Lib.Pipeline.ReadBack
public import Idealize.ShloMosaic.Lib.Tactic

@[expose] public section

set_option maxRecDepth 16384

noncomputable section

namespace Cert.Kernel36Ideal.Row

open Cert.Kernel36Ideal Cert.Kernel36Ideal.Gen Idealize.ShloMosaic Idealize.ShloMosaic.TcCoe Idealize.SL.Sem
open Cert.Mm Cert.Norm

theorem hz : (![0, 0] : Fin 2 → Nat) = fun _ => 0 := funext fun a => by fin_cases a <;> rfl
theorem hz3 : (![0, 0, 0] : Fin 3 → Nat) = fun _ => 0 := funext fun a => by fin_cases a <;> rfl

/-- Row `r` of a block, and a segment's row. -/
abbrev brow {R : ℕ} (x : Shape.Idx ⟨2, ![R, 1024]⟩ → EReal) (r : Fin R) : Row := fun d => x (ix2 r d)
abbrev grow (x : Shape.Idx ⟨3, ![1, 1, 1024]⟩ → EReal) : Row := fun d => x (ix3 0 0 d)

theorem pay1_apply (x0 : Vec Ideal S256x1024 .f32) (x1 : Vec Ideal S256x1024 .bf16) (x2 : Vec Ideal S1x1x1024 .f32)
    (x3 : Vec Ideal S1x1024 .f32) (y : S256x1024.Idx) :
    (k0_pay1 x0 x1 x2 x3 y : EReal) = resid (brow x0 (y 0)) (brow x1 (y 0)) (grow x2) (brow x3 0) (y 1) := by
  unfold resid rms
  pointwise [k0_pay1, width, eps, brow, grow]

section
variable (m : (ℓ : Loc nD τ sig) → Buf (Elt Ideal) ℓ) (c : Dev nD)

/-- The arguments. -/
abbrev A : S4352x1024.Idx → EReal := m ((c : Thread nD τ).loc main_arg0)
abbrev B : S4352x1024.Idx → EReal := m ((c : Thread nD τ).loc main_arg1)
abbrev E : S2x1x1024.Idx → EReal := m ((c : Thread nD τ).loc main_arg2)
abbrev G : S1x1024.Idx → EReal := m ((c : Thread nD τ).loc main_arg3)

theorem idx : ∀ t : Fin cfg0.N, win0_0.index t = ![t.val, 0] ∧ win0_1.index t = ![t.val, 0] ∧ win0_2.index t = ![min t.val 1, 0, 0] ∧ win0_3.index t = ![0, 0] ∧ win0_4.index t = ![t.val, 0] := by
  decide +kernel

theorem tlt (t : Fin cfg0.N) : t.val < 17 := lt_of_lt_of_eq t.isLt N_0

theorem iblk0 (t : Fin cfg0.N) (r : Fin 256) : brow (iblk m c 0 t) r = mrow (A m c) (256 * t.val + r.val) := by
  have := tlt t
  funext d
  refine Eq.trans ?_ (nat2_pos _ (show 256 * t.val + r.val < 4352 by omega) d.isLt).symm
  show iblk m c 0 t (ix2 r d) = _
  blk_ext [iblk, Gen.V, idx t]

theorem iblk1 (t : Fin cfg0.N) (r : Fin 256) : brow (iblk m c 1 t) r = mrow (B m c) (256 * t.val + r.val) := by
  have := tlt t
  funext d
  refine Eq.trans ?_ (nat2_pos _ (show 256 * t.val + r.val < 4352 by omega) d.isLt).symm
  show iblk m c 1 t (ix2 r d) = _
  blk_ext [iblk, Gen.V, idx t]

theorem iblk2 (t : Fin cfg0.N) (r : Fin 256) : grow (iblk m c 2 t) = srow (E m c) (part (256 * t.val + r.val)) := by
  rw [part_block r.isLt]
  funext d
  refine Eq.trans ?_ (nat3_pos _ (show min t.val 1 < 2 by omega) (show 0 < 1 by omega) d.isLt).symm
  show iblk m c 2 t (ix3 0 0 d) = _
  blk_ext [iblk, Gen.V, idx t]

theorem iblk3 (t : Fin cfg0.N) : brow (iblk m c 3 t) 0 = mrow (G m c) 0 := by
  funext d
  refine Eq.trans ?_ (nat2_pos _ (show 0 < 1 by omega) d.isLt).symm
  show iblk m c 3 t (ix2 0 d) = _
  blk_ext [iblk, Gen.V, idx t]

/-- Row `n` of the result. -/
def out (x0 x1 : Shape.Idx ⟨2, ![4352, 1024]⟩ → EReal) (x2 : Shape.Idx ⟨3, ![2, 1, 1024]⟩ → EReal)
    (x3 : Shape.Idx ⟨2, ![1, 1024]⟩ → EReal) (n : ℕ) : Row :=
  resid (mrow x0 n) (mrow x1 n) (srow x2 (part n)) (mrow x3 0)

theorem arr4 : (dats m 0 c).arrAt 4 cfg0.N = fun i : S4352x1024.Idx => out (A m c) (B m c) (E m c) (G m c) (i 0).val (i 1) := by
  refine (dats m 0 c).arrAt_eq_of_covers 4 _ (by decide +kernel) fun t hf y => ?_
  have ht := tlt t
  rw [after0_4]
  unfold out0_4
  rw [View.canon_unit_zero hz]
  simp only [View.ld_unit_zero (S := S256x1024) hz, View.ld_unit_zero (S := S1x1024) hz, View.ld_unit_zero (S := S1x1x1024) hz3]
  refine (pay1_apply _ _ _ _ y).trans
    ((resid_congr (iblk0 m c t (y 0)) (iblk1 m c t (y 0)) (iblk2 m c t (y 0)) (iblk3 m c t) (y 1)).trans ?_)
  refine at2 (n := 256 * t.val + (y 0).val) (d := y 1) (out (A m c) (B m c) (E m c) (G m c)) ?_ ?_ <;> blk_simp [idx t] <;> omega

end

section
variable (x0 x1 : Cert.Reference36Ideal.S4352x1024.Idx → EReal) (x2 : Cert.Reference36Ideal.S2x1x1024.Idx → EReal)
  (x3 : Cert.Reference36Ideal.S1x1024.Idx → EReal)

open Cert.Reference36Ideal.Read

theorem baseA (i : Cert.Reference36Ideal.S256x1024.Idx) : (val_main_v4 (F := Ideal) x1 i : EReal) = mrow x1 (i 0).val (i 1) := by
  rw [val_main_v4_apply, val_main_v0_apply]
  exact mrow_idx x1 _

theorem rmsA (i : Cert.Reference36Ideal.S256x1024.Idx) : (val_main_v16 (F := Ideal) x1 x3 i : EReal) = rms (mrow x1 (i 0).val) (mrow x3 0) (i 1) := by
  rw [val_main_v16_apply, val_main_v15_apply, val_main_v14_apply, val_main_v13_apply, val_main_v12_apply, val_main_v11_apply, val_main_v10_apply, val_main_cst_1_apply, val_main_v9_apply, val_main_v8_apply, val_main_cst_0_apply, val_main_v7_apply, val_main_v6_apply, val_main_cst_apply]
  simp only [val_main_v5_apply]
  exact rms_eq (baseA x1 i) (fun k => baseA x1 _) (mrow_idx x3 _)

theorem resA (i : Cert.Reference36Ideal.S256x1024.Idx) : (val_main_v19 (F := Ideal) x0 x1 x2 x3 i : EReal)
    = resid (mrow x0 (i 0).val) (mrow x1 (i 0).val) (srow x2 0) (mrow x3 0) (i 1) := by
  rw [val_main_v19_apply, val_main_v18_apply, val_main_v17_apply, val_main_v1_apply, val_main_v3_apply, val_main_v2_apply]
  exact resid_eq (mrow_idx x0 _) (srow_idx x2 _ _ _ rfl rfl rfl) (rmsA x1 x3 i)

theorem baseB (i : Cert.Reference36Ideal.S4096x1024.Idx) : (val_main_v23 (F := Ideal) x1 i : EReal) = mrow x1 (256 + (i 0).val) (i 1) := by
  rw [val_main_v23_apply, val_main_v0_apply]
  exact mrow_idx x1 _

theorem rmsB (i : Cert.Reference36Ideal.S4096x1024.Idx) : (val_main_v35 (F := Ideal) x1 x3 i : EReal) = rms (mrow x1 (256 + (i 0).val)) (mrow x3 0) (i 1) := by
  rw [val_main_v35_apply, val_main_v34_apply, val_main_v33_apply, val_main_v32_apply, val_main_v31_apply, val_main_v30_apply, val_main_v29_apply, val_main_cst_4_apply, val_main_v28_apply, val_main_v27_apply, val_main_cst_3_apply, val_main_v26_apply, val_main_v25_apply, val_main_cst_2_apply]
  simp only [val_main_v24_apply]
  exact rms_eq (baseB x1 i) (fun k => baseB x1 _) (mrow_idx x3 _)

theorem resB (i : Cert.Reference36Ideal.S4096x1024.Idx) : (val_main_v38 (F := Ideal) x0 x1 x2 x3 i : EReal)
    = resid (mrow x0 (256 + (i 0).val)) (mrow x1 (256 + (i 0).val)) (srow x2 1) (mrow x3 0) (i 1) := by
  rw [val_main_v38_apply, val_main_v37_apply, val_main_v36_apply, val_main_v20_apply, val_main_v22_apply, val_main_v21_apply]
  exact resid_eq (mrow_idx x0 _) (srow_idx x2 _ _ _ rfl rfl rfl) (rmsB x1 x3 i)

theorem ref : (val_main_v39 (F := Ideal) x0 x1 x2 x3 : S4352x1024.Idx → EReal) = fun i => out x0 x1 x2 x3 (i 0).val (i 1) := by
  unfold val_main_v39
  refine joined (out x0 x1 x2 x3) _ _ _ (fun i => ?_) (fun i => ?_)
  · rw [resA]
    unfold out
    rw [part_left (i 0).isLt]
  · rw [resB]
    unfold out
    rw [part_right]

end

theorem frame_reference : Cert.quiescent_Reference36Ideal := fun m ρ _ =>
  (θ_run Cert.Reference36Ideal.defs _ _).mono
    (fun r h => ⟨fun c => (h c).2, Idealize.ShloMosaic.sem_eq_zero_of_no_sems (by decide) r.2⟩)
    (Cert.Reference36Ideal.Value.run (F := Ideal) m ρ)

/-- The kernel's residual rows are the reference's. -/
theorem algebraic : Cert.algebraic_Kernel36Ideal_Reference36Ideal := by
  intro m g m' g' _ hagree
  refine ⟨fun c => (dats m 0 c).arrAt 4 cfg0.N, Cert.Kernel36Ideal.Value.run_blocks m g, ?_⟩
  refine (θ_run Cert.Reference36Ideal.defs _ _).mono (fun r h c => ?_) (Cert.Reference36Ideal.Value.run (F := Ideal) m' g')
  obtain ⟨e0, e1, e2, e3⟩ := hagree c
  refine ⟨(h c).1.trans ?_, (h c).2⟩
  · rw [Cert.Reference36Ideal.Read.val_main_v39_eq, e0, e1, e2, e3]
    exact (ref _ _ _ _).trans (arr4 m c).symm

end Cert.Kernel36Ideal.Row

end
-- ==== Proof.Row.Mid.lean ====
/- The gated residual after the mixing half of a layer, and the norm and the modulation in front of its MLP. -/
module

public import proofs.«01_k».proof.Proof.Mm.Sum
public import proofs.«01_k».proof.Defs
public import proofs.«01_k».proof.Proof.Gen.Kernel37Ideal.Value
public import proofs.«01_k».proof.Proof.Gen.Reference37Ideal.Read
public import proofs.«01_k».proof.Proof.Row.Norm
public import Idealize.ShloMosaic.Lib.Quiescent
public import Idealize.ShloMosaic.Lib.Pipeline.ReadBack
public import Idealize.ShloMosaic.Lib.Tactic

@[expose] public section

set_option maxRecDepth 16384

noncomputable section

namespace Cert.Kernel37Ideal.Row

open Cert.Kernel37Ideal Cert.Kernel37Ideal.Gen Idealize.ShloMosaic Idealize.ShloMosaic.TcCoe Idealize.SL.Sem
open Cert.Mm Cert.Norm

theorem hz : (![0, 0] : Fin 2 → Nat) = fun _ => 0 := funext fun a => by fin_cases a <;> rfl
theorem hz3 : (![0, 0, 0] : Fin 3 → Nat) = fun _ => 0 := funext fun a => by fin_cases a <;> rfl

/-- Row `r` of a block, and a segment's row. -/
abbrev brow {R : ℕ} (x : Shape.Idx ⟨2, ![R, 1024]⟩ → EReal) (r : Fin R) : Row := fun d => x (ix2 r d)
abbrev grow (x : Shape.Idx ⟨3, ![1, 1, 1024]⟩ → EReal) : Row := fun d => x (ix3 0 0 d)

theorem pay4_apply (x0 : Vec Ideal S256x1024 .f32) (x1 : Vec Ideal S256x1024 .bf16) (x2 : Vec Ideal S1x1x1024 .f32)
    (x3 : Vec Ideal S1x1024 .f32) (y : S256x1024.Idx) :
    (k0_pay4 x0 x1 x2 x3 y : EReal) = resid (brow x0 (y 0)) (brow x1 (y 0)) (grow x2) (brow x3 0) (y 1) := by
  unfold resid rms
  pointwise [k0_pay4, width, eps, brow, grow]

theorem pay1_apply (x0 : Vec Ideal S256x1024 .f32) (x1 : Vec Ideal S256x1024 .bf16) (x2 x3 x4 : Vec Ideal S1x1x1024 .f32)
    (x5 x6 : Vec Ideal S1x1024 .f32) (y : S256x1024.Idx) :
    (k0_pay1 (k0_pay2 x3) (k0_pay3 x4) x6 (k0_pay5 x0 x1 x2 x5) y : EReal)
      = modul (resid (brow x0 (y 0)) (brow x1 (y 0)) (grow x2) (brow x5 0)) (brow x6 0) (grow x4) (grow x3) (y 1) := by
  unfold modul rms
  pointwise [k0_pay1, k0_pay2, k0_pay3, k0_pay5, pay4_apply, width, eps, one, brow, grow]

section
variable (m : (ℓ : Loc nD τ sig) → Buf (Elt Ideal) ℓ) (c : Dev nD)

/-- The arguments. -/
abbrev A : S4352x1024.Idx → EReal := m ((c : Thread nD τ).loc main_arg0)
abbrev B : S4352x1024.Idx → EReal := m ((c : Thread nD τ).loc main_arg1)
abbrev E : S2x1x1024.Idx → EReal := m ((c : Thread nD τ).loc main_arg2)
abbrev H : S2x1x1024.Idx → EReal := m ((c : Thread nD τ).loc main_arg3)
abbrev C : S2x1x1024.Idx → EReal := m ((c : Thread nD τ).loc main_arg4)
abbrev G : S1x1024.Idx → EReal := m ((c : Thread nD τ).loc main_arg5)
abbrev G2 : S1x1024.Idx → EReal := m ((c : Thread nD τ).loc main_arg6)

theorem idx : ∀ t : Fin cfg0.N, win0_0.index t = ![t.val, 0] ∧ win0_1.index t = ![t.val, 0] ∧ win0_2.index t = ![min t.val 1, 0, 0] ∧ win0_3.index t = ![min t.val 1, 0, 0] ∧ win0_4.index t = ![min t.val 1, 0, 0] ∧ win0_5.index t = ![0, 0] ∧ win0_6.index t = ![0, 0] ∧ win0_7.index t = ![t.val, 0] ∧ win0_8.index t = ![t.val, 0] := by
  decide +kernel

theorem tlt (t : Fin cfg0.N) : t.val < 17 := lt_of_lt_of_eq t.isLt N_0

theorem iblk0 (t : Fin cfg0.N) (r : Fin 256) : brow (iblk m c 0 t) r = mrow (A m c) (256 * t.val + r.val) := by
  have := tlt t
  funext d
  refine Eq.trans ?_ (nat2_pos _ (show 256 * t.val + r.val < 4352 by omega) d.isLt).symm
  show iblk m c 0 t (ix2 r d) = _
  blk_ext [iblk, Gen.V, idx t]

theorem iblk1 (t : Fin cfg0.N) (r : Fin 256) : brow (iblk m c 1 t) r = mrow (B m c) (256 * t.val + r.val) := by
  have := tlt t
  funext d
  refine Eq.trans ?_ (nat2_pos _ (show 256 * t.val + r.val < 4352 by omega) d.isLt).symm
  show iblk m c 1 t (ix2 r d) = _
  blk_ext [iblk, Gen.V, idx t]

theorem iblk2 (t : Fin cfg0.N) (r : Fin 256) : grow (iblk m c 2 t) = srow (E m c) (part (256 * t.val + r.val)) := by
  rw [part_block r.isLt]
  funext d
  refine Eq.trans ?_ (nat3_pos _ (show min t.val 1 < 2 by omega) (show 0 < 1 by omega) d.isLt).symm
  show iblk m c 2 t (ix3 0 0 d) = _
  blk_ext [iblk, Gen.V, idx t]

theorem iblk3 (t : Fin cfg0.N) (r : Fin 256) : grow (iblk m c 3 t) = srow (H m c) (part (256 * t.val + r.val)) := by
  rw [part_block r.isLt]
  funext d
  refine Eq.trans ?_ (nat3_pos _ (show min t.val 1 < 2 by omega) (show 0 < 1 by omega) d.isLt).symm
  show iblk m c 3 t (ix3 0 0 d) = _
  blk_ext [iblk, Gen.V, idx t]

theorem iblk4 (t : Fin cfg0.N) (r : Fin 256) : grow (iblk m c 4 t) = srow (C m c) (part (256 * t.val + r.val)) := by
  rw [part_block r.isLt]
  funext d
  refine Eq.trans ?_ (nat3_pos _ (show min t.val 1 < 2 by omega) (show 0 < 1 by omega) d.isLt).symm
  show iblk m c 4 t (ix3 0 0 d) = _
  blk_ext [iblk, Gen.V, idx t]

theorem iblk5 (t : Fin cfg0.N) : brow (iblk m c 5 t) 0 = mrow (G m c) 0 := by
  funext d
  refine Eq.trans ?_ (nat2_pos _ (show 0 < 1 by omega) d.isLt).symm
  show iblk m c 5 t (ix2 0 d) = _
  blk_ext [iblk, Gen.V, idx t]

theorem iblk6 (t : Fin cfg0.N) : brow (iblk m c 6 t) 0 = mrow (G2 m c) 0 := by
  funext d
  refine Eq.trans ?_ (nat2_pos _ (show 0 < 1 by omega) d.isLt).symm
  show iblk m c 6 t (ix2 0 d) = _
  blk_ext [iblk, Gen.V, idx t]

/-- Row `n` of the residual, and of its norm modulated. -/
def mid (x0 x1 : Shape.Idx ⟨2, ![4352, 1024]⟩ → EReal) (x2 : Shape.Idx ⟨3, ![2, 1, 1024]⟩ → EReal)
    (x5 : Shape.Idx ⟨2, ![1, 1024]⟩ → EReal) (n : ℕ) : Row :=
  resid (mrow x0 n) (mrow x1 n) (srow x2 (part n)) (mrow x5 0)
def out (x0 x1 : Shape.Idx ⟨2, ![4352, 1024]⟩ → EReal) (x2 x3 x4 : Shape.Idx ⟨3, ![2, 1, 1024]⟩ → EReal)
    (x5 x6 : Shape.Idx ⟨2, ![1, 1024]⟩ → EReal) (n : ℕ) : Row :=
  modul (mid x0 x1 x2 x5 n) (mrow x6 0) (srow x4 (part n)) (srow x3 (part n))

theorem arr7 : (dats m 0 c).arrAt 7 cfg0.N = fun i : S4352x1024.Idx => mid (A m c) (B m c) (E m c) (G m c) (i 0).val (i 1) := by
  refine (dats m 0 c).arrAt_eq_of_covers 7 _ (by decide +kernel) fun t hf y => ?_
  have ht := tlt t
  rw [after0_7]
  unfold out0_7
  rw [View.canon_unit_zero hz]
  simp only [View.ld_unit_zero (S := S256x1024) hz, View.ld_unit_zero (S := S1x1024) hz, View.ld_unit_zero (S := S1x1x1024) hz3]
  refine (pay4_apply _ _ _ _ y).trans
    ((resid_congr (iblk0 m c t (y 0)) (iblk1 m c t (y 0)) (iblk2 m c t (y 0)) (iblk5 m c t) (y 1)).trans ?_)
  refine at2 (n := 256 * t.val + (y 0).val) (d := y 1) (mid (A m c) (B m c) (E m c) (G m c)) ?_ ?_ <;> blk_simp [idx t] <;> omega

theorem arr8 : (dats m 0 c).arrAt 8 cfg0.N = fun i : S4352x1024.Idx =>
    out (A m c) (B m c) (E m c) (H m c) (C m c) (G m c) (G2 m c) (i 0).val (i 1) := by
  refine (dats m 0 c).arrAt_eq_of_covers 8 _ (by decide +kernel) fun t hf y => ?_
  have ht := tlt t
  rw [after0_8]
  unfold out0_8
  rw [View.canon_unit_zero hz]
  simp only [View.ld_unit_zero (S := S256x1024) hz, View.ld_unit_zero (S := S1x1024) hz, View.ld_unit_zero (S := S1x1x1024) hz3]
  refine (pay1_apply _ _ _ _ _ _ _ y).trans
    ((modul_congr (funext fun d => resid_congr (iblk0 m c t (y 0)) (iblk1 m c t (y 0)) (iblk2 m c t (y 0)) (iblk5 m c t) d)
      (iblk6 m c t) (iblk4 m c t (y 0)) (iblk3 m c t (y 0)) (y 1)).trans ?_)
  refine at2 (n := 256 * t.val + (y 0).val) (d := y 1)
    (out (A m c) (B m c) (E m c) (H m c) (C m c) (G m c) (G2 m c)) ?_ ?_ <;> blk_simp [idx t] <;> omega

end

section
variable (x0 x1 : Cert.Reference37Ideal.S4352x1024.Idx → EReal) (x2 x3 x4 : Cert.Reference37Ideal.S2x1x1024.Idx → EReal)
  (x5 x6 : Cert.Reference37Ideal.S1x1024.Idx → EReal)

open Cert.Reference37Ideal.Read

theorem baseA (i : Cert.Reference37Ideal.S256x1024.Idx) : (val_main_v4 (F := Ideal) x1 i : EReal) = mrow x1 (i 0).val (i 1) := by
  rw [val_main_v4_apply, val_main_v0_apply]
  exact mrow_idx x1 _

theorem rmsA (i : Cert.Reference37Ideal.S256x1024.Idx) : (val_main_v16 (F := Ideal) x1 x5 i : EReal) = rms (mrow x1 (i 0).val) (mrow x5 0) (i 1) := by
  rw [val_main_v16_apply, val_main_v15_apply, val_main_v14_apply, val_main_v13_apply, val_main_v12_apply, val_main_v11_apply, val_main_v10_apply, val_main_cst_1_apply, val_main_v9_apply, val_main_v8_apply, val_main_cst_0_apply, val_main_v7_apply, val_main_v6_apply, val_main_cst_apply]
  simp only [val_main_v5_apply]
  exact rms_eq (baseA x1 i) (fun k => baseA x1 _) (mrow_idx x5 _)

theorem resA (i : Cert.Reference37Ideal.S256x1024.Idx) : (val_main_v19 (F := Ideal) x0 x1 x2 x5 i : EReal)
    = resid (mrow x0 (i 0).val) (mrow x1 (i 0).val) (srow x2 0) (mrow x5 0) (i 1) := by
  rw [val_main_v19_apply, val_main_v18_apply, val_main_v17_apply, val_main_v1_apply, val_main_v3_apply, val_main_v2_apply]
  exact resid_eq (mrow_idx x0 _) (srow_idx x2 _ _ _ rfl rfl rfl) (rmsA x1 x5 i)

theorem baseB (i : Cert.Reference37Ideal.S4096x1024.Idx) : (val_main_v23 (F := Ideal) x1 i : EReal) = mrow x1 (256 + (i 0).val) (i 1) := by
  rw [val_main_v23_apply, val_main_v0_apply]
  exact mrow_idx x1 _

theorem rmsB (i : Cert.Reference37Ideal.S4096x1024.Idx) : (val_main_v35 (F := Ideal) x1 x5 i : EReal) = rms (mrow x1 (256 + (i 0).val)) (mrow x5 0) (i 1) := by
  rw [val_main_v35_apply, val_main_v34_apply, val_main_v33_apply, val_main_v32_apply, val_main_v31_apply, val_main_v30_apply, val_main_v29_apply, val_main_cst_4_apply, val_main_v28_apply, val_main_v27_apply, val_main_cst_3_apply, val_main_v26_apply, val_main_v25_apply, val_main_cst_2_apply]
  simp only [val_main_v24_apply]
  exact rms_eq (baseB x1 i) (fun k => baseB x1 _) (mrow_idx x5 _)

theorem resB (i : Cert.Reference37Ideal.S4096x1024.Idx) : (val_main_v38 (F := Ideal) x0 x1 x2 x5 i : EReal)
    = resid (mrow x0 (256 + (i 0).val)) (mrow x1 (256 + (i 0).val)) (srow x2 1) (mrow x5 0) (i 1) := by
  rw [val_main_v38_apply, val_main_v37_apply, val_main_v36_apply, val_main_v20_apply, val_main_v22_apply, val_main_v21_apply]
  exact resid_eq (mrow_idx x0 _) (srow_idx x2 _ _ _ rfl rfl rfl) (rmsB x1 x5 i)

theorem rms2A (i : Cert.Reference37Ideal.S256x1024.Idx) : (val_main_v50 (F := Ideal) x0 x1 x2 x5 x6 i : EReal) = rms (resid (mrow x0 (i 0).val) (mrow x1 (i 0).val) (srow x2 0) (mrow x5 0)) (mrow x6 0) (i 1) := by
  rw [val_main_v50_apply, val_main_v49_apply, val_main_v48_apply, val_main_v47_apply, val_main_v46_apply, val_main_v45_apply, val_main_v44_apply, val_main_cst_7_apply, val_main_v43_apply, val_main_v42_apply, val_main_cst_6_apply, val_main_v41_apply, val_main_v40_apply, val_main_cst_5_apply]
  simp only [val_main_v39_apply]
  exact rms_eq (resA x0 x1 x2 x5 i) (fun k => resA x0 x1 x2 x5 _) (mrow_idx x6 _)

theorem halfA (i : Cert.Reference37Ideal.S256x1024.Idx) : (val_main_v60 (F := Ideal) x0 x1 x2 x3 x4 x5 x6 i : EReal)
    = modul (resid (mrow x0 (i 0).val) (mrow x1 (i 0).val) (srow x2 0) (mrow x5 0)) (mrow x6 0) (srow x4 0) (srow x3 0) (i 1) := by
  rw [val_main_v60_apply, val_main_v59_apply, val_main_v58_apply, val_main_v57_apply, val_main_v56_apply, val_main_v55_apply, val_main_cst_8_apply, val_main_v54_apply, val_main_v53_apply, val_main_v52_apply, val_main_v51_apply]
  exact modul_eq (rms2A x0 x1 x2 x5 x6 i) (srow_idx x4 _ _ _ rfl rfl rfl) (srow_idx x3 _ _ _ rfl rfl rfl)

theorem rms2B (i : Cert.Reference37Ideal.S4096x1024.Idx) : (val_main_v72 (F := Ideal) x0 x1 x2 x5 x6 i : EReal) = rms (resid (mrow x0 (256 + (i 0).val)) (mrow x1 (256 + (i 0).val)) (srow x2 1) (mrow x5 0)) (mrow x6 0) (i 1) := by
  rw [val_main_v72_apply, val_main_v71_apply, val_main_v70_apply, val_main_v69_apply, val_main_v68_apply, val_main_v67_apply, val_main_v66_apply, val_main_cst_11_apply, val_main_v65_apply, val_main_v64_apply, val_main_cst_10_apply, val_main_v63_apply, val_main_v62_apply, val_main_cst_9_apply]
  simp only [val_main_v61_apply]
  exact rms_eq (resB x0 x1 x2 x5 i) (fun k => resB x0 x1 x2 x5 _) (mrow_idx x6 _)

theorem halfB (i : Cert.Reference37Ideal.S4096x1024.Idx) : (val_main_v82 (F := Ideal) x0 x1 x2 x3 x4 x5 x6 i : EReal)
    = modul (resid (mrow x0 (256 + (i 0).val)) (mrow x1 (256 + (i 0).val)) (srow x2 1) (mrow x5 0)) (mrow x6 0) (srow x4 1) (srow x3 1) (i 1) := by
  rw [val_main_v82_apply, val_main_v81_apply, val_main_v80_apply, val_main_v79_apply, val_main_v78_apply, val_main_v77_apply, val_main_cst_12_apply, val_main_v76_apply, val_main_v75_apply, val_main_v74_apply, val_main_v73_apply]
  exact modul_eq (rms2B x0 x1 x2 x5 x6 i) (srow_idx x4 _ _ _ rfl rfl rfl) (srow_idx x3 _ _ _ rfl rfl rfl)

theorem refMid : (val_main_v83 (F := Ideal) x0 x1 x2 x5 : S4352x1024.Idx → EReal) = fun i => mid x0 x1 x2 x5 (i 0).val (i 1) := by
  unfold val_main_v83
  refine joined (mid x0 x1 x2 x5) _ _ _ (fun i => ?_) (fun i => ?_)
  · rw [resA]
    unfold mid
    rw [part_left (i 0).isLt]
  · rw [resB]
    unfold mid
    rw [part_right]

theorem ref : (val_main_v85 (F := Ideal) x0 x1 x2 x3 x4 x5 x6 : S4352x1024.Idx → EReal) = fun i =>
    out x0 x1 x2 x3 x4 x5 x6 (i 0).val (i 1) := by
  funext i
  rw [val_main_v85_apply]
  unfold val_main_v84
  refine congrFun (joined (out x0 x1 x2 x3 x4 x5 x6) _ _ _ (fun i => ?_) (fun i => ?_)) i
  · rw [halfA]
    unfold out mid
    rw [part_left (i 0).isLt]
  · rw [halfB]
    unfold out mid
    rw [part_right]

end

theorem frame_reference : Cert.quiescent_Reference37Ideal := fun m ρ _ =>
  (θ_run Cert.Reference37Ideal.defs _ _).mono
    (fun r h => ⟨fun c => (h c).2.2, Idealize.ShloMosaic.sem_eq_zero_of_no_sems (by decide) r.2⟩)
    (Cert.Reference37Ideal.Value.run (F := Ideal) m ρ)

/-- The kernel's residual rows and modulated rows are the reference's. -/
theorem algebraic : Cert.algebraic_Kernel37Ideal_Reference37Ideal := by
  intro m g m' g' _ hagree
  refine ⟨fun c => (dats m 0 c).arrAt 7 cfg0.N, fun c => (dats m 0 c).arrAt 8 cfg0.N, Cert.Kernel37Ideal.Value.run_blocks m g, ?_⟩
  refine (θ_run Cert.Reference37Ideal.defs _ _).mono (fun r h c => ?_) (Cert.Reference37Ideal.Value.run (F := Ideal) m' g')
  obtain ⟨e0, e1, e2, e3, e4, e5, e6⟩ := hagree c
  refine ⟨(h c).1.trans ?_, (h c).2.1.trans ?_, (h c).2.2⟩
  · rw [Cert.Reference37Ideal.Read.val_main_v83_eq, e0, e1, e2, e5]
    exact (refMid _ _ _ _).trans (arr7 m c).symm
  · rw [Cert.Reference37Ideal.Read.val_main_v85_eq, e0, e1, e2, e3, e4, e5, e6]
    exact (ref _ _ _ _ _ _ _).trans (arr8 m c).symm

end Cert.Kernel37Ideal.Row

end
-- ==== Proof.Row.Merge.lean ====
/- Three branches joined, each under the logistic of its own columns of the projection, a block of 128 rows at a time. -/
module

public import proofs.«01_k».proof.Proof.Mm.Sum
public import proofs.«01_k».proof.Defs
public import proofs.«01_k».proof.Proof.Gen.Kernel38Ideal.Value
public import proofs.«01_k».proof.Proof.Gen.Reference38Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel38Ideal.Row

open Cert.Kernel38Ideal Cert.Kernel38Ideal.Gen Idealize.ShloMosaic Idealize.ShloMosaic.TcCoe Idealize.SL.Sem
open Cert.Mm

theorem hz : (![0, 0] : Fin 2 → Nat) = fun _ => 0 := funext fun a => by fin_cases a <;> rfl

theorem pay1_apply (x0 x1 x2 : Vec Ideal S128x1024 .bf16) (x3 : Vec Ideal S128x3072 .bf16) (x4 x5 x6 : Vec Ideal S1x1024 .f32)
    (y : S128x1024.Idx) :
    (k0_pay1 x0 x1 x2 x3 x4 x5 x6 y : EReal) =
      Ideal.logistic ((x3 (ix2 (y 0) ⟨(y 1).val, by have : (y 1).val < 1024 := (y 1).isLt; omega⟩) : EReal) + x4 (ix2 0 (y 1))) * x0 (ix2 (y 0) (y 1))
      + Ideal.logistic ((x3 (ix2 (y 0) ⟨1024 + (y 1).val, by have : (y 1).val < 1024 := (y 1).isLt; omega⟩) : EReal) + x5 (ix2 0 (y 1))) * x1 (ix2 (y 0) (y 1))
      + Ideal.logistic ((x3 (ix2 (y 0) ⟨2048 + (y 1).val, by have : (y 1).val < 1024 := (y 1).isLt; omega⟩) : EReal) + x6 (ix2 0 (y 1))) * x2 (ix2 (y 0) (y 1)) := by
  pointwise [k0_pay1]

section
variable (c : Dev nD) (i : grid0.Coords) (a1 : Memref sig .tc .vmem S128x1024 .bf16) (h1 : a1.IsWhole) (a2 : Memref sig .tc .vmem S128x1024 .bf16)
  (h2 : a2.IsWhole) (a3 : Memref sig .tc .vmem S128x1024 .bf16) (h3 : a3.IsWhole) (a4 : Memref sig .tc .vmem S128x3072 .bf16) (h4 : a4.IsWhole)
  (a5 : Memref sig .tc .vmem S1x1024 .f32) (h5 : a5.IsWhole) (a6 : Memref sig .tc .vmem S1x1024 .f32) (h6 : a6.IsWhole)
  (a7 : Memref sig .tc .vmem S1x1024 .f32) (h7 : a7.IsWhole) (a8 : Memref sig .tc .vmem S128x1024 .bf16) (h8 : a8.IsWhole)
  (x0 x1 x2 : Vec Ideal S128x1024 .bf16) (x3 : Vec Ideal S128x3072 .bf16) (x4 x5 x6 : Vec Ideal S1x1024 .f32)

/-- Every point writes its block of rows. -/
theorem outA : out0_A_7 c i a1 h1 a2 h2 a3 h3 a4 h4 a5 h5 a6 h6 a7 h7 a8 h8 x0 x1 x2 x3 x4 x5 x6 = k0_pay1 x0 x1 x2 x3 x4 x5 x6 := by
  unfold out0_A_7
  rw [View.read_writes_eq_canon _ _ _ (cover0_A_7 c i a1 h1 a2 h2 a3 h3 a4 h4 a5 h5 a6 h6 a7 h7 a8 h8 x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S128x1024) hz, View.ld_unit_zero (S := S128x3072) hz, View.ld_unit_zero (S := S1x1024) hz]

end

section
variable (m : (ℓ : Loc nD τ sig) → Buf (Elt Ideal) ℓ) (c : Dev nD)

/-- The arguments. -/
abbrev A0 : S4352x1024.Idx → EReal := m ((c : Thread nD τ).loc main_arg0)
abbrev A1 : S4352x1024.Idx → EReal := m ((c : Thread nD τ).loc main_arg1)
abbrev A2 : S4352x1024.Idx → EReal := m ((c : Thread nD τ).loc main_arg2)
abbrev P : S4352x8192.Idx → EReal := m ((c : Thread nD τ).loc main_arg3)
abbrev B0 : S1x1024.Idx → EReal := m ((c : Thread nD τ).loc main_arg4)
abbrev B1 : S1x1024.Idx → EReal := m ((c : Thread nD τ).loc main_arg5)
abbrev B2 : S1x1024.Idx → EReal := m ((c : Thread nD τ).loc main_arg6)

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![t.val, 0] := by
  decide +kernel

theorem tlt (t : Fin cfg0.N) : t.val < 34 := lt_of_lt_of_eq t.isLt N_0

theorem iblk0 (t : Fin cfg0.N) (r : Fin 128) (d : Fin 1024) :
    (iblk m c 0 t (ix2 r d) : EReal) = nat2 (A0 m c) (128 * t.val + r.val) d.val := by
  have := tlt t
  rw [nat2_pos _ (show 128 * t.val + r.val < 4352 by omega) d.isLt]
  blk_ext [iblk, Gen.V, idx t]

theorem iblk1 (t : Fin cfg0.N) (r : Fin 128) (d : Fin 1024) :
    (iblk m c 1 t (ix2 r d) : EReal) = nat2 (A1 m c) (128 * t.val + r.val) d.val := by
  have := tlt t
  rw [nat2_pos _ (show 128 * t.val + r.val < 4352 by omega) d.isLt]
  blk_ext [iblk, Gen.V, idx t]

theorem iblk2 (t : Fin cfg0.N) (r : Fin 128) (d : Fin 1024) :
    (iblk m c 2 t (ix2 r d) : EReal) = nat2 (A2 m c) (128 * t.val + r.val) d.val := by
  have := tlt t
  rw [nat2_pos _ (show 128 * t.val + r.val < 4352 by omega) d.isLt]
  blk_ext [iblk, Gen.V, idx t]

theorem iblk3 (t : Fin cfg0.N) (r : Fin 128) (d : Fin 3072) :
    (X0_3 m c t (ix2 r d) : EReal) = nat2 (P m c) (128 * t.val + r.val) d.val := by
  have := tlt t
  rw [nat2_pos _ (show 128 * t.val + r.val < 4352 by omega) (show d.val < 8192 by omega)]
  unfold X0_3 Pipeline.Window.fill
  rw [dif_pos (moved0_3 t _)]
  blk_ext [iblk, Gen.V, idx t]

theorem iblk4 (t : Fin cfg0.N) (d : Fin 1024) : (iblk m c 4 t (ix2 0 d) : EReal) = nat2 (B0 m c) 0 d.val := by
  rw [nat2_pos _ (show 0 < 1 by omega) d.isLt]
  blk_ext [iblk, Gen.V, idx t]

theorem iblk5 (t : Fin cfg0.N) (d : Fin 1024) : (iblk m c 5 t (ix2 0 d) : EReal) = nat2 (B1 m c) 0 d.val := by
  rw [nat2_pos _ (show 0 < 1 by omega) d.isLt]
  blk_ext [iblk, Gen.V, idx t]

theorem iblk6 (t : Fin cfg0.N) (d : Fin 1024) : (iblk m c 6 t (ix2 0 d) : EReal) = nat2 (B2 m c) 0 d.val := by
  rw [nat2_pos _ (show 0 < 1 by omega) d.isLt]
  blk_ext [iblk, Gen.V, idx t]

/-- An entry of the result: each branch under the logistic of its columns and bias. -/
def out (x0 x1 x2 : Shape.Idx ⟨2, ![4352, 1024]⟩ → EReal) (x3 : Shape.Idx ⟨2, ![4352, 8192]⟩ → EReal)
    (x4 x5 x6 : Shape.Idx ⟨2, ![1, 1024]⟩ → EReal) (a b : ℕ) : EReal :=
  Ideal.logistic (nat2 x3 a b + nat2 x4 0 b) * nat2 x0 a b
    + Ideal.logistic (nat2 x3 a (1024 + b) + nat2 x5 0 b) * nat2 x1 a b
    + Ideal.logistic (nat2 x3 a (2048 + b) + nat2 x6 0 b) * nat2 x2 a b

/-- Equal numbers give equal entries. -/
theorem at2 {α : Type} (f : ℕ → ℕ → α) {a a' b b' : ℕ} (h : a = a') (h' : b = b') : f a b = f a' b' := by rw [h, h']

/-- Equal parts give equal sums of gated parts. -/
theorem gated {p p' q q' x x' : EReal} (hp : p = p') (hq : q = q') (hx : x = x') :
    Ideal.logistic (p + q) * x = Ideal.logistic (p' + q') * x' := by rw [hp, hq, hx]

theorem arr7 : (dats m 0 c).arrAt 7 cfg0.N = fun i : S4352x1024.Idx =>
    out (A0 m c) (A1 m c) (A2 m c) (P m c) (B0 m c) (B1 m c) (B2 m c) (i 0).val (i 1).val := by
  refine (dats m 0 c).arrAt_eq_of_covers 7 _ (by decide +kernel) fun t hf y => ?_
  have ht := tlt t
  rw [after0_7]
  unfold outsAt0
  rw [outA]
  refine (pay1_apply _ _ _ _ _ _ _ y).trans ((congrArg₂ (fun a b : EReal => a + b) (congrArg₂ (fun a b : EReal => a + b)
    (gated (iblk3 m c t (y 0) _) (iblk4 m c t (y 1)) (iblk0 m c t (y 0) (y 1)))
    (gated (iblk3 m c t (y 0) _) (iblk5 m c t (y 1)) (iblk1 m c t (y 0) (y 1))))
    (gated (iblk3 m c t (y 0) _) (iblk6 m c t (y 1)) (iblk2 m c t (y 0) (y 1)))).trans ?_)
  refine at2 (a := 128 * t.val + (y 0).val) (b := (y 1).val)
    (out (A0 m c) (A1 m c) (A2 m c) (P m c) (B0 m c) (B1 m c) (B2 m c)) ?_ ?_ <;> blk_simp [idx t] <;> omega

end

section
variable (x0 x1 x2 : Cert.Reference38Ideal.S4352x1024.Idx → EReal) (x3 : Cert.Reference38Ideal.S4352x8192.Idx → EReal)
  (x4 x5 x6 : Cert.Reference38Ideal.S1x1024.Idx → EReal)

open Cert.Reference38Ideal.Read

theorem ref0 (i : Cert.Reference38Ideal.S4352x1024.Idx) :
    (val_main_v9 (F := Ideal) x3 x4 i : EReal) = Ideal.logistic (nat2 x3 (i 0).val (i 1).val + nat2 x4 0 (i 1).val) := by
  rw [val_main_v9_apply, val_main_v8_apply, val_main_cst_0_apply, val_main_v7_apply, val_main_v6_apply, val_main_cst_apply, val_main_v5_apply, val_main_v4_apply, val_main_v3_apply, val_main_v2_apply, val_main_v1_apply, val_main_v0_apply]
  exact congrArg₂ (fun u v : EReal => Ideal.div u (u + Ideal.exp (-v))) Ideal.ofBits_one_f32
    (congrArg₂ (fun a b : EReal => a + b) (nat2_idx x3 (idx_main_v1 i)).symm (nat2_idx x4 (idx_main_v2 i)).symm)

theorem ref1 (i : Cert.Reference38Ideal.S4352x1024.Idx) :
    (val_main_v18 (F := Ideal) x3 x5 i : EReal) = Ideal.logistic (nat2 x3 (i 0).val (1024 + (i 1).val) + nat2 x5 0 (i 1).val) := by
  rw [val_main_v18_apply, val_main_v17_apply, val_main_cst_2_apply, val_main_v16_apply, val_main_v15_apply, val_main_cst_1_apply, val_main_v14_apply, val_main_v13_apply, val_main_v12_apply, val_main_v11_apply, val_main_v10_apply, val_main_v0_apply]
  exact congrArg₂ (fun u v : EReal => Ideal.div u (u + Ideal.exp (-v))) Ideal.ofBits_one_f32
    (congrArg₂ (fun a b : EReal => a + b) (nat2_idx x3 (idx_main_v10 i)).symm (nat2_idx x5 (idx_main_v11 i)).symm)

theorem ref2 (i : Cert.Reference38Ideal.S4352x1024.Idx) :
    (val_main_v27 (F := Ideal) x3 x6 i : EReal) = Ideal.logistic (nat2 x3 (i 0).val (2048 + (i 1).val) + nat2 x6 0 (i 1).val) := by
  rw [val_main_v27_apply, val_main_v26_apply, val_main_cst_4_apply, val_main_v25_apply, val_main_v24_apply, val_main_cst_3_apply, val_main_v23_apply, val_main_v22_apply, val_main_v21_apply, val_main_v20_apply, val_main_v19_apply, val_main_v0_apply]
  exact congrArg₂ (fun u v : EReal => Ideal.div u (u + Ideal.exp (-v))) Ideal.ofBits_one_f32
    (congrArg₂ (fun a b : EReal => a + b) (nat2_idx x3 (idx_main_v19 i)).symm (nat2_idx x6 (idx_main_v20 i)).symm)

theorem ref : (val_main_v36 (F := Ideal) x0 x1 x2 x3 x4 x5 x6 : S4352x1024.Idx → EReal) = fun i =>
    out x0 x1 x2 x3 x4 x5 x6 (i 0).val (i 1).val := by
  funext i
  rw [val_main_v36_apply, val_main_v35_apply, val_main_v34_apply, val_main_v33_apply, val_main_v32_apply, val_main_v31_apply,
    val_main_v30_apply, val_main_v29_apply, val_main_v28_apply]
  exact congrArg₂ (fun a b : EReal => a + b) (congrArg₂ (fun a b : EReal => a + b)
    (congrArg₂ (fun a b : EReal => a * b) (ref0 x3 x4 i) (nat2_idx x0 i).symm)
    (congrArg₂ (fun a b : EReal => a * b) (ref1 x3 x5 i) (nat2_idx x1 i).symm))
    (congrArg₂ (fun a b : EReal => a * b) (ref2 x3 x6 i) (nat2_idx x2 i).symm)

end

theorem frame_reference : Cert.quiescent_Reference38Ideal := fun m ρ _ =>
  (θ_run Cert.Reference38Ideal.defs _ _).mono
    (fun r h => ⟨fun c => (h c).2, Idealize.ShloMosaic.sem_eq_zero_of_no_sems (by decide) r.2⟩)
    (Cert.Reference38Ideal.Value.run (F := Ideal) m ρ)

/-- The kernel's joined rows are the reference's. -/
theorem algebraic : Cert.algebraic_Kernel38Ideal_Reference38Ideal := by
  intro m g m' g' _ hagree
  refine ⟨fun c => (dats m 0 c).arrAt 7 cfg0.N, Cert.Kernel38Ideal.Value.run_blocks m g, ?_⟩
  refine (θ_run Cert.Reference38Ideal.defs _ _).mono (fun r h c => ?_) (Cert.Reference38Ideal.Value.run (F := Ideal) m' g')
  obtain ⟨e0, e1, e2, e3, e4, e5, e6⟩ := hagree c
  refine ⟨(h c).1.trans ?_, (h c).2⟩
  · rw [Cert.Reference38Ideal.Read.val_main_v36_eq, e0, e1, e2, e3, e4, e5, e6]
    exact (ref _ _ _ _ _ _ _).trans (arr7 m c).symm

end Cert.Kernel38Ideal.Row

end
-- ==== Proof.Row.GlaOut.lean ====
/- What follows the gated linear attention: the two directions' sum, its norm head by head, and the output's gate. -/
module

public import proofs.«01_k».proof.Proof.Mm.Sum
public import proofs.«01_k».proof.Defs
public import proofs.«01_k».proof.Proof.Gen.Kernel39Ideal.Value
public import proofs.«01_k».proof.Proof.Gen.Reference39Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel39Ideal.Row

open Cert.Kernel39Ideal Cert.Kernel39Ideal.Gen Idealize.ShloMosaic Idealize.ShloMosaic.TcCoe Idealize.SL.Sem
open Cert.Mm

theorem hz : (![0, 0] : Fin 2 → Nat) = fun _ => 0 := funext fun a => by fin_cases a <;> rfl

/-- The width of a head, and the norm's epsilon. -/
abbrev width : EReal := Ideal.ofBits .f32 0x43800000#32
abbrev eps : EReal := Ideal.ofBits .f32 0x358637BD#32

/-- Column `b` of a row `s` normed over its head of 256 columns, under the weights `g`. -/
def headed (s g : ℕ → EReal) (b : ℕ) : EReal :=
  s b * Ideal.rsqrt (Ideal.div (∑ k : Fin 256, s (256 * (b / 256) + k.val) * s (256 * (b / 256) + k.val)) width + eps) * g b

/-- The same with the head's first column given. -/
theorem headed_eq (s g : ℕ → EReal) {h b : ℕ} (hb : b < 256) :
    headed s g (256 * h + b) = s (256 * h + b)
      * Ideal.rsqrt (Ideal.div (∑ k : Fin 256, s (256 * h + k.val) * s (256 * h + k.val)) width + eps) * g (256 * h + b) := by
  unfold headed
  rw [show (256 * h + b) / 256 = h by omega]

/-- Four blocks of 256 columns joined. -/
theorem four (f : Fin 256 → ℕ → EReal) (x1 x2 x3 x4 : S256x256.Idx → EReal)
    (h : Shape.Concatenates [S256x256, S256x256, S256x256, S256x256] S256x1024 1)
    (h1 : ∀ i, x1 i = f (i 0) (256 * 0 + (i 1).val)) (h2 : ∀ i, x2 i = f (i 0) (256 * 1 + (i 1).val))
    (h3 : ∀ i, x3 i = f (i 0) (256 * 2 + (i 1).val)) (h4 : ∀ i, x4 i = f (i 0) (256 * 3 + (i 1).val)) (y : S256x1024.Idx) :
    concatenate S256x1024 1 [⟨S256x256, x1⟩, ⟨S256x256, x2⟩, ⟨S256x256, x3⟩, ⟨S256x256, x4⟩] h y = f (y 0) (y 1).val := by
  have hy : (y 1).val < 1024 := (y 1).isLt
  refine (concatenate_ofFn_apply (t := S256x1024) (s₁ := S256x256) (1 : Fin 2)
    (fun n : Fin 4 => match n with | ⟨0, _⟩ => x1 | ⟨1, _⟩ => x2 | ⟨2, _⟩ => x3 | ⟨3, _⟩ => x4) h rfl 256 rfl y
    ⟨(y 1).val / 256, by omega⟩ rfl (ix2 (y 0) (⟨(y 1).val % 256, by omega⟩ : Fin 256)) rfl
    (fun b hb => by
      match b with
      | ⟨0, _⟩ => rfl
      | ⟨1, _⟩ => exact absurd rfl hb)).trans ?_
  have key : ∀ n : Fin 4, (match n with | ⟨0, _⟩ => x1 | ⟨1, _⟩ => x2 | ⟨2, _⟩ => x3 | ⟨3, _⟩ => x4 : S256x256.Idx → EReal)
      (ix2 (y 0) (⟨(y 1).val % 256, by omega⟩ : Fin 256)) = f (y 0) (256 * n.val + (y 1).val % 256) := by
    intro n
    match n with
    | ⟨0, _⟩ => exact h1 _
    | ⟨1, _⟩ => exact h2 _
    | ⟨2, _⟩ => exact h3 _
    | ⟨3, _⟩ => exact h4 _
  refine (key ⟨(y 1).val / 256, by omega⟩).trans ?_
  exact congrArg (f (y 0)) (by show 256 * ((y 1).val / 256) + (y 1).val % 256 = (y 1).val; omega)

section
variable (x0 x1 : Vec Ideal S256x1024 .f32) (x2 : Vec Ideal S256x1024 .bf16) (x3 : Vec Ideal S1x1024 .f32)

/-- The sum's row `r` of a block, and the weights, by column number. -/
def srow (r : Fin 256) : ℕ → EReal := fun b => nat2 (fun i => (x0 i : EReal) + x1 i) r.val b
def grow : ℕ → EReal := fun b => nat2 (fun i => (x3 i : EReal)) 0 b

theorem srow_at (r : Fin 256) (b : ℕ) (h : b < 1024) : srow x0 x1 r b = (x0 (ix2 r ⟨b, h⟩) : EReal) + x1 (ix2 r ⟨b, h⟩) :=
  nat2_pos _ r.isLt h

theorem grow_at (b : ℕ) (h : b < 1024) : grow x3 b = (x3 (ix2 0 ⟨b, h⟩) : EReal) := nat2_pos _ (show 0 < 1 by omega) h

/-- One head of a block, from the block's entries. -/
theorem headed_at (r : Fin 256) (h : ℕ) (hh : h < 4) (d : Fin 256) :
    headed (srow x0 x1 r) (grow x3) (256 * h + d.val)
      = ((x0 (ix2 r ⟨256 * h + d.val, by omega⟩) : EReal) + x1 (ix2 r ⟨256 * h + d.val, by omega⟩))
        * Ideal.rsqrt (Ideal.div (∑ k : Fin 256,
            ((x0 (ix2 r ⟨256 * h + k.val, by omega⟩) : EReal) + x1 (ix2 r ⟨256 * h + k.val, by omega⟩))
            * ((x0 (ix2 r ⟨256 * h + k.val, by omega⟩) : EReal) + x1 (ix2 r ⟨256 * h + k.val, by omega⟩))) width + eps)
        * x3 (ix2 0 ⟨256 * h + d.val, by omega⟩) := by
  rw [headed_eq _ _ d.isLt, srow_at x0 x1 r (256 * h + d.val) (by omega), grow_at x3 (256 * h + d.val) (by omega)]
  refine congrArg (fun u : EReal => _ * Ideal.rsqrt (Ideal.div u width + eps) * _) (Finset.sum_congr rfl fun k _ => ?_)
  rw [srow_at x0 x1 r (256 * h + k.val) (by omega)]

theorem pay3_apply (i : S256x256.Idx) :
    (k0_pay3 x0 x1 x3 i : EReal) = headed (srow x0 x1 (i 0)) (grow x3) (256 * 0 + (i 1).val) := by
  refine Eq.trans ?_ (headed_at x0 x1 x3 (i 0) 0 (by omega) (i 1)).symm
  pointwise [k0_pay3, k0_pay2, width, eps]

theorem pay4_apply (i : S256x256.Idx) :
    (k0_pay4 x0 x1 x3 i : EReal) = headed (srow x0 x1 (i 0)) (grow x3) (256 * 1 + (i 1).val) := by
  refine Eq.trans ?_ (headed_at x0 x1 x3 (i 0) 1 (by omega) (i 1)).symm
  pointwise [k0_pay4, k0_pay2, width, eps]

theorem pay1_apply (y : S256x1024.Idx) :
    (k0_pay1 x2 x3 (k0_pay2 x0 x1) (k0_pay3 x0 x1 x3) (k0_pay4 x0 x1 x3) (k0_pay5 x0 x1) (k0_pay6 x0 x1) y : EReal)
      = headed (srow x0 x1 (y 0)) (grow x3) (y 1).val * ((x2 y : EReal) * Ideal.logistic (x2 y)) := by
  unfold k0_pay1
  refine congrArg₂ (fun a b : EReal => a * b)
    (four (fun r => headed (srow x0 x1 r) (grow x3)) _ _ _ _ _ (pay3_apply x0 x1 x3) (pay4_apply x0 x1 x3) (fun i => ?_) (fun i => ?_) y) rfl
  · refine Eq.trans ?_ (headed_at x0 x1 x3 (i 0) 2 (by omega) (i 1)).symm
    pointwise [k0_pay5, k0_pay6, k0_pay2, width, eps]
  · refine Eq.trans ?_ (headed_at x0 x1 x3 (i 0) 3 (by omega) (i 1)).symm
    pointwise [k0_pay2, width, eps]

end

section
variable (m : (ℓ : Loc nD τ sig) → Buf (Elt Ideal) ℓ) (c : Dev nD)

/-- The arguments. -/
abbrev A : S4352x1024.Idx → EReal := m ((c : Thread nD τ).loc main_arg0)
abbrev B : S4352x1024.Idx → EReal := m ((c : Thread nD τ).loc main_arg1)
abbrev P : S4352x8192.Idx → EReal := m ((c : Thread nD τ).loc main_arg2)
abbrev G : S1x1024.Idx → EReal := m ((c : Thread nD τ).loc main_arg3)

theorem idx : ∀ t : Fin cfg0.N, win0_0.index t = ![t.val, 0] ∧ win0_1.index t = ![t.val, 0] ∧ win0_2.index t = ![t.val, 3] ∧ win0_3.index t = ![0, 0] ∧ win0_4.index t = ![t.val, 0] := by
  decide +kernel

theorem tlt (t : Fin cfg0.N) : t.val < 17 := lt_of_lt_of_eq t.isLt N_0

theorem iblk0 (t : Fin cfg0.N) (r : Fin 256) (d : Fin 1024) :
    (iblk m c 0 t (ix2 r d) : EReal) = nat2 (A m c) (256 * t.val + r.val) d.val := by
  have := tlt t
  rw [nat2_pos _ (show 256 * t.val + r.val < 4352 by omega) d.isLt]
  blk_ext [iblk, Gen.V, idx t]

theorem iblk1 (t : Fin cfg0.N) (r : Fin 256) (d : Fin 1024) :
    (iblk m c 1 t (ix2 r d) : EReal) = nat2 (B m c) (256 * t.val + r.val) d.val := by
  have := tlt t
  rw [nat2_pos _ (show 256 * t.val + r.val < 4352 by omega) d.isLt]
  blk_ext [iblk, Gen.V, idx t]

theorem iblk2 (t : Fin cfg0.N) (r : Fin 256) (d : Fin 1024) :
    (iblk m c 2 t (ix2 r d) : EReal) = nat2 (P m c) (256 * t.val + r.val) (3072 + d.val) := by
  have := tlt t
  rw [nat2_pos _ (show 256 * t.val + r.val < 4352 by omega) (show 3072 + d.val < 8192 by omega)]
  blk_ext [iblk, Gen.V, idx t]

theorem iblk3 (t : Fin cfg0.N) (d : Fin 1024) : (iblk m c 3 t (ix2 0 d) : EReal) = nat2 (G m c) 0 d.val := by
  rw [nat2_pos _ (show 0 < 1 by omega) d.isLt]
  blk_ext [iblk, Gen.V, idx t]

/-- A row of the sum, the weights, and the result at a row and a column. -/
def total (x0 x1 : Shape.Idx ⟨2, ![4352, 1024]⟩ → EReal) (a : ℕ) : ℕ → EReal := fun b => nat2 x0 a b + nat2 x1 a b
def out (x0 x1 : Shape.Idx ⟨2, ![4352, 1024]⟩ → EReal) (x2 : Shape.Idx ⟨2, ![4352, 8192]⟩ → EReal)
    (x3 : Shape.Idx ⟨2, ![1, 1024]⟩ → EReal) (a b : ℕ) : EReal :=
  headed (total x0 x1 a) (nat2 x3 0) b * (nat2 x2 a (3072 + b) * Ideal.logistic (nat2 x2 a (3072 + b)))

/-- The norm of a column looks at its own head only. -/
theorem headed_congr {s s' g g' : ℕ → EReal} (hs : ∀ b, b < 1024 → s b = s' b) (hg : ∀ b, b < 1024 → g b = g' b) {b : ℕ} (hb : b < 1024) :
    headed s g b = headed s' g' b := by
  unfold headed
  rw [hs b hb, hg b hb]
  refine congrArg (fun u : EReal => _ * Ideal.rsqrt (Ideal.div u width + eps) * _) (Finset.sum_congr rfl fun k _ => ?_)
  rw [hs (256 * (b / 256) + k.val) (by omega)]

/-- Equal numbers give equal entries. -/
theorem at2 {α : Type} (f : ℕ → ℕ → α) {a a' b b' : ℕ} (h : a = a') (h' : b = b') : f a b = f a' b' := by rw [h, h']

theorem arr4 : (dats m 0 c).arrAt 4 cfg0.N = fun i : S4352x1024.Idx => out (A m c) (B m c) (P m c) (G m c) (i 0).val (i 1).val := by
  refine (dats m 0 c).arrAt_eq_of_covers 4 _ (by decide +kernel) fun t hf y => ?_
  have ht := tlt t
  rw [after0_4]
  unfold out0_4
  rw [View.canon_unit_zero hz]
  simp only [View.ld_unit_zero (S := S256x1024) hz, View.ld_unit_zero (S := S1x1024) hz]
  have hy : (y : S256x1024.Idx) = ix2 (y 0) (y 1) := funext fun a => by fin_cases a <;> rfl
  have e2 : (iblk m c 2 t y : EReal) = nat2 (P m c) (256 * t.val + (y 0).val) (3072 + (y 1).val) :=
    (congrArg (fun z : S256x1024.Idx => (iblk m c 2 t z : EReal)) hy).trans (iblk2 m c t (y 0) (y 1))
  refine (pay1_apply (iblk m c 0 t) (iblk m c 1 t) (iblk m c 2 t) (iblk m c 3 t) y).trans ((congrArg₂ (fun a b : EReal => a * (b * Ideal.logistic b))
    (headed_congr (s' := total (A m c) (B m c) (256 * t.val + (y 0).val)) (g' := nat2 (G m c) 0)
      (fun b hb => (srow_at _ _ (y 0) b hb).trans (congrArg₂ (fun u v : EReal => u + v) (iblk0 m c t (y 0) ⟨b, hb⟩) (iblk1 m c t (y 0) ⟨b, hb⟩)))
      (fun b hb => (grow_at _ b hb).trans (iblk3 m c t ⟨b, hb⟩)) (y 1).isLt) e2).trans ?_)
  refine at2 (a := 256 * t.val + (y 0).val) (b := (y 1).val) (out (A m c) (B m c) (P m c) (G m c)) ?_ ?_ <;> blk_simp [idx t] <;> omega

end

section
variable (x0 x1 : Cert.Reference39Ideal.S4352x1024.Idx → EReal) (x2 : Cert.Reference39Ideal.S4352x8192.Idx → EReal)
  (x3 : Cert.Reference39Ideal.S1x1024.Idx → EReal)

open Cert.Reference39Ideal.Read

theorem refSum (i : Cert.Reference39Ideal.S4352x4x256.Idx) :
    (val_main_v1 (F := Ideal) x0 x1 i : EReal) = total x0 x1 (i 0).val (256 * (i 1).val + (i 2).val) := by
  have h1 : (i 1).val < 4 := (i 1).isLt
  have h2 : (i 2).val < 256 := (i 2).isLt
  have ha : (((i 0).val * 4 + (i 1).val) * 256 + (i 2).val) / 1024 = (i 0).val := by omega
  have hb : (((i 0).val * 4 + (i 1).val) * 256 + (i 2).val) % 1024 = 256 * (i 1).val + (i 2).val := by omega
  rw [val_main_v1_apply, val_main_v0_apply]
  refine (congrArg₂ (fun a b : EReal => a + b) (nat2_idx x0 (idx_main_v1 i)).symm (nat2_idx x1 (idx_main_v1 i)).symm).trans ?_
  exact at2 (total x0 x1) ha hb

theorem refG (i : Cert.Reference39Ideal.S4352x4x256.Idx) :
    (val_main_v14 (F := Ideal) x3 i : EReal) = nat2 x3 0 (256 * (i 1).val + (i 2).val) := by
  have h1 : (i 1).val < 4 := (i 1).isLt
  have h2 : (i 2).val < 256 := (i 2).isLt
  rw [val_main_v14_apply, val_main_v13_apply, val_main_v2_apply]
  refine (nat2_idx x3 _).symm.trans (at2 (nat2 x3) rfl ?_)
  show ((i 1).val * 256 + (i 2).val) % 1024 = _
  omega

theorem refHead (i : Cert.Reference39Ideal.S4352x4x256.Idx) :
    (val_main_v15 (F := Ideal) x0 x1 x3 i : EReal) = headed (total x0 x1 (i 0).val) (nat2 x3 0) (256 * (i 1).val + (i 2).val) := by
  rw [headed_eq _ _ (i 2).isLt, val_main_v15_apply, val_main_v12_apply, val_main_v11_apply, val_main_v10_apply, val_main_v9_apply,
    val_main_v8_apply, val_main_cst_1_apply, val_main_v7_apply, val_main_v6_apply, val_main_cst_0_apply, val_main_v5_apply,
    val_main_v4_apply, val_main_cst_apply]
  simp only [val_main_v3_apply]
  refine congrArg₂ (fun a b : EReal => a * b) (congrArg₂ (fun a b : EReal => a * Ideal.rsqrt (Ideal.div b width + eps)) (refSum x0 x1 i) ?_)
    (refG x3 i)
  exact (congrArg (· + _) Ideal.ofBits_zero_f32).trans ((zero_add _).trans (Finset.sum_congr rfl fun k _ =>
    congrArg₂ (fun a b : EReal => a * b) (refSum x0 x1 _) (refSum x0 x1 _)))

theorem ref : (val_main_v21 (F := Ideal) x0 x1 x2 x3 : S4352x1024.Idx → EReal) = fun i => out x0 x1 x2 x3 (i 0).val (i 1).val := by
  funext i
  have h1 : (i 1).val < 1024 := (i 1).isLt
  have ha : ((i 0).val * 1024 + (i 1).val) / 1024 = (i 0).val := by omega
  have hb : 256 * (((i 0).val * 1024 + (i 1).val) / 256 % 4) + ((i 0).val * 1024 + (i 1).val) % 256 = (i 1).val := by omega
  rw [val_main_v21_apply, val_main_v20_apply, val_main_v16_apply, val_main_v19_apply, val_main_call0_v5_apply, val_main_call0_v4_apply,
    val_main_call0_cst_0_apply, val_main_call0_v3_apply, val_main_call0_v2_apply, val_main_call0_cst_apply, val_main_call0_v1_apply,
    val_main_call0_v0_apply, val_main_v18_apply, val_main_v17_apply]
  refine congrArg₂ (fun a b : EReal => a * b)
    ((refHead x0 x1 x3 _).trans (at2 (fun a b => headed (total x0 x1 a) (nat2 x3 0) b) ha hb)) ?_
  refine congrArg₂ (fun a b : EReal => a * b) (nat2_idx x2 (idx_main_v17 i)).symm ?_
  exact congrArg₂ (fun u v : EReal => Ideal.div u (u + Ideal.exp (-v))) Ideal.ofBits_one_f32 (nat2_idx x2 (idx_main_v17 i)).symm

end

theorem frame_reference : Cert.quiescent_Reference39Ideal := fun m ρ _ =>
  (θ_run Cert.Reference39Ideal.defs _ _).mono
    (fun r h => ⟨fun c => (h c).2, Idealize.ShloMosaic.sem_eq_zero_of_no_sems (by decide) r.2⟩)
    (Cert.Reference39Ideal.Value.run (F := Ideal) m ρ)

/-- The kernel's gated rows are the reference's. -/
theorem algebraic : Cert.algebraic_Kernel39Ideal_Reference39Ideal := by
  intro m g m' g' _ hagree
  refine ⟨fun c => (dats m 0 c).arrAt 4 cfg0.N, Cert.Kernel39Ideal.Value.run_blocks m g, ?_⟩
  refine (θ_run Cert.Reference39Ideal.defs _ _).mono (fun r h c => ?_) (Cert.Reference39Ideal.Value.run (F := Ideal) m' g')
  obtain ⟨e0, e1, e2, e3⟩ := hagree c
  refine ⟨(h c).1.trans ?_, (h c).2⟩
  · rw [Cert.Reference39Ideal.Read.val_main_v21_eq, e0, e1, e2, e3]
    exact (ref _ _ _ _).trans (arr4 m c).symm

end Cert.Kernel39Ideal.Row

end
-- ==== Proof.Row.Decay.lean ====
/- The decay of the gated linear attention: the logistic's logarithm over sixteen, its columns in two halves. -/
module

public import proofs.«01_k».proof.Proof.Mm.Sum
public import proofs.«01_k».proof.Defs
public import proofs.«01_k».proof.Proof.Gen.Kernel40Ideal.Value
public import proofs.«01_k».proof.Proof.Gen.Reference40Ideal.Read
public import Idealize.ShloMosaic.Lib.Quiescent
public import Idealize.ShloMosaic.Lib.Pipeline.ReadBack
public import Idealize.ShloMosaic.Lib.Tactic

@[expose] public section

set_option maxRecDepth 16384

noncomputable section

namespace Cert.Kernel40Ideal.Row

open Cert.Kernel40Ideal Cert.Kernel40Ideal.Gen Idealize.ShloMosaic Idealize.ShloMosaic.TcCoe Idealize.SL.Sem
open Cert.Mm

theorem hz : (![0, 0] : Fin 2 → Nat) = fun _ => 0 := funext fun a => by fin_cases a <;> rfl

/-- Sixteen, the decay's scale. -/
abbrev tau : EReal := Ideal.ofBits .f32 0x41800000#32

/-- The logarithm of the logistic of `z`, over sixteen. -/
def decay (z : EReal) : EReal := Ideal.div (min z 0 - Ideal.log (1 + Ideal.exp (min z (-z)))) tau

/-- The sign of minus the softplus of `-z`, taken into its two terms. -/
theorem soft (z : EReal) :
    -(max (-z) 0 + Ideal.log (1 + Ideal.exp (-(max (-z) (- -z))))) = min z 0 - Ideal.log (1 + Ideal.exp (min z (-z))) := by
  have e : -(max (-z) (- -z)) = min z (-z) := by
    rw [neg_neg]
    rcases le_total z (-z) with h | h
    · rw [max_eq_left h, min_eq_left h, neg_neg]
    · rw [max_eq_right h, min_eq_right h]
  have e0 : -(max (-z) 0) = min z 0 := by
    rcases le_total z 0 with h | h
    · rw [max_eq_left (EReal.neg_nonneg.mpr h), min_eq_left h, neg_neg]
    · rw [max_eq_right (by simpa using EReal.neg_le_neg_iff.mpr h), min_eq_right h, neg_zero]
  rw [e]
  have hl : Ideal.log (1 + Ideal.exp (min z (-z))) ≠ ⊥ ∧ Ideal.log (1 + Ideal.exp (min z (-z))) ≠ ⊤ := by
    have key : ∀ r : ℝ, Ideal.log (1 + Ideal.exp (r : EReal)) ≠ ⊥ ∧ Ideal.log (1 + Ideal.exp (r : EReal)) ≠ ⊤ := by
      intro r
      have h : (1 : EReal) + ((Real.exp r : ℝ) : EReal) = ((1 + Real.exp r : ℝ) : EReal) := by norm_cast
      rw [Ideal.exp_coe, h, Ideal.log_coe, if_neg (by have := Real.exp_pos r; linarith)]
      exact ⟨EReal.coe_ne_bot _, EReal.coe_ne_top _⟩
    have bot : Ideal.log (1 + Ideal.exp (⊥ : EReal)) ≠ ⊥ ∧ Ideal.log (1 + Ideal.exp (⊥ : EReal)) ≠ ⊤ := by
      rw [Ideal.exp_bot, add_zero, show (1 : EReal) = ((1 : ℝ) : EReal) from rfl, Ideal.log_coe, if_neg (by norm_num)]
      exact ⟨EReal.coe_ne_bot _, EReal.coe_ne_top _⟩
    induction z using EReal.rec with
    | bot => rw [min_eq_left bot_le]; exact bot
    | top => rw [EReal.neg_top, min_eq_right bot_le]; exact bot
    | coe r =>
      rcases le_total (r : EReal) (-(r : EReal)) with h | h
      · rw [min_eq_left h]
        exact key r
      · rw [min_eq_right h, ← EReal.coe_neg]
        exact key (-r)
  rw [EReal.neg_add (Or.inr hl.2) (Or.inr hl.1), e0]

theorem pay1_apply (x0 : Vec Ideal S256x1024 .f32) (x1 : Vec Ideal S1x1024 .f32) (y : S256x1024.Idx) :
    (k0_pay1 x0 x1 y : EReal) = decay ((x0 y : EReal) + x1 (ix2 0 (y 1))) := by
  refine Eq.trans (b := Ideal.div (min ((x0 y : EReal) + x1 (ix2 0 (y 1))) (Ideal.ofBits .f32 0x00000000#32)
    - Ideal.log (Ideal.ofBits .f32 0x3F800000#32 + Ideal.exp (min ((x0 y : EReal) + x1 (ix2 0 (y 1)))
      (Ideal.ofBits .f32 0x00000000#32 - ((x0 y : EReal) + x1 (ix2 0 (y 1))))))) tau) ?_ ?_
  · pointwise [k0_pay1, tau]
  · rw [Ideal.ofBits_zero_f32, Ideal.ofBits_one_f32, zero_sub]
    rfl

theorem pay2_apply (x0 : Vec Ideal S256x1024 .f32) (x1 : Vec Ideal S1x1024 .f32) (y : S256x512.Idx) :
    (k0_pay2 x0 x1 y : EReal) = decay ((x0 (ix2 (y 0) ⟨(y 1).val, by have : (y 1).val < 512 := (y 1).isLt; omega⟩) : EReal)
      + x1 (ix2 0 ⟨(y 1).val, by have : (y 1).val < 512 := (y 1).isLt; omega⟩)) := by
  pointwise [k0_pay2, pay1_apply]

theorem pay3_apply (x0 : Vec Ideal S256x1024 .f32) (x1 : Vec Ideal S1x1024 .f32) (y : S256x512.Idx) :
    (k0_pay3 x0 x1 y : EReal) = decay ((x0 (ix2 (y 0) ⟨512 + (y 1).val, by have : (y 1).val < 512 := (y 1).isLt; omega⟩) : EReal)
      + x1 (ix2 0 ⟨512 + (y 1).val, by have : (y 1).val < 512 := (y 1).isLt; omega⟩)) := by
  pointwise [k0_pay3, pay1_apply]

section
variable (m : (ℓ : Loc nD τ sig) → Buf (Elt Ideal) ℓ) (c : Dev nD)

/-- The projection and its bias. -/
abbrev A : S4352x1024.Idx → EReal := m ((c : Thread nD τ).loc main_arg0)
abbrev B : S1x1024.Idx → EReal := m ((c : Thread nD τ).loc main_arg1)

theorem idx : ∀ t : Fin cfg0.N, win0_0.index t = ![t.val, 0] ∧ win0_1.index t = ![0, 0] ∧ win0_2.index t = ![t.val, 0] ∧ win0_3.index t = ![t.val, 0] := by
  decide +kernel

theorem tlt (t : Fin cfg0.N) : t.val < 17 := lt_of_lt_of_eq t.isLt N_0

theorem iblk0 (t : Fin cfg0.N) (r : Fin 256) (d : Fin 1024) :
    (iblk m c 0 t (ix2 r d) : EReal) = nat2 (A m c) (256 * t.val + r.val) d.val := by
  have := tlt t
  rw [nat2_pos _ (show 256 * t.val + r.val < 4352 by omega) d.isLt]
  blk_ext [iblk, Gen.V, idx t]

theorem iblk1 (t : Fin cfg0.N) (d : Fin 1024) : (iblk m c 1 t (ix2 0 d) : EReal) = nat2 (B m c) 0 d.val := by
  rw [nat2_pos _ (show 0 < 1 by omega) d.isLt]
  blk_ext [iblk, Gen.V, idx t]

/-- The decay at a row and a column. -/
def out (x0 : Shape.Idx ⟨2, ![4352, 1024]⟩ → EReal) (x1 : Shape.Idx ⟨2, ![1, 1024]⟩ → EReal) (a b : ℕ) : EReal :=
  decay (nat2 x0 a b + nat2 x1 0 b)

/-- Equal numbers give equal entries. -/
theorem at2 {α : Type} (f : ℕ → ℕ → α) {a a' b b' : ℕ} (h : a = a') (h' : b = b') : f a b = f a' b' := by rw [h, h']

theorem arr2 : (dats m 0 c).arrAt 2 cfg0.N = fun i : S4352x512.Idx => out (A m c) (B m c) (i 0).val (i 1).val := by
  refine (dats m 0 c).arrAt_eq_of_covers 2 _ (by decide +kernel) fun t hf y => ?_
  have ht := tlt t
  rw [after0_2]
  unfold out0_2
  rw [View.canon_unit_zero hz]
  simp only [View.ld_unit_zero (S := S256x1024) hz, View.ld_unit_zero (S := S1x1024) hz]
  refine (pay2_apply _ _ y).trans ((congrArg₂ (fun a b => decay (a + b)) (iblk0 m c t (y 0) _) (iblk1 m c t _)).trans ?_)
  refine at2 (a := 256 * t.val + (y 0).val) (b := (y 1).val) (out (A m c) (B m c)) ?_ ?_ <;> blk_simp [idx t] <;> omega

theorem arr3 : (dats m 0 c).arrAt 3 cfg0.N = fun i : S4352x512.Idx => out (A m c) (B m c) (i 0).val (512 + (i 1).val) := by
  refine (dats m 0 c).arrAt_eq_of_covers 3 _ (by decide +kernel) fun t hf y => ?_
  have ht := tlt t
  rw [after0_3]
  unfold out0_3
  rw [View.canon_unit_zero hz]
  simp only [View.ld_unit_zero (S := S256x1024) hz, View.ld_unit_zero (S := S1x1024) hz]
  refine (pay3_apply _ _ y).trans ((congrArg₂ (fun a b => decay (a + b)) (iblk0 m c t (y 0) _) (iblk1 m c t _)).trans ?_)
  refine at2 (a := 256 * t.val + (y 0).val) (b := (y 1).val) (fun a b => out (A m c) (B m c) a (512 + b)) ?_ ?_ <;> blk_simp [idx t] <;> omega

end

section
variable (x0 : Cert.Reference40Ideal.S4352x1024.Idx → EReal) (x1 : Cert.Reference40Ideal.S1x1024.Idx → EReal)

open Cert.Reference40Ideal.Read

theorem sel (u : EReal) (a b : EReal) : Scalar.select (Ideal.cmp .une u u) a b = b := by
  have h : Ideal.cmp .une u u = 0#1 := by
    show BitVec.ofBool (decide (u ≠ u)) = 0#1
    rw [decide_eq_false (not_not.mpr rfl)]
    rfl
  rw [h]
  rfl

theorem refZ (i : Cert.Reference40Ideal.S4352x1024.Idx) :
    (val_main_v1 (F := Ideal) x0 x1 i : EReal) = nat2 x0 (i 0).val (i 1).val + nat2 x1 0 (i 1).val := by
  rw [val_main_v1_apply, val_main_v0_apply]
  exact congrArg₂ (fun a b : EReal => a + b) (nat2_idx x0 i).symm (nat2_idx x1 _).symm

theorem ref4 (i : Cert.Reference40Ideal.S4352x1024.Idx) :
    (val_main_v4 (F := Ideal) x0 x1 i : EReal) = out x0 x1 (i 0).val (i 1).val := by
  have hz : (val_main_call0_call0_cst (F := Ideal) (idx_main_call0_call0_v0 i) : EReal) = 0 := Ideal.ofBits_zero_f32
  rw [val_main_v4_apply, val_main_v3_apply, val_main_cst_apply, val_main_v2_apply, val_main_call0_v1_apply,
    val_main_call0_call0_v4_apply]
  refine (congrArg (fun u : EReal => Ideal.div (-u) tau) (sel _ _ _)).trans ?_
  rw [val_main_call0_call0_v11_apply, val_main_call0_call0_v10_apply, val_main_call0_call0_v9_apply,
    val_main_call0_call0_v8_apply, val_main_call0_call0_v7_apply, val_main_call0_call0_v3_apply,
    val_main_call0_call0_v2_apply, val_main_call0_call0_v1_apply, val_main_call0_call0_v0_apply, val_main_call0_v0_apply]
  refine Eq.trans (b := Ideal.div (-(max (-(val_main_v1 (F := Ideal) x0 x1 i : EReal)) (Ideal.ofBits .f32 0x00000000#32)
    + Ideal.log (1 + Ideal.exp (-(max (-(val_main_v1 (F := Ideal) x0 x1 i : EReal) - Ideal.ofBits .f32 0x00000000#32)
      (-(-(val_main_v1 (F := Ideal) x0 x1 i : EReal) - Ideal.ofBits .f32 0x00000000#32))))))) tau) rfl ?_
  rw [Ideal.ofBits_zero_f32, sub_zero, refZ, soft]
  rfl

theorem ref5 : (val_main_v5 (F := Ideal) x0 x1 : S4352x512.Idx → EReal) = fun i => out x0 x1 (i 0).val (i 1).val := by
  funext i
  rw [val_main_v5_apply]
  exact ref4 x0 x1 _

theorem ref6 : (val_main_v6 (F := Ideal) x0 x1 : S4352x512.Idx → EReal) = fun i => out x0 x1 (i 0).val (512 + (i 1).val) := by
  funext i
  rw [val_main_v6_apply]
  exact ref4 x0 x1 _

end

theorem frame_reference : Cert.quiescent_Reference40Ideal := fun m ρ _ =>
  (θ_run Cert.Reference40Ideal.defs _ _).mono
    (fun r h => ⟨fun c => (h c).2.2, Idealize.ShloMosaic.sem_eq_zero_of_no_sems (by decide) r.2⟩)
    (Cert.Reference40Ideal.Value.run (F := Ideal) m ρ)

/-- The two halves of the kernel's decay are the reference's. -/
theorem algebraic : Cert.algebraic_Kernel40Ideal_Reference40Ideal := by
  intro m g m' g' _ hagree
  refine ⟨fun c => (dats m 0 c).arrAt 2 cfg0.N, fun c => (dats m 0 c).arrAt 3 cfg0.N, Cert.Kernel40Ideal.Value.run_blocks m g, ?_⟩
  refine (θ_run Cert.Reference40Ideal.defs _ _).mono (fun r h c => ?_) (Cert.Reference40Ideal.Value.run (F := Ideal) m' g')
  obtain ⟨e0, e1⟩ := hagree c
  refine ⟨(h c).1.trans ?_, (h c).2.1.trans ?_, (h c).2.2⟩
  · rw [Cert.Reference40Ideal.Read.val_main_v5_eq, e0, e1]
    exact (ref5 _ _).trans (arr2 m c).symm
  · rw [Cert.Reference40Ideal.Read.val_main_v6_eq, e0, e1]
    exact (ref6 _ _).trans (arr3 m c).symm

end Cert.Kernel40Ideal.Row

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gla.Final
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel28Ideal.Frame
public import proofs.«01_k».proof.Proof.Gen.Kernel29Ideal.Frame
public import proofs.«01_k».proof.Proof.Gen.Kernel30Ideal.Frame
public import proofs.«01_k».proof.Proof.Gen.Kernel31Ideal.Frame
public import proofs.«01_k».proof.Proof.Gen.Kernel28Ideal.Value
public import proofs.«01_k».proof.Proof.Gen.Kernel29Ideal.Value
public import proofs.«01_k».proof.Proof.Gen.Kernel30Ideal.Value
public import proofs.«01_k».proof.Proof.Gen.Kernel31Ideal.Value
public import proofs.«01_k».proof.Proof.Gen.Reference28Ideal.Run
public import proofs.«01_k».proof.Proof.Gen.Reference29Ideal.Run
public import proofs.«01_k».proof.Proof.Gen.Reference30Ideal.Run
public import proofs.«01_k».proof.Proof.Gen.Reference31Ideal.Frame
public import proofs.«01_k».proof.Proof.Gen.Reference28Ideal.Read
public import proofs.«01_k».proof.Proof.Gen.Reference29Ideal.Read
public import proofs.«01_k».proof.Proof.Gen.Reference30Ideal.Read
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Reference33Ideal.Read
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal.Run
public import proofs.«01_k».proof.Proof.Gen.Reference34Ideal.Read
public import proofs.«01_k».proof.Proof.Gen.Kernel35.Frame
public import proofs.«01_k».proof.Proof.Gen.Kernel35Ideal.Frame
public import proofs.«01_k».proof.Proof.Gen.Kernel35Ideal.Value
public import proofs.«01_k».proof.Proof.Gen.Reference35Ideal.Run
public import proofs.«01_k».proof.Proof.Gen.Reference35Ideal.Read
public import proofs.«01_k».proof.Proof.Gen.Kernel36.Frame
public import proofs.«01_k».proof.Proof.Gen.Kernel36Ideal.Frame
public import proofs.«01_k».proof.Proof.Gen.Kernel36Ideal.Value
public import proofs.«01_k».proof.Proof.Gen.Reference36Ideal.Run
public import proofs.«01_k».proof.Proof.Gen.Reference36Ideal.Read
public import proofs.«01_k».proof.Proof.Gen.Kernel37.Frame
public import proofs.«01_k».proof.Proof.Gen.Kernel37Ideal.Frame
public import proofs.«01_k».proof.Proof.Gen.Kernel37Ideal.Value
public import proofs.«01_k».proof.Proof.Gen.Reference37Ideal.Run
public import proofs.«01_k».proof.Proof.Gen.Reference37Ideal.Read
public import proofs.«01_k».proof.Proof.Gen.Kernel38.Frame
public import proofs.«01_k».proof.Proof.Gen.Kernel38Ideal.Frame
public import proofs.«01_k».proof.Proof.Gen.Kernel38Ideal.Value
public import proofs.«01_k».proof.Proof.Gen.Reference38Ideal.Run
public import proofs.«01_k».proof.Proof.Gen.Reference38Ideal.Read
public import proofs.«01_k».proof.Proof.Gen.Kernel39.Frame
public import proofs.«01_k».proof.Proof.Gen.Kernel39Ideal.Frame
public import proofs.«01_k».proof.Proof.Gen.Kernel39Ideal.Value
public import proofs.«01_k».proof.Proof.Gen.Reference39Ideal.Run
public import proofs.«01_k».proof.Proof.Gen.Reference39Ideal.Read
public import proofs.«01_k».proof.Proof.Gen.Kernel40.Frame
public import proofs.«01_k».proof.Proof.Gen.Kernel40Ideal.Frame
public import proofs.«01_k».proof.Proof.Gen.Kernel40Ideal.Value
public import proofs.«01_k».proof.Proof.Gen.Reference40Ideal.Run
public import proofs.«01_k».proof.Proof.Gen.Reference40Ideal.Read
public import proofs.«01_k».proof.Proof.Mm.DxMlp2
public import proofs.«01_k».proof.Proof.Mm.DwMlp2
public import proofs.«01_k».proof.Proof.Mm.DxMlp1
public import proofs.«01_k».proof.Proof.Mm.DwMlp1
public import proofs.«01_k».proof.Proof.Mm.DxInProj
public import proofs.«01_k».proof.Proof.Mm.DwInProj
public import proofs.«01_k».proof.Proof.Mm.InProj
public import proofs.«01_k».proof.Proof.Mm.Mlp1
public import proofs.«01_k».proof.Proof.Mm.Mlp2
public import proofs.«01_k».proof.Proof.Mm.DxOut
public import proofs.«01_k».proof.Proof.Mm.DwOut
public import proofs.«01_k».proof.Proof.Mm.Out
public import proofs.«01_k».proof.Proof.Mm.DxBranch
public import proofs.«01_k».proof.Proof.Mm.DwBranch
public import proofs.«01_k».proof.Proof.Mm.Branch
public import proofs.«01_k».proof.Proof.Mm.Mod
public import proofs.«01_k».proof.Proof.Mm.DwMod
public import proofs.«01_k».proof.Proof.Mm.DxMod
public import proofs.«01_k».proof.Proof.Mm.Decay
public import proofs.«01_k».proof.Proof.Mm.DwDecay
public import proofs.«01_k».proof.Proof.Mm.Group
public import proofs.«01_k».proof.Proof.Mm.DwGroup
public import proofs.«01_k».proof.Proof.Mm.DxGroup
public import proofs.«01_k».proof.Proof.Adam.Small
public import proofs.«01_k».proof.Proof.Adam.Mlp
public import proofs.«01_k».proof.Proof.Adam.Out
public import proofs.«01_k».proof.Proof.Adam.Branch
public import proofs.«01_k».proof.Proof.Row.Loss
public import proofs.«01_k».proof.Proof.Row.PoolPost
public import proofs.«01_k».proof.Proof.Row.ConvPost
public import proofs.«01_k».proof.Proof.Row.ConvPostFwd
public import proofs.«01_k».proof.Proof.Row.PoolPostFwd
public import proofs.«01_k».proof.Proof.Row.Glu
public import proofs.«01_k».proof.Proof.Row.Pre
public import proofs.«01_k».proof.Proof.Row.Post
public import proofs.«01_k».proof.Proof.Row.Mid
public import proofs.«01_k».proof.Proof.Row.Merge
public import proofs.«01_k».proof.Proof.Row.GlaOut
public import proofs.«01_k».proof.Proof.Row.Decay
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference ends with its arguments unchanged and every counter at zero: it declares no semaphore. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The kernel's four gradients are the reference's. -/
theorem algebraic : Cert.algebraic_KernelIdeal_ReferenceIdeal_pre_finite := by
  intro m g m' g' hpre hagree
  have H := fun c => Cert.Pre_finite.Gla.reals _ _ _ (hpre c)
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨e0, e1, e2⟩ := hagree c
  refine ⟨(h c).1.trans ?_, (h c).2.1.trans ?_, (h c).2.2.1.trans ?_, (h c).2.2.2.1.trans ?_, (h c).2.2.2.2⟩
  · rw [Cert.ReferenceIdeal.Read.val_main_v118_eq, e0, e1, e2]
    exact (Cert.KernelIdeal.Gla.ref118 (H c)).trans (Cert.KernelIdeal.Gla.arr6 (Cert.KernelIdeal.Gla.holds (H c))).symm
  · rw [Cert.ReferenceIdeal.Read.val_main_v115_eq, e0, e1, e2]
    exact (Cert.KernelIdeal.Gla.ref115 (H c)).trans (Cert.KernelIdeal.Gla.arr7 (Cert.KernelIdeal.Gla.holds (H c))).symm
  · rw [Cert.ReferenceIdeal.Read.val_main_v114_eq, e0, e1, e2]
    exact (Cert.KernelIdeal.Gla.ref114 (H c)).trans (Cert.KernelIdeal.Gla.arr8 (Cert.KernelIdeal.Gla.holds (H c))).symm
  · rw [Cert.ReferenceIdeal.Read.val_main_v113_eq, e0, e1, e2]
    exact (Cert.KernelIdeal.Gla.ref113 (H c)).trans (Cert.KernelIdeal.Gla.arr9 (Cert.KernelIdeal.Gla.holds (H c))).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Pre_finite.Gla.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, Cert.Kernel2Ideal.Mm.frame_reference,
    fun m ρ _ => Cert.Kernel3.Gen.frame m ρ, fun m ρ _ => Cert.Kernel3Ideal.Gen.frame m ρ, Cert.Kernel3Ideal.Mm.frame_reference,
    fun m ρ _ => Cert.Kernel4.Gen.frame m ρ, fun m ρ _ => Cert.Kernel4Ideal.Gen.frame m ρ, Cert.Kernel4Ideal.Mm.frame_reference,
    fun m ρ _ => Cert.Kernel5.Gen.frame m ρ, fun m ρ _ => Cert.Kernel5Ideal.Gen.frame m ρ, Cert.Kernel5Ideal.Mm.frame_reference,
    fun m ρ _ => Cert.Kernel6.Gen.frame m ρ, fun m ρ _ => Cert.Kernel6Ideal.Gen.frame m ρ, Cert.Kernel6Ideal.Mm.frame_reference,
    fun m ρ _ => Cert.Kernel7.Gen.frame m ρ, fun m ρ _ => Cert.Kernel7Ideal.Gen.frame m ρ, Cert.Kernel7Ideal.Mm.frame_reference,
    fun m ρ _ => Cert.Kernel8.Gen.frame m ρ, fun m ρ _ => Cert.Kernel8Ideal.Gen.frame m ρ, Cert.Kernel8Ideal.Mm.frame_reference,
    fun m ρ _ => Cert.Kernel9.Gen.frame m ρ, fun m ρ _ => Cert.Kernel9Ideal.Gen.frame m ρ, Cert.Kernel9Ideal.Mm.frame_reference,
    fun m ρ _ => Cert.Kernel10.Gen.frame m ρ, fun m ρ _ => Cert.Kernel10Ideal.Gen.frame m ρ, Cert.Kernel10Ideal.Mm.frame_reference,
    fun m ρ _ => Cert.Kernel11.Gen.frame m ρ, fun m ρ _ => Cert.Kernel11Ideal.Gen.frame m ρ, Cert.Kernel11Ideal.Mm.frame_reference,
    fun m ρ _ => Cert.Kernel12.Gen.frame m ρ, fun m ρ _ => Cert.Kernel12Ideal.Gen.frame m ρ, Cert.Kernel12Ideal.Mm.frame_reference,
    fun m ρ _ => Cert.Kernel13.Gen.frame m ρ, fun m ρ _ => Cert.Kernel13Ideal.Gen.frame m ρ, Cert.Kernel13Ideal.Mm.frame_reference,
    fun m ρ _ => Cert.Kernel14.Gen.frame m ρ, fun m ρ _ => Cert.Kernel14Ideal.Gen.frame m ρ, Cert.Kernel14Ideal.Mm.frame_reference,
    fun m ρ _ => Cert.Kernel15.Gen.frame m ρ, fun m ρ _ => Cert.Kernel15Ideal.Gen.frame m ρ, Cert.Kernel15Ideal.Mm.frame_reference,
    fun m ρ _ => Cert.Kernel16.Gen.frame m ρ, fun m ρ _ => Cert.Kernel16Ideal.Gen.frame m ρ, Cert.Kernel16Ideal.Mm.frame_reference,
    fun m ρ _ => Cert.Kernel17.Gen.frame m ρ, fun m ρ _ => Cert.Kernel17Ideal.Gen.frame m ρ, Cert.Kernel17Ideal.Mm.frame_reference,
    fun m ρ _ => Cert.Kernel18.Gen.frame m ρ, fun m ρ _ => Cert.Kernel18Ideal.Gen.frame m ρ, Cert.Kernel18Ideal.Mm.frame_reference,
    fun m ρ _ => Cert.Kernel19.Gen.frame m ρ, fun m ρ _ => Cert.Kernel19Ideal.Gen.frame m ρ, Cert.Kernel19Ideal.Mm.frame_reference,
    fun m ρ _ => Cert.Kernel20.Gen.frame m ρ, fun m ρ _ => Cert.Kernel20Ideal.Gen.frame m ρ, Cert.Kernel20Ideal.Mm.frame_reference,
    fun m ρ _ => Cert.Kernel21.Gen.frame m ρ, fun m ρ _ => Cert.Kernel21Ideal.Gen.frame m ρ, Cert.Kernel21Ideal.Mm.frame_reference,
    fun m ρ _ => Cert.Kernel22.Gen.frame m ρ, fun m ρ _ => Cert.Kernel22Ideal.Gen.frame m ρ, Cert.Kernel22Ideal.Mm.frame_reference,
    fun m ρ _ => Cert.Kernel23.Gen.frame m ρ, fun m ρ _ => Cert.Kernel23Ideal.Gen.frame m ρ, Cert.Kernel23Ideal.Mm.frame_reference,
    fun m ρ _ => Cert.Kernel24.Gen.frame m ρ, fun m ρ _ => Cert.Kernel24Ideal.Gen.frame m ρ, Cert.Kernel24Ideal.Mm.frame_reference,
    fun m ρ _ => Cert.Kernel25.Gen.frame m ρ, fun m ρ _ => Cert.Kernel25Ideal.Gen.frame m ρ, Cert.Kernel25Ideal.Adam.frame_reference,
    fun m ρ _ => Cert.Kernel26.Gen.frame m ρ, fun m ρ _ => Cert.Kernel26Ideal.Gen.frame m ρ, Cert.Kernel26Ideal.Adam.frame_reference,
    fun m ρ _ => Cert.Kernel27.Gen.frame m ρ, fun m ρ _ => Cert.Kernel27Ideal.Gen.frame m ρ, Cert.Kernel27Ideal.Adam.frame_reference,
    fun m ρ _ => Cert.Kernel28.Gen.frame m ρ, fun m ρ _ => Cert.Kernel28Ideal.Gen.frame m ρ, Cert.Kernel28Ideal.Adam.frame_reference,
    fun m ρ _ => Cert.Kernel29.Gen.frame m ρ, fun m ρ _ => Cert.Kernel29Ideal.Gen.frame m ρ, Cert.Kernel29Ideal.Row.frame_reference,
    fun m ρ _ => Cert.Kernel30.Gen.frame m ρ, fun m ρ _ => Cert.Kernel30Ideal.Gen.frame m ρ, Cert.Kernel30Ideal.Row.frame_reference,
    fun m ρ _ => Cert.Kernel31.Gen.frame m ρ, fun m ρ _ => Cert.Kernel31Ideal.Gen.frame m ρ, Cert.Kernel31Ideal.Row.frame_reference,
    fun m ρ _ => Cert.Kernel32.Gen.frame m ρ, fun m ρ _ => Cert.Kernel32Ideal.Gen.frame m ρ, Cert.Kernel32Ideal.Row.frame_reference,
    fun m ρ _ => Cert.Kernel33.Gen.frame m ρ, fun m ρ _ => Cert.Kernel33Ideal.Gen.frame m ρ, Cert.Kernel33Ideal.Row.frame_reference,
    fun m ρ _ => Cert.Kernel34.Gen.frame m ρ, fun m ρ _ => Cert.Kernel34Ideal.Gen.frame m ρ, Cert.Kernel34Ideal.Row.frame_reference,
    fun m ρ _ => Cert.Kernel35.Gen.frame m ρ, fun m ρ _ => Cert.Kernel35Ideal.Gen.frame m ρ, Cert.Kernel35Ideal.Row.frame_reference,
    fun m ρ _ => Cert.Kernel36.Gen.frame m ρ, fun m ρ _ => Cert.Kernel36Ideal.Gen.frame m ρ, Cert.Kernel36Ideal.Row.frame_reference,
    fun m ρ _ => Cert.Kernel37.Gen.frame m ρ, fun m ρ _ => Cert.Kernel37Ideal.Gen.frame m ρ, Cert.Kernel37Ideal.Row.frame_reference,
    fun m ρ _ => Cert.Kernel38.Gen.frame m ρ, fun m ρ _ => Cert.Kernel38Ideal.Gen.frame m ρ, Cert.Kernel38Ideal.Row.frame_reference,
    fun m ρ _ => Cert.Kernel39.Gen.frame m ρ, fun m ρ _ => Cert.Kernel39Ideal.Gen.frame m ρ, Cert.Kernel39Ideal.Row.frame_reference,
    fun m ρ _ => Cert.Kernel40.Gen.frame m ρ, fun m ρ _ => Cert.Kernel40Ideal.Gen.frame m ρ, Cert.Kernel40Ideal.Row.frame_reference,
    trivial, algebraic,
    trivial, Cert.Kernel2Ideal.Mm.algebraic,
    trivial, Cert.Kernel3Ideal.Mm.algebraic,
    trivial, Cert.Kernel4Ideal.Mm.algebraic,
    trivial, Cert.Kernel5Ideal.Mm.algebraic,
    trivial, Cert.Kernel6Ideal.Mm.algebraic,
    trivial, Cert.Kernel7Ideal.Mm.algebraic,
    trivial, Cert.Kernel8Ideal.Mm.algebraic,
    trivial, Cert.Kernel9Ideal.Mm.algebraic,
    trivial, Cert.Kernel10Ideal.Mm.algebraic,
    trivial, Cert.Kernel11Ideal.Mm.algebraic,
    trivial, Cert.Kernel12Ideal.Mm.algebraic,
    trivial, Cert.Kernel13Ideal.Mm.algebraic,
    trivial, Cert.Kernel14Ideal.Mm.algebraic,
    trivial, Cert.Kernel15Ideal.Mm.algebraic,
    trivial, Cert.Kernel16Ideal.Mm.algebraic,
    trivial, Cert.Kernel17Ideal.Mm.algebraic,
    trivial, Cert.Kernel18Ideal.Mm.algebraic,
    trivial, Cert.Kernel19Ideal.Mm.algebraic,
    trivial, Cert.Kernel20Ideal.Mm.algebraic,
    trivial, Cert.Kernel21Ideal.Mm.algebraic,
    trivial, Cert.Kernel22Ideal.Mm.algebraic,
    trivial, Cert.Kernel23Ideal.Mm.algebraic,
    trivial, Cert.Kernel24Ideal.Mm.algebraic,
    trivial, Cert.Kernel25Ideal.Adam.algebraic,
    trivial, Cert.Kernel26Ideal.Adam.algebraic,
    trivial, Cert.Kernel27Ideal.Adam.algebraic,
    trivial, Cert.Kernel28Ideal.Adam.algebraic,
    trivial, Cert.Kernel29Ideal.Row.algebraic,
    trivial, Cert.Kernel30Ideal.Row.algebraic,
    trivial, Cert.Kernel31Ideal.Row.algebraic,
    trivial, Cert.Kernel32Ideal.Row.algebraic,
    trivial, Cert.Kernel33Ideal.Row.algebraic,
    trivial, Cert.Kernel34Ideal.Row.algebraic,
    trivial, Cert.Kernel35Ideal.Row.algebraic,
    trivial, Cert.Kernel36Ideal.Row.algebraic,
    trivial, Cert.Kernel37Ideal.Row.algebraic,
    trivial, Cert.Kernel38Ideal.Row.algebraic,
    trivial, Cert.Kernel39Ideal.Row.algebraic,
    trivial, Cert.Kernel40Ideal.Row.algebraic⟩

end Cert.Proof

end
